-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (Cert.Kernel7.threads (F := Bits)) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (Cert.Kernel7Ideal.threads (F := Ideal)) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v16_0)) (v4 : (c : Dev Cert.KernelIdeal.nD) → Buf (Elt Ideal) ((c.tc : Thread Cert.KernelIdeal.nD Cert.KernelIdeal.τ).loc Cert.KernelIdeal.main_v16_1)) (v5 : (c : Dev Cert.KernelIdeal.nD) → Buf (Elt Ideal) ((c.tc : Thread Cert.KernelIdeal.nD Cert.KernelIdeal.τ).loc Cert.KernelIdeal.main_v16_2)) (v6 : (c : Dev Cert.KernelIdeal.nD) → Buf (Elt Ideal) ((c.tc : Thread Cert.KernelIdeal.nD Cert.KernelIdeal.τ).loc Cert.KernelIdeal.main_v16_3)) (v7 : (c : Dev Cert.KernelIdeal.nD) → Buf (Elt Ideal) ((c.tc : Thread Cert.KernelIdeal.nD Cert.KernelIdeal.τ).loc Cert.KernelIdeal.main_v16_4)) (v8 : (c : Dev Cert.KernelIdeal.nD) → Buf (Elt Ideal) ((c.tc : Thread Cert.KernelIdeal.nD Cert.KernelIdeal.τ).loc Cert.KernelIdeal.main_v16_5)) (v9 : (c : Dev Cert.KernelIdeal.nD) → Buf (Elt Ideal) ((c.tc : Thread Cert.KernelIdeal.nD Cert.KernelIdeal.τ).loc Cert.KernelIdeal.main_v16_6)) (v10 : (c : Dev Cert.KernelIdeal.nD) → Buf (Elt Ideal) ((c.tc : Thread Cert.KernelIdeal.nD Cert.KernelIdeal.τ).loc Cert.KernelIdeal.main_v16_7)) (v11 : (c : Dev Cert.KernelIdeal.nD) → Buf (Elt Ideal) ((c.tc : Thread Cert.KernelIdeal.nD Cert.KernelIdeal.τ).loc Cert.KernelIdeal.main_v16_8)) (v12 : (c : Dev Cert.KernelIdeal.nD) → Buf (Elt Ideal) ((c.tc : Thread Cert.KernelIdeal.nD Cert.KernelIdeal.τ).loc Cert.KernelIdeal.main_v16_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v16_0) = v3 c
          ∧ r.2.mem ((c.tc : Thread Cert.KernelIdeal.nD Cert.KernelIdeal.τ).loc Cert.KernelIdeal.main_v16_1) = v4 c
          ∧ r.2.mem ((c.tc : Thread Cert.KernelIdeal.nD Cert.KernelIdeal.τ).loc Cert.KernelIdeal.main_v16_2) = v5 c
          ∧ r.2.mem ((c.tc : Thread Cert.KernelIdeal.nD Cert.KernelIdeal.τ).loc Cert.KernelIdeal.main_v16_3) = v6 c
          ∧ r.2.mem ((c.tc : Thread Cert.KernelIdeal.nD Cert.KernelIdeal.τ).loc Cert.KernelIdeal.main_v16_4) = v7 c
          ∧ r.2.mem ((c.tc : Thread Cert.KernelIdeal.nD Cert.KernelIdeal.τ).loc Cert.KernelIdeal.main_v16_5) = v8 c
          ∧ r.2.mem ((c.tc : Thread Cert.KernelIdeal.nD Cert.KernelIdeal.τ).loc Cert.KernelIdeal.main_v16_6) = v9 c
          ∧ r.2.mem ((c.tc : Thread Cert.KernelIdeal.nD Cert.KernelIdeal.τ).loc Cert.KernelIdeal.main_v16_7) = v10 c
          ∧ r.2.mem ((c.tc : Thread Cert.KernelIdeal.nD Cert.KernelIdeal.τ).loc Cert.KernelIdeal.main_v16_8) = v11 c
          ∧ r.2.mem ((c.tc : Thread Cert.KernelIdeal.nD Cert.KernelIdeal.τ).loc Cert.KernelIdeal.main_v16_9) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_v113) = v4 c
          ∧ r.2.mem ((c.tc : Thread Cert.ReferenceIdeal.nD Cert.ReferenceIdeal.τ).loc Cert.ReferenceIdeal.main_v116) = v5 c
          ∧ r.2.mem ((c.tc : Thread Cert.ReferenceIdeal.nD Cert.ReferenceIdeal.τ).loc Cert.ReferenceIdeal.main_v118) = v6 c
          ∧ r.2.mem ((c.tc : Thread Cert.ReferenceIdeal.nD Cert.ReferenceIdeal.τ).loc Cert.ReferenceIdeal.main_v120) = v7 c
          ∧ r.2.mem ((c.tc : Thread Cert.ReferenceIdeal.nD Cert.ReferenceIdeal.τ).loc Cert.ReferenceIdeal.main_v121) = v8 c
          ∧ r.2.mem ((c.tc : Thread Cert.ReferenceIdeal.nD Cert.ReferenceIdeal.τ).loc Cert.ReferenceIdeal.main_v122) = v9 c
          ∧ r.2.mem ((c.tc : Thread Cert.ReferenceIdeal.nD Cert.ReferenceIdeal.τ).loc Cert.ReferenceIdeal.main_v125) = v10 c
          ∧ r.2.mem ((c.tc : Thread Cert.ReferenceIdeal.nD Cert.ReferenceIdeal.τ).loc Cert.ReferenceIdeal.main_v96) = v11 c
          ∧ r.2.mem ((c.tc : Thread Cert.ReferenceIdeal.nD Cert.ReferenceIdeal.τ).loc Cert.ReferenceIdeal.main_v95) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v8_0)) (v4 : (c : Dev Cert.Kernel3Ideal.nD) → Buf (Elt Ideal) ((c.tc : Thread Cert.Kernel3Ideal.nD Cert.Kernel3Ideal.τ).loc Cert.Kernel3Ideal.main_v8_1)) (v5 : (c : Dev Cert.Kernel3Ideal.nD) → Buf (Elt Ideal) ((c.tc : Thread Cert.Kernel3Ideal.nD Cert.Kernel3Ideal.τ).loc Cert.Kernel3Ideal.main_v8_2)) (v6 : (c : Dev Cert.Kernel3Ideal.nD) → Buf (Elt Ideal) ((c.tc : Thread Cert.Kernel3Ideal.nD Cert.Kernel3Ideal.τ).loc Cert.Kernel3Ideal.main_v10_0)) (v7 : (c : Dev Cert.Kernel3Ideal.nD) → Buf (Elt Ideal) ((c.tc : Thread Cert.Kernel3Ideal.nD Cert.Kernel3Ideal.τ).loc Cert.Kernel3Ideal.main_v10_1)) (v8 : (c : Dev Cert.Kernel3Ideal.nD) → Buf (Elt Ideal) ((c.tc : Thread Cert.Kernel3Ideal.nD Cert.Kernel3Ideal.τ).loc Cert.Kernel3Ideal.main_v10_2)) (v9 : (c : Dev Cert.Kernel3Ideal.nD) → Buf (Elt Ideal) ((c.tc : Thread Cert.Kernel3Ideal.nD Cert.Kernel3Ideal.τ).loc Cert.Kernel3Ideal.main_v10_3)) (v10 : (c : Dev Cert.Kernel3Ideal.nD) → Buf (Elt Ideal) ((c.tc : Thread Cert.Kernel3Ideal.nD Cert.Kernel3Ideal.τ).loc Cert.Kernel3Ideal.main_v10_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v8_0) = v3 c
          ∧ r.2.mem ((c.tc : Thread Cert.Kernel3Ideal.nD Cert.Kernel3Ideal.τ).loc Cert.Kernel3Ideal.main_v8_1) = v4 c
          ∧ r.2.mem ((c.tc : Thread Cert.Kernel3Ideal.nD Cert.Kernel3Ideal.τ).loc Cert.Kernel3Ideal.main_v8_2) = v5 c
          ∧ r.2.mem ((c.tc : Thread Cert.Kernel3Ideal.nD Cert.Kernel3Ideal.τ).loc Cert.Kernel3Ideal.main_v10_0) = v6 c
          ∧ r.2.mem ((c.tc : Thread Cert.Kernel3Ideal.nD Cert.Kernel3Ideal.τ).loc Cert.Kernel3Ideal.main_v10_1) = v7 c
          ∧ r.2.mem ((c.tc : Thread Cert.Kernel3Ideal.nD Cert.Kernel3Ideal.τ).loc Cert.Kernel3Ideal.main_v10_2) = v8 c
          ∧ r.2.mem ((c.tc : Thread Cert.Kernel3Ideal.nD Cert.Kernel3Ideal.τ).loc Cert.Kernel3Ideal.main_v10_3) = v9 c
          ∧ r.2.mem ((c.tc : Thread Cert.Kernel3Ideal.nD Cert.Kernel3Ideal.τ).loc Cert.Kernel3Ideal.main_v10_4) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_v95) = v1 c
          ∧ r.2.mem ((c.tc : Thread Cert.Reference3Ideal.nD Cert.Reference3Ideal.τ).loc Cert.Reference3Ideal.main_v97) = v2 c
          ∧ r.2.mem ((c.tc : Thread Cert.Reference3Ideal.nD Cert.Reference3Ideal.τ).loc Cert.Reference3Ideal.main_v98) = v3 c
          ∧ r.2.mem ((c.tc : Thread Cert.Reference3Ideal.nD Cert.Reference3Ideal.τ).loc Cert.Reference3Ideal.main_v99) = v4 c
          ∧ r.2.mem ((c.tc : Thread Cert.Reference3Ideal.nD Cert.Reference3Ideal.τ).loc Cert.Reference3Ideal.main_v100) = v5 c
          ∧ r.2.mem ((c.tc : Thread Cert.Reference3Ideal.nD Cert.Reference3Ideal.τ).loc Cert.Reference3Ideal.main_v101) = v6 c
          ∧ r.2.mem ((c.tc : Thread Cert.Reference3Ideal.nD Cert.Reference3Ideal.τ).loc Cert.Reference3Ideal.main_v103) = v7 c
          ∧ r.2.mem ((c.tc : Thread Cert.Reference3Ideal.nD Cert.Reference3Ideal.τ).loc Cert.Reference3Ideal.main_v105) = v8 c
          ∧ r.2.mem ((c.tc : Thread Cert.Reference3Ideal.nD Cert.Reference3Ideal.τ).loc Cert.Reference3Ideal.main_v79) = v9 c
          ∧ r.2.mem ((c.tc : Thread Cert.Reference3Ideal.nD Cert.Reference3Ideal.τ).loc Cert.Reference3Ideal.main_v78) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)) (v6 : (c : Dev Cert.Kernel4Ideal.nD) → Buf (Elt Ideal) ((c.tc : Thread Cert.Kernel4Ideal.nD Cert.Kernel4Ideal.τ).loc Cert.Kernel4Ideal.main_v14_6)) (v7 : (c : Dev Cert.Kernel4Ideal.nD) → Buf (Elt Ideal) ((c.tc : Thread Cert.Kernel4Ideal.nD Cert.Kernel4Ideal.τ).loc Cert.Kernel4Ideal.main_v14_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_v14_6) = v6 c
          ∧ r.2.mem ((c.tc : Thread Cert.Kernel4Ideal.nD Cert.Kernel4Ideal.τ).loc Cert.Kernel4Ideal.main_v14_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_v88) = v1 c
          ∧ r.2.mem ((c.tc : Thread Cert.Reference4Ideal.nD Cert.Reference4Ideal.τ).loc Cert.Reference4Ideal.main_v89) = v2 c
          ∧ r.2.mem ((c.tc : Thread Cert.Reference4Ideal.nD Cert.Reference4Ideal.τ).loc Cert.Reference4Ideal.main_v92) = v3 c
          ∧ r.2.mem ((c.tc : Thread Cert.Reference4Ideal.nD Cert.Reference4Ideal.τ).loc Cert.Reference4Ideal.main_v96) = v4 c
          ∧ r.2.mem ((c.tc : Thread Cert.Reference4Ideal.nD Cert.Reference4Ideal.τ).loc Cert.Reference4Ideal.main_v98) = v5 c
          ∧ r.2.mem ((c.tc : Thread Cert.Reference4Ideal.nD Cert.Reference4Ideal.τ).loc Cert.Reference4Ideal.main_v100) = v6 c
          ∧ r.2.mem ((c.tc : Thread Cert.Reference4Ideal.nD Cert.Reference4Ideal.τ).loc Cert.Reference4Ideal.main_v86) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel2_Kernel2Ideal : Prop :=
  IdealRules.named_const.Statement Cert.Kernel2Ideal.κ "cubic" .f32 0x3D372713#32 ((8943 / 200000 : ℝ) : EReal)
  ∧ IdealRules.named_const.Statement Cert.Kernel2Ideal.κ "cubic3" .f32 0x3E095D4F#32 ((26829 / 200000 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v19)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v19) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v169) = v0 c
          ∧ r.2.mem ((c.tc : Thread Cert.Reference2Ideal.nD Cert.Reference2Ideal.τ).loc Cert.Reference2Ideal.main_v170) = v1 c
          ∧ r.2.mem ((c.tc : Thread Cert.Reference2Ideal.nD Cert.Reference2Ideal.τ).loc Cert.Reference2Ideal.main_v171) = v2 c
          ∧ r.2.mem ((c.tc : Thread Cert.Reference2Ideal.nD Cert.Reference2Ideal.τ).loc Cert.Reference2Ideal.main_v166) = v3 c
          ∧ r.2.mem ((c.tc : Thread Cert.Reference2Ideal.nD Cert.Reference2Ideal.τ).loc Cert.Reference2Ideal.main_v165) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel6_Kernel6Ideal : Prop :=
  IdealRules.named_const.Statement Cert.Kernel6Ideal.κ "cubic" .f32 0x3D372713#32 ((8943 / 200000 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v72) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m ((c.tc : Thread Cert.Kernel7Ideal.nD Cert.Kernel7Ideal.τ).loc Cert.Kernel7Ideal.main_arg0) = Layout.block ⟨2, ![512, 5632]⟩ ⟨2, ![4096, 5632]⟩ 0 8 c (m' (((0 : Dev Cert.Reference7Ideal.nD).tc : Thread Cert.Reference7Ideal.nD Cert.Reference7Ideal.τ).loc Cert.Reference7Ideal.main_arg0))
      ∧ m ((c.tc : Thread Cert.Kernel7Ideal.nD Cert.Kernel7Ideal.τ).loc Cert.Kernel7Ideal.main_arg1) = Layout.block ⟨3, ![4, 256, 1408]⟩ ⟨3, ![32, 256, 1408]⟩ 0 8 c (m' (((0 : Dev Cert.Reference7Ideal.nD).tc : Thread Cert.Reference7Ideal.nD Cert.Reference7Ideal.τ).loc Cert.Reference7Ideal.main_arg1))
      ∧ m ((c.tc : Thread Cert.Kernel7Ideal.nD Cert.Kernel7Ideal.τ).loc Cert.Kernel7Ideal.main_arg2) = Layout.block ⟨2, ![352, 1024]⟩ ⟨2, ![2816, 1024]⟩ 0 8 c (m' (((0 : Dev Cert.Reference7Ideal.nD).tc : Thread Cert.Reference7Ideal.nD Cert.Reference7Ideal.τ).loc Cert.Reference7Ideal.main_arg2))) →
    ∃ (v0 : Buf (Elt Ideal) (((0 : Dev Cert.Reference7Ideal.nD).tc : Thread Cert.Reference7Ideal.nD Cert.Reference7Ideal.τ).loc Cert.Reference7Ideal.main_v10)) (v1 : Buf (Elt Ideal) (((0 : Dev Cert.Reference7Ideal.nD).tc : Thread Cert.Reference7Ideal.nD Cert.Reference7Ideal.τ).loc Cert.Reference7Ideal.main_v24)) (v2 : Buf (Elt Ideal) (((0 : Dev Cert.Reference7Ideal.nD).tc : Thread Cert.Reference7Ideal.nD Cert.Reference7Ideal.τ).loc Cert.Reference7Ideal.main_v26)),
      θ_run (Cert.Kernel7Ideal.defs (F := Ideal)) (Cert.Kernel7Ideal.threads (F := Ideal)) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = Layout.block ⟨2, ![256, 5632]⟩ ⟨2, ![2048, 5632]⟩ 0 8 c v0
          ∧ r.2.mem ((c.tc : Thread Cert.Kernel7Ideal.nD Cert.Kernel7Ideal.τ).loc Cert.Kernel7Ideal.main_v1_1) = Layout.block ⟨3, ![3, 256, 1408]⟩ ⟨3, ![24, 256, 1408]⟩ 0 8 c v1
          ∧ r.2.mem ((c.tc : Thread Cert.Kernel7Ideal.nD Cert.Kernel7Ideal.τ).loc Cert.Kernel7Ideal.main_v1_2) = Layout.block ⟨2, ![352, 1024]⟩ ⟨2, ![2816, 1024]⟩ 0 8 c v2
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r =>
          r.2.mem (((0 : Dev Cert.Reference7Ideal.nD).tc : Thread Cert.Reference7Ideal.nD Cert.Reference7Ideal.τ).loc Cert.Reference7Ideal.main_v10) = v0
          ∧ r.2.mem (((0 : Dev Cert.Reference7Ideal.nD).tc : Thread Cert.Reference7Ideal.nD Cert.Reference7Ideal.τ).loc Cert.Reference7Ideal.main_v24) = v1
          ∧ r.2.mem (((0 : Dev Cert.Reference7Ideal.nD).tc : Thread Cert.Reference7Ideal.nD Cert.Reference7Ideal.τ).loc Cert.Reference7Ideal.main_v26) = v2
          ∧ r.2.mem (((0 : Dev Cert.Reference7Ideal.nD).tc : Thread Cert.Reference7Ideal.nD Cert.Reference7Ideal.τ).loc Cert.Reference7Ideal.main_arg0) = m' (((0 : Dev Cert.Reference7Ideal.nD).tc : Thread Cert.Reference7Ideal.nD Cert.Reference7Ideal.τ).loc Cert.Reference7Ideal.main_arg0)
          ∧ r.2.mem (((0 : Dev Cert.Reference7Ideal.nD).tc : Thread Cert.Reference7Ideal.nD Cert.Reference7Ideal.τ).loc Cert.Reference7Ideal.main_arg1) = m' (((0 : Dev Cert.Reference7Ideal.nD).tc : Thread Cert.Reference7Ideal.nD Cert.Reference7Ideal.τ).loc Cert.Reference7Ideal.main_arg1)
          ∧ r.2.mem (((0 : Dev Cert.Reference7Ideal.nD).tc : Thread Cert.Reference7Ideal.nD Cert.Reference7Ideal.τ).loc Cert.Reference7Ideal.main_arg2) = m' (((0 : Dev Cert.Reference7Ideal.nD).tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_v14) = v2 c
          ∧ r.2.mem ((c.tc : Thread Cert.Reference8Ideal.nD Cert.Reference8Ideal.τ).loc Cert.Reference8Ideal.main_v17) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite3 : Cert.Pre_finite3.Facts) (hPre_finite4 : Cert.Pre_finite4.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2x2048x1024 : Shape := ⟨3, ![2, 2048, 1024]⟩
abbrev S2x2048x512 : Shape := ⟨3, ![2, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_arg10 : FVec F S2x2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S2x2048x1024 .f32 := Host.absf main_arg10
  let main_cst_16 : FVec F S_ .f32 := constant S_ .f32 0x7F800000#32
  let main_v37 : FVec F S2x2048x1024 .f32 := broadcastInDim S2x2048x1024 ![] bcast_S_S2x2048x1024 main_cst_16
  let main_v38 : IVec S2x2048x1024 1 := cmpf .olt main_v36 main_v37
  let main_c_17 : IVec S_ 1 := constantI S_ 1 1#1
  let main_v39 : IVec S_ 1 := (fun x v => Host.reduce IntOp.andi x v reducesTo_S2x2048x1024_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S2x2048x1024 .f32) (main_arg5 : FVec F S1x512x1024 .f32) (main_arg6 : FVec F S1x512x1024 .f32) (main_arg7 : FVec F S1x1024x1024 .f32) (main_arg8 : FVec F S1x1024 .f32) (main_arg10 : FVec F S2x2048x1024 .f32) (main_v3 : IVec S_ 1) (main_v7 : IVec S_ 1) (main_v11 : IVec S_ 1) (main_v15 : IVec S_ 1) : IVec S_ 1 :=
  let main_v16 : FVec F S2x2048x1024 .f32 := Host.absf main_arg4
  let main_cst_6 : FVec F S_ .f32 := constant S_ .f32 0x7F800000#32
  let main_v17 : FVec F S2x2048x1024 .f32 := broadcastInDim S2x2048x1024 ![] bcast_S_S2x2048x1024 main_cst_6
  let main_v18 : IVec S2x2048x1024 1 := cmpf .olt main_v16 main_v17
  let main_c_7 : IVec S_ 1 := constantI S_ 1 1#1
  let main_v19 : IVec S_ 1 := (fun x v => Host.reduce IntOp.andi x v reducesTo_S2x2048x1024_S_d0_1_2 h_S_) main_v18 main_c_7
  let main_v20 : FVec F S1x512x1024 .f32 := Host.absf main_arg5
  let main_cst_8 : FVec F S_ .f32 := constant S_ .f32 0x7F800000#32
  let main_v21 : FVec F S1x512x1024 .f32 := broadcastInDim S1x512x1024 ![] bcast_S_S1x512x1024 main_cst_8
  let main_v22 : IVec S1x512x1024 1 := cmpf .olt main_v20 main_v21
  let main_c_9 : IVec S_ 1 := constantI S_ 1 1#1
  let main_v23 : IVec S_ 1 := (fun x v => Host.reduce IntOp.andi x v reducesTo_S1x512x1024_S_d0_1_2 h_S_) main_v22 main_c_9
  let main_v24 : FVec F S1x512x1024 .f32 := Host.absf main_arg6
  let main_cst_10 : FVec F S_ .f32 := constant S_ .f32 0x7F800000#32
  let main_v25 : FVec F S1x512x1024 .f32 := broadcastInDim S1x512x1024 ![] bcast_S_S1x512x1024 main_cst_10
  let main_v26 : IVec S1x512x1024 1 := cmpf .olt main_v24 main_v25
  let main_c_11 : IVec S_ 1 := constantI S_ 1 1#1
  let main_v27 : IVec S_ 1 := (fun x v => Host.reduce IntOp.andi x v reducesTo_S1x512x1024_S_d0_1_2 h_S_) main_v26 main_c_11
  let main_v28 : FVec F S1x1024x1024 .f32 := Host.absf main_arg7
  let main_cst_12 : FVec F S_ .f32 := constant S_ .f32 0x7F800000#32
  let main_v29 : FVec F S1x1024x1024 .f32 := broadcastInDim S1x1024x1024 ![] bcast_S_S1x1024x1024 main_cst_12
  let main_v30 : IVec S1x1024x1024 1 := cmpf .olt main_v28 main_v29
  let main_c_13 : IVec S_ 1 := constantI S_ 1 1#1
  let main_v31 : IVec S_ 1 := (fun x v => Host.reduce IntOp.andi x v reducesTo_S1x1024x1024_S_d0_1_2 h_S_) main_v30 main_c_13
  fn_part2 (F := F) main_arg8 main_arg10 main_v3 main_v7 main_v11 main_v15 main_v19 main_v23 main_v27 main_v31

def fn {F : FTy → Type} [FloatOps F] (main_arg0 : FVec F S2x2048x1024 .f32) (main_arg1 : FVec F S2x2048x512 .f32) (main_arg2 : FVec F S2x2048x512 .f32) (main_arg3 : FVec F S2x2048x1024 .f32) (main_arg4 : FVec F S2x2048x1024 .f32) (main_arg5 : FVec F S1x512x1024 .f32) (main_arg6 : FVec F S1x512x1024 .f32) (main_arg7 : FVec F S1x1024x1024 .f32) (main_arg8 : FVec F S1x1024 .f32) (main_arg9 : FVec F S1x1024 .f32) (main_arg10 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S2x2048x512 .f32 := Host.absf main_arg2
  let main_cst_2 : FVec F S_ .f32 := constant S_ .f32 0x7F800000#32
  let main_v9 : FVec F S2x2048x512 .f32 := broadcastInDim S2x2048x512 ![] bcast_S_S2x2048x512 main_cst_2
  let main_v10 : IVec S2x2048x512 1 := cmpf .olt main_v8 main_v9
  let main_c_3 : IVec S_ 1 := constantI S_ 1 1#1
  let main_v11 : IVec S_ 1 := (fun x v => Host.reduce IntOp.andi x v reducesTo_S2x2048x512_S_d0_1_2 h_S_) main_v10 main_c_3
  let main_v12 : FVec F S2x2048x1024 .f32 := Host.absf main_arg3
  let main_cst_4 : FVec F S_ .f32 := constant S_ .f32 0x7F800000#32
  let main_v13 : FVec F S2x2048x1024 .f32 := broadcastInDim S2x2048x1024 ![] bcast_S_S2x2048x1024 main_cst_4
  let main_v14 : IVec S2x2048x1024 1 := cmpf .olt main_v12 main_v13
  let main_c_5 : IVec S_ 1 := constantI S_ 1 1#1
  let main_v15 : IVec S_ 1 := (fun x v => Host.reduce IntOp.andi x v reducesTo_S2x2048x1024_S_d0_1_2 h_S_) main_v14 main_c_5
  fn_part1 (F := F) main_arg4 main_arg5 main_arg6 main_arg7 main_arg8 main_arg10 main_v3 main_v7 main_v11 main_v15
-- ==== Pre_finite2.lean ====
abbrev S2x2048x512 : Shape := ⟨3, ![2, 2048, 512]⟩
abbrev S1x512 : Shape := ⟨2, ![1, 512]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x8x128x128 .f32) (main_arg5 : FVec F S1x8x128 .f32) (main_arg6 : FVec F S2x2048x512 .f32) (main_v3 : IVec S_ 1) (main_v7 : IVec S_ 1) (main_v11 : IVec S_ 1) (main_v15 : IVec S_ 1) : IVec S_ 1 :=
  let main_v16 : FVec F S1x8x128x128 .f32 := Host.absf main_arg4
  let main_cst_6 : FVec F S_ .f32 := constant S_ .f32 0x7F800000#32
  let main_v17 : FVec F S1x8x128x128 .f32 := broadcastInDim S1x8x128x128 ![] bcast_S_S1x8x128x128 main_cst_6
  let main_v18 : IVec S1x8x128x128 1 := cmpf .olt main_v16 main_v17
  let main_c_7 : IVec S_ 1 := constantI S_ 1 1#1
  let main_v19 : IVec S_ 1 := (fun x v => Host.reduce IntOp.andi x v reducesTo_S1x8x128x128_S_d0_1_2_3 h_S_) main_v18 main_c_7
  let main_v20 : FVec F S1x8x128 .f32 := Host.absf main_arg5
  let main_cst_8 : FVec F S_ .f32 := constant S_ .f32 0x7F800000#32
  let main_v21 : FVec F S1x8x128 .f32 := broadcastInDim S1x8x128 ![] bcast_S_S1x8x128 main_cst_8
  let main_v22 : IVec S1x8x128 1 := cmpf .olt main_v20 main_v21
  let main_c_9 : IVec S_ 1 := constantI S_ 1 1#1
  let main_v23 : IVec S_ 1 := (fun x v => Host.reduce IntOp.andi x v reducesTo_S1x8x128_S_d0_1_2 h_S_) main_v22 main_c_9
  let main_v24 : FVec F S2x2048x512 .f32 := Host.absf main_arg6
  let main_cst_10 : FVec F S_ .f32 := constant S_ .f32 0x7F800000#32
  let main_v25 : FVec F S2x2048x512 .f32 := broadcastInDim S2x2048x512 ![] bcast_S_S2x2048x512 main_cst_10
  let main_v26 : IVec S2x2048x512 1 := cmpf .olt main_v24 main_v25
  let main_c_11 : IVec S_ 1 := constantI S_ 1 1#1
  let main_v27 : IVec S_ 1 := (fun x v => Host.reduce IntOp.andi x v reducesTo_S2x2048x512_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x2048x512 .f32) (main_arg1 : FVec F S2x2048x512 .f32) (main_arg2 : FVec F S1x512 .f32) (main_arg3 : FVec F S1x512 .f32) (main_arg4 : FVec F S1x8x128x128 .f32) (main_arg5 : FVec F S1x8x128 .f32) (main_arg6 : FVec F S2x2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S1x512 .f32 := Host.absf main_arg2
  let main_cst_2 : FVec F S_ .f32 := constant S_ .f32 0x7F800000#32
  let main_v9 : FVec F S1x512 .f32 := broadcastInDim S1x512 ![] bcast_S_S1x512 main_cst_2
  let main_v10 : IVec S1x512 1 := cmpf .olt main_v8 main_v9
  let main_c_3 : IVec S_ 1 := constantI S_ 1 1#1
  let main_v11 : IVec S_ 1 := (fun x v => Host.reduce IntOp.andi x v reducesTo_S1x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_arg6 main_v3 main_v7 main_v11 main_v15
-- ==== Pre_finite3.lean ====
abbrev S2x2048x1024 : Shape := ⟨3, ![2, 2048, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S2x2048x1024 .f32) (main_v3 : IVec S_ 1) (main_v7 : IVec S_ 1) (main_v11 : IVec S_ 1) (main_v15 : IVec S_ 1) : IVec S_ 1 :=
  let main_v16 : FVec F S2x2048x1024 .f32 := Host.absf main_arg5
  let main_cst_6 : FVec F S_ .f32 := constant S_ .f32 0x7F800000#32
  let main_v17 : FVec F S2x2048x1024 .f32 := broadcastInDim S2x2048x1024 ![] bcast_S_S2x2048x1024 main_cst_6
  let main_v18 : IVec S2x2048x1024 1 := cmpf .olt main_v16 main_v17
  let main_c_7 : IVec S_ 1 := constantI S_ 1 1#1
  let main_v19 : IVec S_ 1 := (fun x v => Host.reduce IntOp.andi x v reducesTo_S2x2048x1024_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x1024 .f32) (main_arg1 : FVec F S1x1024x5632 .f32) (main_arg2 : FVec F S1x2816x1024 .f32) (main_arg3 : FVec F S1x1024 .f32) (main_arg4 : FVec F S1x1024 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : FVec F S1x2816x1024 .f32 := Host.absf main_arg2
  let main_cst_2 : FVec F S_ .f32 := constant S_ .f32 0x7F800000#32
  let main_v9 : FVec F S1x2816x1024 .f32 := broadcastInDim S1x2816x1024 ![] bcast_S_S1x2816x1024 main_cst_2
  let main_v10 : IVec S1x2816x1024 1 := cmpf .olt main_v8 main_v9
  let main_c_3 : IVec S_ 1 := constantI S_ 1 1#1
  let main_v11 : IVec S_ 1 := (fun x v => Host.reduce IntOp.andi x v reducesTo_S1x2816x1024_S_d0_1_2 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg5 main_v3 main_v7 main_v11 main_v15
-- ==== Pre_finite4.lean ====
abbrev S2x2048x1024 : Shape := ⟨3, ![2, 2048, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1x2x2048x256 : Shape := ⟨4, ![1, 2, 2048, 256]⟩
abbrev S1x1024x1024 : Shape := ⟨3, ![1, 1024, 1024]⟩
abbrev S1x256x1024 : Shape := ⟨3, ![1, 256, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x2x2048x256 : S_.BroadcastsInDim S1x2x2048x256 (![] : Fin 0 → Fin S1x2x2048x256.rank)
  reducesTo_S1x2x2048x256_S_d0_1_2_3 : S1x2x2048x256.ReducesTo [0, 1, 2, 3] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part2 {F : FTy → Type} [FloatOps F] (main_arg8 : FVec F S2x2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x2048x1024 .f32 := Host.absf main_arg8
  let main_cst_14 : FVec F S_ .f32 := constant S_ .f32 0x7F800000#32
  let main_v33 : FVec F S2x2048x1024 .f32 := broadcastInDim S2x2048x1024 ![] bcast_S_S2x2048x1024 main_cst_14
  let main_v34 : IVec S2x2048x1024 1 := cmpf .olt main_v32 main_v33
  let main_c_15 : IVec S_ 1 := constantI S_ 1 1#1
  let main_v35 : IVec S_ 1 := (fun x v => Host.reduce IntOp.andi x v reducesTo_S2x2048x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024 .f32) (main_arg5 : FVec F S1x2x2048x256 .f32) (main_arg6 : FVec F S1x1024x1024 .f32) (main_arg7 : FVec F S1x256x1024 .f32) (main_arg8 : FVec F S2x2048x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x2x2048x256 .f32 := Host.absf main_arg5
  let main_cst_8 : FVec F S_ .f32 := constant S_ .f32 0x7F800000#32
  let main_v21 : FVec F S1x2x2048x256 .f32 := broadcastInDim S1x2x2048x256 ![] bcast_S_S1x2x2048x256 main_cst_8
  let main_v22 : IVec S1x2x2048x256 1 := cmpf .olt main_v20 main_v21
  let main_c_9 : IVec S_ 1 := constantI S_ 1 1#1
  let main_v23 : IVec S_ 1 := (fun x v => Host.reduce IntOp.andi x v reducesTo_S1x2x2048x256_S_d0_1_2_3 h_S_) main_v22 main_c_9
  let main_v24 : FVec F S1x1024x1024 .f32 := Host.absf main_arg6
  let main_cst_10 : FVec F S_ .f32 := constant S_ .f32 0x7F800000#32
  let main_v25 : FVec F S1x1024x1024 .f32 := broadcastInDim S1x1024x1024 ![] bcast_S_S1x1024x1024 main_cst_10
  let main_v26 : IVec S1x1024x1024 1 := cmpf .olt main_v24 main_v25
  let main_c_11 : IVec S_ 1 := constantI S_ 1 1#1
  let main_v27 : IVec S_ 1 := (fun x v => Host.reduce IntOp.andi x v reducesTo_S1x1024x1024_S_d0_1_2 h_S_) main_v26 main_c_11
  let main_v28 : FVec F S1x256x1024 .f32 := Host.absf main_arg7
  let main_cst_12 : FVec F S_ .f32 := constant S_ .f32 0x7F800000#32
  let main_v29 : FVec F S1x256x1024 .f32 := broadcastInDim S1x256x1024 ![] bcast_S_S1x256x1024 main_cst_12
  let main_v30 : IVec S1x256x1024 1 := cmpf .olt main_v28 main_v29
  let main_c_13 : IVec S_ 1 := constantI S_ 1 1#1
  let main_v31 : IVec S_ 1 := (fun x v => Host.reduce IntOp.andi x v reducesTo_S1x256x1024_S_d0_1_2 h_S_) main_v30 main_c_13
  fn_part2 (F := F) main_arg8 main_v3 main_v7 main_v11 main_v15 main_v19 main_v23 main_v27 main_v31

def fn {F : FTy → Type} [FloatOps F] (main_arg0 : FVec F S2x2048x1024 .f32) (main_arg1 : FVec F S1x1024x5632 .f32) (main_arg2 : FVec F S1x2816x1024 .f32) (main_arg3 : FVec F S1x1024 .f32) (main_arg4 : FVec F S1x1024 .f32) (main_arg5 : FVec F S1x2x2048x256 .f32) (main_arg6 : FVec F S1x1024x1024 .f32) (main_arg7 : FVec F S1x256x1024 .f32) (main_arg8 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : FVec F S1x2816x1024 .f32 := Host.absf main_arg2
  let main_cst_2 : FVec F S_ .f32 := constant S_ .f32 0x7F800000#32
  let main_v9 : FVec F S1x2816x1024 .f32 := broadcastInDim S1x2816x1024 ![] bcast_S_S1x2816x1024 main_cst_2
  let main_v10 : IVec S1x2816x1024 1 := cmpf .olt main_v8 main_v9
  let main_c_3 : IVec S_ 1 := constantI S_ 1 1#1
  let main_v11 : IVec S_ 1 := (fun x v => Host.reduce IntOp.andi x v reducesTo_S1x2816x1024_S_d0_1_2 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_v3 main_v7 main_v11 main_v15
-- ==== Kernel.lean ====
abbrev S2x2048x1024 : Shape := ⟨3, ![2, 2048, 1024]⟩
abbrev S2x2048x512 : Shape := ⟨3, ![2, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S4096x1024 : Shape := ⟨2, ![4096, 1024]⟩
abbrev S4096x512 : Shape := ⟨2, ![4096, 512]⟩
abbrev S2x2048x2048 : Shape := ⟨3, ![2, 2048, 2048]⟩
abbrev S4096x2048 : Shape := ⟨2, ![4096, 2048]⟩
abbrev S512x1024 : Shape := ⟨2, ![512, 1024]⟩
abbrev S1024x1024 : Shape := ⟨2, ![1024, 1024]⟩
abbrev S4096x1 : Shape := ⟨2, ![4096, 1]⟩
abbrev S512x512 : Shape := ⟨2, ![512, 512]⟩
abbrev S512x2048 : Shape := ⟨2, ![512, 2048]⟩
abbrev S512x1 : Shape := ⟨2, ![512, 1]⟩
abbrev S512 : Shape := ⟨1, ![512]⟩
abbrev S1024x4096 : Shape := ⟨2, ![1024, 4096]⟩
abbrev S1024x512 : Shape := ⟨2, ![1024, 512]⟩
abbrev S1024 : Shape := ⟨1, ![1024]⟩

abbrev nBuf : Space → Nat
  | .hbm => 39
  | .vmem => 53
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x1024, .f32⟩
  | .hbm, ⟨4, _⟩ => ⟨S2x2048x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S2x2048x1024, .f32⟩
  | .hbm, ⟨11, _⟩ => ⟨S4096x1024, .f32⟩
  | .hbm, ⟨12, _⟩ => ⟨S4096x512, .f32⟩
  | .hbm, ⟨13, _⟩ => ⟨S4096x512, .bf16⟩
  | .hbm, ⟨14, _⟩ => ⟨S4096x512, .f32⟩
  | .hbm, ⟨15, _⟩ => ⟨S4096x512, .bf16⟩
  | .hbm, ⟨16, _⟩ => ⟨S2x2048x2048, .f32⟩
  | .hbm, ⟨17, _⟩ => ⟨S4096x2048, .f32⟩
  | .hbm, ⟨18, _⟩ => ⟨S4096x2048, .bf16⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S4096x1024, .f32⟩
  | .hbm, ⟨26, _⟩ => ⟨S4096x1024, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S1024x4096, .bf16⟩
  | .hbm, ⟨32, _⟩ => ⟨S4096x1024, .bf16⟩
  | .hbm, ⟨33, _⟩ => ⟨S4096x1024, .bf16⟩
  | .hbm, ⟨34, _⟩ => ⟨S4096x512, .f32⟩
  | .hbm, ⟨35, _⟩ => ⟨S4096x512, .f32⟩
  | .hbm, ⟨36, _⟩ => ⟨S4096x2048, .bf16⟩
  | .hbm, ⟨37, _⟩ => ⟨S1x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1, .f32⟩
  | .local _ .vmem, ⟨24, _⟩ => ⟨S512x1, .f32⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x2048, .bf16⟩
  | .local _ .vmem, ⟨30, _⟩ => ⟨S512x2048, .bf16⟩
  | .local _ .vmem, ⟨31, _⟩ => ⟨S512x1024, .bf16⟩
  | .local _ .vmem, ⟨32, _⟩ => ⟨S512x1024, .bf16⟩
  | .local _ .vmem, ⟨33, _⟩ => ⟨S1024x1024, .bf16⟩
  | .local _ .vmem, ⟨34, _⟩ => ⟨S1x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .bf16⟩
  | .local _ .vmem, ⟨38, _⟩ => ⟨S512x1024, .bf16⟩
  | .local _ .vmem, ⟨39, _⟩ => ⟨S1024x512, .bf16⟩
  | .local _ .vmem, ⟨40, _⟩ => ⟨S1024x512, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x512, .f32⟩
  | .local _ .vmem, ⟨46, _⟩ => ⟨S512x512, .f32⟩
  | .local _ .vmem, ⟨47, _⟩ => ⟨S512x512, .f32⟩
  | .local _ .vmem, ⟨48, _⟩ => ⟨S512x512, .f32⟩
  | .local _ .vmem, ⟨49, _⟩ => ⟨S512x2048, .bf16⟩
  | .local _ .vmem, ⟨50, _⟩ => ⟨S512x2048, .bf16⟩
  | .local _ .vmem, ⟨51, _⟩ => ⟨S1x1024, .f32⟩
  | .local _ .vmem, ⟨52, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_v16_7 : Ref sig .tc := ⟨.hbm, 36, rfl⟩
abbrev main_v16_8 : Ref sig .tc := ⟨.hbm, 37, rfl⟩
abbrev main_v16_9 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc1_stg13_0 : Ref sig .tc := ⟨.vmem, 41, rfl⟩
abbrev cc1_stg13_1 : Ref sig .tc := ⟨.vmem, 42, rfl⟩
abbrev cc1_stg14_0 : Ref sig .tc := ⟨.vmem, 43, rfl⟩
abbrev cc1_stg14_1 : Ref sig .tc := ⟨.vmem, 44, rfl⟩
abbrev cc1_stg15_0 : Ref sig .tc := ⟨.vmem, 45, rfl⟩
abbrev cc1_stg15_1 : Ref sig .tc := ⟨.vmem, 46, rfl⟩
abbrev cc1_stg16_0 : Ref sig .tc := ⟨.vmem, 47, rfl⟩
abbrev cc1_stg16_1 : Ref sig .tc := ⟨.vmem, 48, rfl⟩
abbrev cc1_stg17_0 : Ref sig .tc := ⟨.vmem, 49, rfl⟩
abbrev cc1_stg17_1 : Ref sig .tc := ⟨.vmem, 50, rfl⟩
abbrev cc1_stg18_0 : Ref sig .tc := ⟨.vmem, 51, rfl⟩
abbrev cc1_stg19_0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem10_1 : DmaSem sig := 36
abbrev cc1_sem11_0 : DmaSem sig := 37
abbrev cc1_sem11_1 : DmaSem sig := 38
abbrev cc1_sem12_0 : DmaSem sig := 39
abbrev cc1_sem12_1 : DmaSem sig := 40
abbrev cc1_sem13_0 : DmaSem sig := 41
abbrev cc1_sem13_1 : DmaSem sig := 42
abbrev cc1_sem14_0 : DmaSem sig := 43
abbrev cc1_sem14_1 : DmaSem sig := 44
abbrev cc1_sem15_0 : DmaSem sig := 45
abbrev cc1_sem15_1 : DmaSem sig := 46
abbrev cc1_sem16_0 : DmaSem sig := 47
abbrev cc1_sem16_1 : DmaSem sig := 48
abbrev cc1_sem17_0 : DmaSem sig := 49
abbrev cc1_sem17_1 : DmaSem sig := 50
abbrev cc1_sem18_0 : DmaSem sig := 51
abbrev cc1_sem19_0 : DmaSem sig := 52

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S512x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1024x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x2048 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]
-- ==== ReferenceIdeal.lean ====
abbrev S2x2048x1024 : Shape := ⟨3, ![2, 2048, 1024]⟩
abbrev S2x2048x512 : Shape := ⟨3, ![2, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x1 : Shape := ⟨2, ![4096, 1]⟩
abbrev S1024x4096 : Shape := ⟨2, ![1024, 4096]⟩
abbrev S4096x512 : Shape := ⟨2, ![4096, 512]⟩
abbrev S2x2048x2048 : Shape := ⟨3, ![2, 2048, 2048]⟩
abbrev S4096x2048 : Shape := ⟨2, ![4096, 2048]⟩

abbrev nBuf : Space → Nat
  | .hbm => 163
  | .vmem => 0
  | .smem => 0
  | _ => 0

abbrev hbmTy0_0 (i : Nat) : BufTy := match i % 128 with
  | 0 => ⟨S2x2048x1024, .f32⟩
  | 1 => ⟨S2x2048x512, .f32⟩
  | 2 => ⟨S2x2048x512, .f32⟩
  | 3 => ⟨S2x2048x1024, .f32⟩
  | 4 => ⟨S2x2048x1024, .f32⟩
  | 5 => ⟨S1x512x1024, .f32⟩
  | 6 => ⟨S1x512x1024, .f32⟩
  | 7 => ⟨S1x1024x1024, .f32⟩
  | 8 => ⟨S1x1024, .f32⟩
  | 9 => ⟨S1x1024, .f32⟩
  | 10 => ⟨S2x2048x1024, .f32⟩
  | 11 => ⟨S512x1024, .f32⟩
  | 12 => ⟨S2x2048x1024, .f32⟩
  | 13 => ⟨S512x1024, .f32⟩
  | 14 => ⟨S2x2048x1024, .f32⟩
  | 15 => ⟨S2x2048x1024, .f32⟩
  | 16 => ⟨S2x2048x1024, .f32⟩
  | 17 => ⟨S_, .f32⟩
  | 18 => ⟨S2x2048x1024, .f32⟩
  | 19 => ⟨S2x2048x1024, .f32⟩
  | 20 => ⟨S_, .f32⟩
  | 21 => ⟨S2x2048x1024, .f32⟩
  | 22 => ⟨S2x2048x1024, .f32⟩
  | 23 => ⟨S_, .f32⟩
  | 24 => ⟨S2x2048x1024, .f32⟩
  | 25 => ⟨S2x2048x1024, .f32⟩
  | 26 => ⟨S2x2048x1024, .f32⟩
  | 27 => ⟨S2x2048x1024, .f32⟩
  | 28 => ⟨S2x2048x1024, .f32⟩
  | 29 => ⟨S2x2048x1024, .f32⟩
  | 30 => ⟨S_, .f32⟩
  | 31 => ⟨S2x2048x1024, .f32⟩
  | 32 => ⟨S2x2048x1024, .f32⟩
  | 33 => ⟨S_, .f32⟩
  | 34 => ⟨S2x2048x1024, .f32⟩
  | 35 => ⟨S2x2048x1024, .f32⟩
  | 36 => ⟨S_, .f32⟩
  | 37 => ⟨S2x2048x1024, .f32⟩
  | 38 => ⟨S2x2048x1024, .f32⟩
  | 39 => ⟨S2x2048x1024, .f32⟩
  | 40 => ⟨S2x2048x1024, .f32⟩
  | 41 => ⟨S2x2048x1024, .f32⟩
  | 42 => ⟨S1024x1024, .f32⟩
  | 43 => ⟨S2x2048x1024, .f32⟩
  | 44 => ⟨S_, .f32⟩
  | 45 => ⟨S2x2048x1024, .f32⟩
  | 46 => ⟨S2x2048x1024, .f32⟩
  | 47 => ⟨S2x2048x1024, .f32⟩
  | 48 => ⟨S1024, .f32⟩
  | 49 => ⟨S1024, .f32⟩
  | 50 => ⟨S_, .f32⟩
  | 51 => ⟨S2x2048, .f32⟩
  | 52 => ⟨S2x2048x1, .f32⟩
  | 53 => ⟨S_, .f32⟩
  | 54 => ⟨S2x2048x1, .f32⟩
  | 55 => ⟨S2x2048x1, .f32⟩
  | 56 => ⟨S2x2048x1024, .f32⟩
  | 57 => ⟨S2x2048x1024, .f32⟩
  | 58 => ⟨S2x2048x1024, .f32⟩
  | 59 => ⟨S_, .f32⟩
  | 60 => ⟨S2x2048x1024, .f32⟩
  | 61 => ⟨S2x2048x1024, .f32⟩
  | 62 => ⟨S_, .f32⟩
  | 63 => ⟨S2x2048, .f32⟩
  | 64 => ⟨S2x2048x1, .f32⟩
  | 65 => ⟨S_, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x1, .f32⟩
  | 72 => ⟨S2x2048x1, .f32⟩
  | 73 => ⟨S_, .f32⟩
  | 74 => ⟨S2x2048x1, .f32⟩
  | 75 => ⟨S2x2048x1, .f32⟩
  | 76 => ⟨S2x2048x1024, .f32⟩
  | 77 => ⟨S2x2048x1024, .f32⟩
  | 78 => ⟨S2x2048x1024, .f32⟩
  | 79 => ⟨S2x2048x1024, .f32⟩
  | 80 => ⟨S1x1x1024, .f32⟩
  | 81 => ⟨S2x2048x1024, .f32⟩
  | 82 => ⟨S2x2048x1024, .f32⟩
  | 83 => ⟨S1x1x1024, .f32⟩
  | 84 => ⟨S2x2048x1024, .f32⟩
  | 85 => ⟨S2x2048x1024, .f32⟩
  | 86 => ⟨S2x2048x1024, .f32⟩
  | 87 => ⟨S_, .f32⟩
  | 88 => ⟨S1024, .f32⟩
  | 89 => ⟨S1x1x1024, .f32⟩
  | 90 => ⟨S_, .f32⟩
  | 91 => ⟨S1024, .f32⟩
  | 92 => ⟨S2x2048x1024, .f32⟩
  | 93 => ⟨S_, .f32⟩
  | 94 => ⟨S1024, .f32⟩
  | 95 => ⟨S1x1x1024, .f32⟩
  | 96 => ⟨S2x2048x1024, .f32⟩
  | 97 => ⟨S2x2048x1024, .f32⟩
  | 98 => ⟨S_, .f32⟩
  | 99 => ⟨S1024, .f32⟩
  | 100 => ⟨S2x2048x1024, .f32⟩
  | 101 => ⟨S_, .f32⟩
  | 102 => ⟨S2x2048, .f32⟩
  | 103 => ⟨S2x2048x1, .f32⟩
  | 104 => ⟨S2x2048x1024, .f32⟩
  | 105 => ⟨S2x2048x1024, .f32⟩
  | 106 => ⟨S2x2048x1024, .f32⟩
  | 107 => ⟨S_, .f32⟩
  | 108 => ⟨S2x2048, .f32⟩
  | 109 => ⟨S2x2048x1, .f32⟩
  | 110 => ⟨S2x2048x1, .f32⟩
  | 111 => ⟨S_, .f32⟩
  | 112 => ⟨S2x2048x1, .f32⟩
  | 113 => ⟨S2x2048x1, .f32⟩
  | 114 => ⟨S_, .f32⟩
  | 115 => ⟨S2x2048, .f32⟩
  | 116 => ⟨S2x2048x1024, .f32⟩
  | 117 => ⟨S2x2048x1024, .f32⟩
  | 118 => ⟨S2x2048x1024, .f32⟩
  | 119 => ⟨S_, .f32⟩
  | 120 => ⟨S2x2048, .f32⟩
  | 121 => ⟨S2x2048x1, .f32⟩
  | 122 => ⟨S2x2048x1024, .f32⟩
  | 123 => ⟨S2x2048x1, .f32⟩
  | 124 => ⟨S_, .f32⟩
  | 125 => ⟨S2x2048x1, .f32⟩
  | 126 => ⟨S2x2048x1, .f32⟩
  | 127 => ⟨S_, .f32⟩
  | _ => ⟨S2x2048x1024, .f32⟩

abbrev hbmTy0_1 (i : Nat) : BufTy := match i % 128 with
  | 0 => ⟨S2x2048, .f32⟩
  | 1 => ⟨S2x2048x1024, .f32⟩
  | 2 => ⟨S2x2048x1024, .f32⟩
  | 3 => ⟨S1x1024, .f32⟩
  | 4 => ⟨S1x1024, .f32⟩
  | 5 => ⟨S_, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S2x2048x1024, .f32⟩
  | 13 => ⟨S2x2048x1024, .f32⟩
  | 14 => ⟨S2x2048x1024, .f32⟩
  | 15 => ⟨S2x2048x512, .f32⟩
  | 16 => ⟨S2x2048x512, .f32⟩
  | 17 => ⟨S4096x1024, .f32⟩
  | 18 => ⟨S4096x1024, .f32⟩
  | 19 => ⟨S4096x1, .f32⟩
  | 20 => ⟨S4096x1024, .f32⟩
  | 21 => ⟨S4096x1024, .f32⟩
  | 22 => ⟨S4096x1024, .bf16⟩
  | 23 => ⟨S4096x1024, .f32⟩
  | 24 => ⟨S1024x4096, .f32⟩
  | 25 => ⟨S1024x4096, .bf16⟩
  | 26 => ⟨S4096x1024, .f32⟩
  | 27 => ⟨S4096x1024, .bf16⟩
  | 28 => ⟨S4096x1024, .f32⟩
  | 29 => ⟨S4096x1024, .bf16⟩
  | 30 => ⟨S4096x512, .f32⟩
  | 31 => ⟨S4096x512, .f32⟩
  | 32 => ⟨S2x2048x2048, .f32⟩
  | 33 => ⟨S4096x2048, .f32⟩
  | 34 => ⟨S4096x2048, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_21 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_22 : Ref sig .tc := ⟨.hbm, 124, rfl⟩
abbrev main_v90 : Ref sig .tc := ⟨.hbm, 125, rfl⟩
abbrev main_v91 : Ref sig .tc := ⟨.hbm, 126, rfl⟩
abbrev main_cst_23 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_24 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩

abbrev nD : Nat := 1
abbrev τ : Topo := Topo.v7x

variable {F : FTy → Type} [FloatOps F]
-- ==== Kernel3.lean ====
abbrev S2x2048x1024 : Shape := ⟨3, ![2, 2048, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S1024x4096 : Shape := ⟨2, ![1024, 4096]⟩
abbrev S4096x5632 : Shape := ⟨2, ![4096, 5632]⟩
abbrev S4096x2816 : Shape := ⟨2, ![4096, 2816]⟩
abbrev S512x1024 : Shape := ⟨2, ![512, 1024]⟩
abbrev S1024x512 : Shape := ⟨2, ![1024, 512]⟩
abbrev S512x5632 : Shape := ⟨2, ![512, 5632]⟩
abbrev S512x2816 : Shape := ⟨2, ![512, 2816]⟩
abbrev S1x1024x1408 : Shape := ⟨3, ![1, 1024, 1408]⟩
abbrev S1024x1408 : Shape := ⟨2, ![1024, 1408]⟩
abbrev S512x1408 : Shape := ⟨2, ![512, 1408]⟩
abbrev S4096x1 : Shape := ⟨2, ![4096, 1]⟩
abbrev S1024x1024 : Shape := ⟨2, ![1024, 1024]⟩
abbrev S1024x2816 : Shape := ⟨2, ![1024, 2816]⟩
abbrev S1024x1 : Shape := ⟨2, ![1024, 1]⟩
abbrev S1024 : Shape := ⟨1, ![1024]⟩
abbrev S256x1024 : Shape := ⟨2, ![256, 1024]⟩
abbrev S256x1 : Shape := ⟨2, ![256, 1]⟩
abbrev S256x5632 : Shape := ⟨2, ![256, 5632]⟩
abbrev S256 : Shape := ⟨1, ![256]⟩
abbrev S1408x1024 : Shape := ⟨2, ![1408, 1024]⟩
abbrev S256x1408 : Shape := ⟨2, ![256, 1408]⟩

abbrev nBuf : Space → Nat
  | .hbm => 25
  | .vmem => 41
  | .smem => 0
  | _ => 0

abbrev bufTy : (tb : Table) → Fin (tcTables nBuf tb) → BufTy
  | .hbm, ⟨0, _⟩ => ⟨S2x2048x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S2x2048x1024, .f32⟩
  | .hbm, ⟨6, _⟩ => ⟨S4096x1024, .f32⟩
  | .hbm, ⟨7, _⟩ => ⟨S1024x5632, .f32⟩
  | .hbm, ⟨8, _⟩ => ⟨S1024x5632, .bf16⟩
  | .hbm, ⟨9, _⟩ => ⟨S1024x4x1408, .bf16⟩
  | .hbm, ⟨10, _⟩ => ⟨S4x1024x1408, .bf16⟩
  | .hbm, ⟨11, _⟩ => ⟨S2816x1024, .f32⟩
  | .hbm, ⟨12, _⟩ => ⟨S2816x1024, .bf16⟩
  | .hbm, ⟨13, _⟩ => ⟨S1024x4096, .bf16⟩
  | .hbm, ⟨14, _⟩ => ⟨S4096x5632, .bf16⟩
  | .hbm, ⟨15, _⟩ => ⟨S4096x2816, .bf16⟩
  | .hbm, ⟨16, _⟩ => ⟨S4096x1024, .f32⟩
  | .hbm, ⟨17, _⟩ => ⟨S4096x1024, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x5632, .bf16⟩
  | .hbm, ⟨22, _⟩ => ⟨S4096x1024, .bf16⟩
  | .hbm, ⟨23, _⟩ => ⟨S1x1024, .f32⟩
  | .hbm, ⟨24, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x1024x1408, .bf16⟩
  | .local _ .vmem, ⟨3, _⟩ => ⟨S1024x512, .bf16⟩
  | .local _ .vmem, ⟨4, _⟩ => ⟨S1024x512, .bf16⟩
  | .local _ .vmem, ⟨5, _⟩ => ⟨S512x5632, .bf16⟩
  | .local _ .vmem, ⟨6, _⟩ => ⟨S512x5632, .bf16⟩
  | .local _ .vmem, ⟨7, _⟩ => ⟨S512x2816, .bf16⟩
  | .local _ .vmem, ⟨8, _⟩ => ⟨S512x2816, .bf16⟩
  | .local _ .vmem, ⟨9, _⟩ => ⟨S1024x1024, .f32⟩
  | .local _ .vmem, ⟨10, _⟩ => ⟨S1024x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1, .f32⟩
  | .local _ .vmem, ⟨21, _⟩ => ⟨S1024x1, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1, .f32⟩
  | .local _ .vmem, ⟨27, _⟩ => ⟨S256x1, .f32⟩
  | .local _ .vmem, ⟨28, _⟩ => ⟨S256x5632, .bf16⟩
  | .local _ .vmem, ⟨29, _⟩ => ⟨S256x5632, .bf16⟩
  | .local _ .vmem, ⟨30, _⟩ => ⟨S4x1024x1408, .bf16⟩
  | .local _ .vmem, ⟨31, _⟩ => ⟨S2816x1024, .bf16⟩
  | .local _ .vmem, ⟨32, _⟩ => ⟨S1x1024, .f32⟩
  | .local _ .vmem, ⟨33, _⟩ => ⟨S256x1024, .f32⟩
  | .local _ .vmem, ⟨34, _⟩ => ⟨S256x1024, .f32⟩
  | .local _ .vmem, ⟨35, _⟩ => ⟨S256x5632, .bf16⟩
  | .local _ .vmem, ⟨36, _⟩ => ⟨S256x5632, .bf16⟩
  | .local _ .vmem, ⟨37, _⟩ => ⟨S256x1024, .bf16⟩
  | .local _ .vmem, ⟨38, _⟩ => ⟨S256x1024, .bf16⟩
  | .local _ .vmem, ⟨39, _⟩ => ⟨S1x1024, .f32⟩
  | .local _ .vmem, ⟨40, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg8_1 : Ref sig .tc := ⟨.vmem, 36, rfl⟩
abbrev cc2_stg9_0 : Ref sig .tc := ⟨.vmem, 37, rfl⟩
abbrev cc2_stg9_1 : Ref sig .tc := ⟨.vmem, 38, rfl⟩
abbrev cc2_stg10_0 : Ref sig .tc := ⟨.vmem, 39, rfl⟩
abbrev cc2_stg11_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34
abbrev cc2_sem8_0 : DmaSem sig := 35
abbrev cc2_sem8_1 : DmaSem sig := 36
abbrev cc2_sem9_0 : DmaSem sig := 37
abbrev cc2_sem9_1 : DmaSem sig := 38
abbrev cc2_sem10_0 : DmaSem sig := 39
abbrev cc2_sem11_0 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2816x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x5632 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4x1024x1408 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2816x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x5632 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]
-- ==== Reference3Ideal.lean ====
abbrev S2x2048x1024 : Shape := ⟨3, ![2, 2048, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S_ : Shape := ⟨0, ![]⟩
abbrev S2816x1024 : Shape := ⟨2, ![2816, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1024x4096 : Shape := ⟨2, ![1024, 4096]⟩
abbrev S4096x5632 : Shape := ⟨2, ![4096, 5632]⟩
abbrev S4096x2816 : Shape := ⟨2, ![4096, 2816]⟩
abbrev S4096x1 : Shape := ⟨2, ![4096, 1]⟩

abbrev nBuf : Space → Nat
  | .hbm => 149
  | .vmem => 0
  | .smem => 0
  | _ => 0

abbrev hbmTy0_0 (i : Nat) : BufTy := match i % 128 with
  | 0 => ⟨S2x2048x1024, .f32⟩
  | 1 => ⟨S1x1024x5632, .f32⟩
  | 2 => ⟨S1x2816x1024, .f32⟩
  | 3 => ⟨S1x1024, .f32⟩
  | 4 => ⟨S1x1024, .f32⟩
  | 5 => ⟨S2x2048x1024, .f32⟩
  | 6 => ⟨S1024x5632, .f32⟩
  | 7 => ⟨S2x2048x5632, .f32⟩
  | 8 => ⟨S2x2048x2816, .f32⟩
  | 9 => ⟨S2x2048x2816, .f32⟩
  | 10 => ⟨S2x2048x2816, .f32⟩
  | 11 => ⟨S2x2048x2816, .f32⟩
  | 12 => ⟨S_, .f32⟩
  | 13 => ⟨S2x2048x2816, .f32⟩
  | 14 => ⟨S2x2048x2816, .f32⟩
  | 15 => ⟨S_, .f32⟩
  | 16 => ⟨S2x2048x2816, .f32⟩
  | 17 => ⟨S2x2048x2816, .f32⟩
  | 18 => ⟨S_, .f32⟩
  | 19 => ⟨S2x2048x2816, .f32⟩
  | 20 => ⟨S2x2048x2816, .f32⟩
  | 21 => ⟨S2x2048x2816, .f32⟩
  | 22 => ⟨S2x2048x2816, .f32⟩
  | 23 => ⟨S2x2048x2816, .f32⟩
  | 24 => ⟨S2816x1024, .f32⟩
  | 25 => ⟨S2x2048x1024, .f32⟩
  | 26 => ⟨S_, .f32⟩
  | 27 => ⟨S2x2048x1024, .f32⟩
  | 28 => ⟨S2x2048x1024, .f32⟩
  | 29 => ⟨S_, .f32⟩
  | 30 => ⟨S2x2048x1024, .f32⟩
  | 31 => ⟨S2x2048x1024, .f32⟩
  | 32 => ⟨S2x2048x1024, .f32⟩
  | 33 => ⟨S1024, .f32⟩
  | 34 => ⟨S1024, .f32⟩
  | 35 => ⟨S_, .f32⟩
  | 36 => ⟨S2x2048, .f32⟩
  | 37 => ⟨S2x2048x1, .f32⟩
  | 38 => ⟨S_, .f32⟩
  | 39 => ⟨S2x2048x1, .f32⟩
  | 40 => ⟨S2x2048x1, .f32⟩
  | 41 => ⟨S2x2048x1024, .f32⟩
  | 42 => ⟨S2x2048x1024, .f32⟩
  | 43 => ⟨S2x2048x1024, .f32⟩
  | 44 => ⟨S_, .f32⟩
  | 45 => ⟨S2x2048x1024, .f32⟩
  | 46 => ⟨S2x2048x1024, .f32⟩
  | 47 => ⟨S_, .f32⟩
  | 48 => ⟨S2x2048, .f32⟩
  | 49 => ⟨S2x2048x1, .f32⟩
  | 50 => ⟨S_, .f32⟩
  | 51 => ⟨S2x2048x1, .f32⟩
  | 52 => ⟨S2x2048x1, .f32⟩
  | 53 => ⟨S_, .f32⟩
  | 54 => ⟨S2x2048x1, .f32⟩
  | 55 => ⟨S2x2048x1, .f32⟩
  | 56 => ⟨S2x2048x1, .f32⟩
  | 57 => ⟨S2x2048x1, .f32⟩
  | 58 => ⟨S_, .f32⟩
  | 59 => ⟨S2x2048x1, .f32⟩
  | 60 => ⟨S2x2048x1, .f32⟩
  | 61 => ⟨S2x2048x1024, .f32⟩
  | 62 => ⟨S2x2048x1024, .f32⟩
  | 63 => ⟨S2x2048x1024, .f32⟩
  | 64 => ⟨S2x2048x1024, .f32⟩
  | 65 => ⟨S1x1x1024, .f32⟩
  | 66 => ⟨S2x2048x1024, .f32⟩
  | 67 => ⟨S2x2048x1024, .f32⟩
  | 68 => ⟨S1x1x1024, .f32⟩
  | 69 => ⟨S2x2048x1024, .f32⟩
  | 70 => ⟨S2x2048x1024, .f32⟩
  | 71 => ⟨S2x2048x1024, .f32⟩
  | 72 => ⟨S_, .f32⟩
  | 73 => ⟨S1024, .f32⟩
  | 74 => ⟨S1x1x1024, .f32⟩
  | 75 => ⟨S_, .f32⟩
  | 76 => ⟨S1024, .f32⟩
  | 77 => ⟨S2x2048x1024, .f32⟩
  | 78 => ⟨S_, .f32⟩
  | 79 => ⟨S1024, .f32⟩
  | 80 => ⟨S1x1x1024, .f32⟩
  | 81 => ⟨S2x2048x1024, .f32⟩
  | 82 => ⟨S2x2048x1024, .f32⟩
  | 83 => ⟨S_, .f32⟩
  | 84 => ⟨S1024, .f32⟩
  | 85 => ⟨S2x2048x1024, .f32⟩
  | 86 => ⟨S_, .f32⟩
  | 87 => ⟨S2x2048, .f32⟩
  | 88 => ⟨S2x2048x1, .f32⟩
  | 89 => ⟨S2x2048x1024, .f32⟩
  | 90 => ⟨S2x2048x1024, .f32⟩
  | 91 => ⟨S2x2048x1024, .f32⟩
  | 92 => ⟨S_, .f32⟩
  | 93 => ⟨S2x2048, .f32⟩
  | 94 => ⟨S2x2048x1, .f32⟩
  | 95 => ⟨S2x2048x1, .f32⟩
  | 96 => ⟨S_, .f32⟩
  | 97 => ⟨S2x2048x1, .f32⟩
  | 98 => ⟨S2x2048x1, .f32⟩
  | 99 => ⟨S_, .f32⟩
  | 100 => ⟨S2x2048, .f32⟩
  | 101 => ⟨S2x2048x1024, .f32⟩
  | 102 => ⟨S2x2048x1024, .f32⟩
  | 103 => ⟨S2x2048x1024, .f32⟩
  | 104 => ⟨S_, .f32⟩
  | 105 => ⟨S2x2048, .f32⟩
  | 106 => ⟨S2x2048x1, .f32⟩
  | 107 => ⟨S2x2048x1024, .f32⟩
  | 108 => ⟨S2x2048x1, .f32⟩
  | 109 => ⟨S_, .f32⟩
  | 110 => ⟨S2x2048x1, .f32⟩
  | 111 => ⟨S2x2048x1, .f32⟩
  | 112 => ⟨S_, .f32⟩
  | 113 => ⟨S2x2048, .f32⟩
  | 114 => ⟨S2x2048x1024, .f32⟩
  | 115 => ⟨S2x2048x1024, .f32⟩
  | 116 => ⟨S1x1024, .f32⟩
  | 117 => ⟨S1x1024, .f32⟩
  | 118 => ⟨S_, .f32⟩
  | 119 => ⟨S2x2048x1024, .f32⟩
  | 120 => ⟨S2x2048x1024, .f32⟩
  | 121 => ⟨S_, .f32⟩
  | 122 => ⟨S2x2048x1024, .f32⟩
  | 123 => ⟨S2x2048x1024, .f32⟩
  | 124 => ⟨S2x2048x2816, .f32⟩
  | 125 => ⟨S2x2048x2816, .f32⟩
  | 126 => ⟨S2x2048x2816, .f32⟩
  | 127 => ⟨S2x2048x2816, .f32⟩
  | _ => ⟨S2x2048x1024, .f32⟩

abbrev hbmTy0_1 (i : Nat) : BufTy := match i % 128 with
  | 0 => ⟨S2x2048x2816, .f32⟩
  | 1 => ⟨S2x2048x2816, .f32⟩
  | 2 => ⟨S2x2048x2816, .f32⟩
  | 3 => ⟨S2x2048x5632, .f32⟩
  | 4 => ⟨S2x2048x1024, .f32⟩
  | 5 => ⟨S2x2048x1024, .f32⟩
  | 6 => ⟨S4096x1024, .f32⟩
  | 7 => ⟨S1024x4096, .f32⟩
  | 8 => ⟨S1024x4096, .bf16⟩
  | 9 => ⟨S4096x5632, .f32⟩
  | 10 => ⟨S4096x5632, .bf16⟩
  | 11 => ⟨S4096x2816, .f32⟩
  | 12 => ⟨S4096x2816, .bf16⟩
  | 13 => ⟨S4096x1024, .f32⟩
  | 14 => ⟨S4096x1024, .f32⟩
  | 15 => ⟨S4096x1, .f32⟩
  | 16 => ⟨S4096x1024, .f32⟩
  | 17 => ⟨S4096x5632, .f32⟩
  | 18 => ⟨S4096x5632, .bf16⟩
  | 19 => ⟨S4096x1024, .f32⟩
  | 20 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v4_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v4_1 : Ref sig .tc := ⟨.hbm, 21, rfl⟩
abbrev main_v4_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_cst_15 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_17 : Ref sig .tc := ⟨.hbm, 109, rfl⟩
abbrev main_v73 : Ref sig .tc := ⟨.hbm, 110, rfl⟩
abbrev main_v74 : Ref sig .tc := ⟨.hbm, 111, rfl⟩
abbrev main_cst_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_19 : Ref sig .tc := ⟨.hbm, 118, rfl⟩
abbrev main_v80 : Ref sig .tc := ⟨.hbm, 119, rfl⟩
abbrev main_v81 : Ref sig .tc := ⟨.hbm, 120, rfl⟩
abbrev main_cst_20 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]
-- ==== Kernel4.lean ====
abbrev S2x2048x1024 : Shape := ⟨3, ![2, 2048, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1x2x2048x256 : Shape := ⟨4, ![1, 2, 2048, 256]⟩
abbrev S1x1024x1024 : Shape := ⟨3, ![1, 1024, 1024]⟩
abbrev S1x256x1024 : Shape := ⟨3, ![1, 256, 1024]⟩
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S1024x1024 : Shape := ⟨2, ![1024, 1024]⟩
abbrev S256x1024 : Shape := ⟨2, ![256, 1024]⟩
abbrev S1024x4096 : Shape := ⟨2, ![1024, 4096]⟩
abbrev S4096x5632 : Shape := ⟨2, ![4096, 5632]⟩
abbrev S4096x2816 : Shape := ⟨2, ![4096, 2816]⟩
abbrev S512x1024 : Shape := ⟨2, ![512, 1024]⟩
abbrev S1024x512 : Shape := ⟨2, ![1024, 512]⟩
abbrev S512x5632 : Shape := ⟨2, ![512, 5632]⟩
abbrev S512x2816 : Shape := ⟨2, ![512, 2816]⟩
abbrev S1x1024x1408 : Shape := ⟨3, ![1, 1024, 1408]⟩
abbrev S1024x1408 : Shape := ⟨2, ![1024, 1408]⟩
abbrev S512x1408 : Shape := ⟨2, ![512, 1408]⟩
abbrev S4096x256 : Shape := ⟨2, ![4096, 256]⟩
abbrev S4096x1 : Shape := ⟨2, ![4096, 1]⟩
abbrev S256x4096 : Shape := ⟨2, ![256, 4096]⟩
abbrev S512x256 : Shape := ⟨2, ![512, 256]⟩
abbrev S512x1 : Shape := ⟨2, ![512, 1]⟩
abbrev S256x512 : Shape := ⟨2, ![256, 512]⟩
abbrev S512 : Shape := ⟨1, ![512]⟩
abbrev S1024 : Shape := ⟨1, ![1024]⟩

abbrev nBuf : Space → Nat
  | .hbm => 33
  | .vmem => 37
  | .smem => 0
  | _ => 0

abbrev bufTy : (tb : Table) → Fin (tcTables nBuf tb) → BufTy
  | .hbm, ⟨0, _⟩ => ⟨S2x2048x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S1x2x2048x256, .f32⟩
  | .hbm, ⟨6, _⟩ => ⟨S1x1024x1024, .f32⟩
  | .hbm, ⟨7, _⟩ => ⟨S1x256x1024, .f32⟩
  | .hbm, ⟨8, _⟩ => ⟨S2x2048x1024, .f32⟩
  | .hbm, ⟨9, _⟩ => ⟨S4096x1024, .f32⟩
  | .hbm, ⟨10, _⟩ => ⟨S1024x5632, .f32⟩
  | .hbm, ⟨11, _⟩ => ⟨S1024x5632, .bf16⟩
  | .hbm, ⟨12, _⟩ => ⟨S1024x4x1408, .bf16⟩
  | .hbm, ⟨13, _⟩ => ⟨S4x1024x1408, .bf16⟩
  | .hbm, ⟨14, _⟩ => ⟨S2816x1024, .f32⟩
  | .hbm, ⟨15, _⟩ => ⟨S2816x1024, .bf16⟩
  | .hbm, ⟨16, _⟩ => ⟨S1024x1024, .f32⟩
  | .hbm, ⟨17, _⟩ => ⟨S1024x1024, .bf16⟩
  | .hbm, ⟨18, _⟩ => ⟨S256x1024, .f32⟩
  | .hbm, ⟨19, _⟩ => ⟨S256x1024, .bf16⟩
  | .hbm, ⟨20, _⟩ => ⟨S1024x4096, .bf16⟩
  | .hbm, ⟨21, _⟩ => ⟨S4096x5632, .bf16⟩
  | .hbm, ⟨22, _⟩ => ⟨S4096x2816, .bf16⟩
  | .hbm, ⟨23, _⟩ => ⟨S4096x256, .f32⟩
  | .hbm, ⟨24, _⟩ => ⟨S4096x1024, .f32⟩
  | .hbm, ⟨25, _⟩ => ⟨S4096x1024, .f32⟩
  | .hbm, ⟨26, _⟩ => ⟨S4096x1, .f32⟩
  | .hbm, ⟨27, _⟩ => ⟨S4096x1024, .f32⟩
  | .hbm, ⟨28, _⟩ => ⟨S1024x4096, .bf16⟩
  | .hbm, ⟨29, _⟩ => ⟨S256x4096, .bf16⟩
  | .hbm, ⟨30, _⟩ => ⟨S4096x1024, .bf16⟩
  | .hbm, ⟨31, _⟩ => ⟨S4096x1024, .bf16⟩
  | .hbm, ⟨32, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x1024x1408, .bf16⟩
  | .local _ .vmem, ⟨3, _⟩ => ⟨S1024x512, .bf16⟩
  | .local _ .vmem, ⟨4, _⟩ => ⟨S1024x512, .bf16⟩
  | .local _ .vmem, ⟨5, _⟩ => ⟨S512x5632, .bf16⟩
  | .local _ .vmem, ⟨6, _⟩ => ⟨S512x5632, .bf16⟩
  | .local _ .vmem, ⟨7, _⟩ => ⟨S512x2816, .bf16⟩
  | .local _ .vmem, ⟨8, _⟩ => ⟨S512x2816, .bf16⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S512x256, .f32⟩
  | .local _ .vmem, ⟨17, _⟩ => ⟨S512x256, .f32⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S256x1024, .bf16⟩
  | .local _ .vmem, ⟨22, _⟩ => ⟨S512x1024, .f32⟩
  | .local _ .vmem, ⟨23, _⟩ => ⟨S512x1024, .f32⟩
  | .local _ .vmem, ⟨24, _⟩ => ⟨S512x1, .f32⟩
  | .local _ .vmem, ⟨25, _⟩ => ⟨S512x1, .f32⟩
  | .local _ .vmem, ⟨26, _⟩ => ⟨S512x1024, .f32⟩
  | .local _ .vmem, ⟨27, _⟩ => ⟨S512x1024, .f32⟩
  | .local _ .vmem, ⟨28, _⟩ => ⟨S1024x512, .bf16⟩
  | .local _ .vmem, ⟨29, _⟩ => ⟨S1024x512, .bf16⟩
  | .local _ .vmem, ⟨30, _⟩ => ⟨S256x512, .bf16⟩
  | .local _ .vmem, ⟨31, _⟩ => ⟨S256x512, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc1_stg14_0 : Ref sig .tc := ⟨.vmem, 32, rfl⟩
abbrev cc1_stg14_1 : Ref sig .tc := ⟨.vmem, 33, rfl⟩
abbrev cc1_stg15_0 : Ref sig .tc := ⟨.vmem, 34, rfl⟩
abbrev cc1_stg15_1 : Ref sig .tc := ⟨.vmem, 35, rfl⟩
abbrev cc1_stg16_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31
abbrev cc1_sem14_0 : DmaSem sig := 32
abbrev cc1_sem14_1 : DmaSem sig := 33
abbrev cc1_sem15_0 : DmaSem sig := 34
abbrev cc1_sem15_1 : DmaSem sig := 35
abbrev cc1_sem16_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2816x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1024x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]
-- ==== Reference4Ideal.lean ====
abbrev S2x2048x1024 : Shape := ⟨3, ![2, 2048, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1x2x2048x256 : Shape := ⟨4, ![1, 2, 2048, 256]⟩
abbrev S1x1024x1024 : Shape := ⟨3, ![1, 1024, 1024]⟩
abbrev S1x256x1024 : Shape := ⟨3, ![1, 256, 1024]⟩
abbrev S_ : Shape := ⟨0, ![]⟩
abbrev S1024x5632 : Shape := ⟨2, ![1024, 5632]⟩
abbrev S2816x1024 : Shape := ⟨2, ![2816, 1024]⟩
abbrev S2x2048x5632 : Shape := ⟨3, ![2, 2048, 5632]⟩
abbrev S2x2048x2816 : Shape := ⟨3, ![2, 2048, 2816]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S1024x1024 : Shape := ⟨2, ![1024, 1024]⟩
abbrev S2x2048x256 : Shape := ⟨3, ![2, 2048, 256]⟩
abbrev S256x1024 : Shape := ⟨2, ![256, 1024]⟩
abbrev S4096x1024 : Shape := ⟨2, ![4096, 1024]⟩
abbrev S4096x1 : Shape := ⟨2, ![4096, 1]⟩
abbrev S1024x4096 : Shape := ⟨2, ![1024, 4096]⟩
abbrev S4096x256 : Shape := ⟨2, ![4096, 256]⟩
abbrev S256x4096 : Shape := ⟨2, ![256, 4096]⟩

abbrev nBuf : Space → Nat
  | .hbm => 139
  | .vmem => 0
  | .smem => 0
  | _ => 0

abbrev hbmTy0_0 (i : Nat) : BufTy := match i % 128 with
  | 0 => ⟨S2x2048x1024, .f32⟩
  | 1 => ⟨S1x1024x5632, .f32⟩
  | 2 => ⟨S1x2816x1024, .f32⟩
  | 3 => ⟨S1x1024, .f32⟩
  | 4 => ⟨S1x1024, .f32⟩
  | 5 => ⟨S1x2x2048x256, .f32⟩
  | 6 => ⟨S1x1024x1024, .f32⟩
  | 7 => ⟨S1x256x1024, .f32⟩
  | 8 => ⟨S2x2048x1024, .f32⟩
  | 9 => ⟨S_, .f32⟩
  | 10 => ⟨S2x2048x1024, .f32⟩
  | 11 => ⟨S2x2048x1024, .f32⟩
  | 12 => ⟨S1024x5632, .f32⟩
  | 13 => ⟨S2816x1024, .f32⟩
  | 14 => ⟨S2x2048x5632, .f32⟩
  | 15 => ⟨S2x2048x2816, .f32⟩
  | 16 => ⟨S2x2048x2816, .f32⟩
  | 17 => ⟨S2x2048x2816, .f32⟩
  | 18 => ⟨S2x2048x2816, .f32⟩
  | 19 => ⟨S_, .f32⟩
  | 20 => ⟨S2x2048x2816, .f32⟩
  | 21 => ⟨S2x2048x2816, .f32⟩
  | 22 => ⟨S_, .f32⟩
  | 23 => ⟨S2x2048x2816, .f32⟩
  | 24 => ⟨S2x2048x2816, .f32⟩
  | 25 => ⟨S2x2048x2816, .f32⟩
  | 26 => ⟨S2x2048x2816, .f32⟩
  | 27 => ⟨S2x2048x1024, .f32⟩
  | 28 => ⟨S_, .f32⟩
  | 29 => ⟨S2x2048x1024, .f32⟩
  | 30 => ⟨S2x2048x1024, .f32⟩
  | 31 => ⟨S2x2048x1024, .f32⟩
  | 32 => ⟨S1024, .f32⟩
  | 33 => ⟨S1024, .f32⟩
  | 34 => ⟨S_, .f32⟩
  | 35 => ⟨S2x2048, .f32⟩
  | 36 => ⟨S2x2048x1, .f32⟩
  | 37 => ⟨S_, .f32⟩
  | 38 => ⟨S2x2048x1, .f32⟩
  | 39 => ⟨S2x2048x1, .f32⟩
  | 40 => ⟨S2x2048x1024, .f32⟩
  | 41 => ⟨S2x2048x1024, .f32⟩
  | 42 => ⟨S2x2048x1024, .f32⟩
  | 43 => ⟨S_, .f32⟩
  | 44 => ⟨S2x2048, .f32⟩
  | 45 => ⟨S2x2048x1, .f32⟩
  | 46 => ⟨S_, .f32⟩
  | 47 => ⟨S2x2048x1, .f32⟩
  | 48 => ⟨S2x2048x1, .f32⟩
  | 49 => ⟨S_, .f32⟩
  | 50 => ⟨S2x2048x1, .f32⟩
  | 51 => ⟨S2x2048x1, .f32⟩
  | 52 => ⟨S2x2048x1, .f32⟩
  | 53 => ⟨S2x2048x1024, .f32⟩
  | 54 => ⟨S2x2048x1024, .f32⟩
  | 55 => ⟨S2x2048x1024, .f32⟩
  | 56 => ⟨S2x2048x1024, .f32⟩
  | 57 => ⟨S1x1x1024, .f32⟩
  | 58 => ⟨S2x2048x1024, .f32⟩
  | 59 => ⟨S2x2048x1024, .f32⟩
  | 60 => ⟨S1x1x1024, .f32⟩
  | 61 => ⟨S2x2048x1024, .f32⟩
  | 62 => ⟨S2x2048x1024, .f32⟩
  | 63 => ⟨S1024x1024, .f32⟩
  | 64 => ⟨S2x2048x1024, .f32⟩
  | 65 => ⟨S2x2048x256, .f32⟩
  | 66 => ⟨S256x1024, .f32⟩
  | 67 => ⟨S2x2048x1024, .f32⟩
  | 68 => ⟨S2x2048x1024, .f32⟩
  | 69 => ⟨S2x2048x1024, .f32⟩
  | 70 => ⟨S_, .f32⟩
  | 71 => ⟨S2x2048x1024, .f32⟩
  | 72 => ⟨S2x2048x1024, .f32⟩
  | 73 => ⟨S_, .f32⟩
  | 74 => ⟨S2x2048x1024, .f32⟩
  | 75 => ⟨S2x2048x1024, .f32⟩
  | 76 => ⟨S_, .f32⟩
  | 77 => ⟨S2x2048x1024, .f32⟩
  | 78 => ⟨S2x2048x1024, .f32⟩
  | 79 => ⟨S2x2048x1024, .f32⟩
  | 80 => ⟨S2x2048x1024, .f32⟩
  | 81 => ⟨S2x2048x1024, .f32⟩
  | 82 => ⟨S2x2048x1024, .f32⟩
  | 83 => ⟨S2x2048x1024, .f32⟩
  | 84 => ⟨S_, .f32⟩
  | 85 => ⟨S2x2048x1024, .f32⟩
  | 86 => ⟨S2x2048x1024, .f32⟩
  | 87 => ⟨S_, .f32⟩
  | 88 => ⟨S2x2048, .f32⟩
  | 89 => ⟨S_, .f32⟩
  | 90 => ⟨S2x2048, .f32⟩
  | 91 => ⟨S2x2048, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S2x2048, .f32⟩
  | 100 => ⟨S_, .f32⟩
  | 101 => ⟨S2x2048, .f32⟩
  | 102 => ⟨S2x2048, .f32⟩
  | 103 => ⟨S2x2048x1024, .f32⟩
  | 104 => ⟨S2x2048x1024, .f32⟩
  | 105 => ⟨S2x2048x1024, .f32⟩
  | 106 => ⟨S2x2048x1024, .f32⟩
  | 107 => ⟨S2x2048x1024, .f32⟩
  | 108 => ⟨S2x2048x1024, .f32⟩
  | 109 => ⟨S2x2048x1024, .f32⟩
  | 110 => ⟨S2x2048x1024, .f32⟩
  | 111 => ⟨S2x2048x1024, .f32⟩
  | 112 => ⟨S_, .f32⟩
  | 113 => ⟨S2x2048x1024, .f32⟩
  | 114 => ⟨S2x2048x1024, .f32⟩
  | 115 => ⟨S_, .f32⟩
  | 116 => ⟨S2x2048x1024, .f32⟩
  | 117 => ⟨S2x2048x1024, .f32⟩
  | 118 => ⟨S2x2048x1024, .f32⟩
  | 119 => ⟨S2x2048x1024, .f32⟩
  | 120 => ⟨S2x2048x1024, .f32⟩
  | 121 => ⟨S2x2048x1024, .f32⟩
  | 122 => ⟨S_, .f32⟩
  | 123 => ⟨S1024, .f32⟩
  | 124 => ⟨S1x1024, .f32⟩
  | 125 => ⟨S4096x1024, .f32⟩
  | 126 => ⟨S4096x1, .f32⟩
  | 127 => ⟨S4096x1024, .f32⟩
  | _ => ⟨S2x2048x1024, .f32⟩

abbrev hbmTy0_1 (i : Nat) : BufTy := match i % 128 with
  | 0 => ⟨S4096x1024, .f32⟩
  | 1 => ⟨S1024x4096, .f32⟩
  | 2 => ⟨S1024x4096, .bf16⟩
  | 3 => ⟨S2x2048x256, .f32⟩
  | 4 => ⟨S4096x256, .f32⟩
  | 5 => ⟨S256x4096, .f32⟩
  | 6 => ⟨S256x4096, .bf16⟩
  | 7 => ⟨S4096x1024, .f32⟩
  | 8 => ⟨S4096x1024, .bf16⟩
  | 9 => ⟨S4096x1024, .f32⟩
  | 10 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_cst_14 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_cst_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_17 : Ref sig .tc := ⟨.hbm, 112, rfl⟩
abbrev main_v77 : Ref sig .tc := ⟨.hbm, 113, rfl⟩
abbrev main_v78 : Ref sig .tc := ⟨.hbm, 114, rfl⟩
abbrev main_cst_18 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]
-- ==== Kernel2.lean ====
abbrev S2x2048x512 : Shape := ⟨3, ![2, 2048, 512]⟩
abbrev S1x512 : Shape := ⟨2, ![1, 512]⟩
abbrev S1x8x128x128 : Shape := ⟨4, ![1, 8, 128, 128]⟩
abbrev S1x8x128 : Shape := ⟨3, ![1, 8, 128]⟩
abbrev S2x2048x1024 : Shape := ⟨3, ![2, 2048, 1024]⟩
abbrev S4096x1024 : Shape := ⟨2, ![4096, 1024]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S4096x512 : Shape := ⟨2, ![4096, 512]⟩
abbrev S1024x1024 : Shape := ⟨2, ![1024, 1024]⟩
abbrev S1024x512 : Shape := ⟨2, ![1024, 512]⟩
abbrev S128 : Shape := ⟨1, ![128]⟩
abbrev S128x1 : Shape := ⟨2, ![128, 1]⟩
abbrev S512 : Shape := ⟨1, ![512]⟩

abbrev nBuf : Space → Nat
  | .hbm => 45
  | .vmem => 15
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S1x8x128x128, .f32⟩
  | .hbm, ⟨5, _⟩ => ⟨S1x8x128, .f32⟩
  | .hbm, ⟨6, _⟩ => ⟨S2x2048x512, .f32⟩
  | .hbm, ⟨7, _⟩ => ⟨S2x2048x1024, .f32⟩
  | .hbm, ⟨8, _⟩ => ⟨S4096x1024, .f32⟩
  | .hbm, ⟨9, _⟩ => ⟨S4096x1024, .bf16⟩
  | .hbm, ⟨10, _⟩ => ⟨S_, .i1⟩
  | .hbm, ⟨11, _⟩ => ⟨S128x128, .i1⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S_, .i1⟩
  | .hbm, ⟨19, _⟩ => ⟨S128x128, .i1⟩
  | .hbm, ⟨20, _⟩ => ⟨S128x128, .i1⟩
  | .hbm, ⟨21, _⟩ => ⟨S1x128x128, .i1⟩
  | .hbm, ⟨22, _⟩ => ⟨S8x128x128, .f32⟩
  | .hbm, ⟨23, _⟩ => ⟨S_, .f32⟩
  | .hbm, ⟨24, _⟩ => ⟨S_, .f32⟩
  | .hbm, ⟨25, _⟩ => ⟨S8x128x128, .i1⟩
  | .hbm, ⟨26, _⟩ => ⟨S8x128x128, .f32⟩
  | .hbm, ⟨27, _⟩ => ⟨S8x128x128, .f32⟩
  | .hbm, ⟨28, _⟩ => ⟨S8x128x128, .bf16⟩
  | .hbm, ⟨29, _⟩ => ⟨S8x128x128, .f32⟩
  | .hbm, ⟨30, _⟩ => ⟨S8x128x128, .bf16⟩
  | .hbm, ⟨31, _⟩ => ⟨S8x128, .f32⟩
  | .hbm, ⟨32, _⟩ => ⟨S128x8, .f32⟩
  | .hbm, ⟨33, _⟩ => ⟨S128x8x64, .f32⟩
  | .hbm, ⟨34, _⟩ => ⟨S128x512, .f32⟩
  | .hbm, ⟨35, _⟩ => ⟨S4096x512, .f32⟩
  | .hbm, ⟨36, _⟩ => ⟨S4096x1024, .bf16⟩
  | .hbm, ⟨37, _⟩ => ⟨S8x128x128, .f32⟩
  | .hbm, ⟨38, _⟩ => ⟨S128x512, .f32⟩
  | .hbm, ⟨39, _⟩ => ⟨S1x512, .f32⟩
  | .hbm, ⟨40, _⟩ => ⟨S1x512, .f32⟩
  | .hbm, ⟨41, _⟩ => ⟨S128x8x64, .f32⟩
  | .hbm, ⟨42, _⟩ => ⟨S_, .f32⟩
  | .hbm, ⟨43, _⟩ => ⟨S128x8, .f32⟩
  | .hbm, ⟨44, _⟩ => ⟨S8x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S8x128x128, .bf16⟩
  | .local _ .vmem, ⟨7, _⟩ => ⟨S8x128x128, .bf16⟩
  | .local _ .vmem, ⟨8, _⟩ => ⟨S128x512, .f32⟩
  | .local _ .vmem, ⟨9, _⟩ => ⟨S1024x1024, .bf16⟩
  | .local _ .vmem, ⟨10, _⟩ => ⟨S1024x1024, .bf16⟩
  | .local _ .vmem, ⟨11, _⟩ => ⟨S8x128x128, .f32⟩
  | .local _ .vmem, ⟨12, _⟩ => ⟨S128x512, .f32⟩
  | .local _ .vmem, ⟨13, _⟩ => ⟨S1x512, .f32⟩
  | .local _ .vmem, ⟨14, _⟩ => ⟨S1x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev main_v16_4 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel2Ideal.lean ====
variable {F : FTy → Type} [FloatOps F] [Named F]
def κ : String → Option EReal := fun
  | "cubic" => some ((8943 / 200000 : ℝ) : EReal)
  | "cubic3" => some ((26829 / 200000 : ℝ) : EReal)
  | _ => none
-- ==== Reference2Ideal.lean ====
abbrev S2x2048x512 : Shape := ⟨3, ![2, 2048, 512]⟩
abbrev S1x512 : Shape := ⟨2, ![1, 512]⟩
abbrev S1x8x128x128 : Shape := ⟨4, ![1, 8, 128, 128]⟩
abbrev S1x8x128 : Shape := ⟨3, ![1, 8, 128]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S2x16x128x8x64 : Shape := ⟨5, ![2, 16, 128, 8, 64]⟩
abbrev S128x128 : Shape := ⟨2, ![128, 128]⟩
abbrev S1x128x128 : Shape := ⟨3, ![1, 128, 128]⟩
abbrev S8x2x16x64x128 : Shape := ⟨5, ![8, 2, 16, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2x2048x1024 : Shape := ⟨3, ![2, 2048, 1024]⟩
abbrev S4096x1024 : Shape := ⟨2, ![4096, 1024]⟩

abbrev nBuf : Space → Nat
  | .hbm => 237
  | .vmem => 0
  | .smem => 0
  | _ => 0

abbrev hbmTy0_0 (i : Nat) : BufTy := match i % 128 with
  | 0 => ⟨S2x2048x512, .f32⟩
  | 1 => ⟨S2x2048x512, .f32⟩
  | 2 => ⟨S1x512, .f32⟩
  | 3 => ⟨S1x512, .f32⟩
  | 4 => ⟨S1x8x128x128, .f32⟩
  | 5 => ⟨S1x8x128, .f32⟩
  | 6 => ⟨S2x2048x512, .f32⟩
  | 7 => ⟨S512, .f32⟩
  | 8 => ⟨S512, .f32⟩
  | 9 => ⟨S8x128x128, .f32⟩
  | 10 => ⟨S8x128, .f32⟩
  | 11 => ⟨S_, .f32⟩
  | 12 => ⟨S_, .f32⟩
  | 13 => ⟨S_, .f32⟩
  | 14 => ⟨S2x2048x512, .f32⟩
  | 15 => ⟨S2x2048x512, .f32⟩
  | 16 => ⟨S2x2048x512, .f32⟩
  | 17 => ⟨S_, .f32⟩
  | 18 => ⟨S2x2048x512, .f32⟩
  | 19 => ⟨S2x2048x512, .f32⟩
  | 20 => ⟨S2x2048x512, .f32⟩
  | 21 => ⟨S2x2048x512, .f32⟩
  | 22 => ⟨S2x2048x512, .f32⟩
  | 23 => ⟨S_, .f32⟩
  | 24 => ⟨S2x2048x512, .f32⟩
  | 25 => ⟨S2x2048x512, .f32⟩
  | 26 => ⟨S2x2048x512, .f32⟩
  | 27 => ⟨S_, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S2x2048x512, .f32⟩
  | 41 => ⟨S_, .f32⟩
  | 42 => ⟨S_, .f32⟩
  | 43 => ⟨S_, .f32⟩
  | 44 => ⟨S2x2048x512, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S_, .f32⟩
  | 58 => ⟨S2x2048x512, .f32⟩
  | 59 => ⟨S2x2048x512, .f32⟩
  | 60 => ⟨S_, .f32⟩
  | 61 => ⟨S2x2048x512, .f32⟩
  | 62 => ⟨S2x2048x512, .f32⟩
  | 63 => ⟨S2x2048x512, .f32⟩
  | 64 => ⟨S_, .f32⟩
  | 65 => ⟨S2x2048x512, .f32⟩
  | 66 => ⟨S2x2048x512, .f32⟩
  | 67 => ⟨S_, .f32⟩
  | 68 => ⟨S2x2048x512, .f32⟩
  | 69 => ⟨S2x2048x512, .f32⟩
  | 70 => ⟨S2x2048x512, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S2x2048x512, .f32⟩
  | 78 => ⟨S2x2048x512, .f32⟩
  | 79 => ⟨S2x2048x512, .f32⟩
  | 80 => ⟨S_, .f32⟩
  | 81 => ⟨S2x2048x512, .f32⟩
  | 82 => ⟨S2x2048x512, .f32⟩
  | 83 => ⟨S_, .f32⟩
  | 84 => ⟨S2x2048, .f32⟩
  | 85 => ⟨S2x2048x1, .f32⟩
  | 86 => ⟨S_, .f32⟩
  | 87 => ⟨S2x2048x1, .f32⟩
  | 88 => ⟨S2x2048x1, .f32⟩
  | 89 => ⟨S_, .f32⟩
  | 90 => ⟨S2x2048x1, .f32⟩
  | 91 => ⟨S2x2048x1, .f32⟩
  | 92 => ⟨S2x2048x1, .f32⟩
  | 93 => ⟨S2x2048x1, .f32⟩
  | 94 => ⟨S_, .f32⟩
  | 95 => ⟨S2x2048x1, .f32⟩
  | 96 => ⟨S2x2048x1, .f32⟩
  | 97 => ⟨S2x2048x512, .f32⟩
  | 98 => ⟨S2x2048x512, .f32⟩
  | 99 => ⟨S2x2048x512, .f32⟩
  | 100 => ⟨S2x2048x512, .f32⟩
  | 101 => ⟨S1x1x512, .f32⟩
  | 102 => ⟨S2x2048x512, .f32⟩
  | 103 => ⟨S2x2048x512, .f32⟩
  | 104 => ⟨S1x1x512, .f32⟩
  | 105 => ⟨S2x2048x512, .f32⟩
  | 106 => ⟨S2x2048x512, .f32⟩
  | 107 => ⟨S2x16x128x8x64, .f32⟩
  | 108 => ⟨S_, .i1⟩
  | 109 => ⟨S128x128, .i1⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .i1⟩
  | 117 => ⟨S128x128, .i1⟩
  | 118 => ⟨S128x128, .i1⟩
  | 119 => ⟨S1x128x128, .i1⟩
  | 120 => ⟨S_, .f32⟩
  | 121 => ⟨S_, .f32⟩
  | 122 => ⟨S8x128x128, .i1⟩
  | 123 => ⟨S8x128x128, .f32⟩
  | 124 => ⟨S8x128x128, .f32⟩
  | 125 => ⟨S_, .f32⟩
  | 126 => ⟨S8x128x128, .f32⟩
  | 127 => ⟨S8x2x16x64x128, .f32⟩
  | _ => ⟨S2x2048x512, .f32⟩

abbrev hbmTy0_1 (i : Nat) : BufTy := match i % 128 with
  | 0 => ⟨S2x16x128x8x64, .f32⟩
  | 1 => ⟨S128x8, .f32⟩
  | 2 => ⟨S128x8x1, .f32⟩
  | 3 => ⟨S1x1x128x8x1, .f32⟩
  | 4 => ⟨S2x16x128x8x64, .f32⟩
  | 5 => ⟨S2x16x128x8x64, .f32⟩
  | 6 => ⟨S2x2048x512, .f32⟩
  | 7 => ⟨S2x2048x512, .f32⟩
  | 8 => ⟨S2x2048x512, .f32⟩
  | 9 => ⟨S2x2048x512, .f32⟩
  | 10 => ⟨S2x16x128x8x64, .f32⟩
  | 11 => ⟨S_, .f32⟩
  | 12 => ⟨S128x8, .f32⟩
  | 13 => ⟨S1x1x128x8x1, .f32⟩
  | 14 => ⟨S_, .f32⟩
  | 15 => ⟨S128x8, .f32⟩
  | 16 => ⟨S128x8x1, .f32⟩
  | 17 => ⟨S_, .f32⟩
  | 18 => ⟨S128x8, .f32⟩
  | 19 => ⟨S8x128, .f32⟩
  | 20 => ⟨S8x2x16x64x128, .f32⟩
  | 21 => ⟨S8x128x128, .f32⟩
  | 22 => ⟨S8x2x16x64x128, .f32⟩
  | 23 => ⟨S2x16x128x8x64, .f32⟩
  | 24 => ⟨S_, .f32⟩
  | 25 => ⟨S8x128x128, .f32⟩
  | 26 => ⟨S8x128x128, .f32⟩
  | 27 => ⟨S2x2048x512, .f32⟩
  | 28 => ⟨S_, .f32⟩
  | 29 => ⟨S512, .f32⟩
  | 30 => ⟨S1x1x512, .f32⟩
  | 31 => ⟨S_, .f32⟩
  | 32 => ⟨S512, .f32⟩
  | 33 => ⟨S2x2048x512, .f32⟩
  | 34 => ⟨S_, .f32⟩
  | 35 => ⟨S512, .f32⟩
  | 36 => ⟨S1x1x512, .f32⟩
  | 37 => ⟨S2x2048x512, .f32⟩
  | 38 => ⟨S2x2048x512, .f32⟩
  | 39 => ⟨S_, .f32⟩
  | 40 => ⟨S512, .f32⟩
  | 41 => ⟨S2x2048x512, .f32⟩
  | 42 => ⟨S_, .f32⟩
  | 43 => ⟨S2x2048, .f32⟩
  | 44 => ⟨S2x2048x1, .f32⟩
  | 45 => ⟨S2x2048x512, .f32⟩
  | 46 => ⟨S2x2048x512, .f32⟩
  | 47 => ⟨S2x2048x512, .f32⟩
  | 48 => ⟨S_, .f32⟩
  | 49 => ⟨S2x2048, .f32⟩
  | 50 => ⟨S2x2048x1, .f32⟩
  | 51 => ⟨S2x2048x1, .f32⟩
  | 52 => ⟨S_, .f32⟩
  | 53 => ⟨S2x2048x1, .f32⟩
  | 54 => ⟨S2x2048x1, .f32⟩
  | 55 => ⟨S_, .f32⟩
  | 56 => ⟨S2x2048, .f32⟩
  | 57 => ⟨S2x2048x512, .f32⟩
  | 58 => ⟨S2x2048x512, .f32⟩
  | 59 => ⟨S2x2048x512, .f32⟩
  | 60 => ⟨S_, .f32⟩
  | 61 => ⟨S2x2048, .f32⟩
  | 62 => ⟨S2x2048x1, .f32⟩
  | 63 => ⟨S2x2048x512, .f32⟩
  | 64 => ⟨S2x2048x1, .f32⟩
  | 65 => ⟨S_, .f32⟩
  | 66 => ⟨S2x2048x1, .f32⟩
  | 67 => ⟨S2x2048x1, .f32⟩
  | 68 => ⟨S_, .f32⟩
  | 69 => ⟨S2x2048, .f32⟩
  | 70 => ⟨S2x2048x512, .f32⟩
  | 71 => ⟨S2x2048x512, .f32⟩
  | 72 => ⟨S2x2048x512, .f32⟩
  | 73 => ⟨S2x2048x512, .f32⟩
  | 74 => ⟨S_, .f32⟩
  | 75 => ⟨S2x2048x512, .f32⟩
  | 76 => ⟨S2x2048x512, .f32⟩
  | 77 => ⟨S2x2048x512, .f32⟩
  | 78 => ⟨S_, .f32⟩
  | 79 => ⟨S2x2048x512, .f32⟩
  | 80 => ⟨S2x2048x512, .f32⟩
  | 81 => ⟨S2x2048x512, .f32⟩
  | 82 => ⟨S2x2048x512, .f32⟩
  | 83 => ⟨S2x2048x512, .f32⟩
  | 84 => ⟨S2x2048x512, .f32⟩
  | 85 => ⟨S2x2048x512, .f32⟩
  | 86 => ⟨S2x2048x512, .f32⟩
  | 87 => ⟨S2x2048x512, .f32⟩
  | 88 => ⟨S_, .f32⟩
  | 89 => ⟨S2x2048x512, .f32⟩
  | 90 => ⟨S2x2048x512, .f32⟩
  | 91 => ⟨S2x2048x512, .f32⟩
  | 92 => ⟨S_, .f32⟩
  | 93 => ⟨S2x2048x512, .f32⟩
  | 94 => ⟨S2x2048x512, .f32⟩
  | 95 => ⟨S2x2048x512, .f32⟩
  | 96 => ⟨S2x2048x512, .f32⟩
  | 97 => ⟨S2x2048x512, .f32⟩
  | 98 => ⟨S2x2048x512, .f32⟩
  | 99 => ⟨S2x2048x512, .f32⟩
  | 100 => ⟨S1x8x128, .f32⟩
  | 101 => ⟨S1x8x128x128, .f32⟩
  | 102 => ⟨S1x512, .f32⟩
  | 103 => ⟨S1x512, .f32⟩
  | 104 => ⟨S2x2048x1024, .f32⟩
  | 105 => ⟨S4096x1024, .f32⟩
  | 106 => ⟨S4096x1024, .bf16⟩
  | 107 => ⟨S8x128x128, .f32⟩
  | 108 => ⟨S8x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_cst_14 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_cst_20 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_21 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c : Ref sig .tc := ⟨.hbm, 108, rfl⟩
abbrev main_v78 : Ref sig .tc := ⟨.hbm, 109, rfl⟩
abbrev main_call0_v0 : Ref sig .tc := ⟨.hbm, 110, rfl⟩
abbrev main_call0_c : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_c_0 : Ref sig .tc := ⟨.hbm, 116, rfl⟩
abbrev main_call0_v5 : Ref sig .tc := ⟨.hbm, 117, rfl⟩
abbrev main_v79 : Ref sig .tc := ⟨.hbm, 118, rfl⟩
abbrev main_v80 : Ref sig .tc := ⟨.hbm, 119, rfl⟩
abbrev main_cst_22 : Ref sig .tc := ⟨.hbm, 120, rfl⟩
abbrev main_call1_v0 : Ref sig .tc := ⟨.hbm, 121, rfl⟩
abbrev main_v81_1 : Ref sig .tc := ⟨.hbm, 122, rfl⟩
abbrev main_call1_v2 : Ref sig .tc := ⟨.hbm, 123, rfl⟩
abbrev main_v81_0 : Ref sig .tc := ⟨.hbm, 124, rfl⟩
abbrev main_call1_cst : Ref sig .tc := ⟨.hbm, 125, rfl⟩
abbrev main_v81_2 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_v95 : Ref sig .tc := ⟨.hbm, 141, rfl⟩
abbrev main_cst_24 : Ref sig .tc := ⟨.hbm, 142, rfl⟩
abbrev main_v96 : Ref sig .tc := ⟨.hbm, 143, rfl⟩
abbrev main_v97 : Ref sig .tc := ⟨.hbm, 144, rfl⟩
abbrev main_cst_25 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_call2_cst : Ref sig .tc := ⟨.hbm, 152, rfl⟩
abbrev main_call2_v0 : Ref sig .tc := ⟨.hbm, 153, rfl⟩
abbrev main_v104 : Ref sig .tc := ⟨.hbm, 154, rfl⟩
abbrev main_v105 : Ref sig .tc := ⟨.hbm, 155, rfl⟩
abbrev main_cst_26 : Ref sig .tc := ⟨.hbm, 156, rfl⟩
abbrev main_v106 : Ref sig .tc := ⟨.hbm, 157, rfl⟩
abbrev main_v107 : Ref sig .tc := ⟨.hbm, 158, rfl⟩
abbrev main_cst_27 : Ref sig .tc := ⟨.hbm, 159, rfl⟩
abbrev main_v108 : Ref sig .tc := ⟨.hbm, 160, rfl⟩
abbrev main_v109 : Ref sig .tc := ⟨.hbm, 161, rfl⟩
abbrev main_cst_28 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_29 : Ref sig .tc := ⟨.hbm, 167, rfl⟩
abbrev main_v114 : Ref sig .tc := ⟨.hbm, 168, rfl⟩
abbrev main_v115 : Ref sig .tc := ⟨.hbm, 169, rfl⟩
abbrev main_cst_30 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_31 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_32 : Ref sig .tc := ⟨.hbm, 180, rfl⟩
abbrev main_v124 : Ref sig .tc := ⟨.hbm, 181, rfl⟩
abbrev main_v125 : Ref sig .tc := ⟨.hbm, 182, rfl⟩
abbrev main_cst_33 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_34 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_35 : Ref sig .tc := ⟨.hbm, 193, rfl⟩
abbrev main_v134 : Ref sig .tc := ⟨.hbm, 194, rfl⟩
abbrev main_v135 : Ref sig .tc := ⟨.hbm, 195, rfl⟩
abbrev main_cst_36 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_37 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_38 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_39 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_40 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩

abbrev nD : Nat := 1
abbrev τ : Topo := Topo.v7x

variable {F : FTy → Type} [FloatOps F]
-- ==== Kernel6.lean ====
abbrev S2x2048x512 : Shape := ⟨3, ![2, 2048, 512]⟩
abbrev S1x512 : Shape := ⟨2, ![1, 512]⟩
abbrev S1x8x128x128 : Shape := ⟨4, ![1, 8, 128, 128]⟩
abbrev S1x8x128 : Shape := ⟨3, ![1, 8, 128]⟩
abbrev S2x2048x1024 : Shape := ⟨3, ![2, 2048, 1024]⟩
abbrev S4096x1024 : Shape := ⟨2, ![4096, 1024]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S4096x512 : Shape := ⟨2, ![4096, 512]⟩
abbrev S512x4096 : Shape := ⟨2, ![512, 4096]⟩
abbrev S1024x1024 : Shape := ⟨2, ![1024, 1024]⟩
abbrev S1024x512 : Shape := ⟨2, ![1024, 512]⟩
abbrev S512x1024 : Shape := ⟨2, ![512, 1024]⟩
abbrev S128 : Shape := ⟨1, ![128]⟩
abbrev S128x1 : Shape := ⟨2, ![128, 1]⟩
abbrev S512x128 : Shape := ⟨2, ![512, 128]⟩

abbrev nBuf : Space → Nat
  | .hbm => 34
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S1x8x128x128, .f32⟩
  | .hbm, ⟨5, _⟩ => ⟨S1x8x128, .f32⟩
  | .hbm, ⟨6, _⟩ => ⟨S2x2048x1024, .f32⟩
  | .hbm, ⟨7, _⟩ => ⟨S4096x1024, .f32⟩
  | .hbm, ⟨8, _⟩ => ⟨S4096x1024, .bf16⟩
  | .hbm, ⟨9, _⟩ => ⟨S_, .i1⟩
  | .hbm, ⟨10, _⟩ => ⟨S128x128, .i1⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .i1⟩
  | .hbm, ⟨18, _⟩ => ⟨S128x128, .i1⟩
  | .hbm, ⟨19, _⟩ => ⟨S128x128, .i1⟩
  | .hbm, ⟨20, _⟩ => ⟨S1x128x128, .i1⟩
  | .hbm, ⟨21, _⟩ => ⟨S8x128x128, .f32⟩
  | .hbm, ⟨22, _⟩ => ⟨S_, .f32⟩
  | .hbm, ⟨23, _⟩ => ⟨S_, .f32⟩
  | .hbm, ⟨24, _⟩ => ⟨S8x128x128, .i1⟩
  | .hbm, ⟨25, _⟩ => ⟨S8x128x128, .f32⟩
  | .hbm, ⟨26, _⟩ => ⟨S8x128x128, .f32⟩
  | .hbm, ⟨27, _⟩ => ⟨S8x128x128, .bf16⟩
  | .hbm, ⟨28, _⟩ => ⟨S8x128, .f32⟩
  | .hbm, ⟨29, _⟩ => ⟨S128x8, .f32⟩
  | .hbm, ⟨30, _⟩ => ⟨S128x8x64, .f32⟩
  | .hbm, ⟨31, _⟩ => ⟨S128x512, .f32⟩
  | .hbm, ⟨32, _⟩ => ⟨S4096x512, .bf16⟩
  | .hbm, ⟨33, _⟩ => ⟨S512x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x512, .f32⟩
  | .local _ .vmem, ⟨3, _⟩ => ⟨S1x512, .f32⟩
  | .local _ .vmem, ⟨4, _⟩ => ⟨S8x128x128, .bf16⟩
  | .local _ .vmem, ⟨5, _⟩ => ⟨S128x512, .f32⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
variable {F : FTy → Type} [FloatOps F] [Named F]
def κ : String → Option EReal := fun
  | "cubic" => some ((8943 / 200000 : ℝ) : EReal)
  | _ => none
-- ==== Reference6Ideal.lean ====
abbrev S2x2048x512 : Shape := ⟨3, ![2, 2048, 512]⟩
abbrev S1x512 : Shape := ⟨2, ![1, 512]⟩
abbrev S1x8x128x128 : Shape := ⟨4, ![1, 8, 128, 128]⟩
abbrev S1x8x128 : Shape := ⟨3, ![1, 8, 128]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S2x16x128x8x64 : Shape := ⟨5, ![2, 16, 128, 8, 64]⟩
abbrev S128x128 : Shape := ⟨2, ![128, 128]⟩
abbrev S1x128x128 : Shape := ⟨3, ![1, 128, 128]⟩
abbrev S8x2x16x64x128 : Shape := ⟨5, ![8, 2, 16, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4096x512 : Shape := ⟨2, ![4096, 512]⟩
abbrev S512x4096 : Shape := ⟨2, ![512, 4096]⟩

abbrev nBuf : Space → Nat
  | .hbm => 107
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S1x8x128x128, .f32⟩
  | .hbm, ⟨5, _⟩ => ⟨S1x8x128, .f32⟩
  | .hbm, ⟨6, _⟩ => ⟨S512, .f32⟩
  | .hbm, ⟨7, _⟩ => ⟨S512, .f32⟩
  | .hbm, ⟨8, _⟩ => ⟨S8x128x128, .f32⟩
  | .hbm, ⟨9, _⟩ => ⟨S8x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x2048x512, .f32⟩
  | .hbm, ⟨14, _⟩ => ⟨S2x2048x512, .f32⟩
  | .hbm, ⟨15, _⟩ => ⟨S2x2048x512, .f32⟩
  | .hbm, ⟨16, _⟩ => ⟨S2x2048x512, .f32⟩
  | .hbm, ⟨17, _⟩ => ⟨S2x2048x512, .f32⟩
  | .hbm, ⟨18, _⟩ => ⟨S_, .f32⟩
  | .hbm, ⟨19, _⟩ => ⟨S2x2048x512, .f32⟩
  | .hbm, ⟨20, _⟩ => ⟨S2x2048x512, .f32⟩
  | .hbm, ⟨21, _⟩ => ⟨S2x2048x512, .f32⟩
  | .hbm, ⟨22, _⟩ => ⟨S_, .f32⟩
  | .hbm, ⟨23, _⟩ => ⟨S2x2048x512, .f32⟩
  | .hbm, ⟨24, _⟩ => ⟨S2x2048x512, .f32⟩
  | .hbm, ⟨25, _⟩ => ⟨S_, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S_, .f32⟩
  | .hbm, ⟨38, _⟩ => ⟨S2x2048x512, .f32⟩
  | .hbm, ⟨39, _⟩ => ⟨S2x2048x512, .f32⟩
  | .hbm, ⟨40, _⟩ => ⟨S2x2048x512, .f32⟩
  | .hbm, ⟨41, _⟩ => ⟨S_, .f32⟩
  | .hbm, ⟨42, _⟩ => ⟨S2x2048x512, .f32⟩
  | .hbm, ⟨43, _⟩ => ⟨S2x2048x512, .f32⟩
  | .hbm, ⟨44, _⟩ => ⟨S_, .f32⟩
  | .hbm, ⟨45, _⟩ => ⟨S2x2048x512, .f32⟩
  | .hbm, ⟨46, _⟩ => ⟨S2x2048x512, .f32⟩
  | .hbm, ⟨47, _⟩ => ⟨S2x2048x512, .f32⟩
  | .hbm, ⟨48, _⟩ => ⟨S_, .f32⟩
  | .hbm, ⟨49, _⟩ => ⟨S2x2048, .f32⟩
  | .hbm, ⟨50, _⟩ => ⟨S2x2048x1, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S2x2048x512, .f32⟩
  | .hbm, ⟨55, _⟩ => ⟨S2x2048x512, .f32⟩
  | .hbm, ⟨56, _⟩ => ⟨S2x2048x512, .f32⟩
  | .hbm, ⟨57, _⟩ => ⟨S_, .f32⟩
  | .hbm, ⟨58, _⟩ => ⟨S2x2048, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S_, .f32⟩
  | .hbm, ⟨64, _⟩ => ⟨S2x2048x1, .f32⟩
  | .hbm, ⟨65, _⟩ => ⟨S2x2048x1, .f32⟩
  | .hbm, ⟨66, _⟩ => ⟨S2x2048x1, .f32⟩
  | .hbm, ⟨67, _⟩ => ⟨S2x2048x512, .f32⟩
  | .hbm, ⟨68, _⟩ => ⟨S2x2048x512, .f32⟩
  | .hbm, ⟨69, _⟩ => ⟨S2x2048x512, .f32⟩
  | .hbm, ⟨70, _⟩ => ⟨S2x2048x512, .f32⟩
  | .hbm, ⟨71, _⟩ => ⟨S1x1x512, .f32⟩
  | .hbm, ⟨72, _⟩ => ⟨S2x2048x512, .f32⟩
  | .hbm, ⟨73, _⟩ => ⟨S2x2048x512, .f32⟩
  | .hbm, ⟨74, _⟩ => ⟨S1x1x512, .f32⟩
  | .hbm, ⟨75, _⟩ => ⟨S2x2048x512, .f32⟩
  | .hbm, ⟨76, _⟩ => ⟨S2x2048x512, .f32⟩
  | .hbm, ⟨77, _⟩ => ⟨S2x16x128x8x64, .f32⟩
  | .hbm, ⟨78, _⟩ => ⟨S_, .i1⟩
  | .hbm, ⟨79, _⟩ => ⟨S128x128, .i1⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S128x128, .i1⟩
  | .hbm, ⟨86, _⟩ => ⟨S_, .i1⟩
  | .hbm, ⟨87, _⟩ => ⟨S128x128, .i1⟩
  | .hbm, ⟨88, _⟩ => ⟨S128x128, .i1⟩
  | .hbm, ⟨89, _⟩ => ⟨S1x128x128, .i1⟩
  | .hbm, ⟨90, _⟩ => ⟨S_, .f32⟩
  | .hbm, ⟨91, _⟩ => ⟨S_, .f32⟩
  | .hbm, ⟨92, _⟩ => ⟨S8x128x128, .i1⟩
  | .hbm, ⟨93, _⟩ => ⟨S8x128x128, .f32⟩
  | .hbm, ⟨94, _⟩ => ⟨S8x128x128, .f32⟩
  | .hbm, ⟨95, _⟩ => ⟨S8x2x16x64x128, .f32⟩
  | .hbm, ⟨96, _⟩ => ⟨S2x16x128x8x64, .f32⟩
  | .hbm, ⟨97, _⟩ => ⟨S128x8, .f32⟩
  | .hbm, ⟨98, _⟩ => ⟨S128x8x1, .f32⟩
  | .hbm, ⟨99, _⟩ => ⟨S1x1x128x8x1, .f32⟩
  | .hbm, ⟨100, _⟩ => ⟨S2x16x128x8x64, .f32⟩
  | .hbm, ⟨101, _⟩ => ⟨S2x16x128x8x64, .f32⟩
  | .hbm, ⟨102, _⟩ => ⟨S2x2048x512, .f32⟩
  | .hbm, ⟨103, _⟩ => ⟨S2x2048x512, .f32⟩
  | .hbm, ⟨104, _⟩ => ⟨S4096x512, .f32⟩
  | .hbm, ⟨105, _⟩ => ⟨S4096x512, .bf16⟩
  | .hbm, ⟨106, _⟩ => ⟨S512x4096, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c : Ref sig .tc := ⟨.hbm, 78, rfl⟩
abbrev main_v57 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_0 : Ref sig .tc := ⟨.hbm, 86, rfl⟩
abbrev main_call0_v5 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Kernel7.lean ====
abbrev S512x5632 : Shape := ⟨2, ![512, 5632]⟩
abbrev S4x256x1408 : Shape := ⟨3, ![4, 256, 1408]⟩
abbrev S352x1024 : Shape := ⟨2, ![352, 1024]⟩
abbrev S256x5632 : Shape := ⟨2, ![256, 5632]⟩
abbrev S3x256x1408 : Shape := ⟨3, ![3, 256, 1408]⟩
abbrev S1 : Shape := ⟨1, ![1]⟩
abbrev S3 : Shape := ⟨1, ![3]⟩
abbrev S_ : Shape := ⟨0, ![]⟩
abbrev S1x256x1408 : Shape := ⟨3, ![1, 256, 1408]⟩
abbrev S256x1408 : Shape := ⟨2, ![256, 1408]⟩

abbrev nBuf : Table → Nat
  | .hbm => 6
  | _ => 0

abbrev bufTy : (tb : Table) → Fin (nBuf tb) → BufTy
  | .hbm, ⟨0, _⟩ => ⟨S512x5632, .bf16⟩
  | .hbm, ⟨1, _⟩ => ⟨S4x256x1408, .bf16⟩
  | .hbm, ⟨2, _⟩ => ⟨S352x1024, .f32⟩
  | .hbm, ⟨3, _⟩ => ⟨S256x5632, .bf16⟩
  | .hbm, ⟨4, _⟩ => ⟨S3x256x1408, .bf16⟩
  | .hbm, ⟨5, _⟩ => ⟨S352x1024, .f32⟩
  | _, _ => ⟨S512x5632, .bf16⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  (ofTables nBuf rfl bufTy 5 10 bufScoped semScoped dmaSemScoped tileCredit tileCredit_eq_zero tileCredit_pos).withBarriers [(17, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_arg0_scs : Ref sig .scScalar := ⟨.hbm, 0, rfl⟩
abbrev main_arg1_scs : Ref sig .scScalar := ⟨.hbm, 1, rfl⟩
abbrev main_arg2_scs : Ref sig .scScalar := ⟨.hbm, 2, rfl⟩
abbrev main_v1_0_scs : Ref sig .scScalar := ⟨.hbm, 3, rfl⟩
abbrev main_v1_1_scs : Ref sig .scScalar := ⟨.hbm, 4, rfl⟩
abbrev main_v1_2_scs : Ref sig .scScalar := ⟨.hbm, 5, rfl⟩
abbrev sc_start : Sem sig := 0
abbrev sc_done : Sem sig := 1
abbrev sc_go : Sem sig := 2
abbrev sc_taskDone : Sem sig := 3
abbrev barrier17 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v15 : BitVec 32 := Scalar.muli v2 c4_i32_9
  let v16 : BitVec 32 := Scalar.addi c0_i32 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v17 : BitVec 32 := Scalar.muli v5 c2_i32_10
  let v18 : BitVec 32 := Scalar.addi v16 v17
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_11 : BitVec 32 := 1#32
  let v19 : BitVec 32 := Scalar.muli v10 c1_i32_11
  let v20 : BitVec 32 := Scalar.addi v18 v19
  v20.toNat
def k0_dev2 (d0 : Dev nD) : Nat :=
  let c0_i32_14 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_13 : BitVec 32 := 4#32
  let v21 : BitVec 32 := Scalar.muli v11 c4_i32_13
  let v22 : BitVec 32 := Scalar.addi c0_i32_14 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v23 : BitVec 32 := Scalar.muli v5 c2_i32_15
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v25 : BitVec 32 := Scalar.muli v8 c1_i32_16
  let v26 : BitVec 32 := Scalar.addi v24 v25
  v26.toNat
def k0_dev3 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v27 : BitVec 32 := Scalar.muli v2 c4_i32_18
  let v28 : BitVec 32 := Scalar.addi c0_i32_19 v27
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_20 : BitVec 32 := 2#32
  let v29 : BitVec 32 := Scalar.muli v12 c2_i32_20
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v31 : BitVec 32 := Scalar.muli v8 c1_i32_21
  let v32 : BitVec 32 := Scalar.addi v30 v31
  v32.toNat
def k0_dev4 (d0 : Dev nD) : Nat :=
  let c0_i32_24 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_23 : BitVec 32 := 4#32
  let v33 : BitVec 32 := Scalar.muli v13 c4_i32_23
  let v34 : BitVec 32 := Scalar.addi c0_i32_24 v33
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_25 : BitVec 32 := 2#32
  let v35 : BitVec 32 := Scalar.muli v14 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off1 (d0 : Dev nD) : Fin 2 → Nat :=
  let c1_i32_34 : BitVec 32 := 1#32
  let v45 : BitVec 32 := Dev.word d0
  let c1_i32_33 : BitVec 32 := 1#32
  let v46 : BitVec 32 := Scalar.divsi v45 c1_i32_33
  let c2_i32_32 : BitVec 32 := 2#32
  let v47 : BitVec 32 := Scalar.remsi v46 c2_i32_32
  let v48 : BitVec 32 := Scalar.subi c1_i32_34 v47
  let c256_i32 : BitVec 32 := 256#32
  let v49 : BitVec 32 := Scalar.muli v48 c256_i32
  let c0_i32_42 : BitVec 32 := 0#32
  ![v49.toNat, 0]
def k0_dev5 (d0 : Dev nD) : Nat :=
  let c0_i32_39 : BitVec 32 := 0#32
  let v39 : BitVec 32 := Dev.word d0
  let c4_i32_29 : BitVec 32 := 4#32
  let v40 : BitVec 32 := Scalar.divsi v39 c4_i32_29
  let c2_i32_28 : BitVec 32 := 2#32
  let v41 : BitVec 32 := Scalar.remsi v40 c2_i32_28
  let c4_i32_38 : BitVec 32 := 4#32
  let v51 : BitVec 32 := Scalar.muli v41 c4_i32_38
  let v52 : BitVec 32 := Scalar.addi c0_i32_39 v51
  let v42 : BitVec 32 := Dev.word d0
  let c2_i32_31 : BitVec 32 := 2#32
  let v43 : BitVec 32 := Scalar.divsi v42 c2_i32_31
  let c2_i32_30 : BitVec 32 := 2#32
  let v44 : BitVec 32 := Scalar.remsi v43 c2_i32_30
  let c2_i32_40 : BitVec 32 := 2#32
  let v53 : BitVec 32 := Scalar.muli v44 c2_i32_40
  let v54 : BitVec 32 := Scalar.addi v52 v53
  let c1_i32_35 : BitVec 32 := 1#32
  let v45 : BitVec 32 := Dev.word d0
  let c1_i32_33 : BitVec 32 := 1#32
  let v46 : BitVec 32 := Scalar.divsi v45 c1_i32_33
  let c2_i32_32 : BitVec 32 := 2#32
  let v47 : BitVec 32 := Scalar.remsi v46 c2_i32_32
  let v50 : BitVec 32 := Scalar.subi c1_i32_35 v47
  let c1_i32_41 : BitVec 32 := 1#32
  let v55 : BitVec 32 := Scalar.muli v50 c1_i32_41
  let v56 : BitVec 32 := Scalar.addi v54 v55
  v56.toNat
def k0_dev6 (d0 : Dev nD) : Nat :=
  let c0_i32_58 : BitVec 32 := 0#32
  let c1_i32_49 : BitVec 32 := 1#32
  let v62 : BitVec 32 := Dev.word d0
  let c4_i32_44 : BitVec 32 := 4#32
  let v63 : BitVec 32 := Scalar.divsi v62 c4_i32_44
  let c2_i32_43 : BitVec 32 := 2#32
  let v64 : BitVec 32 := Scalar.remsi v63 c2_i32_43
  let v71 : BitVec 32 := Scalar.subi c1_i32_49 v64
  let c4_i32_57 : BitVec 32 := 4#32
  let v75 : BitVec 32 := Scalar.muli v71 c4_i32_57
  let v76 : BitVec 32 := Scalar.addi c0_i32_58 v75
  let v65 : BitVec 32 := Dev.word d0
  let c2_i32_46 : BitVec 32 := 2#32
  let v66 : BitVec 32 := Scalar.divsi v65 c2_i32_46
  let c2_i32_45 : BitVec 32 := 2#32
  let v67 : BitVec 32 := Scalar.remsi v66 c2_i32_45
  let c2_i32_59 : BitVec 32 := 2#32
  let v77 : BitVec 32 := Scalar.muli v67 c2_i32_59
  let v78 : BitVec 32 := Scalar.addi v76 v77
  let v68 : BitVec 32 := Dev.word d0
  let c1_i32_48 : BitVec 32 := 1#32
  let v69 : BitVec 32 := Scalar.divsi v68 c1_i32_48
  let c2_i32_47 : BitVec 32 := 2#32
  let v70 : BitVec 32 := Scalar.remsi v69 c2_i32_47
  let c1_i32_60 : BitVec 32 := 1#32
  let v79 : BitVec 32 := Scalar.muli v70 c1_i32_60
  let v80 : BitVec 32 := Scalar.addi v78 v79
  v80.toNat
def k0_dev7 (d0 : Dev nD) : Nat :=
  let c0_i32_70 : BitVec 32 := 0#32
  let v62 : BitVec 32 := Dev.word d0
  let c4_i32_44 : BitVec 32 := 4#32
  let v63 : BitVec 32 := Scalar.divsi v62 c4_i32_44
  let c2_i32_43 : BitVec 32 := 2#32
  let v64 : BitVec 32 := Scalar.remsi v63 c2_i32_43
  let c4_i32_69 : BitVec 32 := 4#32
  let v89 : BitVec 32 := Scalar.muli v64 c4_i32_69
  let v90 : BitVec 32 := Scalar.addi c0_i32_70 v89
  let c1_i32_50 : BitVec 32 := 1#32
  let v65 : BitVec 32 := Dev.word d0
  let c2_i32_46 : BitVec 32 := 2#32
  let v66 : BitVec 32 := Scalar.divsi v65 c2_i32_46
  let c2_i32_45 : BitVec 32 := 2#32
  let v67 : BitVec 32 := Scalar.remsi v66 c2_i32_45
  let v72 : BitVec 32 := Scalar.subi c1_i32_50 v67
  let c2_i32_71 : BitVec 32 := 2#32
  let v91 : BitVec 32 := Scalar.muli v72 c2_i32_71
  let v92 : BitVec 32 := Scalar.addi v90 v91
  let v68 : BitVec 32 := Dev.word d0
  let c1_i32_48 : BitVec 32 := 1#32
  let v69 : BitVec 32 := Scalar.divsi v68 c1_i32_48
  let c2_i32_47 : BitVec 32 := 2#32
  let v70 : BitVec 32 := Scalar.remsi v69 c2_i32_47
  let c1_i32_72 : BitVec 32 := 1#32
  let v93 : BitVec 32 := Scalar.muli v70 c1_i32_72
  let v94 : BitVec 32 := Scalar.addi v92 v93
  v94.toNat
def k0_dev8 (d0 : Dev nD) : Nat :=
  let c0_i32_81 : BitVec 32 := 0#32
  let c1_i32_51 : BitVec 32 := 1#32
  let v62 : BitVec 32 := Dev.word d0
  let c4_i32_44 : BitVec 32 := 4#32
  let v63 : BitVec 32 := Scalar.divsi v62 c4_i32_44
  let c2_i32_43 : BitVec 32 := 2#32
  let v64 : BitVec 32 := Scalar.remsi v63 c2_i32_43
  let v73 : BitVec 32 := Scalar.subi c1_i32_51 v64
  let c4_i32_80 : BitVec 32 := 4#32
  let v103 : BitVec 32 := Scalar.muli v73 c4_i32_80
  let v104 : BitVec 32 := Scalar.addi c0_i32_81 v103
  let c1_i32_52 : BitVec 32 := 1#32
  let v65 : BitVec 32 := Dev.word d0
  let c2_i32_46 : BitVec 32 := 2#32
  let v66 : BitVec 32 := Scalar.divsi v65 c2_i32_46
  let c2_i32_45 : BitVec 32 := 2#32
  let v67 : BitVec 32 := Scalar.remsi v66 c2_i32_45
  let v74 : BitVec 32 := Scalar.subi c1_i32_52 v67
  let c2_i32_82 : BitVec 32 := 2#32
  let v105 : BitVec 32 := Scalar.muli v74 c2_i32_82
  let v106 : BitVec 32 := Scalar.addi v104 v105
  let v68 : BitVec 32 := Dev.word d0
  let c1_i32_48 : BitVec 32 := 1#32
  let v69 : BitVec 32 := Scalar.divsi v68 c1_i32_48
  let c2_i32_47 : BitVec 32 := 2#32
  let v70 : BitVec 32 := Scalar.remsi v69 c2_i32_47
  let c1_i32_83 : BitVec 32 := 1#32
  let v107 : BitVec 32 := Scalar.muli v70 c1_i32_83
  let v108 : BitVec 32 := Scalar.addi v106 v107
  v108.toNat
def k0_dev9 (d0 : Dev nD) : Nat :=
  let c0_i32_98 : BitVec 32 := 0#32
  let v117 : BitVec 32 := Dev.word d0
  let c4_i32_89 : BitVec 32 := 4#32
  let v118 : BitVec 32 := Scalar.divsi v117 c4_i32_89
  let c2_i32_88 : BitVec 32 := 2#32
  let v119 : BitVec 32 := Scalar.remsi v118 c2_i32_88
  let c4_i32_97 : BitVec 32 := 4#32
  let v127 : BitVec 32 := Scalar.muli v119 c4_i32_97
  let v128 : BitVec 32 := Scalar.addi c0_i32_98 v127
  let v120 : BitVec 32 := Dev.word d0
  let c2_i32_91 : BitVec 32 := 2#32
  let v121 : BitVec 32 := Scalar.divsi v120 c2_i32_91
  let c2_i32_90 : BitVec 32 := 2#32
  let v122 : BitVec 32 := Scalar.remsi v121 c2_i32_90
  let c2_i32_99 : BitVec 32 := 2#32
  let v129 : BitVec 32 := Scalar.muli v122 c2_i32_99
  let v130 : BitVec 32 := Scalar.addi v128 v129
  let c1_i32_94 : BitVec 32 := 1#32
  let v123 : BitVec 32 := Dev.word d0
  let c1_i32_93 : BitVec 32 := 1#32
  let v124 : BitVec 32 := Scalar.divsi v123 c1_i32_93
  let c2_i32_92 : BitVec 32 := 2#32
  let v125 : BitVec 32 := Scalar.remsi v124 c2_i32_92
  let v126 : BitVec 32 := Scalar.subi c1_i32_94 v125
  let c1_i32_100 : BitVec 32 := 1#32
  let v131 : BitVec 32 := Scalar.muli v126 c1_i32_100
  let v132 : BitVec 32 := Scalar.addi v130 v131
  v132.toNat
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference7Ideal.lean ====
abbrev S4096x5632 : Shape := ⟨2, ![4096, 5632]⟩
abbrev S32x256x1408 : Shape := ⟨3, ![32, 256, 1408]⟩
abbrev S2816x1024 : Shape := ⟨2, ![2816, 1024]⟩
abbrev S4x2x2x256x5632 : Shape := ⟨5, ![4, 2, 2, 256, 5632]⟩
abbrev S2x2x2x4x256x1408 : Shape := ⟨6, ![2, 2, 2, 4, 256, 1408]⟩
abbrev S4x2x352x1024 : Shape := ⟨4, ![4, 2, 352, 1024]⟩
abbrev S4x1x1x256x5632 : Shape := ⟨5, ![4, 1, 1, 256, 5632]⟩
abbrev S4x256x5632 : Shape := ⟨3, ![4, 256, 5632]⟩
abbrev S4x1x256x5632 : Shape := ⟨4, ![4, 1, 256, 5632]⟩
abbrev S4x2x256x5632 : Shape := ⟨4, ![4, 2, 256, 5632]⟩
abbrev S2048x5632 : Shape := ⟨2, ![2048, 5632]⟩
abbrev S2x2x2x1x256x1408 : Shape := ⟨6, ![2, 2, 2, 1, 256, 1408]⟩
abbrev S2x2x2x256x1408 : Shape := ⟨5, ![2, 2, 2, 256, 1408]⟩
abbrev S2x2x2x3x256x1408 : Shape := ⟨6, ![2, 2, 2, 3, 256, 1408]⟩
abbrev S24x256x1408 : Shape := ⟨3, ![24, 256, 1408]⟩

abbrev nBuf : Space → Nat
  | .hbm => 30
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S32x256x1408, .bf16⟩
  | .hbm, ⟨2, _⟩ => ⟨S2816x1024, .f32⟩
  | .hbm, ⟨3, _⟩ => ⟨S4x2x2x256x5632, .bf16⟩
  | .hbm, ⟨4, _⟩ => ⟨S2x2x2x4x256x1408, .bf16⟩
  | .hbm, ⟨5, _⟩ => ⟨S4x2x352x1024, .f32⟩
  | .hbm, ⟨6, _⟩ => ⟨S4x1x1x256x5632, .bf16⟩
  | .hbm, ⟨7, _⟩ => ⟨S4x256x5632, .bf16⟩
  | .hbm, ⟨8, _⟩ => ⟨S4x1x1x256x5632, .bf16⟩
  | .hbm, ⟨9, _⟩ => ⟨S4x256x5632, .bf16⟩
  | .hbm, ⟨10, _⟩ => ⟨S4x1x256x5632, .bf16⟩
  | .hbm, ⟨11, _⟩ => ⟨S4x1x256x5632, .bf16⟩
  | .hbm, ⟨12, _⟩ => ⟨S4x2x256x5632, .bf16⟩
  | .hbm, ⟨13, _⟩ => ⟨S2048x5632, .bf16⟩
  | .hbm, ⟨14, _⟩ => ⟨S2x2x2x1x256x1408, .bf16⟩
  | .hbm, ⟨15, _⟩ => ⟨S2x2x2x1x256x1408, .bf16⟩
  | .hbm, ⟨16, _⟩ => ⟨S2x2x2x256x1408, .bf16⟩
  | .hbm, ⟨17, _⟩ => ⟨S2x2x2x1x256x1408, .bf16⟩
  | .hbm, ⟨18, _⟩ => ⟨S2x2x2x1x256x1408, .bf16⟩
  | .hbm, ⟨19, _⟩ => ⟨S2x2x2x256x1408, .bf16⟩
  | .hbm, ⟨20, _⟩ => ⟨S2x2x2x1x256x1408, .bf16⟩
  | .hbm, ⟨21, _⟩ => ⟨S2x2x2x1x256x1408, .bf16⟩
  | .hbm, ⟨22, _⟩ => ⟨S2x2x2x256x1408, .bf16⟩
  | .hbm, ⟨23, _⟩ => ⟨S2x2x2x1x256x1408, .bf16⟩
  | .hbm, ⟨24, _⟩ => ⟨S2x2x2x1x256x1408, .bf16⟩
  | .hbm, ⟨25, _⟩ => ⟨S2x2x2x1x256x1408, .bf16⟩
  | .hbm, ⟨26, _⟩ => ⟨S2x2x2x3x256x1408, .bf16⟩
  | .hbm, ⟨27, _⟩ => ⟨S24x256x1408, .bf16⟩
  | .hbm, ⟨28, _⟩ => ⟨S4x2x352x1024, .f32⟩
  | .hbm, ⟨29, _⟩ => ⟨S2816x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Kernel8.lean ====
abbrev S2x2048x1024 : Shape := ⟨3, ![2, 2048, 1024]⟩
abbrev S1x1024x3584 : Shape := ⟨3, ![1, 1024, 3584]⟩
abbrev S4096x1024 : Shape := ⟨2, ![4096, 1024]⟩
abbrev S1024x3584 : Shape := ⟨2, ![1024, 3584]⟩
abbrev S1024x4096 : Shape := ⟨2, ![1024, 4096]⟩
abbrev S4096x512 : Shape := ⟨2, ![4096, 512]⟩
abbrev S4096x2048 : Shape := ⟨2, ![4096, 2048]⟩
abbrev S512x1024 : Shape := ⟨2, ![512, 1024]⟩
abbrev S1024x512 : Shape := ⟨2, ![1024, 512]⟩
abbrev S512x512 : Shape := ⟨2, ![512, 512]⟩
abbrev S512x2048 : Shape := ⟨2, ![512, 2048]⟩
abbrev S1024x1024 : Shape := ⟨2, ![1024, 1024]⟩
abbrev S1024x2048 : Shape := ⟨2, ![1024, 2048]⟩

abbrev nBuf : Space → Nat
  | .hbm => 9
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024x3584, .f32⟩
  | .hbm, ⟨2, _⟩ => ⟨S4096x1024, .f32⟩
  | .hbm, ⟨3, _⟩ => ⟨S1024x3584, .f32⟩
  | .hbm, ⟨4, _⟩ => ⟨S1024x3584, .bf16⟩
  | .hbm, ⟨5, _⟩ => ⟨S1024x4096, .bf16⟩
  | .hbm, ⟨6, _⟩ => ⟨S4096x512, .bf16⟩
  | .hbm, ⟨7, _⟩ => ⟨S4096x1024, .bf16⟩
  | .hbm, ⟨8, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S1024x512, .bf16⟩
  | .local _ .vmem, ⟨4, _⟩ => ⟨S1024x512, .bf16⟩
  | .local _ .vmem, ⟨5, _⟩ => ⟨S512x512, .bf16⟩
  | .local _ .vmem, ⟨6, _⟩ => ⟨S512x512, .bf16⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | .local _ .vmem, ⟨10, _⟩ => ⟨S512x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S2x2048x1024 : Shape := ⟨3, ![2, 2048, 1024]⟩
abbrev S1x1024x3584 : Shape := ⟨3, ![1, 1024, 3584]⟩
abbrev S1024x3584 : Shape := ⟨2, ![1024, 3584]⟩
abbrev S2x2048x3584 : Shape := ⟨3, ![2, 2048, 3584]⟩
abbrev S2x2048x512 : Shape := ⟨3, ![2, 2048, 512]⟩
abbrev S4096x1024 : Shape := ⟨2, ![4096, 1024]⟩
abbrev S1024x4096 : Shape := ⟨2, ![1024, 4096]⟩
abbrev S4096x512 : Shape := ⟨2, ![4096, 512]⟩
abbrev S2x2048x2048 : Shape := ⟨3, ![2, 2048, 2048]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x3584, .f32⟩
  | .hbm, ⟨2, _⟩ => ⟨S1024x3584, .f32⟩
  | .hbm, ⟨3, _⟩ => ⟨S2x2048x3584, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x1024, .f32⟩
  | .hbm, ⟨8, _⟩ => ⟨S2x2048x1024, .f32⟩
  | .hbm, ⟨9, _⟩ => ⟨S4096x1024, .f32⟩
  | .hbm, ⟨10, _⟩ => ⟨S4096x1024, .bf16⟩
  | .hbm, ⟨11, _⟩ => ⟨S1024x4096, .bf16⟩
  | .hbm, ⟨12, _⟩ => ⟨S4096x512, .f32⟩
  | .hbm, ⟨13, _⟩ => ⟨S4096x512, .bf16⟩
  | .hbm, ⟨14, _⟩ => ⟨S2x2048x1024, .f32⟩
  | .hbm, ⟨15, _⟩ => ⟨S4096x1024, .f32⟩
  | .hbm, ⟨16, _⟩ => ⟨S4096x1024, .bf16⟩
  | .hbm, ⟨17, _⟩ => ⟨S2x2048x2048, .f32⟩
  | .hbm, ⟨18, _⟩ => ⟨S4096x2048, .f32⟩
  | .hbm, ⟨19, _⟩ => ⟨S4096x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Kernel9.lean ====
abbrev S2x2048x1024 : Shape := ⟨3, ![2, 2048, 1024]⟩
abbrev S1x1024x3584 : Shape := ⟨3, ![1, 1024, 3584]⟩
abbrev S2x2048x512 : Shape := ⟨3, ![2, 2048, 512]⟩
abbrev S4096x1024 : Shape := ⟨2, ![4096, 1024]⟩
abbrev S4096x512 : Shape := ⟨2, ![4096, 512]⟩
abbrev S2x2048x2048 : Shape := ⟨3, ![2, 2048, 2048]⟩
abbrev S4096x2048 : Shape := ⟨2, ![4096, 2048]⟩
abbrev S1024x3584 : Shape := ⟨2, ![1024, 3584]⟩
abbrev S512x1024 : Shape := ⟨2, ![512, 1024]⟩
abbrev S512x512 : Shape := ⟨2, ![512, 512]⟩
abbrev S512x2048 : Shape := ⟨2, ![512, 2048]⟩
abbrev S1024x512 : Shape := ⟨2, ![1024, 512]⟩
abbrev S1024x1024 : Shape := ⟨2, ![1024, 1024]⟩
abbrev S1024x2048 : Shape := ⟨2, ![1024, 2048]⟩

abbrev nBuf : Space → Nat
  | .hbm => 20
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024x3584, .f32⟩
  | .hbm, ⟨2, _⟩ => ⟨S2x2048x1024, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x1024, .f32⟩
  | .hbm, ⟨7, _⟩ => ⟨S2x2048x1024, .f32⟩
  | .hbm, ⟨8, _⟩ => ⟨S4096x1024, .f32⟩
  | .hbm, ⟨9, _⟩ => ⟨S4096x512, .f32⟩
  | .hbm, ⟨10, _⟩ => ⟨S4096x512, .bf16⟩
  | .hbm, ⟨11, _⟩ => ⟨S2x2048x1024, .f32⟩
  | .hbm, ⟨12, _⟩ => ⟨S4096x1024, .f32⟩
  | .hbm, ⟨13, _⟩ => ⟨S4096x1024, .bf16⟩
  | .hbm, ⟨14, _⟩ => ⟨S2x2048x2048, .f32⟩
  | .hbm, ⟨15, _⟩ => ⟨S4096x2048, .f32⟩
  | .hbm, ⟨16, _⟩ => ⟨S4096x2048, .bf16⟩
  | .hbm, ⟨17, _⟩ => ⟨S1024x3584, .f32⟩
  | .hbm, ⟨18, _⟩ => ⟨S1024x3584, .bf16⟩
  | .hbm, ⟨19, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x3584, .bf16⟩
  | .local _ .vmem, ⟨9, _⟩ => ⟨S512x1024, .f32⟩
  | .local _ .vmem, ⟨10, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S2x2048x1024 : Shape := ⟨3, ![2, 2048, 1024]⟩
abbrev S1x1024x3584 : Shape := ⟨3, ![1, 1024, 3584]⟩
abbrev S2x2048x512 : Shape := ⟨3, ![2, 2048, 512]⟩
abbrev S1024x3584 : Shape := ⟨2, ![1024, 3584]⟩
abbrev S2x2048x3584 : Shape := ⟨3, ![2, 2048, 3584]⟩
abbrev S4096x1024 : Shape := ⟨2, ![4096, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x3584, .f32⟩
  | .hbm, ⟨2, _⟩ => ⟨S2x2048x1024, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x1024, .f32⟩
  | .hbm, ⟨7, _⟩ => ⟨S2x2048x1024, .f32⟩
  | .hbm, ⟨8, _⟩ => ⟨S1024x3584, .f32⟩
  | .hbm, ⟨9, _⟩ => ⟨S2x2048x3584, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .hbm, ⟨13, _⟩ => ⟨S2x2048x1024, .f32⟩
  | .hbm, ⟨14, _⟩ => ⟨S2x2048x1024, .f32⟩
  | .hbm, ⟨15, _⟩ => ⟨S2x2048x3584, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel10.lean ====
abbrev S2x2048x1024 : Shape := ⟨3, ![2, 2048, 1024]⟩
abbrev S1x1024x5632 : Shape := ⟨3, ![1, 1024, 5632]⟩
abbrev S2x2048x5632 : Shape := ⟨3, ![2, 2048, 5632]⟩
abbrev S4096x1024 : Shape := ⟨2, ![4096, 1024]⟩
abbrev S1024x4096 : Shape := ⟨2, ![1024, 4096]⟩
abbrev S4096x5632 : Shape := ⟨2, ![4096, 5632]⟩
abbrev S1024x5632 : Shape := ⟨2, ![1024, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 10
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1x1024x5632, .f32⟩
  | .hbm, ⟨2, _⟩ => ⟨S2x2048x5632, .f32⟩
  | .hbm, ⟨3, _⟩ => ⟨S4096x1024, .f32⟩
  | .hbm, ⟨4, _⟩ => ⟨S4096x1024, .bf16⟩
  | .hbm, ⟨5, _⟩ => ⟨S1024x4096, .bf16⟩
  | .hbm, ⟨6, _⟩ => ⟨S4096x5632, .f32⟩
  | .hbm, ⟨7, _⟩ => ⟨S4096x5632, .bf16⟩
  | .hbm, ⟨8, _⟩ => ⟨S1024x5632, .f32⟩
  | .hbm, ⟨9, _⟩ => ⟨S1024x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2x2048x1024 : Shape := ⟨3, ![2, 2048, 1024]⟩
abbrev S1x1024x5632 : Shape := ⟨3, ![1, 1024, 5632]⟩
abbrev S2x2048x5632 : Shape := ⟨3, ![2, 2048, 5632]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x5632, .f32⟩
  | .hbm, ⟨2, _⟩ => ⟨S2x2048x5632, .f32⟩
  | .hbm, ⟨3, _⟩ => ⟨S1024x5632, .f32⟩
  | .hbm, ⟨4, _⟩ => ⟨S2x2048x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 3
  | .vmem => 3
  | .smem => 0
  | _ => 0

abbrev bufTy : (tb : Table) → Fin (tcTables nBuf tb) → BufTy
  | .hbm, ⟨0, _⟩ => ⟨S256x1408, .f32⟩
  | .hbm, ⟨1, _⟩ => ⟨S3x256x1408, .bf16⟩
  | .hbm, ⟨2, _⟩ => ⟨S256x1408, .f32⟩
  | .local _ .vmem, ⟨0, _⟩ => ⟨S256x1408, .f32⟩
  | .local _ .vmem, ⟨1, _⟩ => ⟨S3x256x1408, .bf16⟩
  | .local _ .vmem, ⟨2, _⟩ => ⟨S256x1408, .f32⟩
  | _, _ => ⟨S256x1408, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference12Ideal.lean ====
abbrev S256x1408 : Shape := ⟨2, ![256, 1408]⟩
abbrev S3x256x1408 : Shape := ⟨3, ![3, 256, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1408, .f32⟩
  | .hbm, ⟨1, _⟩ => ⟨S3x256x1408, .bf16⟩
  | .hbm, ⟨2, _⟩ => ⟨S3x256x1408, .f32⟩
  | .hbm, ⟨3, _⟩ => ⟨S_, .f32⟩
  | .hbm, ⟨4, _⟩ => ⟨S256x1408, .f32⟩
  | .hbm, ⟨5, _⟩ => ⟨S256x1408, .f32⟩
  | _, _ => ⟨S256x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.RealNorm.lean ====
/- Real-number lemmas shared by the value proofs: sums and quotients of reals inside the extended reals, the literals of
   the programs, the layer norm of one row and its gradient, and the logistic function. -/
module
public import Idealize.ShloMosaic.Lib.IdealHost
public import Mathlib.Analysis.SpecialFunctions.Trigonometric.DerivHyp
@[expose] public section
noncomputable section
namespace Cert.RealNorm
open Idealize.ShloMosaic

/-! ## Reals inside the extended reals -/

/-- A finite sum of reals, read in the extended reals. -/
theorem sum_coe {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A quotient of reals with a denominator other than zero. -/
theorem div_real (x y : ℝ) (h : y ≠ 0) : Ideal.div (x : EReal) (y : EReal) = ((x / y : ℝ) : EReal) := by
  rw [Ideal.div_coe h, ← EReal.coe_mul, mul_one_div]

/-- The reciprocal square root of a positive real. -/
theorem rsqrt_real (x : ℝ) (h : 0 < x) : Ideal.rsqrt (x : EReal) = (((Real.sqrt x)⁻¹ : ℝ) : EReal) := by
  rw [Ideal.rsqrt_coe, if_neg (not_lt.mpr h.le), if_neg h.ne']

/-- An extended real that is neither infinity is its real part. -/
theorem eq_coe_of_abs_lt {x : EReal} (h : x ≠ ⊤) (h' : x ≠ ⊥) : x = ((x.toReal : ℝ) : EReal) := (EReal.coe_toReal h h').symm

/-! ## Literals -/

/-- The float word of ε of the layer norms, as a rational. -/
def eps : ℝ := 10995116 / 1099511627776
theorem eps_pos : 0 < eps := by unfold eps; norm_num
/-- The float word of the fourth root of two (the residual's factor), as a rational. -/
def alpha : ℝ := 9975792 / 8388608
theorem lit_half : Ideal.ofBits .f32 1056964608#32 = (((1 / 2 : ℝ)) : EReal) := by
  simp [Ideal.ofBits, Ideal.ieee, -EReal.coe_mul, -EReal.coe_neg]; norm_num
theorem lit_neg_half : Ideal.ofBits .f32 3204448256#32 = (((-(1 / 2) : ℝ)) : EReal) := by
  simp [Ideal.ofBits, Ideal.ieee, -EReal.coe_mul, -EReal.coe_neg]; norm_num
theorem lit_one : Ideal.ofBits .f32 1065353216#32 = (((1 : ℝ)) : EReal) := by
  rw [Ideal.ofBits_one_f32]; rfl
theorem lit_two : Ideal.ofBits .f32 1073741824#32 = (((2 : ℝ)) : EReal) := by
  simp [Ideal.ofBits, Ideal.ieee, -EReal.coe_mul, -EReal.coe_neg]; norm_num
theorem lit_1024 : Ideal.ofBits .f32 1149239296#32 = (((1024 : ℝ)) : EReal) := by
  simp [Ideal.ofBits, Ideal.ieee, -EReal.coe_mul, -EReal.coe_neg]; norm_num
theorem lit_512 : Ideal.ofBits .f32 1140850688#32 = (((512 : ℝ)) : EReal) := by
  simp [Ideal.ofBits, Ideal.ieee, -EReal.coe_mul, -EReal.coe_neg]; norm_num
theorem lit_eps : Ideal.ofBits .f32 925353388#32 = ((eps : ℝ) : EReal) := by
  simp [Ideal.ofBits, Ideal.ieee, eps, -EReal.coe_mul]; norm_num
theorem lit_alpha : Ideal.ofBits .f32 1066940400#32 = ((alpha : ℝ) : EReal) := by
  simp [Ideal.ofBits, Ideal.ieee, alpha, -EReal.coe_mul]; norm_num

/-! ## The logistic function -/

/-- The logistic function. -/
def sig (x : ℝ) : ℝ := (1 + Real.exp (-x))⁻¹
theorem one_add_exp_ne (x : ℝ) : 1 + Real.exp (-x) ≠ 0 := (by positivity : 0 < 1 + Real.exp (-x)).ne'
theorem sig_div (x : ℝ) : 1 / (1 + Real.exp (-x)) = sig x := one_div _
/-- The logistic function by the hyperbolic tangent of half the argument. -/
theorem sig_tanh (x : ℝ) : 1 / 2 * Real.tanh (1 / 2 * x) + 1 / 2 = sig x := by
  obtain ⟨t, rfl⟩ : ∃ t, x = 2 * t := ⟨x / 2, by ring⟩
  have h1 : Real.exp (-(2 * t)) = Real.exp (-t) * Real.exp (-t) := by rw [← Real.exp_add]; ring_nf
  have h2 : Real.exp t * Real.exp (-t) = 1 := by rw [← Real.exp_add]; simp
  have p1 := Real.exp_pos t
  have p2 := Real.exp_pos (-t)
  rw [sig, Real.tanh_eq_sinh_div_cosh, Real.sinh_eq, Real.cosh_eq, h1, show 1 / 2 * (2 * t) = t by ring]
  field_simp
  linear_combination (2 * Real.exp (-t)) * h2

/-! ## The layer norm of one row of `n` features -/

section Norm
variable {n : ℕ} (N : ℝ)
/-- The mean of a row. -/
def mean (f : Fin n → ℝ) : ℝ := (∑ k, f k) / N
/-- The row less its mean. -/
def cen (r : Fin n → ℝ) (k : Fin n) : ℝ := r k - mean N r
/-- The row's variance plus ε. -/
def vare (r : Fin n → ℝ) : ℝ := (∑ k, cen N r k * cen N r k) / N + eps
/-- The reciprocal of the row's standard deviation. -/
def rstd (r : Fin n → ℝ) : ℝ := (Real.sqrt (vare N r))⁻¹
/-- The normalised row. -/
def xhat (r : Fin n → ℝ) (k : Fin n) : ℝ := cen N r k * rstd N r
/-- The gradient of the normalised row against a cotangent `u`, from the saved normalised row and factor. -/
def normGrad (u xh : Fin n → ℝ) (s : ℝ) (k : Fin n) : ℝ := s * (u k - mean N u - xh k * mean N fun k => u k * xh k)
/-- The two first terms of the gradient as the chain rule writes it. -/
def chainA (r u : Fin n → ℝ) (k : Fin n) : ℝ := u k * rstd N r
/-- The term through the variance. -/
def chainB (r u : Fin n → ℝ) (k : Fin n) : ℝ :=
  (∑ j, cen N r j * u j) * (-(1 / 2) * (rstd N r / vare N r)) / N * (2 * cen N r k)
/-- The gradient as the chain rule writes it: through the centred row, the variance and the mean. -/
def chainGrad (r u : Fin n → ℝ) (k : Fin n) : ℝ :=
  chainA N r u k + chainB N r u k + (∑ j, -chainA N r u j + ∑ j, -chainB N r u j) / N

variable {N}
theorem vare_pos (hN : 0 < N) (r : Fin n → ℝ) : 0 < vare N r :=
  add_pos_of_nonneg_of_pos (div_nonneg (Finset.sum_nonneg fun _ _ => mul_self_nonneg _) hN.le) eps_pos
theorem sum_cen (hN : 0 < N) (hn : N = n) (r : Fin n → ℝ) : ∑ k, cen N r k = 0 := by
  have : N ≠ 0 := hN.ne'
  simp only [cen, mean, Finset.sum_sub_distrib, Finset.sum_const, Finset.card_univ, Fintype.card_fin, nsmul_eq_mul, ← hn]
  field_simp; ring
theorem rstd_sq (hN : 0 < N) (r : Fin n → ℝ) : rstd N r * rstd N r = 1 / vare N r := by
  have h := vare_pos hN r
  rw [rstd, ← mul_inv, Real.mul_self_sqrt h.le, one_div]
/-- The two spellings of the gradient agree. -/
theorem chainGrad_eq (hN : 0 < N) (hn : N = n) (r u : Fin n → ℝ) (k : Fin n) :
    chainGrad N r u k = normGrad N u (xhat N r) (rstd N r) k := by
  have hv := (vare_pos hN r).ne'
  have hs := rstd_sq hN r
  have hB : ∑ j, -chainB N r u j = 0 := by
    simp only [chainB, Finset.sum_neg_distrib, ← Finset.mul_sum, sum_cen hN hn]; simp
  have hA : ∑ j, -chainA N r u j = -((∑ j, u j) * rstd N r) := by
    simp only [chainA, Finset.sum_neg_distrib, Finset.sum_mul]
  have hX : ∑ j, u j * xhat N r j = (∑ j, cen N r j * u j) * rstd N r := by
    rw [Finset.sum_mul]; exact Finset.sum_congr rfl fun j _ => by rw [xhat]; ring
  rw [chainGrad, hB, hA, normGrad, mean, mean, hX, chainA, chainB, xhat]
  have e : rstd N r / vare N r = rstd N r * (rstd N r * rstd N r) := by rw [hs, mul_one_div]
  rw [e]; ring
end Norm

end Cert.RealNorm
end
-- ==== Proof.Mix.Model.lean ====
/- The merge of the two branches and the residual's layer norm, row by row over the reals: what both programs compute. -/
module
public import proofs.«01_k».proof.Proof.RealNorm
@[expose] public section
noncomputable section
namespace Cert.Mix
open Cert.RealNorm

/-- A row times a matrix. -/
def lin {K n : ℕ} (v : Fin K → ℝ) (M : Fin K → Fin n → ℝ) (d : Fin n) : ℝ := ∑ k, v k * M k d
/-- A row times a transposed matrix. -/
def linT {K n : ℕ} (v : Fin K → ℝ) (M : Fin n → Fin K → ℝ) (d : Fin n) : ℝ := ∑ k, v k * M d k
/-- The gated sum of the two branches. -/
def mixed {K n : ℕ} (s g : Fin K → ℝ) (ga gb : Fin n → ℝ) (UA UB : Fin K → Fin n → ℝ) (d : Fin n) : ℝ :=
  sig (ga d) * lin s UA d + sig (gb d) * lin g UB d
/-- The residual: α times the stream plus a product. -/
def res {K n : ℕ} (x : Fin n → ℝ) (y : Fin K → ℝ) (W : Fin K → Fin n → ℝ) (d : Fin n) : ℝ := alpha * x d + lin y W d

end Cert.Mix
end
-- ==== Proof.Mix.Ref.lean ====
/- The reference's values from real arguments: the nodes of its chain rule, row by row. -/
module
public import proofs.«01_k».proof.Proof.Gen.ReferenceIdeal.Run
public import proofs.«01_k».proof.Proof.Mix.Model
public import Idealize.ShloMosaic.Lib.Pipeline.ValueKit
public import Idealize.ShloMosaic.Lib.Pointwise
@[expose] public section
set_option maxRecDepth 16384
noncomputable section
namespace Cert.Mix.Ref
open Idealize.ShloMosaic Idealize.ShloMosaic.TcCoe Idealize.SL.Sem Cert.ReferenceIdeal Cert.ReferenceIdeal.Value Cert.RealNorm

variable (V0 : Valuation τ sig (Elt Ideal))
variable {X CT : Fin 2 → Fin 2048 → Fin 1024 → ℝ} {S G : Fin 2 → Fin 2048 → Fin 512 → ℝ} {GA GB : Fin 2 → Fin 2048 → Fin 1024 → ℝ}
  {UA UB : Fin 512 → Fin 1024 → ℝ} {W : Fin 1024 → Fin 1024 → ℝ} {gg : Fin 1024 → ℝ}

/-- The arguments are real arrays. -/
structure Args (X CT : Fin 2 → Fin 2048 → Fin 1024 → ℝ) (S G : Fin 2 → Fin 2048 → Fin 512 → ℝ) (GA GB : Fin 2 → Fin 2048 → Fin 1024 → ℝ)
    (UA UB : Fin 512 → Fin 1024 → ℝ) (W : Fin 1024 → Fin 1024 → ℝ) (gg : Fin 1024 → ℝ) : Prop where
  x : ∀ i, V0 (Proc.devRef .tc main_arg0) i = ((X (i 0) (i 1) (i 2) : ℝ) : EReal)
  s : ∀ i, V0 (Proc.devRef .tc main_arg1) i = ((S (i 0) (i 1) (i 2) : ℝ) : EReal)
  g : ∀ i, V0 (Proc.devRef .tc main_arg2) i = ((G (i 0) (i 1) (i 2) : ℝ) : EReal)
  ga : ∀ i, V0 (Proc.devRef .tc main_arg3) i = ((GA (i 0) (i 1) (i 2) : ℝ) : EReal)
  gb : ∀ i, V0 (Proc.devRef .tc main_arg4) i = ((GB (i 0) (i 1) (i 2) : ℝ) : EReal)
  ua : ∀ i, V0 (Proc.devRef .tc main_arg5) i = ((UA (i 1) (i 2) : ℝ) : EReal)
  ub : ∀ i, V0 (Proc.devRef .tc main_arg6) i = ((UB (i 1) (i 2) : ℝ) : EReal)
  w : ∀ i, V0 (Proc.devRef .tc main_arg7) i = ((W (i 1) (i 2) : ℝ) : EReal)
  gg : ∀ i, V0 (Proc.devRef .tc main_arg8) i = ((gg (i 1) : ℝ) : EReal)
  ct : ∀ i, V0 (Proc.devRef .tc main_arg10) i = ((CT (i 0) (i 1) (i 2) : ℝ) : EReal)

/-- The residual's row. -/
def rr (X : Fin 2 → Fin 2048 → Fin 1024 → ℝ) (S G : Fin 2 → Fin 2048 → Fin 512 → ℝ) (GA GB : Fin 2 → Fin 2048 → Fin 1024 → ℝ)
    (UA UB : Fin 512 → Fin 1024 → ℝ) (W : Fin 1024 → Fin 1024 → ℝ) (b : Fin 2) (l : Fin 2048) : Fin 1024 → ℝ :=
  res (X b l) (mixed (S b l) (G b l) (GA b l) (GB b l) UA UB) W
variable (h : Args V0 X CT S G GA GB UA UB W gg)
include h
theorem v0 (i) : res_main_v0 V0 i = ((UA (i 0) (i 1) : ℝ) : EReal) := by
  pointwise [res_main_v0]
  simp only [h.ua]
  rfl
theorem v2 (i) : res_main_v2 V0 i = ((UB (i 0) (i 1) : ℝ) : EReal) := by
  pointwise [res_main_v2]
  simp only [h.ub]
  rfl
theorem v25 (i) : res_main_v25 V0 i = ((W (i 0) (i 1) : ℝ) : EReal) := by
  pointwise [res_main_v25]
  simp only [h.w]
  rfl
theorem v1 (i) : res_main_v1 V0 i = ((lin (S (i 0) (i 1)) UA (i 2) : ℝ) : EReal) := by
  pointwise [res_main_v1]
  simp only [h.s, v0 V0 h, ← EReal.coe_mul, ← EReal.coe_add, ← EReal.coe_sub, sum_coe, div_real _ 1024 (by norm_num)]
  rfl
theorem v3 (i) : res_main_v3 V0 i = ((lin (G (i 0) (i 1)) UB (i 2) : ℝ) : EReal) := by
  pointwise [res_main_v3]
  simp only [h.g, v2 V0 h, ← EReal.coe_mul, ← EReal.coe_add, ← EReal.coe_sub, sum_coe, div_real _ 1024 (by norm_num)]
  rfl
theorem v9 (i) : res_main_v9 V0 i = ((sig (GA (i 0) (i 1) (i 2)) : ℝ) : EReal) := by
  pointwise [res_main_v9]
  simp only [h.ga, ← EReal.coe_neg, Ideal.exp_coe, ← EReal.coe_one, ← EReal.coe_add, div_real _ _ (one_add_exp_ne _), sig_div]
theorem v19 (i) : res_main_v19 V0 i = ((sig (GB (i 0) (i 1) (i 2)) : ℝ) : EReal) := by
  pointwise [res_main_v19]
  simp only [h.gb, ← EReal.coe_neg, Ideal.exp_coe, ← EReal.coe_one, ← EReal.coe_add, div_real _ _ (one_add_exp_ne _), sig_div]
theorem v24 (i) : res_main_v24 V0 i = ((mixed (S (i 0) (i 1)) (G (i 0) (i 1)) (GA (i 0) (i 1)) (GB (i 0) (i 1)) UA UB (i 2) : ℝ) : EReal) := by
  pointwise [res_main_v24]
  simp only [v9 V0 h, v1 V0 h, v19 V0 h, v3 V0 h, ← EReal.coe_mul, ← EReal.coe_add, ← EReal.coe_sub, sum_coe, div_real _ 1024 (by norm_num)]
  rfl
theorem v29 (i) : res_main_v29 V0 i = (((rr X S G GA GB UA UB W (i 0) (i 1)) (i 2) : ℝ) : EReal) := by
  pointwise [res_main_v29]
  simp only [h.x, v24 V0 h, v25 V0 h, lit_alpha, ← EReal.coe_mul, ← EReal.coe_add, ← EReal.coe_sub, sum_coe, div_real _ 1024 (by norm_num)]
  rfl
theorem v35 (i) : res_main_v35 V0 i = ((mean 1024 (rr X S G GA GB UA UB W (i 0) (i 1)) : ℝ) : EReal) := by
  pointwise [res_main_v35]
  simp only [v29 V0 h, lit_1024, ← EReal.coe_mul, ← EReal.coe_add, ← EReal.coe_sub, sum_coe, div_real _ 1024 (by norm_num)]
  rfl
theorem v37 (i) : res_main_v37 V0 i = ((cen 1024 (rr X S G GA GB UA UB W (i 0) (i 1)) (i 2) : ℝ) : EReal) := by
  pointwise [res_main_v37]
  simp only [v29 V0 h, v35 V0 h, ← EReal.coe_mul, ← EReal.coe_add, ← EReal.coe_sub, sum_coe, div_real _ 1024 (by norm_num)]
  rfl
theorem v46 (i) : res_main_v46 V0 i = ((vare 1024 (rr X S G GA GB UA UB W (i 0) (i 1)) : ℝ) : EReal) := by
  pointwise [res_main_v46]
  simp only [v37 V0 h, lit_1024, lit_eps, ← EReal.coe_mul, ← EReal.coe_add, ← EReal.coe_sub, sum_coe, div_real _ 1024 (by norm_num)]
  rfl
theorem v47 (i) : res_main_v47 V0 i = ((rstd 1024 (rr X S G GA GB UA UB W (i 0) (i 1)) : ℝ) : EReal) := by
  pointwise [res_main_v47]
  simp only [v46 V0 h, rsqrt_real _ (vare_pos (N := 1024) (by norm_num) _)]
  rfl
theorem v52 (i) : res_main_v52 V0 i = ((cen 1024 (rr X S G GA GB UA UB W (i 0) (i 1)) (i 2) : ℝ) : EReal) := by
  pointwise [res_main_v52]
  simp only [v29 V0 h, v35 V0 h, ← EReal.coe_mul, ← EReal.coe_add, ← EReal.coe_sub, sum_coe, div_real _ 1024 (by norm_num)]
  rfl
theorem v54 (i) : res_main_v54 V0 i = ((xhat 1024 (rr X S G GA GB UA UB W (i 0) (i 1)) (i 2) : ℝ) : EReal) := by
  pointwise [res_main_v54]
  simp only [v52 V0 h, v47 V0 h, ← EReal.coe_mul, ← EReal.coe_add, ← EReal.coe_sub, sum_coe, div_real _ 1024 (by norm_num)]
  rfl
theorem v55 (i) : res_main_v55 V0 i = ((gg (i 2) : ℝ) : EReal) := by
  pointwise [res_main_v55]
  simp only [h.gg]
  rfl
theorem v61 (i) : res_main_v61 V0 i = ((CT (i 0) (i 1) (i 2) : ℝ) : EReal) := by
  pointwise [res_main_v61]
  simp only [h.ct]
theorem v69 (i) : res_main_v69 V0 i = ((CT (i 0) (i 1) (i 2) * gg (i 2) : ℝ) : EReal) := by
  pointwise [res_main_v69]
  simp only [v61 V0 h, v55 V0 h, ← EReal.coe_mul, ← EReal.coe_add, ← EReal.coe_sub, sum_coe, div_real _ 1024 (by norm_num)]
  rfl
theorem v75 (i) : res_main_v75 V0 i = ((chainA 1024 (rr X S G GA GB UA UB W (i 0) (i 1)) (fun k => CT (i 0) (i 1) k * gg k) (i 2) : ℝ) : EReal) := by
  pointwise [res_main_v75]
  simp only [v69 V0 h, v47 V0 h, ← EReal.coe_mul, ← EReal.coe_add, ← EReal.coe_sub, sum_coe, div_real _ 1024 (by norm_num)]
  rfl
theorem v84 (i) : res_main_v84 V0 i = ((chainB 1024 (rr X S G GA GB UA UB W (i 0) (i 1)) (fun k => CT (i 0) (i 1) k * gg k) (i 2) : ℝ) : EReal) := by
  pointwise [res_main_v84]
  simp only [Fin.sum_univ_one, div_real _ _ (vare_pos (N := 1024) (by norm_num) _).ne', v37 V0 h, v52 V0 h, v69 V0 h, v47 V0 h, v46 V0 h, lit_neg_half, lit_two, lit_1024, ← EReal.coe_mul, ← EReal.coe_add, ← EReal.coe_sub, sum_coe, div_real _ 1024 (by norm_num)]
  rfl
theorem v94 (i) : res_main_v94 V0 i = ((chainGrad 1024 (rr X S G GA GB UA UB W (i 0) (i 1)) (fun k => CT (i 0) (i 1) k * gg k) (i 2) : ℝ) : EReal) := by
  pointwise [res_main_v94]
  simp only [Fin.sum_univ_one, ← EReal.coe_neg, v75 V0 h, v84 V0 h, lit_1024, ← EReal.coe_mul, ← EReal.coe_add, ← EReal.coe_sub, sum_coe, div_real _ 1024 (by norm_num)]
  rfl
/-- The chain rule's gradient is the normalised rows' own formula. -/
theorem v94' (i) : res_main_v94 V0 i = ((normGrad 1024 (fun k => CT (i 0) (i 1) k * gg k) (xhat 1024 (rr X S G GA GB UA UB W (i 0) (i 1))) (rstd 1024 (rr X S G GA GB UA UB W (i 0) (i 1))) (i 2) : ℝ) : EReal) := by
  exact (v94 V0 h i).trans (congrArg _ (chainGrad_eq (N := 1024) (by norm_num) (by norm_num) _ _ _))
theorem v99 (i) : res_main_v99 V0 i = ((linT (normGrad 1024 (fun k => CT (i 0) (i 1) k * gg k) (xhat 1024 (rr X S G GA GB UA UB W (i 0) (i 1))) (rstd 1024 (rr X S G GA GB UA UB W (i 0) (i 1)))) W (i 2) : ℝ) : EReal) := by
  pointwise [res_main_v99]
  simp only [v94' V0 h, v25 V0 h, ← EReal.coe_mul, sum_coe]
  rfl
theorem v100 (i) : res_main_v100 V0 i = ((linT (normGrad 1024 (fun k => CT (i 0) (i 1) k * gg k) (xhat 1024 (rr X S G GA GB UA UB W (i 0) (i 1))) (rstd 1024 (rr X S G GA GB UA UB W (i 0) (i 1)))) W (i 2) * sig (GB (i 0) (i 1) (i 2)) : ℝ) : EReal) := by
  pointwise [res_main_v100]
  simp only [v19 V0 h, v99 V0 h, ← EReal.coe_mul, mul_comm (sig _)]
theorem v103 (i) : res_main_v103 V0 i = ((linT (normGrad 1024 (fun k => CT (i 0) (i 1) k * gg k) (xhat 1024 (rr X S G GA GB UA UB W (i 0) (i 1))) (rstd 1024 (rr X S G GA GB UA UB W (i 0) (i 1)))) W (i 2) * sig (GA (i 0) (i 1) (i 2)) : ℝ) : EReal) := by
  pointwise [res_main_v103]
  simp only [v9 V0 h, v99 V0 h, ← EReal.coe_mul, mul_comm (sig _)]
end Cert.Mix.Ref
end
-- ==== Proof.Finite.lean ====
/- What a precondition «every element of the array is finite» says over the extended reals, and rank-3 indices as flat rows. -/
module
public import Idealize.ShloMosaic.Lib.ReduceAll
public import Idealize.ShloMosaic.PureOps.Ideal.Laws
public import Idealize.ShloMosaic.Lib.ValueIdx
public import Idealize.ShloMosaic.Lib.Pipeline.ValueKit.Acc
public import proofs.«01_k».proof.Proof.RealNorm
@[expose] public section
noncomputable section
namespace Cert.Finite
open Idealize.ShloMosaic

/-- `jnp.all(jnp.abs(x) < inf)` holds: every element is its real part. -/
theorem coe_of_all {s t u : Shape} {axes : List (Fin s.rank)} [Subsingleton t.Idx] (x b : FVec Ideal s .f32) (hb : ∀ i, b i = (⊤ : EReal))
    (init : IVec u 1) (h : s.ReducesTo axes t) (hu : 0 < u.numel) (j : t.Idx)
    (e : Host.reduce IntOp.andi (cmpf .olt (Host.absf x) b) init h hu j = 1#1) (i : s.Idx) : x i = (((x i : EReal).toReal : ℝ) : EReal) := by
  have h1 := Host.reduce_andi_all _ _ _ _ j e i
  have h2 : BitVec.ofBool (decide (max (x i : EReal) (-(x i : EReal)) < b i)) = 1#1 := h1
  have h3 : max (x i : EReal) (-(x i : EReal)) < b i := by
    by_contra hn
    simp [hn] at h2
  rw [hb i] at h3
  refine RealNorm.eq_coe_of_abs_lt (fun hx => ?_) (fun hx => ?_) <;> simp [hx] at h3

/-- A conjunction of two truth values that holds. -/
theorem and_one {s : Shape} {a b : IVec s 1} {j : s.Idx} (h : andi a b j = 1#1) : a j = 1#1 ∧ b j = 1#1 := IntOp.andi_eq_one.1 h

/-- The word of +∞. -/
theorem lit_top : Ideal.ofBits .f32 0x7F800000#32 = ⊤ := by simp [Ideal.ofBits, Ideal.ieee]

/-- Row `l` of batch `b`, among all rows. -/
def bl (b : Fin 2) (l : Fin 2048) : Fin 4096 := ⟨b.val * 2048 + l.val, by omega⟩
/-- A row's batch and its place there. -/
def rb (r : Fin 4096) : Fin 2 := ⟨r.val / 2048, by omega⟩
def rl (r : Fin 4096) : Fin 2048 := ⟨r.val % 2048, by omega⟩
theorem bl_rb (r : Fin 4096) : bl (rb r) (rl r) = r := Fin.ext (by simp [bl, rb, rl]; omega)
theorem rb_bl (b : Fin 2) (l : Fin 2048) : rb (bl b l) = b := Fin.ext (by simp [bl, rb]; omega)
theorem rl_bl (b : Fin 2) (l : Fin 2048) : rl (bl b l) = l := Fin.ext (by simp [bl, rl])

/-- An array of two batches, read by its flat rows. -/
theorem at_row {n : Nat} (i : (⟨3, ![2, 2048, n]⟩ : Shape).Idx) : i = ValueIdx.ix3 (rb (bl (i 0) (i 1))) (rl (bl (i 0) (i 1))) (i 2) :=
  (ValueIdx.eq_ix3 i).trans (congrArg₂ (fun a b => ValueIdx.ix3 a b (i 2)) (rb_bl (i 0) (i 1)).symm (rl_bl (i 0) (i 1)).symm)
/-- An array of one matrix, and of one row. -/
theorem at_one {a b : Nat} (i : (⟨3, ![1, a, b]⟩ : Shape).Idx) : i = ValueIdx.ix3 (0 : Fin 1) (i 1) (i 2) :=
  (ValueIdx.eq_ix3 i).trans (congrArg (fun k : Fin 1 => ValueIdx.ix3 k (i 1) (i 2)) (Subsingleton.elim (α := Fin 1) (i 0) 0))
theorem at_row1 {a : Nat} (i : (⟨2, ![1, a]⟩ : Shape).Idx) : i = ValueIdx.ix2 (0 : Fin 1) (i 1) :=
  (ValueIdx.eq_ix2 i).trans (congrArg (fun k : Fin 1 => ValueIdx.ix2 k (i 1)) (Subsingleton.elim (α := Fin 1) (i 0) 0))

/-- A double sum over batches and places is the sum over all rows. -/
theorem sum_bl (f : Fin 4096 → ℝ) : ∑ b : Fin 2, ∑ l : Fin 2048, f (bl b l) = ∑ r, f r :=
  Fin.sum_mul_add_congr fun b l hl => congrArg f (Fin.ext rfl)

end Cert.Finite
end
-- ==== Proof.Mix.Pay1.lean ====
/- The gradient body's payloads over real blocks. -/
module
public import proofs.«01_k».proof.Proof.Gen.KernelIdeal.Skeleton
public import proofs.«01_k».proof.Proof.Mix.Model
public import Idealize.ShloMosaic.Lib.Pipeline.ValueKit
public import Idealize.ShloMosaic.Lib.Pointwise
@[expose] public section
set_option maxRecDepth 16384
noncomputable section
namespace Cert.Mix
open Idealize.ShloMosaic Idealize.SL.Sem Cert.KernelIdeal Cert.KernelIdeal.Gen Cert.RealNorm

/-- The gradient of the residual. -/
theorem pay_dr (ct xh : Fin 512 → Fin 1024 → ℝ) (s : Fin 512 → ℝ) (g : Fin 1024 → ℝ)
    (v3 v5 : Vec Ideal S512x1024 .f32) (v7 : Vec Ideal S512x1 .f32) (v9 : Vec Ideal S1x1024 .f32)
    (h3 : ∀ i, v3 i = ((ct (i 0) (i 1) : ℝ) : EReal)) (h5 : ∀ i, v5 i = ((xh (i 0) (i 1) : ℝ) : EReal))
    (h7 : ∀ i, v7 i = ((s (i 0) : ℝ) : EReal)) (h9 : ∀ i, v9 i = ((g (i 1) : ℝ) : EReal)) (j : S512x1024.Idx) :
    k1_pay7 v3 v5 v7 v9 j = ((normGrad 1024 (fun k => ct (j 0) k * g k) (xh (j 0)) (s (j 0)) (j 1) : ℝ) : EReal) := by
  pointwise [k1_pay7, k1_pay5, k1_pay6]
  simp only [h3, h5, h7, h9, lit_1024, ← EReal.coe_mul, ← EReal.coe_add, ← EReal.coe_sub, sum_coe, div_real _ 1024 (by norm_num)]
  rfl
/-- Its α-fold, and itself with a cast. -/
theorem pay_dx (f : Fin 512 → Fin 1024 → ℝ) (v : FVec Ideal S512x1024 .f32) (h : ∀ i, v i = ((f (i 0) (i 1) : ℝ) : EReal)) (j : S512x1024.Idx) :
    k1_pay10 v j = ((alpha * f (j 0) (j 1) : ℝ) : EReal) := by
  pointwise [k1_pay10]
  simp only [h, lit_alpha, ← EReal.coe_mul]
theorem pay_dm (v : FVec Ideal S512x1024 .f32) (j : S512x1024.Idx) : k1_pay11 v j = v j := by pointwise [k1_pay11]
/-- The gradient of the gated sum. -/
theorem pay_dmix (f : Fin 512 → Fin 1024 → ℝ) (W : Fin 1024 → Fin 1024 → ℝ) (v : FVec Ideal S512x1024 .f32) (w : Vec Ideal S1024x1024 .bf16)
    (h : ∀ i, v i = ((f (i 0) (i 1) : ℝ) : EReal)) (hw : ∀ i, w i = ((W (i 0) (i 1) : ℝ) : EReal)) (j : S512x1024.Idx) :
    k1_pay12 v w j = ((linT (f (j 0)) W (j 1) : ℝ) : EReal) := by
  pointwise [k1_pay12, k1_pay11]
  simp only [h, hw, ← EReal.coe_mul, sum_coe]
  rfl
/-- The two branches' products. -/
theorem pay_ya (s : Fin 512 → Fin 512 → ℝ) (U : Fin 512 → Fin 1024 → ℝ) (v : Vec Ideal S512x512 .bf16) (w : Vec Ideal S512x1024 .bf16)
    (h : ∀ i, v i = ((s (i 0) (i 1) : ℝ) : EReal)) (hw : ∀ i, w i = ((U (i 0) (i 1) : ℝ) : EReal)) (j : S512x1024.Idx) :
    k1_pay13 v w j = ((lin (s (j 0)) U (j 1) : ℝ) : EReal) := by
  pointwise [k1_pay13]
  simp only [h, hw, ← EReal.coe_mul, sum_coe]
  rfl
theorem pay_yb (s : Fin 512 → Fin 512 → ℝ) (U : Fin 512 → Fin 1024 → ℝ) (v : Vec Ideal S512x512 .bf16) (w : Vec Ideal S512x1024 .bf16)
    (h : ∀ i, v i = ((s (i 0) (i 1) : ℝ) : EReal)) (hw : ∀ i, w i = ((U (i 0) (i 1) : ℝ) : EReal)) (j : S512x1024.Idx) :
    k1_pay14 v w j = ((lin (s (j 0)) U (j 1) : ℝ) : EReal) := by
  pointwise [k1_pay14]
  simp only [h, hw, ← EReal.coe_mul, sum_coe]
  rfl
/-- The two gates. -/
theorem pay_gate (a : Fin 512 → Fin 1024 → ℝ) (v : Vec Ideal S512x1024 .bf16) (h : ∀ i, v i = ((a (i 0) (i 1) : ℝ) : EReal))
    (x : Ideal .f32) (hx : x = Ideal.ofBits .f32 0x3F000000#32) (j : S512x1024.Idx) :
    k1_pay16 (k1_pay15 v) x j = ((sig (a (j 0) (j 1)) : ℝ) : EReal) := by
  subst hx
  pointwise [k1_pay16, k1_pay15]
  simp only [h, lit_half, ← EReal.coe_mul, Ideal.tanh_coe, ← EReal.coe_add, sig_tanh]
theorem pay_gate' (a : Fin 512 → Fin 1024 → ℝ) (v : Vec Ideal S512x1024 .bf16) (h : ∀ i, v i = ((a (i 0) (i 1) : ℝ) : EReal)) (j : S512x1024.Idx) :
    k1_pay17 v j = ((sig (a (j 0) (j 1)) : ℝ) : EReal) := by
  pointwise [k1_pay17]
  simp only [h, lit_half, ← EReal.coe_mul, Ideal.tanh_coe, ← EReal.coe_add, sig_tanh]

section Gates
variable (dm ya yb ga gb : Fin 512 → Fin 1024 → ℝ) (v48 v53 v58 : FVec Ideal S512x1024 .f32) (v59 v69 : Vec Ideal S512x1024 .bf16)
  (h48 : ∀ i, v48 i = ((dm (i 0) (i 1) : ℝ) : EReal)) (h53 : ∀ i, v53 i = ((ya (i 0) (i 1) : ℝ) : EReal))
  (h58 : ∀ i, v58 i = ((yb (i 0) (i 1) : ℝ) : EReal)) (h59 : ∀ i, v59 i = ((ga (i 0) (i 1) : ℝ) : EReal))
  (h69 : ∀ i, v69 i = ((gb (i 0) (i 1) : ℝ) : EReal))
include h53 h58 h59 h69 in
/-- The gated sum, transposed. -/
theorem pay_mixT (j : S1024x512.Idx) :
    k1_pay18 v53 v58 (k1_pay15 v59) (Scalar.ofBits .f32 0x3F000000#32) v69 j
      = ((sig (ga (j 1) (j 0)) * ya (j 1) (j 0) + sig (gb (j 1) (j 0)) * yb (j 1) (j 0) : ℝ) : EReal) := by
  pointwise [k1_pay18]
  rw [pay_gate ga v59 h59 _ rfl, pay_gate' gb v69 h69, h53, h58]
  simp only [← EReal.coe_mul, ← EReal.coe_add]
  rfl
include h48 h59 in
/-- The branches' gradients. -/
theorem pay_dya (j : S512x1024.Idx) :
    k1_pay19 v48 (k1_pay15 v59) (Scalar.ofBits .f32 0x3F000000#32) j = ((dm (j 0) (j 1) * sig (ga (j 0) (j 1)) : ℝ) : EReal) := by
  pointwise [k1_pay19]
  rw [pay_gate ga v59 h59 _ rfl, h48, ← EReal.coe_mul]
include h48 h69 in
theorem pay_dyb (j : S512x1024.Idx) :
    k1_pay20 v48 v69 j = ((dm (j 0) (j 1) * sig (gb (j 0) (j 1)) : ℝ) : EReal) := by
  pointwise [k1_pay20]
  rw [pay_gate' gb v69 h69, h48, ← EReal.coe_mul]
include h48 h53 h59 in
/-- The gates' gradients. -/
theorem pay_dga (j : S512x1024.Idx) :
    k1_pay21 v48 v53 (k1_pay15 v59) (Scalar.ofBits .f32 0x3F000000#32) j
      = ((dm (j 0) (j 1) * ya (j 0) (j 1) * sig (ga (j 0) (j 1)) * (1 - sig (ga (j 0) (j 1))) : ℝ) : EReal) := by
  pointwise [k1_pay21]
  rw [pay_gate ga v59 h59 _ rfl, h48, h53, ← EReal.coe_one]
  simp only [← EReal.coe_mul, ← EReal.coe_sub]
include h48 h58 h69 in
theorem pay_dgb (j : S512x1024.Idx) :
    k1_pay22 v48 v58 v69 j
      = ((dm (j 0) (j 1) * yb (j 0) (j 1) * sig (gb (j 0) (j 1)) * (1 - sig (gb (j 0) (j 1))) : ℝ) : EReal) := by
  pointwise [k1_pay22]
  rw [pay_gate' gb v69 h69, h48, h58, ← EReal.coe_one]
  simp only [← EReal.coe_mul, ← EReal.coe_sub]
end Gates

/-- The branches' inputs' gradients. -/
theorem pay_ds (f : Fin 512 → Fin 1024 → ℝ) (U : Fin 512 → Fin 1024 → ℝ) (v : FVec Ideal S512x1024 .bf16) (w : Vec Ideal S512x1024 .bf16)
    (h : ∀ i, v i = ((f (i 0) (i 1) : ℝ) : EReal)) (hw : ∀ i, w i = ((U (i 0) (i 1) : ℝ) : EReal)) (j : S512x512.Idx) :
    k1_pay1 v w j = ((linT (f (j 0)) U (j 1) : ℝ) : EReal) := by
  pointwise [k1_pay1]
  simp only [h, hw, ← EReal.coe_mul, sum_coe]
  rfl
theorem pay_dg (f : Fin 512 → Fin 1024 → ℝ) (U : Fin 512 → Fin 1024 → ℝ) (v : FVec Ideal S512x1024 .bf16) (w : Vec Ideal S512x1024 .bf16)
    (h : ∀ i, v i = ((f (i 0) (i 1) : ℝ) : EReal)) (hw : ∀ i, w i = ((U (i 0) (i 1) : ℝ) : EReal)) (j : S512x512.Idx) :
    k1_pay2 v w j = ((linT (f (j 0)) U (j 1) : ℝ) : EReal) := by
  pointwise [k1_pay2]
  simp only [h, hw, ← EReal.coe_mul, sum_coe]
  rfl

/-- The two accumulated rows: zero at the first block, a column sum added at each. -/
theorem pay_zero (j : S1x1024.Idx) : k1_pay3 (F := Ideal) j = 0 := by pointwise [k1_pay3]
theorem pay_zero' (j : S1x1024.Idx) : k1_pay4 (F := Ideal) j = 0 := by pointwise [k1_pay4]
theorem pay_scale (v3 v5 : Vec Ideal S512x1024 .f32) (a : Vec Ideal S1x1024 .f32) (j : S1x1024.Idx) :
    k1_pay8 v3 v5 a j = a j + ∑ k : Fin 512, v3 (ix2 k (j 1)) * v5 (ix2 k (j 1)) := by
  pointwise [k1_pay8, k1_pay5, k1_pay6]
theorem pay_shift (v3 : Vec Ideal S512x1024 .f32) (a : Vec Ideal S1x1024 .f32) (j : S1x1024.Idx) :
    k1_pay9 (k1_pay5 v3) a j = a j + ∑ k : Fin 512, v3 (ix2 k (j 1)) := by
  pointwise [k1_pay9, k1_pay5]

end Cert.Mix
end
-- ==== Proof.Mix.Pay0.lean ====
/- The forward body's payloads over real blocks. -/
module
public import proofs.«01_k».proof.Proof.Gen.KernelIdeal.Skeleton
public import proofs.«01_k».proof.Proof.Mix.Model
public import Idealize.ShloMosaic.Lib.Pipeline.ValueKit
public import Idealize.ShloMosaic.Lib.Pointwise
@[expose] public section
set_option maxRecDepth 16384
noncomputable section
namespace Cert.Mix
open Idealize.ShloMosaic Idealize.SL.Sem Cert.KernelIdeal Cert.KernelIdeal.Gen Cert.RealNorm

/-- The gated sum of a block of rows. -/
theorem pay_mixed (s g : Fin 512 → Fin 512 → ℝ) (ga gb : Fin 512 → Fin 1024 → ℝ) (UA UB : Fin 512 → Fin 1024 → ℝ)
    (v0 v5 : Vec Ideal S512x512 .bf16) (v2 v7 v10 v21 : Vec Ideal S512x1024 .bf16)
    (h0 : ∀ i, v0 i = ((s (i 0) (i 1) : ℝ) : EReal)) (h5 : ∀ i, v5 i = ((g (i 0) (i 1) : ℝ) : EReal))
    (h2 : ∀ i, v2 i = ((UA (i 0) (i 1) : ℝ) : EReal)) (h7 : ∀ i, v7 i = ((UB (i 0) (i 1) : ℝ) : EReal))
    (h10 : ∀ i, v10 i = ((ga (i 0) (i 1) : ℝ) : EReal)) (h21 : ∀ i, v21 i = ((gb (i 0) (i 1) : ℝ) : EReal)) (j : S512x1024.Idx) :
    k0_pay5 v0 v2 v5 v7 v10 v21 j = ((mixed (s (j 0)) (g (j 0)) (ga (j 0)) (gb (j 0)) UA UB (j 1) : ℝ) : EReal) := by
  pointwise [k0_pay5]
  simp only [h0, h2, h5, h7, h10, h21, lit_half, ← EReal.coe_mul, Ideal.tanh_coe, ← EReal.coe_add, sum_coe, sig_tanh]
  rfl

/-- The forward body's normalised rows, factor and output, over real blocks: `y` the gated sum, `x` the stream. -/
theorem pay_rstd (x y : Fin 512 → Fin 1024 → ℝ) (W : Fin 1024 → Fin 1024 → ℝ)
    (v32 v34 : FVec Ideal S512x1024 .f32) (v38 : Vec Ideal S1024x1024 .bf16)
    (h32 : ∀ i, v32 i = ((y (i 0) (i 1) : ℝ) : EReal)) (h34 : ∀ i, v34 i = ((x (i 0) (i 1) : ℝ) : EReal))
    (h38 : ∀ i, v38 i = ((W (i 0) (i 1) : ℝ) : EReal)) (j : S512x1.Idx) :
    k0_pay2 v32 v34 (k0_pay7 (F := Ideal)) v38 j = ((rstd 1024 (res (x (j 0)) (y (j 0)) W) : ℝ) : EReal) := by
  pointwise [k0_pay2, k0_pay1, k0_pay7]
  simp only [h32, h34, h38, lit_alpha, lit_1024, lit_eps, ← EReal.coe_mul, ← EReal.coe_add, ← EReal.coe_sub, sum_coe,
    div_real _ 1024 (by norm_num)]
  exact rsqrt_real _ (vare_pos (N := 1024) (by norm_num) (res (x (j 0)) (y (j 0)) W))
theorem pay_xhat (x y : Fin 512 → Fin 1024 → ℝ) (W : Fin 1024 → Fin 1024 → ℝ)
    (v32 v34 : FVec Ideal S512x1024 .f32) (v38 : Vec Ideal S1024x1024 .bf16)
    (h32 : ∀ i, v32 i = ((y (i 0) (i 1) : ℝ) : EReal)) (h34 : ∀ i, v34 i = ((x (i 0) (i 1) : ℝ) : EReal))
    (h38 : ∀ i, v38 i = ((W (i 0) (i 1) : ℝ) : EReal)) (j : S512x1024.Idx) :
    k0_pay3 v32 v34 (k0_pay7 (F := Ideal)) v38 j = ((xhat 1024 (res (x (j 0)) (y (j 0)) W) (j 1) : ℝ) : EReal) := by
  pointwise [k0_pay3]
  rw [pay_rstd x y W v32 v34 v38 h32 h34 h38]
  pointwise [k0_pay1, k0_pay7]
  simp only [h32, h34, h38, lit_alpha, lit_1024, ← EReal.coe_mul, ← EReal.coe_add, ← EReal.coe_sub, sum_coe,
    div_real _ 1024 (by norm_num)]
  rfl
theorem pay_out (x y : Fin 512 → Fin 1024 → ℝ) (W : Fin 1024 → Fin 1024 → ℝ)
    (v32 v34 : FVec Ideal S512x1024 .f32) (v38 : Vec Ideal S1024x1024 .bf16) (v42 v43 : Vec Ideal S1x1024 .f32)
    (h32 : ∀ i, v32 i = ((y (i 0) (i 1) : ℝ) : EReal)) (h34 : ∀ i, v34 i = ((x (i 0) (i 1) : ℝ) : EReal))
    (h38 : ∀ i, v38 i = ((W (i 0) (i 1) : ℝ) : EReal)) (j : S512x1024.Idx) :
    k0_pay4 v32 v34 (k0_pay7 (F := Ideal)) v38 v42 v43 j
      = ((xhat 1024 (res (x (j 0)) (y (j 0)) W) (j 1) : ℝ) : EReal) * v42 (ValueIdx.ix2 0 (j 1)) + v43 (ValueIdx.ix2 0 (j 1)) := by
  pointwise [k0_pay4]
  rw [pay_xhat x y W v32 v34 v38 h32 h34 h38]
  rfl

end Cert.Mix
end
-- ==== Proof.Mix.Reg0.lean ====
/- The forward region: what its three result arrays hold, from real input arrays. -/
module
public import proofs.«01_k».proof.Proof.Gen.KernelIdeal.Frame.Region0
public import proofs.«01_k».proof.Proof.Mix.Pay0
@[expose] public section
set_option maxRecDepth 16384
noncomputable section
namespace Cert.Mix
open Idealize.ShloMosaic Idealize.ShloMosaic.TcCoe Idealize.ShloMosaic.Tactic Idealize.SL.Sem Cert.KernelIdeal Cert.KernelIdeal.Gen Cert.RealNorm
open Idealize.ShloMosaic.Pipeline (Dat Cfg Window)

variable (V : (c : Dev nD) → (b : Ref sig .tc) → Buf (Elt Ideal) ((c : Thread nD τ).loc b)) (c : Dev nD)

/-- Row `i` of block `t`, of blocks of 512 rows. -/
def row (t : Fin 8) (i : Fin 512) : Fin 4096 := ⟨t.val * 512 + i.val, by omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] :=
  (by decide +kernel : ∀ t : Fin grid0.N, _)

/-- The input arrays of the two merging calls at a region's entry are real. -/
structure Entry (S G : Fin 4096 → Fin 512 → ℝ) (GA GB : Fin 4096 → Fin 1024 → ℝ) (UA UB : Fin 512 → Fin 1024 → ℝ)
    (W : Fin 1024 → Fin 1024 → ℝ) : Prop where
  s : ∀ i, V c main_v2 i = ((S (i 0) (i 1) : ℝ) : EReal)
  g : ∀ i, V c main_v4 i = ((G (i 0) (i 1) : ℝ) : EReal)
  ga : ∀ (r : Fin 4096) (d : Fin 1024), V c main_v7 (ValueIdx.ix2 r (⟨d.val, by omega⟩ : Fin 2048)) = ((GA r d : ℝ) : EReal)
  gb : ∀ (r : Fin 4096) (d : Fin 1024), V c main_v7 (ValueIdx.ix2 r (⟨d.val + 1024, by omega⟩ : Fin 2048)) = ((GB r d : ℝ) : EReal)
  ua : ∀ i, V c main_v9 i = ((UA (i 0) (i 1) : ℝ) : EReal)
  ub : ∀ i, V c main_v11 i = ((UB (i 0) (i 1) : ℝ) : EReal)
  w : ∀ i, V c main_v13 i = ((W (i 0) (i 1) : ℝ) : EReal)

variable {S G : Fin 4096 → Fin 512 → ℝ} {GA GB : Fin 4096 → Fin 1024 → ℝ} {UA UB : Fin 512 → Fin 1024 → ℝ}
  {W : Fin 1024 → Fin 1024 → ℝ} {X : Fin 4096 → Fin 1024 → ℝ}

theorem blk_x (h0 : ∀ i, V c main_v0 i = ((X (i 0) (i 1) : ℝ) : EReal)) (t : Fin cfg0.N) (i : S512x1024.Idx) :
    iblk0 V c 0 t i = ((X (row t (i 0)) (i 1) : ℝ) : EReal) := by
  have e : iblk0 V c 0 t i = V c main_v0 (ValueIdx.ix2 (row t (i 0)) (i 1)) := by blk_ext [iblk0, row, idx0 t]
  exact e.trans (h0 _)
section
variable (h : Entry V c S G GA GB UA UB W) (t : Fin cfg0.N)
include h
theorem blk_s (i : S512x512.Idx) : iblk0 V c 1 t i = ((S (row t (i 0)) (i 1) : ℝ) : EReal) := by
  have e : iblk0 V c 1 t i = V c main_v2 (ValueIdx.ix2 (row t (i 0)) (i 1)) := by blk_ext [iblk0, row, idx0 t]
  exact e.trans (h.s _)
theorem blk_g (i : S512x512.Idx) : iblk0 V c 2 t i = ((G (row t (i 0)) (i 1) : ℝ) : EReal) := by
  have e : iblk0 V c 2 t i = V c main_v4 (ValueIdx.ix2 (row t (i 0)) (i 1)) := by blk_ext [iblk0, row, idx0 t]
  exact e.trans (h.g _)
theorem blk_ga (i : S512x1024.Idx) : View.ld (iblk0 V c 3 t) r0_2 i = ((GA (row t (i 0)) (i 1) : ℝ) : EReal) := by
  have e : View.ld (iblk0 V c 3 t) r0_2 i
      = V c main_v7 (ValueIdx.ix2 (row t (i 0)) (⟨(i 1).val, by have := (i 1).isLt; simp at this; omega⟩ : Fin 2048)) := by
    pointwise
    blk_ext [iblk0, row, idx0 t]
  exact e.trans (h.ga _ (i 1))
theorem blk_gb (i : S512x1024.Idx) : View.ld (iblk0 V c 3 t) r0_3 i = ((GB (row t (i 0)) (i 1) : ℝ) : EReal) := by
  have e : View.ld (iblk0 V c 3 t) r0_3 i
      = V c main_v7 (ValueIdx.ix2 (row t (i 0)) (⟨(i 1).val + 1024, by have := (i 1).isLt; simp at this; omega⟩ : Fin 2048)) := by
    pointwise
    blk_ext [iblk0, row, idx0 t]
  exact e.trans (h.gb _ (i 1))
theorem blk_ua (i : S512x1024.Idx) : iblk0 V c 4 t i = ((UA (i 0) (i 1) : ℝ) : EReal) := by
  have e : iblk0 V c 4 t i = V c main_v9 (ValueIdx.ix2 (i 0) (i 1)) := by blk_ext [iblk0, idx0 t]
  exact e.trans (h.ua _)
theorem blk_ub (i : S512x1024.Idx) : iblk0 V c 5 t i = ((UB (i 0) (i 1) : ℝ) : EReal) := by
  have e : iblk0 V c 5 t i = V c main_v11 (ValueIdx.ix2 (i 0) (i 1)) := by blk_ext [iblk0, idx0 t]
  exact e.trans (h.ub _)
theorem blk_w (i : S1024x1024.Idx) : iblk0 V c 6 t i = ((W (i 0) (i 1) : ℝ) : EReal) := by
  have e : iblk0 V c 6 t i = V c main_v13 (ValueIdx.ix2 (i 0) (i 1)) := by blk_ext [iblk0, idx0 t]
  exact e.trans (h.w _)
/-- The gated sum of the rows of block `t`. -/
theorem blk_mixed (i : S512x1024.Idx) :
    k0_pay8 (iblk0 V c 0 t) (iblk0 V c 1 t) (iblk0 V c 2 t) (iblk0 V c 3 t) (iblk0 V c 4 t) (iblk0 V c 5 t)
        (iblk0 V c 6 t) (iblk0 V c 7 t) (iblk0 V c 8 t) i
      = ((mixed (S (row t (i 0))) (G (row t (i 0))) (GA (row t (i 0))) (GB (row t (i 0))) UA UB (i 1) : ℝ) : EReal) := by
  unfold k0_pay8
  frame_out
  exact pay_mixed (fun r => S (row t r)) (fun r => G (row t r)) (fun r => GA (row t r)) (fun r => GB (row t r)) UA UB _ _ _ _ _ _
    (blk_s V c h t) (blk_g V c h t) (blk_ua V c h t) (blk_ub V c h t) (blk_ga V c h t) (blk_gb V c h t) i
end

/-- The residual's row `r`. -/
def resRow (X : Fin 4096 → Fin 1024 → ℝ) (S G : Fin 4096 → Fin 512 → ℝ) (GA GB : Fin 4096 → Fin 1024 → ℝ)
    (UA UB : Fin 512 → Fin 1024 → ℝ) (W : Fin 1024 → Fin 1024 → ℝ) (r : Fin 4096) : Fin 1024 → ℝ :=
  res (X r) (mixed (S r) (G r) (GA r) (GB r) UA UB) W

theorem blk_stream (h0 : ∀ i, V c main_v0 i = ((X (i 0) (i 1) : ℝ) : EReal)) (t : Fin cfg0.N) (i : S512x1024.Idx) :
    k0_pay9 (iblk0 V c 0 t) (iblk0 V c 1 t) (iblk0 V c 2 t) (iblk0 V c 3 t) (iblk0 V c 4 t) (iblk0 V c 5 t)
        (iblk0 V c 6 t) (iblk0 V c 7 t) (iblk0 V c 8 t) i = ((X (row t (i 0)) (i 1) : ℝ) : EReal) := by
  unfold k0_pay9
  frame_out
  pointwise [k0_pay6]
  exact blk_x V c h0 t _

section
variable (h0 : ∀ i, V c main_v0 i = ((X (i 0) (i 1) : ℝ) : EReal)) (h : Entry V c S G GA GB UA UB W)
include h0 h
theorem final9 : (dat0 V c).arrAt 9 cfg0.N = (show FVec Ideal S4096x1024 .f32 from fun j =>
    ((xhat 1024 (resRow X S G GA GB UA UB W (j 0)) (j 1) : ℝ) : EReal)
      * V c main_arg8 (ValueIdx.ix2 0 (j 1)) + V c main_arg9 (ValueIdx.ix2 0 (j 1))) := by
  refine (dat0 V c).arrAt_eq_of_covers 9 _ (by decide +kernel) fun t _ y => ?_
  have e : ((View.whole main_v14_0).slice (win0_9.rect t)).emb y = ValueIdx.ix2 (row t (y 0)) (y 1) := by blk_ext [row, idx0 t]
  blk_simp
  rw [after0_9, e]
  frame_out
  have e7 : ∀ j, iblk0 V c 7 t j = V c main_arg8 (ValueIdx.ix2 0 (j 1)) := fun j => by blk_ext [iblk0, idx0 t]
  have e8 : ∀ j, iblk0 V c 8 t j = V c main_arg9 (ValueIdx.ix2 0 (j 1)) := fun j => by blk_ext [iblk0, idx0 t]
  refine (pay_out (fun r => X (row t r)) (fun r => mixed (S (row t r)) (G (row t r)) (GA (row t r)) (GB (row t r)) UA UB) W _ _ _ _ _
    (blk_mixed V c h t) (blk_stream V c h0 t) (blk_w V c h t) y).trans ?_
  rw [e7, e8]
  rfl
theorem final10 : (dat0 V c).arrAt 10 cfg0.N = (show FVec Ideal S4096x1024 .f32 from fun j =>
    ((xhat 1024 (resRow X S G GA GB UA UB W (j 0)) (j 1) : ℝ) : EReal)) := by
  refine (dat0 V c).arrAt_eq_of_covers 10 _ (by decide +kernel) fun t _ y => ?_
  have e : ((View.whole main_v14_1).slice (win0_10.rect t)).emb y = ValueIdx.ix2 (row t (y 0)) (y 1) := by blk_ext [row, idx0 t]
  blk_simp
  rw [after0_10, e]
  frame_out
  exact pay_xhat (fun r => X (row t r)) (fun r => mixed (S (row t r)) (G (row t r)) (GA (row t r)) (GB (row t r)) UA UB) W _ _ _
    (blk_mixed V c h t) (blk_stream V c h0 t) (blk_w V c h t) y
theorem final11 : (dat0 V c).arrAt 11 cfg0.N = (show FVec Ideal S4096x1 .f32 from fun j =>
    ((rstd 1024 (resRow X S G GA GB UA UB W (j 0)) : ℝ) : EReal)) := by
  refine (dat0 V c).arrAt_eq_of_covers 11 _ (by decide +kernel) fun t _ y => ?_
  have e : ((View.whole main_v14_2).slice (win0_11.rect t)).emb y = ValueIdx.ix2 (row t (y 0)) (y 1) := by blk_ext [row, idx0 t]
  blk_simp
  rw [after0_11, e]
  frame_out
  exact pay_rstd (fun r => X (row t r)) (fun r => mixed (S (row t r)) (G (row t r)) (GA (row t r)) (GB (row t r)) UA UB) W _ _ _
    (blk_mixed V c h t) (blk_stream V c h0 t) (blk_w V c h t) y
end

end Cert.Mix
end
-- ==== Proof.Mix.Reg1.lean ====
/- The gradient region: what its ten result arrays hold, from real input arrays. -/
module
public import proofs.«01_k».proof.Proof.Gen.KernelIdeal.Frame.Region1
public import proofs.«01_k».proof.Proof.Mix.Pay1
public import proofs.«01_k».proof.Proof.Mix.Reg0
@[expose] public section
set_option maxRecDepth 16384
noncomputable section
namespace Cert.Mix
open Idealize.ShloMosaic Idealize.ShloMosaic.TcCoe Idealize.ShloMosaic.Tactic Idealize.SL.Sem Cert.KernelIdeal Cert.KernelIdeal.Gen Cert.RealNorm
open Idealize.ShloMosaic.Pipeline (Dat Cfg Window)

variable (V : (c : Dev nD) → (b : Ref sig .tc) → Buf (Elt Ideal) ((c : Thread nD τ).loc b)) (c : Dev nD)
variable {S G : Fin 4096 → Fin 512 → ℝ} {GA GB : Fin 4096 → Fin 1024 → ℝ} {UA UB : Fin 512 → Fin 1024 → ℝ}
  {W : Fin 1024 → Fin 1024 → ℝ} {CT XH : Fin 4096 → Fin 1024 → ℝ} {RS : Fin 4096 → ℝ} {gg : Fin 1024 → ℝ}

theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![0, 0]
    ∧ win1_7.index t = ![0, 0] ∧ win1_8.index t = ![0, 0] ∧ win1_9.index t = ![0, 0] ∧ win1_10.index t = ![t.val, 0]
    ∧ win1_11.index t = ![t.val, 0] ∧ win1_12.index t = ![0, t.val] ∧ win1_13.index t = ![t.val, 0] ∧ win1_14.index t = ![t.val, 0]
    ∧ win1_15.index t = ![t.val, 0] ∧ win1_16.index t = ![t.val, 0] ∧ win1_17.index t = ![t.val, 0] :=
  (by decide +kernel : ∀ t : Fin grid1.N, _)

/-- What the gradient region reads besides: the cotangent, the normalised rows, their factors and the scale. -/
structure Back (CT XH : Fin 4096 → Fin 1024 → ℝ) (RS : Fin 4096 → ℝ) (gg : Fin 1024 → ℝ) : Prop where
  ct : ∀ i, V c main_v15 i = ((CT (i 0) (i 1) : ℝ) : EReal)
  xh : ∀ i, V c main_v14_1 i = ((XH (i 0) (i 1) : ℝ) : EReal)
  rs : ∀ i, V c main_v14_2 i = ((RS (i 0) : ℝ) : EReal)
  gg : ∀ i, V c main_arg8 i = ((gg (i 1) : ℝ) : EReal)

/-- The residual's gradient at row `r`, and the gated sum's. -/
def drRow (CT XH : Fin 4096 → Fin 1024 → ℝ) (RS : Fin 4096 → ℝ) (gg : Fin 1024 → ℝ) (r : Fin 4096) : Fin 1024 → ℝ :=
  normGrad 1024 (fun k => CT r k * gg k) (XH r) (RS r)
def dmRow (CT XH : Fin 4096 → Fin 1024 → ℝ) (RS : Fin 4096 → ℝ) (gg : Fin 1024 → ℝ) (W : Fin 1024 → Fin 1024 → ℝ) (r : Fin 4096) : Fin 1024 → ℝ :=
  linT (drRow CT XH RS gg r) W
/-- Two halves of a row of 2048. -/
def halves (a b : Fin 1024 → ℝ) (d : Fin 2048) : ℝ := if h : d.val < 1024 then a ⟨d.val, h⟩ else b ⟨d.val - 1024, by omega⟩
/-- A gate's gradient. -/
def dgate (dm y ga : Fin 1024 → ℝ) (d : Fin 1024) : ℝ := dm d * y d * sig (ga d) * (1 - sig (ga d))

section
variable (h : Entry V c S G GA GB UA UB W) (t : Fin cfg1.N)
include h
theorem blk1_s (i : S512x512.Idx) : iblk1 V c 3 t i = ((S (row t (i 0)) (i 1) : ℝ) : EReal) := by
  have e : iblk1 V c 3 t i = V c main_v2 (ValueIdx.ix2 (row t (i 0)) (i 1)) := by blk_ext [iblk1, row, idx1 t]
  exact e.trans (h.s _)
theorem blk1_g (i : S512x512.Idx) : iblk1 V c 4 t i = ((G (row t (i 0)) (i 1) : ℝ) : EReal) := by
  have e : iblk1 V c 4 t i = V c main_v4 (ValueIdx.ix2 (row t (i 0)) (i 1)) := by blk_ext [iblk1, row, idx1 t]
  exact e.trans (h.g _)
theorem blk1_ga (i : S512x1024.Idx) :
    View.ld (iblk1 V c 5 t) (Rect.unit ![0, 0] ![512, 1024] inb_S512x2048_S512x1024_0_0) i = ((GA (row t (i 0)) (i 1) : ℝ) : EReal) := by
  have e : View.ld (iblk1 V c 5 t) (Rect.unit ![0, 0] ![512, 1024] inb_S512x2048_S512x1024_0_0) i
      = V c main_v7 (ValueIdx.ix2 (row t (i 0)) (⟨(i 1).val, by have := (i 1).isLt; simp at this; omega⟩ : Fin 2048)) := by
    pointwise
    blk_ext [iblk1, row, idx1 t]
  exact e.trans (h.ga _ (i 1))
theorem blk1_gb (i : S512x1024.Idx) :
    View.ld (iblk1 V c 5 t) (Rect.unit ![0, 1024] ![512, 1024] inb_S512x2048_S512x1024_0_1024) i = ((GB (row t (i 0)) (i 1) : ℝ) : EReal) := by
  have e : View.ld (iblk1 V c 5 t) (Rect.unit ![0, 1024] ![512, 1024] inb_S512x2048_S512x1024_0_1024) i
      = V c main_v7 (ValueIdx.ix2 (row t (i 0)) (⟨(i 1).val + 1024, by have := (i 1).isLt; simp at this; omega⟩ : Fin 2048)) := by
    pointwise
    blk_ext [iblk1, row, idx1 t]
  exact e.trans (h.gb _ (i 1))
theorem blk1_ua (i : S512x1024.Idx) : iblk1 V c 6 t i = ((UA (i 0) (i 1) : ℝ) : EReal) := by
  have e : iblk1 V c 6 t i = V c main_v9 (ValueIdx.ix2 (i 0) (i 1)) := by blk_ext [iblk1, idx1 t]
  exact e.trans (h.ua _)
theorem blk1_ub (i : S512x1024.Idx) : iblk1 V c 7 t i = ((UB (i 0) (i 1) : ℝ) : EReal) := by
  have e : iblk1 V c 7 t i = V c main_v11 (ValueIdx.ix2 (i 0) (i 1)) := by blk_ext [iblk1, idx1 t]
  exact e.trans (h.ub _)
theorem blk1_w (i : S1024x1024.Idx) : iblk1 V c 8 t i = ((W (i 0) (i 1) : ℝ) : EReal) := by
  have e : iblk1 V c 8 t i = V c main_v13 (ValueIdx.ix2 (i 0) (i 1)) := by blk_ext [iblk1, idx1 t]
  exact e.trans (h.w _)
/-- The two branches' products of the rows of block `t`. -/
theorem blk1_ya (i : S512x1024.Idx) : k1_pay13 (iblk1 V c 3 t) (iblk1 V c 6 t) i = ((lin (S (row t (i 0))) UA (i 1) : ℝ) : EReal) :=
  pay_ya (fun r => S (row t r)) UA _ _ (blk1_s V c h t) (blk1_ua V c h t) i
theorem blk1_yb (i : S512x1024.Idx) : k1_pay14 (iblk1 V c 4 t) (iblk1 V c 7 t) i = ((lin (G (row t (i 0))) UB (i 1) : ℝ) : EReal) :=
  pay_yb (fun r => G (row t r)) UB _ _ (blk1_g V c h t) (blk1_ub V c h t) i
end

section
variable (h : Back V c CT XH RS gg) (t : Fin cfg1.N)
include h
theorem blk1_ct (i : S512x1024.Idx) : iblk1 V c 0 t i = ((CT (row t (i 0)) (i 1) : ℝ) : EReal) := by
  have e : iblk1 V c 0 t i = V c main_v15 (ValueIdx.ix2 (row t (i 0)) (i 1)) := by blk_ext [iblk1, row, idx1 t]
  exact e.trans (h.ct _)
theorem blk1_xh (i : S512x1024.Idx) : iblk1 V c 1 t i = ((XH (row t (i 0)) (i 1) : ℝ) : EReal) := by
  have e : iblk1 V c 1 t i = V c main_v14_1 (ValueIdx.ix2 (row t (i 0)) (i 1)) := by blk_ext [iblk1, row, idx1 t]
  exact e.trans (h.xh _)
theorem blk1_rs (i : S512x1.Idx) : iblk1 V c 2 t i = ((RS (row t (i 0)) : ℝ) : EReal) := by
  have e : iblk1 V c 2 t i = V c main_v14_2 (ValueIdx.ix2 (row t (i 0)) (i 1)) := by blk_ext [iblk1, row, idx1 t]
  exact e.trans (h.rs _)
theorem blk1_gg (i : S1x1024.Idx) : iblk1 V c 9 t i = ((gg (i 1) : ℝ) : EReal) := by
  have e : iblk1 V c 9 t i = V c main_arg8 (ValueIdx.ix2 (i 0) (i 1)) := by blk_ext [iblk1, idx1 t]
  exact e.trans (h.gg _)
/-- The residual's gradient at the rows of block `t`. -/
theorem blk1_dr (i : S512x1024.Idx) : k1_pay7 (iblk1 V c 0 t) (iblk1 V c 1 t) (iblk1 V c 2 t) (iblk1 V c 9 t) i
    = ((drRow CT XH RS gg (row t (i 0)) (i 1) : ℝ) : EReal) :=
  pay_dr (fun r => CT (row t r)) (fun r => XH (row t r)) (fun r => RS (row t r)) gg _ _ _ _
    (blk1_ct V c h t) (blk1_xh V c h t) (blk1_rs V c h t) (blk1_gg V c h t) i
end

section
variable (h : Entry V c S G GA GB UA UB W) (k : Back V c CT XH RS gg)
include h k
/-- The gated sum's gradient. -/
theorem blk1_dm (t : Fin cfg1.N) (i : S512x1024.Idx) :
    k1_pay12 (k1_pay7 (iblk1 V c 0 t) (iblk1 V c 1 t) (iblk1 V c 2 t) (iblk1 V c 9 t)) (iblk1 V c 8 t) i
      = ((dmRow CT XH RS gg W (row t (i 0)) (i 1) : ℝ) : EReal) :=
  pay_dmix (fun r => drRow CT XH RS gg (row t r)) W _ _ (blk1_dr V c k t) (blk1_w V c h t) i
theorem final1_10 : (dat1 V c).arrAt 10 cfg1.N = (show FVec Ideal S4096x1024 .f32 from fun j =>
    ((alpha * drRow CT XH RS gg (j 0) (j 1) : ℝ) : EReal)) := by
  refine (dat1 V c).arrAt_eq_of_covers 10 _ (by decide +kernel) fun t _ y => ?_
  have e : ((View.whole main_v16_0).slice (win1_10.rect t)).emb y = ValueIdx.ix2 (row t (y 0)) (y 1) := by blk_ext [row, idx1 t]
  blk_simp
  rw [after1_10, e]
  by_cases h0 : t.val % 8 = 0
  · rw [outsAt1_A V c t h0]
    frame_out
    exact pay_dx (fun r => drRow CT XH RS gg (row t r)) _ (blk1_dr V c k t) y
  · rw [outsAt1_B V c t h0]
    frame_out
    exact pay_dx (fun r => drRow CT XH RS gg (row t r)) _ (blk1_dr V c k t) y
theorem final1_11 : (dat1 V c).arrAt 11 cfg1.N = (show FVec Ideal S4096x1024 .bf16 from fun j =>
    ((drRow CT XH RS gg (j 0) (j 1) : ℝ) : EReal)) := by
  refine (dat1 V c).arrAt_eq_of_covers 11 _ (by decide +kernel) fun t _ y => ?_
  have e : ((View.whole main_v16_1).slice (win1_11.rect t)).emb y = ValueIdx.ix2 (row t (y 0)) (y 1) := by blk_ext [row, idx1 t]
  blk_simp
  rw [after1_11, e]
  by_cases h0 : t.val % 8 = 0
  · rw [outsAt1_A V c t h0]
    frame_out
    exact (pay_dm _ y).trans (blk1_dr V c k t y)
  · rw [outsAt1_B V c t h0]
    frame_out
    exact (pay_dm _ y).trans (blk1_dr V c k t y)
theorem final1_12 : (dat1 V c).arrAt 12 cfg1.N = (show FVec Ideal S1024x4096 .bf16 from fun j =>
    ((mixed (S (j 1)) (G (j 1)) (GA (j 1)) (GB (j 1)) UA UB (j 0) : ℝ) : EReal)) := by
  refine (dat1 V c).arrAt_eq_of_covers 12 _ (by decide +kernel) fun t _ y => ?_
  have e : ((View.whole main_v16_2).slice (win1_12.rect t)).emb y = ValueIdx.ix2 (y 0) (row t (y 1)) := by blk_ext [row, idx1 t]
  blk_simp
  rw [after1_12, e]
  by_cases h0 : t.val % 8 = 0
  · rw [outsAt1_A V c t h0]
    frame_out
    exact pay_mixT (fun r => lin (S (row t r)) UA) (fun r => lin (G (row t r)) UB) (fun r => GA (row t r)) (fun r => GB (row t r)) _ _ _ _ (blk1_ya V c h t) (blk1_yb V c h t) (blk1_ga V c h t) (blk1_gb V c h t) y
  · rw [outsAt1_B V c t h0]
    frame_out
    exact pay_mixT (fun r => lin (S (row t r)) UA) (fun r => lin (G (row t r)) UB) (fun r => GA (row t r)) (fun r => GB (row t r)) _ _ _ _ (blk1_ya V c h t) (blk1_yb V c h t) (blk1_ga V c h t) (blk1_gb V c h t) y
theorem final1_13 : (dat1 V c).arrAt 13 cfg1.N = (show FVec Ideal S4096x1024 .bf16 from fun j =>
    ((dmRow CT XH RS gg W (j 0) (j 1) * sig (GA (j 0) (j 1)) : ℝ) : EReal)) := by
  refine (dat1 V c).arrAt_eq_of_covers 13 _ (by decide +kernel) fun t _ y => ?_
  have e : ((View.whole main_v16_3).slice (win1_13.rect t)).emb y = ValueIdx.ix2 (row t (y 0)) (y 1) := by blk_ext [row, idx1 t]
  blk_simp
  rw [after1_13, e]
  by_cases h0 : t.val % 8 = 0
  · rw [outsAt1_A V c t h0]
    frame_out
    exact pay_dya (fun r => dmRow CT XH RS gg W (row t r)) (fun r => GA (row t r)) _ _ (blk1_dm V c h k t) (blk1_ga V c h t) y
  · rw [outsAt1_B V c t h0]
    frame_out
    exact pay_dya (fun r => dmRow CT XH RS gg W (row t r)) (fun r => GA (row t r)) _ _ (blk1_dm V c h k t) (blk1_ga V c h t) y
theorem final1_14 : (dat1 V c).arrAt 14 cfg1.N = (show FVec Ideal S4096x1024 .bf16 from fun j =>
    ((dmRow CT XH RS gg W (j 0) (j 1) * sig (GB (j 0) (j 1)) : ℝ) : EReal)) := by
  refine (dat1 V c).arrAt_eq_of_covers 14 _ (by decide +kernel) fun t _ y => ?_
  have e : ((View.whole main_v16_4).slice (win1_14.rect t)).emb y = ValueIdx.ix2 (row t (y 0)) (y 1) := by blk_ext [row, idx1 t]
  blk_simp
  rw [after1_14, e]
  by_cases h0 : t.val % 8 = 0
  · rw [outsAt1_A V c t h0]
    frame_out
    exact pay_dyb (fun r => dmRow CT XH RS gg W (row t r)) (fun r => GB (row t r)) _ _ (blk1_dm V c h k t) (blk1_gb V c h t) y
  · rw [outsAt1_B V c t h0]
    frame_out
    exact pay_dyb (fun r => dmRow CT XH RS gg W (row t r)) (fun r => GB (row t r)) _ _ (blk1_dm V c h k t) (blk1_gb V c h t) y
theorem final1_15 : (dat1 V c).arrAt 15 cfg1.N = (show FVec Ideal S4096x512 .f32 from fun j =>
    ((linT (fun d => dmRow CT XH RS gg W (j 0) d * sig (GA (j 0) d)) UA (j 1) : ℝ) : EReal)) := by
  refine (dat1 V c).arrAt_eq_of_covers 15 _ (by decide +kernel) fun t _ y => ?_
  have e : ((View.whole main_v16_5).slice (win1_15.rect t)).emb y = ValueIdx.ix2 (row t (y 0)) (y 1) := by blk_ext [row, idx1 t]
  blk_simp
  rw [after1_15, e]
  by_cases h0 : t.val % 8 = 0
  · rw [outsAt1_A V c t h0]
    frame_out
    exact pay_ds (fun r d => dmRow CT XH RS gg W (row t r) d * sig (GA (row t r) d)) UA _ _ (pay_dya (fun r => dmRow CT XH RS gg W (row t r)) (fun r => GA (row t r)) _ _ (blk1_dm V c h k t) (blk1_ga V c h t)) (blk1_ua V c h t) y
  · rw [outsAt1_B V c t h0]
    frame_out
    exact pay_ds (fun r d => dmRow CT XH RS gg W (row t r) d * sig (GA (row t r) d)) UA _ _ (pay_dya (fun r => dmRow CT XH RS gg W (row t r)) (fun r => GA (row t r)) _ _ (blk1_dm V c h k t) (blk1_ga V c h t)) (blk1_ua V c h t) y
theorem final1_16 : (dat1 V c).arrAt 16 cfg1.N = (show FVec Ideal S4096x512 .f32 from fun j =>
    ((linT (fun d => dmRow CT XH RS gg W (j 0) d * sig (GB (j 0) d)) UB (j 1) : ℝ) : EReal)) := by
  refine (dat1 V c).arrAt_eq_of_covers 16 _ (by decide +kernel) fun t _ y => ?_
  have e : ((View.whole main_v16_6).slice (win1_16.rect t)).emb y = ValueIdx.ix2 (row t (y 0)) (y 1) := by blk_ext [row, idx1 t]
  blk_simp
  rw [after1_16, e]
  by_cases h0 : t.val % 8 = 0
  · rw [outsAt1_A V c t h0]
    frame_out
    exact pay_dg (fun r d => dmRow CT XH RS gg W (row t r) d * sig (GB (row t r) d)) UB _ _ (pay_dyb (fun r => dmRow CT XH RS gg W (row t r)) (fun r => GB (row t r)) _ _ (blk1_dm V c h k t) (blk1_gb V c h t)) (blk1_ub V c h t) y
  · rw [outsAt1_B V c t h0]
    frame_out
    exact pay_dg (fun r d => dmRow CT XH RS gg W (row t r) d * sig (GB (row t r) d)) UB _ _ (pay_dyb (fun r => dmRow CT XH RS gg W (row t r)) (fun r => GB (row t r)) _ _ (blk1_dm V c h k t) (blk1_gb V c h t)) (blk1_ub V c h t) y
end

end Cert.Mix
end
-- ==== Proof.Mix.Reg1b.lean ====
/- The gradient region: the array of two column halves, and the two arrays summed over the blocks. -/
module
public import proofs.«01_k».proof.Proof.Gen.KernelIdeal.Frame.Region1
public import proofs.«01_k».proof.Proof.Mix.Pay1
public import proofs.«01_k».proof.Proof.Mix.Reg1
@[expose] public section
set_option maxRecDepth 16384
noncomputable section
namespace Cert.Mix
open Idealize.ShloMosaic Idealize.ShloMosaic.TcCoe Idealize.ShloMosaic.Tactic Idealize.SL.Sem Cert.KernelIdeal Cert.KernelIdeal.Gen Cert.RealNorm
open Idealize.ShloMosaic.Pipeline (Dat Cfg Window)

variable (V : (c : Dev nD) → (b : Ref sig .tc) → Buf (Elt Ideal) ((c : Thread nD τ).loc b)) (c : Dev nD)
variable {S G : Fin 4096 → Fin 512 → ℝ} {GA GB : Fin 4096 → Fin 1024 → ℝ} {UA UB : Fin 512 → Fin 1024 → ℝ}
  {W : Fin 1024 → Fin 1024 → ℝ} {CT XH : Fin 4096 → Fin 1024 → ℝ} {RS : Fin 4096 → ℝ} {gg : Fin 1024 → ℝ}

theorem halves_lo (a b : Fin 1024 → ℝ) (d : Fin 2048) (i : Fin 1024) (h : d.val = i.val) : halves a b d = a i := by
  unfold halves
  rw [dif_pos (by omega)]
  exact congrArg a (Fin.ext h)
theorem halves_hi (a b : Fin 1024 → ℝ) (d : Fin 2048) (i : Fin 1024) (h : d.val = 1024 + i.val) : halves a b d = b i := by
  unfold halves
  rw [dif_neg (by omega)]
  exact congrArg b (Fin.ext (by simp; omega))

/-- The sum over the rows of the blocks is the sum over all rows. -/
theorem sum_row (f : Fin 4096 → ℝ) : ∑ t : Fin 8, ∑ k : Fin 512, f (row t k) = ∑ r, f r :=
  Fin.sum_mul_add_congr fun t k hl => congrArg f (Fin.ext rfl)

section
variable (h : Entry V c S G GA GB UA UB W) (k : Back V c CT XH RS gg)
include h k
/-- The two stores of a block's row of gate gradients. -/
theorem pt1_17 (t : Fin cfg1.N) (y : S512x2048.Idx) : (outsAt1 V c t.val t.isLt).2.2.2.2.2.2.2.1 y
    = ((halves (dgate (dmRow CT XH RS gg W (row t (y 0))) (lin (S (row t (y 0))) UA) (GA (row t (y 0))))
      (dgate (dmRow CT XH RS gg W (row t (y 0))) (lin (G (row t (y 0))) UB) (GB (row t (y 0)))) (y 1) : ℝ) : EReal) := by
  by_cases h8 : t.val % 8 = 0
  · rw [outsAt1_A V c t h8]
    frame_out
    canon_tiles x hx
    · refine (pay_dgb (fun r => dmRow CT XH RS gg W (row t r)) (fun r => lin (G (row t r)) UB) (fun r => GB (row t r)) _ _ _ (blk1_dm V c h k t) (blk1_yb V c h t) (blk1_gb V c h t) x).trans (congrArg _ ?_)
      rw [show y 0 = x 0 from Fin.ext hx0]
      rw [halves_hi _ _ (y 1) (x 1) hx1]
      rfl
    · refine (pay_dga (fun r => dmRow CT XH RS gg W (row t r)) (fun r => lin (S (row t r)) UA) (fun r => GA (row t r)) _ _ _ (blk1_dm V c h k t) (blk1_ya V c h t) (blk1_ga V c h t) x).trans (congrArg _ ?_)
      rw [show y 0 = x 0 from Fin.ext hx0]
      rw [halves_lo _ _ (y 1) (x 1) hx1]
      rfl
  · rw [outsAt1_B V c t h8]
    frame_out
    canon_tiles x hx
    · refine (pay_dgb (fun r => dmRow CT XH RS gg W (row t r)) (fun r => lin (G (row t r)) UB) (fun r => GB (row t r)) _ _ _ (blk1_dm V c h k t) (blk1_yb V c h t) (blk1_gb V c h t) x).trans (congrArg _ ?_)
      rw [show y 0 = x 0 from Fin.ext hx0]
      rw [halves_hi _ _ (y 1) (x 1) hx1]
      rfl
    · refine (pay_dga (fun r => dmRow CT XH RS gg W (row t r)) (fun r => lin (S (row t r)) UA) (fun r => GA (row t r)) _ _ _ (blk1_dm V c h k t) (blk1_ya V c h t) (blk1_ga V c h t) x).trans (congrArg _ ?_)
      rw [show y 0 = x 0 from Fin.ext hx0]
      rw [halves_lo _ _ (y 1) (x 1) hx1]
      rfl
theorem final1_17 : (dat1 V c).arrAt 17 cfg1.N = (show FVec Ideal S4096x2048 .bf16 from fun j =>
    ((halves (dgate (dmRow CT XH RS gg W (j 0)) (lin (S (j 0)) UA) (GA (j 0)))
      (dgate (dmRow CT XH RS gg W (j 0)) (lin (G (j 0)) UB) (GB (j 0))) (j 1) : ℝ) : EReal)) := by
  refine (dat1 V c).arrAt_eq_of_covers 17 _ (by decide +kernel) fun t _ y => ?_
  have e : ((View.whole main_v16_7).slice (win1_17.rect t)).emb y = ValueIdx.ix2 (row t (y 0)) (y 1) := by blk_ext [row, idx1 t]
  blk_simp
  rw [after1_17, e]
  exact pt1_17 V c h k t y
end

section
variable (k : Back V c CT XH RS gg)
include k
theorem final1_18 : (dat1 V c).arrAt 18 cfg1.N = (show FVec Ideal S1x1024 .f32 from fun j =>
    ((∑ r, CT r (j 1) * XH r (j 1) : ℝ) : EReal)) := by
  refine (dat1 V c).arrAt_eq_of_after_last 18 t1_7 (by decide +kernel) _ fun j => ?_
  blk_simp
  rw [after1_18, Pipeline.eq_sum_fin_of_reset_step_apply_last (fun n hn => (outsAt1 V c n hn).2.2.2.2.2.2.2.2.1) 8
    (fun _ => 0) (fun t j => ((∑ i : Fin 512, CT (row t i) (j 1) * XH (row t i) (j 1) : ℝ) : EReal))
    (fun t h8 j => by rw [outsAt1_A V c t h8]; frame_out; rw [pay_scale, pay_zero]; simp only [blk1_ct V c k, blk1_xh V c k, ← EReal.coe_mul, sum_coe]; rfl)
    (fun t h8 j => by rw [outsAt1_B V c t h8]; frame_out; rw [pay_scale]; simp only [blk1_ct V c k, blk1_xh V c k, ← EReal.coe_mul, sum_coe]; rfl)
    (le_of_eq N_1) t1_7 rfl j, zero_add]
  exact (sum_coe _).trans (congrArg _ (sum_row fun r => CT r (j 1) * XH r (j 1)))
theorem final1_19 : (dat1 V c).arrAt 19 cfg1.N = (show FVec Ideal S1x1024 .f32 from fun j =>
    ((∑ r, CT r (j 1) : ℝ) : EReal)) := by
  refine (dat1 V c).arrAt_eq_of_after_last 19 t1_7 (by decide +kernel) _ fun j => ?_
  blk_simp
  rw [after1_19, Pipeline.eq_sum_fin_of_reset_step_apply_last (fun n hn => (outsAt1 V c n hn).2.2.2.2.2.2.2.2.2) 8
    (fun _ => 0) (fun t j => ((∑ i : Fin 512, CT (row t i) (j 1) : ℝ) : EReal))
    (fun t h8 j => by rw [outsAt1_A V c t h8]; frame_out; rw [pay_shift, pay_zero']; simp only [blk1_ct V c k, ← EReal.coe_mul, sum_coe]; rfl)
    (fun t h8 j => by rw [outsAt1_B V c t h8]; frame_out; rw [pay_shift]; simp only [blk1_ct V c k, ← EReal.coe_mul, sum_coe]; rfl)
    (le_of_eq N_1) t1_7 rfl j, zero_add]
  exact (sum_coe _).trans (congrArg _ (sum_row fun r => CT r (j 1)))
end

end Cert.Mix
end
-- ==== Proof.Mix.Entry.lean ====
/- The two regions' entry contents, from real arguments. -/
module
public import proofs.«01_k».proof.Proof.Finite
public import proofs.«01_k».proof.Proof.Gen.KernelIdeal.Frame.State
public import proofs.«01_k».proof.Proof.Mix.Reg1b
@[expose] public section
set_option maxRecDepth 16384
noncomputable section
namespace Cert.Mix
open Idealize.ShloMosaic Idealize.ShloMosaic.TcCoe Idealize.ShloMosaic.Tactic Idealize.SL.Sem Cert.KernelIdeal Cert.KernelIdeal.Gen Cert.RealNorm
open Cert.Finite
open Idealize.ShloMosaic.Pipeline (Dat Cfg Window)

variable (m : (ℓ : Loc nD τ sig) → Buf (Elt Ideal) ℓ) (ρ : Dev nD → PrngReg) (c : Dev nD)

/-- The arguments are real arrays (the shift may be anything). -/
structure Args (X CT : Fin 4096 → Fin 1024 → ℝ) (S G : Fin 4096 → Fin 512 → ℝ) (GA GB : Fin 4096 → Fin 1024 → ℝ)
    (UA UB : Fin 512 → Fin 1024 → ℝ) (W : Fin 1024 → Fin 1024 → ℝ) (gg : Fin 1024 → ℝ) : Prop where
  x : ∀ i, m (c.tc.loc main_arg0) i = ((X (bl (i 0) (i 1)) (i 2) : ℝ) : EReal)
  s : ∀ i, m (c.tc.loc main_arg1) i = ((S (bl (i 0) (i 1)) (i 2) : ℝ) : EReal)
  g : ∀ i, m (c.tc.loc main_arg2) i = ((G (bl (i 0) (i 1)) (i 2) : ℝ) : EReal)
  ga : ∀ i, m (c.tc.loc main_arg3) i = ((GA (bl (i 0) (i 1)) (i 2) : ℝ) : EReal)
  gb : ∀ i, m (c.tc.loc main_arg4) i = ((GB (bl (i 0) (i 1)) (i 2) : ℝ) : EReal)
  ua : ∀ i, m (c.tc.loc main_arg5) i = ((UA (i 1) (i 2) : ℝ) : EReal)
  ub : ∀ i, m (c.tc.loc main_arg6) i = ((UB (i 1) (i 2) : ℝ) : EReal)
  w : ∀ i, m (c.tc.loc main_arg7) i = ((W (i 1) (i 2) : ℝ) : EReal)
  gg : ∀ i, m (c.tc.loc main_arg8) i = ((gg (i 1) : ℝ) : EReal)
  ct : ∀ i, m (c.tc.loc main_arg10) i = ((CT (bl (i 0) (i 1)) (i 2) : ℝ) : EReal)

variable {X CT : Fin 4096 → Fin 1024 → ℝ} {S G : Fin 4096 → Fin 512 → ℝ} {GA GB : Fin 4096 → Fin 1024 → ℝ}
  {UA UB : Fin 512 → Fin 1024 → ℝ} {W : Fin 1024 → Fin 1024 → ℝ} {gg : Fin 1024 → ℝ}

theorem v1_x (h : Args m c X CT S G GA GB UA UB W gg) (i) : V1 m ρ c main_v0 i = ((X (i 0) (i 1) : ℝ) : EReal) := by
  have e : V1 m ρ c main_v0 i = m (c.tc.loc main_arg0) (ValueIdx.ix3 (rb (i 0)) (rl (i 0)) (i 1)) := by
    show StableHlo.after hostOps0 _ _ _ = _
    after_results
    pointwise
    blk_ext [rb, rl]
  rw [e, h.x]
  exact congrArg (fun r => ((X r (i 1) : ℝ) : EReal)) (bl_rb (i 0))
theorem v1_s (h : Args m c X CT S G GA GB UA UB W gg) (i) : V1 m ρ c main_v2 i = ((S (i 0) (i 1) : ℝ) : EReal) := by
  have e : V1 m ρ c main_v2 i = m (c.tc.loc main_arg1) (ValueIdx.ix3 (rb (i 0)) (rl (i 0)) (i 1)) := by
    show StableHlo.after hostOps0 _ _ _ = _
    after_results
    pointwise
    blk_ext [rb, rl]
  rw [e, h.s]
  exact congrArg (fun r => ((S r (i 1) : ℝ) : EReal)) (bl_rb (i 0))
theorem v1_g (h : Args m c X CT S G GA GB UA UB W gg) (i) : V1 m ρ c main_v4 i = ((G (i 0) (i 1) : ℝ) : EReal) := by
  have e : V1 m ρ c main_v4 i = m (c.tc.loc main_arg2) (ValueIdx.ix3 (rb (i 0)) (rl (i 0)) (i 1)) := by
    show StableHlo.after hostOps0 _ _ _ = _
    after_results
    pointwise
    blk_ext [rb, rl]
  rw [e, h.g]
  exact congrArg (fun r => ((G r (i 1) : ℝ) : EReal)) (bl_rb (i 0))
theorem v1_ga (h : Args m c X CT S G GA GB UA UB W gg) (r : Fin 4096) (d : Fin 1024) :
    V1 m ρ c main_v7 (ValueIdx.ix2 r (⟨d.val, by omega⟩ : Fin 2048)) = ((GA r d : ℝ) : EReal) := by
  have e : V1 m ρ c main_v7 (ValueIdx.ix2 r (⟨d.val, by omega⟩ : Fin 2048)) = m (c.tc.loc main_arg3) (ValueIdx.ix3 (rb r) (rl r) d) := by
    show StableHlo.after hostOps0 _ _ _ = _
    after_results
    pointwise
    blk_point [rb, rl]
  rw [e, h.ga]
  exact congrArg (fun r => ((GA r d : ℝ) : EReal)) (bl_rb r)
theorem v1_gb (h : Args m c X CT S G GA GB UA UB W gg) (r : Fin 4096) (d : Fin 1024) :
    V1 m ρ c main_v7 (ValueIdx.ix2 r (⟨d.val + 1024, by omega⟩ : Fin 2048)) = ((GB r d : ℝ) : EReal) := by
  have e : V1 m ρ c main_v7 (ValueIdx.ix2 r (⟨d.val + 1024, by omega⟩ : Fin 2048)) = m (c.tc.loc main_arg4) (ValueIdx.ix3 (rb r) (rl r) d) := by
    show StableHlo.after hostOps0 _ _ _ = _
    after_results
    pointwise
    blk_point [rb, rl]
    · omega
    · exact Nat.add_sub_cancel _ _
  rw [e, h.gb]
  exact congrArg (fun r => ((GB r d : ℝ) : EReal)) (bl_rb r)
theorem v1_ua (h : Args m c X CT S G GA GB UA UB W gg) (i) : V1 m ρ c main_v9 i = ((UA (i 0) (i 1) : ℝ) : EReal) := by
  have e : V1 m ρ c main_v9 i = m (c.tc.loc main_arg5) (ValueIdx.ix3 0 (i 0) (i 1)) := by
    show StableHlo.after hostOps0 _ _ _ = _
    after_results
    pointwise
    try blk_ext
  exact e.trans (h.ua _)
theorem v1_ub (h : Args m c X CT S G GA GB UA UB W gg) (i) : V1 m ρ c main_v11 i = ((UB (i 0) (i 1) : ℝ) : EReal) := by
  have e : V1 m ρ c main_v11 i = m (c.tc.loc main_arg6) (ValueIdx.ix3 0 (i 0) (i 1)) := by
    show StableHlo.after hostOps0 _ _ _ = _
    after_results
    pointwise
    try blk_ext
  exact e.trans (h.ub _)
theorem v1_w (h : Args m c X CT S G GA GB UA UB W gg) (i) : V1 m ρ c main_v13 i = ((W (i 0) (i 1) : ℝ) : EReal) := by
  have e : V1 m ρ c main_v13 i = m (c.tc.loc main_arg7) (ValueIdx.ix3 0 (i 0) (i 1)) := by
    show StableHlo.after hostOps0 _ _ _ = _
    after_results
    pointwise
    try blk_ext
  exact e.trans (h.w _)

theorem entry1 (h : Args m c X CT S G GA GB UA UB W gg) : Entry (V1 m ρ) c S G GA GB UA UB W :=
  ⟨v1_s m ρ c h, v1_g m ρ c h, v1_ga m ρ c h, v1_gb m ρ c h, v1_ua m ρ c h, v1_ub m ρ c h, v1_w m ρ c h⟩

/-- A buffer that neither the first region's results nor the second stretch writes. -/
theorem keep (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

theorem entry3 (h : Args m c X CT S G GA GB UA UB W gg) : Entry (V3 m ρ) c S G GA GB UA UB W where
  s i := by rw [keep m ρ c main_v2 (by decide) (by decide)]; exact v1_s m ρ c h i
  g i := by rw [keep m ρ c main_v4 (by decide) (by decide)]; exact v1_g m ρ c h i
  ga r d := by rw [keep m ρ c main_v7 (by decide) (by decide)]; exact v1_ga m ρ c h r d
  gb r d := by rw [keep m ρ c main_v7 (by decide) (by decide)]; exact v1_gb m ρ c h r d
  ua i := by rw [keep m ρ c main_v9 (by decide) (by decide)]; exact v1_ua m ρ c h i
  ub i := by rw [keep m ρ c main_v11 (by decide) (by decide)]; exact v1_ub m ρ c h i
  w i := by rw [keep m ρ c main_v13 (by decide) (by decide)]; exact v1_w m ρ c h i

theorem arg1 (a : Ref sig .tc) (ha : a ∈ argRefs) : V1 m ρ c a = m (c.tc.loc a) := W1_args m ρ c a ha

theorem back3 (h : Args m c X CT S G GA GB UA UB W gg) :
    Back (V3 m ρ) c CT (fun r => xhat 1024 (resRow X S G GA GB UA UB W r)) (fun r => rstd 1024 (resRow X S G GA GB UA UB W r)) gg where
  ct i := by
    have e : V3 m ρ c main_v15 i = W2 m ρ c (Proc.devRef .tc main_arg10) (ValueIdx.ix3 (rb (i 0)) (rl (i 0)) (i 1)) := by
      show StableHlo.after hostOps1 _ _ _ = _
      after_results
      pointwise
      blk_ext [rb, rl]
    rw [e, W2_args m ρ c main_arg10 (by decide), h.ct]
    exact congrArg (fun r => ((CT r (i 1) : ℝ) : EReal)) (bl_rb (i 0))
  xh i := by
    rw [show V3 m ρ c main_v14_1 = _ from (W3_of m ρ c main_v14_1 (by decide)).trans (W2_arr m ρ c 10), final10 _ c (v1_x m ρ c h) (entry1 m ρ c h)]
  rs i := by
    rw [show V3 m ρ c main_v14_2 = _ from (W3_of m ρ c main_v14_2 (by decide)).trans (W2_arr m ρ c 11), final11 _ c (v1_x m ρ c h) (entry1 m ρ c h)]
  gg i := by rw [show V3 m ρ c main_arg8 = _ from W3_args m ρ c main_arg8 (by decide)]; exact h.gg i

end Cert.Mix
end
-- ==== Proof.SumLead.lean ====
/- A host sum over the two leading axes of a rank-3 array. -/
module
public import Idealize.ShloMosaic.Lib.Pointwise
@[expose] public section
noncomputable section
namespace Cert.SumLead
open Idealize.ShloMosaic

variable {n0 n1 n2 : Nat}

/-- The indices that drop to `j` are those with `j`'s coordinate last. -/
theorem fiber (h : (⟨3, ![n0, n1, n2]⟩ : Shape).ReducesTo [0, 1] ⟨1, ![n2]⟩) (j : (⟨1, ![n2]⟩ : Shape).Idx) (i : (⟨3, ![n0, n1, n2]⟩ : Shape).Idx) :
    h.drop i = j ↔ ∃ p : Fin n0 × Fin n1, (ix3 p.1 p.2 (j 0) : (⟨3, ![n0, n1, n2]⟩ : Shape).Idx) = i := by
  constructor
  · intro e
    refine ⟨(i 0, i 1), ?_⟩
    subst e
    funext a
    apply Fin.ext
    match a with
    | ⟨0, _⟩ => rfl
    | ⟨1, _⟩ => rfl
    | ⟨2, _⟩ => rfl
  · rintro ⟨p, rfl⟩
    funext b
    apply Fin.ext
    match b with
    | ⟨0, _⟩ => rfl
    | ⟨_ + 1, hb⟩ => exact absurd hb (by simp)

/-- The host's sum over the two leading axes. -/
theorem hostReduceAdd_lead (h : (⟨3, ![n0, n1, n2]⟩ : Shape).ReducesTo [0, 1] ⟨1, ![n2]⟩) (v : (⟨3, ![n0, n1, n2]⟩ : Shape).Idx → EReal)
    (init : EReal) (j : (⟨1, ![n2]⟩ : Shape).Idx) :
    Ideal.hostReduceAdd h v init j = init + ∑ a : Fin n0, ∑ b : Fin n1, v (ix3 a b (j 0)) := by
  rw [← Fintype.sum_prod_type' (f := fun a b => v (ix3 a b (j 0)))]
  refine congrArg (init + ·) (Finset.sum_filter_eq_sum_of_fiber _ (fun p : Fin n0 × Fin n1 => (ix3 p.1 p.2 (j 0) : (⟨3, ![n0, n1, n2]⟩ : Shape).Idx)) ?_ (fiber h j) v)
  intro p q e
  exact Prod.ext (congrFun e 0) (congrFun e 1)

end Cert.SumLead
end
-- ==== Proof.Mix.RefRun.lean ====
/- What the reference's run leaves in its result arrays, from real arguments. -/
module
public import proofs.«01_k».proof.Proof.Mix.Ref
public import proofs.«01_k».proof.Proof.Mix.Entry
public import proofs.«01_k».proof.Proof.SumLead
@[expose] public section
set_option maxRecDepth 16384
noncomputable section
namespace Cert.Mix.Ref
open Idealize.ShloMosaic Idealize.ShloMosaic.TcCoe Idealize.SL.Sem Cert.ReferenceIdeal Cert.ReferenceIdeal.Value Cert.RealNorm
open Cert.Finite
open Idealize.ShloMosaic.StableHlo (launchContents)
variable (m : (ℓ : Loc nD τ sig) → Buf (Elt Ideal) ℓ) (ρ : Dev nD → PrngReg)
variable {X CT : Fin 4096 → Fin 1024 → ℝ} {S G : Fin 4096 → Fin 512 → ℝ} {GA GB : Fin 4096 → Fin 1024 → ℝ}
  {UA UB : Fin 512 → Fin 1024 → ℝ} {W : Fin 1024 → Fin 1024 → ℝ} {gg : Fin 1024 → ℝ}

/-- The arguments as flat rows. -/
abbrev Flat (V0 : Valuation τ sig (Elt Ideal)) (X CT : Fin 4096 → Fin 1024 → ℝ) (S G : Fin 4096 → Fin 512 → ℝ) (GA GB : Fin 4096 → Fin 1024 → ℝ)
    (UA UB : Fin 512 → Fin 1024 → ℝ) (W : Fin 1024 → Fin 1024 → ℝ) (gg : Fin 1024 → ℝ) : Prop :=
  Args V0 (fun b l => X (bl b l)) (fun b l => CT (bl b l)) (fun b l => S (bl b l)) (fun b l => G (bl b l)) (fun b l => GA (bl b l)) (fun b l => GB (bl b l)) UA UB W gg

/-- The residual's gradient at a row, from the arguments. -/
def drA (X CT : Fin 4096 → Fin 1024 → ℝ) (S G : Fin 4096 → Fin 512 → ℝ) (GA GB : Fin 4096 → Fin 1024 → ℝ)
    (UA UB : Fin 512 → Fin 1024 → ℝ) (W : Fin 1024 → Fin 1024 → ℝ) (gg : Fin 1024 → ℝ) : Fin 4096 → Fin 1024 → ℝ :=
  drRow CT (fun r => xhat 1024 (resRow X S G GA GB UA UB W r)) (fun r => rstd 1024 (resRow X S G GA GB UA UB W r)) gg
/-- The gated sum's. -/
def dmA (X CT : Fin 4096 → Fin 1024 → ℝ) (S G : Fin 4096 → Fin 512 → ℝ) (GA GB : Fin 4096 → Fin 1024 → ℝ)
    (UA UB : Fin 512 → Fin 1024 → ℝ) (W : Fin 1024 → Fin 1024 → ℝ) (gg : Fin 1024 → ℝ) (r : Fin 4096) : Fin 1024 → ℝ :=
  linT (drA X CT S G GA GB UA UB W gg r) W

/-- The reference's arguments. -/
def refArgs : List (Ref sig .tc) := [main_arg0, main_arg1, main_arg2, main_arg3, main_arg4, main_arg5, main_arg6, main_arg7, main_arg8, main_arg9, main_arg10]

/-- What the results are. -/
structure Out (c : Dev nD) (m mem : (ℓ : Loc nD τ sig) → Buf (Elt Ideal) ℓ) (X CT : Fin 4096 → Fin 1024 → ℝ) (S G : Fin 4096 → Fin 512 → ℝ) (GA GB : Fin 4096 → Fin 1024 → ℝ)
    (UA UB : Fin 512 → Fin 1024 → ℝ) (W : Fin 1024 → Fin 1024 → ℝ) (gg : Fin 1024 → ℝ) : Prop where
  v108 : mem ((c.tc : Thread nD τ).loc main_v108) = (show FVec Ideal S4096x1024 .f32 from fun j => ((xhat 1024 (resRow X S G GA GB UA UB W (j 0)) (j 1) : ℝ) : EReal)
      * m ((c.tc : Thread nD τ).loc main_arg8) (ValueIdx.ix2 0 (j 1)) + m ((c.tc : Thread nD τ).loc main_arg9) (ValueIdx.ix2 0 (j 1)))
  v109 : mem ((c.tc : Thread nD τ).loc main_v109) = (show FVec Ideal S4096x1024 .f32 from fun j => ((xhat 1024 (resRow X S G GA GB UA UB W (j 0)) (j 1) : ℝ) : EReal))
  v110 : mem ((c.tc : Thread nD τ).loc main_v110) = (show FVec Ideal S4096x1 .f32 from fun j => ((rstd 1024 (resRow X S G GA GB UA UB W (j 0)) : ℝ) : EReal))
  v111 : mem ((c.tc : Thread nD τ).loc main_v111) = (show FVec Ideal S4096x1024 .f32 from fun j => ((alpha * drA X CT S G GA GB UA UB W gg (j 0) (j 1) : ℝ) : EReal))
  v113 : mem ((c.tc : Thread nD τ).loc main_v113) = (show FVec Ideal S4096x1024 .bf16 from fun j => ((drA X CT S G GA GB UA UB W gg (j 0) (j 1) : ℝ) : EReal))
  v116 : mem ((c.tc : Thread nD τ).loc main_v116) = (show FVec Ideal S1024x4096 .bf16 from fun j => ((mixed (S (j 1)) (G (j 1)) (GA (j 1)) (GB (j 1)) UA UB (j 0) : ℝ) : EReal))
  v118 : mem ((c.tc : Thread nD τ).loc main_v118) = (show FVec Ideal S4096x1024 .bf16 from fun j => ((dmA X CT S G GA GB UA UB W gg (j 0) (j 1) * sig (GA (j 0) (j 1)) : ℝ) : EReal))
  v120 : mem ((c.tc : Thread nD τ).loc main_v120) = (show FVec Ideal S4096x1024 .bf16 from fun j => ((dmA X CT S G GA GB UA UB W gg (j 0) (j 1) * sig (GB (j 0) (j 1)) : ℝ) : EReal))
  v121 : mem ((c.tc : Thread nD τ).loc main_v121) = (show FVec Ideal S4096x512 .f32 from fun j => ((linT (fun d => dmA X CT S G GA GB UA UB W gg (j 0) d * sig (GA (j 0) d)) UA (j 1) : ℝ) : EReal))
  v122 : mem ((c.tc : Thread nD τ).loc main_v122) = (show FVec Ideal S4096x512 .f32 from fun j => ((linT (fun d => dmA X CT S G GA GB UA UB W gg (j 0) d * sig (GB (j 0) d)) UB (j 1) : ℝ) : EReal))
  v125 : mem ((c.tc : Thread nD τ).loc main_v125) = (show FVec Ideal S4096x2048 .bf16 from fun j => ((halves (dgate (dmA X CT S G GA GB UA UB W gg (j 0)) (lin (S (j 0)) UA) (GA (j 0))) (dgate (dmA X CT S G GA GB UA UB W gg (j 0)) (lin (G (j 0)) UB) (GB (j 0))) (j 1) : ℝ) : EReal))
  v96 : mem ((c.tc : Thread nD τ).loc main_v96) = (show FVec Ideal S1x1024 .f32 from fun j => ((∑ r, CT r (j 1) * xhat 1024 (resRow X S G GA GB UA UB W r) (j 1) : ℝ) : EReal))
  v95 : mem ((c.tc : Thread nD τ).loc main_v95) = (show FVec Ideal S1x1024 .f32 from fun j => ((∑ r, CT r (j 1) : ℝ) : EReal))
  args : ∀ a ∈ refArgs, mem ((c.tc : Thread nD τ).loc a) = m ((c.tc : Thread nD τ).loc a)

set_option maxHeartbeats 1000000 in
/-- The reference's run. -/
theorem run_out (h : ∀ c, Flat (launchContents m c) X CT S G GA GB UA UB W gg) :
    θ_run defs (onTc (τ := τ) (main (F := Ideal))) ⟨m, fun _ => 0, ρ⟩ fun r => ∀ c : Dev nD, Out c m r.2.mem X CT S G GA GB UA UB W gg := by
  refine (θ_run defs _ _).mono (fun r hr c => ?_) (run m ρ)
  obtain ⟨h0, h1, h2, h3, h4, h5, h6, h7, h8, h9, h10, h11, h12, hargs⟩ := hr c
  constructor
  · refine h0.trans (funext fun j => ?_)
    clear h0 h1 h2 h3 h4 h5 h6 h7 h8 h9 h10 h11 h12 hargs hr
    pointwise
    simp only [v54 _ (h c), v55 _ (h c)]
    exact congrArg₂ (· + ·) (congrArg₂ (· * ·) (congrArg (fun r => ((xhat 1024 (resRow X S G GA GB UA UB W r) (j 1) : ℝ) : EReal)) (bl_rb (j 0))) ((h c).gg (ValueIdx.ix2 0 (j 1))).symm) rfl
  · refine h1.trans (funext fun j => ?_)
    clear h0 h1 h2 h3 h4 h5 h6 h7 h8 h9 h10 h11 h12 hargs hr
    pointwise
    simp only [v54 _ (h c)]
    exact congrArg (fun r => ((xhat 1024 (resRow X S G GA GB UA UB W r) (j 1) : ℝ) : EReal)) (bl_rb (j 0))
  · refine h2.trans (funext fun j => ?_)
    clear h0 h1 h2 h3 h4 h5 h6 h7 h8 h9 h10 h11 h12 hargs hr
    pointwise
    simp only [v47 _ (h c)]
    exact congrArg (fun r => ((rstd 1024 (resRow X S G GA GB UA UB W r) : ℝ) : EReal)) (bl_rb (j 0))
  · refine h3.trans (funext fun j => ?_)
    clear h0 h1 h2 h3 h4 h5 h6 h7 h8 h9 h10 h11 h12 hargs hr
    pointwise
    simp only [v94' _ (h c), lit_alpha, ← EReal.coe_mul]
    exact congrArg (fun r => ((alpha * drA X CT S G GA GB UA UB W gg r (j 1) : ℝ) : EReal)) (bl_rb (j 0))
  · refine h4.trans (funext fun j => ?_)
    clear h0 h1 h2 h3 h4 h5 h6 h7 h8 h9 h10 h11 h12 hargs hr
    pointwise
    simp only [v94' _ (h c)]
    exact congrArg (fun r => ((drA X CT S G GA GB UA UB W gg r (j 1) : ℝ) : EReal)) (bl_rb (j 0))
  · refine h5.trans (funext fun j => ?_)
    clear h0 h1 h2 h3 h4 h5 h6 h7 h8 h9 h10 h11 h12 hargs hr
    pointwise
    simp only [v24 _ (h c)]
    exact congrArg (fun r => ((mixed (S r) (G r) (GA r) (GB r) UA UB (j 0) : ℝ) : EReal)) (bl_rb (j 1))
  · refine h6.trans (funext fun j => ?_)
    clear h0 h1 h2 h3 h4 h5 h6 h7 h8 h9 h10 h11 h12 hargs hr
    pointwise
    simp only [v103 _ (h c)]
    exact congrArg (fun r => ((dmA X CT S G GA GB UA UB W gg r (j 1) * sig (GA r (j 1)) : ℝ) : EReal)) (bl_rb (j 0))
  · refine h7.trans (funext fun j => ?_)
    clear h0 h1 h2 h3 h4 h5 h6 h7 h8 h9 h10 h11 h12 hargs hr
    pointwise
    simp only [v100 _ (h c)]
    exact congrArg (fun r => ((dmA X CT S G GA GB UA UB W gg r (j 1) * sig (GB r (j 1)) : ℝ) : EReal)) (bl_rb (j 0))
  · refine h8.trans (funext fun j => ?_)
    clear h0 h1 h2 h3 h4 h5 h6 h7 h8 h9 h10 h11 h12 hargs hr
    have e : ∀ x : Fin 1024, res_main_v103 (launchContents m c) (ValueIdx.ix3 (rb (j 0)) (rl (j 0)) x) = ((dmA X CT S G GA GB UA UB W gg (j 0) x * sig (GA (j 0) x) : ℝ) : EReal) :=
      fun x => (v103 _ (h c) _).trans (congrArg (fun r => ((dmA X CT S G GA GB UA UB W gg r x * sig (GA r x) : ℝ) : EReal)) (bl_rb (j 0)))
    pointwise
    refine (Finset.sum_congr rfl fun x _ => congrArg₂ (fun a b : EReal => a * b) (e x) (v0 _ (h c) _)).trans ?_
    simp only [← EReal.coe_mul, sum_coe]
    rfl
  · refine h9.trans (funext fun j => ?_)
    clear h0 h1 h2 h3 h4 h5 h6 h7 h8 h9 h10 h11 h12 hargs hr
    have e : ∀ x : Fin 1024, res_main_v100 (launchContents m c) (ValueIdx.ix3 (rb (j 0)) (rl (j 0)) x) = ((dmA X CT S G GA GB UA UB W gg (j 0) x * sig (GB (j 0) x) : ℝ) : EReal) :=
      fun x => (v100 _ (h c) _).trans (congrArg (fun r => ((dmA X CT S G GA GB UA UB W gg r x * sig (GB r x) : ℝ) : EReal)) (bl_rb (j 0)))
    pointwise
    refine (Finset.sum_congr rfl fun x _ => congrArg₂ (fun a b : EReal => a * b) (e x) (v2 _ (h c) _)).trans ?_
    simp only [← EReal.coe_mul, sum_coe]
    rfl
  · refine h10.trans (funext fun j => ?_)
    clear h0 h1 h2 h3 h4 h5 h6 h7 h8 h9 h10 h11 h12 hargs hr
    pointwise
    simp only [v99 _ (h c), v1 _ (h c), v3 _ (h c), v9 _ (h c), v19 _ (h c), ← EReal.coe_one, ← EReal.coe_mul, ← EReal.coe_sub]
    refine Eq.trans (b := ((halves (dgate (dmA X CT S G GA GB UA UB W gg (bl (rb (j 0)) (rl (j 0)))) (lin (S (bl (rb (j 0)) (rl (j 0)))) UA) (GA (bl (rb (j 0)) (rl (j 0))))) (dgate (dmA X CT S G GA GB UA UB W gg (bl (rb (j 0)) (rl (j 0)))) (lin (G (bl (rb (j 0)) (rl (j 0)))) UB) (GB (bl (rb (j 0)) (rl (j 0))))) (j 1) : ℝ) : EReal)) ?_ (congrArg (fun r => ((halves (dgate (dmA X CT S G GA GB UA UB W gg r) (lin (S r) UA) (GA r)) (dgate (dmA X CT S G GA GB UA UB W gg r) (lin (G r) UB) (GB r)) (j 1) : ℝ) : EReal)) (bl_rb (j 0)))
    unfold halves
    split
    · exact congrArg _ (mul_assoc _ _ _).symm
    · exact congrArg _ (mul_assoc _ _ _).symm
  · refine h11.trans (funext fun j => ?_)
    clear h0 h1 h2 h3 h4 h5 h6 h7 h8 h9 h10 h11 h12 hargs hr
    pointwise [SumLead.hostReduceAdd_lead]
    simp only [Fin.sum_univ_one, v54 _ (h c), v61 _ (h c), ← EReal.coe_mul, sum_coe]
    exact congrArg _ ((Finset.sum_congr rfl fun _ _ => Finset.sum_congr rfl fun _ _ => mul_comm _ _).trans (sum_bl fun r => CT r (j 1) * xhat 1024 (resRow X S G GA GB UA UB W r) (j 1)))
  · refine h12.trans (funext fun j => ?_)
    clear h0 h1 h2 h3 h4 h5 h6 h7 h8 h9 h10 h11 h12 hargs hr
    pointwise [SumLead.hostReduceAdd_lead]
    simp only [Fin.sum_univ_one, (h c).ct, ← EReal.coe_mul, sum_coe]
    exact congrArg _ ((sum_bl fun r => CT r (j 1)))
  · intro a ha
    simp only [refArgs, List.mem_cons, List.not_mem_nil, or_false] at ha
    obtain ⟨a0, a1, a2, a3, a4, a5, a6, a7, a8, a9, a10⟩ := hargs
    rcases ha with rfl | rfl | rfl | rfl | rfl | rfl | rfl | rfl | rfl | rfl | rfl <;> assumption
end Cert.Mix.Ref
end
-- ==== Proof.Mix.Run.lean ====
/- The whole run of the program: every buffer ends at the last boundary's contents. -/
module
public import proofs.«01_k».proof.Proof.Gen.KernelIdeal.Frame
@[expose] public section
set_option maxRecDepth 16384
noncomputable section
namespace Cert.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends with each unscoped buffer at its contents after the last region, and every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- A reference of the TensorCore is among the buffers read. -/
theorem run_mem : θ_run defs (onTc (τ := τ) (main (F := F))) ⟨m, fun _ => 0, ρ⟩ (fun r =>
    (∀ c : Dev nD, ∀ b : Ref sig .tc, ¬ (Proc.devRef .tc b : DevRef τ sig).isScoped → r.2.mem ((c.tc : Thread nD τ).loc b) = W4 m ρ c (Proc.devRef .tc b)) ∧ r.2.sem = fun _ => 0) :=
  (θ_run defs _ _).mono (fun r h => ⟨fun c b hb => h.1 c _ (mem_uc b hb), h.2⟩) (run_all m ρ)

end Cert.Mix
end
-- ==== Proof.Mix.Claim.lean ====
/- What the kernel's run leaves in its result arrays, and the claim against the reference. -/
module
public import proofs.«01_k».proof.Proof.Mix.RefRun
public import proofs.«01_k».proof.Proof.Mix.Run
public import proofs.«01_k».proof.Proof.Mix.Reg1b
public import proofs.«01_k».proof.Proof.Gen.Pre_finite
public import proofs.«01_k».proof.Defs
@[expose] public section
set_option maxRecDepth 16384
noncomputable section
namespace Cert.Mix
open Idealize.ShloMosaic Idealize.ShloMosaic.TcCoe Idealize.SL.Sem Cert.RealNorm Cert.Finite

section Run
open Cert.KernelIdeal Cert.KernelIdeal.Gen
variable (m : (ℓ : Loc nD τ sig) → Buf (Elt Ideal) ℓ) (ρ : Dev nD → PrngReg)
variable {X CT : Fin 4096 → Fin 1024 → ℝ} {S G : Fin 4096 → Fin 512 → ℝ} {GA GB : Fin 4096 → Fin 1024 → ℝ}
  {UA UB : Fin 512 → Fin 1024 → ℝ} {W : Fin 1024 → Fin 1024 → ℝ} {gg : Fin 1024 → ℝ}

/-- What the results are. -/
structure Out (c : Dev nD) (m mem : (ℓ : Loc nD τ sig) → Buf (Elt Ideal) ℓ) (X CT : Fin 4096 → Fin 1024 → ℝ) (S G : Fin 4096 → Fin 512 → ℝ) (GA GB : Fin 4096 → Fin 1024 → ℝ)
  (UA UB : Fin 512 → Fin 1024 → ℝ) (W : Fin 1024 → Fin 1024 → ℝ) (gg : Fin 1024 → ℝ) : Prop where
  v14_0 : mem ((c.tc : Thread nD τ).loc main_v14_0) = (show FVec Ideal S4096x1024 .f32 from fun j => ((xhat 1024 (resRow X S G GA GB UA UB W (j 0)) (j 1) : ℝ) : EReal)
      * m ((c.tc : Thread KernelIdeal.nD KernelIdeal.τ).loc main_arg8) (ValueIdx.ix2 0 (j 1)) + m ((c.tc : Thread KernelIdeal.nD KernelIdeal.τ).loc main_arg9) (ValueIdx.ix2 0 (j 1)))
  v14_1 : mem ((c.tc : Thread nD τ).loc main_v14_1) = (show FVec Ideal S4096x1024 .f32 from fun j => ((xhat 1024 (resRow X S G GA GB UA UB W (j 0)) (j 1) : ℝ) : EReal))
  v14_2 : mem ((c.tc : Thread nD τ).loc main_v14_2) = (show FVec Ideal S4096x1 .f32 from fun j => ((rstd 1024 (resRow X S G GA GB UA UB W (j 0)) : ℝ) : EReal))
  v16_0 : mem ((c.tc : Thread nD τ).loc main_v16_0) = (show FVec Ideal S4096x1024 .f32 from fun j => ((alpha * Ref.drA X CT S G GA GB UA UB W gg (j 0) (j 1) : ℝ) : EReal))
  v16_1 : mem ((c.tc : Thread nD τ).loc main_v16_1) = (show FVec Ideal S4096x1024 .bf16 from fun j => ((Ref.drA X CT S G GA GB UA UB W gg (j 0) (j 1) : ℝ) : EReal))
  v16_2 : mem ((c.tc : Thread nD τ).loc main_v16_2) = (show FVec Ideal S1024x4096 .bf16 from fun j => ((mixed (S (j 1)) (G (j 1)) (GA (j 1)) (GB (j 1)) UA UB (j 0) : ℝ) : EReal))
  v16_3 : mem ((c.tc : Thread nD τ).loc main_v16_3) = (show FVec Ideal S4096x1024 .bf16 from fun j => ((Ref.dmA X CT S G GA GB UA UB W gg (j 0) (j 1) * sig (GA (j 0) (j 1)) : ℝ) : EReal))
  v16_4 : mem ((c.tc : Thread nD τ).loc main_v16_4) = (show FVec Ideal S4096x1024 .bf16 from fun j => ((Ref.dmA X CT S G GA GB UA UB W gg (j 0) (j 1) * sig (GB (j 0) (j 1)) : ℝ) : EReal))
  v16_5 : mem ((c.tc : Thread nD τ).loc main_v16_5) = (show FVec Ideal S4096x512 .f32 from fun j => ((linT (fun d => Ref.dmA X CT S G GA GB UA UB W gg (j 0) d * sig (GA (j 0) d)) UA (j 1) : ℝ) : EReal))
  v16_6 : mem ((c.tc : Thread nD τ).loc main_v16_6) = (show FVec Ideal S4096x512 .f32 from fun j => ((linT (fun d => Ref.dmA X CT S G GA GB UA UB W gg (j 0) d * sig (GB (j 0) d)) UB (j 1) : ℝ) : EReal))
  v16_7 : mem ((c.tc : Thread nD τ).loc main_v16_7) = (show FVec Ideal S4096x2048 .bf16 from fun j => ((halves (dgate (Ref.dmA X CT S G GA GB UA UB W gg (j 0)) (lin (S (j 0)) UA) (GA (j 0))) (dgate (Ref.dmA X CT S G GA GB UA UB W gg (j 0)) (lin (G (j 0)) UB) (GB (j 0))) (j 1) : ℝ) : EReal))
  v16_8 : mem ((c.tc : Thread nD τ).loc main_v16_8) = (show FVec Ideal S1x1024 .f32 from fun j => ((∑ r, CT r (j 1) * xhat 1024 (resRow X S G GA GB UA UB W r) (j 1) : ℝ) : EReal))
  v16_9 : mem ((c.tc : Thread nD τ).loc main_v16_9) = (show FVec Ideal S1x1024 .f32 from fun j => ((∑ r, CT r (j 1) : ℝ) : EReal))
  args : ∀ a ∈ argRefs, mem ((c.tc : Thread nD τ).loc a) = m ((c.tc : Thread nD τ).loc a)

/-- The kernel's run. -/
theorem run_out (h : ∀ c, Args m c X CT S G GA GB UA UB W gg) :
    θ_run defs (onTc (τ := τ) (main (F := Ideal))) ⟨m, fun _ => 0, ρ⟩ fun r => ∀ c : Dev nD, Out c m r.2.mem X CT S G GA GB UA UB W gg := by
  refine (θ_run defs _ _).mono (fun r hr c => ?_) (run_mem m ρ)
  have hm := hr.1 c
  have e1 := entry1 m ρ c (h c)
  have e3 := entry3 m ρ c (h c)
  have b3 := back3 m ρ c (h c)
  constructor
  · refine (hm main_v14_0 (by decide)).trans ((W4_of m ρ c main_v14_0 (by decide)).trans ((W3_of m ρ c main_v14_0 (by decide)).trans ((W2_arr m ρ c 9).trans ((final9 _ c (v1_x m ρ c (h c)) e1).trans ?_))))
    rw [arg1 m ρ c main_arg8 (by decide), arg1 m ρ c main_arg9 (by decide)]
  · exact (hm main_v14_1 (by decide)).trans ((W4_of m ρ c main_v14_1 (by decide)).trans ((W3_of m ρ c main_v14_1 (by decide)).trans ((W2_arr m ρ c 10).trans (final10 _ c (v1_x m ρ c (h c)) e1))))
  · exact (hm main_v14_2 (by decide)).trans ((W4_of m ρ c main_v14_2 (by decide)).trans ((W3_of m ρ c main_v14_2 (by decide)).trans ((W2_arr m ρ c 11).trans (final11 _ c (v1_x m ρ c (h c)) e1))))
  · exact (hm main_v16_0 (by decide)).trans ((W4_arr m ρ c 10).trans (final1_10 _ c e3 b3))
  · exact (hm main_v16_1 (by decide)).trans ((W4_arr m ρ c 11).trans (final1_11 _ c e3 b3))
  · exact (hm main_v16_2 (by decide)).trans ((W4_arr m ρ c 12).trans (final1_12 _ c e3 b3))
  · exact (hm main_v16_3 (by decide)).trans ((W4_arr m ρ c 13).trans (final1_13 _ c e3 b3))
  · exact (hm main_v16_4 (by decide)).trans ((W4_arr m ρ c 14).trans (final1_14 _ c e3 b3))
  · exact (hm main_v16_5 (by decide)).trans ((W4_arr m ρ c 15).trans (final1_15 _ c e3 b3))
  · exact (hm main_v16_6 (by decide)).trans ((W4_arr m ρ c 16).trans (final1_16 _ c e3 b3))
  · exact (hm main_v16_7 (by decide)).trans ((W4_arr m ρ c 17).trans (final1_17 _ c e3 b3))
  · exact (hm main_v16_8 (by decide)).trans ((W4_arr m ρ c 18).trans (final1_18 _ c b3))
  · exact (hm main_v16_9 (by decide)).trans ((W4_arr m ρ c 19).trans (final1_19 _ c b3))
  · exact fun a ha => (hm a (by revert a; decide)).trans (W4_args m ρ c a ha)
end Run

/-- The precondition makes the arguments real arrays. -/
theorem args_of (m : (ℓ : Loc KernelIdeal.nD KernelIdeal.τ KernelIdeal.sig) → Buf (Elt Ideal) ℓ) (hp : Pre_KernelIdeal_finite m) :
    ∃ X CT S G GA GB UA UB W gg, ∀ c, Args m c X CT S G GA GB UA UB W gg := by
  let c0 : Dev KernelIdeal.nD := ⟨0, by decide⟩
  have hj := congrFun (hp c0) (fun k => k.elim0)
  unfold Pre_finite.fn Pre_finite.fn_part1 Pre_finite.fn_part2 at hj
  obtain ⟨hj, f9⟩ := and_one hj
  obtain ⟨hj, f8⟩ := and_one hj
  obtain ⟨hj, f7⟩ := and_one hj
  obtain ⟨hj, f6⟩ := and_one hj
  obtain ⟨hj, f5⟩ := and_one hj
  obtain ⟨hj, f4⟩ := and_one hj
  obtain ⟨hj, f3⟩ := and_one hj
  obtain ⟨hj, f2⟩ := and_one hj
  obtain ⟨hj, f1⟩ := and_one hj
  let a (b : Ref KernelIdeal.sig .tc) := m ((c0.tc : Thread KernelIdeal.nD KernelIdeal.τ).loc b)
  refine ⟨fun r d => (a KernelIdeal.main_arg0 (ValueIdx.ix3 (rb r) (rl r) d) : EReal).toReal, fun r d => (a KernelIdeal.main_arg10 (ValueIdx.ix3 (rb r) (rl r) d) : EReal).toReal, fun r d => (a KernelIdeal.main_arg1 (ValueIdx.ix3 (rb r) (rl r) d) : EReal).toReal, fun r d => (a KernelIdeal.main_arg2 (ValueIdx.ix3 (rb r) (rl r) d) : EReal).toReal, fun r d => (a KernelIdeal.main_arg3 (ValueIdx.ix3 (rb r) (rl r) d) : EReal).toReal, fun r d => (a KernelIdeal.main_arg4 (ValueIdx.ix3 (rb r) (rl r) d) : EReal).toReal, fun p d => (a KernelIdeal.main_arg5 (ValueIdx.ix3 (0 : Fin 1) p d) : EReal).toReal, fun p d => (a KernelIdeal.main_arg6 (ValueIdx.ix3 (0 : Fin 1) p d) : EReal).toReal, fun p d => (a KernelIdeal.main_arg7 (ValueIdx.ix3 (0 : Fin 1) p d) : EReal).toReal, fun d => (a KernelIdeal.main_arg8 (ValueIdx.ix2 (0 : Fin 1) d) : EReal).toReal, fun c => ?_⟩
  obtain rfl : c = c0 := Subsingleton.elim (α := Fin 1) _ _
  have hb : ∀ (s : Shape) (h : Pre_finite.S_.BroadcastsInDim s ![]) (i : s.Idx), broadcastInDim s ![] h (constant (F := Ideal) Pre_finite.S_ .f32 0x7F800000#32) i = (⊤ : EReal) := fun _ _ _ => lit_top
  constructor
  · exact fun i => (coe_of_all _ _ (hb _ _) _ _ _ _ hj i).trans (congrArg (fun k => (((a KernelIdeal.main_arg0 k : EReal).toReal : ℝ) : EReal)) (at_row i))
  · exact fun i => (coe_of_all _ _ (hb _ _) _ _ _ _ f1 i).trans (congrArg (fun k => (((a KernelIdeal.main_arg1 k : EReal).toReal : ℝ) : EReal)) (at_row i))
  · exact fun i => (coe_of_all _ _ (hb _ _) _ _ _ _ f2 i).trans (congrArg (fun k => (((a KernelIdeal.main_arg2 k : EReal).toReal : ℝ) : EReal)) (at_row i))
  · exact fun i => (coe_of_all _ _ (hb _ _) _ _ _ _ f3 i).trans (congrArg (fun k => (((a KernelIdeal.main_arg3 k : EReal).toReal : ℝ) : EReal)) (at_row i))
  · exact fun i => (coe_of_all _ _ (hb _ _) _ _ _ _ f4 i).trans (congrArg (fun k => (((a KernelIdeal.main_arg4 k : EReal).toReal : ℝ) : EReal)) (at_row i))
  · exact fun i => (coe_of_all _ _ (hb _ _) _ _ _ _ f5 i).trans (congrArg (fun k => (((a KernelIdeal.main_arg5 k : EReal).toReal : ℝ) : EReal)) (at_one i))
  · exact fun i => (coe_of_all _ _ (hb _ _) _ _ _ _ f6 i).trans (congrArg (fun k => (((a KernelIdeal.main_arg6 k : EReal).toReal : ℝ) : EReal)) (at_one i))
  · exact fun i => (coe_of_all _ _ (hb _ _) _ _ _ _ f7 i).trans (congrArg (fun k => (((a KernelIdeal.main_arg7 k : EReal).toReal : ℝ) : EReal)) (at_one i))
  · exact fun i => (coe_of_all _ _ (hb _ _) _ _ _ _ f8 i).trans (congrArg (fun k => (((a KernelIdeal.main_arg8 k : EReal).toReal : ℝ) : EReal)) (at_row1 i))
  · exact fun i => (coe_of_all _ _ (hb _ _) _ _ _ _ f9 i).trans (congrArg (fun k => (((a KernelIdeal.main_arg10 k : EReal).toReal : ℝ) : EReal)) (at_row i))

/-- Kernel and reference agree over the reals, from finite arguments. -/
theorem algebraic : algebraic_KernelIdeal_ReferenceIdeal_pre_finite := by
  intro m g m' g' hp hm
  obtain ⟨X, CT, S, G, GA, GB, UA, UB, W, gg, h⟩ := args_of m hp
  have h' : ∀ c, Ref.Flat (StableHlo.launchContents m' c) X CT S G GA GB UA UB W gg := fun c => by
    obtain ⟨a0, a1, a2, a3, a4, a5, a6, a7, a8, a9, a10⟩ := hm c
    constructor
    · exact fun i => (congrFun a0 i).trans ((h c).x i)
    · exact fun i => (congrFun a1 i).trans ((h c).s i)
    · exact fun i => (congrFun a2 i).trans ((h c).g i)
    · exact fun i => (congrFun a3 i).trans ((h c).ga i)
    · exact fun i => (congrFun a4 i).trans ((h c).gb i)
    · exact fun i => (congrFun a5 i).trans ((h c).ua i)
    · exact fun i => (congrFun a6 i).trans ((h c).ub i)
    · exact fun i => (congrFun a7 i).trans ((h c).w i)
    · exact fun i => (congrFun a8 i).trans ((h c).gg i)
    · exact fun i => (congrFun a10 i).trans ((h c).ct i)
  refine ⟨fun c => (show FVec Ideal KernelIdeal.S4096x1024 .f32 from fun j => ((xhat 1024 (resRow X S G GA GB UA UB W (j 0)) (j 1) : ℝ) : EReal)
      * m ((c.tc : Thread KernelIdeal.nD KernelIdeal.τ).loc KernelIdeal.main_arg8) (ValueIdx.ix2 0 (j 1)) + m ((c.tc : Thread KernelIdeal.nD KernelIdeal.τ).loc KernelIdeal.main_arg9) (ValueIdx.ix2 0 (j 1))),
    fun c => (show FVec Ideal KernelIdeal.S4096x1024 .f32 from fun j => ((xhat 1024 (resRow X S G GA GB UA UB W (j 0)) (j 1) : ℝ) : EReal)),
    fun c => (show FVec Ideal KernelIdeal.S4096x1 .f32 from fun j => ((rstd 1024 (resRow X S G GA GB UA UB W (j 0)) : ℝ) : EReal)),
    fun c => (show FVec Ideal KernelIdeal.S4096x1024 .f32 from fun j => ((alpha * Ref.drA X CT S G GA GB UA UB W gg (j 0) (j 1) : ℝ) : EReal)),
    fun c => (show FVec Ideal KernelIdeal.S4096x1024 .bf16 from fun j => ((Ref.drA X CT S G GA GB UA UB W gg (j 0) (j 1) : ℝ) : EReal)),
    fun c => (show FVec Ideal KernelIdeal.S1024x4096 .bf16 from fun j => ((mixed (S (j 1)) (G (j 1)) (GA (j 1)) (GB (j 1)) UA UB (j 0) : ℝ) : EReal)),
    fun c => (show FVec Ideal KernelIdeal.S4096x1024 .bf16 from fun j => ((Ref.dmA X CT S G GA GB UA UB W gg (j 0) (j 1) * sig (GA (j 0) (j 1)) : ℝ) : EReal)),
    fun c => (show FVec Ideal KernelIdeal.S4096x1024 .bf16 from fun j => ((Ref.dmA X CT S G GA GB UA UB W gg (j 0) (j 1) * sig (GB (j 0) (j 1)) : ℝ) : EReal)),
    fun c => (show FVec Ideal KernelIdeal.S4096x512 .f32 from fun j => ((linT (fun d => Ref.dmA X CT S G GA GB UA UB W gg (j 0) d * sig (GA (j 0) d)) UA (j 1) : ℝ) : EReal)),
    fun c => (show FVec Ideal KernelIdeal.S4096x512 .f32 from fun j => ((linT (fun d => Ref.dmA X CT S G GA GB UA UB W gg (j 0) d * sig (GB (j 0) d)) UB (j 1) : ℝ) : EReal)),
    fun c => (show FVec Ideal KernelIdeal.S4096x2048 .bf16 from fun j => ((halves (dgate (Ref.dmA X CT S G GA GB UA UB W gg (j 0)) (lin (S (j 0)) UA) (GA (j 0))) (dgate (Ref.dmA X CT S G GA GB UA UB W gg (j 0)) (lin (G (j 0)) UB) (GB (j 0))) (j 1) : ℝ) : EReal)),
    fun c => (show FVec Ideal KernelIdeal.S1x1024 .f32 from fun j => ((∑ r, CT r (j 1) * xhat 1024 (resRow X S G GA GB UA UB W r) (j 1) : ℝ) : EReal)),
    fun c => (show FVec Ideal KernelIdeal.S1x1024 .f32 from fun j => ((∑ r, CT r (j 1) : ℝ) : EReal)),
    (θ_run _ _ _).mono (fun r hr c => ?_) (run_out m g h), (θ_run _ _ _).mono (fun r hr c => ?_) (Ref.run_out m' g' h')⟩
  · have q := hr c
    exact ⟨q.v14_0, q.v14_1, q.v14_2, q.v16_0, q.v16_1, q.v16_2, q.v16_3, q.v16_4, q.v16_5, q.v16_6, q.v16_7, q.v16_8, q.v16_9, q.args _ (by decide), q.args _ (by decide), q.args _ (by decide), q.args _ (by decide), q.args _ (by decide), q.args _ (by decide), q.args _ (by decide), q.args _ (by decide), q.args _ (by decide), q.args _ (by decide), q.args _ (by decide)⟩
  · have q := hr c
    refine ⟨q.v108.trans ?_, q.v109, q.v110, q.v111, q.v113, q.v116, q.v118, q.v120, q.v121, q.v122, q.v125, q.v96, q.v95, q.args _ (by decide), q.args _ (by decide), q.args _ (by decide), q.args _ (by decide), q.args _ (by decide), q.args _ (by decide), q.args _ (by decide), q.args _ (by decide), q.args _ (by decide), q.args _ (by decide), q.args _ (by decide)⟩
    obtain ⟨a0, a1, a2, a3, a4, a5, a6, a7, a8, a9, a10⟩ := hm c
    rw [a8, a9]
end Cert.Mix
end
-- ==== Proof.Ffn.Model.lean ====
/- The gated feed-forward block, its residual layer norm and its gradient, row by row over the reals. -/
module
public import proofs.«01_k».proof.Proof.Mix.Model
public import Idealize.ShloMosaic.Lib.Pipeline.ValueKit
@[expose] public section
noncomputable section
namespace Cert.Ffn
open Cert.RealNorm Cert.Mix Idealize.ShloMosaic

/-- The gate's and the other half's column of a hidden unit. -/
def lo (d : Fin 2816) : Fin 5632 := ⟨d.val, by omega⟩
def hi (d : Fin 2816) : Fin 5632 := ⟨d.val + 2816, by omega⟩
/-- Column `j` of the `q`-th of four, and of the `k`-th of two chunks of 1408 columns. -/
def c4 (q : Fin 4) (j : Fin 1408) : Fin 5632 := ⟨q.val * 1408 + j.val, by omega⟩
def c2 (k : Fin 2) (j : Fin 1408) : Fin 2816 := ⟨k.val * 1408 + j.val, by omega⟩
theorem lo0 (j : Fin 1408) : c4 0 j = lo (c2 0 j) := Fin.ext (by simp [c4, c2, lo])
theorem lo1 (j : Fin 1408) : c4 1 j = lo (c2 1 j) := Fin.ext (by simp [c4, c2, lo])
theorem hi0 (j : Fin 1408) : c4 2 j = hi (c2 0 j) := Fin.ext (by simp [c4, c2, hi]; omega)
theorem hi1 (j : Fin 1408) : c4 3 j = hi (c2 1 j) := Fin.ext (by simp [c4, c2, hi]; omega)

/-- One hidden unit: the gate through `x · σ(x)`, times the other half. -/
def gate (g u : ℝ) : ℝ := g * sig g * u
/-- The gradients of one hidden unit against a cotangent `a`. -/
def gateG (g u a : ℝ) : ℝ := a * u * (sig g * (1 + g * (1 - sig g)))
def gateU (g a : ℝ) : ℝ := a * (g * sig g)
/-- The hidden row of a row `h` of gates and other halves. -/
def hidden (h : Fin 5632 → ℝ) (d : Fin 2816) : ℝ := gate (h (lo d)) (h (hi d))
/-- The gradient of `h` against a cotangent `a` of the hidden row. -/
def dh (a : Fin 2816 → ℝ) (h : Fin 5632 → ℝ) (d : Fin 5632) : ℝ :=
  if hd : d.val < 2816 then gateG (h d) (h ⟨d.val + 2816, by omega⟩) (a ⟨d.val, hd⟩)
  else gateU (h ⟨d.val - 2816, by omega⟩) (a ⟨d.val - 2816, by omega⟩)
theorem dh_lo (a : Fin 2816 → ℝ) (h : Fin 5632 → ℝ) (d : Fin 2816) : dh a h (lo d) = gateG (h (lo d)) (h (hi d)) (a d) := by
  unfold dh; rw [dif_pos (show (lo d).val < 2816 from d.isLt)]; rfl
theorem dh_hi (a : Fin 2816 → ℝ) (h : Fin 5632 → ℝ) (d : Fin 2816) : dh a h (hi d) = gateU (h (lo d)) (a d) := by
  have e : (⟨(hi d).val - 2816, by have := d.isLt; simp [hi]⟩ : Fin 2816) = d := Fin.ext (by simp [hi])
  unfold dh; rw [dif_neg (by simp [hi]), e]; exact congrArg (fun q => gateU (h q) (a d)) (Fin.ext (by simp [hi, lo]))
/-- The residual. -/
def res (x : Fin 1024 → ℝ) (y : Fin 2816 → ℝ) (W : Fin 2816 → Fin 1024 → ℝ) (d : Fin 1024) : ℝ := alpha * x d + 1 / 2 * lin y W d

/-- A sum over the columns by chunks, in the order of the chunks' use. -/
theorem sum_chunks (f : Fin 5632 → ℝ) :
    ∑ d, f d = ∑ j, f (c4 0 j) + ∑ j, f (c4 2 j) + ∑ j, f (c4 1 j) + ∑ j, f (c4 3 j) := by
  have e : ∑ q : Fin 4, ∑ j : Fin 1408, f (c4 q j) = ∑ d, f d := Fin.sum_mul_add_congr fun q j hl => congrArg f (Fin.ext rfl)
  rw [← e, Fin.sum_univ_four]; ring

/-- Row `i` of block `t`, of blocks of 512, 1024 and 256 rows. -/
def row8 (t : Fin 8) (i : Fin 512) : Fin 4096 := ⟨t.val * 512 + i.val, by omega⟩
def row4 (t : Fin 4) (i : Fin 1024) : Fin 4096 := ⟨t.val * 1024 + i.val, by omega⟩
def row16 (t : Fin 16) (i : Fin 256) : Fin 4096 := ⟨t.val * 256 + i.val, by omega⟩

end Cert.Ffn
end
-- ==== Proof.Ffn.Data.lean ====
/- The block's values, from real arguments. -/
module
public import proofs.«01_k».proof.Proof.Ffn.Model
@[expose] public section
set_option maxRecDepth 16384
noncomputable section
namespace Cert.Ffn
open Cert.RealNorm Cert.Mix
/-- The real arrays of the arguments, row by row. -/
structure Data where
  X : Fin 4096 → Fin 1024 → ℝ
  WI : Fin 1024 → Fin 5632 → ℝ
  WO : Fin 2816 → Fin 1024 → ℝ
  gg : Fin 1024 → ℝ
  CT : Fin 4096 → Fin 1024 → ℝ
/-- The hidden row before the gate, the residual's row, and its gradient. -/
def Data.h (d : Data) : Fin 4096 → Fin 5632 → ℝ := fun r => lin (d.X r) d.WI
def Data.rr (d : Data) (r : Fin 4096) : Fin 1024 → ℝ := res (d.X r) (hidden (d.h r)) d.WO
def Data.dr (d : Data) (r : Fin 4096) : Fin 1024 → ℝ :=
  normGrad 1024 (fun k => d.CT r k * d.gg k) (xhat 1024 (d.rr r)) (rstd 1024 (d.rr r))
/-- The cotangent of the hidden row, and the gradient of the stream's row. -/
def daRow (D : Fin 1024 → ℝ) (WO : Fin 2816 → Fin 1024 → ℝ) : Fin 2816 → ℝ := linT (fun d => 1 / 2 * D d) WO
def dxRow (D : Fin 1024 → ℝ) (h : Fin 5632 → ℝ) (WI : Fin 1024 → Fin 5632 → ℝ) (WO : Fin 2816 → Fin 1024 → ℝ) (d : Fin 1024) : ℝ :=
  alpha * D d + linT (dh (daRow D WO) h) WI d

end Cert.Ffn
end
-- ==== Proof.Ffn.Ref.lean ====
/- The reference's values from real arguments: the nodes of its chain rule, row by row. -/
module
public import proofs.«01_k».proof.Proof.Gen.Reference3Ideal.Run
public import proofs.«01_k».proof.Proof.Ffn.Data
public import proofs.«01_k».proof.Proof.Finite
public import Idealize.ShloMosaic.Lib.Pipeline.ValueKit
public import Idealize.ShloMosaic.Lib.Pointwise
@[expose] public section
set_option maxRecDepth 16384
noncomputable section
namespace Cert.Ffn.Ref
open Idealize.ShloMosaic Idealize.ShloMosaic.TcCoe Idealize.ShloMosaic.Tactic Idealize.SL.Sem Cert.RealNorm Cert.Finite Cert.Reference3Ideal Cert.Reference3Ideal.Value Cert.Mix Cert.Ffn

variable (V0 : Valuation τ sig (Elt Ideal)) {d : Data}

/-- The arguments are real arrays. -/
structure Args (d : Data) : Prop where
  x : ∀ i, V0 (Proc.devRef .tc main_arg0) i = ((d.X (bl (i 0) (i 1)) (i 2) : ℝ) : EReal)
  wi : ∀ i, V0 (Proc.devRef .tc main_arg1) i = ((d.WI (i 1) (i 2) : ℝ) : EReal)
  wo : ∀ i, V0 (Proc.devRef .tc main_arg2) i = ((d.WO (i 1) (i 2) : ℝ) : EReal)
  g : ∀ i, V0 (Proc.devRef .tc main_arg3) i = ((d.gg (i 1) : ℝ) : EReal)
  ct : ∀ i, V0 (Proc.devRef .tc main_arg5) i = ((d.CT (bl (i 0) (i 1)) (i 2) : ℝ) : EReal)

variable (h : Args V0 d)
include h
theorem v0 (i) : res_main_v0 V0 i = ((d.WI (i 0) (i 1) : ℝ) : EReal) := by
  pointwise [res_main_v0]
  simp only [h.wi]
  try rfl
theorem v6 (i) : res_main_v6 V0 i = ((d.WO (i 0) (i 1) : ℝ) : EReal) := by
  pointwise [res_main_v6]
  simp only [h.wo]
  try rfl
theorem v1 (i) : res_main_v1 V0 i = ((d.h (bl (i 0) (i 1)) (i 2) : ℝ) : EReal) := by
  pointwise [res_main_v1]
  simp only [h.x, v0 V0 h, ← EReal.coe_mul, ← EReal.coe_add, ← EReal.coe_sub, sum_coe, div_real _ 1024 (by norm_num)]
  try rfl
theorem v2 (i) : res_main_v2 V0 i = ((d.h (bl (i 0) (i 1)) (lo (i 2)) : ℝ) : EReal) := by
  pointwise [res_main_v2]
  simp only [v1 V0 h]
  try rfl
theorem v3 (i) : res_main_v3 V0 i = ((d.h (bl (i 0) (i 1)) (hi (i 2)) : ℝ) : EReal) := by
  pointwise [res_main_v3]
  simp only [v1 V0 h]
  exact congrArg (fun k => ((d.h _ k : ℝ) : EReal)) (Fin.ext (Nat.add_comm _ _))
theorem v4_2 (i) : res_main_v4_2 V0 i = ((sig (d.h (bl (i 0) (i 1)) (lo (i 2))) : ℝ) : EReal) := by
  pointwise [res_main_v4_2]
  simp only [v2 V0 h, ← EReal.coe_neg, Ideal.exp_coe, ← EReal.coe_one, ← EReal.coe_add, div_real _ _ (one_add_exp_ne _), sig_div]
theorem v4_0 (i) : res_main_v4_0 V0 i = ((d.h (bl (i 0) (i 1)) (lo (i 2)) * sig (d.h (bl (i 0) (i 1)) (lo (i 2))) : ℝ) : EReal) := by
  pointwise [res_main_v4_0]
  simp only [v2 V0 h, v4_2 V0 h, ← EReal.coe_mul, ← EReal.coe_add, ← EReal.coe_sub, sum_coe, div_real _ 1024 (by norm_num)]
theorem v5 (i) : res_main_v5 V0 i = ((hidden (d.h (bl (i 0) (i 1))) (i 2) : ℝ) : EReal) := by
  pointwise [res_main_v5]
  simp only [v4_0 V0 h, v3 V0 h, ← EReal.coe_mul, ← EReal.coe_add, ← EReal.coe_sub, sum_coe, div_real _ 1024 (by norm_num)]
  try rfl
theorem v12 (i) : res_main_v12 V0 i = (((d.rr (bl (i 0) (i 1))) (i 2) : ℝ) : EReal) := by
  pointwise [res_main_v12]
  simp only [h.x, v5 V0 h, v6 V0 h, lit_alpha, lit_half, ← EReal.coe_mul, ← EReal.coe_add, ← EReal.coe_sub, sum_coe, div_real _ 1024 (by norm_num)]
  try rfl
theorem v18 (i) : res_main_v18 V0 i = ((mean 1024 (d.rr (bl (i 0) (i 1))) : ℝ) : EReal) := by
  pointwise [res_main_v18]
  simp only [v12 V0 h, lit_1024, ← EReal.coe_mul, ← EReal.coe_add, ← EReal.coe_sub, sum_coe, div_real _ 1024 (by norm_num)]
  try rfl
theorem v20 (i) : res_main_v20 V0 i = ((cen 1024 (d.rr (bl (i 0) (i 1))) (i 2) : ℝ) : EReal) := by
  pointwise [res_main_v20]
  simp only [v12 V0 h, v18 V0 h, ← EReal.coe_mul, ← EReal.coe_add, ← EReal.coe_sub, sum_coe, div_real _ 1024 (by norm_num)]
  try rfl
theorem v29 (i) : res_main_v29 V0 i = ((vare 1024 (d.rr (bl (i 0) (i 1))) : ℝ) : EReal) := by
  pointwise [res_main_v29]
  simp only [v20 V0 h, lit_1024, lit_eps, ← EReal.coe_mul, ← EReal.coe_add, ← EReal.coe_sub, sum_coe, div_real _ 1024 (by norm_num)]
  try rfl
theorem v30 (i) : res_main_v30 V0 i = ((rstd 1024 (d.rr (bl (i 0) (i 1))) : ℝ) : EReal) := by
  pointwise [res_main_v30]
  simp only [v29 V0 h, rsqrt_real _ (vare_pos (N := 1024) (by norm_num) _)]
  try rfl
theorem v35 (i) : res_main_v35 V0 i = ((cen 1024 (d.rr (bl (i 0) (i 1))) (i 2) : ℝ) : EReal) := by
  pointwise [res_main_v35]
  simp only [v12 V0 h, v18 V0 h, ← EReal.coe_mul, ← EReal.coe_add, ← EReal.coe_sub, sum_coe, div_real _ 1024 (by norm_num)]
  try rfl
theorem v37 (i) : res_main_v37 V0 i = ((xhat 1024 (d.rr (bl (i 0) (i 1))) (i 2) : ℝ) : EReal) := by
  pointwise [res_main_v37]
  simp only [v35 V0 h, v30 V0 h, ← EReal.coe_mul, ← EReal.coe_add, ← EReal.coe_sub, sum_coe, div_real _ 1024 (by norm_num)]
  try rfl
theorem v38 (i) : res_main_v38 V0 i = ((d.gg (i 2) : ℝ) : EReal) := by
  pointwise [res_main_v38]
  simp only [h.g]
  try rfl
theorem v44 (i) : res_main_v44 V0 i = ((d.CT (bl (i 0) (i 1)) (i 2) : ℝ) : EReal) := by
  pointwise [res_main_v44]
  simp only [h.ct]
  try rfl
theorem v52 (i) : res_main_v52 V0 i = ((d.CT (bl (i 0) (i 1)) (i 2) * d.gg (i 2) : ℝ) : EReal) := by
  pointwise [res_main_v52]
  simp only [v44 V0 h, v38 V0 h, ← EReal.coe_mul, ← EReal.coe_add, ← EReal.coe_sub, sum_coe, div_real _ 1024 (by norm_num)]
  try rfl
theorem v58 (i) : res_main_v58 V0 i = ((chainA 1024 (d.rr (bl (i 0) (i 1))) (fun k => d.CT (bl (i 0) (i 1)) k * d.gg k) (i 2) : ℝ) : EReal) := by
  pointwise [res_main_v58]
  simp only [v52 V0 h, v30 V0 h, ← EReal.coe_mul, ← EReal.coe_add, ← EReal.coe_sub, sum_coe, div_real _ 1024 (by norm_num)]
  try rfl
theorem v67 (i) : res_main_v67 V0 i = ((chainB 1024 (d.rr (bl (i 0) (i 1))) (fun k => d.CT (bl (i 0) (i 1)) k * d.gg k) (i 2) : ℝ) : EReal) := by
  pointwise [res_main_v67]
  simp only [Fin.sum_univ_one, div_real _ _ (vare_pos (N := 1024) (by norm_num) _).ne', v20 V0 h, v35 V0 h, v52 V0 h, v30 V0 h, v29 V0 h, lit_neg_half, lit_two, lit_1024, ← EReal.coe_mul, ← EReal.coe_add, ← EReal.coe_sub, sum_coe, div_real _ 1024 (by norm_num)]
  try rfl
/-- The chain rule's gradient is the normalised rows' own formula. -/
theorem v77 (i) : res_main_v77 V0 i = ((d.dr (bl (i 0) (i 1)) (i 2) : ℝ) : EReal) := by
  have e : res_main_v77 V0 i = ((chainGrad 1024 (d.rr (bl (i 0) (i 1))) (fun k => d.CT (bl (i 0) (i 1)) k * d.gg k) (i 2) : ℝ) : EReal) := by
    pointwise [res_main_v77]
    simp only [Fin.sum_univ_one, ← EReal.coe_neg, v58 V0 h, v67 V0 h, lit_1024, ← EReal.coe_mul, ← EReal.coe_add, ← EReal.coe_sub, sum_coe, div_real _ 1024 (by norm_num)]
    rfl
  exact e.trans (congrArg _ (chainGrad_eq (N := 1024) (by norm_num) (by norm_num) _ _ _))
theorem v81 (i) : res_main_v81 V0 i = ((1 / 2 * d.dr (bl (i 0) (i 1)) (i 2) : ℝ) : EReal) := by
  pointwise [res_main_v81]
  simp only [v77 V0 h, lit_half, ← EReal.coe_mul]
theorem v84 (i) : res_main_v84 V0 i = ((daRow (d.dr (bl (i 0) (i 1))) d.WO (i 2) : ℝ) : EReal) := by
  pointwise [res_main_v84]
  simp only [v81 V0 h, v6 V0 h, ← EReal.coe_mul, sum_coe]
  rfl
theorem v86 (i) : res_main_v86 V0 i = ((daRow (d.dr (bl (i 0) (i 1))) d.WO (i 2) * d.h (bl (i 0) (i 1)) (hi (i 2)) : ℝ) : EReal) := by
  pointwise [res_main_v86]
  simp only [v84 V0 h, v3 V0 h, ← EReal.coe_mul]
theorem v88 (i) : res_main_v88 V0 i = ((dh (daRow (d.dr (bl (i 0) (i 1))) d.WO) (d.h (bl (i 0) (i 1))) (i 2) : ℝ) : EReal) := by
  pointwise [res_main_v88]
  simp only [v84 V0 h, v86 V0 h, v4_2 V0 h, v4_0 V0 h, v2 V0 h, ← EReal.coe_one, ← EReal.coe_mul, ← EReal.coe_sub, ← EReal.coe_add]
  unfold dh
  by_cases hlt : (i 2).val < 2816
  · simp only [dif_pos hlt]
    refine congrArg _ ?_
    show daRow (d.dr (bl (i 0) (i 1))) d.WO ⟨(i 2).val, hlt⟩ * d.h (bl (i 0) (i 1)) (hi ⟨(i 2).val, hlt⟩) * sig (d.h (bl (i 0) (i 1)) (i 2)) + d.h (bl (i 0) (i 1)) (i 2) * (daRow (d.dr (bl (i 0) (i 1))) d.WO ⟨(i 2).val, hlt⟩ * d.h (bl (i 0) (i 1)) (hi ⟨(i 2).val, hlt⟩)) * (sig (d.h (bl (i 0) (i 1)) (i 2)) * (1 - sig (d.h (bl (i 0) (i 1)) (i 2)))) = gateG (d.h (bl (i 0) (i 1)) (i 2)) (d.h (bl (i 0) (i 1)) (hi ⟨(i 2).val, hlt⟩)) (daRow (d.dr (bl (i 0) (i 1))) d.WO ⟨(i 2).val, hlt⟩)
    unfold gateG
    ring
  · simp only [dif_neg hlt]
    exact congrArg _ (mul_comm _ _)

end Cert.Ffn.Ref
end
-- ==== Proof.Ffn.RefRun.lean ====
/- What the reference's run leaves in its result arrays, from real arguments. -/
module
public import proofs.«01_k».proof.Proof.Ffn.Ref
public import proofs.«01_k».proof.Proof.SumLead
@[expose] public section
set_option maxRecDepth 16384
noncomputable section
namespace Cert.Ffn.Ref
open Idealize.ShloMosaic Idealize.ShloMosaic.TcCoe Idealize.ShloMosaic.Tactic Idealize.SL.Sem Cert.RealNorm Cert.Finite Cert.Mix Cert.Ffn Cert.Reference3Ideal Cert.Reference3Ideal.Value
open Idealize.ShloMosaic.StableHlo (launchContents)
variable (m : (ℓ : Loc nD τ sig) → Buf (Elt Ideal) ℓ) (ρ : Dev nD → PrngReg) {d : Data}

/-- The reference's arguments. -/
def argRefs : List (Ref sig .tc) := [main_arg0, main_arg1, main_arg2, main_arg3, main_arg4, main_arg5]

/-- What the results are. -/
structure Out (c : Dev nD) (m mem : (ℓ : Loc nD τ sig) → Buf (Elt Ideal) ℓ) (d : Data) : Prop where
  o0 : mem ((c.tc : Thread nD τ).loc main_v93) = (show FVec Ideal S1024x4096 .bf16 from fun j => ((d.X (j 1) (j 0) : ℝ) : EReal))
  o1 : mem ((c.tc : Thread nD τ).loc main_v95) = (show FVec Ideal S4096x5632 .bf16 from fun j => ((d.h (j 0) (j 1) : ℝ) : EReal))
  o2 : mem ((c.tc : Thread nD τ).loc main_v97) = (show FVec Ideal S4096x2816 .bf16 from fun j => ((hidden (d.h (j 0)) (j 1) : ℝ) : EReal))
  o3 : mem ((c.tc : Thread nD τ).loc main_v98) = (show FVec Ideal S4096x1024 .f32 from fun j => ((xhat 1024 (d.rr (j 0)) (j 1) : ℝ) : EReal) * m ((c.tc : Thread nD τ).loc main_arg3) (ValueIdx.ix2 0 (j 1)) + m ((c.tc : Thread nD τ).loc main_arg4) (ValueIdx.ix2 0 (j 1)))
  o4 : mem ((c.tc : Thread nD τ).loc main_v99) = (show FVec Ideal S4096x1024 .f32 from fun j => ((xhat 1024 (d.rr (j 0)) (j 1) : ℝ) : EReal))
  o5 : mem ((c.tc : Thread nD τ).loc main_v100) = (show FVec Ideal S4096x1 .f32 from fun j => ((rstd 1024 (d.rr (j 0)) : ℝ) : EReal))
  o6 : mem ((c.tc : Thread nD τ).loc main_v101) = (show FVec Ideal S4096x1024 .f32 from fun j => ((dxRow (d.dr (j 0)) (d.h (j 0)) d.WI d.WO (j 1) : ℝ) : EReal))
  o7 : mem ((c.tc : Thread nD τ).loc main_v103) = (show FVec Ideal S4096x5632 .bf16 from fun j => ((dh (daRow (d.dr (j 0)) d.WO) (d.h (j 0)) (j 1) : ℝ) : EReal))
  o8 : mem ((c.tc : Thread nD τ).loc main_v105) = (show FVec Ideal S4096x1024 .bf16 from fun j => ((1 / 2 * d.dr (j 0) (j 1) : ℝ) : EReal))
  o9 : mem ((c.tc : Thread nD τ).loc main_v79) = (show FVec Ideal S1x1024 .f32 from fun j => ((∑ r, d.CT r (j 1) * xhat 1024 (d.rr r) (j 1) : ℝ) : EReal))
  o10 : mem ((c.tc : Thread nD τ).loc main_v78) = (show FVec Ideal S1x1024 .f32 from fun j => ((∑ r, d.CT r (j 1) : ℝ) : EReal))
  args : ∀ a ∈ argRefs, mem ((c.tc : Thread nD τ).loc a) = m ((c.tc : Thread nD τ).loc a)

set_option maxHeartbeats 1000000 in
/-- The reference's run. -/
theorem run_out (h : ∀ c, Args (launchContents m c) d) :
    θ_run defs (onTc (τ := τ) (main (F := Ideal))) ⟨m, fun _ => 0, ρ⟩ fun r => ∀ c : Dev nD, Out c m r.2.mem d := by
  refine (θ_run defs _ _).mono (fun r hr c => ?_) (run m ρ)
  obtain ⟨h0, h1, h2, h3, h4, h5, h6, h7, h8, h9, h10, hargs⟩ := hr c
  constructor
  · refine h0.trans (funext fun j => ?_)
    clear h0 h1 h2 h3 h4 h5 h6 h7 h8 h9 h10 hargs hr
    pointwise
    simp only [(h c).x]
    exact congrArg (fun r => ((d.X r (j 0) : ℝ) : EReal)) (bl_rb (j 1))
  · refine h1.trans (funext fun j => ?_)
    clear h0 h1 h2 h3 h4 h5 h6 h7 h8 h9 h10 hargs hr
    pointwise
    simp only [v1 _ (h c)]
    exact congrArg (fun r => ((d.h r (j 1) : ℝ) : EReal)) (bl_rb (j 0))
  · refine h2.trans (funext fun j => ?_)
    clear h0 h1 h2 h3 h4 h5 h6 h7 h8 h9 h10 hargs hr
    pointwise
    simp only [v5 _ (h c)]
    exact congrArg (fun r => ((hidden (d.h r) (j 1) : ℝ) : EReal)) (bl_rb (j 0))
  · refine h3.trans (funext fun j => ?_)
    clear h0 h1 h2 h3 h4 h5 h6 h7 h8 h9 h10 hargs hr
    pointwise
    simp only [v37 _ (h c), v38 _ (h c)]
    exact congrArg₂ (· + ·) (congrArg₂ (· * ·) (congrArg (fun r => ((xhat 1024 (d.rr r) (j 1) : ℝ) : EReal)) (bl_rb (j 0))) ((h c).g (ValueIdx.ix2 0 (j 1))).symm) rfl
  · refine h4.trans (funext fun j => ?_)
    clear h0 h1 h2 h3 h4 h5 h6 h7 h8 h9 h10 hargs hr
    pointwise
    simp only [v37 _ (h c)]
    exact congrArg (fun r => ((xhat 1024 (d.rr r) (j 1) : ℝ) : EReal)) (bl_rb (j 0))
  · refine h5.trans (funext fun j => ?_)
    clear h0 h1 h2 h3 h4 h5 h6 h7 h8 h9 h10 hargs hr
    pointwise
    simp only [v30 _ (h c)]
    exact congrArg (fun r => ((rstd 1024 (d.rr r) : ℝ) : EReal)) (bl_rb (j 0))
  · refine h6.trans (funext fun j => ?_)
    clear h0 h1 h2 h3 h4 h5 h6 h7 h8 h9 h10 hargs hr
    have e : ∀ x : Fin 5632, res_main_v88 (launchContents m c) (ValueIdx.ix3 (rb (j 0)) (rl (j 0)) x) = ((dh (daRow (d.dr (bl (rb (j 0)) (rl (j 0)))) d.WO) (d.h (bl (rb (j 0)) (rl (j 0)))) x : ℝ) : EReal) := fun x => v88 _ (h c) _
    have e1 := v77 (launchContents m c) (h c) (ValueIdx.ix3 (rb (j 0)) (rl (j 0)) (j 1))
    pointwise
    refine (congrArg₂ (fun a b : EReal => a + b) (congrArg (fun a : EReal => Ideal.ofBits .f32 0x3F9837F0#32 * a) e1) (Finset.sum_congr rfl fun x _ => congrArg₂ (fun a b : EReal => a * b) (e x) (v0 _ (h c) _))).trans ?_
    simp only [lit_alpha, ← EReal.coe_mul, sum_coe, ← EReal.coe_add]
    exact congrArg (fun r => ((dxRow (d.dr r) (d.h r) d.WI d.WO (j 1) : ℝ) : EReal)) (bl_rb (j 0))
  · refine h7.trans (funext fun j => ?_)
    clear h0 h1 h2 h3 h4 h5 h6 h7 h8 h9 h10 hargs hr
    pointwise
    simp only [v88 _ (h c)]
    exact congrArg (fun r => ((dh (daRow (d.dr r) d.WO) (d.h r) (j 1) : ℝ) : EReal)) (bl_rb (j 0))
  · refine h8.trans (funext fun j => ?_)
    clear h0 h1 h2 h3 h4 h5 h6 h7 h8 h9 h10 hargs hr
    pointwise
    simp only [v81 _ (h c)]
    exact congrArg (fun r => ((1 / 2 * d.dr r (j 1) : ℝ) : EReal)) (bl_rb (j 0))
  · refine h9.trans (funext fun j => ?_)
    clear h0 h1 h2 h3 h4 h5 h6 h7 h8 h9 h10 hargs hr
    pointwise [SumLead.hostReduceAdd_lead]
    simp only [Fin.sum_univ_one, v37 _ (h c), v44 _ (h c), ← EReal.coe_mul, sum_coe]
    exact congrArg _ ((Finset.sum_congr rfl fun _ _ => Finset.sum_congr rfl fun _ _ => mul_comm _ _).trans (sum_bl fun r => d.CT r (j 1) * xhat 1024 (d.rr r) (j 1)))
  · refine h10.trans (funext fun j => ?_)
    clear h0 h1 h2 h3 h4 h5 h6 h7 h8 h9 h10 hargs hr
    pointwise [SumLead.hostReduceAdd_lead]
    simp only [Fin.sum_univ_one, (h c).ct, ← EReal.coe_mul, sum_coe]
    exact congrArg _ ((sum_bl fun r => d.CT r (j 1)))
  · intro a ha
    simp only [argRefs, List.mem_cons, List.not_mem_nil, or_false] at ha
    obtain ⟨a0, a1, a2, a3, a4, a5⟩ := hargs
    rcases ha with rfl | rfl | rfl | rfl | rfl | rfl <;> assumption

end Cert.Ffn.Ref
end
-- ==== Proof.Ffn.Run.lean ====
/- The whole run of the program: every buffer ends at the last boundary's contents. -/
module
public import proofs.«01_k».proof.Proof.Gen.Kernel3Ideal.Frame
@[expose] public section
set_option maxRecDepth 16384
noncomputable section
namespace Cert.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends with each unscoped buffer at its contents after the last region, and every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- A reference of the TensorCore is among the buffers read. -/
theorem run_mem : θ_run defs (onTc (τ := τ) (main (F := F))) ⟨m, fun _ => 0, ρ⟩ (fun r =>
    (∀ c : Dev nD, ∀ b : Ref sig .tc, ¬ (Proc.devRef .tc b : DevRef τ sig).isScoped → r.2.mem ((c.tc : Thread nD τ).loc b) = W5 m ρ c (Proc.devRef .tc b)) ∧ r.2.sem = fun _ => 0) :=
  (θ_run defs _ _).mono (fun r h => ⟨fun c b hb => h.1 c _ (mem_uc b hb), h.2⟩) (run_all m ρ)

end Cert.Ffn
end
-- ==== Proof.Ffn.Pay0.lean ====
/- The two forward bodies' payloads over real blocks: the projection with its gate, and the residual with its layer norm. -/
module
public import proofs.«01_k».proof.Proof.Gen.Kernel3Ideal.Skeleton
public import proofs.«01_k».proof.Proof.Ffn.Model
public import Idealize.ShloMosaic.Lib.Pipeline.ValueKit
public import Idealize.ShloMosaic.Lib.Pointwise
@[expose] public section
set_option maxRecDepth 16384
noncomputable section
namespace Cert.Ffn
open Idealize.ShloMosaic Idealize.SL.Sem Cert.Kernel3Ideal Cert.Kernel3Ideal.Gen Cert.RealNorm Cert.Mix

/-- A block of rows times one chunk of the weight's columns. -/
theorem pay_dot (x : Fin 512 → Fin 1024 → ℝ) (W : Fin 1024 → Fin 1408 → ℝ) (v0 : Vec Ideal S512x1024 .f32) (v5 : Vec Ideal S1x1024x1408 .bf16)
    (h0 : ∀ i, v0 i = ((x (i 0) (i 1) : ℝ) : EReal)) (h5 : ∀ i, v5 i = ((W (i 1) (i 2) : ℝ) : EReal)) (j : S512x1408.Idx) :
    k0_pay7 v0 v5 j = ((lin (x (j 0)) W (j 1) : ℝ) : EReal) := by
  pointwise [k0_pay7, k0_pay5]
  simp only [h0, h5, ← EReal.coe_mul, sum_coe]
  rfl
/-- The hidden units of one chunk. -/
theorem pay_gate (x : Fin 512 → Fin 1024 → ℝ) (W U : Fin 1024 → Fin 1408 → ℝ) (v0 : Vec Ideal S512x1024 .f32) (v5 v8 : Vec Ideal S1x1024x1408 .bf16)
    (h0 : ∀ i, v0 i = ((x (i 0) (i 1) : ℝ) : EReal)) (h5 : ∀ i, v5 i = ((W (i 1) (i 2) : ℝ) : EReal))
    (h8 : ∀ i, v8 i = ((U (i 1) (i 2) : ℝ) : EReal)) (j : S512x1408.Idx) :
    k0_pay11 v0 v5 v8 j = ((gate (lin (x (j 0)) W (j 1)) (lin (x (j 0)) U (j 1)) : ℝ) : EReal) := by
  pointwise [k0_pay11]
  rw [pay_dot x W v0 v5 h0 h5, show k0_pay8 v0 v8 = k0_pay7 v0 v8 from rfl, pay_dot x U v0 v8 h0 h8]
  simp only [lit_half, ← EReal.coe_mul, Ideal.tanh_coe, ← EReal.coe_add, sig_tanh]
  rfl
/-- The stores of the four chunks, and of the second chunk's hidden units, are the same functions. -/
theorem pay_dot0 (v0 : Vec Ideal S512x1024 .f32) (v : Vec Ideal S1x1024x1408 .bf16) (j : S512x1408.Idx) : k0_pay9 v0 v j = k0_pay7 v0 v j := rfl
theorem pay_dot2 (v0 : Vec Ideal S512x1024 .f32) (v : Vec Ideal S1x1024x1408 .bf16) (j : S512x1408.Idx) : k0_pay10 v0 v j = k0_pay7 v0 v j := rfl
theorem pay_dot1 (v0 : Vec Ideal S512x1024 .f32) (v : Vec Ideal S1x1024x1408 .bf16) (j : S512x1408.Idx) : k0_pay2 (k0_pay12 v0 v) j = k0_pay7 v0 v j := rfl
theorem pay_dot3 (v0 : Vec Ideal S512x1024 .f32) (v : Vec Ideal S1x1024x1408 .bf16) (j : S512x1408.Idx) : k0_pay3 (k0_pay5 v0) v j = k0_pay7 v0 v j := rfl
theorem pay_gate1 (v0 : Vec Ideal S512x1024 .f32) (v u : Vec Ideal S1x1024x1408 .bf16) (j : S512x1408.Idx) :
    k0_pay4 (k0_pay5 v0) (k0_pay12 v0 v) u j = k0_pay11 v0 v u j := rfl

section Out
variable (x : Fin 1024 → Fin 1024 → ℝ) (y : Fin 1024 → Fin 2816 → ℝ) (W : Fin 2816 → Fin 1024 → ℝ)
  (v0 : Vec Ideal S1024x2816 .bf16) (v2 : Vec Ideal S2816x1024 .bf16) (v5 : Vec Ideal S1024x1024 .f32)
  (h0 : ∀ i, v0 i = ((y (i 0) (i 1) : ℝ) : EReal)) (h2 : ∀ i, v2 i = ((W (i 0) (i 1) : ℝ) : EReal))
  (h5 : ∀ i, v5 i = ((x (i 0) (i 1) : ℝ) : EReal))
include h0 h2 h5
/-- The residual's centred rows. -/
theorem pay_cen (j : S1024x1024.Idx) : k1_pay1 v0 v2 v5 j = ((cen 1024 (res (x (j 0)) (y (j 0)) W) (j 1) : ℝ) : EReal) := by
  pointwise [k1_pay1]
  simp only [h0, h2, h5, lit_alpha, lit_half, lit_1024, ← EReal.coe_mul, ← EReal.coe_add, ← EReal.coe_sub, sum_coe,
    div_real _ 1024 (by norm_num)]
  rfl
/-- The layer norm's factor, normalised rows and output. -/
theorem pay_rstd (j : S1024x1.Idx) : k1_pay2 v0 v2 v5 j = ((rstd 1024 (res (x (j 0)) (y (j 0)) W) : ℝ) : EReal) := by
  pointwise [k1_pay2]
  simp only [pay_cen x y W v0 v2 v5 h0 h2 h5, lit_1024, lit_eps, ← EReal.coe_mul, ← EReal.coe_add, sum_coe, div_real _ 1024 (by norm_num)]
  exact rsqrt_real _ (vare_pos (N := 1024) (by norm_num) (res (x (j 0)) (y (j 0)) W))
theorem pay_xhat (j : S1024x1024.Idx) : k1_pay3 v0 v2 v5 j = ((xhat 1024 (res (x (j 0)) (y (j 0)) W) (j 1) : ℝ) : EReal) := by
  pointwise [k1_pay3]
  rw [pay_rstd x y W v0 v2 v5 h0 h2 h5, pay_cen x y W v0 v2 v5 h0 h2 h5, ← EReal.coe_mul]
  rfl
theorem pay_out (v12 v13 : Vec Ideal S1x1024 .f32) (j : S1024x1024.Idx) : k1_pay4 v0 v2 v5 v12 v13 j
    = ((xhat 1024 (res (x (j 0)) (y (j 0)) W) (j 1) : ℝ) : EReal) * v12 (ValueIdx.ix2 0 (j 1)) + v13 (ValueIdx.ix2 0 (j 1)) := by
  pointwise [k1_pay4]
  rw [pay_xhat x y W v0 v2 v5 h0 h2 h5]
  rfl
end Out

end Cert.Ffn
end
-- ==== Proof.Ffn.Reg0.lean ====
/- The projection region: its three result arrays over real input arrays. -/
module
public import proofs.«01_k».proof.Proof.Gen.Kernel3Ideal.Frame
public import proofs.«01_k».proof.Proof.Ffn.Pay0
@[expose] public section
set_option maxRecDepth 16384
noncomputable section
namespace Cert.Ffn
open Idealize.ShloMosaic Idealize.ShloMosaic.TcCoe Idealize.ShloMosaic.Tactic Idealize.SL.Sem Cert.Kernel3Ideal Cert.Kernel3Ideal.Gen Cert.RealNorm Cert.Mix
open Idealize.ShloMosaic.Pipeline (Dat Cfg Window)

variable (V : (c : Dev nD) → (b : Ref sig .tc) → Buf (Elt Ideal) ((c : Thread nD τ).loc b)) (c : Dev nD)
variable {X : Fin 4096 → Fin 1024 → ℝ} {WI : Fin 1024 → Fin 5632 → ℝ} {WO : Fin 2816 → Fin 1024 → ℝ} {H : Fin 4096 → Fin 5632 → ℝ}
  {Y : Fin 4096 → Fin 2816 → ℝ} {CT XH : Fin 4096 → Fin 1024 → ℝ} {RS : Fin 4096 → ℝ} {gg : Fin 1024 → ℝ}

theorem idx0 : ∀ t : Fin cfg0.N, win0_0.index t = ![t.val, 0] ∧ win0_1.index t = ![0, 0, 0] ∧ win0_2.index t = ![0, t.val]
    ∧ win0_3.index t = ![t.val, 0] ∧ win0_4.index t = ![t.val, 0] :=
  (by decide +kernel : ∀ t : Fin grid0.N, _)

/-- The stream and the first weight at the region's entry. -/
structure In0 (X : Fin 4096 → Fin 1024 → ℝ) (WI : Fin 1024 → Fin 5632 → ℝ) : Prop where
  x : ∀ i, V c main_v0 i = ((X (i 0) (i 1) : ℝ) : EReal)
  w : ∀ i, V c main_v4 i = ((WI (i 1) (c4 (i 0) (i 2)) : ℝ) : EReal)
/-- The row `r` of gates and other halves. -/
def hRow (X : Fin 4096 → Fin 1024 → ℝ) (WI : Fin 1024 → Fin 5632 → ℝ) (r : Fin 4096) : Fin 5632 → ℝ := lin (X r) WI

section
variable (h : In0 V c X WI)
include h
theorem blk_x (t : Fin cfg0.N) (i : S512x1024.Idx) : iblk0 V c 0 t i = ((X (row8 t (i 0)) (i 1) : ℝ) : EReal) := by
  have e : iblk0 V c 0 t i = V c main_v0 (ValueIdx.ix2 (row8 t (i 0)) (i 1)) := by blk_ext [iblk0, row8, idx0 t]
  exact e.trans (h.x _)
theorem blk_w0 (t : Fin cfg0.N) (i : S1x1024x1408.Idx) : View.ld (iblk0 V c 1 t) r0_2 i = ((WI (i 1) (c4 0 (i 2)) : ℝ) : EReal) := by
  have e : View.ld (iblk0 V c 1 t) r0_2 i = V c main_v4 (ValueIdx.ix3 (0 : Fin 4) (i 1) (i 2)) := by
    pointwise
    blk_ext [iblk0, idx0 t]
  exact e.trans (h.w _)
theorem blk_w1 (t : Fin cfg0.N) (i : S1x1024x1408.Idx) : View.ld (iblk0 V c 1 t) r0_7 i = ((WI (i 1) (c4 1 (i 2)) : ℝ) : EReal) := by
  have e : View.ld (iblk0 V c 1 t) r0_7 i = V c main_v4 (ValueIdx.ix3 (1 : Fin 4) (i 1) (i 2)) := by
    pointwise
    blk_ext [iblk0, idx0 t]
  exact e.trans (h.w _)
theorem blk_w2 (t : Fin cfg0.N) (i : S1x1024x1408.Idx) : View.ld (iblk0 V c 1 t) r0_3 i = ((WI (i 1) (c4 2 (i 2)) : ℝ) : EReal) := by
  have e : View.ld (iblk0 V c 1 t) r0_3 i = V c main_v4 (ValueIdx.ix3 (2 : Fin 4) (i 1) (i 2)) := by
    pointwise
    blk_ext [iblk0, idx0 t]
  exact e.trans (h.w _)
theorem blk_w3 (t : Fin cfg0.N) (i : S1x1024x1408.Idx) : View.ld (iblk0 V c 1 t) r0_8 i = ((WI (i 1) (c4 3 (i 2)) : ℝ) : EReal) := by
  have e : View.ld (iblk0 V c 1 t) r0_8 i = V c main_v4 (ValueIdx.ix3 (3 : Fin 4) (i 1) (i 2)) := by
    pointwise
    blk_ext [iblk0, idx0 t]
  exact e.trans (h.w _)
theorem final0_2 : (dat0 V c).arrAt 2 cfg0.N = (show FVec Ideal S1024x4096 .bf16 from fun j =>
    ((X (j 1) (j 0) : ℝ) : EReal)) := by
  refine (dat0 V c).arrAt_eq_of_covers 2 _ (by decide +kernel) fun t _ y => ?_
  have e : ((View.whole main_v7_0).slice (win0_2.rect t)).emb y = ValueIdx.ix2 (y 0) (row8 t (y 1)) := by blk_ext [row8, row4, row16, idx0 t]
  blk_simp
  rw [after0_2, e]
  frame_out
  pointwise [k0_pay6, k0_pay5]
  exact blk_x V c h t _
theorem blk_h0 (t : Fin cfg0.N) (x : S512x1408.Idx) :
    k0_pay9 (iblk0 V c 0 t) (View.ld (iblk0 V c 1 t) r0_2) x = ((hRow X WI (row8 t (x 0)) (c4 0 (x 1)) : ℝ) : EReal) :=
  (pay_dot0 _ _ x).trans (pay_dot (fun r => X (row8 t r)) (fun k j => WI k (c4 0 j)) _ _ (blk_x V c h t) (blk_w0 V c h t) x)
theorem blk_h1 (t : Fin cfg0.N) (x : S512x1408.Idx) :
    k0_pay2 (k0_pay12 (iblk0 V c 0 t) (View.ld (iblk0 V c 1 t) r0_7)) x = ((hRow X WI (row8 t (x 0)) (c4 1 (x 1)) : ℝ) : EReal) :=
  (pay_dot1 _ _ x).trans (pay_dot (fun r => X (row8 t r)) (fun k j => WI k (c4 1 j)) _ _ (blk_x V c h t) (blk_w1 V c h t) x)
theorem blk_h2 (t : Fin cfg0.N) (x : S512x1408.Idx) :
    k0_pay10 (iblk0 V c 0 t) (View.ld (iblk0 V c 1 t) r0_3) x = ((hRow X WI (row8 t (x 0)) (c4 2 (x 1)) : ℝ) : EReal) :=
  (pay_dot2 _ _ x).trans (pay_dot (fun r => X (row8 t r)) (fun k j => WI k (c4 2 j)) _ _ (blk_x V c h t) (blk_w2 V c h t) x)
theorem blk_h3 (t : Fin cfg0.N) (x : S512x1408.Idx) :
    k0_pay3 (k0_pay5 (iblk0 V c 0 t)) (View.ld (iblk0 V c 1 t) r0_8) x = ((hRow X WI (row8 t (x 0)) (c4 3 (x 1)) : ℝ) : EReal) :=
  (pay_dot3 _ _ x).trans (pay_dot (fun r => X (row8 t r)) (fun k j => WI k (c4 3 j)) _ _ (blk_x V c h t) (blk_w3 V c h t) x)
theorem blk_y0 (t : Fin cfg0.N) (x : S512x1408.Idx) :
    k0_pay11 (iblk0 V c 0 t) (View.ld (iblk0 V c 1 t) r0_2) (View.ld (iblk0 V c 1 t) r0_3) x = ((hidden (hRow X WI (row8 t (x 0))) (c2 0 (x 1)) : ℝ) : EReal) := by
  refine ((pay_gate (fun r => X (row8 t r)) (fun k j => WI k (c4 0 j)) (fun k j => WI k (c4 2 j)) _ _ _ (blk_x V c h t) (blk_w0 V c h t) (blk_w2 V c h t) x).trans (congrArg _ ?_))
  simp only [lo0, hi0]
  rfl
theorem blk_y1 (t : Fin cfg0.N) (x : S512x1408.Idx) :
    k0_pay4 (k0_pay5 (iblk0 V c 0 t)) (k0_pay12 (iblk0 V c 0 t) (View.ld (iblk0 V c 1 t) r0_7)) (View.ld (iblk0 V c 1 t) r0_8) x = ((hidden (hRow X WI (row8 t (x 0))) (c2 1 (x 1)) : ℝ) : EReal) := by
  refine (pay_gate1 _ _ _ x).trans ((pay_gate (fun r => X (row8 t r)) (fun k j => WI k (c4 1 j)) (fun k j => WI k (c4 3 j)) _ _ _ (blk_x V c h t) (blk_w1 V c h t) (blk_w3 V c h t) x).trans (congrArg _ ?_))
  simp only [lo1, hi1]
  rfl
/-- The four stores of a block's row of gates and other halves. -/
theorem pt0_3 (t : Fin cfg0.N) (y : S512x5632.Idx) :
    out0_3 (iblk0 V c 0 t) (iblk0 V c 1 t) y = ((hRow X WI (row8 t (y 0)) (y 1) : ℝ) : EReal) := by
  unfold_out out0_3
  frame_out
  canon_tiles x hx
  · rw [show y 0 = x 0 from Fin.ext hx0, show y 1 = c4 3 (x 1) from Fin.ext (by simp [c4]; omega)]
    exact blk_h3 V c h t x
  · rw [show y 0 = x 0 from Fin.ext hx0, show y 1 = c4 1 (x 1) from Fin.ext (by simp [c4]; omega)]
    exact blk_h1 V c h t x
  · rw [show y 0 = x 0 from Fin.ext hx0, show y 1 = c4 2 (x 1) from Fin.ext (by simp [c4]; omega)]
    exact blk_h2 V c h t x
  · rw [show y 0 = x 0 from Fin.ext hx0, show y 1 = c4 0 (x 1) from Fin.ext (by simp [c4]; omega)]
    exact blk_h0 V c h t x
theorem final0_3 : (dat0 V c).arrAt 3 cfg0.N = (show FVec Ideal S4096x5632 .bf16 from fun j =>
    ((hRow X WI (j 0) (j 1) : ℝ) : EReal)) := by
  refine (dat0 V c).arrAt_eq_of_covers 3 _ (by decide +kernel) fun t _ y => ?_
  have e : ((View.whole main_v7_1).slice (win0_3.rect t)).emb y = ValueIdx.ix2 (row8 t (y 0)) (y 1) := by blk_ext [row8, row4, row16, idx0 t]
  blk_simp
  rw [after0_3, e]
  exact pt0_3 V c h t y
/-- The two stores of a block's hidden rows. -/
theorem pt0_4 (t : Fin cfg0.N) (y : S512x2816.Idx) :
    out0_4 (iblk0 V c 0 t) (iblk0 V c 1 t) y = ((hidden (hRow X WI (row8 t (y 0))) (y 1) : ℝ) : EReal) := by
  unfold_out out0_4
  frame_out
  canon_tiles x hx
  · rw [show y 0 = x 0 from Fin.ext hx0, show y 1 = c2 1 (x 1) from Fin.ext (by simp [c2]; omega)]
    exact blk_y1 V c h t x
  · rw [show y 0 = x 0 from Fin.ext hx0, show y 1 = c2 0 (x 1) from Fin.ext (by simp [c2]; omega)]
    exact blk_y0 V c h t x
theorem final0_4 : (dat0 V c).arrAt 4 cfg0.N = (show FVec Ideal S4096x2816 .bf16 from fun j =>
    ((hidden (hRow X WI (j 0)) (j 1) : ℝ) : EReal)) := by
  refine (dat0 V c).arrAt_eq_of_covers 4 _ (by decide +kernel) fun t _ y => ?_
  have e : ((View.whole main_v7_2).slice (win0_4.rect t)).emb y = ValueIdx.ix2 (row8 t (y 0)) (y 1) := by blk_ext [row8, row4, row16, idx0 t]
  blk_simp
  rw [after0_4, e]
  exact pt0_4 V c h t y
end

end Cert.Ffn
end
-- ==== Proof.Ffn.Reg1.lean ====
/- The output region: its three result arrays over real input arrays. -/
module
public import proofs.«01_k».proof.Proof.Gen.Kernel3Ideal.Frame
public import proofs.«01_k».proof.Proof.Ffn.Pay0
@[expose] public section
set_option maxRecDepth 16384
noncomputable section
namespace Cert.Ffn
open Idealize.ShloMosaic Idealize.ShloMosaic.TcCoe Idealize.ShloMosaic.Tactic Idealize.SL.Sem Cert.Kernel3Ideal Cert.Kernel3Ideal.Gen Cert.RealNorm Cert.Mix
open Idealize.ShloMosaic.Pipeline (Dat Cfg Window)

variable (V : (c : Dev nD) → (b : Ref sig .tc) → Buf (Elt Ideal) ((c : Thread nD τ).loc b)) (c : Dev nD)
variable {X : Fin 4096 → Fin 1024 → ℝ} {WI : Fin 1024 → Fin 5632 → ℝ} {WO : Fin 2816 → Fin 1024 → ℝ} {H : Fin 4096 → Fin 5632 → ℝ}
  {Y : Fin 4096 → Fin 2816 → ℝ} {CT XH : Fin 4096 → Fin 1024 → ℝ} {RS : Fin 4096 → ℝ} {gg : Fin 1024 → ℝ}

theorem idx1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![t.val, 0] ∧ win1_6.index t = ![t.val, 0]
    ∧ win1_7.index t = ![t.val, 0] :=
  (by decide +kernel : ∀ t : Fin grid1.N, _)

/-- The stream, the hidden rows and the second weight at the region's entry. -/
structure In1 (X : Fin 4096 → Fin 1024 → ℝ) (Y : Fin 4096 → Fin 2816 → ℝ) (WO : Fin 2816 → Fin 1024 → ℝ) : Prop where
  x : ∀ i, V c main_v0 i = ((X (i 0) (i 1) : ℝ) : EReal)
  y : ∀ i, V c main_v7_2 i = ((Y (i 0) (i 1) : ℝ) : EReal)
  w : ∀ i, V c main_v6 i = ((WO (i 0) (i 1) : ℝ) : EReal)

section
variable (h : In1 V c X Y WO)
include h
theorem blk1_x (t : Fin cfg1.N) (i : S1024x1024.Idx) : iblk1 V c 0 t i = ((X (row4 t (i 0)) (i 1) : ℝ) : EReal) := by
  have e : iblk1 V c 0 t i = V c main_v0 (ValueIdx.ix2 (row4 t (i 0)) (i 1)) := by blk_ext [iblk1, row4, idx1 t]
  exact e.trans (h.x _)
theorem blk1_y (t : Fin cfg1.N) (i : S1024x2816.Idx) : iblk1 V c 1 t i = ((Y (row4 t (i 0)) (i 1) : ℝ) : EReal) := by
  have e : iblk1 V c 1 t i = V c main_v7_2 (ValueIdx.ix2 (row4 t (i 0)) (i 1)) := by blk_ext [iblk1, row4, idx1 t]
  exact e.trans (h.y _)
theorem blk1_w (t : Fin cfg1.N) (i : S2816x1024.Idx) : iblk1 V c 2 t i = ((WO (i 0) (i 1) : ℝ) : EReal) := by
  have e : iblk1 V c 2 t i = V c main_v6 (ValueIdx.ix2 (i 0) (i 1)) := by blk_ext [iblk1, idx1 t]
  exact e.trans (h.w _)
theorem final1_5 : (dat1 V c).arrAt 5 cfg1.N = (show FVec Ideal S4096x1024 .f32 from fun j =>
    ((xhat 1024 (res (X (j 0)) (Y (j 0)) WO) (j 1) : ℝ) : EReal)
      * V c main_arg3 (ValueIdx.ix2 0 (j 1)) + V c main_arg4 (ValueIdx.ix2 0 (j 1))) := by
  refine (dat1 V c).arrAt_eq_of_covers 5 _ (by decide +kernel) fun t _ y => ?_
  have e : ((View.whole main_v8_0).slice (win1_5.rect t)).emb y = ValueIdx.ix2 (row4 t (y 0)) (y 1) := by blk_ext [row8, row4, row16, idx1 t]
  blk_simp
  rw [after1_5, e]
  frame_out
  have e3 : ∀ j, iblk1 V c 3 t j = V c main_arg3 (ValueIdx.ix2 0 (j 1)) := fun j => by blk_ext [iblk1, idx1 t]
  have e4 : ∀ j, iblk1 V c 4 t j = V c main_arg4 (ValueIdx.ix2 0 (j 1)) := fun j => by blk_ext [iblk1, idx1 t]
  refine (pay_out (fun r => X (row4 t r)) (fun r => Y (row4 t r)) WO _ _ _ (blk1_y V c h t) (blk1_w V c h t) (blk1_x V c h t) _ _ y).trans ?_
  rw [e3, e4]
  rfl
theorem final1_6 : (dat1 V c).arrAt 6 cfg1.N = (show FVec Ideal S4096x1024 .f32 from fun j =>
    ((xhat 1024 (res (X (j 0)) (Y (j 0)) WO) (j 1) : ℝ) : EReal)) := by
  refine (dat1 V c).arrAt_eq_of_covers 6 _ (by decide +kernel) fun t _ y => ?_
  have e : ((View.whole main_v8_1).slice (win1_6.rect t)).emb y = ValueIdx.ix2 (row4 t (y 0)) (y 1) := by blk_ext [row8, row4, row16, idx1 t]
  blk_simp
  rw [after1_6, e]
  frame_out
  exact pay_xhat (fun r => X (row4 t r)) (fun r => Y (row4 t r)) WO _ _ _ (blk1_y V c h t) (blk1_w V c h t) (blk1_x V c h t) y
theorem final1_7 : (dat1 V c).arrAt 7 cfg1.N = (show FVec Ideal S4096x1 .f32 from fun j =>
    ((rstd 1024 (res (X (j 0)) (Y (j 0)) WO) : ℝ) : EReal)) := by
  refine (dat1 V c).arrAt_eq_of_covers 7 _ (by decide +kernel) fun t _ y => ?_
  have e : ((View.whole main_v8_2).slice (win1_7.rect t)).emb y = ValueIdx.ix2 (row4 t (y 0)) (y 1) := by blk_ext [row8, row4, row16, idx1 t]
  blk_simp
  rw [after1_7, e]
  frame_out
  exact pay_rstd (fun r => X (row4 t r)) (fun r => Y (row4 t r)) WO _ _ _ (blk1_y V c h t) (blk1_w V c h t) (blk1_x V c h t) y
end

end Cert.Ffn
end
-- ==== Proof.Ffn.Pay2.lean ====
/- The gradient body's payloads over real blocks. -/
module
public import proofs.«01_k».proof.Proof.Gen.Kernel3Ideal.Skeleton
public import proofs.«01_k».proof.Proof.Ffn.Model
public import Idealize.ShloMosaic.Lib.Pipeline.ValueKit
public import Idealize.ShloMosaic.Lib.Pointwise
@[expose] public section
set_option maxRecDepth 16384
noncomputable section
namespace Cert.Ffn
open Idealize.ShloMosaic Idealize.SL.Sem Cert.Kernel3Ideal Cert.Kernel3Ideal.Gen Cert.RealNorm Cert.Mix

/-- The gradient of the residual, its half and its α-fold. -/
theorem pay_dr (ct xh : Fin 256 → Fin 1024 → ℝ) (s : Fin 256 → ℝ) (g : Fin 1024 → ℝ)
    (v3 v5 : Vec Ideal S256x1024 .f32) (v7 : Vec Ideal S256x1 .f32) (v9 : Vec Ideal S1x1024 .f32)
    (h3 : ∀ i, v3 i = ((ct (i 0) (i 1) : ℝ) : EReal)) (h5 : ∀ i, v5 i = ((xh (i 0) (i 1) : ℝ) : EReal))
    (h7 : ∀ i, v7 i = ((s (i 0) : ℝ) : EReal)) (h9 : ∀ i, v9 i = ((g (i 1) : ℝ) : EReal)) (j : S256x1024.Idx) :
    k2_pay7 v3 v5 v7 v9 j = ((normGrad 1024 (fun k => ct (j 0) k * g k) (xh (j 0)) (s (j 0)) (j 1) : ℝ) : EReal) := by
  pointwise [k2_pay7, k2_pay5, k2_pay6]
  simp only [h3, h5, h7, h9, lit_1024, ← EReal.coe_mul, ← EReal.coe_add, ← EReal.coe_sub, sum_coe, div_real _ 1024 (by norm_num)]
  rfl
section
variable (f : Fin 256 → Fin 1024 → ℝ) (v : FVec Ideal S256x1024 .f32) (h : ∀ i, v i = ((f (i 0) (i 1) : ℝ) : EReal))
include h
theorem pay_df (j : S256x1024.Idx) : k2_pay10 v j = ((1 / 2 * f (j 0) (j 1) : ℝ) : EReal) := by
  pointwise [k2_pay10]
  simp only [h, lit_half, ← EReal.coe_mul]
theorem pay_adr (j : S256x1024.Idx) : k2_pay11 v j = ((alpha * f (j 0) (j 1) : ℝ) : EReal) := by
  pointwise [k2_pay11]
  simp only [h, lit_alpha, ← EReal.coe_mul]
/-- One chunk of the hidden row's cotangent. -/
theorem pay_da (W : Fin 1408 → Fin 1024 → ℝ) (w : Vec Ideal S1408x1024 .bf16) (hw : ∀ i, w i = ((W (i 0) (i 1) : ℝ) : EReal)) (j : S256x1408.Idx) :
    k2_pay12 v w j = ((linT (fun d => 1 / 2 * f (j 0) d) W (j 1) : ℝ) : EReal) := by
  pointwise [k2_pay12]
  simp only [pay_df f v h, hw, ← EReal.coe_mul, sum_coe]
  rfl
end

section Gates
variable (hg hu : Fin 256 → Fin 1408 → ℝ) (v53 v56 : Vec Ideal S256x1408 .bf16)
  (h53 : ∀ i, v53 i = ((hg (i 0) (i 1) : ℝ) : EReal)) (h56 : ∀ i, v56 i = ((hu (i 0) (i 1) : ℝ) : EReal))
include h53
theorem pay_sig (j : S256x1408.Idx) : k2_pay15 v53 j = ((sig (hg (j 0) (j 1)) : ℝ) : EReal) := by
  pointwise [k2_pay15, k2_pay14]
  simp only [h53, lit_half, ← EReal.coe_mul, Ideal.tanh_coe, ← EReal.coe_add, sig_tanh]
theorem pay_up (v27 : FVec Ideal S256x1024 .f32) (w : Vec Ideal S1408x1024 .bf16) (da : Fin 256 → Fin 1408 → ℝ)
    (ha : ∀ i, k2_pay12 v27 w i = ((da (i 0) (i 1) : ℝ) : EReal)) (j : S256x1408.Idx) :
    k2_pay16 v27 w v53 j = ((gateU (hg (j 0) (j 1)) (da (j 0) (j 1)) : ℝ) : EReal) := by
  pointwise [k2_pay16, k2_pay14]
  rw [ha, pay_sig hg v53 h53, h53]
  simp only [← EReal.coe_mul]
  rfl
include h56
theorem pay_gateG (v27 : FVec Ideal S256x1024 .f32) (w : Vec Ideal S1408x1024 .bf16) (da : Fin 256 → Fin 1408 → ℝ)
    (ha : ∀ i, k2_pay12 v27 w i = ((da (i 0) (i 1) : ℝ) : EReal)) (j : S256x1408.Idx) :
    k2_pay19 (k2_pay15 v53) (k2_pay17 v27 w v56) (k2_pay18 v53) j
      = ((gateG (hg (j 0) (j 1)) (hu (j 0) (j 1)) (da (j 0) (j 1)) : ℝ) : EReal) := by
  pointwise [k2_pay19, k2_pay17, k2_pay18, k2_pay14]
  rw [ha, pay_sig hg v53 h53, h53, h56, ← EReal.coe_one]
  simp only [← EReal.coe_mul, ← EReal.coe_sub, ← EReal.coe_add]
  rfl
end Gates

/-- One chunk's two products added to the stream's gradient. -/
theorem pay_step (f g : Fin 256 → Fin 1408 → ℝ) (A B : Fin 1024 → Fin 1408 → ℝ) (a : Fin 256 → Fin 1024 → ℝ)
    (v46 : FVec Ideal S256x1024 .f32) (v65 v69 v72 : FVec Ideal S256x1408 .f32) (v68 : FVec Ideal S256x1408 .bf16)
    (v80 v84 : Vec Ideal S1x1024x1408 .bf16) (h46 : ∀ i, v46 i = ((a (i 0) (i 1) : ℝ) : EReal))
    (hf : ∀ i, k2_pay19 v65 v69 v72 i = ((f (i 0) (i 1) : ℝ) : EReal)) (hg : ∀ i, v68 i = ((g (i 0) (i 1) : ℝ) : EReal))
    (hA : ∀ i, v80 i = ((A (i 1) (i 2) : ℝ) : EReal)) (hB : ∀ i, v84 i = ((B (i 1) (i 2) : ℝ) : EReal)) (j : S256x1024.Idx) :
    k2_pay20 v46 v65 v68 v69 v72 v80 v84 j
      = ((a (j 0) (j 1) + linT (f (j 0)) A (j 1) + linT (g (j 0)) B (j 1) : ℝ) : EReal) := by
  pointwise [k2_pay20]
  simp only [h46, hf, hg, hA, hB, ← EReal.coe_mul, sum_coe, ← EReal.coe_add]
  rfl

/-- The two accumulated rows: zero at the first block, a column sum added at each. -/
theorem pay_zero (j : S1x1024.Idx) : k2_pay3 (F := Ideal) j = 0 := by pointwise [k2_pay3]
theorem pay_zero' (j : S1x1024.Idx) : k2_pay4 (F := Ideal) j = 0 := by pointwise [k2_pay4]
theorem pay_scale (v3 v5 : Vec Ideal S256x1024 .f32) (a : Vec Ideal S1x1024 .f32) (j : S1x1024.Idx) :
    k2_pay8 v3 v5 a j = a j + ∑ k : Fin 256, v3 (ix2 k (j 1)) * v5 (ix2 k (j 1)) := by
  pointwise [k2_pay8, k2_pay5, k2_pay6]
theorem pay_shift (v3 : Vec Ideal S256x1024 .f32) (a : Vec Ideal S1x1024 .f32) (j : S1x1024.Idx) :
    k2_pay9 (k2_pay5 v3) a j = a j + ∑ k : Fin 256, v3 (ix2 k (j 1)) := by
  pointwise [k2_pay9, k2_pay5]

end Cert.Ffn
end
-- ==== Proof.Ffn.Reg2.lean ====
/- The gradient region: its five result arrays over real input arrays. -/
module
public import proofs.«01_k».proof.Proof.Gen.Kernel3Ideal.Frame
public import proofs.«01_k».proof.Proof.Ffn.Pay2
public import proofs.«01_k».proof.Proof.Ffn.Data
@[expose] public section
set_option maxRecDepth 16384
noncomputable section
namespace Cert.Ffn
open Idealize.ShloMosaic Idealize.ShloMosaic.TcCoe Idealize.ShloMosaic.Tactic Idealize.SL.Sem Cert.Kernel3Ideal Cert.Kernel3Ideal.Gen Cert.RealNorm Cert.Mix
open Idealize.ShloMosaic.Pipeline (Dat Cfg Window)

variable (V : (c : Dev nD) → (b : Ref sig .tc) → Buf (Elt Ideal) ((c : Thread nD τ).loc b)) (c : Dev nD)
variable {X : Fin 4096 → Fin 1024 → ℝ} {WI : Fin 1024 → Fin 5632 → ℝ} {WO : Fin 2816 → Fin 1024 → ℝ} {H : Fin 4096 → Fin 5632 → ℝ}
  {Y : Fin 4096 → Fin 2816 → ℝ} {CT XH : Fin 4096 → Fin 1024 → ℝ} {RS : Fin 4096 → ℝ} {gg : Fin 1024 → ℝ}

theorem idx2 : ∀ t : Fin cfg2.N, win2_0.index t = ![t.val, 0] ∧ win2_1.index t = ![t.val, 0] ∧ win2_2.index t = ![t.val, 0]
    ∧ win2_3.index t = ![t.val, 0] ∧ win2_4.index t = ![0, 0, 0] ∧ win2_5.index t = ![0, 0] ∧ win2_6.index t = ![0, 0]
    ∧ win2_7.index t = ![t.val, 0] ∧ win2_8.index t = ![t.val, 0] ∧ win2_9.index t = ![t.val, 0] :=
  (by decide +kernel : ∀ t : Fin grid2.N, _)

/-- The gradient of the residual's row. -/
def drRow (CT XH : Fin 4096 → Fin 1024 → ℝ) (RS : Fin 4096 → ℝ) (gg : Fin 1024 → ℝ) (r : Fin 4096) : Fin 1024 → ℝ :=
  normGrad 1024 (fun k => CT r k * gg k) (XH r) (RS r)
/-- The gradients of a chunk's gates and other halves. -/
theorem dhg0 (a : Fin 2816 → ℝ) (h : Fin 5632 → ℝ) (j : Fin 1408) : gateG (h (c4 0 j)) (h (c4 2 j)) (a (c2 0 j)) = dh a h (c4 0 j) := by
  rw [lo0, hi0, dh_lo]
theorem dhg1 (a : Fin 2816 → ℝ) (h : Fin 5632 → ℝ) (j : Fin 1408) : gateG (h (c4 1 j)) (h (c4 3 j)) (a (c2 1 j)) = dh a h (c4 1 j) := by
  rw [lo1, hi1, dh_lo]
theorem dhu0 (a : Fin 2816 → ℝ) (h : Fin 5632 → ℝ) (j : Fin 1408) : gateU (h (c4 0 j)) (a (c2 0 j)) = dh a h (c4 2 j) := by
  rw [lo0, hi0, dh_hi]
theorem dhu1 (a : Fin 2816 → ℝ) (h : Fin 5632 → ℝ) (j : Fin 1408) : gateU (h (c4 1 j)) (a (c2 1 j)) = dh a h (c4 3 j) := by
  rw [lo1, hi1, dh_hi]
/-- The sum over the rows of the blocks is the sum over all rows. -/
theorem sum_row16 (f : Fin 4096 → ℝ) : ∑ t : Fin 16, ∑ k : Fin 256, f (row16 t k) = ∑ r, f r :=
  Fin.sum_mul_add_congr fun t k hl => congrArg f (Fin.ext rfl)

/-- The second chunk's payloads are the first chunk's. -/
theorem pay_gateG1 (r : FVec Ideal S256x1024 .f32) (w : Vec Ideal S1408x1024 .bf16) (a b : Vec Ideal S256x1408 .bf16) (j : S256x1408.Idx) :
    k2_pay1 (k2_pay22 a) (k2_pay24 (k2_pay13 r w) b) (k2_pay25 a) k2_pay26 j
      = k2_pay19 (k2_pay15 a) (k2_pay17 r w b) (k2_pay18 a) j := rfl
theorem pay_up1 (r : FVec Ideal S256x1024 .f32) (w : Vec Ideal S1408x1024 .bf16) (a : Vec Ideal S256x1408 .bf16) (j : S256x1408.Idx) :
    k2_pay23 (k2_pay13 r w) a j = k2_pay16 r w a j := rfl
theorem pay_step1 (x r : FVec Ideal S256x1024 .f32) (w : Vec Ideal S1408x1024 .bf16) (a b : Vec Ideal S256x1408 .bf16)
    (p q : Vec Ideal S1x1024x1408 .bf16) (j : S256x1024.Idx) :
    k2_pay2 x (k2_pay22 a) (k2_pay23 (k2_pay13 r w) a) (k2_pay24 (k2_pay13 r w) b) (k2_pay25 a) k2_pay26 p q j
      = k2_pay20 x (k2_pay15 a) (k2_pay16 r w a) (k2_pay17 r w b) (k2_pay18 a) p q j := rfl

/-- The arrays at the region's entry. -/
structure In2 (CT XH : Fin 4096 → Fin 1024 → ℝ) (RS : Fin 4096 → ℝ) (H : Fin 4096 → Fin 5632 → ℝ)
    (WI : Fin 1024 → Fin 5632 → ℝ) (WO : Fin 2816 → Fin 1024 → ℝ) (gg : Fin 1024 → ℝ) : Prop where
  ct : ∀ i, V c main_v9 i = ((CT (i 0) (i 1) : ℝ) : EReal)
  xh : ∀ i, V c main_v8_1 i = ((XH (i 0) (i 1) : ℝ) : EReal)
  rs : ∀ i, V c main_v8_2 i = ((RS (i 0) : ℝ) : EReal)
  h : ∀ i, V c main_v7_1 i = ((H (i 0) (i 1) : ℝ) : EReal)
  wi : ∀ i, V c main_v4 i = ((WI (i 1) (c4 (i 0) (i 2)) : ℝ) : EReal)
  wo : ∀ i, V c main_v6 i = ((WO (i 0) (i 1) : ℝ) : EReal)
  g : ∀ i, V c main_arg3 i = ((gg (i 1) : ℝ) : EReal)

section
variable (k : In2 V c CT XH RS H WI WO gg)
include k
theorem blk2_ct (t : Fin cfg2.N) (i : S256x1024.Idx) : iblk2 V c 0 t i = ((CT (row16 t (i 0)) (i 1) : ℝ) : EReal) := by
  have e : iblk2 V c 0 t i = V c main_v9 (ValueIdx.ix2 (row16 t (i 0)) (i 1)) := by blk_ext [iblk2, row16, idx2 t]
  exact e.trans (k.ct _)
theorem blk2_xh (t : Fin cfg2.N) (i : S256x1024.Idx) : iblk2 V c 1 t i = ((XH (row16 t (i 0)) (i 1) : ℝ) : EReal) := by
  have e : iblk2 V c 1 t i = V c main_v8_1 (ValueIdx.ix2 (row16 t (i 0)) (i 1)) := by blk_ext [iblk2, row16, idx2 t]
  exact e.trans (k.xh _)
theorem blk2_rs (t : Fin cfg2.N) (i : S256x1.Idx) : iblk2 V c 2 t i = ((RS (row16 t (i 0)) : ℝ) : EReal) := by
  have e : iblk2 V c 2 t i = V c main_v8_2 (ValueIdx.ix2 (row16 t (i 0)) (i 1)) := by blk_ext [iblk2, row16, idx2 t]
  exact e.trans (k.rs _)
theorem blk2_g (t : Fin cfg2.N) (i : S1x1024.Idx) : iblk2 V c 6 t i = ((gg (i 1) : ℝ) : EReal) := by
  have e : iblk2 V c 6 t i = V c main_arg3 (ValueIdx.ix2 (i 0) (i 1)) := by blk_ext [iblk2, row16, idx2 t]
  exact e.trans (k.g _)
theorem blk2_h0 (t : Fin cfg2.N) (i : S256x1408.Idx) :
    View.ld (iblk2 V c 3 t) (Rect.unit ![0, 0] ![256, 1408] inb_S256x5632_S256x1408_0_0) i = ((H (row16 t (i 0)) (c4 0 (i 1)) : ℝ) : EReal) := by
  have e : View.ld (iblk2 V c 3 t) (Rect.unit ![0, 0] ![256, 1408] inb_S256x5632_S256x1408_0_0) i = V c main_v7_1 (ValueIdx.ix2 (row16 t (i 0)) (c4 0 (i 1))) := by pointwise; blk_ext [iblk2, row16, c4, c2, idx2 t]
  exact e.trans (k.h _)
theorem blk2_h1 (t : Fin cfg2.N) (i : S256x1408.Idx) :
    View.ld (iblk2 V c 3 t) (Rect.unit ![0, 1408] ![256, 1408] inb_S256x5632_S256x1408_0_1408) i = ((H (row16 t (i 0)) (c4 1 (i 1)) : ℝ) : EReal) := by
  have e : View.ld (iblk2 V c 3 t) (Rect.unit ![0, 1408] ![256, 1408] inb_S256x5632_S256x1408_0_1408) i = V c main_v7_1 (ValueIdx.ix2 (row16 t (i 0)) (c4 1 (i 1))) := by pointwise; blk_ext [iblk2, row16, c4, c2, idx2 t]
  exact e.trans (k.h _)
theorem blk2_h2 (t : Fin cfg2.N) (i : S256x1408.Idx) :
    View.ld (iblk2 V c 3 t) (Rect.unit ![0, 2816] ![256, 1408] inb_S256x5632_S256x1408_0_2816) i = ((H (row16 t (i 0)) (c4 2 (i 1)) : ℝ) : EReal) := by
  have e : View.ld (iblk2 V c 3 t) (Rect.unit ![0, 2816] ![256, 1408] inb_S256x5632_S256x1408_0_2816) i = V c main_v7_1 (ValueIdx.ix2 (row16 t (i 0)) (c4 2 (i 1))) := by pointwise; blk_ext [iblk2, row16, c4, c2, idx2 t]
  exact e.trans (k.h _)
theorem blk2_h3 (t : Fin cfg2.N) (i : S256x1408.Idx) :
    View.ld (iblk2 V c 3 t) (Rect.unit ![0, 4224] ![256, 1408] inb_S256x5632_S256x1408_0_4224) i = ((H (row16 t (i 0)) (c4 3 (i 1)) : ℝ) : EReal) := by
  have e : View.ld (iblk2 V c 3 t) (Rect.unit ![0, 4224] ![256, 1408] inb_S256x5632_S256x1408_0_4224) i = V c main_v7_1 (ValueIdx.ix2 (row16 t (i 0)) (c4 3 (i 1))) := by pointwise; blk_ext [iblk2, row16, c4, c2, idx2 t]
  exact e.trans (k.h _)
theorem blk2_wo0 (t : Fin cfg2.N) (i : S1408x1024.Idx) :
    View.ld (iblk2 V c 5 t) (Rect.unit ![0, 0] ![1408, 1024] inb_S2816x1024_S1408x1024_0_0) i = ((WO (c2 0 (i 0)) (i 1) : ℝ) : EReal) := by
  have e : View.ld (iblk2 V c 5 t) (Rect.unit ![0, 0] ![1408, 1024] inb_S2816x1024_S1408x1024_0_0) i = V c main_v6 (ValueIdx.ix2 (c2 0 (i 0)) (i 1)) := by pointwise; blk_ext [iblk2, row16, c4, c2, idx2 t]
  exact e.trans (k.wo _)
theorem blk2_wo1 (t : Fin cfg2.N) (i : S1408x1024.Idx) :
    View.ld (iblk2 V c 5 t) (Rect.unit ![1408, 0] ![1408, 1024] inb_S2816x1024_S1408x1024_1408_0) i = ((WO (c2 1 (i 0)) (i 1) : ℝ) : EReal) := by
  have e : View.ld (iblk2 V c 5 t) (Rect.unit ![1408, 0] ![1408, 1024] inb_S2816x1024_S1408x1024_1408_0) i = V c main_v6 (ValueIdx.ix2 (c2 1 (i 0)) (i 1)) := by pointwise; blk_ext [iblk2, row16, c4, c2, idx2 t]
  exact e.trans (k.wo _)
theorem blk2_wi0 (t : Fin cfg2.N) (i : S1x1024x1408.Idx) :
    View.ld (iblk2 V c 4 t) (Rect.unit ![0, 0, 0] ![1, 1024, 1408] inb_S4x1024x1408_S1x1024x1408_0_0_0) i = ((WI (i 1) (c4 0 (i 2)) : ℝ) : EReal) := by
  have e : View.ld (iblk2 V c 4 t) (Rect.unit ![0, 0, 0] ![1, 1024, 1408] inb_S4x1024x1408_S1x1024x1408_0_0_0) i = V c main_v4 (ValueIdx.ix3 (0 : Fin 4) (i 1) (i 2)) := by pointwise; blk_ext [iblk2, row16, c4, c2, idx2 t]
  exact e.trans (k.wi _)
theorem blk2_wi1 (t : Fin cfg2.N) (i : S1x1024x1408.Idx) :
    View.ld (iblk2 V c 4 t) (Rect.unit ![1, 0, 0] ![1, 1024, 1408] inb_S4x1024x1408_S1x1024x1408_1_0_0) i = ((WI (i 1) (c4 1 (i 2)) : ℝ) : EReal) := by
  have e : View.ld (iblk2 V c 4 t) (Rect.unit ![1, 0, 0] ![1, 1024, 1408] inb_S4x1024x1408_S1x1024x1408_1_0_0) i = V c main_v4 (ValueIdx.ix3 (1 : Fin 4) (i 1) (i 2)) := by pointwise; blk_ext [iblk2, row16, c4, c2, idx2 t]
  exact e.trans (k.wi _)
theorem blk2_wi2 (t : Fin cfg2.N) (i : S1x1024x1408.Idx) :
    View.ld (iblk2 V c 4 t) (Rect.unit ![2, 0, 0] ![1, 1024, 1408] inb_S4x1024x1408_S1x1024x1408_2_0_0) i = ((WI (i 1) (c4 2 (i 2)) : ℝ) : EReal) := by
  have e : View.ld (iblk2 V c 4 t) (Rect.unit ![2, 0, 0] ![1, 1024, 1408] inb_S4x1024x1408_S1x1024x1408_2_0_0) i = V c main_v4 (ValueIdx.ix3 (2 : Fin 4) (i 1) (i 2)) := by pointwise; blk_ext [iblk2, row16, c4, c2, idx2 t]
  exact e.trans (k.wi _)
theorem blk2_wi3 (t : Fin cfg2.N) (i : S1x1024x1408.Idx) :
    View.ld (iblk2 V c 4 t) (Rect.unit ![3, 0, 0] ![1, 1024, 1408] inb_S4x1024x1408_S1x1024x1408_3_0_0) i = ((WI (i 1) (c4 3 (i 2)) : ℝ) : EReal) := by
  have e : View.ld (iblk2 V c 4 t) (Rect.unit ![3, 0, 0] ![1, 1024, 1408] inb_S4x1024x1408_S1x1024x1408_3_0_0) i = V c main_v4 (ValueIdx.ix3 (3 : Fin 4) (i 1) (i 2)) := by pointwise; blk_ext [iblk2, row16, c4, c2, idx2 t]
  exact e.trans (k.wi _)
theorem blk2_dr (t : Fin cfg2.N) (i : S256x1024.Idx) :
    (k2_pay7 (iblk2 V c 0 t) (iblk2 V c 1 t) (iblk2 V c 2 t) (iblk2 V c 6 t)) i = ((drRow CT XH RS gg (row16 t (i 0)) (i 1) : ℝ) : EReal) :=
  pay_dr (fun r => CT (row16 t r)) (fun r => XH (row16 t r)) (fun r => RS (row16 t r)) gg _ _ _ _ (blk2_ct V c k t) (blk2_xh V c k t) (blk2_rs V c k t) (blk2_g V c k t) i
theorem blk2_da0 (t : Fin cfg2.N) (i : S256x1408.Idx) :
    k2_pay12 (k2_pay7 (iblk2 V c 0 t) (iblk2 V c 1 t) (iblk2 V c 2 t) (iblk2 V c 6 t)) (View.ld (iblk2 V c 5 t) (Rect.unit ![0, 0] ![1408, 1024] inb_S2816x1024_S1408x1024_0_0)) i
      = ((daRow (drRow CT XH RS gg (row16 t (i 0))) WO (c2 0 (i 1)) : ℝ) : EReal) :=
  pay_da (fun r => drRow CT XH RS gg (row16 t r)) _ (blk2_dr V c k t) (fun a d => WO (c2 0 a) d) _ (blk2_wo0 V c k t) i
theorem blk2_dg0 (t : Fin cfg2.N) (i : S256x1408.Idx) :
    k2_pay19 (k2_pay15 (View.ld (iblk2 V c 3 t) (Rect.unit ![0, 0] ![256, 1408] inb_S256x5632_S256x1408_0_0))) (k2_pay17 (k2_pay7 (iblk2 V c 0 t) (iblk2 V c 1 t) (iblk2 V c 2 t) (iblk2 V c 6 t)) (View.ld (iblk2 V c 5 t) (Rect.unit ![0, 0] ![1408, 1024] inb_S2816x1024_S1408x1024_0_0)) (View.ld (iblk2 V c 3 t) (Rect.unit ![0, 2816] ![256, 1408] inb_S256x5632_S256x1408_0_2816))) (k2_pay18 (View.ld (iblk2 V c 3 t) (Rect.unit ![0, 0] ![256, 1408] inb_S256x5632_S256x1408_0_0))) i
      = ((dh (daRow (drRow CT XH RS gg (row16 t (i 0))) WO) (H (row16 t (i 0))) (c4 0 (i 1)) : ℝ) : EReal) := by
  refine (pay_gateG (fun r a => H (row16 t r) (c4 0 a)) (fun r a => H (row16 t r) (c4 2 a)) _ _ (blk2_h0 V c k t) (blk2_h2 V c k t) _ _
    (fun r a => daRow (drRow CT XH RS gg (row16 t r)) WO (c2 0 a)) (blk2_da0 V c k t) i).trans (congrArg _ (dhg0 _ _ _))
theorem blk2_du0 (t : Fin cfg2.N) (i : S256x1408.Idx) :
    k2_pay16 (k2_pay7 (iblk2 V c 0 t) (iblk2 V c 1 t) (iblk2 V c 2 t) (iblk2 V c 6 t)) (View.ld (iblk2 V c 5 t) (Rect.unit ![0, 0] ![1408, 1024] inb_S2816x1024_S1408x1024_0_0)) (View.ld (iblk2 V c 3 t) (Rect.unit ![0, 0] ![256, 1408] inb_S256x5632_S256x1408_0_0)) i
      = ((dh (daRow (drRow CT XH RS gg (row16 t (i 0))) WO) (H (row16 t (i 0))) (c4 2 (i 1)) : ℝ) : EReal) := by
  refine (pay_up (fun r a => H (row16 t r) (c4 0 a)) _ (blk2_h0 V c k t) _ _
    (fun r a => daRow (drRow CT XH RS gg (row16 t r)) WO (c2 0 a)) (blk2_da0 V c k t) i).trans (congrArg _ (dhu0 _ _ _))
theorem blk2_da1 (t : Fin cfg2.N) (i : S256x1408.Idx) :
    k2_pay12 (k2_pay7 (iblk2 V c 0 t) (iblk2 V c 1 t) (iblk2 V c 2 t) (iblk2 V c 6 t)) (View.ld (iblk2 V c 5 t) (Rect.unit ![1408, 0] ![1408, 1024] inb_S2816x1024_S1408x1024_1408_0)) i
      = ((daRow (drRow CT XH RS gg (row16 t (i 0))) WO (c2 1 (i 1)) : ℝ) : EReal) :=
  pay_da (fun r => drRow CT XH RS gg (row16 t r)) _ (blk2_dr V c k t) (fun a d => WO (c2 1 a) d) _ (blk2_wo1 V c k t) i
theorem blk2_dg1 (t : Fin cfg2.N) (i : S256x1408.Idx) :
    k2_pay19 (k2_pay15 (View.ld (iblk2 V c 3 t) (Rect.unit ![0, 1408] ![256, 1408] inb_S256x5632_S256x1408_0_1408))) (k2_pay17 (k2_pay7 (iblk2 V c 0 t) (iblk2 V c 1 t) (iblk2 V c 2 t) (iblk2 V c 6 t)) (View.ld (iblk2 V c 5 t) (Rect.unit ![1408, 0] ![1408, 1024] inb_S2816x1024_S1408x1024_1408_0)) (View.ld (iblk2 V c 3 t) (Rect.unit ![0, 4224] ![256, 1408] inb_S256x5632_S256x1408_0_4224))) (k2_pay18 (View.ld (iblk2 V c 3 t) (Rect.unit ![0, 1408] ![256, 1408] inb_S256x5632_S256x1408_0_1408))) i
      = ((dh (daRow (drRow CT XH RS gg (row16 t (i 0))) WO) (H (row16 t (i 0))) (c4 1 (i 1)) : ℝ) : EReal) := by
  refine (pay_gateG (fun r a => H (row16 t r) (c4 1 a)) (fun r a => H (row16 t r) (c4 3 a)) _ _ (blk2_h1 V c k t) (blk2_h3 V c k t) _ _
    (fun r a => daRow (drRow CT XH RS gg (row16 t r)) WO (c2 1 a)) (blk2_da1 V c k t) i).trans (congrArg _ (dhg1 _ _ _))
theorem blk2_du1 (t : Fin cfg2.N) (i : S256x1408.Idx) :
    k2_pay16 (k2_pay7 (iblk2 V c 0 t) (iblk2 V c 1 t) (iblk2 V c 2 t) (iblk2 V c 6 t)) (View.ld (iblk2 V c 5 t) (Rect.unit ![1408, 0] ![1408, 1024] inb_S2816x1024_S1408x1024_1408_0)) (View.ld (iblk2 V c 3 t) (Rect.unit ![0, 1408] ![256, 1408] inb_S256x5632_S256x1408_0_1408)) i
      = ((dh (daRow (drRow CT XH RS gg (row16 t (i 0))) WO) (H (row16 t (i 0))) (c4 3 (i 1)) : ℝ) : EReal) := by
  refine (pay_up (fun r a => H (row16 t r) (c4 1 a)) _ (blk2_h1 V c k t) _ _
    (fun r a => daRow (drRow CT XH RS gg (row16 t r)) WO (c2 1 a)) (blk2_da1 V c k t) i).trans (congrArg _ (dhu1 _ _ _))
theorem blk2_x0 (t : Fin cfg2.N) (i : S256x1024.Idx) :
    k2_pay20 (k2_pay11 (k2_pay7 (iblk2 V c 0 t) (iblk2 V c 1 t) (iblk2 V c 2 t) (iblk2 V c 6 t))) (k2_pay15 (View.ld (iblk2 V c 3 t) (Rect.unit ![0, 0] ![256, 1408] inb_S256x5632_S256x1408_0_0))) (k2_pay16 (k2_pay7 (iblk2 V c 0 t) (iblk2 V c 1 t) (iblk2 V c 2 t) (iblk2 V c 6 t)) (View.ld (iblk2 V c 5 t) (Rect.unit ![0, 0] ![1408, 1024] inb_S2816x1024_S1408x1024_0_0)) (View.ld (iblk2 V c 3 t) (Rect.unit ![0, 0] ![256, 1408] inb_S256x5632_S256x1408_0_0))) (k2_pay17 (k2_pay7 (iblk2 V c 0 t) (iblk2 V c 1 t) (iblk2 V c 2 t) (iblk2 V c 6 t)) (View.ld (iblk2 V c 5 t) (Rect.unit ![0, 0] ![1408, 1024] inb_S2816x1024_S1408x1024_0_0)) (View.ld (iblk2 V c 3 t) (Rect.unit ![0, 2816] ![256, 1408] inb_S256x5632_S256x1408_0_2816))) (k2_pay18 (View.ld (iblk2 V c 3 t) (Rect.unit ![0, 0] ![256, 1408] inb_S256x5632_S256x1408_0_0))) (View.ld (iblk2 V c 4 t) (Rect.unit ![0, 0, 0] ![1, 1024, 1408] inb_S4x1024x1408_S1x1024x1408_0_0_0)) (View.ld (iblk2 V c 4 t) (Rect.unit ![2, 0, 0] ![1, 1024, 1408] inb_S4x1024x1408_S1x1024x1408_2_0_0)) i
      = ((alpha * drRow CT XH RS gg (row16 t (i 0)) (i 1) + linT (fun a => dh (daRow (drRow CT XH RS gg (row16 t (i 0))) WO) (H (row16 t (i 0))) (c4 0 a)) (fun d a => WI d (c4 0 a)) (i 1) + linT (fun a => dh (daRow (drRow CT XH RS gg (row16 t (i 0))) WO) (H (row16 t (i 0))) (c4 2 a)) (fun d a => WI d (c4 2 a)) (i 1) : ℝ) : EReal) :=
  pay_step (fun r a => dh (daRow (drRow CT XH RS gg (row16 t r)) WO) (H (row16 t r)) (c4 0 a)) (fun r a => dh (daRow (drRow CT XH RS gg (row16 t r)) WO) (H (row16 t r)) (c4 2 a)) (fun d a => WI d (c4 0 a)) (fun d a => WI d (c4 2 a))
    (fun r d => alpha * drRow CT XH RS gg (row16 t r) d)
    _ _ _ _ _ _ _ (fun i => pay_adr (fun r => drRow CT XH RS gg (row16 t r)) _ (blk2_dr V c k t) i) (blk2_dg0 V c k t) (blk2_du0 V c k t) (blk2_wi0 V c k t) (blk2_wi2 V c k t) i
theorem blk2_x1 (t : Fin cfg2.N) (i : S256x1024.Idx) :
    k2_pay20 (k2_pay20 (k2_pay11 (k2_pay7 (iblk2 V c 0 t) (iblk2 V c 1 t) (iblk2 V c 2 t) (iblk2 V c 6 t))) (k2_pay15 (View.ld (iblk2 V c 3 t) (Rect.unit ![0, 0] ![256, 1408] inb_S256x5632_S256x1408_0_0))) (k2_pay16 (k2_pay7 (iblk2 V c 0 t) (iblk2 V c 1 t) (iblk2 V c 2 t) (iblk2 V c 6 t)) (View.ld (iblk2 V c 5 t) (Rect.unit ![0, 0] ![1408, 1024] inb_S2816x1024_S1408x1024_0_0)) (View.ld (iblk2 V c 3 t) (Rect.unit ![0, 0] ![256, 1408] inb_S256x5632_S256x1408_0_0))) (k2_pay17 (k2_pay7 (iblk2 V c 0 t) (iblk2 V c 1 t) (iblk2 V c 2 t) (iblk2 V c 6 t)) (View.ld (iblk2 V c 5 t) (Rect.unit ![0, 0] ![1408, 1024] inb_S2816x1024_S1408x1024_0_0)) (View.ld (iblk2 V c 3 t) (Rect.unit ![0, 2816] ![256, 1408] inb_S256x5632_S256x1408_0_2816))) (k2_pay18 (View.ld (iblk2 V c 3 t) (Rect.unit ![0, 0] ![256, 1408] inb_S256x5632_S256x1408_0_0))) (View.ld (iblk2 V c 4 t) (Rect.unit ![0, 0, 0] ![1, 1024, 1408] inb_S4x1024x1408_S1x1024x1408_0_0_0)) (View.ld (iblk2 V c 4 t) (Rect.unit ![2, 0, 0] ![1, 1024, 1408] inb_S4x1024x1408_S1x1024x1408_2_0_0))) (k2_pay15 (View.ld (iblk2 V c 3 t) (Rect.unit ![0, 1408] ![256, 1408] inb_S256x5632_S256x1408_0_1408))) (k2_pay16 (k2_pay7 (iblk2 V c 0 t) (iblk2 V c 1 t) (iblk2 V c 2 t) (iblk2 V c 6 t)) (View.ld (iblk2 V c 5 t) (Rect.unit ![1408, 0] ![1408, 1024] inb_S2816x1024_S1408x1024_1408_0)) (View.ld (iblk2 V c 3 t) (Rect.unit ![0, 1408] ![256, 1408] inb_S256x5632_S256x1408_0_1408))) (k2_pay17 (k2_pay7 (iblk2 V c 0 t) (iblk2 V c 1 t) (iblk2 V c 2 t) (iblk2 V c 6 t)) (View.ld (iblk2 V c 5 t) (Rect.unit ![1408, 0] ![1408, 1024] inb_S2816x1024_S1408x1024_1408_0)) (View.ld (iblk2 V c 3 t) (Rect.unit ![0, 4224] ![256, 1408] inb_S256x5632_S256x1408_0_4224))) (k2_pay18 (View.ld (iblk2 V c 3 t) (Rect.unit ![0, 1408] ![256, 1408] inb_S256x5632_S256x1408_0_1408))) (View.ld (iblk2 V c 4 t) (Rect.unit ![1, 0, 0] ![1, 1024, 1408] inb_S4x1024x1408_S1x1024x1408_1_0_0)) (View.ld (iblk2 V c 4 t) (Rect.unit ![3, 0, 0] ![1, 1024, 1408] inb_S4x1024x1408_S1x1024x1408_3_0_0)) i
      = ((alpha * drRow CT XH RS gg (row16 t (i 0)) (i 1) + linT (fun a => dh (daRow (drRow CT XH RS gg (row16 t (i 0))) WO) (H (row16 t (i 0))) (c4 0 a)) (fun d a => WI d (c4 0 a)) (i 1) + linT (fun a => dh (daRow (drRow CT XH RS gg (row16 t (i 0))) WO) (H (row16 t (i 0))) (c4 2 a)) (fun d a => WI d (c4 2 a)) (i 1) + linT (fun a => dh (daRow (drRow CT XH RS gg (row16 t (i 0))) WO) (H (row16 t (i 0))) (c4 1 a)) (fun d a => WI d (c4 1 a)) (i 1) + linT (fun a => dh (daRow (drRow CT XH RS gg (row16 t (i 0))) WO) (H (row16 t (i 0))) (c4 3 a)) (fun d a => WI d (c4 3 a)) (i 1) : ℝ) : EReal) :=
  pay_step (fun r a => dh (daRow (drRow CT XH RS gg (row16 t r)) WO) (H (row16 t r)) (c4 1 a)) (fun r a => dh (daRow (drRow CT XH RS gg (row16 t r)) WO) (H (row16 t r)) (c4 3 a)) (fun d a => WI d (c4 1 a)) (fun d a => WI d (c4 3 a))
    (fun r d => alpha * drRow CT XH RS gg (row16 t r) d + linT (fun a => dh (daRow (drRow CT XH RS gg (row16 t r)) WO) (H (row16 t r)) (c4 0 a)) (fun d a => WI d (c4 0 a)) d + linT (fun a => dh (daRow (drRow CT XH RS gg (row16 t r)) WO) (H (row16 t r)) (c4 2 a)) (fun d a => WI d (c4 2 a)) d)
    _ _ _ _ _ _ _ (blk2_x0 V c k t) (blk2_dg1 V c k t) (blk2_du1 V c k t) (blk2_wi1 V c k t) (blk2_wi3 V c k t) i
/-- The stream's gradient, block by block. -/
theorem pt2_7 (t : Fin cfg2.N) (y : S256x1024.Idx) : (outsAt2 V c t.val t.isLt).1 y
    = ((dxRow (drRow CT XH RS gg (row16 t (y 0))) (H (row16 t (y 0))) WI WO (y 1) : ℝ) : EReal) := by
  have e : alpha * drRow CT XH RS gg (row16 t (y 0)) (y 1) + linT (fun a => dh (daRow (drRow CT XH RS gg (row16 t (y 0))) WO) (H (row16 t (y 0))) (c4 0 a)) (fun d a => WI d (c4 0 a)) (y 1) + linT (fun a => dh (daRow (drRow CT XH RS gg (row16 t (y 0))) WO) (H (row16 t (y 0))) (c4 2 a)) (fun d a => WI d (c4 2 a)) (y 1) + linT (fun a => dh (daRow (drRow CT XH RS gg (row16 t (y 0))) WO) (H (row16 t (y 0))) (c4 1 a)) (fun d a => WI d (c4 1 a)) (y 1) + linT (fun a => dh (daRow (drRow CT XH RS gg (row16 t (y 0))) WO) (H (row16 t (y 0))) (c4 3 a)) (fun d a => WI d (c4 3 a)) (y 1)
      = dxRow (drRow CT XH RS gg (row16 t (y 0))) (H (row16 t (y 0))) WI WO (y 1) := by
    unfold dxRow linT
    rw [sum_chunks]; ring
  rw [← e]
  by_cases h8 : t.val % 16 = 0
  · rw [outsAt2_A V c t h8]
    frame_out
    exact (pay_step1 _ _ _ _ _ _ _ y).trans (blk2_x1 V c k t y)
  · rw [outsAt2_B V c t h8]
    frame_out
    exact (pay_step1 _ _ _ _ _ _ _ y).trans (blk2_x1 V c k t y)
theorem final2_7 : (dat2 V c).arrAt 7 cfg2.N = (show FVec Ideal S4096x1024 .f32 from fun j =>
    ((dxRow (drRow CT XH RS gg (j 0)) (H (j 0)) WI WO (j 1) : ℝ) : EReal)) := by
  refine (dat2 V c).arrAt_eq_of_covers 7 _ (by decide +kernel) fun t _ y => ?_
  have e : ((View.whole main_v10_0).slice (win2_7.rect t)).emb y = ValueIdx.ix2 (row16 t (y 0)) (y 1) := by blk_ext [row8, row4, row16, idx2 t]
  blk_simp
  rw [after2_7, e]
  exact pt2_7 V c k t y
/-- The four stores of a block's gradients of gates and other halves. -/
theorem pt2_8 (t : Fin cfg2.N) (y : S256x5632.Idx) : (outsAt2 V c t.val t.isLt).2.1 y
    = ((dh (daRow (drRow CT XH RS gg (row16 t (y 0))) WO) (H (row16 t (y 0))) (y 1) : ℝ) : EReal) := by
  by_cases h8 : t.val % 16 = 0
  · rw [outsAt2_A V c t h8]
    frame_out
    canon_tiles x hx
    · rw [show y 0 = x 0 from Fin.ext hx0, show y 1 = c4 3 (x 1) from Fin.ext (by simp [c4]; omega)]
      exact (pay_up1 _ _ _ x).trans (blk2_du1 V c k t x)
    · rw [show y 0 = x 0 from Fin.ext hx0, show y 1 = c4 1 (x 1) from Fin.ext (by simp [c4]; omega)]
      exact (pay_gateG1 _ _ _ _ x).trans (blk2_dg1 V c k t x)
    · rw [show y 0 = x 0 from Fin.ext hx0, show y 1 = c4 2 (x 1) from Fin.ext (by simp [c4]; omega)]
      exact blk2_du0 V c k t x
    · rw [show y 0 = x 0 from Fin.ext hx0, show y 1 = c4 0 (x 1) from Fin.ext (by simp [c4]; omega)]
      exact blk2_dg0 V c k t x
  · rw [outsAt2_B V c t h8]
    frame_out
    canon_tiles x hx
    · rw [show y 0 = x 0 from Fin.ext hx0, show y 1 = c4 3 (x 1) from Fin.ext (by simp [c4]; omega)]
      exact (pay_up1 _ _ _ x).trans (blk2_du1 V c k t x)
    · rw [show y 0 = x 0 from Fin.ext hx0, show y 1 = c4 1 (x 1) from Fin.ext (by simp [c4]; omega)]
      exact (pay_gateG1 _ _ _ _ x).trans (blk2_dg1 V c k t x)
    · rw [show y 0 = x 0 from Fin.ext hx0, show y 1 = c4 2 (x 1) from Fin.ext (by simp [c4]; omega)]
      exact blk2_du0 V c k t x
    · rw [show y 0 = x 0 from Fin.ext hx0, show y 1 = c4 0 (x 1) from Fin.ext (by simp [c4]; omega)]
      exact blk2_dg0 V c k t x
theorem final2_8 : (dat2 V c).arrAt 8 cfg2.N = (show FVec Ideal S4096x5632 .bf16 from fun j =>
    ((dh (daRow (drRow CT XH RS gg (j 0)) WO) (H (j 0)) (j 1) : ℝ) : EReal)) := by
  refine (dat2 V c).arrAt_eq_of_covers 8 _ (by decide +kernel) fun t _ y => ?_
  have e : ((View.whole main_v10_1).slice (win2_8.rect t)).emb y = ValueIdx.ix2 (row16 t (y 0)) (y 1) := by blk_ext [row8, row4, row16, idx2 t]
  blk_simp
  rw [after2_8, e]
  exact pt2_8 V c k t y
theorem final2_9 : (dat2 V c).arrAt 9 cfg2.N = (show FVec Ideal S4096x1024 .bf16 from fun j =>
    ((1 / 2 * drRow CT XH RS gg (j 0) (j 1) : ℝ) : EReal)) := by
  refine (dat2 V c).arrAt_eq_of_covers 9 _ (by decide +kernel) fun t _ y => ?_
  have e : ((View.whole main_v10_2).slice (win2_9.rect t)).emb y = ValueIdx.ix2 (row16 t (y 0)) (y 1) := by blk_ext [row8, row4, row16, idx2 t]
  blk_simp
  rw [after2_9, e]
  by_cases h8 : t.val % 16 = 0
  · rw [outsAt2_A V c t h8]
    frame_out
    exact pay_df (fun r => drRow CT XH RS gg (row16 t r)) _ (blk2_dr V c k t) y
  · rw [outsAt2_B V c t h8]
    frame_out
    exact pay_df (fun r => drRow CT XH RS gg (row16 t r)) _ (blk2_dr V c k t) y
theorem final2_10 : (dat2 V c).arrAt 10 cfg2.N = (show FVec Ideal S1x1024 .f32 from fun j =>
    ((∑ r, CT r (j 1) * XH r (j 1) : ℝ) : EReal)) := by
  refine (dat2 V c).arrAt_eq_of_after_last 10 t2_15 (by decide +kernel) _ fun j => ?_
  blk_simp
  rw [after2_10, Pipeline.eq_sum_fin_of_reset_step_apply_last (fun n hn => (outsAt2 V c n hn).2.2.2.1) 16
    (fun _ => 0) (fun t j => ((∑ i : Fin 256, CT (row16 t i) (j 1) * XH (row16 t i) (j 1) : ℝ) : EReal))
    (fun t h8 j => by rw [outsAt2_A V c t h8]; frame_out; rw [pay_scale, pay_zero]; simp only [blk2_ct V c k, blk2_xh V c k, ← EReal.coe_mul, sum_coe]; rfl)
    (fun t h8 j => by rw [outsAt2_B V c t h8]; frame_out; rw [pay_scale]; simp only [blk2_ct V c k, blk2_xh V c k, ← EReal.coe_mul, sum_coe]; rfl)
    (le_of_eq N_2) t2_15 rfl j, zero_add]
  exact (sum_coe _).trans (congrArg _ (sum_row16 fun r => CT r (j 1) * XH r (j 1)))
theorem final2_11 : (dat2 V c).arrAt 11 cfg2.N = (show FVec Ideal S1x1024 .f32 from fun j =>
    ((∑ r, CT r (j 1) : ℝ) : EReal)) := by
  refine (dat2 V c).arrAt_eq_of_after_last 11 t2_15 (by decide +kernel) _ fun j => ?_
  blk_simp
  rw [after2_11, Pipeline.eq_sum_fin_of_reset_step_apply_last (fun n hn => (outsAt2 V c n hn).2.2.2.2) 16
    (fun _ => 0) (fun t j => ((∑ i : Fin 256, CT (row16 t i) (j 1) : ℝ) : EReal))
    (fun t h8 j => by rw [outsAt2_A V c t h8]; frame_out; rw [pay_shift, pay_zero']; simp only [blk2_ct V c k, blk2_xh V c k, ← EReal.coe_mul, sum_coe]; rfl)
    (fun t h8 j => by rw [outsAt2_B V c t h8]; frame_out; rw [pay_shift]; simp only [blk2_ct V c k, blk2_xh V c k, ← EReal.coe_mul, sum_coe]; rfl)
    (le_of_eq N_2) t2_15 rfl j, zero_add]
  exact (sum_coe _).trans (congrArg _ (sum_row16 fun r => CT r (j 1)))
end

end Cert.Ffn
end
-- ==== Proof.Ffn.Entry.lean ====
/- The regions' entry contents, from real arguments. -/
module
public import proofs.«01_k».proof.Proof.Finite
public import proofs.«01_k».proof.Proof.Ffn.Data
public import proofs.«01_k».proof.Proof.Ffn.Reg0
public import proofs.«01_k».proof.Proof.Ffn.Reg1
public import proofs.«01_k».proof.Proof.Ffn.Reg2
@[expose] public section
set_option maxRecDepth 16384
noncomputable section
namespace Cert.Ffn
open Idealize.ShloMosaic Idealize.ShloMosaic.TcCoe Idealize.ShloMosaic.Tactic Idealize.SL.Sem Cert.RealNorm Cert.Finite Cert.Kernel3Ideal Cert.Kernel3Ideal.Gen Cert.Mix
open Idealize.ShloMosaic.Pipeline (Dat Cfg Window)

variable (m : (ℓ : Loc nD τ sig) → Buf (Elt Ideal) ℓ) (ρ : Dev nD → PrngReg) (c : Dev nD)

/-- The arguments are real arrays (the shift may be anything). -/
structure Args (d : Data) : Prop where
  x : ∀ i, m (c.tc.loc main_arg0) i = ((d.X (bl (i 0) (i 1)) (i 2) : ℝ) : EReal)
  wi : ∀ i, m (c.tc.loc main_arg1) i = ((d.WI (i 1) (i 2) : ℝ) : EReal)
  wo : ∀ i, m (c.tc.loc main_arg2) i = ((d.WO (i 1) (i 2) : ℝ) : EReal)
  g : ∀ i, m (c.tc.loc main_arg3) i = ((d.gg (i 1) : ℝ) : EReal)
  ct : ∀ i, m (c.tc.loc main_arg5) i = ((d.CT (bl (i 0) (i 1)) (i 2) : ℝ) : EReal)

variable {d : Data} (h : Args m c d)

theorem w1_x (i) : V1 m ρ c main_v0 i = m (c.tc.loc main_arg0) (ValueIdx.ix3 (rb (i 0)) (rl (i 0)) (i 1)) := by
  show StableHlo.after hostOps0 _ _ _ = _
  after_results
  pointwise
  blk_ext [rb, rl]
theorem w1_wi (i) : V1 m ρ c main_v4 i = m (c.tc.loc main_arg1) (ValueIdx.ix3 0 (i 1) (c4 (i 0) (i 2))) := by
  show StableHlo.after hostOps0 _ _ _ = _
  after_results
  pointwise
  blk_ext [c4]
theorem w1_wo (i) : V1 m ρ c main_v6 i = m (c.tc.loc main_arg2) (ValueIdx.ix3 0 (i 0) (i 1)) := by
  show StableHlo.after hostOps0 _ _ _ = _
  after_results
  pointwise
  try blk_ext
theorem w4_ct (i) : V4 m ρ c main_v9 i = W3 m ρ c (Proc.devRef .tc main_arg5) (ValueIdx.ix3 (rb (i 0)) (rl (i 0)) (i 1)) := by
  show StableHlo.after hostOps2 _ _ _ = _
  after_results
  pointwise
  blk_ext [rb, rl]

/-- A buffer that the earlier regions read and nothing writes. -/
theorem keep2 (r : Ref sig .tc) (h0 : ∀ w : Fin cfg0.W, Pipeline.arrRef spec0 w = r → (cfg0.win w).isOut = false) :
    V2 m ρ c r = V1 m ρ c r := W2_of m ρ c r h0
theorem keep4 (r : Ref sig .tc) (h2 : r ∉ hostOps2_W) (h1 : ∀ w : Fin cfg1.W, Pipeline.arrRef spec1 w = r → (cfg1.win w).isOut = false) :
    V4 m ρ c r = V2 m ρ c r := (W4_of m ρ c r h2).trans (W3_of m ρ c r h1)

include h
theorem v1_x (i) : V1 m ρ c main_v0 i = ((d.X (i 0) (i 1) : ℝ) : EReal) := by
  rw [w1_x m ρ c, h.x]
  exact congrArg (fun r => ((d.X r (i 1) : ℝ) : EReal)) (bl_rb (i 0))
theorem v1_wi (i) : V1 m ρ c main_v4 i = ((d.WI (i 1) (c4 (i 0) (i 2)) : ℝ) : EReal) :=
  (w1_wi m ρ c i).trans (h.wi _)
theorem v1_wo (i) : V1 m ρ c main_v6 i = ((d.WO (i 0) (i 1) : ℝ) : EReal) := (w1_wo m ρ c i).trans (h.wo _)
theorem in0 : In0 (V1 m ρ) c d.X d.WI := ⟨v1_x m ρ c h, v1_wi m ρ c h⟩
theorem in1 : In1 (V2 m ρ) c d.X (fun r => hidden (d.h r)) d.WO where
  x i := by rw [keep2 m ρ c main_v0 (by decide)]; exact v1_x m ρ c h i
  y i := by rw [show V2 m ρ c main_v7_2 = _ from W2_arr m ρ c 4, final0_4 _ c (in0 m ρ c h)]; rfl
  w i := by rw [keep2 m ρ c main_v6 (by decide)]; exact v1_wo m ρ c h i
theorem in2 : In2 (V4 m ρ) c d.CT (fun r => xhat 1024 (d.rr r)) (fun r => rstd 1024 (d.rr r)) d.h d.WI d.WO d.gg where
  ct i := by
    rw [w4_ct m ρ c, W3_args m ρ c main_arg5 (by decide), h.ct]
    exact congrArg (fun r => ((d.CT r (i 1) : ℝ) : EReal)) (bl_rb (i 0))
  xh i := by rw [show V4 m ρ c main_v8_1 = _ from (W4_of m ρ c main_v8_1 (by decide)).trans (W3_arr m ρ c 6), final1_6 _ c (in1 m ρ c h)]; rfl
  rs i := by rw [show V4 m ρ c main_v8_2 = _ from (W4_of m ρ c main_v8_2 (by decide)).trans (W3_arr m ρ c 7), final1_7 _ c (in1 m ρ c h)]; rfl
  h i := by rw [show V4 m ρ c main_v7_1 = _ from (keep4 m ρ c main_v7_1 (by decide) (by decide)).trans (W2_arr m ρ c 3), final0_3 _ c (in0 m ρ c h)]; rfl
  wi i := by rw [(keep4 m ρ c main_v4 (by decide) (by decide)).trans (keep2 m ρ c main_v4 (by decide))]; exact v1_wi m ρ c h i
  wo i := by rw [(keep4 m ρ c main_v6 (by decide) (by decide)).trans (keep2 m ρ c main_v6 (by decide))]; exact v1_wo m ρ c h i
  g i := by rw [show V4 m ρ c main_arg3 = _ from W4_args m ρ c main_arg3 (by decide)]; exact h.g i

end Cert.Ffn
end
-- ==== Proof.Ffn.Claim.lean ====
/- What the kernel's run leaves in its result arrays, and the claim against the reference. -/
module
public import proofs.«01_k».proof.Proof.Ffn.RefRun
public import proofs.«01_k».proof.Proof.Ffn.Run
public import proofs.«01_k».proof.Proof.Ffn.Entry
public import proofs.«01_k».proof.Proof.Gen.Pre_finite3
public import proofs.«01_k».proof.Defs
@[expose] public section
set_option maxRecDepth 16384
noncomputable section
namespace Cert.Ffn
open Idealize.ShloMosaic Idealize.ShloMosaic.TcCoe Idealize.ShloMosaic.Tactic Idealize.SL.Sem Cert.RealNorm Cert.Finite Cert.Mix Cert.Ffn
section Run
open Cert.Kernel3Ideal Cert.Kernel3Ideal.Gen
variable (m : (ℓ : Loc nD τ sig) → Buf (Elt Ideal) ℓ) (ρ : Dev nD → PrngReg) {d : Data}

/-- What the results are. -/
structure Out (c : Dev nD) (m mem : (ℓ : Loc nD τ sig) → Buf (Elt Ideal) ℓ) (d : Data) : Prop where
  o0 : mem ((c.tc : Thread nD τ).loc main_v7_0) = (show FVec Ideal S1024x4096 .bf16 from fun j => ((d.X (j 1) (j 0) : ℝ) : EReal))
  o1 : mem ((c.tc : Thread nD τ).loc main_v7_1) = (show FVec Ideal S4096x5632 .bf16 from fun j => ((d.h (j 0) (j 1) : ℝ) : EReal))
  o2 : mem ((c.tc : Thread nD τ).loc main_v7_2) = (show FVec Ideal S4096x2816 .bf16 from fun j => ((hidden (d.h (j 0)) (j 1) : ℝ) : EReal))
  o3 : mem ((c.tc : Thread nD τ).loc main_v8_0) = (show FVec Ideal S4096x1024 .f32 from fun j => ((xhat 1024 (d.rr (j 0)) (j 1) : ℝ) : EReal) * m ((c.tc : Thread Kernel3Ideal.nD Kernel3Ideal.τ).loc Kernel3Ideal.main_arg3) (ValueIdx.ix2 0 (j 1)) + m ((c.tc : Thread Kernel3Ideal.nD Kernel3Ideal.τ).loc Kernel3Ideal.main_arg4) (ValueIdx.ix2 0 (j 1)))
  o4 : mem ((c.tc : Thread nD τ).loc main_v8_1) = (show FVec Ideal S4096x1024 .f32 from fun j => ((xhat 1024 (d.rr (j 0)) (j 1) : ℝ) : EReal))
  o5 : mem ((c.tc : Thread nD τ).loc main_v8_2) = (show FVec Ideal S4096x1 .f32 from fun j => ((rstd 1024 (d.rr (j 0)) : ℝ) : EReal))
  o6 : mem ((c.tc : Thread nD τ).loc main_v10_0) = (show FVec Ideal S4096x1024 .f32 from fun j => ((dxRow (d.dr (j 0)) (d.h (j 0)) d.WI d.WO (j 1) : ℝ) : EReal))
  o7 : mem ((c.tc : Thread nD τ).loc main_v10_1) = (show FVec Ideal S4096x5632 .bf16 from fun j => ((dh (daRow (d.dr (j 0)) d.WO) (d.h (j 0)) (j 1) : ℝ) : EReal))
  o8 : mem ((c.tc : Thread nD τ).loc main_v10_2) = (show FVec Ideal S4096x1024 .bf16 from fun j => ((1 / 2 * d.dr (j 0) (j 1) : ℝ) : EReal))
  o9 : mem ((c.tc : Thread nD τ).loc main_v10_3) = (show FVec Ideal S1x1024 .f32 from fun j => ((∑ r, d.CT r (j 1) * xhat 1024 (d.rr r) (j 1) : ℝ) : EReal))
  o10 : mem ((c.tc : Thread nD τ).loc main_v10_4) = (show FVec Ideal S1x1024 .f32 from fun j => ((∑ r, d.CT r (j 1) : ℝ) : EReal))
  args : ∀ a ∈ argRefs, mem ((c.tc : Thread nD τ).loc a) = m ((c.tc : Thread nD τ).loc a)

/-- The kernel's run. -/
theorem run_out (h : ∀ c, Args m c d) :
    θ_run defs (onTc (τ := τ) (main (F := Ideal))) ⟨m, fun _ => 0, ρ⟩ fun r => ∀ c : Dev nD, Out c m r.2.mem d := by
  refine (θ_run defs _ _).mono (fun r hr c => ?_) (run_mem m ρ)
  have hm := hr.1 c
  have e0 := in0 m ρ c (h c)
  have e1 := in1 m ρ c (h c)
  have e2 := in2 m ρ c (h c)
  constructor
  · exact (hm main_v7_0 (by decide)).trans ((W5_of m ρ c main_v7_0 (by decide)).trans ((W4_of m ρ c main_v7_0 (by decide)).trans ((W3_of m ρ c main_v7_0 (by decide)).trans ((W2_arr m ρ c 2).trans (final0_2 _ c e0)))))
  · exact (hm main_v7_1 (by decide)).trans ((W5_of m ρ c main_v7_1 (by decide)).trans ((W4_of m ρ c main_v7_1 (by decide)).trans ((W3_of m ρ c main_v7_1 (by decide)).trans ((W2_arr m ρ c 3).trans (final0_3 _ c e0)))))
  · exact (hm main_v7_2 (by decide)).trans ((W5_of m ρ c main_v7_2 (by decide)).trans ((W4_of m ρ c main_v7_2 (by decide)).trans ((W3_of m ρ c main_v7_2 (by decide)).trans ((W2_arr m ρ c 4).trans (final0_4 _ c e0)))))
  · refine (hm main_v8_0 (by decide)).trans ((W5_of m ρ c main_v8_0 (by decide)).trans ((W4_of m ρ c main_v8_0 (by decide)).trans ((W3_arr m ρ c 5).trans ((final1_5 _ c e1).trans ?_))))
    rw [show V2 m ρ c main_arg3 = _ from W2_args m ρ c main_arg3 (by decide), show V2 m ρ c main_arg4 = _ from W2_args m ρ c main_arg4 (by decide)]
    rfl
  · exact (hm main_v8_1 (by decide)).trans ((W5_of m ρ c main_v8_1 (by decide)).trans ((W4_of m ρ c main_v8_1 (by decide)).trans ((W3_arr m ρ c 6).trans ((final1_6 _ c e1).trans (funext fun j => rfl)))))
  · exact (hm main_v8_2 (by decide)).trans ((W5_of m ρ c main_v8_2 (by decide)).trans ((W4_of m ρ c main_v8_2 (by decide)).trans ((W3_arr m ρ c 7).trans ((final1_7 _ c e1).trans (funext fun j => rfl)))))
  · exact (hm main_v10_0 (by decide)).trans ((W5_arr m ρ c 7).trans (final2_7 _ c e2))
  · exact (hm main_v10_1 (by decide)).trans ((W5_arr m ρ c 8).trans (final2_8 _ c e2))
  · exact (hm main_v10_2 (by decide)).trans ((W5_arr m ρ c 9).trans (final2_9 _ c e2))
  · exact (hm main_v10_3 (by decide)).trans ((W5_arr m ρ c 10).trans (final2_10 _ c e2))
  · exact (hm main_v10_4 (by decide)).trans ((W5_arr m ρ c 11).trans (final2_11 _ c e2))
  · exact fun a ha => (hm a (by revert a; decide)).trans (W5_args m ρ c a ha)
end Run

/-- The precondition makes the arguments real arrays. -/
theorem args_of (m : (ℓ : Loc Kernel3Ideal.nD Kernel3Ideal.τ Kernel3Ideal.sig) → Buf (Elt Ideal) ℓ) (hp : Pre_Kernel3Ideal_finite3 m) : ∃ d : Data, ∀ c, Args m c d := by
  let c0 : Dev Kernel3Ideal.nD := ⟨0, by decide⟩
  have hj := congrFun (hp c0) (fun k => k.elim0)
  unfold Pre_finite3.fn Pre_finite3.fn_part1 at hj
  obtain ⟨hj, f4⟩ := and_one hj
  obtain ⟨hj, f3⟩ := and_one hj
  obtain ⟨hj, f2⟩ := and_one hj
  obtain ⟨hj, f1⟩ := and_one hj
  let a (b : Ref Kernel3Ideal.sig .tc) := m ((c0.tc : Thread Kernel3Ideal.nD Kernel3Ideal.τ).loc b)
  refine ⟨⟨fun r d => (a Kernel3Ideal.main_arg0 (ValueIdx.ix3 (rb r) (rl r) d) : EReal).toReal, fun p d => (a Kernel3Ideal.main_arg1 (ValueIdx.ix3 (0 : Fin 1) p d) : EReal).toReal, fun p d => (a Kernel3Ideal.main_arg2 (ValueIdx.ix3 (0 : Fin 1) p d) : EReal).toReal, fun d => (a Kernel3Ideal.main_arg3 (ValueIdx.ix2 (0 : Fin 1) d) : EReal).toReal, fun r d => (a Kernel3Ideal.main_arg5 (ValueIdx.ix3 (rb r) (rl r) d) : EReal).toReal⟩, fun c => ?_⟩
  obtain rfl : c = c0 := Subsingleton.elim (α := Fin 1) _ _
  have hb : ∀ (s : Shape) (h : Pre_finite3.S_.BroadcastsInDim s ![]) (i : s.Idx), broadcastInDim s ![] h (constant (F := Ideal) Pre_finite3.S_ .f32 0x7F800000#32) i = (⊤ : EReal) := fun _ _ _ => lit_top
  constructor
  · exact fun i => (coe_of_all _ _ (hb _ _) _ _ _ _ hj i).trans (congrArg (fun k => (((a Kernel3Ideal.main_arg0 k : EReal).toReal : ℝ) : EReal)) (at_row i))
  · exact fun i => (coe_of_all _ _ (hb _ _) _ _ _ _ f1 i).trans (congrArg (fun k => (((a Kernel3Ideal.main_arg1 k : EReal).toReal : ℝ) : EReal)) (at_one i))
  · exact fun i => (coe_of_all _ _ (hb _ _) _ _ _ _ f2 i).trans (congrArg (fun k => (((a Kernel3Ideal.main_arg2 k : EReal).toReal : ℝ) : EReal)) (at_one i))
  · exact fun i => (coe_of_all _ _ (hb _ _) _ _ _ _ f3 i).trans (congrArg (fun k => (((a Kernel3Ideal.main_arg3 k : EReal).toReal : ℝ) : EReal)) (at_row1 i))
  · exact fun i => (coe_of_all _ _ (hb _ _) _ _ _ _ f4 i).trans (congrArg (fun k => (((a Kernel3Ideal.main_arg5 k : EReal).toReal : ℝ) : EReal)) (at_row i))

/-- Kernel and reference agree over the reals, from finite arguments. -/
theorem algebraic : algebraic_Kernel3Ideal_Reference3Ideal_pre_finite3 := by
  intro m g m' g' hp hm
  obtain ⟨d, h⟩ := args_of m hp
  have h' : ∀ c, Ref.Args (StableHlo.launchContents m' c) d := fun c => by
    obtain ⟨a0, a1, a2, a3, a4, a5⟩ := hm c
    constructor
    · exact fun i => (congrFun a0 i).trans ((h c).x i)
    · exact fun i => (congrFun a1 i).trans ((h c).wi i)
    · exact fun i => (congrFun a2 i).trans ((h c).wo i)
    · exact fun i => (congrFun a3 i).trans ((h c).g i)
    · exact fun i => (congrFun a5 i).trans ((h c).ct i)
  refine ⟨fun c => (show FVec Ideal Kernel3Ideal.S1024x4096 .bf16 from fun j => ((d.X (j 1) (j 0) : ℝ) : EReal)),
    fun c => (show FVec Ideal Kernel3Ideal.S4096x5632 .bf16 from fun j => ((d.h (j 0) (j 1) : ℝ) : EReal)),
    fun c => (show FVec Ideal Kernel3Ideal.S4096x2816 .bf16 from fun j => ((hidden (d.h (j 0)) (j 1) : ℝ) : EReal)),
    fun c => (show FVec Ideal Kernel3Ideal.S4096x1024 .f32 from fun j => ((xhat 1024 (d.rr (j 0)) (j 1) : ℝ) : EReal) * m ((c.tc : Thread Kernel3Ideal.nD Kernel3Ideal.τ).loc Kernel3Ideal.main_arg3) (ValueIdx.ix2 0 (j 1)) + m ((c.tc : Thread Kernel3Ideal.nD Kernel3Ideal.τ).loc Kernel3Ideal.main_arg4) (ValueIdx.ix2 0 (j 1))),
    fun c => (show FVec Ideal Kernel3Ideal.S4096x1024 .f32 from fun j => ((xhat 1024 (d.rr (j 0)) (j 1) : ℝ) : EReal)),
    fun c => (show FVec Ideal Kernel3Ideal.S4096x1 .f32 from fun j => ((rstd 1024 (d.rr (j 0)) : ℝ) : EReal)),
    fun c => (show FVec Ideal Kernel3Ideal.S4096x1024 .f32 from fun j => ((dxRow (d.dr (j 0)) (d.h (j 0)) d.WI d.WO (j 1) : ℝ) : EReal)),
    fun c => (show FVec Ideal Kernel3Ideal.S4096x5632 .bf16 from fun j => ((dh (daRow (d.dr (j 0)) d.WO) (d.h (j 0)) (j 1) : ℝ) : EReal)),
    fun c => (show FVec Ideal Kernel3Ideal.S4096x1024 .bf16 from fun j => ((1 / 2 * d.dr (j 0) (j 1) : ℝ) : EReal)),
    fun c => (show FVec Ideal Kernel3Ideal.S1x1024 .f32 from fun j => ((∑ r, d.CT r (j 1) * xhat 1024 (d.rr r) (j 1) : ℝ) : EReal)),
    fun c => (show FVec Ideal Kernel3Ideal.S1x1024 .f32 from fun j => ((∑ r, d.CT r (j 1) : ℝ) : EReal)),
    (θ_run _ _ _).mono (fun r hr c => ?_) (run_out m g h), (θ_run _ _ _).mono (fun r hr c => ?_) (Ref.run_out m' g' h')⟩
  · have q := hr c
    exact ⟨q.o0, q.o1, q.o2, q.o3, q.o4, q.o5, q.o6, q.o7, q.o8, q.o9, q.o10, q.args _ (by decide), q.args _ (by decide), q.args _ (by decide), q.args _ (by decide), q.args _ (by decide), q.args _ (by decide)⟩
  · have q := hr c
    refine ⟨q.o0, q.o1, q.o2, q.o3.trans ?_, q.o4, q.o5, q.o6, q.o7, q.o8, q.o9, q.o10, q.args _ (by decide), q.args _ (by decide), q.args _ (by decide), q.args _ (by decide), q.args _ (by decide), q.args _ (by decide)⟩
    obtain ⟨a0, a1, a2, a3, a4, a5⟩ := hm c
    rw [a3, a4]

end Cert.Ffn
end
-- ==== Proof.Loss.Nodes.lean ====
/- The reference's shared values by name, each from the ones before it. -/
module
public import proofs.«01_k».proof.Proof.Gen.Reference4Ideal.Run
public import proofs.«01_k».proof.Proof.RealNorm
@[expose] public section
set_option maxRecDepth 16384
noncomputable section
namespace Cert.Loss.Ref
open Idealize.ShloMosaic Idealize.ShloMosaic.TcCoe Idealize.SL.Sem Cert.Reference4Ideal Cert.Reference4Ideal.Gen Cert.Reference4Ideal.Value

variable (V0 : Valuation τ sig (Elt Ideal))

def nv2 : FVec Ideal S1024x5632 .f32 :=
  shapeCast S1024x5632 (V0 (Proc.devRef .tc main_arg1) : FVec Ideal S1x1024x5632 .f32) shapeCasts_S1x1024x5632_S1024x5632
def nv3 : FVec Ideal S2816x1024 .f32 :=
  shapeCast S2816x1024 (V0 (Proc.devRef .tc main_arg2) : FVec Ideal S1x2816x1024 .f32) shapeCasts_S1x2816x1024_S2816x1024
def nv4 : FVec Ideal S2x2048x5632 .f32 :=
  Host.dotGeneral (φ₁ := .f32) (φ₂ := .f32) dot_S2x2048x1024_S1024x5632_S2x2048x5632_2_0_01_1_n_n none (V0 (Proc.devRef .tc main_arg0) : FVec Ideal S2x2048x1024 .f32) (nv2 V0)
def nv5 : FVec Ideal S2x2048x2816 .f32 :=
  extractStridedSlice S2x2048x2816 ![0, 0, 0] (nv4 V0) slices_S2x2048x5632_S2x2048x2816_0_0_0
def nv6 : FVec Ideal S2x2048x2816 .f32 :=
  extractStridedSlice S2x2048x2816 ![0, 0, 2816] (nv4 V0) slices_S2x2048x5632_S2x2048x2816_0_0_2816
def nv7 : FVec Ideal S2x2048x2816 .f32 :=
  mulf (nv5 V0) (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf (nv5 V0)))))
def nv8 : FVec Ideal S2x2048x2816 .f32 :=
  mulf (nv7 V0) (nv6 V0)
def nv12 : FVec Ideal S2x2048x1024 .f32 :=
  addf (mulf (broadcastInDim S2x2048x1024 ![] bcast_S_S2x2048x1024 (constant S_ .f32 0x3F9837F0#32)) (V0 (Proc.devRef .tc main_arg0) : FVec Ideal S2x2048x1024 .f32)) (mulf (broadcastInDim S2x2048x1024 ![] bcast_S_S2x2048x1024 (constant S_ .f32 0x3F000000#32)) (Host.dotGeneral (φ₁ := .f32) (φ₂ := .f32) dot_S2x2048x2816_S2816x1024_S2x2048x1024_2_0_01_1_n_n none (nv8 V0) (nv3 V0)))
def nv18 : FVec Ideal S2x2048x1 .f32 :=
  Host.divf (broadcastInDim S2x2048x1 ![0, 1] bcast_S2x2048_S2x2048x1_0_1 (Host.reduceAdd (nv12 V0) (constant S_ .f32 0x00000000#32) reducesTo_S2x2048x1024_S2x2048_d2 h_S_)) (broadcastInDim S2x2048x1 ![] bcast_S_S2x2048x1 (constant S_ .f32 0x44800000#32))
def nv20 : FVec Ideal S2x2048x1024 .f32 :=
  subf (nv12 V0) (broadcastInDim S2x2048x1024 ![0, 1, 2] bcast_S2x2048x1_S2x2048x1024_0_1_2 (nv18 V0))
def nv27 : FVec Ideal S2x2048x1 .f32 :=
  addf (Host.divf (broadcastInDim S2x2048x1 ![0, 1] bcast_S2x2048_S2x2048x1_0_1 (Host.reduceAdd (mulf (nv20 V0) (nv20 V0)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x3727C5AC#32))
def nv28 : FVec Ideal S2x2048x1 .f32 :=
  Host.rsqrt (nv27 V0)
def nv32 : FVec Ideal S2x2048x1024 .f32 :=
  mulf (subf (nv12 V0) (broadcastInDim S2x2048x1024 ![0, 1, 2] bcast_S2x2048x1_S2x2048x1024_0_1_2 (nv18 V0))) (broadcastInDim S2x2048x1024 ![0, 1, 2] bcast_S2x2048x1_S2x2048x1024_0_1_2 (nv28 V0))
def nv38 : FVec Ideal S2x2048x1024 .f32 :=
  addf (mulf (nv32 V0) (broadcastInDim S2x2048x1024 ![0, 1, 2] bcast_S1x1x1024_S2x2048x1024_0_1_2 (broadcastInDim S1x1x1024 ![2] bcast_S1024_S1x1x1024_2 (shapeCast S1024 (V0 (Proc.devRef .tc main_arg3) : FVec Ideal S1x1024 .f32) shapeCasts_S1x1024_S1024)))) (broadcastInDim S2x2048x1024 ![0, 1, 2] bcast_S1x1x1024_S2x2048x1024_0_1_2 (broadcastInDim S1x1x1024 ![2] bcast_S1024_S1x1x1024_2 (shapeCast S1024 (V0 (Proc.devRef .tc main_arg4) : FVec Ideal S1x1024 .f32) shapeCasts_S1x1024_S1024)))
def nv39 : FVec Ideal S1024x1024 .f32 :=
  shapeCast S1024x1024 (V0 (Proc.devRef .tc main_arg6) : FVec Ideal S1x1024x1024 .f32) shapeCasts_S1x1024x1024_S1024x1024
def nv40 : FVec Ideal S2x2048x1024 .f32 :=
  Host.dotGeneral (φ₁ := .f32) (φ₂ := .f32) dot_S2x2048x1024_S1024x1024_S2x2048x1024_2_0_01_1_n_n none (nv38 V0) (nv39 V0)
def nv43 : FVec Ideal S2x2048x1024 .f32 :=
  Host.dotGeneral (φ₁ := .f32) (φ₂ := .f32) dot_S2x2048x256_S256x1024_S2x2048x1024_2_0_01_1_n_n none (shapeCast S2x2048x256 (V0 (Proc.devRef .tc main_arg5) : FVec Ideal S1x2x2048x256 .f32) shapeCasts_S1x2x2048x256_S2x2048x256) (shapeCast S256x1024 (V0 (Proc.devRef .tc main_arg7) : FVec Ideal S1x256x1024 .f32) shapeCasts_S1x256x1024_S256x1024)
def nv49 : FVec Ideal S2x2048x1024 .f32 :=
  Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (nv40 V0))))
def nv55 : FVec Ideal S2x2048x1024 .f32 :=
  subf (addf (nv38 V0) (mulf (nv49 V0) (nv43 V0))) (V0 (Proc.devRef .tc main_arg8) : FVec Ideal S2x2048x1024 .f32)
def nv69 : FVec Ideal S2x2048x1024 .f32 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (nv55 V0))
def nv70 : FVec Ideal S2x2048x1024 .f32 :=
  mulf (nv49 V0) (nv69 V0)
def nv72 : FVec Ideal S2x2048x1024 .f32 :=
  mulf (mulf (nv69 V0) (nv43 V0)) (mulf (nv49 V0) (subf (broadcastInDim S2x2048x1024 ![] bcast_S_S2x2048x1024 (constant S_ .f32 0x3F800000#32)) (nv49 V0)))
def nv74 : FVec Ideal S2x2048x1024 .f32 :=
  addf (nv69 V0) (Host.dotGeneral (φ₁ := .f32) (φ₂ := .f32) dot_S2x2048x1024_S1024x1024_S2x2048x1024_2_1_01_0_n_n none (nv72 V0) (nv39 V0))
def nv80 : FVec Ideal S2x2048x1024 .f32 :=
  Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (nv40 V0))))
def nv83 : FVec Ideal S2x2048x1024 .f32 :=
  subf (addf (nv38 V0) (mulf (nv80 V0) (nv43 V0))) (V0 (Proc.devRef .tc main_arg8) : FVec Ideal S2x2048x1024 .f32)
def nv87 : FVec Ideal S4096x1024 .f32 :=
  shapeCast S4096x1024 (nv32 V0) shapeCasts_S2x2048x1024_S4096x1024
def nv88 : FVec Ideal S4096x1 .f32 :=
  shapeCast S4096x1 (nv28 V0) shapeCasts_S2x2048x1_S4096x1
def nv89 : FVec Ideal S4096x1024 .f32 :=
  shapeCast S4096x1024 (nv74 V0) shapeCasts_S2x2048x1024_S4096x1024
def nv92 : FVec Ideal S1024x4096 .bf16 :=
  truncf .bf16 (transpose S1024x4096 [1, 0] (shapeCast S4096x1024 (nv38 V0) shapeCasts_S2x2048x1024_S4096x1024) transposes_S4096x1024_S1024x4096_1_0) bitsLt_bf16_f32
def nv96 : FVec Ideal S256x4096 .bf16 :=
  truncf .bf16 (transpose S256x4096 [1, 0] (shapeCast S4096x256 (shapeCast S2x2048x256 (V0 (Proc.devRef .tc main_arg5) : FVec Ideal S1x2x2048x256 .f32) shapeCasts_S1x2x2048x256_S2x2048x256) shapeCasts_S2x2048x256_S4096x256) transposes_S4096x256_S256x4096_1_0) bitsLt_bf16_f32
def nv98 : FVec Ideal S4096x1024 .bf16 :=
  truncf .bf16 (shapeCast S4096x1024 (nv72 V0) shapeCasts_S2x2048x1024_S4096x1024) bitsLt_bf16_f32
def nv100 : FVec Ideal S4096x1024 .bf16 :=
  truncf .bf16 (shapeCast S4096x1024 (nv70 V0) shapeCasts_S2x2048x1024_S4096x1024) bitsLt_bf16_f32
def nv86 : FVec Ideal S1x1024 .f32 :=
  shapeCast S1x1024 (Host.reduceAdd (mulf (nv83 V0) (nv83 V0)) (constant S_ .f32 0x00000000#32) reducesTo_S2x2048x1024_S1024_d0_1 h_S_) shapeCasts_S1024_S1x1024

end Cert.Loss.Ref
end
-- ==== Proof.Loss.Data.lean ====
/- The block's values, from real arguments. -/
module
public import proofs.«01_k».proof.Proof.Ffn.Model
@[expose] public section
set_option maxRecDepth 16384
noncomputable section
namespace Cert.Loss
open Cert.RealNorm Cert.Mix Cert.Ffn
/-- The real arrays of the arguments, row by row. -/
structure Data where
  X : Fin 4096 → Fin 1024 → ℝ
  WI : Fin 1024 → Fin 5632 → ℝ
  WO : Fin 2816 → Fin 1024 → ℝ
  gg : Fin 1024 → ℝ
  bb : Fin 1024 → ℝ
  PP : Fin 4096 → Fin 256 → ℝ
  WG : Fin 1024 → Fin 1024 → ℝ
  WP : Fin 256 → Fin 1024 → ℝ
  TT : Fin 4096 → Fin 1024 → ℝ
/-- The hidden row before the gate, the residual's row and the layer norm's output. -/
def Data.h (d : Data) : Fin 4096 → Fin 5632 → ℝ := fun r => lin (d.X r) d.WI
def Data.rr (d : Data) (r : Fin 4096) : Fin 1024 → ℝ := Ffn.res (d.X r) (hidden (d.h r)) d.WO
def Data.x3 (d : Data) (r : Fin 4096) (k : Fin 1024) : ℝ := xhat 1024 (d.rr r) k * d.gg k + d.bb k
/-- The gate, the projected embedding and the distance of their sum from the target. -/
def Data.s (d : Data) (r : Fin 4096) (k : Fin 1024) : ℝ := sig (lin (d.x3 r) d.WG k)
def Data.e (d : Data) (r : Fin 4096) : Fin 1024 → ℝ := lin (d.PP r) d.WP
def Data.diff (d : Data) (r : Fin 4096) (k : Fin 1024) : ℝ := d.x3 r k + d.s r k * d.e r k - d.TT r k
/-- The loss's gradient in the sum, the gate's argument, the embedding and the norm's output. -/
def Data.dout (d : Data) (r : Fin 4096) (k : Fin 1024) : ℝ := d.diff r k * (1 / 1024)
def Data.dq (d : Data) (r : Fin 4096) (k : Fin 1024) : ℝ := d.dout r k * d.e r k * d.s r k * (1 - d.s r k)
def Data.de (d : Data) (r : Fin 4096) (k : Fin 1024) : ℝ := d.dout r k * d.s r k
def Data.dx (d : Data) (r : Fin 4096) (k : Fin 1024) : ℝ := d.dout r k + linT (d.dq r) d.WG k

end Cert.Loss
end
-- ==== Proof.Loss.Ref.lean ====
/- The reference's values from real arguments, row by row. -/
module
public import proofs.«01_k».proof.Proof.Loss.Nodes
public import proofs.«01_k».proof.Proof.Loss.Data
public import proofs.«01_k».proof.Proof.Finite
public import Idealize.ShloMosaic.Lib.Pipeline.ValueKit
public import Idealize.ShloMosaic.Lib.Pointwise
@[expose] public section
set_option maxRecDepth 16384
noncomputable section
namespace Cert.Loss.Ref
open Idealize.ShloMosaic Idealize.ShloMosaic.TcCoe Idealize.ShloMosaic.Tactic Idealize.SL.Sem Cert.RealNorm Cert.Finite Cert.Reference4Ideal Cert.Reference4Ideal.Value Cert.Mix Cert.Ffn

variable (V0 : Valuation τ sig (Elt Ideal)) {d : Data}

/-- The arguments are real arrays. -/
structure Args (d : Data) : Prop where
  x : ∀ i, V0 (Proc.devRef .tc main_arg0) i = ((d.X (bl (i 0) (i 1)) (i 2) : ℝ) : EReal)
  wi : ∀ i, V0 (Proc.devRef .tc main_arg1) i = ((d.WI (i 1) (i 2) : ℝ) : EReal)
  wo : ∀ i, V0 (Proc.devRef .tc main_arg2) i = ((d.WO (i 1) (i 2) : ℝ) : EReal)
  g : ∀ i, V0 (Proc.devRef .tc main_arg3) i = ((d.gg (i 1) : ℝ) : EReal)
  b : ∀ i, V0 (Proc.devRef .tc main_arg4) i = ((d.bb (i 1) : ℝ) : EReal)
  p : ∀ i, V0 (Proc.devRef .tc main_arg5) i = ((d.PP (bl (i 1) (i 2)) (i 3) : ℝ) : EReal)
  wg : ∀ i, V0 (Proc.devRef .tc main_arg6) i = ((d.WG (i 1) (i 2) : ℝ) : EReal)
  wp : ∀ i, V0 (Proc.devRef .tc main_arg7) i = ((d.WP (i 1) (i 2) : ℝ) : EReal)
  t : ∀ i, V0 (Proc.devRef .tc main_arg8) i = ((d.TT (bl (i 0) (i 1)) (i 2) : ℝ) : EReal)

variable (h : Args V0 d)
include h
theorem v2 (i) : nv2 V0 i = ((d.WI (i 0) (i 1) : ℝ) : EReal) := by
  pointwise [nv2]
  simp only [h.wi]
  try rfl
theorem v3 (i) : nv3 V0 i = ((d.WO (i 0) (i 1) : ℝ) : EReal) := by
  pointwise [nv3]
  simp only [h.wo]
  try rfl
theorem v4 (i) : nv4 V0 i = ((d.h (bl (i 0) (i 1)) (i 2) : ℝ) : EReal) := by
  pointwise [nv4]
  simp only [h.x, v2 V0 h, ← EReal.coe_mul, ← EReal.coe_add, ← EReal.coe_sub, sum_coe, div_real _ 1024 (by norm_num)]
  try rfl
theorem v5 (i) : nv5 V0 i = ((d.h (bl (i 0) (i 1)) (lo (i 2)) : ℝ) : EReal) := by
  pointwise [nv5]
  simp only [v4 V0 h]
  try rfl
theorem v6 (i) : nv6 V0 i = ((d.h (bl (i 0) (i 1)) (hi (i 2)) : ℝ) : EReal) := by
  pointwise [nv6]
  simp only [v4 V0 h]
  exact congrArg (fun k => ((d.h _ k : ℝ) : EReal)) (Fin.ext (Nat.add_comm _ _))
theorem v7 (i) : nv7 V0 i = ((d.h (bl (i 0) (i 1)) (lo (i 2)) * sig (d.h (bl (i 0) (i 1)) (lo (i 2))) : ℝ) : EReal) := by
  pointwise [nv7]
  simp only [v5 V0 h, ← EReal.coe_neg, Ideal.exp_coe, ← EReal.coe_one, ← EReal.coe_add, div_real _ _ (one_add_exp_ne _), sig_div, ← EReal.coe_mul]
  try rfl
theorem v8 (i) : nv8 V0 i = ((hidden (d.h (bl (i 0) (i 1))) (i 2) : ℝ) : EReal) := by
  pointwise [nv8]
  simp only [v7 V0 h, v6 V0 h, ← EReal.coe_mul, ← EReal.coe_add, ← EReal.coe_sub, sum_coe, div_real _ 1024 (by norm_num)]
  try rfl
theorem v12 (i) : nv12 V0 i = (((d.rr (bl (i 0) (i 1))) (i 2) : ℝ) : EReal) := by
  pointwise [nv12]
  simp only [h.x, v8 V0 h, v3 V0 h, lit_alpha, lit_half, ← EReal.coe_mul, ← EReal.coe_add, ← EReal.coe_sub, sum_coe, div_real _ 1024 (by norm_num)]
  try rfl
theorem v18 (i) : nv18 V0 i = ((mean 1024 (d.rr (bl (i 0) (i 1))) : ℝ) : EReal) := by
  pointwise [nv18]
  simp only [v12 V0 h, lit_1024, ← EReal.coe_mul, ← EReal.coe_add, ← EReal.coe_sub, sum_coe, div_real _ 1024 (by norm_num)]
  try rfl
theorem v20 (i) : nv20 V0 i = ((cen 1024 (d.rr (bl (i 0) (i 1))) (i 2) : ℝ) : EReal) := by
  pointwise [nv20]
  simp only [v12 V0 h, v18 V0 h, ← EReal.coe_mul, ← EReal.coe_add, ← EReal.coe_sub, sum_coe, div_real _ 1024 (by norm_num)]
  try rfl
theorem v27 (i) : nv27 V0 i = ((vare 1024 (d.rr (bl (i 0) (i 1))) : ℝ) : EReal) := by
  pointwise [nv27]
  simp only [v20 V0 h, lit_1024, lit_eps, ← EReal.coe_mul, ← EReal.coe_add, ← EReal.coe_sub, sum_coe, div_real _ 1024 (by norm_num)]
  try rfl
theorem v28 (i) : nv28 V0 i = ((rstd 1024 (d.rr (bl (i 0) (i 1))) : ℝ) : EReal) := by
  pointwise [nv28]
  simp only [v27 V0 h, rsqrt_real _ (vare_pos (N := 1024) (by norm_num) _)]
  try rfl
theorem v32 (i) : nv32 V0 i = ((xhat 1024 (d.rr (bl (i 0) (i 1))) (i 2) : ℝ) : EReal) := by
  pointwise [nv32]
  simp only [v12 V0 h, v18 V0 h, v28 V0 h, ← EReal.coe_mul, ← EReal.coe_add, ← EReal.coe_sub, sum_coe, div_real _ 1024 (by norm_num)]
  try rfl
theorem v38 (i) : nv38 V0 i = ((d.x3 (bl (i 0) (i 1)) (i 2) : ℝ) : EReal) := by
  pointwise [nv38]
  simp only [v32 V0 h, h.g, h.b, ← EReal.coe_mul, ← EReal.coe_add, ← EReal.coe_sub, sum_coe, div_real _ 1024 (by norm_num)]
  try rfl
theorem v39 (i) : nv39 V0 i = ((d.WG (i 0) (i 1) : ℝ) : EReal) := by
  pointwise [nv39]
  simp only [h.wg]
  try rfl
theorem v40 (i) : nv40 V0 i = ((lin (d.x3 (bl (i 0) (i 1))) d.WG (i 2) : ℝ) : EReal) := by
  pointwise [nv40]
  simp only [v38 V0 h, v39 V0 h, ← EReal.coe_mul, ← EReal.coe_add, ← EReal.coe_sub, sum_coe, div_real _ 1024 (by norm_num)]
  try rfl
theorem v43 (i) : nv43 V0 i = ((d.e (bl (i 0) (i 1)) (i 2) : ℝ) : EReal) := by
  pointwise [nv43]
  simp only [h.p, h.wp, ← EReal.coe_mul, ← EReal.coe_add, ← EReal.coe_sub, sum_coe, div_real _ 1024 (by norm_num)]
  try rfl
theorem v49 (i) : nv49 V0 i = ((d.s (bl (i 0) (i 1)) (i 2) : ℝ) : EReal) := by
  pointwise [nv49]
  simp only [v40 V0 h, ← EReal.coe_neg, Ideal.exp_coe, ← EReal.coe_one, ← EReal.coe_add, div_real _ _ (one_add_exp_ne _), sig_div]
  try rfl
theorem v55 (i) : nv55 V0 i = ((d.diff (bl (i 0) (i 1)) (i 2) : ℝ) : EReal) := by
  pointwise [nv55]
  simp only [v38 V0 h, v49 V0 h, v43 V0 h, h.t, ← EReal.coe_mul, ← EReal.coe_add, ← EReal.coe_sub, sum_coe, div_real _ 1024 (by norm_num)]
  try rfl
theorem v69 (i) : nv69 V0 i = ((d.dout (bl (i 0) (i 1)) (i 2) : ℝ) : EReal) := by
  pointwise [nv69]
  simp only [v55 V0 h, lit_half, lit_two, lit_1024, ← EReal.coe_one, ← EReal.coe_mul, ← EReal.coe_add, ← EReal.coe_sub, sum_coe, div_real _ 1024 (by norm_num)]
  refine congrArg _ ?_
  unfold Data.dout
  ring
theorem v70 (i) : nv70 V0 i = ((d.de (bl (i 0) (i 1)) (i 2) : ℝ) : EReal) := by
  pointwise [nv70]
  simp only [v69 V0 h, v49 V0 h, ← EReal.coe_mul, ← EReal.coe_add, ← EReal.coe_sub, sum_coe, div_real _ 1024 (by norm_num)]
  exact congrArg _ (mul_comm _ _)
theorem v72 (i) : nv72 V0 i = ((d.dq (bl (i 0) (i 1)) (i 2) : ℝ) : EReal) := by
  pointwise [nv72]
  simp only [v69 V0 h, v49 V0 h, v43 V0 h, ← EReal.coe_one, ← EReal.coe_mul, ← EReal.coe_add, ← EReal.coe_sub, sum_coe, div_real _ 1024 (by norm_num)]
  refine congrArg _ ?_
  unfold Data.dq
  ring
theorem v74 (i) : nv74 V0 i = ((d.dx (bl (i 0) (i 1)) (i 2) : ℝ) : EReal) := by
  pointwise [nv74]
  simp only [v69 V0 h, v72 V0 h, v39 V0 h, ← EReal.coe_mul, ← EReal.coe_add, ← EReal.coe_sub, sum_coe, div_real _ 1024 (by norm_num)]
  try rfl
theorem v80 (i) : nv80 V0 i = ((d.s (bl (i 0) (i 1)) (i 2) : ℝ) : EReal) := by
  pointwise [nv80]
  simp only [v40 V0 h, ← EReal.coe_neg, Ideal.exp_coe, ← EReal.coe_one, ← EReal.coe_add, div_real _ _ (one_add_exp_ne _), sig_div]
  try rfl
theorem v83 (i) : nv83 V0 i = ((d.diff (bl (i 0) (i 1)) (i 2) : ℝ) : EReal) := by
  pointwise [nv83]
  simp only [v38 V0 h, v80 V0 h, v43 V0 h, h.t, ← EReal.coe_mul, ← EReal.coe_add, ← EReal.coe_sub, sum_coe, div_real _ 1024 (by norm_num)]
  try rfl

end Cert.Loss.Ref
end
-- ==== Proof.Loss.RefRun.lean ====
/- What the reference's run leaves in its result arrays, from real arguments. -/
module
public import proofs.«01_k».proof.Proof.Loss.Ref
public import proofs.«01_k».proof.Proof.SumLead
@[expose] public section
set_option maxRecDepth 16384
noncomputable section
namespace Cert.Loss.Ref
open Idealize.ShloMosaic Idealize.ShloMosaic.TcCoe Idealize.ShloMosaic.Tactic Idealize.SL.Sem Cert.RealNorm Cert.Finite Cert.Mix Cert.Ffn Cert.Reference4Ideal Cert.Reference4Ideal.Value
open Idealize.ShloMosaic.StableHlo (launchContents)
variable (m : (ℓ : Loc nD τ sig) → Buf (Elt Ideal) ℓ) (ρ : Dev nD → PrngReg) {d : Data}

/-- The reference's arguments. -/
def argRefs : List (Ref sig .tc) := [main_arg0, main_arg1, main_arg2, main_arg3, main_arg4, main_arg5, main_arg6, main_arg7, main_arg8]

/-- What the results are. -/
structure Out (c : Dev nD) (m mem : (ℓ : Loc nD τ sig) → Buf (Elt Ideal) ℓ) (d : Data) : Prop where
  o0 : mem ((c.tc : Thread nD τ).loc main_v87) = (show FVec Ideal S4096x1024 .f32 from fun j => ((xhat 1024 (d.rr (j 0)) (j 1) : ℝ) : EReal))
  o1 : mem ((c.tc : Thread nD τ).loc main_v88) = (show FVec Ideal S4096x1 .f32 from fun j => ((rstd 1024 (d.rr (j 0)) : ℝ) : EReal))
  o2 : mem ((c.tc : Thread nD τ).loc main_v89) = (show FVec Ideal S4096x1024 .f32 from fun j => ((d.dx (j 0) (j 1) : ℝ) : EReal))
  o3 : mem ((c.tc : Thread nD τ).loc main_v92) = (show FVec Ideal S1024x4096 .bf16 from fun j => ((d.x3 (j 1) (j 0) : ℝ) : EReal))
  o4 : mem ((c.tc : Thread nD τ).loc main_v96) = (show FVec Ideal S256x4096 .bf16 from fun j => ((d.PP (j 1) (j 0) : ℝ) : EReal))
  o5 : mem ((c.tc : Thread nD τ).loc main_v98) = (show FVec Ideal S4096x1024 .bf16 from fun j => ((d.dq (j 0) (j 1) : ℝ) : EReal))
  o6 : mem ((c.tc : Thread nD τ).loc main_v100) = (show FVec Ideal S4096x1024 .bf16 from fun j => ((d.de (j 0) (j 1) : ℝ) : EReal))
  o7 : mem ((c.tc : Thread nD τ).loc main_v86) = (show FVec Ideal S1x1024 .f32 from fun j => ((∑ r, d.diff r (j 1) * d.diff r (j 1) : ℝ) : EReal))
  args : ∀ a ∈ argRefs, mem ((c.tc : Thread nD τ).loc a) = m ((c.tc : Thread nD τ).loc a)

set_option maxHeartbeats 1000000 in
/-- The reference's run. -/
theorem run_out (h : ∀ c, Args (launchContents m c) d) :
    θ_run defs (onTc (τ := τ) (main (F := Ideal))) ⟨m, fun _ => 0, ρ⟩ fun r => ∀ c : Dev nD, Out c m r.2.mem d := by
  refine (θ_run defs _ _).mono (fun r hr c => ?_) (run m ρ)
  obtain ⟨h0, h1, h2, h3, h4, h5, h6, h7, hargs⟩ := hr c
  constructor
  · refine h0.trans (funext fun j => ?_)
    clear h0 h1 h2 h3 h4 h5 h6 h7 hargs hr
    show nv87 (launchContents m c) j = _
    pointwise [nv87]
    simp only [v32 _ (h c)]
    exact congrArg (fun r => ((xhat 1024 (d.rr r) (j 1) : ℝ) : EReal)) (bl_rb (j 0))
  · refine h1.trans (funext fun j => ?_)
    clear h0 h1 h2 h3 h4 h5 h6 h7 hargs hr
    show nv88 (launchContents m c) j = _
    pointwise [nv88]
    simp only [v28 _ (h c)]
    exact congrArg (fun r => ((rstd 1024 (d.rr r) : ℝ) : EReal)) (bl_rb (j 0))
  · refine h2.trans (funext fun j => ?_)
    clear h0 h1 h2 h3 h4 h5 h6 h7 hargs hr
    show nv89 (launchContents m c) j = _
    pointwise [nv89]
    simp only [v74 _ (h c)]
    exact congrArg (fun r => ((d.dx r (j 1) : ℝ) : EReal)) (bl_rb (j 0))
  · refine h3.trans (funext fun j => ?_)
    clear h0 h1 h2 h3 h4 h5 h6 h7 hargs hr
    show nv92 (launchContents m c) j = _
    pointwise [nv92]
    simp only [v38 _ (h c)]
    exact congrArg (fun r => ((d.x3 r (j 0) : ℝ) : EReal)) (bl_rb (j 1))
  · refine h4.trans (funext fun j => ?_)
    clear h0 h1 h2 h3 h4 h5 h6 h7 hargs hr
    show nv96 (launchContents m c) j = _
    pointwise [nv96]
    simp only [(h c).p]
    exact congrArg (fun r => ((d.PP r (j 0) : ℝ) : EReal)) (bl_rb (j 1))
  · refine h5.trans (funext fun j => ?_)
    clear h0 h1 h2 h3 h4 h5 h6 h7 hargs hr
    show nv98 (launchContents m c) j = _
    pointwise [nv98]
    simp only [v72 _ (h c)]
    exact congrArg (fun r => ((d.dq r (j 1) : ℝ) : EReal)) (bl_rb (j 0))
  · refine h6.trans (funext fun j => ?_)
    clear h0 h1 h2 h3 h4 h5 h6 h7 hargs hr
    show nv100 (launchContents m c) j = _
    pointwise [nv100]
    simp only [v70 _ (h c)]
    exact congrArg (fun r => ((d.de r (j 1) : ℝ) : EReal)) (bl_rb (j 0))
  · refine h7.trans (funext fun j => ?_)
    clear h0 h1 h2 h3 h4 h5 h6 h7 hargs hr
    show nv86 (launchContents m c) j = _
    pointwise [nv86, SumLead.hostReduceAdd_lead]
    simp only [v83 _ (h c), ← EReal.coe_mul, sum_coe]
    exact congrArg _ (sum_bl fun r => d.diff r (j 1) * d.diff r (j 1))
  · intro a ha
    simp only [argRefs, List.mem_cons, List.not_mem_nil, or_false] at ha
    obtain ⟨a0, a1, a2, a3, a4, a5, a6, a7, a8⟩ := hargs
    rcases ha with rfl | rfl | rfl | rfl | rfl | rfl | rfl | rfl | rfl <;> assumption

end Cert.Loss.Ref
end
-- ==== Proof.Loss.Run.lean ====
/- The whole run of the program: every buffer ends at the last boundary's contents. -/
module
public import proofs.«01_k».proof.Proof.Gen.Kernel4Ideal.Frame
@[expose] public section
set_option maxRecDepth 16384
noncomputable section
namespace Cert.Loss
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends with each unscoped buffer at its contents after the last region, and every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- A reference of the TensorCore is among the buffers read. -/
theorem run_mem : θ_run defs (onTc (τ := τ) (main (F := F))) ⟨m, fun _ => 0, ρ⟩ (fun r =>
    (∀ c : Dev nD, ∀ b : Ref sig .tc, ¬ (Proc.devRef .tc b : DevRef τ sig).isScoped → r.2.mem ((c.tc : Thread nD τ).loc b) = W4 m ρ c (Proc.devRef .tc b)) ∧ r.2.sem = fun _ => 0) :=
  (θ_run defs _ _).mono (fun r h => ⟨fun c b hb => h.1 c _ (mem_uc b hb), h.2⟩) (run_all m ρ)

end Cert.Loss
end
-- ==== Proof.Loss.Pay0.lean ====
/- The projection body's payloads over real blocks. -/
module
public import proofs.«01_k».proof.Proof.Gen.Kernel4Ideal.Skeleton
public import proofs.«01_k».proof.Proof.Ffn.Model
public import Idealize.ShloMosaic.Lib.Pipeline.ValueKit
public import Idealize.ShloMosaic.Lib.Pointwise
@[expose] public section
set_option maxRecDepth 16384
noncomputable section
namespace Cert.Loss
open Idealize.ShloMosaic Idealize.SL.Sem Cert.Kernel4Ideal Cert.Kernel4Ideal.Gen Cert.RealNorm Cert.Mix Cert.Ffn

/-- A block of rows times one chunk of the weight's columns. -/
theorem pay_dot (x : Fin 512 → Fin 1024 → ℝ) (W : Fin 1024 → Fin 1408 → ℝ) (v0 : Vec Ideal S512x1024 .f32) (v5 : Vec Ideal S1x1024x1408 .bf16)
    (h0 : ∀ i, v0 i = ((x (i 0) (i 1) : ℝ) : EReal)) (h5 : ∀ i, v5 i = ((W (i 1) (i 2) : ℝ) : EReal)) (j : S512x1408.Idx) :
    k0_pay7 v0 v5 j = ((lin (x (j 0)) W (j 1) : ℝ) : EReal) := by
  pointwise [k0_pay7, k0_pay5]
  simp only [h0, h5, ← EReal.coe_mul, sum_coe]
  rfl
/-- The hidden units of one chunk. -/
theorem pay_gate (x : Fin 512 → Fin 1024 → ℝ) (W U : Fin 1024 → Fin 1408 → ℝ) (v0 : Vec Ideal S512x1024 .f32) (v5 v8 : Vec Ideal S1x1024x1408 .bf16)
    (h0 : ∀ i, v0 i = ((x (i 0) (i 1) : ℝ) : EReal)) (h5 : ∀ i, v5 i = ((W (i 1) (i 2) : ℝ) : EReal))
    (h8 : ∀ i, v8 i = ((U (i 1) (i 2) : ℝ) : EReal)) (j : S512x1408.Idx) :
    k0_pay11 v0 v5 v8 j = ((gate (lin (x (j 0)) W (j 1)) (lin (x (j 0)) U (j 1)) : ℝ) : EReal) := by
  pointwise [k0_pay11]
  rw [pay_dot x W v0 v5 h0 h5, show k0_pay8 v0 v8 = k0_pay7 v0 v8 from rfl, pay_dot x U v0 v8 h0 h8]
  simp only [lit_half, ← EReal.coe_mul, Ideal.tanh_coe, ← EReal.coe_add, sig_tanh]
  rfl
/-- The stores of the four chunks, and of the second chunk's hidden units, are the same functions. -/
theorem pay_dot0 (v0 : Vec Ideal S512x1024 .f32) (v : Vec Ideal S1x1024x1408 .bf16) (j : S512x1408.Idx) : k0_pay9 v0 v j = k0_pay7 v0 v j := rfl
theorem pay_dot2 (v0 : Vec Ideal S512x1024 .f32) (v : Vec Ideal S1x1024x1408 .bf16) (j : S512x1408.Idx) : k0_pay10 v0 v j = k0_pay7 v0 v j := rfl
theorem pay_dot1 (v0 : Vec Ideal S512x1024 .f32) (v : Vec Ideal S1x1024x1408 .bf16) (j : S512x1408.Idx) : k0_pay2 (k0_pay12 v0 v) j = k0_pay7 v0 v j := rfl
theorem pay_dot3 (v0 : Vec Ideal S512x1024 .f32) (v : Vec Ideal S1x1024x1408 .bf16) (j : S512x1408.Idx) : k0_pay3 (k0_pay5 v0) v j = k0_pay7 v0 v j := rfl
theorem pay_gate1 (v0 : Vec Ideal S512x1024 .f32) (v u : Vec Ideal S1x1024x1408 .bf16) (j : S512x1408.Idx) :
    k0_pay4 (k0_pay5 v0) (k0_pay12 v0 v) u j = k0_pay11 v0 v u j := rfl

end Cert.Loss
end
-- ==== Proof.Loss.Reg0.lean ====
/- The projection region: its three result arrays over real input arrays. -/
module
public import proofs.«01_k».proof.Proof.Gen.Kernel4Ideal.Frame
public import proofs.«01_k».proof.Proof.Loss.Pay0
@[expose] public section
set_option maxRecDepth 16384
noncomputable section
namespace Cert.Loss
open Idealize.ShloMosaic Idealize.ShloMosaic.TcCoe Idealize.ShloMosaic.Tactic Idealize.SL.Sem Cert.Kernel4Ideal Cert.Kernel4Ideal.Gen Cert.RealNorm Cert.Mix Cert.Ffn
open Idealize.ShloMosaic.Pipeline (Dat Cfg Window)

variable (V : (c : Dev nD) → (b : Ref sig .tc) → Buf (Elt Ideal) ((c : Thread nD τ).loc b)) (c : Dev nD)
variable {X : Fin 4096 → Fin 1024 → ℝ} {WI : Fin 1024 → Fin 5632 → ℝ} {WO : Fin 2816 → Fin 1024 → ℝ} {H : Fin 4096 → Fin 5632 → ℝ}
  {Y : Fin 4096 → Fin 2816 → ℝ} {CT XH : Fin 4096 → Fin 1024 → ℝ} {RS : Fin 4096 → ℝ} {gg : Fin 1024 → ℝ}

theorem idx0 : ∀ t : Fin cfg0.N, win0_0.index t = ![t.val, 0] ∧ win0_1.index t = ![0, 0, 0] ∧ win0_2.index t = ![0, t.val]
    ∧ win0_3.index t = ![t.val, 0] ∧ win0_4.index t = ![t.val, 0] :=
  (by decide +kernel : ∀ t : Fin grid0.N, _)

/-- The stream and the first weight at the region's entry. -/
structure In0 (X : Fin 4096 → Fin 1024 → ℝ) (WI : Fin 1024 → Fin 5632 → ℝ) : Prop where
  x : ∀ i, V c main_v0 i = ((X (i 0) (i 1) : ℝ) : EReal)
  w : ∀ i, V c main_v4 i = ((WI (i 1) (c4 (i 0) (i 2)) : ℝ) : EReal)
/-- The row `r` of gates and other halves. -/
def hRow (X : Fin 4096 → Fin 1024 → ℝ) (WI : Fin 1024 → Fin 5632 → ℝ) (r : Fin 4096) : Fin 5632 → ℝ := lin (X r) WI

section
variable (h : In0 V c X WI)
include h
theorem blk_x (t : Fin cfg0.N) (i : S512x1024.Idx) : iblk0 V c 0 t i = ((X (row8 t (i 0)) (i 1) : ℝ) : EReal) := by
  have e : iblk0 V c 0 t i = V c main_v0 (ValueIdx.ix2 (row8 t (i 0)) (i 1)) := by blk_ext [iblk0, row8, idx0 t]
  exact e.trans (h.x _)
theorem blk_w0 (t : Fin cfg0.N) (i : S1x1024x1408.Idx) : View.ld (iblk0 V c 1 t) r0_2 i = ((WI (i 1) (c4 0 (i 2)) : ℝ) : EReal) := by
  have e : View.ld (iblk0 V c 1 t) r0_2 i = V c main_v4 (ValueIdx.ix3 (0 : Fin 4) (i 1) (i 2)) := by
    pointwise
    blk_ext [iblk0, idx0 t]
  exact e.trans (h.w _)
theorem blk_w1 (t : Fin cfg0.N) (i : S1x1024x1408.Idx) : View.ld (iblk0 V c 1 t) r0_7 i = ((WI (i 1) (c4 1 (i 2)) : ℝ) : EReal) := by
  have e : View.ld (iblk0 V c 1 t) r0_7 i = V c main_v4 (ValueIdx.ix3 (1 : Fin 4) (i 1) (i 2)) := by
    pointwise
    blk_ext [iblk0, idx0 t]
  exact e.trans (h.w _)
theorem blk_w2 (t : Fin cfg0.N) (i : S1x1024x1408.Idx) : View.ld (iblk0 V c 1 t) r0_3 i = ((WI (i 1) (c4 2 (i 2)) : ℝ) : EReal) := by
  have e : View.ld (iblk0 V c 1 t) r0_3 i = V c main_v4 (ValueIdx.ix3 (2 : Fin 4) (i 1) (i 2)) := by
    pointwise
    blk_ext [iblk0, idx0 t]
  exact e.trans (h.w _)
theorem blk_w3 (t : Fin cfg0.N) (i : S1x1024x1408.Idx) : View.ld (iblk0 V c 1 t) r0_8 i = ((WI (i 1) (c4 3 (i 2)) : ℝ) : EReal) := by
  have e : View.ld (iblk0 V c 1 t) r0_8 i = V c main_v4 (ValueIdx.ix3 (3 : Fin 4) (i 1) (i 2)) := by
    pointwise
    blk_ext [iblk0, idx0 t]
  exact e.trans (h.w _)
theorem final0_2 : (dat0 V c).arrAt 2 cfg0.N = (show FVec Ideal S1024x4096 .bf16 from fun j =>
    ((X (j 1) (j 0) : ℝ) : EReal)) := by
  refine (dat0 V c).arrAt_eq_of_covers 2 _ (by decide +kernel) fun t _ y => ?_
  have e : ((View.whole main_v11_0).slice (win0_2.rect t)).emb y = ValueIdx.ix2 (y 0) (row8 t (y 1)) := by blk_ext [row8, row4, row16, idx0 t]
  blk_simp
  rw [after0_2, e]
  frame_out
  pointwise [k0_pay6, k0_pay5]
  exact blk_x V c h t _
theorem blk_h0 (t : Fin cfg0.N) (x : S512x1408.Idx) :
    k0_pay9 (iblk0 V c 0 t) (View.ld (iblk0 V c 1 t) r0_2) x = ((hRow X WI (row8 t (x 0)) (c4 0 (x 1)) : ℝ) : EReal) :=
  (pay_dot0 _ _ x).trans (pay_dot (fun r => X (row8 t r)) (fun k j => WI k (c4 0 j)) _ _ (blk_x V c h t) (blk_w0 V c h t) x)
theorem blk_h1 (t : Fin cfg0.N) (x : S512x1408.Idx) :
    k0_pay2 (k0_pay12 (iblk0 V c 0 t) (View.ld (iblk0 V c 1 t) r0_7)) x = ((hRow X WI (row8 t (x 0)) (c4 1 (x 1)) : ℝ) : EReal) :=
  (pay_dot1 _ _ x).trans (pay_dot (fun r => X (row8 t r)) (fun k j => WI k (c4 1 j)) _ _ (blk_x V c h t) (blk_w1 V c h t) x)
theorem blk_h2 (t : Fin cfg0.N) (x : S512x1408.Idx) :
    k0_pay10 (iblk0 V c 0 t) (View.ld (iblk0 V c 1 t) r0_3) x = ((hRow X WI (row8 t (x 0)) (c4 2 (x 1)) : ℝ) : EReal) :=
  (pay_dot2 _ _ x).trans (pay_dot (fun r => X (row8 t r)) (fun k j => WI k (c4 2 j)) _ _ (blk_x V c h t) (blk_w2 V c h t) x)
theorem blk_h3 (t : Fin cfg0.N) (x : S512x1408.Idx) :
    k0_pay3 (k0_pay5 (iblk0 V c 0 t)) (View.ld (iblk0 V c 1 t) r0_8) x = ((hRow X WI (row8 t (x 0)) (c4 3 (x 1)) : ℝ) : EReal) :=
  (pay_dot3 _ _ x).trans (pay_dot (fun r => X (row8 t r)) (fun k j => WI k (c4 3 j)) _ _ (blk_x V c h t) (blk_w3 V c h t) x)
theorem blk_y0 (t : Fin cfg0.N) (x : S512x1408.Idx) :
    k0_pay11 (iblk0 V c 0 t) (View.ld (iblk0 V c 1 t) r0_2) (View.ld (iblk0 V c 1 t) r0_3) x = ((hidden (hRow X WI (row8 t (x 0))) (c2 0 (x 1)) : ℝ) : EReal) := by
  refine ((pay_gate (fun r => X (row8 t r)) (fun k j => WI k (c4 0 j)) (fun k j => WI k (c4 2 j)) _ _ _ (blk_x V c h t) (blk_w0 V c h t) (blk_w2 V c h t) x).trans (congrArg _ ?_))
  simp only [lo0, hi0]
  rfl
theorem blk_y1 (t : Fin cfg0.N) (x : S512x1408.Idx) :
    k0_pay4 (k0_pay5 (iblk0 V c 0 t)) (k0_pay12 (iblk0 V c 0 t) (View.ld (iblk0 V c 1 t) r0_7)) (View.ld (iblk0 V c 1 t) r0_8) x = ((hidden (hRow X WI (row8 t (x 0))) (c2 1 (x 1)) : ℝ) : EReal) := by
  refine (pay_gate1 _ _ _ x).trans ((pay_gate (fun r => X (row8 t r)) (fun k j => WI k (c4 1 j)) (fun k j => WI k (c4 3 j)) _ _ _ (blk_x V c h t) (blk_w1 V c h t) (blk_w3 V c h t) x).trans (congrArg _ ?_))
  simp only [lo1, hi1]
  rfl
/-- The four stores of a block's row of gates and other halves. -/
theorem pt0_3 (t : Fin cfg0.N) (y : S512x5632.Idx) :
    out0_3 (iblk0 V c 0 t) (iblk0 V c 1 t) y = ((hRow X WI (row8 t (y 0)) (y 1) : ℝ) : EReal) := by
  unfold_out out0_3
  frame_out
  canon_tiles x hx
  · rw [show y 0 = x 0 from Fin.ext hx0, show y 1 = c4 3 (x 1) from Fin.ext (by simp [c4]; omega)]
    exact blk_h3 V c h t x
  · rw [show y 0 = x 0 from Fin.ext hx0, show y 1 = c4 1 (x 1) from Fin.ext (by simp [c4]; omega)]
    exact blk_h1 V c h t x
  · rw [show y 0 = x 0 from Fin.ext hx0, show y 1 = c4 2 (x 1) from Fin.ext (by simp [c4]; omega)]
    exact blk_h2 V c h t x
  · rw [show y 0 = x 0 from Fin.ext hx0, show y 1 = c4 0 (x 1) from Fin.ext (by simp [c4]; omega)]
    exact blk_h0 V c h t x
theorem final0_3 : (dat0 V c).arrAt 3 cfg0.N = (show FVec Ideal S4096x5632 .bf16 from fun j =>
    ((hRow X WI (j 0) (j 1) : ℝ) : EReal)) := by
  refine (dat0 V c).arrAt_eq_of_covers 3 _ (by decide +kernel) fun t _ y => ?_
  have e : ((View.whole main_v11_1).slice (win0_3.rect t)).emb y = ValueIdx.ix2 (row8 t (y 0)) (y 1) := by blk_ext [row8, row4, row16, idx0 t]
  blk_simp
  rw [after0_3, e]
  exact pt0_3 V c h t y
/-- The two stores of a block's hidden rows. -/
theorem pt0_4 (t : Fin cfg0.N) (y : S512x2816.Idx) :
    out0_4 (iblk0 V c 0 t) (iblk0 V c 1 t) y = ((hidden (hRow X WI (row8 t (y 0))) (y 1) : ℝ) : EReal) := by
  unfold_out out0_4
  frame_out
  canon_tiles x hx
  · rw [show y 0 = x 0 from Fin.ext hx0, show y 1 = c2 1 (x 1) from Fin.ext (by simp [c2]; omega)]
    exact blk_y1 V c h t x
  · rw [show y 0 = x 0 from Fin.ext hx0, show y 1 = c2 0 (x 1) from Fin.ext (by simp [c2]; omega)]
    exact blk_y0 V c h t x
theorem final0_4 : (dat0 V c).arrAt 4 cfg0.N = (show FVec Ideal S4096x2816 .bf16 from fun j =>
    ((hidden (hRow X WI (j 0)) (j 1) : ℝ) : EReal)) := by
  refine (dat0 V c).arrAt_eq_of_covers 4 _ (by decide +kernel) fun t _ y => ?_
  have e : ((View.whole main_v11_2).slice (win0_4.rect t)).emb y = ValueIdx.ix2 (row8 t (y 0)) (y 1) := by blk_ext [row8, row4, row16, idx0 t]
  blk_simp
  rw [after0_4, e]
  exact pt0_4 V c h t y
end

end Cert.Loss
end
-- ==== Proof.Loss.Pay1.lean ====
/- The output body's payloads over real blocks: the norm, the gate, the distance from the target and its gradient. -/
module
public import proofs.«01_k».proof.Proof.Gen.Kernel4Ideal.Skeleton
public import proofs.«01_k».proof.Proof.Loss.Data
public import Idealize.ShloMosaic.Lib.Pipeline.ValueKit
public import Idealize.ShloMosaic.Lib.Pointwise
@[expose] public section
set_option maxRecDepth 16384
noncomputable section
namespace Cert.Loss
open Idealize.ShloMosaic Idealize.SL.Sem Cert.Kernel4Ideal Cert.Kernel4Ideal.Gen Cert.RealNorm Cert.Mix Cert.Ffn

theorem lit_inv1024 : Ideal.ofBits .f32 0x3A800000#32 = (((1 / 1024 : ℝ)) : EReal) := by
  simp [Ideal.ofBits, Ideal.ieee, -EReal.coe_mul, -EReal.coe_neg]; norm_num

section Out
variable (x : Fin 512 → Fin 1024 → ℝ) (y : Fin 512 → Fin 2816 → ℝ) (W : Fin 2816 → Fin 1024 → ℝ)
  (v0 : Vec Ideal S512x2816 .bf16) (v2 : Vec Ideal S2816x1024 .bf16) (v5 : Vec Ideal S512x1024 .f32)
  (h0 : ∀ i, v0 i = ((y (i 0) (i 1) : ℝ) : EReal)) (h2 : ∀ i, v2 i = ((W (i 0) (i 1) : ℝ) : EReal))
  (h5 : ∀ i, v5 i = ((x (i 0) (i 1) : ℝ) : EReal))
include h0 h2 h5
/-- The residual's centred rows. -/
theorem pay_cen (j : S512x1024.Idx) : k1_pay7 v0 v2 v5 j = ((cen 1024 (Ffn.res (x (j 0)) (y (j 0)) W) (j 1) : ℝ) : EReal) := by
  pointwise [k1_pay7]
  simp only [h0, h2, h5, lit_alpha, lit_half, lit_1024, ← EReal.coe_mul, ← EReal.coe_add, ← EReal.coe_sub, sum_coe,
    div_real _ 1024 (by norm_num)]
  rfl
/-- The layer norm's factor, normalised rows and output. -/
theorem pay_rstd (j : S512x1.Idx) : k1_pay8 v0 v2 v5 j = ((rstd 1024 (Ffn.res (x (j 0)) (y (j 0)) W) : ℝ) : EReal) := by
  pointwise [k1_pay8]
  simp only [pay_cen x y W v0 v2 v5 h0 h2 h5, lit_1024, lit_eps, ← EReal.coe_mul, ← EReal.coe_add, sum_coe, div_real _ 1024 (by norm_num)]
  exact rsqrt_real _ (vare_pos (N := 1024) (by norm_num) (Ffn.res (x (j 0)) (y (j 0)) W))
theorem pay_xhat (j : S512x1024.Idx) : k1_pay9 v0 v2 v5 j = ((xhat 1024 (Ffn.res (x (j 0)) (y (j 0)) W) (j 1) : ℝ) : EReal) := by
  pointwise [k1_pay9]
  rw [pay_rstd x y W v0 v2 v5 h0 h2 h5, pay_cen x y W v0 v2 v5 h0 h2 h5, ← EReal.coe_mul]
  rfl
theorem pay_out (g b : Fin 1024 → ℝ) (v15 v16 : Vec Ideal S1x1024 .f32) (h15 : ∀ i, v15 i = ((g (i 1) : ℝ) : EReal))
    (h16 : ∀ i, v16 i = ((b (i 1) : ℝ) : EReal)) (j : S512x1024.Idx) : k1_pay10 v0 v2 v5 v15 v16 j
    = ((xhat 1024 (Ffn.res (x (j 0)) (y (j 0)) W) (j 1) * g (j 1) + b (j 1) : ℝ) : EReal) := by
  pointwise [k1_pay10]
  rw [pay_xhat x y W v0 v2 v5 h0 h2 h5]
  simp only [h15, h16, ← EReal.coe_mul, ← EReal.coe_add]
  try rfl
end Out

section Gate
variable (f : Fin 512 → Fin 1024 → ℝ) (p : Fin 512 → Fin 256 → ℝ) (G : Fin 1024 → Fin 1024 → ℝ) (E : Fin 256 → Fin 1024 → ℝ)
  (v36 : FVec Ideal S512x1024 .f32) (v40 : Vec Ideal S512x256 .f32) (v47 : Vec Ideal S1024x1024 .bf16) (v57 : Vec Ideal S256x1024 .bf16)
  (h36 : ∀ i, v36 i = ((f (i 0) (i 1) : ℝ) : EReal)) (h40 : ∀ i, v40 i = ((p (i 0) (i 1) : ℝ) : EReal))
  (h47 : ∀ i, v47 i = ((G (i 0) (i 1) : ℝ) : EReal)) (h57 : ∀ i, v57 i = ((E (i 0) (i 1) : ℝ) : EReal))
include h36 in
theorem pay_x3t (j : S1024x512.Idx) : k1_pay13 v36 j = ((f (j 1) (j 0) : ℝ) : EReal) := by
  pointwise [k1_pay13, k1_pay11]
  exact h36 _
include h40 in
theorem pay_pt (j : S256x512.Idx) : k1_pay14 v40 j = ((p (j 1) (j 0) : ℝ) : EReal) := by
  pointwise [k1_pay14, k1_pay12]
  exact h40 _
include h36 h47 in
theorem pay_s (j : S512x1024.Idx) : k1_pay15 v36 v47 j = ((sig (lin (f (j 0)) G (j 1)) : ℝ) : EReal) := by
  pointwise [k1_pay15, k1_pay11]
  simp only [h36, h47, lit_half, ← EReal.coe_mul, sum_coe, Ideal.tanh_coe, ← EReal.coe_add, sig_tanh]
  rfl
include h40 h57 in
theorem pay_e (j : S512x1024.Idx) : k1_pay16 v40 v57 j = ((lin (p (j 0)) E (j 1) : ℝ) : EReal) := by
  pointwise [k1_pay16, k1_pay12]
  simp only [h40, h57, ← EReal.coe_mul, sum_coe]
  rfl
include h36 h40 h47 h57 in
theorem pay_diff (t : Fin 512 → Fin 1024 → ℝ) (v62 : Vec Ideal S512x1024 .f32) (h62 : ∀ i, v62 i = ((t (i 0) (i 1) : ℝ) : EReal)) (j : S512x1024.Idx) :
    k1_pay17 v36 v40 v47 v57 v62 j
      = ((f (j 0) (j 1) + sig (lin (f (j 0)) G (j 1)) * lin (p (j 0)) E (j 1) - t (j 0) (j 1) : ℝ) : EReal) := by
  pointwise [k1_pay17]
  rw [pay_s f G v36 v47 h36 h47, pay_e p E v40 v57 h40 h57, h36, h62]
  simp only [← EReal.coe_mul, ← EReal.coe_add, ← EReal.coe_sub]
end Gate

section Grad
variable (s e f : Fin 512 → Fin 1024 → ℝ) (v56 v59 v64 : FVec Ideal S512x1024 .f32)
  (h56 : ∀ i, v56 i = ((s (i 0) (i 1) : ℝ) : EReal)) (h59 : ∀ i, v59 i = ((e (i 0) (i 1) : ℝ) : EReal))
  (h64 : ∀ i, v64 i = ((f (i 0) (i 1) : ℝ) : EReal))
include h56 h64 in
theorem pay_de (j : S512x1024.Idx) : k1_pay3 v56 v64 j = ((f (j 0) (j 1) * (1 / 1024) * s (j 0) (j 1) : ℝ) : EReal) := by
  pointwise [k1_pay3, k1_pay2]
  rw [h56, h64, lit_inv1024]
  simp only [← EReal.coe_mul]
include h56 h59 h64
theorem pay_dq (j : S512x1024.Idx) : k1_pay4 v56 v59 v64 j
    = ((f (j 0) (j 1) * (1 / 1024) * e (j 0) (j 1) * s (j 0) (j 1) * (1 - s (j 0) (j 1)) : ℝ) : EReal) := by
  pointwise [k1_pay4, k1_pay2]
  rw [h56, h59, h64, lit_inv1024, ← EReal.coe_one]
  simp only [← EReal.coe_mul, ← EReal.coe_sub]
theorem pay_dx (G : Fin 1024 → Fin 1024 → ℝ) (v84 : Vec Ideal S1024x1024 .bf16) (h84 : ∀ i, v84 i = ((G (i 0) (i 1) : ℝ) : EReal)) (j : S512x1024.Idx) :
    k1_pay5 v56 v59 v64 v84 j = ((f (j 0) (j 1) * (1 / 1024)
      + linT (fun k => f (j 0) k * (1 / 1024) * e (j 0) k * s (j 0) k * (1 - s (j 0) k)) G (j 1) : ℝ) : EReal) := by
  pointwise [k1_pay5, k1_pay2]
  simp only [h64, h84, lit_inv1024, pay_dq s e f v56 v59 v64 h56 h59 h64, ← EReal.coe_mul, sum_coe, ← EReal.coe_add]
  rfl
end Grad

/-- The accumulated row of squares: zero at the first block, a column sum added at each. -/
theorem pay_zero (j : S1x1024.Idx) : k1_pay6 (F := Ideal) j = 0 := by pointwise [k1_pay6]
theorem pay_sq (v36 : FVec Ideal S512x1024 .f32) (v40 : Vec Ideal S512x256 .f32) (v47 : Vec Ideal S1024x1024 .bf16) (v57 : Vec Ideal S256x1024 .bf16)
    (v62 : Vec Ideal S512x1024 .f32) (a : Vec Ideal S1x1024 .f32) (j : S1x1024.Idx) :
    k1_pay1 (k1_pay18 a) (k1_pay19 v36 v40 v47 v57 v62) j
      = a j + ∑ k : Fin 512, k1_pay17 v36 v40 v47 v57 v62 (ix2 k (j 1)) * k1_pay17 v36 v40 v47 v57 v62 (ix2 k (j 1)) := by
  pointwise [k1_pay1, k1_pay18, k1_pay19]

end Cert.Loss
end
-- ==== Proof.Loss.Reg1.lean ====
/- The output region: its eight result arrays over real input arrays. -/
module
public import proofs.«01_k».proof.Proof.Gen.Kernel4Ideal.Frame
public import proofs.«01_k».proof.Proof.Loss.Pay1
@[expose] public section
set_option maxRecDepth 16384
noncomputable section
namespace Cert.Loss
open Idealize.ShloMosaic Idealize.ShloMosaic.TcCoe Idealize.ShloMosaic.Tactic Idealize.SL.Sem Cert.Kernel4Ideal Cert.Kernel4Ideal.Gen Cert.RealNorm Cert.Mix Cert.Ffn
open Idealize.ShloMosaic.Pipeline (Dat Cfg Window)

variable (V : (c : Dev nD) → (b : Ref sig .tc) → Buf (Elt Ideal) ((c : Thread nD τ).loc b)) (c : Dev nD)
variable {d : Data}

theorem idx1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![t.val, 0] ∧ win1_6.index t = ![t.val, 0]
    ∧ win1_7.index t = ![0, 0] ∧ win1_8.index t = ![0, 0] ∧ win1_9.index t = ![t.val, 0] ∧ win1_10.index t = ![t.val, 0]
    ∧ win1_11.index t = ![t.val, 0] ∧ win1_12.index t = ![0, t.val] ∧ win1_13.index t = ![0, t.val] ∧ win1_14.index t = ![t.val, 0]
    ∧ win1_15.index t = ![t.val, 0] :=
  (by decide +kernel : ∀ t : Fin grid1.N, _)
/-- The sum over the rows of the blocks is the sum over all rows. -/
theorem sum_row8 (f : Fin 4096 → ℝ) : ∑ t : Fin 8, ∑ k : Fin 512, f (row8 t k) = ∑ r, f r :=
  Fin.sum_mul_add_congr fun t k hl => congrArg f (Fin.ext rfl)

/-- The arrays at the region's entry. -/
structure In1 (d : Data) : Prop where
  x : ∀ i, V c main_v0 i = ((d.X (i 0) (i 1) : ℝ) : EReal)
  y : ∀ i, V c main_v11_2 i = ((hidden (d.h (i 0)) (i 1) : ℝ) : EReal)
  w : ∀ i, V c main_v6 i = ((d.WO (i 0) (i 1) : ℝ) : EReal)
  g : ∀ i, V c main_arg3 i = ((d.gg (i 1) : ℝ) : EReal)
  b : ∀ i, V c main_arg4 i = ((d.bb (i 1) : ℝ) : EReal)
  p : ∀ i, V c main_v12 i = ((d.PP (i 0) (i 1) : ℝ) : EReal)
  t : ∀ i, V c main_v13 i = ((d.TT (i 0) (i 1) : ℝ) : EReal)
  wg : ∀ i, V c main_v8 i = ((d.WG (i 0) (i 1) : ℝ) : EReal)
  wp : ∀ i, V c main_v10 i = ((d.WP (i 0) (i 1) : ℝ) : EReal)

section
variable (h : In1 V c d)
include h
theorem blk1_x (t : Fin cfg1.N) (i : S512x1024.Idx) : iblk1 V c 0 t i = ((d.X (row8 t (i 0)) (i 1) : ℝ) : EReal) := by
  have e : iblk1 V c 0 t i = V c main_v0 (ValueIdx.ix2 (row8 t (i 0)) (i 1)) := by blk_ext [iblk1, row8, idx1 t]
  exact e.trans (h.x _)
theorem blk1_y (t : Fin cfg1.N) (i : S512x2816.Idx) : iblk1 V c 1 t i = ((hidden (d.h (row8 t (i 0))) (i 1) : ℝ) : EReal) := by
  have e : iblk1 V c 1 t i = V c main_v11_2 (ValueIdx.ix2 (row8 t (i 0)) (i 1)) := by blk_ext [iblk1, row8, idx1 t]
  exact e.trans (h.y _)
theorem blk1_w (t : Fin cfg1.N) (i : S2816x1024.Idx) : iblk1 V c 2 t i = ((d.WO (i 0) (i 1) : ℝ) : EReal) := by
  have e : iblk1 V c 2 t i = V c main_v6 (ValueIdx.ix2 (i 0) (i 1)) := by blk_ext [iblk1, row8, idx1 t]
  exact e.trans (h.w _)
theorem blk1_g (t : Fin cfg1.N) (i : S1x1024.Idx) : iblk1 V c 3 t i = ((d.gg (i 1) : ℝ) : EReal) := by
  have e : iblk1 V c 3 t i = V c main_arg3 (ValueIdx.ix2 (i 0) (i 1)) := by blk_ext [iblk1, row8, idx1 t]
  exact e.trans (h.g _)
theorem blk1_b (t : Fin cfg1.N) (i : S1x1024.Idx) : iblk1 V c 4 t i = ((d.bb (i 1) : ℝ) : EReal) := by
  have e : iblk1 V c 4 t i = V c main_arg4 (ValueIdx.ix2 (i 0) (i 1)) := by blk_ext [iblk1, row8, idx1 t]
  exact e.trans (h.b _)
theorem blk1_p (t : Fin cfg1.N) (i : S512x256.Idx) : iblk1 V c 5 t i = ((d.PP (row8 t (i 0)) (i 1) : ℝ) : EReal) := by
  have e : iblk1 V c 5 t i = V c main_v12 (ValueIdx.ix2 (row8 t (i 0)) (i 1)) := by blk_ext [iblk1, row8, idx1 t]
  exact e.trans (h.p _)
theorem blk1_t (t : Fin cfg1.N) (i : S512x1024.Idx) : iblk1 V c 6 t i = ((d.TT (row8 t (i 0)) (i 1) : ℝ) : EReal) := by
  have e : iblk1 V c 6 t i = V c main_v13 (ValueIdx.ix2 (row8 t (i 0)) (i 1)) := by blk_ext [iblk1, row8, idx1 t]
  exact e.trans (h.t _)
theorem blk1_wg (t : Fin cfg1.N) (i : S1024x1024.Idx) : iblk1 V c 7 t i = ((d.WG (i 0) (i 1) : ℝ) : EReal) := by
  have e : iblk1 V c 7 t i = V c main_v8 (ValueIdx.ix2 (i 0) (i 1)) := by blk_ext [iblk1, row8, idx1 t]
  exact e.trans (h.wg _)
theorem blk1_wp (t : Fin cfg1.N) (i : S256x1024.Idx) : iblk1 V c 8 t i = ((d.WP (i 0) (i 1) : ℝ) : EReal) := by
  have e : iblk1 V c 8 t i = V c main_v10 (ValueIdx.ix2 (i 0) (i 1)) := by blk_ext [iblk1, row8, idx1 t]
  exact e.trans (h.wp _)
theorem blk1_xh (t : Fin cfg1.N) (i : S512x1024.Idx) : k1_pay9 (iblk1 V c 1 t) (iblk1 V c 2 t) (iblk1 V c 0 t) i = ((xhat 1024 (d.rr (row8 t (i 0))) (i 1) : ℝ) : EReal) :=
  pay_xhat (fun r => d.X (row8 t r)) (fun r => hidden (d.h (row8 t r))) d.WO _ _ _ (blk1_y V c h t) (blk1_w V c h t) (blk1_x V c h t) i
theorem blk1_rs (t : Fin cfg1.N) (i : S512x1.Idx) : k1_pay8 (iblk1 V c 1 t) (iblk1 V c 2 t) (iblk1 V c 0 t) i = ((rstd 1024 (d.rr (row8 t (i 0))) : ℝ) : EReal) :=
  pay_rstd (fun r => d.X (row8 t r)) (fun r => hidden (d.h (row8 t r))) d.WO _ _ _ (blk1_y V c h t) (blk1_w V c h t) (blk1_x V c h t) i
theorem blk1_x3 (t : Fin cfg1.N) (i : S512x1024.Idx) : (k1_pay10 (iblk1 V c 1 t) (iblk1 V c 2 t) (iblk1 V c 0 t) (iblk1 V c 3 t) (iblk1 V c 4 t)) i = ((d.x3 (row8 t (i 0)) (i 1) : ℝ) : EReal) :=
  pay_out (fun r => d.X (row8 t r)) (fun r => hidden (d.h (row8 t r))) d.WO _ _ _ (blk1_y V c h t) (blk1_w V c h t) (blk1_x V c h t) d.gg d.bb _ _ (blk1_g V c h t) (blk1_b V c h t) i
theorem blk1_s (t : Fin cfg1.N) (i : S512x1024.Idx) : (k1_pay15 (k1_pay10 (iblk1 V c 1 t) (iblk1 V c 2 t) (iblk1 V c 0 t) (iblk1 V c 3 t) (iblk1 V c 4 t)) (iblk1 V c 7 t)) i = ((d.s (row8 t (i 0)) (i 1) : ℝ) : EReal) :=
  pay_s (fun r => d.x3 (row8 t r)) d.WG _ _ (blk1_x3 V c h t) (blk1_wg V c h t) i
theorem blk1_e (t : Fin cfg1.N) (i : S512x1024.Idx) : (k1_pay16 (iblk1 V c 5 t) (iblk1 V c 8 t)) i = ((d.e (row8 t (i 0)) (i 1) : ℝ) : EReal) :=
  pay_e (fun r => d.PP (row8 t r)) d.WP _ _ (blk1_p V c h t) (blk1_wp V c h t) i
theorem blk1_diff (t : Fin cfg1.N) (i : S512x1024.Idx) : (k1_pay17 (k1_pay10 (iblk1 V c 1 t) (iblk1 V c 2 t) (iblk1 V c 0 t) (iblk1 V c 3 t) (iblk1 V c 4 t)) (iblk1 V c 5 t) (iblk1 V c 7 t) (iblk1 V c 8 t) (iblk1 V c 6 t)) i = ((d.diff (row8 t (i 0)) (i 1) : ℝ) : EReal) :=
  pay_diff (fun r => d.x3 (row8 t r)) (fun r => d.PP (row8 t r)) d.WG d.WP _ _ _ _ (blk1_x3 V c h t) (blk1_p V c h t) (blk1_wg V c h t) (blk1_wp V c h t) (fun r => d.TT (row8 t r)) _ (blk1_t V c h t) i
theorem blk1_de (t : Fin cfg1.N) (i : S512x1024.Idx) : k1_pay3 (k1_pay15 (k1_pay10 (iblk1 V c 1 t) (iblk1 V c 2 t) (iblk1 V c 0 t) (iblk1 V c 3 t) (iblk1 V c 4 t)) (iblk1 V c 7 t)) (k1_pay17 (k1_pay10 (iblk1 V c 1 t) (iblk1 V c 2 t) (iblk1 V c 0 t) (iblk1 V c 3 t) (iblk1 V c 4 t)) (iblk1 V c 5 t) (iblk1 V c 7 t) (iblk1 V c 8 t) (iblk1 V c 6 t)) i = ((d.de (row8 t (i 0)) (i 1) : ℝ) : EReal) :=
  pay_de (fun r => d.s (row8 t r)) (fun r => d.diff (row8 t r)) _ _ (blk1_s V c h t) (blk1_diff V c h t) i
theorem blk1_dq (t : Fin cfg1.N) (i : S512x1024.Idx) : k1_pay4 (k1_pay15 (k1_pay10 (iblk1 V c 1 t) (iblk1 V c 2 t) (iblk1 V c 0 t) (iblk1 V c 3 t) (iblk1 V c 4 t)) (iblk1 V c 7 t)) (k1_pay16 (iblk1 V c 5 t) (iblk1 V c 8 t)) (k1_pay17 (k1_pay10 (iblk1 V c 1 t) (iblk1 V c 2 t) (iblk1 V c 0 t) (iblk1 V c 3 t) (iblk1 V c 4 t)) (iblk1 V c 5 t) (iblk1 V c 7 t) (iblk1 V c 8 t) (iblk1 V c 6 t)) i = ((d.dq (row8 t (i 0)) (i 1) : ℝ) : EReal) :=
  pay_dq (fun r => d.s (row8 t r)) (fun r => d.e (row8 t r)) (fun r => d.diff (row8 t r)) _ _ _ (blk1_s V c h t) (blk1_e V c h t) (blk1_diff V c h t) i
theorem blk1_dx (t : Fin cfg1.N) (i : S512x1024.Idx) : k1_pay5 (k1_pay15 (k1_pay10 (iblk1 V c 1 t) (iblk1 V c 2 t) (iblk1 V c 0 t) (iblk1 V c 3 t) (iblk1 V c 4 t)) (iblk1 V c 7 t)) (k1_pay16 (iblk1 V c 5 t) (iblk1 V c 8 t)) (k1_pay17 (k1_pay10 (iblk1 V c 1 t) (iblk1 V c 2 t) (iblk1 V c 0 t) (iblk1 V c 3 t) (iblk1 V c 4 t)) (iblk1 V c 5 t) (iblk1 V c 7 t) (iblk1 V c 8 t) (iblk1 V c 6 t)) (iblk1 V c 7 t) i = ((d.dx (row8 t (i 0)) (i 1) : ℝ) : EReal) :=
  pay_dx (fun r => d.s (row8 t r)) (fun r => d.e (row8 t r)) (fun r => d.diff (row8 t r)) _ _ _ (blk1_s V c h t) (blk1_e V c h t) (blk1_diff V c h t) d.WG _ (blk1_wg V c h t) i
theorem blk1_x3t (t : Fin cfg1.N) (i : S1024x512.Idx) : k1_pay13 (k1_pay10 (iblk1 V c 1 t) (iblk1 V c 2 t) (iblk1 V c 0 t) (iblk1 V c 3 t) (iblk1 V c 4 t)) i = ((d.x3 (row8 t (i 1)) (i 0) : ℝ) : EReal) :=
  pay_x3t (fun r => d.x3 (row8 t r)) _ (blk1_x3 V c h t) i
theorem blk1_pt (t : Fin cfg1.N) (i : S256x512.Idx) : k1_pay14 (iblk1 V c 5 t) i = ((d.PP (row8 t (i 1)) (i 0) : ℝ) : EReal) :=
  pay_pt (fun r => d.PP (row8 t r)) _ (blk1_p V c h t) i
theorem final1_9 : (dat1 V c).arrAt 9 cfg1.N = (show FVec Ideal S4096x1024 .f32 from fun j =>
    ((xhat 1024 (d.rr (j 0)) (j 1) : ℝ) : EReal)) := by
  refine (dat1 V c).arrAt_eq_of_covers 9 _ (by decide +kernel) fun t _ y => ?_
  have e : ((View.whole main_v14_0).slice (win1_9.rect t)).emb y = ValueIdx.ix2 (row8 t (y 0)) (y 1) := by blk_ext [row8, row4, row16, idx1 t]
  blk_simp
  rw [after1_9, e]
  by_cases h8 : t.val % 8 = 0
  · rw [outsAt1_A V c t h8]
    frame_out
    exact blk1_xh V c h t y
  · rw [outsAt1_B V c t h8]
    frame_out
    exact blk1_xh V c h t y
theorem final1_10 : (dat1 V c).arrAt 10 cfg1.N = (show FVec Ideal S4096x1 .f32 from fun j =>
    ((rstd 1024 (d.rr (j 0)) : ℝ) : EReal)) := by
  refine (dat1 V c).arrAt_eq_of_covers 10 _ (by decide +kernel) fun t _ y => ?_
  have e : ((View.whole main_v14_1).slice (win1_10.rect t)).emb y = ValueIdx.ix2 (row8 t (y 0)) (y 1) := by blk_ext [row8, row4, row16, idx1 t]
  blk_simp
  rw [after1_10, e]
  by_cases h8 : t.val % 8 = 0
  · rw [outsAt1_A V c t h8]
    frame_out
    exact blk1_rs V c h t y
  · rw [outsAt1_B V c t h8]
    frame_out
    exact blk1_rs V c h t y
theorem final1_11 : (dat1 V c).arrAt 11 cfg1.N = (show FVec Ideal S4096x1024 .f32 from fun j =>
    ((d.dx (j 0) (j 1) : ℝ) : EReal)) := by
  refine (dat1 V c).arrAt_eq_of_covers 11 _ (by decide +kernel) fun t _ y => ?_
  have e : ((View.whole main_v14_2).slice (win1_11.rect t)).emb y = ValueIdx.ix2 (row8 t (y 0)) (y 1) := by blk_ext [row8, row4, row16, idx1 t]
  blk_simp
  rw [after1_11, e]
  by_cases h8 : t.val % 8 = 0
  · rw [outsAt1_A V c t h8]
    frame_out
    exact blk1_dx V c h t y
  · rw [outsAt1_B V c t h8]
    frame_out
    exact blk1_dx V c h t y
theorem final1_12 : (dat1 V c).arrAt 12 cfg1.N = (show FVec Ideal S1024x4096 .bf16 from fun j =>
    ((d.x3 (j 1) (j 0) : ℝ) : EReal)) := by
  refine (dat1 V c).arrAt_eq_of_covers 12 _ (by decide +kernel) fun t _ y => ?_
  have e : ((View.whole main_v14_3).slice (win1_12.rect t)).emb y = ValueIdx.ix2 (y 0) (row8 t (y 1)) := by blk_ext [row8, row4, row16, idx1 t]
  blk_simp
  rw [after1_12, e]
  by_cases h8 : t.val % 8 = 0
  · rw [outsAt1_A V c t h8]
    frame_out
    exact blk1_x3t V c h t y
  · rw [outsAt1_B V c t h8]
    frame_out
    exact blk1_x3t V c h t y
theorem final1_13 : (dat1 V c).arrAt 13 cfg1.N = (show FVec Ideal S256x4096 .bf16 from fun j =>
    ((d.PP (j 1) (j 0) : ℝ) : EReal)) := by
  refine (dat1 V c).arrAt_eq_of_covers 13 _ (by decide +kernel) fun t _ y => ?_
  have e : ((View.whole main_v14_4).slice (win1_13.rect t)).emb y = ValueIdx.ix2 (y 0) (row8 t (y 1)) := by blk_ext [row8, row4, row16, idx1 t]
  blk_simp
  rw [after1_13, e]
  by_cases h8 : t.val % 8 = 0
  · rw [outsAt1_A V c t h8]
    frame_out
    exact blk1_pt V c h t y
  · rw [outsAt1_B V c t h8]
    frame_out
    exact blk1_pt V c h t y
theorem final1_14 : (dat1 V c).arrAt 14 cfg1.N = (show FVec Ideal S4096x1024 .bf16 from fun j =>
    ((d.dq (j 0) (j 1) : ℝ) : EReal)) := by
  refine (dat1 V c).arrAt_eq_of_covers 14 _ (by decide +kernel) fun t _ y => ?_
  have e : ((View.whole main_v14_5).slice (win1_14.rect t)).emb y = ValueIdx.ix2 (row8 t (y 0)) (y 1) := by blk_ext [row8, row4, row16, idx1 t]
  blk_simp
  rw [after1_14, e]
  by_cases h8 : t.val % 8 = 0
  · rw [outsAt1_A V c t h8]
    frame_out
    exact blk1_dq V c h t y
  · rw [outsAt1_B V c t h8]
    frame_out
    exact blk1_dq V c h t y
theorem final1_15 : (dat1 V c).arrAt 15 cfg1.N = (show FVec Ideal S4096x1024 .bf16 from fun j =>
    ((d.de (j 0) (j 1) : ℝ) : EReal)) := by
  refine (dat1 V c).arrAt_eq_of_covers 15 _ (by decide +kernel) fun t _ y => ?_
  have e : ((View.whole main_v14_6).slice (win1_15.rect t)).emb y = ValueIdx.ix2 (row8 t (y 0)) (y 1) := by blk_ext [row8, row4, row16, idx1 t]
  blk_simp
  rw [after1_15, e]
  by_cases h8 : t.val % 8 = 0
  · rw [outsAt1_A V c t h8]
    frame_out
    exact blk1_de V c h t y
  · rw [outsAt1_B V c t h8]
    frame_out
    exact blk1_de V c h t y
theorem final1_16 : (dat1 V c).arrAt 16 cfg1.N = (show FVec Ideal S1x1024 .f32 from fun j =>
    ((∑ r, d.diff r (j 1) * d.diff r (j 1) : ℝ) : EReal)) := by
  refine (dat1 V c).arrAt_eq_of_after_last 16 t1_7 (by decide +kernel) _ fun j => ?_
  blk_simp
  rw [after1_16, Pipeline.eq_sum_fin_of_reset_step_apply_last (fun n hn => (outsAt1 V c n hn).2.2.2.2.2.2.2) 8
    (fun _ => 0) (fun t j => ((∑ i : Fin 512, d.diff (row8 t i) (j 1) * d.diff (row8 t i) (j 1) : ℝ) : EReal))
    (fun t h8 j => by rw [outsAt1_A V c t h8]; frame_out; rw [pay_sq, pay_zero]; simp only [blk1_diff V c h, ← EReal.coe_mul, sum_coe]; rfl)
    (fun t h8 j => by rw [outsAt1_B V c t h8]; frame_out; rw [pay_sq]; simp only [blk1_diff V c h, ← EReal.coe_mul, sum_coe]; rfl)
    (le_of_eq N_1) t1_7 rfl j, zero_add]
  exact (sum_coe _).trans (congrArg _ (sum_row8 fun r => d.diff r (j 1) * d.diff r (j 1)))
end

end Cert.Loss
end
-- ==== Proof.Loss.Entry.lean ====
/- The regions' entry contents, from real arguments. -/
module
public import proofs.«01_k».proof.Proof.Finite
public import proofs.«01_k».proof.Proof.Loss.Reg0
public import proofs.«01_k».proof.Proof.Loss.Reg1
@[expose] public section
set_option maxRecDepth 16384
noncomputable section
namespace Cert.Loss
open Idealize.ShloMosaic Idealize.ShloMosaic.TcCoe Idealize.ShloMosaic.Tactic Idealize.SL.Sem Cert.RealNorm Cert.Finite Cert.Kernel4Ideal Cert.Kernel4Ideal.Gen Cert.Mix Cert.Ffn
open Idealize.ShloMosaic.Pipeline (Dat Cfg Window)

variable (m : (ℓ : Loc nD τ sig) → Buf (Elt Ideal) ℓ) (ρ : Dev nD → PrngReg) (c : Dev nD)

/-- An array of one layer of two batches, read by its flat rows. -/
theorem at_row4 {n : Nat} (i : (⟨4, ![1, 2, 2048, n]⟩ : Shape).Idx) : i = ix4 (0 : Fin 1) (rb (bl (i 1) (i 2))) (rl (bl (i 1) (i 2))) (i 3) := by
  have e0 : i 0 = (0 : Fin 1) := Subsingleton.elim (α := Fin 1) _ _
  have e1 : i 1 = rb (bl (i 1) (i 2)) := (rb_bl (i 1) (i 2)).symm
  have e2 : i 2 = rl (bl (i 1) (i 2)) := (rl_bl (i 1) (i 2)).symm
  funext k
  match k with
  | 0 => exact e0
  | 1 => exact e1
  | 2 => exact e2
  | 3 => rfl

/-- The arguments are real arrays. -/
structure Args (d : Data) : Prop where
  x : ∀ i, m (c.tc.loc main_arg0) i = ((d.X (bl (i 0) (i 1)) (i 2) : ℝ) : EReal)
  wi : ∀ i, m (c.tc.loc main_arg1) i = ((d.WI (i 1) (i 2) : ℝ) : EReal)
  wo : ∀ i, m (c.tc.loc main_arg2) i = ((d.WO (i 1) (i 2) : ℝ) : EReal)
  g : ∀ i, m (c.tc.loc main_arg3) i = ((d.gg (i 1) : ℝ) : EReal)
  b : ∀ i, m (c.tc.loc main_arg4) i = ((d.bb (i 1) : ℝ) : EReal)
  p : ∀ i, m (c.tc.loc main_arg5) i = ((d.PP (bl (i 1) (i 2)) (i 3) : ℝ) : EReal)
  wg : ∀ i, m (c.tc.loc main_arg6) i = ((d.WG (i 1) (i 2) : ℝ) : EReal)
  wp : ∀ i, m (c.tc.loc main_arg7) i = ((d.WP (i 1) (i 2) : ℝ) : EReal)
  t : ∀ i, m (c.tc.loc main_arg8) i = ((d.TT (bl (i 0) (i 1)) (i 2) : ℝ) : EReal)

variable {d : Data} (h : Args m c d)

theorem w1_x (i) : V1 m ρ c main_v0 i = m (c.tc.loc main_arg0) (ValueIdx.ix3 (rb (i 0)) (rl (i 0)) (i 1)) := by
  show StableHlo.after hostOps0 _ _ _ = _
  after_results
  pointwise
  blk_ext [rb, rl]
theorem w1_wi (i) : V1 m ρ c main_v4 i = m (c.tc.loc main_arg1) (ValueIdx.ix3 0 (i 1) (c4 (i 0) (i 2))) := by
  show StableHlo.after hostOps0 _ _ _ = _
  after_results
  pointwise
  blk_ext [c4]
theorem w1_wo (i) : V1 m ρ c main_v6 i = m (c.tc.loc main_arg2) (ValueIdx.ix3 0 (i 0) (i 1)) := by
  show StableHlo.after hostOps0 _ _ _ = _
  after_results
  pointwise
  try blk_ext
theorem w1_wg (i) : V1 m ρ c main_v8 i = m (c.tc.loc main_arg6) (ValueIdx.ix3 0 (i 0) (i 1)) := by
  show StableHlo.after hostOps0 _ _ _ = _
  after_results
  pointwise
  try blk_ext
theorem w1_wp (i) : V1 m ρ c main_v10 i = m (c.tc.loc main_arg7) (ValueIdx.ix3 0 (i 0) (i 1)) := by
  show StableHlo.after hostOps0 _ _ _ = _
  after_results
  pointwise
  try blk_ext
theorem w3_p (i) : V3 m ρ c main_v12 i = W2 m ρ c (Proc.devRef .tc main_arg5) (ix4 0 (rb (i 0)) (rl (i 0)) (i 1)) := by
  show StableHlo.after hostOps1 _ _ _ = _
  after_results
  pointwise
  blk_ext [rb, rl]
theorem w3_t (i) : V3 m ρ c main_v13 i = W2 m ρ c (Proc.devRef .tc main_arg8) (ValueIdx.ix3 (rb (i 0)) (rl (i 0)) (i 1)) := by
  show StableHlo.after hostOps1 _ _ _ = _
  after_results
  pointwise
  blk_ext [rb, rl]

/-- A buffer that nothing after the first stretch writes. -/
theorem keep3 (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

include h
theorem v1_x (i) : V1 m ρ c main_v0 i = ((d.X (i 0) (i 1) : ℝ) : EReal) := by
  rw [w1_x m ρ c, h.x]
  exact congrArg (fun r => ((d.X r (i 1) : ℝ) : EReal)) (bl_rb (i 0))
theorem v1_wi (i) : V1 m ρ c main_v4 i = ((d.WI (i 1) (c4 (i 0) (i 2)) : ℝ) : EReal) :=
  (w1_wi m ρ c i).trans (h.wi _)
theorem in0 : In0 (V1 m ρ) c d.X d.WI := ⟨v1_x m ρ c h, v1_wi m ρ c h⟩
theorem in1 : In1 (V3 m ρ) c d where
  x i := by rw [keep3 m ρ c main_v0 (by decide) (by decide)]; exact v1_x m ρ c h i
  y i := by rw [show V3 m ρ c main_v11_2 = _ from (W3_of m ρ c main_v11_2 (by decide)).trans (W2_arr m ρ c 4), final0_4 _ c (in0 m ρ c h)]; rfl
  w i := by rw [keep3 m ρ c main_v6 (by decide) (by decide)]; exact (w1_wo m ρ c i).trans (h.wo _)
  g i := by rw [show V3 m ρ c main_arg3 = _ from W3_args m ρ c main_arg3 (by decide)]; exact h.g i
  b i := by rw [show V3 m ρ c main_arg4 = _ from W3_args m ρ c main_arg4 (by decide)]; exact h.b i
  p i := by
    rw [w3_p m ρ c, W2_args m ρ c main_arg5 (by decide), h.p]
    exact congrArg (fun r => ((d.PP r (i 1) : ℝ) : EReal)) (bl_rb (i 0))
  t i := by
    rw [w3_t m ρ c, W2_args m ρ c main_arg8 (by decide), h.t]
    exact congrArg (fun r => ((d.TT r (i 1) : ℝ) : EReal)) (bl_rb (i 0))
  wg i := by rw [keep3 m ρ c main_v8 (by decide) (by decide)]; exact (w1_wg m ρ c i).trans (h.wg _)
  wp i := by rw [keep3 m ρ c main_v10 (by decide) (by decide)]; exact (w1_wp m ρ c i).trans (h.wp _)

end Cert.Loss
end
-- ==== Proof.Loss.Claim.lean ====
/- What the kernel's run leaves in its result arrays, and the claim against the reference. -/
module
public import proofs.«01_k».proof.Proof.Loss.RefRun
public import proofs.«01_k».proof.Proof.Loss.Run
public import proofs.«01_k».proof.Proof.Loss.Entry
public import proofs.«01_k».proof.Proof.Gen.Pre_finite4
public import proofs.«01_k».proof.Defs
@[expose] public section
set_option maxRecDepth 16384
noncomputable section
namespace Cert.Loss
open Idealize.ShloMosaic Idealize.ShloMosaic.TcCoe Idealize.ShloMosaic.Tactic Idealize.SL.Sem Cert.RealNorm Cert.Finite Cert.Mix Cert.Ffn
section Run
open Cert.Kernel4Ideal Cert.Kernel4Ideal.Gen
variable (m : (ℓ : Loc nD τ sig) → Buf (Elt Ideal) ℓ) (ρ : Dev nD → PrngReg) {d : Data}

/-- What the results are. -/
structure Out (c : Dev nD) (m mem : (ℓ : Loc nD τ sig) → Buf (Elt Ideal) ℓ) (d : Data) : Prop where
  o0 : mem ((c.tc : Thread nD τ).loc main_v14_0) = (show FVec Ideal S4096x1024 .f32 from fun j => ((xhat 1024 (d.rr (j 0)) (j 1) : ℝ) : EReal))
  o1 : mem ((c.tc : Thread nD τ).loc main_v14_1) = (show FVec Ideal S4096x1 .f32 from fun j => ((rstd 1024 (d.rr (j 0)) : ℝ) : EReal))
  o2 : mem ((c.tc : Thread nD τ).loc main_v14_2) = (show FVec Ideal S4096x1024 .f32 from fun j => ((d.dx (j 0) (j 1) : ℝ) : EReal))
  o3 : mem ((c.tc : Thread nD τ).loc main_v14_3) = (show FVec Ideal S1024x4096 .bf16 from fun j => ((d.x3 (j 1) (j 0) : ℝ) : EReal))
  o4 : mem ((c.tc : Thread nD τ).loc main_v14_4) = (show FVec Ideal S256x4096 .bf16 from fun j => ((d.PP (j 1) (j 0) : ℝ) : EReal))
  o5 : mem ((c.tc : Thread nD τ).loc main_v14_5) = (show FVec Ideal S4096x1024 .bf16 from fun j => ((d.dq (j 0) (j 1) : ℝ) : EReal))
  o6 : mem ((c.tc : Thread nD τ).loc main_v14_6) = (show FVec Ideal S4096x1024 .bf16 from fun j => ((d.de (j 0) (j 1) : ℝ) : EReal))
  o7 : mem ((c.tc : Thread nD τ).loc main_v14_7) = (show FVec Ideal S1x1024 .f32 from fun j => ((∑ r, d.diff r (j 1) * d.diff r (j 1) : ℝ) : EReal))
  args : ∀ a ∈ argRefs, mem ((c.tc : Thread nD τ).loc a) = m ((c.tc : Thread nD τ).loc a)

/-- The kernel's run. -/
theorem run_out (h : ∀ c, Args m c d) :
    θ_run defs (onTc (τ := τ) (main (F := Ideal))) ⟨m, fun _ => 0, ρ⟩ fun r => ∀ c : Dev nD, Out c m r.2.mem d := by
  refine (θ_run defs _ _).mono (fun r hr c => ?_) (run_mem m ρ)
  have hm := hr.1 c
  have e1 := in1 m ρ c (h c)
  constructor
  · exact (hm main_v14_0 (by decide)).trans ((W4_arr m ρ c 9).trans (final1_9 _ c e1))
  · exact (hm main_v14_1 (by decide)).trans ((W4_arr m ρ c 10).trans (final1_10 _ c e1))
  · exact (hm main_v14_2 (by decide)).trans ((W4_arr m ρ c 11).trans (final1_11 _ c e1))
  · exact (hm main_v14_3 (by decide)).trans ((W4_arr m ρ c 12).trans (final1_12 _ c e1))
  · exact (hm main_v14_4 (by decide)).trans ((W4_arr m ρ c 13).trans (final1_13 _ c e1))
  · exact (hm main_v14_5 (by decide)).trans ((W4_arr m ρ c 14).trans (final1_14 _ c e1))
  · exact (hm main_v14_6 (by decide)).trans ((W4_arr m ρ c 15).trans (final1_15 _ c e1))
  · exact (hm main_v14_7 (by decide)).trans ((W4_arr m ρ c 16).trans (final1_16 _ c e1))
  · exact fun a ha => (hm a (by revert a; decide)).trans (W4_args m ρ c a ha)
end Run

/-- The precondition makes the arguments real arrays. -/
theorem args_of (m : (ℓ : Loc Kernel4Ideal.nD Kernel4Ideal.τ Kernel4Ideal.sig) → Buf (Elt Ideal) ℓ) (hp : Pre_Kernel4Ideal_finite4 m) : ∃ d : Data, ∀ c, Args m c d := by
  let c0 : Dev Kernel4Ideal.nD := ⟨0, by decide⟩
  have hj := congrFun (hp c0) (fun k => k.elim0)
  unfold Pre_finite4.fn Pre_finite4.fn_part1 Pre_finite4.fn_part2 at hj
  obtain ⟨hj, f8⟩ := and_one hj
  obtain ⟨hj, f7⟩ := and_one hj
  obtain ⟨hj, f6⟩ := and_one hj
  obtain ⟨hj, f5⟩ := and_one hj
  obtain ⟨hj, f4⟩ := and_one hj
  obtain ⟨hj, f3⟩ := and_one hj
  obtain ⟨hj, f2⟩ := and_one hj
  obtain ⟨hj, f1⟩ := and_one hj
  let a (b : Ref Kernel4Ideal.sig .tc) := m ((c0.tc : Thread Kernel4Ideal.nD Kernel4Ideal.τ).loc b)
  refine ⟨⟨fun r d => (a Kernel4Ideal.main_arg0 (ValueIdx.ix3 (rb r) (rl r) d) : EReal).toReal, fun p d => (a Kernel4Ideal.main_arg1 (ValueIdx.ix3 (0 : Fin 1) p d) : EReal).toReal, fun p d => (a Kernel4Ideal.main_arg2 (ValueIdx.ix3 (0 : Fin 1) p d) : EReal).toReal, fun d => (a Kernel4Ideal.main_arg3 (ValueIdx.ix2 (0 : Fin 1) d) : EReal).toReal, fun d => (a Kernel4Ideal.main_arg4 (ValueIdx.ix2 (0 : Fin 1) d) : EReal).toReal, fun r k => (a Kernel4Ideal.main_arg5 (ix4 (0 : Fin 1) (rb r) (rl r) k) : EReal).toReal, fun p d => (a Kernel4Ideal.main_arg6 (ValueIdx.ix3 (0 : Fin 1) p d) : EReal).toReal, fun p d => (a Kernel4Ideal.main_arg7 (ValueIdx.ix3 (0 : Fin 1) p d) : EReal).toReal, fun r d => (a Kernel4Ideal.main_arg8 (ValueIdx.ix3 (rb r) (rl r) d) : EReal).toReal⟩, fun c => ?_⟩
  obtain rfl : c = c0 := Subsingleton.elim (α := Fin 1) _ _
  have hb : ∀ (s : Shape) (h : Pre_finite4.S_.BroadcastsInDim s ![]) (i : s.Idx), broadcastInDim s ![] h (constant (F := Ideal) Pre_finite4.S_ .f32 0x7F800000#32) i = (⊤ : EReal) := fun _ _ _ => lit_top
  constructor
  · exact fun i => (coe_of_all _ _ (hb _ _) _ _ _ _ hj i).trans (congrArg (fun k => (((a Kernel4Ideal.main_arg0 k : EReal).toReal : ℝ) : EReal)) (at_row i))
  · exact fun i => (coe_of_all _ _ (hb _ _) _ _ _ _ f1 i).trans (congrArg (fun k => (((a Kernel4Ideal.main_arg1 k : EReal).toReal : ℝ) : EReal)) (at_one i))
  · exact fun i => (coe_of_all _ _ (hb _ _) _ _ _ _ f2 i).trans (congrArg (fun k => (((a Kernel4Ideal.main_arg2 k : EReal).toReal : ℝ) : EReal)) (at_one i))
  · exact fun i => (coe_of_all _ _ (hb _ _) _ _ _ _ f3 i).trans (congrArg (fun k => (((a Kernel4Ideal.main_arg3 k : EReal).toReal : ℝ) : EReal)) (at_row1 i))
  · exact fun i => (coe_of_all _ _ (hb _ _) _ _ _ _ f4 i).trans (congrArg (fun k => (((a Kernel4Ideal.main_arg4 k : EReal).toReal : ℝ) : EReal)) (at_row1 i))
  · exact fun i => (coe_of_all _ _ (hb _ _) _ _ _ _ f5 i).trans (congrArg (fun k => (((a Kernel4Ideal.main_arg5 k : EReal).toReal : ℝ) : EReal)) (at_row4 i))
  · exact fun i => (coe_of_all _ _ (hb _ _) _ _ _ _ f6 i).trans (congrArg (fun k => (((a Kernel4Ideal.main_arg6 k : EReal).toReal : ℝ) : EReal)) (at_one i))
  · exact fun i => (coe_of_all _ _ (hb _ _) _ _ _ _ f7 i).trans (congrArg (fun k => (((a Kernel4Ideal.main_arg7 k : EReal).toReal : ℝ) : EReal)) (at_one i))
  · exact fun i => (coe_of_all _ _ (hb _ _) _ _ _ _ f8 i).trans (congrArg (fun k => (((a Kernel4Ideal.main_arg8 k : EReal).toReal : ℝ) : EReal)) (at_row i))

/-- Kernel and reference agree over the reals, from finite arguments. -/
theorem algebraic : algebraic_Kernel4Ideal_Reference4Ideal_pre_finite4 := by
  intro m g m' g' hp hm
  obtain ⟨d, h⟩ := args_of m hp
  have h' : ∀ c, Ref.Args (StableHlo.launchContents m' c) d := fun c => by
    obtain ⟨a0, a1, a2, a3, a4, a5, a6, a7, a8⟩ := hm c
    constructor
    · exact fun i => (congrFun a0 i).trans ((h c).x i)
    · exact fun i => (congrFun a1 i).trans ((h c).wi i)
    · exact fun i => (congrFun a2 i).trans ((h c).wo i)
    · exact fun i => (congrFun a3 i).trans ((h c).g i)
    · exact fun i => (congrFun a4 i).trans ((h c).b i)
    · exact fun i => (congrFun a5 i).trans ((h c).p i)
    · exact fun i => (congrFun a6 i).trans ((h c).wg i)
    · exact fun i => (congrFun a7 i).trans ((h c).wp i)
    · exact fun i => (congrFun a8 i).trans ((h c).t i)
  refine ⟨fun c => (show FVec Ideal Kernel4Ideal.S4096x1024 .f32 from fun j => ((xhat 1024 (d.rr (j 0)) (j 1) : ℝ) : EReal)),
    fun c => (show FVec Ideal Kernel4Ideal.S4096x1 .f32 from fun j => ((rstd 1024 (d.rr (j 0)) : ℝ) : EReal)),
    fun c => (show FVec Ideal Kernel4Ideal.S4096x1024 .f32 from fun j => ((d.dx (j 0) (j 1) : ℝ) : EReal)),
    fun c => (show FVec Ideal Kernel4Ideal.S1024x4096 .bf16 from fun j => ((d.x3 (j 1) (j 0) : ℝ) : EReal)),
    fun c => (show FVec Ideal Kernel4Ideal.S256x4096 .bf16 from fun j => ((d.PP (j 1) (j 0) : ℝ) : EReal)),
    fun c => (show FVec Ideal Kernel4Ideal.S4096x1024 .bf16 from fun j => ((d.dq (j 0) (j 1) : ℝ) : EReal)),
    fun c => (show FVec Ideal Kernel4Ideal.S4096x1024 .bf16 from fun j => ((d.de (j 0) (j 1) : ℝ) : EReal)),
    fun c => (show FVec Ideal Kernel4Ideal.S1x1024 .f32 from fun j => ((∑ r, d.diff r (j 1) * d.diff r (j 1) : ℝ) : EReal)),
    (θ_run _ _ _).mono (fun r hr c => ?_) (run_out m g h), (θ_run _ _ _).mono (fun r hr c => ?_) (Ref.run_out m' g' h')⟩
  · have q := hr c
    exact ⟨q.o0, q.o1, q.o2, q.o3, q.o4, q.o5, q.o6, q.o7, q.args _ (by decide), q.args _ (by decide), q.args _ (by decide), q.args _ (by decide), q.args _ (by decide), q.args _ (by decide), q.args _ (by decide), q.args _ (by decide), q.args _ (by decide)⟩
  · have q := hr c
    exact ⟨q.o0, q.o1, q.o2, q.o3, q.o4, q.o5, q.o6, q.o7, q.args _ (by decide), q.args _ (by decide), q.args _ (by decide), q.args _ (by decide), q.args _ (by decide), q.args _ (by decide), q.args _ (by decide), q.args _ (by decide), q.args _ (by decide)⟩

end Cert.Loss
end
-- ==== Proof.Gmlp.Model.lean ====
/- The gated spatial unit and its gradient over real numbers: one chunk of 128 rows, eight heads of 64 columns. -/
module
public import proofs.«01_k».proof.Proof.RealNorm
@[expose] public section
set_option maxRecDepth 16384
noncomputable section
namespace Cert.Gmlp
open Cert.RealNorm

/-- The literal that the tanh form of gelu scales its cubic by, and the cubic's factor. -/
def k0 : ℝ := 13386282 / 16777216
def c3 : ℝ := 8943 / 200000
/-- Gelu (tanh form) and its derivative. -/
def gth (x : ℝ) : ℝ := Real.tanh (k0 * (x + c3 * x * x * x))
def gel (x : ℝ) : ℝ := 1 / 2 * x * (1 + gth x)
def geld (x : ℝ) : ℝ := 1 / 2 * (1 + gth x) + 1 / 2 * x * (1 - gth x * gth x) * k0 * (1 + 26829 / 200000 * x * x)
/-- The head of a column, and the columns of a head. -/
def hd (d : Fin 512) : Fin 8 := ⟨d.val / 64, by omega⟩
def hc (h : Fin 8) (e : Fin 64) : Fin 512 := ⟨64 * h.val + e.val, by omega⟩
/-- The unit's parameters: the masked weight of each head, the norm's scale and offset, the bias by row and head. -/
structure Par where
  W : Fin 8 → Fin 128 → Fin 128 → ℝ
  gg : Fin 512 → ℝ
  bb : Fin 512 → ℝ
  B : Fin 8 → Fin 128 → ℝ
/-- One chunk's rows: the two inputs and the cotangent. -/
structure Chk where
  zu : Fin 128 → Fin 512 → ℝ
  zv : Fin 128 → Fin 512 → ℝ
  d : Fin 128 → Fin 512 → ℝ
variable (p : Par) (x : Chk)
/-- Gelu of a row, its normalised form, and the norm's output. -/
def gv (k : Fin 128) (e : Fin 512) : ℝ := gel (x.zv k e)
def xh (k : Fin 128) : Fin 512 → ℝ := xhat 512 (gv x k)
def vv (k : Fin 128) (e : Fin 512) : ℝ := xh x k e * p.gg e + p.bb e
/-- The causal mix of the chunk's rows, head by head, with the bias. -/
def ss (t : Fin 128) (e : Fin 512) : ℝ := (∑ k, p.W (hd e) t k * vv p x k e) + p.B (hd e) t
/-- The gradients. -/
def ds (t : Fin 128) (e : Fin 512) : ℝ := x.d t e * gel (x.zu t e)
def dzu (t : Fin 128) (e : Fin 512) : ℝ := x.d t e * ss p x t e * geld (x.zu t e)
def dv (t : Fin 128) (e : Fin 512) : ℝ := ∑ k, p.W (hd e) k t * ds x k e
def dw (h : Fin 8) (t k : Fin 128) : ℝ := if k.val ≤ t.val then ∑ e, ds x t (hc h e) * vv p x k (hc h e) else 0
def dgv (t : Fin 128) : Fin 512 → ℝ := normGrad 512 (fun e => dv p x t e * p.gg e) (xh x t) (rstd 512 (gv x t))
def dzv (t : Fin 128) (e : Fin 512) : ℝ := dgv p x t e * geld (x.zv t e)

/-- The real arrays of the arguments, row by row, the spatial weight before its mask. -/
structure Data where
  zu : Fin 4096 → Fin 512 → ℝ
  zv : Fin 4096 → Fin 512 → ℝ
  d : Fin 4096 → Fin 512 → ℝ
  ws : Fin 8 → Fin 128 → Fin 128 → ℝ
  gg : Fin 512 → ℝ
  bb : Fin 512 → ℝ
  B : Fin 8 → Fin 128 → ℝ
/-- The row of a chunk, the chunk of a row and its place there. -/
def rw32 (n : Fin 32) (k : Fin 128) : Fin 4096 := ⟨128 * n.val + k.val, by omega⟩
def cn (r : Fin 4096) : Fin 32 := ⟨r.val / 128, by omega⟩
def cp (r : Fin 4096) : Fin 128 := ⟨r.val % 128, by omega⟩
def par (D : Data) : Par := ⟨fun h t k => if k.val ≤ t.val then D.ws h t k else 0, D.gg, D.bb, D.B⟩
def chk (D : Data) (n : Fin 32) : Chk := ⟨fun k => D.zu (rw32 n k), fun k => D.zv (rw32 n k), fun k => D.d (rw32 n k)⟩
/-- The results: the two halves' gradient side by side, the weight's, the bias's by row and column, the norm's. -/
def Data.dz (D : Data) (r : Fin 4096) (k : Fin 1024) : ℝ :=
  if h : k.val < 512 then dzu (par D) (chk D (cn r)) (cp r) ⟨k.val, h⟩ else dzv (par D) (chk D (cn r)) (cp r) ⟨k.val - 512, by omega⟩
def Data.dws (D : Data) (h : Fin 8) (t k : Fin 128) : ℝ := ∑ n, dw (par D) (chk D n) h t k
def Data.dbias (D : Data) (t : Fin 128) (e : Fin 512) : ℝ := ∑ n, ds (chk D n) t e
def Data.dg (D : Data) (e : Fin 512) : ℝ := ∑ n, ∑ t, dv (par D) (chk D n) t e * xh (chk D n) t e
def Data.db (D : Data) (e : Fin 512) : ℝ := ∑ n, ∑ t, dv (par D) (chk D n) t e
/-- A sum over four blocks of eight chunks. -/
def c32 (t : Fin 4) (q : Fin 8) : Fin 32 := ⟨8 * t.val + q.val, by omega⟩
theorem sum_c32 (f : Fin 32 → ℝ) : ∑ t, ∑ q, f (c32 t q) = ∑ n, f n := by
  rw [← Fintype.sum_prod_type' fun t q => f (c32 t q)]
  refine Fintype.sum_equiv ⟨fun x => c32 x.1 x.2, fun n => (⟨n.val / 8, by omega⟩, ⟨n.val % 8, by omega⟩), fun x => ?_, fun n => ?_⟩ _ _ fun x => rfl
  · exact Prod.ext (Fin.ext (show (8 * x.1.val + x.2.val) / 8 = x.1.val by omega)) (Fin.ext (show (8 * x.1.val + x.2.val) % 8 = x.2.val by omega))
  · exact Fin.ext (show 8 * (n.val / 8) + n.val % 8 = n.val by omega)

end Cert.Gmlp
end
-- ==== Proof.Gmlp.Pay.lean ====
/- The body's operations on one chunk, and what they are over real rows. -/
module
public import proofs.«01_k».proof.Proof.Gen.Kernel2Ideal.Skeleton
public import proofs.«01_k».proof.Proof.Gmlp.Model
public import proofs.«01_k».proof.Proof.Finite
public import Idealize.ShloMosaic.Lib.Pipeline.ValueKit
public import Idealize.ShloMosaic.Lib.WordCmp
@[expose] public section
set_option maxRecDepth 16384
noncomputable section
namespace Cert.Gmlp
open Idealize.ShloMosaic Idealize.ShloMosaic.TcCoe Idealize.ShloMosaic.Tactic Idealize.SL.Sem Cert.Kernel2Ideal Cert.Kernel2Ideal.Gen Cert.RealNorm

/-- The fill literals and the two names, at the extended reals. -/
theorem lit_k0 : Ideal.ofBits .f32 0x3F4C422A#32 = ((k0 : ℝ) : EReal) := by
  simp [Ideal.ofBits, Ideal.ieee, k0, -EReal.coe_mul, -EReal.coe_neg]; norm_num
theorem name_c3 : Named.named (F := Ideal) κ "cubic" (φ := .f32) 0x3D372713#32 = ((c3 : ℝ) : EReal) :=
  IdealRules.named_const.ideal_named_scalar _ _ _ _ rfl
theorem name_c33 : Named.named (F := Ideal) κ "cubic3" (φ := .f32) 0x3E095D4F#32 = (((26829 / 200000 : ℝ)) : EReal) :=
  IdealRules.named_const.ideal_named_scalar _ _ _ _ rfl

/-- The body's operations on one chunk. -/
def lane : IVec S128x128 1 := cmpi .slt (iota .tc S128x128 32 [1] iota_S128x128_d1_w32) (broadcast S128x128 64#32)
def low : IVec S128x128 1 := cmpi .sge (iota .tc S128x128 32 [0] iota_S128x128_d0_w32) (iota .tc S128x128 32 [1] iota_S128x128_d1_w32)
def up (z : Vec Ideal S128x512 .bf16) : FVec Ideal S128x512 .f32 := extf .f32 (shapeCast S128x512 z shapeCasts_S128x512_S128x512) bitsLt_bf16_f32
def bc (a : Ideal .f32) : FVec Ideal S128x512 .f32 := broadcast S128x512 a
def kth (x : FVec Ideal S128x512 .f32) : FVec Ideal S128x512 .f32 := tanh (mulf (bc (Scalar.ofBits .f32 0x3F4C422A#32)) (addf x (mulf (mulf (mulf (bc (Named.named κ "cubic" 0x3D372713#32)) x) x) x)))
def kgel (x : FVec Ideal S128x512 .f32) : FVec Ideal S128x512 .f32 := mulf (mulf (bc (Scalar.ofBits .f32 0x3F000000#32)) x) (addf (bc (Scalar.ofBits .f32 0x3F800000#32)) (kth x))
def kgeld (x : FVec Ideal S128x512 .f32) : FVec Ideal S128x512 .f32 :=
  addf (mulf (bc (Scalar.ofBits .f32 0x3F000000#32)) (addf (bc (Scalar.ofBits .f32 0x3F800000#32)) (kth x)))
    (mulf (mulf (mulf (mulf (bc (Scalar.ofBits .f32 0x3F000000#32)) x) (subf (bc (Scalar.ofBits .f32 0x3F800000#32)) (mulf (kth x) (kth x)))) (bc (Scalar.ofBits .f32 0x3F4C422A#32)))
      (addf (bc (Scalar.ofBits .f32 0x3F800000#32)) (mulf (mulf (bc (Named.named κ "cubic3" 0x3E095D4F#32)) x) x)))
def kavg (x : FVec Ideal S128x512 .f32) : FVec Ideal S128x1 .f32 := divf (shapeCast S128x1 (multiReduction .add [1] S128 x 0x00000000#32 reduces_S128x512_S128 (.inl rfl) rfl) shapeCasts_S128_S128x1) (broadcast S128x1 (Scalar.ofBits .f32 0x44000000#32))
def kcen (x : FVec Ideal S128x512 .f32) : FVec Ideal S128x512 .f32 := subf x (broadcastTo S128x512 (kavg x) broadcasts_S128x1_S128x512)
def krstd (x : FVec Ideal S128x512 .f32) : FVec Ideal S128x1 .f32 := rsqrt (addf (kavg (mulf (kcen x) (kcen x))) (broadcast S128x1 (Scalar.ofBits .f32 0x3727C5AC#32)))
def kxh (x : FVec Ideal S128x512 .f32) : FVec Ideal S128x512 .f32 := mulf (kcen x) (broadcastTo S128x512 (krstd x) broadcasts_S128x1_S128x512)
def kv (x : FVec Ideal S128x512 .f32) (g b : Vec Ideal S1x512 .f32) : FVec Ideal S128x512 .bf16 :=
  truncf .bf16 (addf (mulf (kxh x) (broadcastTo S128x512 g broadcasts_S1x512_S128x512)) (broadcastTo S128x512 b broadcasts_S1x512_S128x512)) bitsLt_bf16_f32
def kpart (p q : Vec Ideal S1x128x128 .bf16) (v : FVec Ideal S128x128 .bf16) : FVec Ideal S128x128 .f32 :=
  select lane (matmul dot_S128x128_S128x128_S128x128_1_0_0_1_n_n none (φ₁ := .bf16) (φ₂ := .bf16) (shapeCast S128x128 p shapeCasts_S1x128x128_S128x128) v (constant S128x128 .f32 0x00000000#32))
    (matmul dot_S128x128_S128x128_S128x128_1_0_0_1_n_n none (φ₁ := .bf16) (φ₂ := .bf16) (shapeCast S128x128 q shapeCasts_S1x128x128_S128x128) v (constant S128x128 .f32 0x00000000#32))
def kmix (w : Vec Ideal S8x128x128 .bf16) (v : FVec Ideal S128x512 .bf16) : FVec Ideal S128x512 .f32 :=
  concatenate S128x512 1 [⟨S128x128, kpart (View.ld w (Rect.unit ![0, 0, 0] S1x128x128.size inb_S8x128x128_S1x128x128_0_0_0)) (View.ld w (Rect.unit ![1, 0, 0] S1x128x128.size inb_S8x128x128_S1x128x128_1_0_0)) (extractStridedSlice S128x128 ![0, 0] v slices_S128x512_o0_0_S128x128)⟩,
    ⟨S128x128, kpart (View.ld w (Rect.unit ![2, 0, 0] S1x128x128.size inb_S8x128x128_S1x128x128_2_0_0)) (View.ld w (Rect.unit ![3, 0, 0] S1x128x128.size inb_S8x128x128_S1x128x128_3_0_0)) (extractStridedSlice S128x128 ![0, 128] v slices_S128x512_o0_128_S128x128)⟩,
    ⟨S128x128, kpart (View.ld w (Rect.unit ![4, 0, 0] S1x128x128.size inb_S8x128x128_S1x128x128_4_0_0)) (View.ld w (Rect.unit ![5, 0, 0] S1x128x128.size inb_S8x128x128_S1x128x128_5_0_0)) (extractStridedSlice S128x128 ![0, 256] v slices_S128x512_o0_256_S128x128)⟩,
    ⟨S128x128, kpart (View.ld w (Rect.unit ![6, 0, 0] S1x128x128.size inb_S8x128x128_S1x128x128_6_0_0)) (View.ld w (Rect.unit ![7, 0, 0] S1x128x128.size inb_S8x128x128_S1x128x128_7_0_0)) (extractStridedSlice S128x128 ![0, 384] v slices_S128x512_o0_384_S128x128)⟩] concatenates_S128x128_S128x128_S128x128_S128x128_S128x512_d1
def kds (zu : Vec Ideal S128x512 .bf16) (d : Vec Ideal S128x512 .f32) : FVec Ideal S128x512 .f32 := mulf (shapeCast S128x512 d shapeCasts_S128x512_S128x512) (kgel (up zu))
def kdsb (zu : Vec Ideal S128x512 .bf16) (d : Vec Ideal S128x512 .f32) : FVec Ideal S128x512 .bf16 := truncf .bf16 (kds zu d) bitsLt_bf16_f32
def kdzu (zu zv : Vec Ideal S128x512 .bf16) (d : Vec Ideal S128x512 .f32) (g b : Vec Ideal S1x512 .f32) (w : Vec Ideal S8x128x128 .bf16) (bi : Vec Ideal S128x512 .f32) : FVec Ideal S128x512 .bf16 :=
  truncf .bf16 (mulf (mulf (shapeCast S128x512 d shapeCasts_S128x512_S128x512) (addf (kmix w (kv (kgel (up zv)) g b)) (shapeCast S128x512 bi shapeCasts_S128x512_S128x512))) (kgeld (up zu))) bitsLt_bf16_f32
def kdv (zu : Vec Ideal S128x512 .bf16) (d : Vec Ideal S128x512 .f32) (wt : Vec Ideal S8x128x128 .bf16) : FVec Ideal S128x512 .f32 := kmix wt (kdsb zu d)
def kng (u v : FVec Ideal S128x512 .f32) (s : FVec Ideal S128x1 .f32) : FVec Ideal S128x512 .f32 :=
  mulf (broadcastTo S128x512 s broadcasts_S128x1_S128x512)
    (subf (subf u (broadcastTo S128x512 (kavg u) broadcasts_S128x1_S128x512)) (mulf v (broadcastTo S128x512 (kavg (mulf u v)) broadcasts_S128x1_S128x512)))
def kdzv (zu zv : Vec Ideal S128x512 .bf16) (d : Vec Ideal S128x512 .f32) (g : Vec Ideal S1x512 .f32) (wt : Vec Ideal S8x128x128 .bf16) : FVec Ideal S128x512 .bf16 :=
  truncf .bf16 (mulf (kng (mulf (kdv zu d wt) (broadcastTo S128x512 g broadcasts_S1x512_S128x512)) (kxh (kgel (up zv))) (krstd (kgel (up zv)))) (kgeld (up zv))) bitsLt_bf16_f32
def kdb (acc : Vec Ideal S128x512 .f32) (zu : Vec Ideal S128x512 .bf16) (d : Vec Ideal S128x512 .f32) : FVec Ideal S128x512 .f32 := addf (shapeCast S128x512 acc shapeCasts_S128x512_S128x512) (kds zu d)
def kcol (acc : Vec Ideal S1x512 .f32) (x : FVec Ideal S128x512 .f32) : FVec Ideal S1x512 .f32 :=
  addf (shapeCast S1x512 acc shapeCasts_S1x512_S1x512) (shapeCast S1x512 (multiReduction .add [0] S512 x 0x00000000#32 reduces_S128x512_S512 (.inl rfl) rfl) shapeCasts_S512_S1x512)
def kdw (acc : Vec Ideal S1x128x128 .f32) (a b : FVec Ideal S128x128 .bf16) : FVec Ideal S1x128x128 .f32 :=
  shapeCast S1x128x128 (addf (shapeCast S128x128 acc shapeCasts_S1x128x128_S128x128) (select low (matmul dot_S128x128_S128x128_S128x128_1_1_0_0_n_n none a b (constant S128x128 .f32 0x00000000#32)) (broadcast S128x128 (Scalar.ofBits .f32 0x00000000#32)))) shapeCasts_S128x128_S1x128x128
def kz : FVec Ideal S128x128 .bf16 := broadcast S128x128 (Scalar.ofBits .bf16 0x0000#16)
def kdw0 (acc : Vec Ideal S1x128x128 .f32) (a b : FVec Ideal S128x512 .bf16) : FVec Ideal S1x128x128 .f32 := kdw acc (select lane (extractStridedSlice S128x128 ![0, 0] a slices_S128x512_o0_0_S128x128) kz) (extractStridedSlice S128x128 ![0, 0] b slices_S128x512_o0_0_S128x128)
def kdw1 (acc : Vec Ideal S1x128x128 .f32) (a b : FVec Ideal S128x512 .bf16) : FVec Ideal S1x128x128 .f32 := kdw acc (select lane kz (extractStridedSlice S128x128 ![0, 0] a slices_S128x512_o0_0_S128x128)) (extractStridedSlice S128x128 ![0, 0] b slices_S128x512_o0_0_S128x128)
def kdw2 (acc : Vec Ideal S1x128x128 .f32) (a b : FVec Ideal S128x512 .bf16) : FVec Ideal S1x128x128 .f32 := kdw acc (select lane (extractStridedSlice S128x128 ![0, 128] a slices_S128x512_o0_128_S128x128) kz) (extractStridedSlice S128x128 ![0, 128] b slices_S128x512_o0_128_S128x128)
def kdw3 (acc : Vec Ideal S1x128x128 .f32) (a b : FVec Ideal S128x512 .bf16) : FVec Ideal S1x128x128 .f32 := kdw acc (select lane kz (extractStridedSlice S128x128 ![0, 128] a slices_S128x512_o0_128_S128x128)) (extractStridedSlice S128x128 ![0, 128] b slices_S128x512_o0_128_S128x128)
def kdw4 (acc : Vec Ideal S1x128x128 .f32) (a b : FVec Ideal S128x512 .bf16) : FVec Ideal S1x128x128 .f32 := kdw acc (select lane (extractStridedSlice S128x128 ![0, 256] a slices_S128x512_o0_256_S128x128) kz) (extractStridedSlice S128x128 ![0, 256] b slices_S128x512_o0_256_S128x128)
def kdw5 (acc : Vec Ideal S1x128x128 .f32) (a b : FVec Ideal S128x512 .bf16) : FVec Ideal S1x128x128 .f32 := kdw acc (select lane kz (extractStridedSlice S128x128 ![0, 256] a slices_S128x512_o0_256_S128x128)) (extractStridedSlice S128x128 ![0, 256] b slices_S128x512_o0_256_S128x128)
def kdw6 (acc : Vec Ideal S1x128x128 .f32) (a b : FVec Ideal S128x512 .bf16) : FVec Ideal S1x128x128 .f32 := kdw acc (select lane (extractStridedSlice S128x128 ![0, 384] a slices_S128x512_o0_384_S128x128) kz) (extractStridedSlice S128x128 ![0, 384] b slices_S128x512_o0_384_S128x128)
def kdw7 (acc : Vec Ideal S1x128x128 .f32) (a b : FVec Ideal S128x512 .bf16) : FVec Ideal S1x128x128 .f32 := kdw acc (select lane kz (extractStridedSlice S128x128 ![0, 384] a slices_S128x512_o0_384_S128x128)) (extractStridedSlice S128x128 ![0, 384] b slices_S128x512_o0_384_S128x128)

section Rows
variable (x : Fin 128 → Fin 512 → ℝ) (v : FVec Ideal S128x512 .f32) (hv : ∀ i, v i = ((x (i 0) (i 1) : ℝ) : EReal))
include hv
theorem kth_val (i : S128x512.Idx) : kth v i = ((gth (x (i 0) (i 1)) : ℝ) : EReal) := by
  pointwise [kth, bc]
  simp only [hv, lit_k0, name_c3, ← EReal.coe_mul, ← EReal.coe_add, Ideal.tanh_coe]
  rfl
theorem kgel_val (i : S128x512.Idx) : kgel v i = ((gel (x (i 0) (i 1)) : ℝ) : EReal) := by
  pointwise [kgel, bc]
  simp only [hv, kth_val x v hv, lit_half, ← EReal.coe_one, ← EReal.coe_mul, ← EReal.coe_add]
  rfl
theorem kgeld_val (i : S128x512.Idx) : kgeld v i = ((geld (x (i 0) (i 1)) : ℝ) : EReal) := by
  pointwise [kgeld, bc]
  simp only [hv, kth_val x v hv, lit_half, lit_k0, name_c33, ← EReal.coe_one, ← EReal.coe_mul, ← EReal.coe_add, ← EReal.coe_sub]
  rfl
theorem kavg_val (i : S128x1.Idx) : kavg v i = ((mean 512 (x (i 0)) : ℝ) : EReal) := by
  pointwise [kavg]
  simp only [hv, lit_512, sum_coe, div_real _ 512 (by norm_num)]
  rfl
theorem kcen_val (i : S128x512.Idx) : kcen v i = ((cen 512 (x (i 0)) (i 1) : ℝ) : EReal) := by
  pointwise [kcen]
  simp only [hv, kavg_val x v hv, ← EReal.coe_sub]
  rfl
theorem krstd_val (i : S128x1.Idx) : krstd v i = ((rstd 512 (x (i 0)) : ℝ) : EReal) := by
  have h : ∀ i, mulf (kcen v) (kcen v) i = ((cen 512 (x (i 0)) (i 1) * cen 512 (x (i 0)) (i 1) : ℝ) : EReal) := fun i => by
    pointwise
    simp only [kcen_val x v hv, ← EReal.coe_mul]
  pointwise [krstd]
  rw [kavg_val (fun a b => cen 512 (x a) b * cen 512 (x a) b) _ h, lit_eps, ← EReal.coe_add]
  exact rsqrt_real _ (vare_pos (N := 512) (by norm_num) (x (i 0)))
theorem kxh_val (i : S128x512.Idx) : kxh v i = ((xhat 512 (x (i 0)) (i 1) : ℝ) : EReal) := by
  pointwise [kxh]
  rw [krstd_val x v hv, kcen_val x v hv, ← EReal.coe_mul]
  rfl
end Rows

/-- The norm's gradient. -/
theorem kng_val (f y : Fin 128 → Fin 512 → ℝ) (s : Fin 128 → ℝ) (u v : FVec Ideal S128x512 .f32) (w : FVec Ideal S128x1 .f32) (hu : ∀ i, u i = ((f (i 0) (i 1) : ℝ) : EReal))
    (hv : ∀ i, v i = ((y (i 0) (i 1) : ℝ) : EReal)) (hw : ∀ i, w i = ((s (i 0) : ℝ) : EReal)) (i : S128x512.Idx) :
    kng u v w i = ((normGrad 512 (f (i 0)) (y (i 0)) (s (i 0)) (i 1) : ℝ) : EReal) := by
  have h : ∀ i, mulf u v i = ((f (i 0) (i 1) * y (i 0) (i 1) : ℝ) : EReal) := fun i => by
    pointwise
    rw [hu, hv, ← EReal.coe_mul]
  pointwise [kng]
  rw [kavg_val f _ hu, kavg_val (fun a b => f a b * y a b) _ h, hu, hv, hw, ← EReal.coe_sub, ← EReal.coe_mul, ← EReal.coe_sub, ← EReal.coe_mul]
  rfl
/-- A choice by lane, and by row and column. -/
theorem sel_lane {α : Type} (n : ℕ) (hn : n < 128) (a b : α) : Scalar.select (IntOp.cmpi .slt (BitVec.ofNat 32 n) 64#32) a b = if n < 64 then a else b := by
  have h : IntOp.cmpi .slt (BitVec.ofNat 32 n) (BitVec.ofNat 32 64) = _ := WordCmp.cmpi_slt_ofNat (by omega) (by norm_num)
  by_cases hh : n < 64 <;> simp [Scalar.select, h, hh]
theorem sel_low {α : Type} (n k : ℕ) (hn : n < 128) (hk : k < 128) (a b : α) : Scalar.select (IntOp.cmpi .sge (BitVec.ofNat 32 n) (BitVec.ofNat 32 k)) a b = if k ≤ n then a else b := by
  have h : IntOp.cmpi .sge (BitVec.ofNat 32 n) (BitVec.ofNat 32 k) = _ := WordCmp.cmpi_sge_ofNat (by omega) (by omega)
  by_cases hh : k ≤ n <;> simp [Scalar.select, h, hh]
/-- A sum over the lanes of one head. -/
theorem sum_lo (f : Fin 128 → ℝ) : ∑ l : Fin 128, (if l.val < 64 then f l else 0) = ∑ e : Fin 64, f ⟨e.val, by omega⟩ := by
  refine (Fin.sum_univ_add (a := 64) (b := 64) fun l : Fin 128 => if l.val < 64 then f l else 0).trans ?_
  simp only [Fin.val_castAdd, Fin.val_natAdd, Fin.is_lt, if_true, Nat.not_lt.mpr (Nat.le_add_right 64 _), if_false, Finset.sum_const_zero, add_zero]
  rfl
theorem sum_hi (f : Fin 128 → ℝ) : ∑ l : Fin 128, (if l.val < 64 then 0 else f l) = ∑ e : Fin 64, f ⟨64 + e.val, by omega⟩ := by
  refine (Fin.sum_univ_add (a := 64) (b := 64) fun l : Fin 128 => if l.val < 64 then 0 else f l).trans ?_
  simp only [Fin.val_castAdd, Fin.val_natAdd, Fin.is_lt, if_true, Nat.not_lt.mpr (Nat.le_add_right 64 _), if_false, Finset.sum_const_zero, zero_add]
  rfl
theorem mix_eq (W : Fin 8 → Fin 128 → Fin 128 → ℝ) (x : Fin 128 → Fin 512 → ℝ) (t : Fin 128) (h : Fin 8) (e d : Fin 512) (h1 : h.val = d.val / 64) (h2 : e.val = d.val) :
    ((∑ k, W h t k * x k e : ℝ) : EReal) = ((∑ k, W (hd d) t k * x k d : ℝ) : EReal) := by
  obtain rfl : e = d := Fin.ext h2
  obtain rfl : h = hd e := Fin.ext h1
  rfl
/-- A head's product, column by column. -/
theorem kmix_val (W : Fin 8 → Fin 128 → Fin 128 → ℝ) (x : Fin 128 → Fin 512 → ℝ) (w : Vec Ideal S8x128x128 .bf16) (v : FVec Ideal S128x512 .bf16)
    (hw : ∀ i, w i = ((W (i 0) (i 1) (i 2) : ℝ) : EReal)) (hv : ∀ i, v i = ((x (i 0) (i 1) : ℝ) : EReal)) (i : S128x512.Idx) :
    kmix w v i = ((∑ k, W (hd (i 1)) (i 0) k * x k (i 1) : ℝ) : EReal) := by
  have hi : (i 1).val < 512 := (i 1).isLt
  pointwise [kmix, kpart, lane]
  simp only [hw, hv, ← EReal.coe_mul, sum_coe]
  by_cases a0 : (i 1).val < 128
  · rw [dif_pos a0]
    rw [sel_lane _ (by omega)]
    by_cases b : (i 1).val < 64
    · rw [if_pos b]; exact mix_eq W x (i 0) 0 (i 1) (i 1) (show 0 = (i 1).val / 64 by omega) rfl
    · rw [if_neg b]; exact mix_eq W x (i 0) 1 (i 1) (i 1) (show 1 = (i 1).val / 64 by omega) rfl
  · rw [dif_neg a0]
    by_cases a1 : (i 1).val - 128 < 128
    · rw [dif_pos a1]
      rw [sel_lane _ (by omega)]
      by_cases b : (i 1).val - 128 < 64
      · rw [if_pos b]; exact mix_eq W x (i 0) 2 ⟨128 + ((i 1).val - 128), by omega⟩ (i 1) (show 2 = (i 1).val / 64 by omega) (show 128 + ((i 1).val - 128) = (i 1).val by omega)
      · rw [if_neg b]; exact mix_eq W x (i 0) 3 ⟨128 + ((i 1).val - 128), by omega⟩ (i 1) (show 3 = (i 1).val / 64 by omega) (show 128 + ((i 1).val - 128) = (i 1).val by omega)
    · rw [dif_neg a1]
      by_cases a2 : (i 1).val - 128 - 128 < 128
      · rw [dif_pos a2]
        rw [sel_lane _ (by omega)]
        by_cases b : (i 1).val - 128 - 128 < 64
        · rw [if_pos b]; exact mix_eq W x (i 0) 4 ⟨256 + ((i 1).val - 128 - 128), by omega⟩ (i 1) (show 4 = (i 1).val / 64 by omega) (show 256 + ((i 1).val - 128 - 128) = (i 1).val by omega)
        · rw [if_neg b]; exact mix_eq W x (i 0) 5 ⟨256 + ((i 1).val - 128 - 128), by omega⟩ (i 1) (show 5 = (i 1).val / 64 by omega) (show 256 + ((i 1).val - 128 - 128) = (i 1).val by omega)
      · rw [dif_neg a2]
        rw [sel_lane _ (by omega)]
        by_cases b : (i 1).val - 128 - 128 - 128 < 64
        · rw [if_pos b]; exact mix_eq W x (i 0) 6 ⟨384 + ((i 1).val - 128 - 128 - 128), by omega⟩ (i 1) (show 6 = (i 1).val / 64 by omega) (show 384 + ((i 1).val - 128 - 128 - 128) = (i 1).val by omega)
        · rw [if_neg b]; exact mix_eq W x (i 0) 7 ⟨384 + ((i 1).val - 128 - 128 - 128), by omega⟩ (i 1) (show 7 = (i 1).val / 64 by omega) (show 384 + ((i 1).val - 128 - 128 - 128) = (i 1).val by omega)
/-- A head's weight gradient: what was there, and the chunk's part. -/
theorem kdw_val (A B : Fin 128 → Fin 128 → ℝ) (acc : Vec Ideal S1x128x128 .f32) (a b : FVec Ideal S128x128 .bf16)
    (ha : ∀ i, a i = ((A (i 0) (i 1) : ℝ) : EReal)) (hb : ∀ i, b i = ((B (i 0) (i 1) : ℝ) : EReal)) (i : S1x128x128.Idx) :
    kdw acc a b i = acc i + (((if (i 2).val ≤ (i 1).val then ∑ l, A (i 1) l * B (i 2) l else 0) : ℝ) : EReal) := by
  pointwise [kdw, low]
  rw [sel_low _ _ (i 1).isLt (i 2).isLt]
  simp only [ha, hb, ← EReal.coe_mul, sum_coe]
  split_ifs
  · rfl
  · rw [EReal.coe_zero]
section Head
variable (x y : Fin 128 → Fin 512 → ℝ) (acc : Vec Ideal S1x128x128 .f32) (a b : FVec Ideal S128x512 .bf16)
  (ha : ∀ i, a i = ((x (i 0) (i 1) : ℝ) : EReal)) (hb : ∀ i, b i = ((y (i 0) (i 1) : ℝ) : EReal)) (i : S1x128x128.Idx)
include ha hb
theorem kdw0_val : kdw0 acc a b i = acc i + (((if (i 2).val ≤ (i 1).val then ∑ e, x (i 1) (hc 0 e) * y (i 2) (hc 0 e) else 0) : ℝ) : EReal) := by
  refine (kdw_val (fun t l => if l.val < 64 then x t ⟨0 + l.val, by omega⟩ else 0) (fun t l => y t ⟨0 + l.val, by omega⟩) acc _ _ (fun i => ?_) (fun i => ?_) i).trans ?_
  · pointwise [lane, kz]
    rw [sel_lane _ (i 1).isLt]
    simp only [ha]
    split_ifs <;> first | rfl | exact congrArg (fun e => ((x (i 0) e : ℝ) : EReal)) (Fin.ext (by simp))
  · pointwise
    rw [hb]
    exact congrArg (fun e => ((y (i 0) e : ℝ) : EReal)) (Fin.ext (by simp))
  · simp only [ite_mul, zero_mul]
    rw [sum_lo fun l : Fin 128 => x (i 1) ⟨0 + l.val, by omega⟩ * y (i 2) ⟨0 + l.val, by omega⟩]
    refine congrArg (fun s : ℝ => acc i + (((if (i 2).val ≤ (i 1).val then s else 0) : ℝ) : EReal)) (Finset.sum_congr rfl fun e _ => ?_)
    exact congrArg (fun l : Fin 512 => x (i 1) l * y (i 2) l) (Fin.ext (show 0 + e.val = 64 * 0 + e.val by omega))
theorem kdw1_val : kdw1 acc a b i = acc i + (((if (i 2).val ≤ (i 1).val then ∑ e, x (i 1) (hc 1 e) * y (i 2) (hc 1 e) else 0) : ℝ) : EReal) := by
  refine (kdw_val (fun t l => if l.val < 64 then 0 else x t ⟨0 + l.val, by omega⟩) (fun t l => y t ⟨0 + l.val, by omega⟩) acc _ _ (fun i => ?_) (fun i => ?_) i).trans ?_
  · pointwise [lane, kz]
    rw [sel_lane _ (i 1).isLt]
    simp only [ha]
    split_ifs <;> first | rfl | exact congrArg (fun e => ((x (i 0) e : ℝ) : EReal)) (Fin.ext (by simp))
  · pointwise
    rw [hb]
    exact congrArg (fun e => ((y (i 0) e : ℝ) : EReal)) (Fin.ext (by simp))
  · simp only [ite_mul, zero_mul]
    rw [sum_hi fun l : Fin 128 => x (i 1) ⟨0 + l.val, by omega⟩ * y (i 2) ⟨0 + l.val, by omega⟩]
    refine congrArg (fun s : ℝ => acc i + (((if (i 2).val ≤ (i 1).val then s else 0) : ℝ) : EReal)) (Finset.sum_congr rfl fun e _ => ?_)
    exact congrArg (fun l : Fin 512 => x (i 1) l * y (i 2) l) (Fin.ext (show 0 + (64 + e.val) = 64 * 1 + e.val by omega))
theorem kdw2_val : kdw2 acc a b i = acc i + (((if (i 2).val ≤ (i 1).val then ∑ e, x (i 1) (hc 2 e) * y (i 2) (hc 2 e) else 0) : ℝ) : EReal) := by
  refine (kdw_val (fun t l => if l.val < 64 then x t ⟨128 + l.val, by omega⟩ else 0) (fun t l => y t ⟨128 + l.val, by omega⟩) acc _ _ (fun i => ?_) (fun i => ?_) i).trans ?_
  · pointwise [lane, kz]
    rw [sel_lane _ (i 1).isLt]
    simp only [ha]
    split_ifs <;> first | rfl | exact congrArg (fun e => ((x (i 0) e : ℝ) : EReal)) (Fin.ext (by simp))
  · pointwise
    rw [hb]
    exact congrArg (fun e => ((y (i 0) e : ℝ) : EReal)) (Fin.ext (by simp))
  · simp only [ite_mul, zero_mul]
    rw [sum_lo fun l : Fin 128 => x (i 1) ⟨128 + l.val, by omega⟩ * y (i 2) ⟨128 + l.val, by omega⟩]
    refine congrArg (fun s : ℝ => acc i + (((if (i 2).val ≤ (i 1).val then s else 0) : ℝ) : EReal)) (Finset.sum_congr rfl fun e _ => ?_)
    exact congrArg (fun l : Fin 512 => x (i 1) l * y (i 2) l) (Fin.ext (show 128 + e.val = 64 * 2 + e.val by omega))
theorem kdw3_val : kdw3 acc a b i = acc i + (((if (i 2).val ≤ (i 1).val then ∑ e, x (i 1) (hc 3 e) * y (i 2) (hc 3 e) else 0) : ℝ) : EReal) := by
  refine (kdw_val (fun t l => if l.val < 64 then 0 else x t ⟨128 + l.val, by omega⟩) (fun t l => y t ⟨128 + l.val, by omega⟩) acc _ _ (fun i => ?_) (fun i => ?_) i).trans ?_
  · pointwise [lane, kz]
    rw [sel_lane _ (i 1).isLt]
    simp only [ha]
    split_ifs <;> first | rfl | exact congrArg (fun e => ((x (i 0) e : ℝ) : EReal)) (Fin.ext (by simp))
  · pointwise
    rw [hb]
    exact congrArg (fun e => ((y (i 0) e : ℝ) : EReal)) (Fin.ext (by simp))
  · simp only [ite_mul, zero_mul]
    rw [sum_hi fun l : Fin 128 => x (i 1) ⟨128 + l.val, by omega⟩ * y (i 2) ⟨128 + l.val, by omega⟩]
    refine congrArg (fun s : ℝ => acc i + (((if (i 2).val ≤ (i 1).val then s else 0) : ℝ) : EReal)) (Finset.sum_congr rfl fun e _ => ?_)
    exact congrArg (fun l : Fin 512 => x (i 1) l * y (i 2) l) (Fin.ext (show 128 + (64 + e.val) = 64 * 3 + e.val by omega))
theorem kdw4_val : kdw4 acc a b i = acc i + (((if (i 2).val ≤ (i 1).val then ∑ e, x (i 1) (hc 4 e) * y (i 2) (hc 4 e) else 0) : ℝ) : EReal) := by
  refine (kdw_val (fun t l => if l.val < 64 then x t ⟨256 + l.val, by omega⟩ else 0) (fun t l => y t ⟨256 + l.val, by omega⟩) acc _ _ (fun i => ?_) (fun i => ?_) i).trans ?_
  · pointwise [lane, kz]
    rw [sel_lane _ (i 1).isLt]
    simp only [ha]
    split_ifs <;> first | rfl | exact congrArg (fun e => ((x (i 0) e : ℝ) : EReal)) (Fin.ext (by simp))
  · pointwise
    rw [hb]
    exact congrArg (fun e => ((y (i 0) e : ℝ) : EReal)) (Fin.ext (by simp))
  · simp only [ite_mul, zero_mul]
    rw [sum_lo fun l : Fin 128 => x (i 1) ⟨256 + l.val, by omega⟩ * y (i 2) ⟨256 + l.val, by omega⟩]
    refine congrArg (fun s : ℝ => acc i + (((if (i 2).val ≤ (i 1).val then s else 0) : ℝ) : EReal)) (Finset.sum_congr rfl fun e _ => ?_)
    exact congrArg (fun l : Fin 512 => x (i 1) l * y (i 2) l) (Fin.ext (show 256 + e.val = 64 * 4 + e.val by omega))
theorem kdw5_val : kdw5 acc a b i = acc i + (((if (i 2).val ≤ (i 1).val then ∑ e, x (i 1) (hc 5 e) * y (i 2) (hc 5 e) else 0) : ℝ) : EReal) := by
  refine (kdw_val (fun t l => if l.val < 64 then 0 else x t ⟨256 + l.val, by omega⟩) (fun t l => y t ⟨256 + l.val, by omega⟩) acc _ _ (fun i => ?_) (fun i => ?_) i).trans ?_
  · pointwise [lane, kz]
    rw [sel_lane _ (i 1).isLt]
    simp only [ha]
    split_ifs <;> first | rfl | exact congrArg (fun e => ((x (i 0) e : ℝ) : EReal)) (Fin.ext (by simp))
  · pointwise
    rw [hb]
    exact congrArg (fun e => ((y (i 0) e : ℝ) : EReal)) (Fin.ext (by simp))
  · simp only [ite_mul, zero_mul]
    rw [sum_hi fun l : Fin 128 => x (i 1) ⟨256 + l.val, by omega⟩ * y (i 2) ⟨256 + l.val, by omega⟩]
    refine congrArg (fun s : ℝ => acc i + (((if (i 2).val ≤ (i 1).val then s else 0) : ℝ) : EReal)) (Finset.sum_congr rfl fun e _ => ?_)
    exact congrArg (fun l : Fin 512 => x (i 1) l * y (i 2) l) (Fin.ext (show 256 + (64 + e.val) = 64 * 5 + e.val by omega))
theorem kdw6_val : kdw6 acc a b i = acc i + (((if (i 2).val ≤ (i 1).val then ∑ e, x (i 1) (hc 6 e) * y (i 2) (hc 6 e) else 0) : ℝ) : EReal) := by
  refine (kdw_val (fun t l => if l.val < 64 then x t ⟨384 + l.val, by omega⟩ else 0) (fun t l => y t ⟨384 + l.val, by omega⟩) acc _ _ (fun i => ?_) (fun i => ?_) i).trans ?_
  · pointwise [lane, kz]
    rw [sel_lane _ (i 1).isLt]
    simp only [ha]
    split_ifs <;> first | rfl | exact congrArg (fun e => ((x (i 0) e : ℝ) : EReal)) (Fin.ext (by simp))
  · pointwise
    rw [hb]
    exact congrArg (fun e => ((y (i 0) e : ℝ) : EReal)) (Fin.ext (by simp))
  · simp only [ite_mul, zero_mul]
    rw [sum_lo fun l : Fin 128 => x (i 1) ⟨384 + l.val, by omega⟩ * y (i 2) ⟨384 + l.val, by omega⟩]
    refine congrArg (fun s : ℝ => acc i + (((if (i 2).val ≤ (i 1).val then s else 0) : ℝ) : EReal)) (Finset.sum_congr rfl fun e _ => ?_)
    exact congrArg (fun l : Fin 512 => x (i 1) l * y (i 2) l) (Fin.ext (show 384 + e.val = 64 * 6 + e.val by omega))
theorem kdw7_val : kdw7 acc a b i = acc i + (((if (i 2).val ≤ (i 1).val then ∑ e, x (i 1) (hc 7 e) * y (i 2) (hc 7 e) else 0) : ℝ) : EReal) := by
  refine (kdw_val (fun t l => if l.val < 64 then 0 else x t ⟨384 + l.val, by omega⟩) (fun t l => y t ⟨384 + l.val, by omega⟩) acc _ _ (fun i => ?_) (fun i => ?_) i).trans ?_
  · pointwise [lane, kz]
    rw [sel_lane _ (i 1).isLt]
    simp only [ha]
    split_ifs <;> first | rfl | exact congrArg (fun e => ((x (i 0) e : ℝ) : EReal)) (Fin.ext (by simp))
  · pointwise
    rw [hb]
    exact congrArg (fun e => ((y (i 0) e : ℝ) : EReal)) (Fin.ext (by simp))
  · simp only [ite_mul, zero_mul]
    rw [sum_hi fun l : Fin 128 => x (i 1) ⟨384 + l.val, by omega⟩ * y (i 2) ⟨384 + l.val, by omega⟩]
    refine congrArg (fun s : ℝ => acc i + (((if (i 2).val ≤ (i 1).val then s else 0) : ℝ) : EReal)) (Finset.sum_congr rfl fun e _ => ?_)
    exact congrArg (fun l : Fin 512 => x (i 1) l * y (i 2) l) (Fin.ext (show 384 + (64 + e.val) = 64 * 7 + e.val by omega))
end Head

end Cert.Gmlp
end
-- ==== Proof.Gmlp.Chunk.lean ====
/- What the body computes of one chunk, over real rows. -/
module
public import proofs.«01_k».proof.Proof.Gmlp.Pay
@[expose] public section
set_option maxRecDepth 16384
noncomputable section
namespace Cert.Gmlp
open Idealize.ShloMosaic Idealize.ShloMosaic.TcCoe Idealize.ShloMosaic.Tactic Idealize.SL.Sem Cert.Kernel2Ideal Cert.Kernel2Ideal.Gen Cert.RealNorm

/-- The arrays that the body reads for one chunk are the real rows and parameters. -/
structure Blk (p : Par) (x : Chk) (zu zv : Vec Ideal S128x512 .bf16) (d : Vec Ideal S128x512 .f32) (g b : Vec Ideal S1x512 .f32) (w wt : Vec Ideal S8x128x128 .bf16) (bi : Vec Ideal S128x512 .f32) : Prop where
  zu : ∀ i, zu i = ((x.zu (i 0) (i 1) : ℝ) : EReal)
  zv : ∀ i, zv i = ((x.zv (i 0) (i 1) : ℝ) : EReal)
  d : ∀ i, d i = ((x.d (i 0) (i 1) : ℝ) : EReal)
  g : ∀ i, g i = ((p.gg (i 1) : ℝ) : EReal)
  b : ∀ i, b i = ((p.bb (i 1) : ℝ) : EReal)
  w : ∀ i, w i = ((p.W (i 0) (i 1) (i 2) : ℝ) : EReal)
  wt : ∀ i, wt i = ((p.W (i 0) (i 2) (i 1) : ℝ) : EReal)
  bi : ∀ i, bi i = ((p.B (hd (i 1)) (i 0) : ℝ) : EReal)
/-- The weight gradients' chunk part, the norm's scale and offset gradients' factors. -/
def kdg (zu zv : Vec Ideal S128x512 .bf16) (d : Vec Ideal S128x512 .f32) (wt : Vec Ideal S8x128x128 .bf16) : FVec Ideal S128x512 .f32 := mulf (kdv zu d wt) (kxh (kgel (up zv)))
def kvz (zv : Vec Ideal S128x512 .bf16) (g b : Vec Ideal S1x512 .f32) : FVec Ideal S128x512 .bf16 := kv (kgel (up zv)) g b

theorem up_val (f : Fin 128 → Fin 512 → ℝ) (z : Vec Ideal S128x512 .bf16) (h : ∀ i, z i = ((f (i 0) (i 1) : ℝ) : EReal)) (i : S128x512.Idx) :
    up z i = ((f (i 0) (i 1) : ℝ) : EReal) := by
  pointwise [up]
  rw [h]
theorem kcol_val (f : Fin 128 → Fin 512 → ℝ) (acc : Vec Ideal S1x512 .f32) (v : FVec Ideal S128x512 .f32) (h : ∀ i, v i = ((f (i 0) (i 1) : ℝ) : EReal))
    (i : S1x512.Idx) : kcol acc v i = acc i + ((∑ t, f t (i 1) : ℝ) : EReal) := by
  pointwise [kcol]
  simp only [h, sum_coe]
  rfl

section Chunk
variable {p : Par} {x : Chk} {zu zv : Vec Ideal S128x512 .bf16} {d : Vec Ideal S128x512 .f32} {g b : Vec Ideal S1x512 .f32} {w wt : Vec Ideal S8x128x128 .bf16} {bi : Vec Ideal S128x512 .f32}
  (h : Blk p x zu zv d g b w wt bi)
include h
theorem kgv_val (i : S128x512.Idx) : kgel (up zv) i = ((gv x (i 0) (i 1) : ℝ) : EReal) := kgel_val _ _ (up_val _ _ h.zv) i
theorem kxz_val (i : S128x512.Idx) : kxh (kgel (up zv)) i = ((xh x (i 0) (i 1) : ℝ) : EReal) := kxh_val (gv x) _ (kgv_val h) i
theorem kvz_val (i : S128x512.Idx) : kvz zv g b i = ((vv p x (i 0) (i 1) : ℝ) : EReal) := by
  pointwise [kvz, kv]
  simp only [kxz_val h, h.g, h.b, ← EReal.coe_mul, ← EReal.coe_add]
  rfl
theorem kds_val (i : S128x512.Idx) : kds zu d i = ((ds x (i 0) (i 1) : ℝ) : EReal) := by
  pointwise [kds]
  rw [kgel_val _ _ (up_val _ _ h.zu), h.d, ← EReal.coe_mul]
  rfl
theorem kdsb_val (i : S128x512.Idx) : kdsb zu d i = ((ds x (i 0) (i 1) : ℝ) : EReal) := by
  pointwise [kdsb]
  exact kds_val h i
theorem kdzu_val (i : S128x512.Idx) : kdzu zu zv d g b w bi i = ((dzu p x (i 0) (i 1) : ℝ) : EReal) := by
  pointwise [kdzu]
  rw [kgeld_val _ _ (up_val _ _ h.zu), kmix_val p.W (vv p x) w (kv (kgel (up zv)) g b) h.w (kvz_val h), h.d, h.bi, ← EReal.coe_add, ← EReal.coe_mul, ← EReal.coe_mul]
  rfl
theorem kdv_val (i : S128x512.Idx) : kdv zu d wt i = ((dv p x (i 0) (i 1) : ℝ) : EReal) := kmix_val (fun h t k => p.W h k t) (ds x) wt _ h.wt (kdsb_val h) i
theorem kdg_val (i : S128x512.Idx) : kdg zu zv d wt i = ((dv p x (i 0) (i 1) * xh x (i 0) (i 1) : ℝ) : EReal) := by
  pointwise [kdg]
  rw [kdv_val h, kxz_val h, ← EReal.coe_mul]
theorem kdb_val (acc : Vec Ideal S128x512 .f32) (i : S128x512.Idx) : kdb acc zu d i = acc i + ((ds x (i 0) (i 1) : ℝ) : EReal) := by
  pointwise [kdb]
  rw [kds_val h]
theorem kdzv_val (i : S128x512.Idx) : kdzv zu zv d g wt i = ((dzv p x (i 0) (i 1) : ℝ) : EReal) := by
  have hu : ∀ i, mulf (kdv zu d wt) (broadcastTo S128x512 g broadcasts_S1x512_S128x512) i = ((dv p x (i 0) (i 1) * p.gg (i 1) : ℝ) : EReal) := fun i => by
    pointwise
    rw [kdv_val h, h.g, ← EReal.coe_mul]
    rfl
  pointwise [kdzv]
  rw [kng_val (fun t e => dv p x t e * p.gg e) (xh x) (fun t => rstd 512 (gv x t)) _ _ _ hu (kxz_val h) (krstd_val _ _ (kgv_val h)),
    kgeld_val _ _ (up_val _ _ h.zv), ← EReal.coe_mul]
  rfl
end Chunk

end Cert.Gmlp
end
-- ==== Proof.Gmlp.Block.lean ====
/- What the body computes of one block of eight chunks. -/
module
public import proofs.«01_k».proof.Proof.Gmlp.Chunk
public import Idealize.ShloMosaic.Lib.Pipeline.ReadBack
@[expose] public section
set_option maxRecDepth 16384
noncomputable section
namespace Cert.Gmlp
open Idealize.ShloMosaic Idealize.ShloMosaic.TcCoe Idealize.ShloMosaic.Tactic Idealize.SL.Sem Cert.Kernel2Ideal Cert.Kernel2Ideal.Gen Cert.RealNorm

/-- The arrays of one block of rows are the real rows and parameters, chunk by chunk. -/
structure Full (p : Par) (X : Fin 8 → Chk) (x0 : Vec Ideal S1024x1024 .bf16) (x1 : Vec Ideal S1024x512 .f32) (x2 x3 : Vec Ideal S1x512 .f32) (x4 x5 : Vec Ideal S8x128x128 .bf16) (x6 : Vec Ideal S128x512 .f32) : Prop where
  c0 : Blk p (X 0) (View.ld x0 (Rect.unit ![0, 0] S128x512.size inb_S1024x1024_S128x512_0_0)) (View.ld x0 (Rect.unit ![0, 512] S128x512.size inb_S1024x1024_S128x512_0_512)) (View.ld x1 (Rect.unit ![0, 0] S128x512.size inb_S1024x512_S128x512_0_0)) x2 x3 x4 x5 x6
  c1 : Blk p (X 1) (View.ld x0 (Rect.unit ![128, 0] S128x512.size inb_S1024x1024_S128x512_128_0)) (View.ld x0 (Rect.unit ![128, 512] S128x512.size inb_S1024x1024_S128x512_128_512)) (View.ld x1 (Rect.unit ![128, 0] S128x512.size inb_S1024x512_S128x512_128_0)) x2 x3 x4 x5 x6
  c2 : Blk p (X 2) (View.ld x0 (Rect.unit ![256, 0] S128x512.size inb_S1024x1024_S128x512_256_0)) (View.ld x0 (Rect.unit ![256, 512] S128x512.size inb_S1024x1024_S128x512_256_512)) (View.ld x1 (Rect.unit ![256, 0] S128x512.size inb_S1024x512_S128x512_256_0)) x2 x3 x4 x5 x6
  c3 : Blk p (X 3) (View.ld x0 (Rect.unit ![384, 0] S128x512.size inb_S1024x1024_S128x512_384_0)) (View.ld x0 (Rect.unit ![384, 512] S128x512.size inb_S1024x1024_S128x512_384_512)) (View.ld x1 (Rect.unit ![384, 0] S128x512.size inb_S1024x512_S128x512_384_0)) x2 x3 x4 x5 x6
  c4 : Blk p (X 4) (View.ld x0 (Rect.unit ![512, 0] S128x512.size inb_S1024x1024_S128x512_512_0)) (View.ld x0 (Rect.unit ![512, 512] S128x512.size inb_S1024x1024_S128x512_512_512)) (View.ld x1 (Rect.unit ![512, 0] S128x512.size inb_S1024x512_S128x512_512_0)) x2 x3 x4 x5 x6
  c5 : Blk p (X 5) (View.ld x0 (Rect.unit ![640, 0] S128x512.size inb_S1024x1024_S128x512_640_0)) (View.ld x0 (Rect.unit ![640, 512] S128x512.size inb_S1024x1024_S128x512_640_512)) (View.ld x1 (Rect.unit ![640, 0] S128x512.size inb_S1024x512_S128x512_640_0)) x2 x3 x4 x5 x6
  c6 : Blk p (X 6) (View.ld x0 (Rect.unit ![768, 0] S128x512.size inb_S1024x1024_S128x512_768_0)) (View.ld x0 (Rect.unit ![768, 512] S128x512.size inb_S1024x1024_S128x512_768_512)) (View.ld x1 (Rect.unit ![768, 0] S128x512.size inb_S1024x512_S128x512_768_0)) x2 x3 x4 x5 x6
  c7 : Blk p (X 7) (View.ld x0 (Rect.unit ![896, 0] S128x512.size inb_S1024x1024_S128x512_896_0)) (View.ld x0 (Rect.unit ![896, 512] S128x512.size inb_S1024x1024_S128x512_896_512)) (View.ld x1 (Rect.unit ![896, 0] S128x512.size inb_S1024x512_S128x512_896_0)) x2 x3 x4 x5 x6

/-- What the body leaves in its accumulators: each chunk's part added in turn. -/
def bdb (acc : Vec Ideal S128x512 .f32) (x0 : Vec Ideal S1024x1024 .bf16) (x1 : Vec Ideal S1024x512 .f32) : FVec Ideal S128x512 .f32 :=
  kdb (kdb (kdb (kdb (kdb (kdb (kdb (kdb (acc) (View.ld x0 (Rect.unit ![0, 0] S128x512.size inb_S1024x1024_S128x512_0_0)) (View.ld x1 (Rect.unit ![0, 0] S128x512.size inb_S1024x512_S128x512_0_0))) (View.ld x0 (Rect.unit ![128, 0] S128x512.size inb_S1024x1024_S128x512_128_0)) (View.ld x1 (Rect.unit ![128, 0] S128x512.size inb_S1024x512_S128x512_128_0))) (View.ld x0 (Rect.unit ![256, 0] S128x512.size inb_S1024x1024_S128x512_256_0)) (View.ld x1 (Rect.unit ![256, 0] S128x512.size inb_S1024x512_S128x512_256_0))) (View.ld x0 (Rect.unit ![384, 0] S128x512.size inb_S1024x1024_S128x512_384_0)) (View.ld x1 (Rect.unit ![384, 0] S128x512.size inb_S1024x512_S128x512_384_0))) (View.ld x0 (Rect.unit ![512, 0] S128x512.size inb_S1024x1024_S128x512_512_0)) (View.ld x1 (Rect.unit ![512, 0] S128x512.size inb_S1024x512_S128x512_512_0))) (View.ld x0 (Rect.unit ![640, 0] S128x512.size inb_S1024x1024_S128x512_640_0)) (View.ld x1 (Rect.unit ![640, 0] S128x512.size inb_S1024x512_S128x512_640_0))) (View.ld x0 (Rect.unit ![768, 0] S128x512.size inb_S1024x1024_S128x512_768_0)) (View.ld x1 (Rect.unit ![768, 0] S128x512.size inb_S1024x512_S128x512_768_0))) (View.ld x0 (Rect.unit ![896, 0] S128x512.size inb_S1024x1024_S128x512_896_0)) (View.ld x1 (Rect.unit ![896, 0] S128x512.size inb_S1024x512_S128x512_896_0))
def bdg (acc : Vec Ideal S1x512 .f32) (x0 : Vec Ideal S1024x1024 .bf16) (x1 : Vec Ideal S1024x512 .f32) (x5 : Vec Ideal S8x128x128 .bf16) : FVec Ideal S1x512 .f32 :=
  kcol (kcol (kcol (kcol (kcol (kcol (kcol (kcol (acc) (kdg (View.ld x0 (Rect.unit ![0, 0] S128x512.size inb_S1024x1024_S128x512_0_0)) (View.ld x0 (Rect.unit ![0, 512] S128x512.size inb_S1024x1024_S128x512_0_512)) (View.ld x1 (Rect.unit ![0, 0] S128x512.size inb_S1024x512_S128x512_0_0)) x5)) (kdg (View.ld x0 (Rect.unit ![128, 0] S128x512.size inb_S1024x1024_S128x512_128_0)) (View.ld x0 (Rect.unit ![128, 512] S128x512.size inb_S1024x1024_S128x512_128_512)) (View.ld x1 (Rect.unit ![128, 0] S128x512.size inb_S1024x512_S128x512_128_0)) x5)) (kdg (View.ld x0 (Rect.unit ![256, 0] S128x512.size inb_S1024x1024_S128x512_256_0)) (View.ld x0 (Rect.unit ![256, 512] S128x512.size inb_S1024x1024_S128x512_256_512)) (View.ld x1 (Rect.unit ![256, 0] S128x512.size inb_S1024x512_S128x512_256_0)) x5)) (kdg (View.ld x0 (Rect.unit ![384, 0] S128x512.size inb_S1024x1024_S128x512_384_0)) (View.ld x0 (Rect.unit ![384, 512] S128x512.size inb_S1024x1024_S128x512_384_512)) (View.ld x1 (Rect.unit ![384, 0] S128x512.size inb_S1024x512_S128x512_384_0)) x5)) (kdg (View.ld x0 (Rect.unit ![512, 0] S128x512.size inb_S1024x1024_S128x512_512_0)) (View.ld x0 (Rect.unit ![512, 512] S128x512.size inb_S1024x1024_S128x512_512_512)) (View.ld x1 (Rect.unit ![512, 0] S128x512.size inb_S1024x512_S128x512_512_0)) x5)) (kdg (View.ld x0 (Rect.unit ![640, 0] S128x512.size inb_S1024x1024_S128x512_640_0)) (View.ld x0 (Rect.unit ![640, 512] S128x512.size inb_S1024x1024_S128x512_640_512)) (View.ld x1 (Rect.unit ![640, 0] S128x512.size inb_S1024x512_S128x512_640_0)) x5)) (kdg (View.ld x0 (Rect.unit ![768, 0] S128x512.size inb_S1024x1024_S128x512_768_0)) (View.ld x0 (Rect.unit ![768, 512] S128x512.size inb_S1024x1024_S128x512_768_512)) (View.ld x1 (Rect.unit ![768, 0] S128x512.size inb_S1024x512_S128x512_768_0)) x5)) (kdg (View.ld x0 (Rect.unit ![896, 0] S128x512.size inb_S1024x1024_S128x512_896_0)) (View.ld x0 (Rect.unit ![896, 512] S128x512.size inb_S1024x1024_S128x512_896_512)) (View.ld x1 (Rect.unit ![896, 0] S128x512.size inb_S1024x512_S128x512_896_0)) x5)
def bde (acc : Vec Ideal S1x512 .f32) (x0 : Vec Ideal S1024x1024 .bf16) (x1 : Vec Ideal S1024x512 .f32) (x5 : Vec Ideal S8x128x128 .bf16) : FVec Ideal S1x512 .f32 :=
  kcol (kcol (kcol (kcol (kcol (kcol (kcol (kcol (acc) (kdv (View.ld x0 (Rect.unit ![0, 0] S128x512.size inb_S1024x1024_S128x512_0_0)) (View.ld x1 (Rect.unit ![0, 0] S128x512.size inb_S1024x512_S128x512_0_0)) x5)) (kdv (View.ld x0 (Rect.unit ![128, 0] S128x512.size inb_S1024x1024_S128x512_128_0)) (View.ld x1 (Rect.unit ![128, 0] S128x512.size inb_S1024x512_S128x512_128_0)) x5)) (kdv (View.ld x0 (Rect.unit ![256, 0] S128x512.size inb_S1024x1024_S128x512_256_0)) (View.ld x1 (Rect.unit ![256, 0] S128x512.size inb_S1024x512_S128x512_256_0)) x5)) (kdv (View.ld x0 (Rect.unit ![384, 0] S128x512.size inb_S1024x1024_S128x512_384_0)) (View.ld x1 (Rect.unit ![384, 0] S128x512.size inb_S1024x512_S128x512_384_0)) x5)) (kdv (View.ld x0 (Rect.unit ![512, 0] S128x512.size inb_S1024x1024_S128x512_512_0)) (View.ld x1 (Rect.unit ![512, 0] S128x512.size inb_S1024x512_S128x512_512_0)) x5)) (kdv (View.ld x0 (Rect.unit ![640, 0] S128x512.size inb_S1024x1024_S128x512_640_0)) (View.ld x1 (Rect.unit ![640, 0] S128x512.size inb_S1024x512_S128x512_640_0)) x5)) (kdv (View.ld x0 (Rect.unit ![768, 0] S128x512.size inb_S1024x1024_S128x512_768_0)) (View.ld x1 (Rect.unit ![768, 0] S128x512.size inb_S1024x512_S128x512_768_0)) x5)) (kdv (View.ld x0 (Rect.unit ![896, 0] S128x512.size inb_S1024x1024_S128x512_896_0)) (View.ld x1 (Rect.unit ![896, 0] S128x512.size inb_S1024x512_S128x512_896_0)) x5)
def bdw0 (acc : Vec Ideal S1x128x128 .f32) (x0 : Vec Ideal S1024x1024 .bf16) (x1 : Vec Ideal S1024x512 .f32) (x2 x3 : Vec Ideal S1x512 .f32) : FVec Ideal S1x128x128 .f32 :=
  kdw0 (kdw0 (kdw0 (kdw0 (kdw0 (kdw0 (kdw0 (kdw0 (acc) (kdsb (View.ld x0 (Rect.unit ![0, 0] S128x512.size inb_S1024x1024_S128x512_0_0)) (View.ld x1 (Rect.unit ![0, 0] S128x512.size inb_S1024x512_S128x512_0_0))) (kvz (View.ld x0 (Rect.unit ![0, 512] S128x512.size inb_S1024x1024_S128x512_0_512)) x2 x3)) (kdsb (View.ld x0 (Rect.unit ![128, 0] S128x512.size inb_S1024x1024_S128x512_128_0)) (View.ld x1 (Rect.unit ![128, 0] S128x512.size inb_S1024x512_S128x512_128_0))) (kvz (View.ld x0 (Rect.unit ![128, 512] S128x512.size inb_S1024x1024_S128x512_128_512)) x2 x3)) (kdsb (View.ld x0 (Rect.unit ![256, 0] S128x512.size inb_S1024x1024_S128x512_256_0)) (View.ld x1 (Rect.unit ![256, 0] S128x512.size inb_S1024x512_S128x512_256_0))) (kvz (View.ld x0 (Rect.unit ![256, 512] S128x512.size inb_S1024x1024_S128x512_256_512)) x2 x3)) (kdsb (View.ld x0 (Rect.unit ![384, 0] S128x512.size inb_S1024x1024_S128x512_384_0)) (View.ld x1 (Rect.unit ![384, 0] S128x512.size inb_S1024x512_S128x512_384_0))) (kvz (View.ld x0 (Rect.unit ![384, 512] S128x512.size inb_S1024x1024_S128x512_384_512)) x2 x3)) (kdsb (View.ld x0 (Rect.unit ![512, 0] S128x512.size inb_S1024x1024_S128x512_512_0)) (View.ld x1 (Rect.unit ![512, 0] S128x512.size inb_S1024x512_S128x512_512_0))) (kvz (View.ld x0 (Rect.unit ![512, 512] S128x512.size inb_S1024x1024_S128x512_512_512)) x2 x3)) (kdsb (View.ld x0 (Rect.unit ![640, 0] S128x512.size inb_S1024x1024_S128x512_640_0)) (View.ld x1 (Rect.unit ![640, 0] S128x512.size inb_S1024x512_S128x512_640_0))) (kvz (View.ld x0 (Rect.unit ![640, 512] S128x512.size inb_S1024x1024_S128x512_640_512)) x2 x3)) (kdsb (View.ld x0 (Rect.unit ![768, 0] S128x512.size inb_S1024x1024_S128x512_768_0)) (View.ld x1 (Rect.unit ![768, 0] S128x512.size inb_S1024x512_S128x512_768_0))) (kvz (View.ld x0 (Rect.unit ![768, 512] S128x512.size inb_S1024x1024_S128x512_768_512)) x2 x3)) (kdsb (View.ld x0 (Rect.unit ![896, 0] S128x512.size inb_S1024x1024_S128x512_896_0)) (View.ld x1 (Rect.unit ![896, 0] S128x512.size inb_S1024x512_S128x512_896_0))) (kvz (View.ld x0 (Rect.unit ![896, 512] S128x512.size inb_S1024x1024_S128x512_896_512)) x2 x3)
def bdw1 (acc : Vec Ideal S1x128x128 .f32) (x0 : Vec Ideal S1024x1024 .bf16) (x1 : Vec Ideal S1024x512 .f32) (x2 x3 : Vec Ideal S1x512 .f32) : FVec Ideal S1x128x128 .f32 :=
  kdw1 (kdw1 (kdw1 (kdw1 (kdw1 (kdw1 (kdw1 (kdw1 (acc) (kdsb (View.ld x0 (Rect.unit ![0, 0] S128x512.size inb_S1024x1024_S128x512_0_0)) (View.ld x1 (Rect.unit ![0, 0] S128x512.size inb_S1024x512_S128x512_0_0))) (kvz (View.ld x0 (Rect.unit ![0, 512] S128x512.size inb_S1024x1024_S128x512_0_512)) x2 x3)) (kdsb (View.ld x0 (Rect.unit ![128, 0] S128x512.size inb_S1024x1024_S128x512_128_0)) (View.ld x1 (Rect.unit ![128, 0] S128x512.size inb_S1024x512_S128x512_128_0))) (kvz (View.ld x0 (Rect.unit ![128, 512] S128x512.size inb_S1024x1024_S128x512_128_512)) x2 x3)) (kdsb (View.ld x0 (Rect.unit ![256, 0] S128x512.size inb_S1024x1024_S128x512_256_0)) (View.ld x1 (Rect.unit ![256, 0] S128x512.size inb_S1024x512_S128x512_256_0))) (kvz (View.ld x0 (Rect.unit ![256, 512] S128x512.size inb_S1024x1024_S128x512_256_512)) x2 x3)) (kdsb (View.ld x0 (Rect.unit ![384, 0] S128x512.size inb_S1024x1024_S128x512_384_0)) (View.ld x1 (Rect.unit ![384, 0] S128x512.size inb_S1024x512_S128x512_384_0))) (kvz (View.ld x0 (Rect.unit ![384, 512] S128x512.size inb_S1024x1024_S128x512_384_512)) x2 x3)) (kdsb (View.ld x0 (Rect.unit ![512, 0] S128x512.size inb_S1024x1024_S128x512_512_0)) (View.ld x1 (Rect.unit ![512, 0] S128x512.size inb_S1024x512_S128x512_512_0))) (kvz (View.ld x0 (Rect.unit ![512, 512] S128x512.size inb_S1024x1024_S128x512_512_512)) x2 x3)) (kdsb (View.ld x0 (Rect.unit ![640, 0] S128x512.size inb_S1024x1024_S128x512_640_0)) (View.ld x1 (Rect.unit ![640, 0] S128x512.size inb_S1024x512_S128x512_640_0))) (kvz (View.ld x0 (Rect.unit ![640, 512] S128x512.size inb_S1024x1024_S128x512_640_512)) x2 x3)) (kdsb (View.ld x0 (Rect.unit ![768, 0] S128x512.size inb_S1024x1024_S128x512_768_0)) (View.ld x1 (Rect.unit ![768, 0] S128x512.size inb_S1024x512_S128x512_768_0))) (kvz (View.ld x0 (Rect.unit ![768, 512] S128x512.size inb_S1024x1024_S128x512_768_512)) x2 x3)) (kdsb (View.ld x0 (Rect.unit ![896, 0] S128x512.size inb_S1024x1024_S128x512_896_0)) (View.ld x1 (Rect.unit ![896, 0] S128x512.size inb_S1024x512_S128x512_896_0))) (kvz (View.ld x0 (Rect.unit ![896, 512] S128x512.size inb_S1024x1024_S128x512_896_512)) x2 x3)
def bdw2 (acc : Vec Ideal S1x128x128 .f32) (x0 : Vec Ideal S1024x1024 .bf16) (x1 : Vec Ideal S1024x512 .f32) (x2 x3 : Vec Ideal S1x512 .f32) : FVec Ideal S1x128x128 .f32 :=
  kdw2 (kdw2 (kdw2 (kdw2 (kdw2 (kdw2 (kdw2 (kdw2 (acc) (kdsb (View.ld x0 (Rect.unit ![0, 0] S128x512.size inb_S1024x1024_S128x512_0_0)) (View.ld x1 (Rect.unit ![0, 0] S128x512.size inb_S1024x512_S128x512_0_0))) (kvz (View.ld x0 (Rect.unit ![0, 512] S128x512.size inb_S1024x1024_S128x512_0_512)) x2 x3)) (kdsb (View.ld x0 (Rect.unit ![128, 0] S128x512.size inb_S1024x1024_S128x512_128_0)) (View.ld x1 (Rect.unit ![128, 0] S128x512.size inb_S1024x512_S128x512_128_0))) (kvz (View.ld x0 (Rect.unit ![128, 512] S128x512.size inb_S1024x1024_S128x512_128_512)) x2 x3)) (kdsb (View.ld x0 (Rect.unit ![256, 0] S128x512.size inb_S1024x1024_S128x512_256_0)) (View.ld x1 (Rect.unit ![256, 0] S128x512.size inb_S1024x512_S128x512_256_0))) (kvz (View.ld x0 (Rect.unit ![256, 512] S128x512.size inb_S1024x1024_S128x512_256_512)) x2 x3)) (kdsb (View.ld x0 (Rect.unit ![384, 0] S128x512.size inb_S1024x1024_S128x512_384_0)) (View.ld x1 (Rect.unit ![384, 0] S128x512.size inb_S1024x512_S128x512_384_0))) (kvz (View.ld x0 (Rect.unit ![384, 512] S128x512.size inb_S1024x1024_S128x512_384_512)) x2 x3)) (kdsb (View.ld x0 (Rect.unit ![512, 0] S128x512.size inb_S1024x1024_S128x512_512_0)) (View.ld x1 (Rect.unit ![512, 0] S128x512.size inb_S1024x512_S128x512_512_0))) (kvz (View.ld x0 (Rect.unit ![512, 512] S128x512.size inb_S1024x1024_S128x512_512_512)) x2 x3)) (kdsb (View.ld x0 (Rect.unit ![640, 0] S128x512.size inb_S1024x1024_S128x512_640_0)) (View.ld x1 (Rect.unit ![640, 0] S128x512.size inb_S1024x512_S128x512_640_0))) (kvz (View.ld x0 (Rect.unit ![640, 512] S128x512.size inb_S1024x1024_S128x512_640_512)) x2 x3)) (kdsb (View.ld x0 (Rect.unit ![768, 0] S128x512.size inb_S1024x1024_S128x512_768_0)) (View.ld x1 (Rect.unit ![768, 0] S128x512.size inb_S1024x512_S128x512_768_0))) (kvz (View.ld x0 (Rect.unit ![768, 512] S128x512.size inb_S1024x1024_S128x512_768_512)) x2 x3)) (kdsb (View.ld x0 (Rect.unit ![896, 0] S128x512.size inb_S1024x1024_S128x512_896_0)) (View.ld x1 (Rect.unit ![896, 0] S128x512.size inb_S1024x512_S128x512_896_0))) (kvz (View.ld x0 (Rect.unit ![896, 512] S128x512.size inb_S1024x1024_S128x512_896_512)) x2 x3)
def bdw3 (acc : Vec Ideal S1x128x128 .f32) (x0 : Vec Ideal S1024x1024 .bf16) (x1 : Vec Ideal S1024x512 .f32) (x2 x3 : Vec Ideal S1x512 .f32) : FVec Ideal S1x128x128 .f32 :=
  kdw3 (kdw3 (kdw3 (kdw3 (kdw3 (kdw3 (kdw3 (kdw3 (acc) (kdsb (View.ld x0 (Rect.unit ![0, 0] S128x512.size inb_S1024x1024_S128x512_0_0)) (View.ld x1 (Rect.unit ![0, 0] S128x512.size inb_S1024x512_S128x512_0_0))) (kvz (View.ld x0 (Rect.unit ![0, 512] S128x512.size inb_S1024x1024_S128x512_0_512)) x2 x3)) (kdsb (View.ld x0 (Rect.unit ![128, 0] S128x512.size inb_S1024x1024_S128x512_128_0)) (View.ld x1 (Rect.unit ![128, 0] S128x512.size inb_S1024x512_S128x512_128_0))) (kvz (View.ld x0 (Rect.unit ![128, 512] S128x512.size inb_S1024x1024_S128x512_128_512)) x2 x3)) (kdsb (View.ld x0 (Rect.unit ![256, 0] S128x512.size inb_S1024x1024_S128x512_256_0)) (View.ld x1 (Rect.unit ![256, 0] S128x512.size inb_S1024x512_S128x512_256_0))) (kvz (View.ld x0 (Rect.unit ![256, 512] S128x512.size inb_S1024x1024_S128x512_256_512)) x2 x3)) (kdsb (View.ld x0 (Rect.unit ![384, 0] S128x512.size inb_S1024x1024_S128x512_384_0)) (View.ld x1 (Rect.unit ![384, 0] S128x512.size inb_S1024x512_S128x512_384_0))) (kvz (View.ld x0 (Rect.unit ![384, 512] S128x512.size inb_S1024x1024_S128x512_384_512)) x2 x3)) (kdsb (View.ld x0 (Rect.unit ![512, 0] S128x512.size inb_S1024x1024_S128x512_512_0)) (View.ld x1 (Rect.unit ![512, 0] S128x512.size inb_S1024x512_S128x512_512_0))) (kvz (View.ld x0 (Rect.unit ![512, 512] S128x512.size inb_S1024x1024_S128x512_512_512)) x2 x3)) (kdsb (View.ld x0 (Rect.unit ![640, 0] S128x512.size inb_S1024x1024_S128x512_640_0)) (View.ld x1 (Rect.unit ![640, 0] S128x512.size inb_S1024x512_S128x512_640_0))) (kvz (View.ld x0 (Rect.unit ![640, 512] S128x512.size inb_S1024x1024_S128x512_640_512)) x2 x3)) (kdsb (View.ld x0 (Rect.unit ![768, 0] S128x512.size inb_S1024x1024_S128x512_768_0)) (View.ld x1 (Rect.unit ![768, 0] S128x512.size inb_S1024x512_S128x512_768_0))) (kvz (View.ld x0 (Rect.unit ![768, 512] S128x512.size inb_S1024x1024_S128x512_768_512)) x2 x3)) (kdsb (View.ld x0 (Rect.unit ![896, 0] S128x512.size inb_S1024x1024_S128x512_896_0)) (View.ld x1 (Rect.unit ![896, 0] S128x512.size inb_S1024x512_S128x512_896_0))) (kvz (View.ld x0 (Rect.unit ![896, 512] S128x512.size inb_S1024x1024_S128x512_896_512)) x2 x3)
def bdw4 (acc : Vec Ideal S1x128x128 .f32) (x0 : Vec Ideal S1024x1024 .bf16) (x1 : Vec Ideal S1024x512 .f32) (x2 x3 : Vec Ideal S1x512 .f32) : FVec Ideal S1x128x128 .f32 :=
  kdw4 (kdw4 (kdw4 (kdw4 (kdw4 (kdw4 (kdw4 (kdw4 (acc) (kdsb (View.ld x0 (Rect.unit ![0, 0] S128x512.size inb_S1024x1024_S128x512_0_0)) (View.ld x1 (Rect.unit ![0, 0] S128x512.size inb_S1024x512_S128x512_0_0))) (kvz (View.ld x0 (Rect.unit ![0, 512] S128x512.size inb_S1024x1024_S128x512_0_512)) x2 x3)) (kdsb (View.ld x0 (Rect.unit ![128, 0] S128x512.size inb_S1024x1024_S128x512_128_0)) (View.ld x1 (Rect.unit ![128, 0] S128x512.size inb_S1024x512_S128x512_128_0))) (kvz (View.ld x0 (Rect.unit ![128, 512] S128x512.size inb_S1024x1024_S128x512_128_512)) x2 x3)) (kdsb (View.ld x0 (Rect.unit ![256, 0] S128x512.size inb_S1024x1024_S128x512_256_0)) (View.ld x1 (Rect.unit ![256, 0] S128x512.size inb_S1024x512_S128x512_256_0))) (kvz (View.ld x0 (Rect.unit ![256, 512] S128x512.size inb_S1024x1024_S128x512_256_512)) x2 x3)) (kdsb (View.ld x0 (Rect.unit ![384, 0] S128x512.size inb_S1024x1024_S128x512_384_0)) (View.ld x1 (Rect.unit ![384, 0] S128x512.size inb_S1024x512_S128x512_384_0))) (kvz (View.ld x0 (Rect.unit ![384, 512] S128x512.size inb_S1024x1024_S128x512_384_512)) x2 x3)) (kdsb (View.ld x0 (Rect.unit ![512, 0] S128x512.size inb_S1024x1024_S128x512_512_0)) (View.ld x1 (Rect.unit ![512, 0] S128x512.size inb_S1024x512_S128x512_512_0))) (kvz (View.ld x0 (Rect.unit ![512, 512] S128x512.size inb_S1024x1024_S128x512_512_512)) x2 x3)) (kdsb (View.ld x0 (Rect.unit ![640, 0] S128x512.size inb_S1024x1024_S128x512_640_0)) (View.ld x1 (Rect.unit ![640, 0] S128x512.size inb_S1024x512_S128x512_640_0))) (kvz (View.ld x0 (Rect.unit ![640, 512] S128x512.size inb_S1024x1024_S128x512_640_512)) x2 x3)) (kdsb (View.ld x0 (Rect.unit ![768, 0] S128x512.size inb_S1024x1024_S128x512_768_0)) (View.ld x1 (Rect.unit ![768, 0] S128x512.size inb_S1024x512_S128x512_768_0))) (kvz (View.ld x0 (Rect.unit ![768, 512] S128x512.size inb_S1024x1024_S128x512_768_512)) x2 x3)) (kdsb (View.ld x0 (Rect.unit ![896, 0] S128x512.size inb_S1024x1024_S128x512_896_0)) (View.ld x1 (Rect.unit ![896, 0] S128x512.size inb_S1024x512_S128x512_896_0))) (kvz (View.ld x0 (Rect.unit ![896, 512] S128x512.size inb_S1024x1024_S128x512_896_512)) x2 x3)
def bdw5 (acc : Vec Ideal S1x128x128 .f32) (x0 : Vec Ideal S1024x1024 .bf16) (x1 : Vec Ideal S1024x512 .f32) (x2 x3 : Vec Ideal S1x512 .f32) : FVec Ideal S1x128x128 .f32 :=
  kdw5 (kdw5 (kdw5 (kdw5 (kdw5 (kdw5 (kdw5 (kdw5 (acc) (kdsb (View.ld x0 (Rect.unit ![0, 0] S128x512.size inb_S1024x1024_S128x512_0_0)) (View.ld x1 (Rect.unit ![0, 0] S128x512.size inb_S1024x512_S128x512_0_0))) (kvz (View.ld x0 (Rect.unit ![0, 512] S128x512.size inb_S1024x1024_S128x512_0_512)) x2 x3)) (kdsb (View.ld x0 (Rect.unit ![128, 0] S128x512.size inb_S1024x1024_S128x512_128_0)) (View.ld x1 (Rect.unit ![128, 0] S128x512.size inb_S1024x512_S128x512_128_0))) (kvz (View.ld x0 (Rect.unit ![128, 512] S128x512.size inb_S1024x1024_S128x512_128_512)) x2 x3)) (kdsb (View.ld x0 (Rect.unit ![256, 0] S128x512.size inb_S1024x1024_S128x512_256_0)) (View.ld x1 (Rect.unit ![256, 0] S128x512.size inb_S1024x512_S128x512_256_0))) (kvz (View.ld x0 (Rect.unit ![256, 512] S128x512.size inb_S1024x1024_S128x512_256_512)) x2 x3)) (kdsb (View.ld x0 (Rect.unit ![384, 0] S128x512.size inb_S1024x1024_S128x512_384_0)) (View.ld x1 (Rect.unit ![384, 0] S128x512.size inb_S1024x512_S128x512_384_0))) (kvz (View.ld x0 (Rect.unit ![384, 512] S128x512.size inb_S1024x1024_S128x512_384_512)) x2 x3)) (kdsb (View.ld x0 (Rect.unit ![512, 0] S128x512.size inb_S1024x1024_S128x512_512_0)) (View.ld x1 (Rect.unit ![512, 0] S128x512.size inb_S1024x512_S128x512_512_0))) (kvz (View.ld x0 (Rect.unit ![512, 512] S128x512.size inb_S1024x1024_S128x512_512_512)) x2 x3)) (kdsb (View.ld x0 (Rect.unit ![640, 0] S128x512.size inb_S1024x1024_S128x512_640_0)) (View.ld x1 (Rect.unit ![640, 0] S128x512.size inb_S1024x512_S128x512_640_0))) (kvz (View.ld x0 (Rect.unit ![640, 512] S128x512.size inb_S1024x1024_S128x512_640_512)) x2 x3)) (kdsb (View.ld x0 (Rect.unit ![768, 0] S128x512.size inb_S1024x1024_S128x512_768_0)) (View.ld x1 (Rect.unit ![768, 0] S128x512.size inb_S1024x512_S128x512_768_0))) (kvz (View.ld x0 (Rect.unit ![768, 512] S128x512.size inb_S1024x1024_S128x512_768_512)) x2 x3)) (kdsb (View.ld x0 (Rect.unit ![896, 0] S128x512.size inb_S1024x1024_S128x512_896_0)) (View.ld x1 (Rect.unit ![896, 0] S128x512.size inb_S1024x512_S128x512_896_0))) (kvz (View.ld x0 (Rect.unit ![896, 512] S128x512.size inb_S1024x1024_S128x512_896_512)) x2 x3)
def bdw6 (acc : Vec Ideal S1x128x128 .f32) (x0 : Vec Ideal S1024x1024 .bf16) (x1 : Vec Ideal S1024x512 .f32) (x2 x3 : Vec Ideal S1x512 .f32) : FVec Ideal S1x128x128 .f32 :=
  kdw6 (kdw6 (kdw6 (kdw6 (kdw6 (kdw6 (kdw6 (kdw6 (acc) (kdsb (View.ld x0 (Rect.unit ![0, 0] S128x512.size inb_S1024x1024_S128x512_0_0)) (View.ld x1 (Rect.unit ![0, 0] S128x512.size inb_S1024x512_S128x512_0_0))) (kvz (View.ld x0 (Rect.unit ![0, 512] S128x512.size inb_S1024x1024_S128x512_0_512)) x2 x3)) (kdsb (View.ld x0 (Rect.unit ![128, 0] S128x512.size inb_S1024x1024_S128x512_128_0)) (View.ld x1 (Rect.unit ![128, 0] S128x512.size inb_S1024x512_S128x512_128_0))) (kvz (View.ld x0 (Rect.unit ![128, 512] S128x512.size inb_S1024x1024_S128x512_128_512)) x2 x3)) (kdsb (View.ld x0 (Rect.unit ![256, 0] S128x512.size inb_S1024x1024_S128x512_256_0)) (View.ld x1 (Rect.unit ![256, 0] S128x512.size inb_S1024x512_S128x512_256_0))) (kvz (View.ld x0 (Rect.unit ![256, 512] S128x512.size inb_S1024x1024_S128x512_256_512)) x2 x3)) (kdsb (View.ld x0 (Rect.unit ![384, 0] S128x512.size inb_S1024x1024_S128x512_384_0)) (View.ld x1 (Rect.unit ![384, 0] S128x512.size inb_S1024x512_S128x512_384_0))) (kvz (View.ld x0 (Rect.unit ![384, 512] S128x512.size inb_S1024x1024_S128x512_384_512)) x2 x3)) (kdsb (View.ld x0 (Rect.unit ![512, 0] S128x512.size inb_S1024x1024_S128x512_512_0)) (View.ld x1 (Rect.unit ![512, 0] S128x512.size inb_S1024x512_S128x512_512_0))) (kvz (View.ld x0 (Rect.unit ![512, 512] S128x512.size inb_S1024x1024_S128x512_512_512)) x2 x3)) (kdsb (View.ld x0 (Rect.unit ![640, 0] S128x512.size inb_S1024x1024_S128x512_640_0)) (View.ld x1 (Rect.unit ![640, 0] S128x512.size inb_S1024x512_S128x512_640_0))) (kvz (View.ld x0 (Rect.unit ![640, 512] S128x512.size inb_S1024x1024_S128x512_640_512)) x2 x3)) (kdsb (View.ld x0 (Rect.unit ![768, 0] S128x512.size inb_S1024x1024_S128x512_768_0)) (View.ld x1 (Rect.unit ![768, 0] S128x512.size inb_S1024x512_S128x512_768_0))) (kvz (View.ld x0 (Rect.unit ![768, 512] S128x512.size inb_S1024x1024_S128x512_768_512)) x2 x3)) (kdsb (View.ld x0 (Rect.unit ![896, 0] S128x512.size inb_S1024x1024_S128x512_896_0)) (View.ld x1 (Rect.unit ![896, 0] S128x512.size inb_S1024x512_S128x512_896_0))) (kvz (View.ld x0 (Rect.unit ![896, 512] S128x512.size inb_S1024x1024_S128x512_896_512)) x2 x3)
def bdw7 (acc : Vec Ideal S1x128x128 .f32) (x0 : Vec Ideal S1024x1024 .bf16) (x1 : Vec Ideal S1024x512 .f32) (x2 x3 : Vec Ideal S1x512 .f32) : FVec Ideal S1x128x128 .f32 :=
  kdw7 (kdw7 (kdw7 (kdw7 (kdw7 (kdw7 (kdw7 (kdw7 (acc) (kdsb (View.ld x0 (Rect.unit ![0, 0] S128x512.size inb_S1024x1024_S128x512_0_0)) (View.ld x1 (Rect.unit ![0, 0] S128x512.size inb_S1024x512_S128x512_0_0))) (kvz (View.ld x0 (Rect.unit ![0, 512] S128x512.size inb_S1024x1024_S128x512_0_512)) x2 x3)) (kdsb (View.ld x0 (Rect.unit ![128, 0] S128x512.size inb_S1024x1024_S128x512_128_0)) (View.ld x1 (Rect.unit ![128, 0] S128x512.size inb_S1024x512_S128x512_128_0))) (kvz (View.ld x0 (Rect.unit ![128, 512] S128x512.size inb_S1024x1024_S128x512_128_512)) x2 x3)) (kdsb (View.ld x0 (Rect.unit ![256, 0] S128x512.size inb_S1024x1024_S128x512_256_0)) (View.ld x1 (Rect.unit ![256, 0] S128x512.size inb_S1024x512_S128x512_256_0))) (kvz (View.ld x0 (Rect.unit ![256, 512] S128x512.size inb_S1024x1024_S128x512_256_512)) x2 x3)) (kdsb (View.ld x0 (Rect.unit ![384, 0] S128x512.size inb_S1024x1024_S128x512_384_0)) (View.ld x1 (Rect.unit ![384, 0] S128x512.size inb_S1024x512_S128x512_384_0))) (kvz (View.ld x0 (Rect.unit ![384, 512] S128x512.size inb_S1024x1024_S128x512_384_512)) x2 x3)) (kdsb (View.ld x0 (Rect.unit ![512, 0] S128x512.size inb_S1024x1024_S128x512_512_0)) (View.ld x1 (Rect.unit ![512, 0] S128x512.size inb_S1024x512_S128x512_512_0))) (kvz (View.ld x0 (Rect.unit ![512, 512] S128x512.size inb_S1024x1024_S128x512_512_512)) x2 x3)) (kdsb (View.ld x0 (Rect.unit ![640, 0] S128x512.size inb_S1024x1024_S128x512_640_0)) (View.ld x1 (Rect.unit ![640, 0] S128x512.size inb_S1024x512_S128x512_640_0))) (kvz (View.ld x0 (Rect.unit ![640, 512] S128x512.size inb_S1024x1024_S128x512_640_512)) x2 x3)) (kdsb (View.ld x0 (Rect.unit ![768, 0] S128x512.size inb_S1024x1024_S128x512_768_0)) (View.ld x1 (Rect.unit ![768, 0] S128x512.size inb_S1024x512_S128x512_768_0))) (kvz (View.ld x0 (Rect.unit ![768, 512] S128x512.size inb_S1024x1024_S128x512_768_512)) x2 x3)) (kdsb (View.ld x0 (Rect.unit ![896, 0] S128x512.size inb_S1024x1024_S128x512_896_0)) (View.ld x1 (Rect.unit ![896, 0] S128x512.size inb_S1024x512_S128x512_896_0))) (kvz (View.ld x0 (Rect.unit ![896, 512] S128x512.size inb_S1024x1024_S128x512_896_512)) x2 x3)

/-- Eight additions in turn are one of the sum. -/
theorem acc8 (a : EReal) (f : Fin 8 → ℝ) : a + (f 0 : EReal) + (f 1 : EReal) + (f 2 : EReal) + (f 3 : EReal) + (f 4 : EReal) + (f 5 : EReal) + (f 6 : EReal) + (f 7 : EReal)
    = a + ((∑ q, f q : ℝ) : EReal) := by
  rw [Fin.sum_univ_eight]
  simp only [EReal.coe_add, add_assoc]
section Full
variable {p : Par} {X : Fin 8 → Chk} {x0 : Vec Ideal S1024x1024 .bf16} {x1 : Vec Ideal S1024x512 .f32} {x2 x3 : Vec Ideal S1x512 .f32} {x4 x5 : Vec Ideal S8x128x128 .bf16} {x6 : Vec Ideal S128x512 .f32}
  (h : Full p X x0 x1 x2 x3 x4 x5 x6)
include h
theorem bdb_val (acc : Vec Ideal S128x512 .f32) (i : S128x512.Idx) : bdb acc x0 x1 i = acc i + ((∑ q, ds (X q) (i 0) (i 1) : ℝ) : EReal) := by
  unfold bdb
  rw [kdb_val h.c7, kdb_val h.c6, kdb_val h.c5, kdb_val h.c4, kdb_val h.c3, kdb_val h.c2, kdb_val h.c1, kdb_val h.c0]
  exact acc8 _ fun q => ds (X q) (i 0) (i 1)
theorem bdg_val (acc : Vec Ideal S1x512 .f32) (i : S1x512.Idx) : bdg acc x0 x1 x5 i = acc i + ((∑ q, ∑ t, dv p (X q) t (i 1) * xh (X q) t (i 1) : ℝ) : EReal) := by
  unfold bdg
  rw [kcol_val (fun t e => dv p (X 7) t e * xh (X 7) t e) _ _ (kdg_val h.c7), kcol_val (fun t e => dv p (X 6) t e * xh (X 6) t e) _ _ (kdg_val h.c6), kcol_val (fun t e => dv p (X 5) t e * xh (X 5) t e) _ _ (kdg_val h.c5), kcol_val (fun t e => dv p (X 4) t e * xh (X 4) t e) _ _ (kdg_val h.c4), kcol_val (fun t e => dv p (X 3) t e * xh (X 3) t e) _ _ (kdg_val h.c3), kcol_val (fun t e => dv p (X 2) t e * xh (X 2) t e) _ _ (kdg_val h.c2), kcol_val (fun t e => dv p (X 1) t e * xh (X 1) t e) _ _ (kdg_val h.c1), kcol_val (fun t e => dv p (X 0) t e * xh (X 0) t e) _ _ (kdg_val h.c0)]
  exact acc8 _ fun q => ∑ t, dv p (X q) t (i 1) * xh (X q) t (i 1)
theorem bde_val (acc : Vec Ideal S1x512 .f32) (i : S1x512.Idx) : bde acc x0 x1 x5 i = acc i + ((∑ q, ∑ t, dv p (X q) t (i 1) : ℝ) : EReal) := by
  unfold bde
  rw [kcol_val (dv p (X 7)) _ _ (kdv_val h.c7), kcol_val (dv p (X 6)) _ _ (kdv_val h.c6), kcol_val (dv p (X 5)) _ _ (kdv_val h.c5), kcol_val (dv p (X 4)) _ _ (kdv_val h.c4), kcol_val (dv p (X 3)) _ _ (kdv_val h.c3), kcol_val (dv p (X 2)) _ _ (kdv_val h.c2), kcol_val (dv p (X 1)) _ _ (kdv_val h.c1), kcol_val (dv p (X 0)) _ _ (kdv_val h.c0)]
  exact acc8 _ fun q => ∑ t, dv p (X q) t (i 1)
theorem bdw0_val (acc : Vec Ideal S1x128x128 .f32) (i : S1x128x128.Idx) : bdw0 acc x0 x1 x2 x3 i = acc i + ((∑ q, dw p (X q) 0 (i 1) (i 2) : ℝ) : EReal) := by
  unfold bdw0
  rw [kdw0_val _ _ _ _ _ (kdsb_val h.c7) (kvz_val h.c7), kdw0_val _ _ _ _ _ (kdsb_val h.c6) (kvz_val h.c6), kdw0_val _ _ _ _ _ (kdsb_val h.c5) (kvz_val h.c5), kdw0_val _ _ _ _ _ (kdsb_val h.c4) (kvz_val h.c4), kdw0_val _ _ _ _ _ (kdsb_val h.c3) (kvz_val h.c3), kdw0_val _ _ _ _ _ (kdsb_val h.c2) (kvz_val h.c2), kdw0_val _ _ _ _ _ (kdsb_val h.c1) (kvz_val h.c1), kdw0_val _ _ _ _ _ (kdsb_val h.c0) (kvz_val h.c0)]
  exact acc8 _ fun q => dw p (X q) 0 (i 1) (i 2)
theorem bdw1_val (acc : Vec Ideal S1x128x128 .f32) (i : S1x128x128.Idx) : bdw1 acc x0 x1 x2 x3 i = acc i + ((∑ q, dw p (X q) 1 (i 1) (i 2) : ℝ) : EReal) := by
  unfold bdw1
  rw [kdw1_val _ _ _ _ _ (kdsb_val h.c7) (kvz_val h.c7), kdw1_val _ _ _ _ _ (kdsb_val h.c6) (kvz_val h.c6), kdw1_val _ _ _ _ _ (kdsb_val h.c5) (kvz_val h.c5), kdw1_val _ _ _ _ _ (kdsb_val h.c4) (kvz_val h.c4), kdw1_val _ _ _ _ _ (kdsb_val h.c3) (kvz_val h.c3), kdw1_val _ _ _ _ _ (kdsb_val h.c2) (kvz_val h.c2), kdw1_val _ _ _ _ _ (kdsb_val h.c1) (kvz_val h.c1), kdw1_val _ _ _ _ _ (kdsb_val h.c0) (kvz_val h.c0)]
  exact acc8 _ fun q => dw p (X q) 1 (i 1) (i 2)
theorem bdw2_val (acc : Vec Ideal S1x128x128 .f32) (i : S1x128x128.Idx) : bdw2 acc x0 x1 x2 x3 i = acc i + ((∑ q, dw p (X q) 2 (i 1) (i 2) : ℝ) : EReal) := by
  unfold bdw2
  rw [kdw2_val _ _ _ _ _ (kdsb_val h.c7) (kvz_val h.c7), kdw2_val _ _ _ _ _ (kdsb_val h.c6) (kvz_val h.c6), kdw2_val _ _ _ _ _ (kdsb_val h.c5) (kvz_val h.c5), kdw2_val _ _ _ _ _ (kdsb_val h.c4) (kvz_val h.c4), kdw2_val _ _ _ _ _ (kdsb_val h.c3) (kvz_val h.c3), kdw2_val _ _ _ _ _ (kdsb_val h.c2) (kvz_val h.c2), kdw2_val _ _ _ _ _ (kdsb_val h.c1) (kvz_val h.c1), kdw2_val _ _ _ _ _ (kdsb_val h.c0) (kvz_val h.c0)]
  exact acc8 _ fun q => dw p (X q) 2 (i 1) (i 2)
theorem bdw3_val (acc : Vec Ideal S1x128x128 .f32) (i : S1x128x128.Idx) : bdw3 acc x0 x1 x2 x3 i = acc i + ((∑ q, dw p (X q) 3 (i 1) (i 2) : ℝ) : EReal) := by
  unfold bdw3
  rw [kdw3_val _ _ _ _ _ (kdsb_val h.c7) (kvz_val h.c7), kdw3_val _ _ _ _ _ (kdsb_val h.c6) (kvz_val h.c6), kdw3_val _ _ _ _ _ (kdsb_val h.c5) (kvz_val h.c5), kdw3_val _ _ _ _ _ (kdsb_val h.c4) (kvz_val h.c4), kdw3_val _ _ _ _ _ (kdsb_val h.c3) (kvz_val h.c3), kdw3_val _ _ _ _ _ (kdsb_val h.c2) (kvz_val h.c2), kdw3_val _ _ _ _ _ (kdsb_val h.c1) (kvz_val h.c1), kdw3_val _ _ _ _ _ (kdsb_val h.c0) (kvz_val h.c0)]
  exact acc8 _ fun q => dw p (X q) 3 (i 1) (i 2)
theorem bdw4_val (acc : Vec Ideal S1x128x128 .f32) (i : S1x128x128.Idx) : bdw4 acc x0 x1 x2 x3 i = acc i + ((∑ q, dw p (X q) 4 (i 1) (i 2) : ℝ) : EReal) := by
  unfold bdw4
  rw [kdw4_val _ _ _ _ _ (kdsb_val h.c7) (kvz_val h.c7), kdw4_val _ _ _ _ _ (kdsb_val h.c6) (kvz_val h.c6), kdw4_val _ _ _ _ _ (kdsb_val h.c5) (kvz_val h.c5), kdw4_val _ _ _ _ _ (kdsb_val h.c4) (kvz_val h.c4), kdw4_val _ _ _ _ _ (kdsb_val h.c3) (kvz_val h.c3), kdw4_val _ _ _ _ _ (kdsb_val h.c2) (kvz_val h.c2), kdw4_val _ _ _ _ _ (kdsb_val h.c1) (kvz_val h.c1), kdw4_val _ _ _ _ _ (kdsb_val h.c0) (kvz_val h.c0)]
  exact acc8 _ fun q => dw p (X q) 4 (i 1) (i 2)
theorem bdw5_val (acc : Vec Ideal S1x128x128 .f32) (i : S1x128x128.Idx) : bdw5 acc x0 x1 x2 x3 i = acc i + ((∑ q, dw p (X q) 5 (i 1) (i 2) : ℝ) : EReal) := by
  unfold bdw5
  rw [kdw5_val _ _ _ _ _ (kdsb_val h.c7) (kvz_val h.c7), kdw5_val _ _ _ _ _ (kdsb_val h.c6) (kvz_val h.c6), kdw5_val _ _ _ _ _ (kdsb_val h.c5) (kvz_val h.c5), kdw5_val _ _ _ _ _ (kdsb_val h.c4) (kvz_val h.c4), kdw5_val _ _ _ _ _ (kdsb_val h.c3) (kvz_val h.c3), kdw5_val _ _ _ _ _ (kdsb_val h.c2) (kvz_val h.c2), kdw5_val _ _ _ _ _ (kdsb_val h.c1) (kvz_val h.c1), kdw5_val _ _ _ _ _ (kdsb_val h.c0) (kvz_val h.c0)]
  exact acc8 _ fun q => dw p (X q) 5 (i 1) (i 2)
theorem bdw6_val (acc : Vec Ideal S1x128x128 .f32) (i : S1x128x128.Idx) : bdw6 acc x0 x1 x2 x3 i = acc i + ((∑ q, dw p (X q) 6 (i 1) (i 2) : ℝ) : EReal) := by
  unfold bdw6
  rw [kdw6_val _ _ _ _ _ (kdsb_val h.c7) (kvz_val h.c7), kdw6_val _ _ _ _ _ (kdsb_val h.c6) (kvz_val h.c6), kdw6_val _ _ _ _ _ (kdsb_val h.c5) (kvz_val h.c5), kdw6_val _ _ _ _ _ (kdsb_val h.c4) (kvz_val h.c4), kdw6_val _ _ _ _ _ (kdsb_val h.c3) (kvz_val h.c3), kdw6_val _ _ _ _ _ (kdsb_val h.c2) (kvz_val h.c2), kdw6_val _ _ _ _ _ (kdsb_val h.c1) (kvz_val h.c1), kdw6_val _ _ _ _ _ (kdsb_val h.c0) (kvz_val h.c0)]
  exact acc8 _ fun q => dw p (X q) 6 (i 1) (i 2)
theorem bdw7_val (acc : Vec Ideal S1x128x128 .f32) (i : S1x128x128.Idx) : bdw7 acc x0 x1 x2 x3 i = acc i + ((∑ q, dw p (X q) 7 (i 1) (i 2) : ℝ) : EReal) := by
  unfold bdw7
  rw [kdw7_val _ _ _ _ _ (kdsb_val h.c7) (kvz_val h.c7), kdw7_val _ _ _ _ _ (kdsb_val h.c6) (kvz_val h.c6), kdw7_val _ _ _ _ _ (kdsb_val h.c5) (kvz_val h.c5), kdw7_val _ _ _ _ _ (kdsb_val h.c4) (kvz_val h.c4), kdw7_val _ _ _ _ _ (kdsb_val h.c3) (kvz_val h.c3), kdw7_val _ _ _ _ _ (kdsb_val h.c2) (kvz_val h.c2), kdw7_val _ _ _ _ _ (kdsb_val h.c1) (kvz_val h.c1), kdw7_val _ _ _ _ _ (kdsb_val h.c0) (kvz_val h.c0)]
  exact acc8 _ fun q => dw p (X q) 7 (i 1) (i 2)
end Full

/-- The last eight stores of the heads' slices cover the buffer. -/
theorem canon_step {S : Shape} {e : EltTy} (q : View.Piece (Elt Ideal) S e) (L : List (View.Piece (Elt Ideal) S e)) (y : S.Idx) (v : Elt Ideal e)
    (h1 : ∀ x, q.1.emb x = y → q.2 x = v) (h2 : y ∉ q.1.set → View.canon L y = v) : View.canon (q :: L) y = v := by
  by_cases hm : y ∈ q.1.set
  · obtain ⟨x, rfl⟩ := q.1.exists_idx_of_mem hm
    rw [show q.1.idx x = q.1.emb x from rfl, View.canon_cons_emb]
    exact h1 x rfl
  · rw [View.canon_cons_of_not_mem _ _ hm]
    exact h2 hm

theorem head_step (h : ℕ) (inb : ∀ a, (![h, 0, 0] : Fin 3 → ℕ) a + S1x128x128.size a ≤ S8x128x128.size a) (w : Vec Ideal S1x128x128 .f32)
    (L : List (View.Piece (Elt Ideal) S8x128x128 .f32)) (y : S8x128x128.Idx) (v : EReal)
    (h1 : (y 0).val = h → w (ValueIdx.ix3 (0 : Fin 1) (y 1) (y 2)) = v) (h2 : (y 0).val ≠ h → View.canon L y = v) :
    View.canon ((⟨Rect.unit ![h, 0, 0] S1x128x128.size inb, w⟩ : View.Piece (Elt Ideal) S8x128x128 .f32) :: L) y = v := by
  have key : ∀ x : S1x128x128.Idx, ∀ a, ((Rect.unit (s := S8x128x128) ![h, 0, 0] S1x128x128.size inb).idx x a).val = (![h, 0, 0] : Fin 3 → ℕ) a + (x a).val :=
    fun x a => Rect.idx_unit_val ..
  refine canon_step _ L y v (fun x hx => ?_) fun hn => h2 fun h0 => hn ?_
  · have e0 := key x 0
    have e1 := key x 1
    have e2 := key x 2
    have hx' : (Rect.unit (s := S8x128x128) ![h, 0, 0] S1x128x128.size inb).idx x = y := hx
    rw [hx'] at e0 e1 e2
    have hx0 : (x 0).val < 1 := (x 0).isLt
    refine (congrArg w (funext fun a => ?_)).trans (h1 (e0.trans (show h + (x 0).val = h by omega)))
    fin_cases a
    · exact Fin.ext (show (x 0).val = 0 by omega)
    · exact Fin.ext (show (x 1).val = (y 1).val from (e1.trans (Nat.zero_add _)).symm)
    · exact Fin.ext (show (x 2).val = (y 2).val from (e2.trans (Nat.zero_add _)).symm)
  · refine (Rect.mem_set_unit (inb := inb)).mpr fun a => ?_
    have l1 : (y 1).val < 128 := (y 1).isLt
    have l2 : (y 2).val < 128 := (y 2).isLt
    fin_cases a
    · exact ⟨show h ≤ (y 0).val by omega, show (y 0).val < h + 1 by omega⟩
    · exact ⟨Nat.zero_le _, show (y 1).val < 0 + 128 by omega⟩
    · exact ⟨Nat.zero_le _, show (y 2).val < 0 + 128 by omega⟩

end Cert.Gmlp
end
-- ==== Proof.Gmlp.Reg.lean ====
/- The region's input blocks over real arrays. -/
module
public import proofs.«01_k».proof.Proof.Gen.Kernel2Ideal.Frame
public import proofs.«01_k».proof.Proof.Gmlp.Block
@[expose] public section
set_option maxRecDepth 16384
noncomputable section
namespace Cert.Gmlp
open Idealize.ShloMosaic Idealize.ShloMosaic.TcCoe Idealize.ShloMosaic.Tactic Idealize.SL.Sem Cert.Kernel2Ideal Cert.Kernel2Ideal.Gen Cert.RealNorm
open Idealize.ShloMosaic.Pipeline (Dat Cfg Window)
variable (m : (ℓ : Loc nD τ sig) → Buf (Elt Ideal) ℓ) (c : Dev nD) {D : Data}
theorem idx0 : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0, 0] ∧ win0_6.index t = ![0, 0] ∧ win0_7.index t = ![t.val, 0] :=
  (by decide +kernel : ∀ t : Fin grid0.N, _)
def lo5 (k : Fin 512) : Fin 1024 := ⟨k.val, by omega⟩
def hi5 (k : Fin 512) : Fin 1024 := ⟨512 + k.val, by omega⟩
/-- The chunk of a grid point. -/
def ct (t : Fin cfg0.N) (q : Fin 8) : Fin 32 := ⟨8 * t.val + q.val, by have : t.val < 4 := lt_of_lt_of_eq t.isLt (show cfg0.N = 4 from N_0); omega⟩
def rowb (t : Fin cfg0.N) (k : Fin 1024) : Fin 4096 := ⟨1024 * t.val + k.val, by have : t.val < 4 := lt_of_lt_of_eq t.isLt (show cfg0.N = 4 from N_0); omega⟩
/-- The arrays at the region's entry. -/
structure In (D : Data) : Prop where
  zu : ∀ r (e : Fin 512), V m c main_v2 (ValueIdx.ix2 r (lo5 e)) = ((D.zu r e : ℝ) : EReal)
  zv : ∀ r (e : Fin 512), V m c main_v2 (ValueIdx.ix2 r (hi5 e)) = ((D.zv r e : ℝ) : EReal)
  d : ∀ i, V m c main_v15 i = ((D.d (i 0) (i 1) : ℝ) : EReal)
  g : ∀ i, V m c main_arg2 i = ((D.gg (i 1) : ℝ) : EReal)
  b : ∀ i, V m c main_arg3 i = ((D.bb (i 1) : ℝ) : EReal)
  w : ∀ i, V m c main_v8 i = (((par D).W (i 0) (i 1) (i 2) : ℝ) : EReal)
  wt : ∀ i, V m c main_v10 i = (((par D).W (i 0) (i 2) (i 1) : ℝ) : EReal)
  bi : ∀ i, V m c main_v14 i = ((D.B (hd (i 1)) (i 0) : ℝ) : EReal)
section
variable (h : In m c D)
include h
theorem blk_zu0 (t : Fin cfg0.N) (i : S128x512.Idx) : View.ld (iblk m c 0 t) (Rect.unit ![0, 0] S128x512.size inb_S1024x1024_S128x512_0_0) i
    = (((chk D (ct t 0)).zu (i 0) (i 1) : ℝ) : EReal) := by
  have e : View.ld (iblk m c 0 t) (Rect.unit ![0, 0] S128x512.size inb_S1024x1024_S128x512_0_0) i
      = V m c main_v2 (ValueIdx.ix2 (rw32 (ct t 0) (i 0)) (lo5 (i 1))) := by
    pointwise
    blk_ext [iblk, rw32, ct, lo5, idx0 t]
  exact e.trans (h.zu _ _)
theorem blk_zv0 (t : Fin cfg0.N) (i : S128x512.Idx) : View.ld (iblk m c 0 t) (Rect.unit ![0, 512] S128x512.size inb_S1024x1024_S128x512_0_512) i
    = (((chk D (ct t 0)).zv (i 0) (i 1) : ℝ) : EReal) := by
  have e : View.ld (iblk m c 0 t) (Rect.unit ![0, 512] S128x512.size inb_S1024x1024_S128x512_0_512) i
      = V m c main_v2 (ValueIdx.ix2 (rw32 (ct t 0) (i 0)) (hi5 (i 1))) := by
    pointwise
    blk_ext [iblk, rw32, ct, hi5, idx0 t]
  exact e.trans (h.zv _ _)
theorem blk_d0 (t : Fin cfg0.N) (i : S128x512.Idx) : View.ld (iblk m c 1 t) (Rect.unit ![0, 0] S128x512.size inb_S1024x512_S128x512_0_0) i
    = (((chk D (ct t 0)).d (i 0) (i 1) : ℝ) : EReal) := by
  have e : View.ld (iblk m c 1 t) (Rect.unit ![0, 0] S128x512.size inb_S1024x512_S128x512_0_0) i
      = V m c main_v15 (ValueIdx.ix2 (rw32 (ct t 0) (i 0)) (i 1)) := by
    pointwise
    blk_ext [iblk, rw32, ct, idx0 t]
  exact e.trans (h.d _)
theorem blk_zu1 (t : Fin cfg0.N) (i : S128x512.Idx) : View.ld (iblk m c 0 t) (Rect.unit ![128, 0] S128x512.size inb_S1024x1024_S128x512_128_0) i
    = (((chk D (ct t 1)).zu (i 0) (i 1) : ℝ) : EReal) := by
  have e : View.ld (iblk m c 0 t) (Rect.unit ![128, 0] S128x512.size inb_S1024x1024_S128x512_128_0) i
      = V m c main_v2 (ValueIdx.ix2 (rw32 (ct t 1) (i 0)) (lo5 (i 1))) := by
    pointwise
    blk_ext [iblk, rw32, ct, lo5, idx0 t]
  exact e.trans (h.zu _ _)
theorem blk_zv1 (t : Fin cfg0.N) (i : S128x512.Idx) : View.ld (iblk m c 0 t) (Rect.unit ![128, 512] S128x512.size inb_S1024x1024_S128x512_128_512) i
    = (((chk D (ct t 1)).zv (i 0) (i 1) : ℝ) : EReal) := by
  have e : View.ld (iblk m c 0 t) (Rect.unit ![128, 512] S128x512.size inb_S1024x1024_S128x512_128_512) i
      = V m c main_v2 (ValueIdx.ix2 (rw32 (ct t 1) (i 0)) (hi5 (i 1))) := by
    pointwise
    blk_ext [iblk, rw32, ct, hi5, idx0 t]
  exact e.trans (h.zv _ _)
theorem blk_d1 (t : Fin cfg0.N) (i : S128x512.Idx) : View.ld (iblk m c 1 t) (Rect.unit ![128, 0] S128x512.size inb_S1024x512_S128x512_128_0) i
    = (((chk D (ct t 1)).d (i 0) (i 1) : ℝ) : EReal) := by
  have e : View.ld (iblk m c 1 t) (Rect.unit ![128, 0] S128x512.size inb_S1024x512_S128x512_128_0) i
      = V m c main_v15 (ValueIdx.ix2 (rw32 (ct t 1) (i 0)) (i 1)) := by
    pointwise
    blk_ext [iblk, rw32, ct, idx0 t]
  exact e.trans (h.d _)
theorem blk_zu2 (t : Fin cfg0.N) (i : S128x512.Idx) : View.ld (iblk m c 0 t) (Rect.unit ![256, 0] S128x512.size inb_S1024x1024_S128x512_256_0) i
    = (((chk D (ct t 2)).zu (i 0) (i 1) : ℝ) : EReal) := by
  have e : View.ld (iblk m c 0 t) (Rect.unit ![256, 0] S128x512.size inb_S1024x1024_S128x512_256_0) i
      = V m c main_v2 (ValueIdx.ix2 (rw32 (ct t 2) (i 0)) (lo5 (i 1))) := by
    pointwise
    blk_ext [iblk, rw32, ct, lo5, idx0 t]
  exact e.trans (h.zu _ _)
theorem blk_zv2 (t : Fin cfg0.N) (i : S128x512.Idx) : View.ld (iblk m c 0 t) (Rect.unit ![256, 512] S128x512.size inb_S1024x1024_S128x512_256_512) i
    = (((chk D (ct t 2)).zv (i 0) (i 1) : ℝ) : EReal) := by
  have e : View.ld (iblk m c 0 t) (Rect.unit ![256, 512] S128x512.size inb_S1024x1024_S128x512_256_512) i
      = V m c main_v2 (ValueIdx.ix2 (rw32 (ct t 2) (i 0)) (hi5 (i 1))) := by
    pointwise
    blk_ext [iblk, rw32, ct, hi5, idx0 t]
  exact e.trans (h.zv _ _)
theorem blk_d2 (t : Fin cfg0.N) (i : S128x512.Idx) : View.ld (iblk m c 1 t) (Rect.unit ![256, 0] S128x512.size inb_S1024x512_S128x512_256_0) i
    = (((chk D (ct t 2)).d (i 0) (i 1) : ℝ) : EReal) := by
  have e : View.ld (iblk m c 1 t) (Rect.unit ![256, 0] S128x512.size inb_S1024x512_S128x512_256_0) i
      = V m c main_v15 (ValueIdx.ix2 (rw32 (ct t 2) (i 0)) (i 1)) := by
    pointwise
    blk_ext [iblk, rw32, ct, idx0 t]
  exact e.trans (h.d _)
theorem blk_zu3 (t : Fin cfg0.N) (i : S128x512.Idx) : View.ld (iblk m c 0 t) (Rect.unit ![384, 0] S128x512.size inb_S1024x1024_S128x512_384_0) i
    = (((chk D (ct t 3)).zu (i 0) (i 1) : ℝ) : EReal) := by
  have e : View.ld (iblk m c 0 t) (Rect.unit ![384, 0] S128x512.size inb_S1024x1024_S128x512_384_0) i
      = V m c main_v2 (ValueIdx.ix2 (rw32 (ct t 3) (i 0)) (lo5 (i 1))) := by
    pointwise
    blk_ext [iblk, rw32, ct, lo5, idx0 t]
  exact e.trans (h.zu _ _)
theorem blk_zv3 (t : Fin cfg0.N) (i : S128x512.Idx) : View.ld (iblk m c 0 t) (Rect.unit ![384, 512] S128x512.size inb_S1024x1024_S128x512_384_512) i
    = (((chk D (ct t 3)).zv (i 0) (i 1) : ℝ) : EReal) := by
  have e : View.ld (iblk m c 0 t) (Rect.unit ![384, 512] S128x512.size inb_S1024x1024_S128x512_384_512) i
      = V m c main_v2 (ValueIdx.ix2 (rw32 (ct t 3) (i 0)) (hi5 (i 1))) := by
    pointwise
    blk_ext [iblk, rw32, ct, hi5, idx0 t]
  exact e.trans (h.zv _ _)
theorem blk_d3 (t : Fin cfg0.N) (i : S128x512.Idx) : View.ld (iblk m c 1 t) (Rect.unit ![384, 0] S128x512.size inb_S1024x512_S128x512_384_0) i
    = (((chk D (ct t 3)).d (i 0) (i 1) : ℝ) : EReal) := by
  have e : View.ld (iblk m c 1 t) (Rect.unit ![384, 0] S128x512.size inb_S1024x512_S128x512_384_0) i
      = V m c main_v15 (ValueIdx.ix2 (rw32 (ct t 3) (i 0)) (i 1)) := by
    pointwise
    blk_ext [iblk, rw32, ct, idx0 t]
  exact e.trans (h.d _)
theorem blk_zu4 (t : Fin cfg0.N) (i : S128x512.Idx) : View.ld (iblk m c 0 t) (Rect.unit ![512, 0] S128x512.size inb_S1024x1024_S128x512_512_0) i
    = (((chk D (ct t 4)).zu (i 0) (i 1) : ℝ) : EReal) := by
  have e : View.ld (iblk m c 0 t) (Rect.unit ![512, 0] S128x512.size inb_S1024x1024_S128x512_512_0) i
      = V m c main_v2 (ValueIdx.ix2 (rw32 (ct t 4) (i 0)) (lo5 (i 1))) := by
    pointwise
    blk_ext [iblk, rw32, ct, lo5, idx0 t]
  exact e.trans (h.zu _ _)
theorem blk_zv4 (t : Fin cfg0.N) (i : S128x512.Idx) : View.ld (iblk m c 0 t) (Rect.unit ![512, 512] S128x512.size inb_S1024x1024_S128x512_512_512) i
    = (((chk D (ct t 4)).zv (i 0) (i 1) : ℝ) : EReal) := by
  have e : View.ld (iblk m c 0 t) (Rect.unit ![512, 512] S128x512.size inb_S1024x1024_S128x512_512_512) i
      = V m c main_v2 (ValueIdx.ix2 (rw32 (ct t 4) (i 0)) (hi5 (i 1))) := by
    pointwise
    blk_ext [iblk, rw32, ct, hi5, idx0 t]
  exact e.trans (h.zv _ _)
theorem blk_d4 (t : Fin cfg0.N) (i : S128x512.Idx) : View.ld (iblk m c 1 t) (Rect.unit ![512, 0] S128x512.size inb_S1024x512_S128x512_512_0) i
    = (((chk D (ct t 4)).d (i 0) (i 1) : ℝ) : EReal) := by
  have e : View.ld (iblk m c 1 t) (Rect.unit ![512, 0] S128x512.size inb_S1024x512_S128x512_512_0) i
      = V m c main_v15 (ValueIdx.ix2 (rw32 (ct t 4) (i 0)) (i 1)) := by
    pointwise
    blk_ext [iblk, rw32, ct, idx0 t]
  exact e.trans (h.d _)
theorem blk_zu5 (t : Fin cfg0.N) (i : S128x512.Idx) : View.ld (iblk m c 0 t) (Rect.unit ![640, 0] S128x512.size inb_S1024x1024_S128x512_640_0) i
    = (((chk D (ct t 5)).zu (i 0) (i 1) : ℝ) : EReal) := by
  have e : View.ld (iblk m c 0 t) (Rect.unit ![640, 0] S128x512.size inb_S1024x1024_S128x512_640_0) i
      = V m c main_v2 (ValueIdx.ix2 (rw32 (ct t 5) (i 0)) (lo5 (i 1))) := by
    pointwise
    blk_ext [iblk, rw32, ct, lo5, idx0 t]
  exact e.trans (h.zu _ _)
theorem blk_zv5 (t : Fin cfg0.N) (i : S128x512.Idx) : View.ld (iblk m c 0 t) (Rect.unit ![640, 512] S128x512.size inb_S1024x1024_S128x512_640_512) i
    = (((chk D (ct t 5)).zv (i 0) (i 1) : ℝ) : EReal) := by
  have e : View.ld (iblk m c 0 t) (Rect.unit ![640, 512] S128x512.size inb_S1024x1024_S128x512_640_512) i
      = V m c main_v2 (ValueIdx.ix2 (rw32 (ct t 5) (i 0)) (hi5 (i 1))) := by
    pointwise
    blk_ext [iblk, rw32, ct, hi5, idx0 t]
  exact e.trans (h.zv _ _)
theorem blk_d5 (t : Fin cfg0.N) (i : S128x512.Idx) : View.ld (iblk m c 1 t) (Rect.unit ![640, 0] S128x512.size inb_S1024x512_S128x512_640_0) i
    = (((chk D (ct t 5)).d (i 0) (i 1) : ℝ) : EReal) := by
  have e : View.ld (iblk m c 1 t) (Rect.unit ![640, 0] S128x512.size inb_S1024x512_S128x512_640_0) i
      = V m c main_v15 (ValueIdx.ix2 (rw32 (ct t 5) (i 0)) (i 1)) := by
    pointwise
    blk_ext [iblk, rw32, ct, idx0 t]
  exact e.trans (h.d _)
theorem blk_zu6 (t : Fin cfg0.N) (i : S128x512.Idx) : View.ld (iblk m c 0 t) (Rect.unit ![768, 0] S128x512.size inb_S1024x1024_S128x512_768_0) i
    = (((chk D (ct t 6)).zu (i 0) (i 1) : ℝ) : EReal) := by
  have e : View.ld (iblk m c 0 t) (Rect.unit ![768, 0] S128x512.size inb_S1024x1024_S128x512_768_0) i
      = V m c main_v2 (ValueIdx.ix2 (rw32 (ct t 6) (i 0)) (lo5 (i 1))) := by
    pointwise
    blk_ext [iblk, rw32, ct, lo5, idx0 t]
  exact e.trans (h.zu _ _)
theorem blk_zv6 (t : Fin cfg0.N) (i : S128x512.Idx) : View.ld (iblk m c 0 t) (Rect.unit ![768, 512] S128x512.size inb_S1024x1024_S128x512_768_512) i
    = (((chk D (ct t 6)).zv (i 0) (i 1) : ℝ) : EReal) := by
  have e : View.ld (iblk m c 0 t) (Rect.unit ![768, 512] S128x512.size inb_S1024x1024_S128x512_768_512) i
      = V m c main_v2 (ValueIdx.ix2 (rw32 (ct t 6) (i 0)) (hi5 (i 1))) := by
    pointwise
    blk_ext [iblk, rw32, ct, hi5, idx0 t]
  exact e.trans (h.zv _ _)
theorem blk_d6 (t : Fin cfg0.N) (i : S128x512.Idx) : View.ld (iblk m c 1 t) (Rect.unit ![768, 0] S128x512.size inb_S1024x512_S128x512_768_0) i
    = (((chk D (ct t 6)).d (i 0) (i 1) : ℝ) : EReal) := by
  have e : View.ld (iblk m c 1 t) (Rect.unit ![768, 0] S128x512.size inb_S1024x512_S128x512_768_0) i
      = V m c main_v15 (ValueIdx.ix2 (rw32 (ct t 6) (i 0)) (i 1)) := by
    pointwise
    blk_ext [iblk, rw32, ct, idx0 t]
  exact e.trans (h.d _)
theorem blk_zu7 (t : Fin cfg0.N) (i : S128x512.Idx) : View.ld (iblk m c 0 t) (Rect.unit ![896, 0] S128x512.size inb_S1024x1024_S128x512_896_0) i
    = (((chk D (ct t 7)).zu (i 0) (i 1) : ℝ) : EReal) := by
  have e : View.ld (iblk m c 0 t) (Rect.unit ![896, 0] S128x512.size inb_S1024x1024_S128x512_896_0) i
      = V m c main_v2 (ValueIdx.ix2 (rw32 (ct t 7) (i 0)) (lo5 (i 1))) := by
    pointwise
    blk_ext [iblk, rw32, ct, lo5, idx0 t]
  exact e.trans (h.zu _ _)
theorem blk_zv7 (t : Fin cfg0.N) (i : S128x512.Idx) : View.ld (iblk m c 0 t) (Rect.unit ![896, 512] S128x512.size inb_S1024x1024_S128x512_896_512) i
    = (((chk D (ct t 7)).zv (i 0) (i 1) : ℝ) : EReal) := by
  have e : View.ld (iblk m c 0 t) (Rect.unit ![896, 512] S128x512.size inb_S1024x1024_S128x512_896_512) i
      = V m c main_v2 (ValueIdx.ix2 (rw32 (ct t 7) (i 0)) (hi5 (i 1))) := by
    pointwise
    blk_ext [iblk, rw32, ct, hi5, idx0 t]
  exact e.trans (h.zv _ _)
theorem blk_d7 (t : Fin cfg0.N) (i : S128x512.Idx) : View.ld (iblk m c 1 t) (Rect.unit ![896, 0] S128x512.size inb_S1024x512_S128x512_896_0) i
    = (((chk D (ct t 7)).d (i 0) (i 1) : ℝ) : EReal) := by
  have e : View.ld (iblk m c 1 t) (Rect.unit ![896, 0] S128x512.size inb_S1024x512_S128x512_896_0) i
      = V m c main_v15 (ValueIdx.ix2 (rw32 (ct t 7) (i 0)) (i 1)) := by
    pointwise
    blk_ext [iblk, rw32, ct, idx0 t]
  exact e.trans (h.d _)
theorem blk_g (t : Fin cfg0.N) (i : S1x512.Idx) : iblk m c 2 t i = (((par D).gg (i 1) : ℝ) : EReal) := by
  have e : iblk m c 2 t i = V m c main_arg2 (ValueIdx.ix2 (0 : Fin 1) (i 1)) := by blk_ext [iblk, idx0 t]
  exact e.trans (h.g _)
theorem blk_b (t : Fin cfg0.N) (i : S1x512.Idx) : iblk m c 3 t i = (((par D).bb (i 1) : ℝ) : EReal) := by
  have e : iblk m c 3 t i = V m c main_arg3 (ValueIdx.ix2 (0 : Fin 1) (i 1)) := by blk_ext [iblk, idx0 t]
  exact e.trans (h.b _)
theorem blk_w (t : Fin cfg0.N) (i : S8x128x128.Idx) : iblk m c 4 t i = (((par D).W (i 0) (i 1) (i 2) : ℝ) : EReal) := by
  have e : iblk m c 4 t i = V m c main_v8 (ValueIdx.ix3 (i 0) (i 1) (i 2)) := by blk_ext [iblk, idx0 t]
  exact e.trans (h.w _)
theorem blk_wt (t : Fin cfg0.N) (i : S8x128x128.Idx) : iblk m c 5 t i = (((par D).W (i 0) (i 2) (i 1) : ℝ) : EReal) := by
  have e : iblk m c 5 t i = V m c main_v10 (ValueIdx.ix3 (i 0) (i 1) (i 2)) := by blk_ext [iblk, idx0 t]
  exact e.trans (h.wt _)
theorem blk_bi (t : Fin cfg0.N) (i : S128x512.Idx) : iblk m c 6 t i = (((par D).B (hd (i 1)) (i 0) : ℝ) : EReal) := by
  have e : iblk m c 6 t i = V m c main_v14 (ValueIdx.ix2 (i 0) (i 1)) := by blk_ext [iblk, idx0 t]
  exact e.trans (h.bi _)
theorem full (t : Fin cfg0.N) : Full (par D) (fun q => chk D (ct t q)) (iblk m c 0 t) (iblk m c 1 t) (iblk m c 2 t) (iblk m c 3 t) (iblk m c 4 t) (iblk m c 5 t) (iblk m c 6 t) := by
  constructor
  · exact ⟨blk_zu0 m c h t, blk_zv0 m c h t, blk_d0 m c h t, blk_g m c h t, blk_b m c h t, blk_w m c h t, blk_wt m c h t, blk_bi m c h t⟩
  · exact ⟨blk_zu1 m c h t, blk_zv1 m c h t, blk_d1 m c h t, blk_g m c h t, blk_b m c h t, blk_w m c h t, blk_wt m c h t, blk_bi m c h t⟩
  · exact ⟨blk_zu2 m c h t, blk_zv2 m c h t, blk_d2 m c h t, blk_g m c h t, blk_b m c h t, blk_w m c h t, blk_wt m c h t, blk_bi m c h t⟩
  · exact ⟨blk_zu3 m c h t, blk_zv3 m c h t, blk_d3 m c h t, blk_g m c h t, blk_b m c h t, blk_w m c h t, blk_wt m c h t, blk_bi m c h t⟩
  · exact ⟨blk_zu4 m c h t, blk_zv4 m c h t, blk_d4 m c h t, blk_g m c h t, blk_b m c h t, blk_w m c h t, blk_wt m c h t, blk_bi m c h t⟩
  · exact ⟨blk_zu5 m c h t, blk_zv5 m c h t, blk_d5 m c h t, blk_g m c h t, blk_b m c h t, blk_w m c h t, blk_wt m c h t, blk_bi m c h t⟩
  · exact ⟨blk_zu6 m c h t, blk_zv6 m c h t, blk_d6 m c h t, blk_g m c h t, blk_b m c h t, blk_w m c h t, blk_wt m c h t, blk_bi m c h t⟩
  · exact ⟨blk_zu7 m c h t, blk_zv7 m c h t, blk_d7 m c h t, blk_g m c h t, blk_b m c h t, blk_w m c h t, blk_wt m c h t, blk_bi m c h t⟩
end
theorem dz_lo (D : Data) (t : Fin cfg0.N) (q : Fin 8) (x : S128x512.Idx) (y : S1024x1024.Idx) (h0 : (y 0).val = 128 * q.val + (x 0).val) (h1 : (y 1).val = (x 1).val) :
    ((dzu (par D) (chk D (ct t q)) (x 0) (x 1) : ℝ) : EReal) = ((D.dz (rowb t (y 0)) (y 1) : ℝ) : EReal) := by
  have hx : (x 0).val < 128 := (x 0).isLt
  have hx1 : (x 1).val < 512 := (x 1).isLt
  have hk : (y 1).val < 512 := by omega
  have e1 : cn (rowb t (y 0)) = ct t q := Fin.ext (show (1024 * t.val + (y 0).val) / 128 = 8 * t.val + q.val by omega)
  have e2 : cp (rowb t (y 0)) = x 0 := Fin.ext (show (1024 * t.val + (y 0).val) % 128 = (x 0).val by omega)
  unfold Data.dz
  rw [dif_pos hk, e1, e2, show (⟨(y 1).val, hk⟩ : Fin 512) = x 1 from Fin.ext h1]
theorem dz_hi (D : Data) (t : Fin cfg0.N) (q : Fin 8) (x : S128x512.Idx) (y : S1024x1024.Idx) (h0 : (y 0).val = 128 * q.val + (x 0).val) (h1 : (y 1).val = 512 + (x 1).val) :
    ((dzv (par D) (chk D (ct t q)) (x 0) (x 1) : ℝ) : EReal) = ((D.dz (rowb t (y 0)) (y 1) : ℝ) : EReal) := by
  have hx : (x 0).val < 128 := (x 0).isLt
  have hx1 : (x 1).val < 512 := (x 1).isLt
  have hk : ¬ (y 1).val < 512 := by omega
  have e1 : cn (rowb t (y 0)) = ct t q := Fin.ext (show (1024 * t.val + (y 0).val) / 128 = 8 * t.val + q.val by omega)
  have e2 : cp (rowb t (y 0)) = x 0 := Fin.ext (show (1024 * t.val + (y 0).val) % 128 = (x 0).val by omega)
  unfold Data.dz
  rw [dif_neg hk, e1, e2]
  exact congrArg (fun e : Fin 512 => ((dzv (par D) (chk D (ct t q)) (x 0) e : ℝ) : EReal)) (Fin.ext (show (x 1).val = (y 1).val - 512 by omega))

end Cert.Gmlp
end
-- ==== Proof.Gmlp.Reg7.lean ====
/- The region's first result: the two halves' gradients. -/
module
public import proofs.«01_k».proof.Proof.Gmlp.Reg
public import Idealize.ShloMosaic.Lib.Pipeline.ReadBack
@[expose] public section
set_option maxRecDepth 16384
noncomputable section
namespace Cert.Gmlp
open Idealize.ShloMosaic Idealize.ShloMosaic.TcCoe Idealize.ShloMosaic.Tactic Idealize.SL.Sem Cert.Kernel2Ideal Cert.Kernel2Ideal.Gen Cert.RealNorm
open Idealize.ShloMosaic.Pipeline (Dat Cfg Window)
variable (m : (ℓ : Loc nD τ sig) → Buf (Elt Ideal) ℓ) (c : Dev nD) {D : Data} (h : In m c D)
include h
theorem pt7 (t : Fin cfg0.N) (y : S1024x1024.Idx) : (outsAt0 m c t.val t.isLt).1 y = ((D.dz (rowb t (y 0)) (y 1) : ℝ) : EReal) := by
  by_cases h4 : t.val % 4 = 0
  · rw [outsAt0_A m c t h4]
    frame_out
    canon_tiles x hx
    all_goals (repeat rw [Memref.IsWhole.read_unread])
    · exact (kdzv_val (full m c h t).c7 x).trans (dz_hi D t 7 x y (by omega) (by omega))
    · exact (kdzu_val (full m c h t).c7 x).trans (dz_lo D t 7 x y (by omega) (by omega))
    · exact (kdzv_val (full m c h t).c6 x).trans (dz_hi D t 6 x y (by omega) (by omega))
    · exact (kdzu_val (full m c h t).c6 x).trans (dz_lo D t 6 x y (by omega) (by omega))
    · exact (kdzv_val (full m c h t).c5 x).trans (dz_hi D t 5 x y (by omega) (by omega))
    · exact (kdzu_val (full m c h t).c5 x).trans (dz_lo D t 5 x y (by omega) (by omega))
    · exact (kdzv_val (full m c h t).c4 x).trans (dz_hi D t 4 x y (by omega) (by omega))
    · exact (kdzu_val (full m c h t).c4 x).trans (dz_lo D t 4 x y (by omega) (by omega))
    · exact (kdzv_val (full m c h t).c3 x).trans (dz_hi D t 3 x y (by omega) (by omega))
    · exact (kdzu_val (full m c h t).c3 x).trans (dz_lo D t 3 x y (by omega) (by omega))
    · exact (kdzv_val (full m c h t).c2 x).trans (dz_hi D t 2 x y (by omega) (by omega))
    · exact (kdzu_val (full m c h t).c2 x).trans (dz_lo D t 2 x y (by omega) (by omega))
    · exact (kdzv_val (full m c h t).c1 x).trans (dz_hi D t 1 x y (by omega) (by omega))
    · exact (kdzu_val (full m c h t).c1 x).trans (dz_lo D t 1 x y (by omega) (by omega))
    · exact (kdzv_val (full m c h t).c0 x).trans (dz_hi D t 0 x y (by omega) (by omega))
    · exact (kdzu_val (full m c h t).c0 x).trans (dz_lo D t 0 x y (by omega) (by omega))
  · rw [outsAt0_B m c t h4]
    frame_out
    canon_tiles x hx
    all_goals (repeat rw [Memref.IsWhole.read_unread])
    · exact (kdzv_val (full m c h t).c7 x).trans (dz_hi D t 7 x y (by omega) (by omega))
    · exact (kdzu_val (full m c h t).c7 x).trans (dz_lo D t 7 x y (by omega) (by omega))
    · exact (kdzv_val (full m c h t).c6 x).trans (dz_hi D t 6 x y (by omega) (by omega))
    · exact (kdzu_val (full m c h t).c6 x).trans (dz_lo D t 6 x y (by omega) (by omega))
    · exact (kdzv_val (full m c h t).c5 x).trans (dz_hi D t 5 x y (by omega) (by omega))
    · exact (kdzu_val (full m c h t).c5 x).trans (dz_lo D t 5 x y (by omega) (by omega))
    · exact (kdzv_val (full m c h t).c4 x).trans (dz_hi D t 4 x y (by omega) (by omega))
    · exact (kdzu_val (full m c h t).c4 x).trans (dz_lo D t 4 x y (by omega) (by omega))
    · exact (kdzv_val (full m c h t).c3 x).trans (dz_hi D t 3 x y (by omega) (by omega))
    · exact (kdzu_val (full m c h t).c3 x).trans (dz_lo D t 3 x y (by omega) (by omega))
    · exact (kdzv_val (full m c h t).c2 x).trans (dz_hi D t 2 x y (by omega) (by omega))
    · exact (kdzu_val (full m c h t).c2 x).trans (dz_lo D t 2 x y (by omega) (by omega))
    · exact (kdzv_val (full m c h t).c1 x).trans (dz_hi D t 1 x y (by omega) (by omega))
    · exact (kdzu_val (full m c h t).c1 x).trans (dz_lo D t 1 x y (by omega) (by omega))
    · exact (kdzv_val (full m c h t).c0 x).trans (dz_hi D t 0 x y (by omega) (by omega))
    · exact (kdzu_val (full m c h t).c0 x).trans (dz_lo D t 0 x y (by omega) (by omega))
theorem final7 : (dats m 0 c).arrAt 7 cfg0.N = (show FVec Ideal S4096x1024 .bf16 from fun j => ((D.dz (j 0) (j 1) : ℝ) : EReal)) := by
  refine (dats m 0 c).arrAt_eq_of_covers 7 _ (by decide +kernel) fun t _ y => ?_
  have e : ((View.whole main_v16_0).slice (win0_7.rect t)).emb y = ValueIdx.ix2 (rowb t (y 0)) (y 1) := by blk_ext [rowb, idx0 t]
  blk_simp
  rw [after0_7, e]
  exact pt7 m c h t y

end Cert.Gmlp
end
-- ==== Proof.Gmlp.Reg8.lean ====
/- The region's second result: the mixing weights' gradient, summed over the chunks. -/
module
public import proofs.«01_k».proof.Proof.Gmlp.Reg
public import Idealize.ShloMosaic.Lib.Pipeline.ReadBack
@[expose] public section
set_option maxRecDepth 16384
noncomputable section
namespace Cert.Gmlp
open Idealize.ShloMosaic Idealize.ShloMosaic.TcCoe Idealize.ShloMosaic.Tactic Idealize.SL.Sem Cert.Kernel2Ideal Cert.Kernel2Ideal.Gen Cert.RealNorm
open Idealize.ShloMosaic.Pipeline (Dat Cfg Window)
variable (m : (ℓ : Loc nD τ sig) → Buf (Elt Ideal) ℓ) (c : Dev nD) {D : Data}
/-- A head's slice of an array over the heads, read at an entry of that head. -/
theorem ld_head (X : Vec Ideal S8x128x128 .f32) (h : ℕ) (inb : ∀ a, (![h, 0, 0] : Fin 3 → ℕ) a + S1x128x128.size a ≤ S8x128x128.size a) (j : S8x128x128.Idx) (e : (j 0).val = h) :
    View.ld X (Rect.unit ![h, 0, 0] S1x128x128.size inb) (ValueIdx.ix3 (0 : Fin 1) (j 1) (j 2)) = X j := by
  refine congrArg X (funext fun a => ?_)
  have key : ((Rect.unit (s := S8x128x128) ![h, 0, 0] S1x128x128.size inb).idx (ValueIdx.ix3 (0 : Fin 1) (j 1) (j 2)) a).val = (![h, 0, 0] : Fin 3 → ℕ) a + ((ValueIdx.ix3 (0 : Fin 1) (j 1) (j 2) : S1x128x128.Idx) a).val := Rect.idx_unit_val ..
  fin_cases a
  · exact Fin.ext (key.trans e.symm)
  · exact Fin.ext (key.trans (Nat.zero_add _))
  · exact Fin.ext (key.trans (Nat.zero_add _))
theorem head_eq {x H : Fin 8} (e : x = H) (f : Fin 8 → ℝ) {a b : EReal} (ab : a = b) : a + (f H : EReal) = b + (f x : EReal) := by subst e; rw [ab]
theorem pay2_val (j : S8x128x128.Idx) : k0_pay2 (F := Ideal) j = 0 := by pointwise [k0_pay2]
variable (h : In m c D)
include h
theorem pt8A (t : Fin cfg0.N) (h4 : t.val % 4 = 0) (j : S8x128x128.Idx) : (outsAt0 m c t.val t.isLt).2.1 j = 0 + ((∑ q, dw (par D) (chk D (ct t q)) (j 0) (j 1) (j 2) : ℝ) : EReal) := by
  rw [outsAt0_A m c t h4]
  frame_open
  simp (disch := decide) only [↓ View.readCov_skip, ↓ View.readCov_cons_toLoadRect, ↓ View.readCov_fill]
  frame_out
  repeat rw [Memref.IsWhole.read_unread]
  refine head_step 7 _ _ _ j _ (fun e => (bdw7_val (full m c h t) _ _).trans (head_eq (Fin.ext e) (fun H => ∑ q, dw (par D) (chk D (ct t q)) H (j 1) (j 2)) ((ld_head _ 7 _ j e).trans (pay2_val j)))) fun n7 => ?_
  refine head_step 6 _ _ _ j _ (fun e => (bdw6_val (full m c h t) _ _).trans (head_eq (Fin.ext e) (fun H => ∑ q, dw (par D) (chk D (ct t q)) H (j 1) (j 2)) ((ld_head _ 6 _ j e).trans (pay2_val j)))) fun n6 => ?_
  refine head_step 5 _ _ _ j _ (fun e => (bdw5_val (full m c h t) _ _).trans (head_eq (Fin.ext e) (fun H => ∑ q, dw (par D) (chk D (ct t q)) H (j 1) (j 2)) ((ld_head _ 5 _ j e).trans (pay2_val j)))) fun n5 => ?_
  refine head_step 4 _ _ _ j _ (fun e => (bdw4_val (full m c h t) _ _).trans (head_eq (Fin.ext e) (fun H => ∑ q, dw (par D) (chk D (ct t q)) H (j 1) (j 2)) ((ld_head _ 4 _ j e).trans (pay2_val j)))) fun n4 => ?_
  refine head_step 3 _ _ _ j _ (fun e => (bdw3_val (full m c h t) _ _).trans (head_eq (Fin.ext e) (fun H => ∑ q, dw (par D) (chk D (ct t q)) H (j 1) (j 2)) ((ld_head _ 3 _ j e).trans (pay2_val j)))) fun n3 => ?_
  refine head_step 2 _ _ _ j _ (fun e => (bdw2_val (full m c h t) _ _).trans (head_eq (Fin.ext e) (fun H => ∑ q, dw (par D) (chk D (ct t q)) H (j 1) (j 2)) ((ld_head _ 2 _ j e).trans (pay2_val j)))) fun n2 => ?_
  refine head_step 1 _ _ _ j _ (fun e => (bdw1_val (full m c h t) _ _).trans (head_eq (Fin.ext e) (fun H => ∑ q, dw (par D) (chk D (ct t q)) H (j 1) (j 2)) ((ld_head _ 1 _ j e).trans (pay2_val j)))) fun n1 => ?_
  refine head_step 0 _ _ _ j _ (fun e => (bdw0_val (full m c h t) _ _).trans (head_eq (Fin.ext e) (fun H => ∑ q, dw (par D) (chk D (ct t q)) H (j 1) (j 2)) ((ld_head _ 0 _ j e).trans (pay2_val j)))) fun n0 => ?_
  have := (j 0).isLt
  exact absurd (show (j 0).val < 8 from this) (by omega)
theorem pt8B (t : Fin cfg0.N) (h4 : ¬t.val % 4 = 0) (j : S8x128x128.Idx) : (outsAt0 m c t.val t.isLt).2.1 j = (outsAt0 m c (t.val - 1) (Nat.lt_of_le_of_lt (Nat.sub_le _ _) t.isLt)).2.1 j + ((∑ q, dw (par D) (chk D (ct t q)) (j 0) (j 1) (j 2) : ℝ) : EReal) := by
  rw [outsAt0_B m c t h4]
  frame_open
  simp (disch := decide) only [↓ View.readCov_skip, ↓ View.readCov_cons_toLoadRect, ↓ View.readCov_fill]
  frame_out
  repeat rw [Memref.IsWhole.read_unread]
  refine head_step 7 _ _ _ j _ (fun e => (bdw7_val (full m c h t) _ _).trans (head_eq (Fin.ext e) (fun H => ∑ q, dw (par D) (chk D (ct t q)) H (j 1) (j 2)) (ld_head _ 7 _ j e))) fun n7 => ?_
  refine head_step 6 _ _ _ j _ (fun e => (bdw6_val (full m c h t) _ _).trans (head_eq (Fin.ext e) (fun H => ∑ q, dw (par D) (chk D (ct t q)) H (j 1) (j 2)) (ld_head _ 6 _ j e))) fun n6 => ?_
  refine head_step 5 _ _ _ j _ (fun e => (bdw5_val (full m c h t) _ _).trans (head_eq (Fin.ext e) (fun H => ∑ q, dw (par D) (chk D (ct t q)) H (j 1) (j 2)) (ld_head _ 5 _ j e))) fun n5 => ?_
  refine head_step 4 _ _ _ j _ (fun e => (bdw4_val (full m c h t) _ _).trans (head_eq (Fin.ext e) (fun H => ∑ q, dw (par D) (chk D (ct t q)) H (j 1) (j 2)) (ld_head _ 4 _ j e))) fun n4 => ?_
  refine head_step 3 _ _ _ j _ (fun e => (bdw3_val (full m c h t) _ _).trans (head_eq (Fin.ext e) (fun H => ∑ q, dw (par D) (chk D (ct t q)) H (j 1) (j 2)) (ld_head _ 3 _ j e))) fun n3 => ?_
  refine head_step 2 _ _ _ j _ (fun e => (bdw2_val (full m c h t) _ _).trans (head_eq (Fin.ext e) (fun H => ∑ q, dw (par D) (chk D (ct t q)) H (j 1) (j 2)) (ld_head _ 2 _ j e))) fun n2 => ?_
  refine head_step 1 _ _ _ j _ (fun e => (bdw1_val (full m c h t) _ _).trans (head_eq (Fin.ext e) (fun H => ∑ q, dw (par D) (chk D (ct t q)) H (j 1) (j 2)) (ld_head _ 1 _ j e))) fun n1 => ?_
  refine head_step 0 _ _ _ j _ (fun e => (bdw0_val (full m c h t) _ _).trans (head_eq (Fin.ext e) (fun H => ∑ q, dw (par D) (chk D (ct t q)) H (j 1) (j 2)) (ld_head _ 0 _ j e))) fun n0 => ?_
  have := (j 0).isLt
  exact absurd (show (j 0).val < 8 from this) (by omega)
theorem final8 : (dats m 0 c).arrAt 8 cfg0.N = (show FVec Ideal S8x128x128 .f32 from fun j => ((D.dws (j 0) (j 1) (j 2) : ℝ) : EReal)) := by
  refine (dats m 0 c).arrAt_eq_of_after_last 8 t0_3 (by decide +kernel) _ fun j => ?_
  blk_simp
  rw [after0_8, Pipeline.eq_sum_fin_of_reset_step_apply_last (fun n hn => (outsAt0 m c n hn).2.1) 4 (fun _ => 0)
    (fun t j => ((∑ q, dw (par D) (chk D (ct t q)) (j 0) (j 1) (j 2) : ℝ) : EReal)) (pt8A m c h) (pt8B m c h) (le_of_eq N_0) t0_3 rfl j, zero_add]
  exact (sum_coe _).trans (congrArg _ (sum_c32 fun n => dw (par D) (chk D n) (j 0) (j 1) (j 2)))

end Cert.Gmlp
end
-- ==== Proof.Gmlp.Reg9.lean ====
/- The region's last three results: the bias's, the scale's and the shift's gradients, summed over the chunks. -/
module
public import proofs.«01_k».proof.Proof.Gmlp.Reg
public import Idealize.ShloMosaic.Lib.Pipeline.ReadBack
@[expose] public section
set_option maxRecDepth 16384
noncomputable section
namespace Cert.Gmlp
open Idealize.ShloMosaic Idealize.ShloMosaic.TcCoe Idealize.ShloMosaic.Tactic Idealize.SL.Sem Cert.Kernel2Ideal Cert.Kernel2Ideal.Gen Cert.RealNorm
open Idealize.ShloMosaic.Pipeline (Dat Cfg Window)
variable (m : (ℓ : Loc nD τ sig) → Buf (Elt Ideal) ℓ) (c : Dev nD) {D : Data}
theorem pay3_val (j : S128x512.Idx) : k0_pay3 (F := Ideal) j = 0 := by pointwise [k0_pay3]
theorem pay4_val (j : S1x512.Idx) : k0_pay4 (F := Ideal) j = 0 := by pointwise [k0_pay4]
theorem pay5_val (j : S1x512.Idx) : k0_pay5 (F := Ideal) j = 0 := by pointwise [k0_pay5]
variable (h : In m c D)
include h
theorem pt9A (t : Fin cfg0.N) (h4 : t.val % 4 = 0) (j : S128x512.Idx) : (outsAt0 m c t.val t.isLt).2.2.1 j = 0 + ((∑ q, ds (chk D (ct t q)) (j 0) (j 1) : ℝ) : EReal) := by
  rw [outsAt0_A m c t h4]
  frame_open
  simp (disch := decide) only [↓ View.readCov_skip, ↓ View.readCov_cons_toLoadRect, ↓ View.readCov_fill]
  frame_out
  repeat rw [Memref.IsWhole.read_unread]
  exact (bdb_val (full m c h t) _ j).trans (congrArg (· + _) (pay3_val j))
theorem pt9B (t : Fin cfg0.N) (h4 : ¬t.val % 4 = 0) (j : S128x512.Idx) : (outsAt0 m c t.val t.isLt).2.2.1 j = (outsAt0 m c (t.val - 1) (Nat.lt_of_le_of_lt (Nat.sub_le _ _) t.isLt)).2.2.1 j + ((∑ q, ds (chk D (ct t q)) (j 0) (j 1) : ℝ) : EReal) := by
  rw [outsAt0_B m c t h4]
  frame_open
  simp (disch := decide) only [↓ View.readCov_skip, ↓ View.readCov_cons_toLoadRect, ↓ View.readCov_fill]
  frame_out
  repeat rw [Memref.IsWhole.read_unread]
  exact (bdb_val (full m c h t) _ j)
theorem final9 : (dats m 0 c).arrAt 9 cfg0.N = (show FVec Ideal S128x512 .f32 from fun j => ((D.dbias (j 0) (j 1) : ℝ) : EReal)) := by
  refine (dats m 0 c).arrAt_eq_of_after_last 9 t0_3 (by decide +kernel) _ fun j => ?_
  blk_simp
  rw [after0_9, Pipeline.eq_sum_fin_of_reset_step_apply_last (fun n hn => (outsAt0 m c n hn).2.2.1) 4 (fun _ => 0)
    (fun t j => ((∑ q, ds (chk D (ct t q)) (j 0) (j 1) : ℝ) : EReal)) (pt9A m c h) (pt9B m c h) (le_of_eq N_0) t0_3 rfl j, zero_add]
  exact (sum_coe _).trans (congrArg _ (sum_c32 fun n => ds (chk D n) (j 0) (j 1)))
theorem pt10A (t : Fin cfg0.N) (h4 : t.val % 4 = 0) (j : S1x512.Idx) : (outsAt0 m c t.val t.isLt).2.2.2.1 j = 0 + ((∑ q, ∑ r, dv (par D) (chk D (ct t q)) r (j 1) * xh (chk D (ct t q)) r (j 1) : ℝ) : EReal) := by
  rw [outsAt0_A m c t h4]
  frame_open
  simp (disch := decide) only [↓ View.readCov_skip, ↓ View.readCov_cons_toLoadRect, ↓ View.readCov_fill]
  frame_out
  repeat rw [Memref.IsWhole.read_unread]
  exact (bdg_val (full m c h t) _ j).trans (congrArg (· + _) (pay4_val j))
theorem pt10B (t : Fin cfg0.N) (h4 : ¬t.val % 4 = 0) (j : S1x512.Idx) : (outsAt0 m c t.val t.isLt).2.2.2.1 j = (outsAt0 m c (t.val - 1) (Nat.lt_of_le_of_lt (Nat.sub_le _ _) t.isLt)).2.2.2.1 j + ((∑ q, ∑ r, dv (par D) (chk D (ct t q)) r (j 1) * xh (chk D (ct t q)) r (j 1) : ℝ) : EReal) := by
  rw [outsAt0_B m c t h4]
  frame_open
  simp (disch := decide) only [↓ View.readCov_skip, ↓ View.readCov_cons_toLoadRect, ↓ View.readCov_fill]
  frame_out
  repeat rw [Memref.IsWhole.read_unread]
  exact (bdg_val (full m c h t) _ j)
theorem final10 : (dats m 0 c).arrAt 10 cfg0.N = (show FVec Ideal S1x512 .f32 from fun j => ((D.dg (j 1) : ℝ) : EReal)) := by
  refine (dats m 0 c).arrAt_eq_of_after_last 10 t0_3 (by decide +kernel) _ fun j => ?_
  blk_simp
  rw [after0_10, Pipeline.eq_sum_fin_of_reset_step_apply_last (fun n hn => (outsAt0 m c n hn).2.2.2.1) 4 (fun _ => 0)
    (fun t j => ((∑ q, ∑ r, dv (par D) (chk D (ct t q)) r (j 1) * xh (chk D (ct t q)) r (j 1) : ℝ) : EReal)) (pt10A m c h) (pt10B m c h) (le_of_eq N_0) t0_3 rfl j, zero_add]
  exact (sum_coe _).trans (congrArg _ (sum_c32 fun n => ∑ r, dv (par D) (chk D n) r (j 1) * xh (chk D n) r (j 1)))
theorem pt11A (t : Fin cfg0.N) (h4 : t.val % 4 = 0) (j : S1x512.Idx) : (outsAt0 m c t.val t.isLt).2.2.2.2 j = 0 + ((∑ q, ∑ r, dv (par D) (chk D (ct t q)) r (j 1) : ℝ) : EReal) := by
  rw [outsAt0_A m c t h4]
  frame_open
  simp (disch := decide) only [↓ View.readCov_skip, ↓ View.readCov_cons_toLoadRect, ↓ View.readCov_fill]
  frame_out
  repeat rw [Memref.IsWhole.read_unread]
  exact (bde_val (full m c h t) _ j).trans (congrArg (· + _) (pay5_val j))
theorem pt11B (t : Fin cfg0.N) (h4 : ¬t.val % 4 = 0) (j : S1x512.Idx) : (outsAt0 m c t.val t.isLt).2.2.2.2 j = (outsAt0 m c (t.val - 1) (Nat.lt_of_le_of_lt (Nat.sub_le _ _) t.isLt)).2.2.2.2 j + ((∑ q, ∑ r, dv (par D) (chk D (ct t q)) r (j 1) : ℝ) : EReal) := by
  rw [outsAt0_B m c t h4]
  frame_open
  simp (disch := decide) only [↓ View.readCov_skip, ↓ View.readCov_cons_toLoadRect, ↓ View.readCov_fill]
  frame_out
  repeat rw [Memref.IsWhole.read_unread]
  exact (bde_val (full m c h t) _ j)
theorem final11 : (dats m 0 c).arrAt 11 cfg0.N = (show FVec Ideal S1x512 .f32 from fun j => ((D.db (j 1) : ℝ) : EReal)) := by
  refine (dats m 0 c).arrAt_eq_of_after_last 11 t0_3 (by decide +kernel) _ fun j => ?_
  blk_simp
  rw [after0_11, Pipeline.eq_sum_fin_of_reset_step_apply_last (fun n hn => (outsAt0 m c n hn).2.2.2.2) 4 (fun _ => 0)
    (fun t j => ((∑ q, ∑ r, dv (par D) (chk D (ct t q)) r (j 1) : ℝ) : EReal)) (pt11A m c h) (pt11B m c h) (le_of_eq N_0) t0_3 rfl j, zero_add]
  exact (sum_coe _).trans (congrArg _ (sum_c32 fun n => ∑ r, dv (par D) (chk D n) r (j 1)))

end Cert.Gmlp
end
-- ==== Proof.Gmlp.Entry.lean ====
/- The region's entry contents, from real arguments. -/
module
public import proofs.«01_k».proof.Proof.Finite
public import proofs.«01_k».proof.Proof.Gmlp.Reg
@[expose] public section
set_option maxRecDepth 16384
noncomputable section
namespace Cert.Gmlp
open Idealize.ShloMosaic Idealize.ShloMosaic.TcCoe Idealize.ShloMosaic.Tactic Idealize.SL.Sem Cert.Kernel2Ideal Cert.Kernel2Ideal.Gen Cert.RealNorm Cert.Finite
variable (m : (ℓ : Loc nD τ sig) → Buf (Elt Ideal) ℓ) (ρ : Dev nD → PrngReg) (c : Dev nD)
/-- The causal mask's choice, as the host writes it. -/
theorem sel_tri {α : Type} (n k : ℕ) (hn : n < 128) (hk : k < 128) (a b : α) :
    Scalar.select (Scalar.select (IntOp.cmpi .sge (IntOp.addi (BitVec.ofNat 32 n) 0#32) (BitVec.ofNat 32 k)) (1#1) (0#1)) a b = if k ≤ n then a else b := by
  rw [show IntOp.addi (BitVec.ofNat 32 n) 0#32 = BitVec.ofNat 32 n from BitVec.add_zero _, sel_low n k hn hk]
  by_cases h : k ≤ n
  · rw [if_pos h, if_pos h]; rfl
  · rw [if_neg h, if_neg h]; rfl
/-- The arguments are real arrays. -/
structure Args (D : Data) : Prop where
  zu : ∀ i, m (c.tc.loc main_arg0) i = ((D.zu (bl (i 0) (i 1)) (i 2) : ℝ) : EReal)
  zv : ∀ i, m (c.tc.loc main_arg1) i = ((D.zv (bl (i 0) (i 1)) (i 2) : ℝ) : EReal)
  g : ∀ i, m (c.tc.loc main_arg2) i = ((D.gg (i 1) : ℝ) : EReal)
  b : ∀ i, m (c.tc.loc main_arg3) i = ((D.bb (i 1) : ℝ) : EReal)
  w : ∀ i, m (c.tc.loc main_arg4) i = ((D.ws (i 1) (i 2) (i 3) : ℝ) : EReal)
  bi : ∀ i, m (c.tc.loc main_arg5) i = ((D.B (i 1) (i 2) : ℝ) : EReal)
  d : ∀ i, m (c.tc.loc main_arg6) i = ((D.d (bl (i 0) (i 1)) (i 2) : ℝ) : EReal)
theorem e_zu (r : Fin 4096) (e : Fin 512) : V m c main_v2 (ValueIdx.ix2 r (lo5 e)) = m (c.tc.loc main_arg0) (ValueIdx.ix3 (rb r) (rl r) e) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  pointwise
  rw [dif_pos (show ((ValueIdx.ix2 r (lo5 e) : S4096x1024.Idx) 1).val < 512 from e.isLt)]
  blk_ext [rb, rl, lo5]
theorem e_zv (r : Fin 4096) (e : Fin 512) : V m c main_v2 (ValueIdx.ix2 r (hi5 e)) = m (c.tc.loc main_arg1) (ValueIdx.ix3 (rb r) (rl r) e) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  pointwise
  rw [dif_neg (show ¬ ((ValueIdx.ix2 r (hi5 e) : S4096x1024.Idx) 1).val < 512 from Nat.not_lt.mpr (Nat.le_add_right 512 e.val))]
  blk_ext [rb, rl, hi5]
  exact Nat.add_sub_cancel_left 512 e.val
theorem e_d (i : S4096x512.Idx) : V m c main_v15 i = m (c.tc.loc main_arg6) (ValueIdx.ix3 (rb (i 0)) (rl (i 0)) (i 1)) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  pointwise
  blk_ext [rb, rl]
theorem e_bi (i : S128x512.Idx) : V m c main_v14 i = m (c.tc.loc main_arg5) (ValueIdx.ix3 0 (hd (i 1)) (i 0)) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  pointwise
  blk_ext [hd]
theorem cz : id (constant (F := Ideal) S_ .f32 0x00000000#32) ValueIdx.ix0 = (0 : EReal) := by
  show constant (F := Ideal) S_ .f32 0x00000000#32 ValueIdx.ix0 = (0 : EReal)
  pointwise
theorem e_w (i : S8x128x128.Idx) : V m c main_v8 i = if (i 2).val ≤ (i 1).val then m (c.tc.loc main_arg4) (ValueIdx.ix4 0 (i 0) (i 1) (i 2)) else (0 : EReal) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  simp only [StableHlo.TRef.ofBuf_toBuf]
  simp -implicitDefEqProofs only [StableHlo.TRef.toBuf, StableHlo.TRef.ofBuf, cast_cast, cast_eq]
  pointwise
  refine (sel_tri _ _ (i 1).isLt (i 2).isLt _ _).trans ?_
  exact congrArg (fun x : EReal => if (i 2).val ≤ (i 1).val then m (c.tc.loc main_arg4) (ValueIdx.ix4 0 (i 0) (i 1) (i 2)) else x) cz
theorem e_wt (i : S8x128x128.Idx) : V m c main_v10 i = if (i 1).val ≤ (i 2).val then m (c.tc.loc main_arg4) (ValueIdx.ix4 0 (i 0) (i 2) (i 1)) else (0 : EReal) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  simp only [StableHlo.TRef.ofBuf_toBuf]
  simp -implicitDefEqProofs only [StableHlo.TRef.toBuf, StableHlo.TRef.ofBuf, cast_cast, cast_eq]
  pointwise
  refine (sel_tri _ _ (i 2).isLt (i 1).isLt _ _).trans ?_
  exact congrArg (fun x : EReal => if (i 1).val ≤ (i 2).val then m (c.tc.loc main_arg4) (ValueIdx.ix4 0 (i 0) (i 2) (i 1)) else x) cz
theorem ite_coe {p : Prop} [Decidable p] (x : ℝ) : (if p then (x : EReal) else 0) = ((if p then x else 0 : ℝ) : EReal) := by split <;> rfl
/-- The region finds real arrays. -/
theorem entry {D : Data} (h : Args m c D) : In m c D := by
  constructor
  · exact fun r e => (e_zu m c r e).trans ((h.zu _).trans (congrArg (fun q => ((D.zu q e : ℝ) : EReal)) (bl_rb r)))
  · exact fun r e => (e_zv m c r e).trans ((h.zv _).trans (congrArg (fun q => ((D.zv q e : ℝ) : EReal)) (bl_rb r)))
  · exact fun i => (e_d m c i).trans ((h.d _).trans (congrArg (fun q => ((D.d q (i 1) : ℝ) : EReal)) (bl_rb (i 0))))
  · exact fun i => (congrFun (V_main_arg2 m c) i).trans (h.g i)
  · exact fun i => (congrFun (V_main_arg3 m c) i).trans (h.b i)
  · exact fun i => (e_w m c i).trans ((congrArg (fun x : EReal => if (i 2).val ≤ (i 1).val then x else 0) (h.w _)).trans (ite_coe _))
  · exact fun i => (e_wt m c i).trans ((congrArg (fun x : EReal => if (i 1).val ≤ (i 2).val then x else 0) (h.w _)).trans (ite_coe _))
  · exact fun i => (e_bi m c i).trans (h.bi _)
/-- The host's last line: the bias's gradient, each head's columns summed. -/
theorem tail_bs (X : FVec Ideal S128x512 .f32) (i : S8x128.Idx) :
    transpose S8x128 [1, 0] (Host.reduceAdd (shapeCast _ X shapeCasts_S128x512_S128x8x64) (constant S_ .f32 0x00000000#32) reducesTo_S128x8x64_S128x8_d2 h_S_) transposes_S128x8_S8x128_1_0 i
    = ∑ e, X (ValueIdx.ix2 (i 1) (hc (i 0) e)) := by
  pointwise
  refine Finset.sum_congr rfl fun e _ => congrArg X ?_
  blk_ext [hc]

end Cert.Gmlp
end
-- ==== Proof.Gmlp.Rows.lean ====
/- The unit's values row by row over all rows, and the reference's spellings of them. -/
module
public import proofs.«01_k».proof.Proof.Gmlp.Model
public import proofs.«01_k».proof.Proof.Finite
@[expose] public section
set_option maxRecDepth 16384
noncomputable section
namespace Cert.Gmlp
open Cert.RealNorm Cert.Finite

/-- A chunk by its batch and place there, and its rows. -/
def c2 (p : Fin 2) (q : Fin 16) : Fin 32 := ⟨16 * p.val + q.val, by omega⟩
def row5 (p : Fin 2) (q : Fin 16) (k : Fin 128) : Fin 4096 := rw32 (c2 p q) k
theorem rw_cn (r : Fin 4096) : rw32 (cn r) (cp r) = r := Fin.ext (show 128 * (r.val / 128) + r.val % 128 = r.val by omega)
theorem cn_rw (n : Fin 32) (k : Fin 128) : cn (rw32 n k) = n := Fin.ext (show (128 * n.val + k.val) / 128 = n.val by omega)
theorem cp_rw (n : Fin 32) (k : Fin 128) : cp (rw32 n k) = k := Fin.ext (show (128 * n.val + k.val) % 128 = k.val by omega)
theorem sum_c2 (f : Fin 32 → ℝ) : ∑ p, ∑ q, f (c2 p q) = ∑ n, f n := by
  rw [← Fintype.sum_prod_type' fun p q => f (c2 p q)]
  refine Fintype.sum_equiv ⟨fun x => c2 x.1 x.2, fun n => (⟨n.val / 16, by omega⟩, ⟨n.val % 16, by omega⟩), fun x => ?_, fun n => ?_⟩ _ _ fun x => rfl
  · exact Prod.ext (Fin.ext (show (16 * x.1.val + x.2.val) / 16 = x.1.val by omega)) (Fin.ext (show (16 * x.1.val + x.2.val) % 16 = x.2.val by omega))
  · exact Fin.ext (show 16 * (n.val / 16) + n.val % 16 = n.val by omega)
theorem sum_rw (f : Fin 4096 → ℝ) : ∑ n, ∑ k, f (rw32 n k) = ∑ r, f r := by
  rw [← Fintype.sum_prod_type' fun n k => f (rw32 n k)]
  exact Fintype.sum_equiv ⟨fun x : Fin 32 × Fin 128 => rw32 x.1 x.2, fun r => (cn r, cp r), fun x => Prod.ext (cn_rw _ _) (cp_rw _ _), fun r => rw_cn r⟩ _ _ fun x => rfl
variable (D : Data)
/-- Gelu of a row, the norm's output, the spatial unit's gradient and value, its gradient in the norm and before it. -/
def gvr (r : Fin 4096) (e : Fin 512) : ℝ := gel (D.zv r e)
def vvr (r : Fin 4096) (e : Fin 512) : ℝ := xhat 512 (gvr D r) e * D.gg e + D.bb e
def dsr (r : Fin 4096) (e : Fin 512) : ℝ := D.d r e * gel (D.zu r e)
def ssr (r : Fin 4096) (e : Fin 512) : ℝ := ss (par D) (chk D (cn r)) (cp r) e
def dvr (r : Fin 4096) (e : Fin 512) : ℝ := dv (par D) (chk D (cn r)) (cp r) e
def dgr (r : Fin 4096) : Fin 512 → ℝ := normGrad 512 (fun e => dvr D r e * D.gg e) (xhat 512 (gvr D r)) (rstd 512 (gvr D r))
theorem dgr_eq (r : Fin 4096) (e : Fin 512) : dgv (par D) (chk D (cn r)) (cp r) e = dgr D r e := by
  have h : gv (chk D (cn r)) (cp r) = gvr D r := congrArg (gvr D) (rw_cn r)
  show normGrad 512 _ (xhat 512 (gv (chk D (cn r)) (cp r))) (rstd 512 (gv (chk D (cn r)) (cp r))) e = _
  rw [h]; rfl

section Place
variable (a : Fin 2) (l : Fin 2048) (e : Fin 512) (n : Fin 16) (t : Fin 128) (h : Fin 8) (q : Fin 64)
  (hn : n.val = l.val / 128) (ht : t.val = l.val % 128) (hh : h.val = e.val / 64) (hq : q.val = e.val % 64)
include hh hq in
theorem hc_hd : hc h q = e := Fin.ext (show 64 * h.val + q.val = e.val by omega)
include hn in
theorem c2_cn : c2 a n = cn (bl a l) := Fin.ext (show 16 * a.val + n.val = (a.val * 2048 + l.val) / 128 by omega)
include hn ht hh hq
theorem ss_row : (∑ x, vvr D (row5 a n x) (hc h q) * (par D).W h t x) + D.B h t = ssr D (bl a l) e := by
  have e1 := hc_hd e h q hh hq
  have e2 := c2_cn a l n hn
  have e3 : t = cp (bl a l) := Fin.ext (show t.val = (a.val * 2048 + l.val) % 128 by omega)
  have e4 : h = hd e := Fin.ext hh
  unfold row5
  rw [e1, e2, e3, e4]
  exact congrArg (· + _) (Finset.sum_congr rfl fun x _ => mul_comm _ _)
theorem dv_row : ∑ x, dsr D (row5 a n x) (hc h q) * (par D).W h x t = dvr D (bl a l) e := by
  have e1 := hc_hd e h q hh hq
  have e2 := c2_cn a l n hn
  have e3 : t = cp (bl a l) := Fin.ext (show t.val = (a.val * 2048 + l.val) % 128 by omega)
  have e4 : h = hd e := Fin.ext hh
  unfold row5
  rw [e1, e2, e3, e4]
  exact Finset.sum_congr rfl fun x _ => mul_comm _ _
end Place

/-- Gelu and its gradient as the chain rule writes them. -/
theorem gth_ref (x : ℝ) : Real.tanh (k0 * (x + c3 * (x * x * x))) = gth x := by
  unfold gth; congr 1; ring
theorem gel_ref (x : ℝ) : x * (1 / 2 * (1 + gth x)) = gel x := by unfold gel; ring
theorem geld_ref (x g : ℝ) : g * (1 / 2 * (1 + gth x)) + k0 * (1 / 2 * (x * g) * ((1 + gth x) * (1 - gth x)))
    + c3 * (k0 * (1 / 2 * (x * g) * ((1 + gth x) * (1 - gth x)))) * (3 * (x * x)) = g * geld x := by
  unfold geld c3; ring
/-- The sums over batches, chunks and rows. -/
theorem dws_ref (h : Fin 8) (t k : Fin 128) : (if k.val ≤ t.val then ∑ p, ∑ q, ∑ e, dsr D (row5 p q t) (hc h e) * vvr D (row5 p q k) (hc h e) else 0) = D.dws h t k := by
  unfold Data.dws dw
  split_ifs with hk
  · exact sum_c2 fun n => ∑ e, dsr D (rw32 n t) (hc h e) * vvr D (rw32 n k) (hc h e)
  · exact Finset.sum_const_zero.symm
theorem dbias_ref (h : Fin 8) (t : Fin 128) : ∑ p, ∑ q, ∑ e, dsr D (row5 p q t) (hc h e) = ∑ e, D.dbias t (hc h e) := by
  unfold Data.dbias
  exact (sum_c2 fun n => ∑ e, dsr D (rw32 n t) (hc h e)).trans Finset.sum_comm
theorem db_ref (e : Fin 512) : ∑ b, ∑ l, dvr D (bl b l) e = D.db e := by
  rw [sum_bl fun r => dvr D r e, ← sum_rw fun r => dvr D r e]
  refine Finset.sum_congr rfl fun n _ => Finset.sum_congr rfl fun k _ => ?_
  unfold dvr; rw [cn_rw, cp_rw]
theorem dg_ref (e : Fin 512) : ∑ b, ∑ l, xhat 512 (gvr D (bl b l)) e * dvr D (bl b l) e = D.dg e := by
  rw [sum_bl fun r => xhat 512 (gvr D r) e * dvr D r e, ← sum_rw fun r => xhat 512 (gvr D r) e * dvr D r e]
  refine Finset.sum_congr rfl fun n _ => Finset.sum_congr rfl fun k _ => ?_
  unfold dvr; rw [cn_rw, cp_rw, mul_comm]; rfl

end Cert.Gmlp
end
-- ==== Proof.Gmlp.Ref.lean ====
/- The reference's values from real arguments, row by row. -/
module
public import proofs.«01_k».proof.Proof.Gen.Reference2Ideal.Run
public import proofs.«01_k».proof.Proof.Gmlp.Rows
public import proofs.«01_k».proof.Proof.Gmlp.Entry
public import Idealize.ShloMosaic.Lib.Pipeline.ValueKit
public import Idealize.ShloMosaic.Lib.Pointwise
@[expose] public section
set_option maxRecDepth 16384
noncomputable section
namespace Cert.Gmlp.Ref
open Idealize.ShloMosaic Idealize.ShloMosaic.TcCoe Idealize.ShloMosaic.Tactic Idealize.SL.Sem Cert.Reference2Ideal Cert.Reference2Ideal.Gen Cert.Reference2Ideal.Value Cert.RealNorm Cert.Finite

variable (V0 : Valuation τ sig (Elt Ideal)) {D : Data}
theorem lit_three : Ideal.ofBits .f32 0x40400000#32 = ((3 : ℝ) : EReal) := by
  simp [Ideal.ofBits, Ideal.ieee, -EReal.coe_mul, -EReal.coe_neg]; norm_num
theorem lit_cn : Ideal.ofBits .f32 0x472EAB00#32 = ((44715 : ℝ) : EReal) := by
  simp [Ideal.ofBits, Ideal.ieee, -EReal.coe_mul, -EReal.coe_neg]; norm_num
theorem lit_cd : Ideal.ofBits .f32 0x49742400#32 = ((1000000 : ℝ) : EReal) := by
  simp [Ideal.ofBits, Ideal.ieee, -EReal.coe_mul, -EReal.coe_neg]; norm_num
theorem cubic : Ideal.div (Ideal.ofBits .f32 0x472EAB00#32) (Ideal.ofBits .f32 0x49742400#32) = ((c3 : ℝ) : EReal) := by
  rw [lit_cn, lit_cd, div_real _ _ (by norm_num)]
  exact congrArg _ (by unfold c3; norm_num)

/-- The arguments are real arrays. -/
structure Args (D : Data) : Prop where
  zu : ∀ i, V0 (Proc.devRef .tc main_arg0) i = ((D.zu (bl (i 0) (i 1)) (i 2) : ℝ) : EReal)
  zv : ∀ i, V0 (Proc.devRef .tc main_arg1) i = ((D.zv (bl (i 0) (i 1)) (i 2) : ℝ) : EReal)
  g : ∀ i, V0 (Proc.devRef .tc main_arg2) i = ((D.gg (i 1) : ℝ) : EReal)
  b : ∀ i, V0 (Proc.devRef .tc main_arg3) i = ((D.bb (i 1) : ℝ) : EReal)
  w : ∀ i, V0 (Proc.devRef .tc main_arg4) i = ((D.ws (i 1) (i 2) (i 3) : ℝ) : EReal)
  bi : ∀ i, V0 (Proc.devRef .tc main_arg5) i = ((D.B (i 1) (i 2) : ℝ) : EReal)
  d : ∀ i, V0 (Proc.devRef .tc main_arg6) i = ((D.d (bl (i 0) (i 1)) (i 2) : ℝ) : EReal)

variable (h : Args V0 D)
include h
theorem v4 (i) : res_main_v4 V0 i = ((c3 : ℝ) : EReal) := by
  pointwise [res_main_v4]
  exact cubic
theorem v26 (i) : res_main_v26 V0 i = ((c3 : ℝ) : EReal) := by
  pointwise [res_main_v26]
  exact cubic
theorem v15 (i) : res_main_v15 V0 i = ((gth (D.zu (bl (i 0) (i 1)) (i 2)) : ℝ) : EReal) := by
  pointwise [res_main_v15]
  simp only [h.zu, v4 V0 h, lit_k0, Ideal.tanh_coe, ← EReal.coe_one, ← EReal.coe_neg, ← EReal.coe_mul, ← EReal.coe_add, ← EReal.coe_sub, sum_coe, div_real _ 512 (by norm_num)]
  exact congrArg _ (gth_ref _)
theorem v24 (i) : res_main_v24 V0 i = ((1 / 2 * (1 + gth (D.zu (bl (i 0) (i 1)) (i 2))) : ℝ) : EReal) := by
  pointwise [res_main_v24]
  simp only [v15 V0 h, lit_half, ← EReal.coe_one, ← EReal.coe_neg, ← EReal.coe_mul, ← EReal.coe_add, ← EReal.coe_sub, sum_coe, div_real _ 512 (by norm_num)]
  try rfl
theorem v25 (i) : res_main_v25 V0 i = ((gel (D.zu (bl (i 0) (i 1)) (i 2)) : ℝ) : EReal) := by
  pointwise [res_main_v25]
  simp only [v24 V0 h, h.zu, ← EReal.coe_one, ← EReal.coe_neg, ← EReal.coe_mul, ← EReal.coe_add, ← EReal.coe_sub, sum_coe, div_real _ 512 (by norm_num)]
  exact congrArg _ (gel_ref _)
theorem v37 (i) : res_main_v37 V0 i = ((gth (D.zv (bl (i 0) (i 1)) (i 2)) : ℝ) : EReal) := by
  pointwise [res_main_v37]
  simp only [h.zv, v26 V0 h, lit_k0, Ideal.tanh_coe, ← EReal.coe_one, ← EReal.coe_neg, ← EReal.coe_mul, ← EReal.coe_add, ← EReal.coe_sub, sum_coe, div_real _ 512 (by norm_num)]
  exact congrArg _ (gth_ref _)
theorem v46 (i) : res_main_v46 V0 i = ((1 / 2 * (1 + gth (D.zv (bl (i 0) (i 1)) (i 2))) : ℝ) : EReal) := by
  pointwise [res_main_v46]
  simp only [v37 V0 h, lit_half, ← EReal.coe_one, ← EReal.coe_neg, ← EReal.coe_mul, ← EReal.coe_add, ← EReal.coe_sub, sum_coe, div_real _ 512 (by norm_num)]
  try rfl
theorem v47 (i) : res_main_v47 V0 i = ((gvr D (bl (i 0) (i 1)) (i 2) : ℝ) : EReal) := by
  pointwise [res_main_v47]
  simp only [v46 V0 h, h.zv, ← EReal.coe_one, ← EReal.coe_neg, ← EReal.coe_mul, ← EReal.coe_add, ← EReal.coe_sub, sum_coe, div_real _ 512 (by norm_num)]
  exact congrArg _ (gel_ref _)
theorem v51 (i) : res_main_v51 V0 i = ((mean 512 (gvr D (bl (i 0) (i 1))) : ℝ) : EReal) := by
  pointwise [res_main_v51]
  simp only [v47 V0 h, lit_512, ← EReal.coe_one, ← EReal.coe_neg, ← EReal.coe_mul, ← EReal.coe_add, ← EReal.coe_sub, sum_coe, div_real _ 512 (by norm_num)]
  try rfl
theorem v53 (i) : res_main_v53 V0 i = ((cen 512 (gvr D (bl (i 0) (i 1))) (i 2) : ℝ) : EReal) := by
  pointwise [res_main_v53]
  simp only [v47 V0 h, v51 V0 h, ← EReal.coe_one, ← EReal.coe_neg, ← EReal.coe_mul, ← EReal.coe_add, ← EReal.coe_sub, sum_coe, div_real _ 512 (by norm_num)]
  try rfl
theorem v62 (i) : res_main_v62 V0 i = ((vare 512 (gvr D (bl (i 0) (i 1))) : ℝ) : EReal) := by
  pointwise [res_main_v62]
  simp only [v53 V0 h, lit_512, lit_eps, ← EReal.coe_one, ← EReal.coe_neg, ← EReal.coe_mul, ← EReal.coe_add, ← EReal.coe_sub, sum_coe, div_real _ 512 (by norm_num)]
  try rfl
theorem v63 (i) : res_main_v63 V0 i = ((rstd 512 (gvr D (bl (i 0) (i 1))) : ℝ) : EReal) := by
  pointwise [res_main_v63]
  rw [v62 V0 h, rsqrt_real _ (vare_pos (by norm_num) _)]
  rfl
theorem v68 (i) : res_main_v68 V0 i = ((cen 512 (gvr D (bl (i 0) (i 1))) (i 2) : ℝ) : EReal) := by
  pointwise [res_main_v68]
  simp only [v47 V0 h, v51 V0 h, ← EReal.coe_one, ← EReal.coe_neg, ← EReal.coe_mul, ← EReal.coe_add, ← EReal.coe_sub, sum_coe, div_real _ 512 (by norm_num)]
  try rfl
theorem v70 (i) : res_main_v70 V0 i = ((xhat 512 (gvr D (bl (i 0) (i 1))) (i 2) : ℝ) : EReal) := by
  pointwise [res_main_v70]
  simp only [v68 V0 h, v63 V0 h, ← EReal.coe_one, ← EReal.coe_neg, ← EReal.coe_mul, ← EReal.coe_add, ← EReal.coe_sub, sum_coe, div_real _ 512 (by norm_num)]
  try rfl
theorem v71 (i) : res_main_v71 V0 i = ((D.gg (i 2) : ℝ) : EReal) := by
  pointwise [res_main_v71]
  simp only [h.g, ← EReal.coe_one, ← EReal.coe_neg, ← EReal.coe_mul, ← EReal.coe_add, ← EReal.coe_sub, sum_coe, div_real _ 512 (by norm_num)]
  try rfl
theorem v77 (i) : res_main_v77 V0 i = ((vvr D (row5 (i 0) (i 1) (i 2)) (hc (i 3) (i 4)) : ℝ) : EReal) := by
  pointwise [res_main_v77]
  simp only [v70 V0 h, v71 V0 h, h.b, ← EReal.coe_one, ← EReal.coe_neg, ← EReal.coe_mul, ← EReal.coe_add, ← EReal.coe_sub, sum_coe, div_real _ 512 (by norm_num)]
  exact congrArg₂ (fun r e => ((vvr D r e : ℝ) : EReal)) (Fin.ext (show (i 0).val * 2048 + ((i 1).val * 128 + (i 2).val) = 128 * (16 * (i 0).val + (i 1).val) + (i 2).val by omega))
    (Fin.ext (show (i 3).val * 64 + (i 4).val = 64 * (i 3).val + (i 4).val by omega))
theorem v81 (i) : res_main_v81_0 V0 i = (((par D).W (i 0) (i 1) (i 2) : ℝ) : EReal) := by
  pointwise [res_main_v81_0, res_main_v81_1]
  simp only [h.w]
  refine (sel_tri _ _ (i 1).isLt (i 2).isLt _ _).trans ?_
  have cz : id (constant (F := Ideal) S_ .f32 0x00000000#32) ix0 = (0 : EReal) := by
    show constant (F := Ideal) S_ .f32 0x00000000#32 ix0 = (0 : EReal)
    pointwise
  exact (congrArg (fun x : EReal => if (i 2).val ≤ (i 1).val then ((D.ws (i 0) (i 1) (i 2) : ℝ) : EReal) else x) cz).trans (ite_coe (p := (i 2).val ≤ (i 1).val) (D.ws (i 0) (i 1) (i 2)))
theorem v89 (i) : res_main_v89 V0 i = ((ssr D (bl (i 0) (i 1)) (i 2) : ℝ) : EReal) := by
  pointwise [res_main_v89]
  simp only [v81 V0 h, h.bi, v77 V0 h, ← EReal.coe_one, ← EReal.coe_neg, ← EReal.coe_mul, ← EReal.coe_add, ← EReal.coe_sub, sum_coe, div_real _ 512 (by norm_num)]
  exact congrArg _ (ss_row D _ _ _ _ _ _ _ rfl rfl rfl rfl)
theorem v92 (i) : res_main_v92 V0 i = ((D.d (bl (i 0) (i 1)) (i 2) * ssr D (bl (i 0) (i 1)) (i 2) : ℝ) : EReal) := by
  pointwise [res_main_v92]
  simp only [v89 V0 h, h.d, ← EReal.coe_one, ← EReal.coe_neg, ← EReal.coe_mul, ← EReal.coe_add, ← EReal.coe_sub, sum_coe, div_real _ 512 (by norm_num)]
  try rfl
theorem v93 (i) : res_main_v93 V0 i = ((dsr D (row5 (i 0) (i 1) (i 2)) (hc (i 3) (i 4)) : ℝ) : EReal) := by
  pointwise [res_main_v93]
  simp only [v25 V0 h, h.d, ← EReal.coe_one, ← EReal.coe_neg, ← EReal.coe_mul, ← EReal.coe_add, ← EReal.coe_sub, sum_coe, div_real _ 512 (by norm_num)]
  refine congrArg _ ((mul_comm _ _).trans ?_)
  exact congrArg₂ (fun r e => dsr D r e) (Fin.ext (show (i 0).val * 2048 + ((i 1).val * 128 + (i 2).val) = 128 * (16 * (i 0).val + (i 1).val) + (i 2).val by omega))
    (Fin.ext (show (i 3).val * 64 + (i 4).val = 64 * (i 3).val + (i 4).val by omega))
theorem v100 (i) : res_main_v100 V0 i = ((dsr D (row5 (i 1) (i 2) (i 4)) (hc (i 0) (i 3)) : ℝ) : EReal) := by
  pointwise [res_main_v100]
  simp only [v93 V0 h, ← EReal.coe_one, ← EReal.coe_neg, ← EReal.coe_mul, ← EReal.coe_add, ← EReal.coe_sub, sum_coe, div_real _ 512 (by norm_num)]
  try rfl
theorem v105 (i) : res_main_v105 V0 i = ((dvr D (bl (i 0) (i 1)) (i 2) : ℝ) : EReal) := by
  pointwise [res_main_v105]
  simp only [v81 V0 h, v100 V0 h, ← EReal.coe_one, ← EReal.coe_neg, ← EReal.coe_mul, ← EReal.coe_add, ← EReal.coe_sub, sum_coe, div_real _ 512 (by norm_num)]
  exact congrArg _ (dv_row D _ _ _ _ _ _ _ rfl rfl rfl rfl)
theorem v113 (i) : res_main_v113 V0 i = ((dvr D (bl (i 0) (i 1)) (i 2) * D.gg (i 2) : ℝ) : EReal) := by
  pointwise [res_main_v113]
  simp only [v105 V0 h, v71 V0 h, ← EReal.coe_one, ← EReal.coe_neg, ← EReal.coe_mul, ← EReal.coe_add, ← EReal.coe_sub, sum_coe, div_real _ 512 (by norm_num)]
  try rfl
theorem v119 (i) : res_main_v119 V0 i = ((chainA 512 (gvr D (bl (i 0) (i 1))) (fun e => dvr D (bl (i 0) (i 1)) e * D.gg e) (i 2) : ℝ) : EReal) := by
  pointwise [res_main_v119]
  simp only [v113 V0 h, v63 V0 h, ← EReal.coe_one, ← EReal.coe_neg, ← EReal.coe_mul, ← EReal.coe_add, ← EReal.coe_sub, sum_coe, div_real _ 512 (by norm_num)]
  try rfl
theorem v128 (i) : res_main_v128 V0 i = ((chainB 512 (gvr D (bl (i 0) (i 1))) (fun e => dvr D (bl (i 0) (i 1)) e * D.gg e) (i 2) : ℝ) : EReal) := by
  pointwise [res_main_v128]
  simp only [Fin.sum_univ_one, div_real _ _ (vare_pos (N := 512) (by norm_num) _).ne', v68 V0 h, v113 V0 h, v63 V0 h, v62 V0 h, v53 V0 h, lit_neg_half, lit_two, lit_512, ← EReal.coe_one, ← EReal.coe_neg, ← EReal.coe_mul, ← EReal.coe_add, ← EReal.coe_sub, sum_coe, div_real _ 512 (by norm_num)]
  try rfl
theorem v138 (i) : res_main_v138 V0 i = ((chainGrad 512 (gvr D (bl (i 0) (i 1))) (fun e => dvr D (bl (i 0) (i 1)) e * D.gg e) (i 2) : ℝ) : EReal) := by
  pointwise [res_main_v138]
  simp only [Fin.sum_univ_one, v119 V0 h, v128 V0 h, lit_512, ← EReal.coe_one, ← EReal.coe_neg, ← EReal.coe_mul, ← EReal.coe_add, ← EReal.coe_sub, sum_coe, div_real _ 512 (by norm_num)]
  try rfl
/-- The chain rule's gradient is the normalised rows' own formula. -/
theorem v138' (i) : res_main_v138 V0 i = ((dgr D (bl (i 0) (i 1)) (i 2) : ℝ) : EReal) :=
  (v138 V0 h i).trans (congrArg _ (chainGrad_eq (N := 512) (by norm_num) (by norm_num) _ _ _))
theorem v145 (i) : res_main_v145 V0 i = ((k0 * (1 / 2 * (D.zv (bl (i 0) (i 1)) (i 2) * (dgr D (bl (i 0) (i 1)) (i 2))) * ((1 + gth (D.zv (bl (i 0) (i 1)) (i 2))) * (1 - gth (D.zv (bl (i 0) (i 1)) (i 2))))) : ℝ) : EReal) := by
  pointwise [res_main_v145]
  simp only [v138' V0 h, v37 V0 h, h.zv, lit_k0, lit_half, ← EReal.coe_one, ← EReal.coe_neg, ← EReal.coe_mul, ← EReal.coe_add, ← EReal.coe_sub, sum_coe, div_real _ 512 (by norm_num)]
  try rfl
theorem v157 (i) : res_main_v157 V0 i = ((k0 * (1 / 2 * (D.zu (bl (i 0) (i 1)) (i 2) * (D.d (bl (i 0) (i 1)) (i 2) * ssr D (bl (i 0) (i 1)) (i 2))) * ((1 + gth (D.zu (bl (i 0) (i 1)) (i 2))) * (1 - gth (D.zu (bl (i 0) (i 1)) (i 2))))) : ℝ) : EReal) := by
  pointwise [res_main_v157]
  simp only [v92 V0 h, v15 V0 h, h.zu, lit_k0, lit_half, ← EReal.coe_one, ← EReal.coe_neg, ← EReal.coe_mul, ← EReal.coe_add, ← EReal.coe_sub, sum_coe, div_real _ 512 (by norm_num)]
  try rfl

end Cert.Gmlp.Ref
end
-- ==== Proof.Gmlp.Sum5.lean ====
/- Host sums over three axes of a rank-5 array: the reduction over axes 0, 1 and 4, and the product that contracts three axes. -/
module
public import proofs.«01_k».proof.Reference2Ideal
public import Idealize.ShloMosaic.Lib.Pointwise
@[expose] public section
set_option maxRecDepth 16384
noncomputable section
namespace Cert.Gmlp.Ref
open Idealize.ShloMosaic Cert.Reference2Ideal

section Reduce
variable {n0 n1 n2 n3 n4 : Nat}
/-- The indices that drop to `j` are those with `j`'s coordinates on axes 2 and 3. -/
theorem fiber014 (h : (⟨5, ![n0, n1, n2, n3, n4]⟩ : Shape).ReducesTo [0, 1, 4] ⟨2, ![n2, n3]⟩) (j : (⟨2, ![n2, n3]⟩ : Shape).Idx)
    (i : (⟨5, ![n0, n1, n2, n3, n4]⟩ : Shape).Idx) :
    h.drop i = j ↔ ∃ p : Fin n0 × Fin n1 × Fin n4, (ix5 p.1 p.2.1 (j 0) (j 1) p.2.2 : (⟨5, ![n0, n1, n2, n3, n4]⟩ : Shape).Idx) = i := by
  constructor
  · intro e
    refine ⟨(i 0, i 1, i 4), ?_⟩
    subst e
    funext a
    apply Fin.ext
    match a with
    | ⟨0, _⟩ => rfl
    | ⟨1, _⟩ => rfl
    | ⟨2, _⟩ => rfl
    | ⟨3, _⟩ => rfl
    | ⟨4, _⟩ => rfl
  · rintro ⟨p, rfl⟩
    funext b
    apply Fin.ext
    match b with
    | ⟨0, _⟩ => rfl
    | ⟨1, _⟩ => rfl
    | ⟨_ + 2, hb⟩ => exact absurd hb (by simp)
/-- The host's sum over axes 0, 1 and 4. -/
theorem hostReduceAdd_014 (h : (⟨5, ![n0, n1, n2, n3, n4]⟩ : Shape).ReducesTo [0, 1, 4] ⟨2, ![n2, n3]⟩)
    (v : (⟨5, ![n0, n1, n2, n3, n4]⟩ : Shape).Idx → EReal) (init : EReal) (j : (⟨2, ![n2, n3]⟩ : Shape).Idx) :
    Ideal.hostReduceAdd h v init j = init + ∑ a : Fin n0, ∑ b : Fin n1, ∑ e : Fin n4, v (ix5 a b (j 0) (j 1) e) := by
  have e : ∑ a : Fin n0, ∑ b : Fin n1, ∑ e : Fin n4, v (ix5 a b (j 0) (j 1) e)
      = ∑ p : Fin n0 × Fin n1 × Fin n4, v (ix5 p.1 p.2.1 (j 0) (j 1) p.2.2) := by
    simp only [Fintype.sum_prod_type]
  rw [e]
  refine congrArg (init + ·) (Finset.sum_filter_eq_sum_of_fiber _ (fun p : Fin n0 × Fin n1 × Fin n4 => (ix5 p.1 p.2.1 (j 0) (j 1) p.2.2 : (⟨5, ![n0, n1, n2, n3, n4]⟩ : Shape).Idx)) ?_ (fiber014 h j) v)
  intro p q e
  exact Prod.ext (congrFun e 0) (Prod.ext (congrFun e 1) (congrFun e 4))
end Reduce

variable [Facts]
/-- The contracted indices are the triples of a batch, a chunk and a place in a head. -/
def contr3 : Fin 2 × Fin 16 × Fin 64 ≃ (dot_S8x2x16x64x128_S2x16x128x8x64_S8x128x128_123_014_4_2_0_3).contr.Idx where
  toFun p := fun q => match q with
    | ⟨0, _⟩ => Fin.cast rfl p.1
    | ⟨1, _⟩ => Fin.cast rfl p.2.1
    | ⟨2, _⟩ => Fin.cast rfl p.2.2
  invFun k := (Fin.cast rfl (k ⟨0, Nat.zero_lt_succ 2⟩), Fin.cast rfl (k ⟨1, Nat.succ_lt_succ (Nat.zero_lt_succ 1)⟩), Fin.cast rfl (k ⟨2, Nat.lt_succ_self 2⟩))
  left_inv _ := rfl
  right_inv k := by
    funext p
    match p with
    | ⟨0, _⟩ => rfl
    | ⟨1, _⟩ => rfl
    | ⟨2, _⟩ => rfl
/-- The product's element: a sum over batches, chunks and places. -/
theorem matmul3 (a : S8x2x16x64x128.Idx → EReal) (b : S2x16x128x8x64.Idx → EReal) (acc : S8x128x128.Idx → EReal) (j : S8x128x128.Idx) :
    Ideal.matmul dot_S8x2x16x64x128_S2x16x128x8x64_S8x128x128_123_014_4_2_0_3 a b acc j
      = acc j + ∑ p : Fin 2, ∑ q : Fin 16, ∑ e : Fin 64, a (ix5 (j 0) p q e (j 1)) * b (ix5 p q (j 2) (j 0) e) := by
  have e : ∑ p : Fin 2, ∑ q : Fin 16, ∑ e : Fin 64, a (ix5 (j 0) p q e (j 1)) * b (ix5 p q (j 2) (j 0) e)
      = ∑ p : Fin 2 × Fin 16 × Fin 64, a (ix5 (j 0) p.1 p.2.1 p.2.2 (j 1)) * b (ix5 p.1 p.2.1 (j 2) (j 0) p.2.2) := by
    simp only [Fintype.sum_prod_type]
  rw [e]
  refine congrArg (acc j + ·) (Fintype.sum_equiv contr3 _ _ fun p => ?_).symm
  refine congrArg₂ (fun x y => a x * b y) ?_ ?_
  · funext x
    apply Fin.ext
    match x with
    | ⟨0, _⟩ => rfl
    | ⟨1, _⟩ => rfl
    | ⟨2, _⟩ => rfl
    | ⟨3, _⟩ => rfl
    | ⟨4, _⟩ => rfl
  · funext x
    apply Fin.ext
    match x with
    | ⟨0, _⟩ => rfl
    | ⟨1, _⟩ => rfl
    | ⟨2, _⟩ => rfl
    | ⟨3, _⟩ => rfl
    | ⟨4, _⟩ => rfl

end Cert.Gmlp.Ref
end
-- ==== Proof.Gmlp.RefRun.lean ====
/- What the reference's run leaves in its result arrays, from real arguments. -/
module
public import proofs.«01_k».proof.Proof.Gmlp.Ref
public import proofs.«01_k».proof.Proof.Gmlp.Sum5
public import proofs.«01_k».proof.Proof.SumLead
@[expose] public section
set_option maxRecDepth 16384
noncomputable section
namespace Cert.Gmlp.Ref
open Idealize.ShloMosaic Idealize.ShloMosaic.TcCoe Idealize.ShloMosaic.Tactic Idealize.SL.Sem Cert.Reference2Ideal Cert.Reference2Ideal.Gen Cert.Reference2Ideal.Value Cert.RealNorm Cert.Finite
open Idealize.ShloMosaic.StableHlo (launchContents)

section Values
variable (V0 : Valuation τ sig (Elt Ideal)) {D : Data} (h : Args V0 D)
include h
theorem out_u (i : S2x2048x512.Idx) : addf (addf (mulf (res_main_v92 V0) (res_main_v24 V0)) (res_main_v157 V0)) (mulf (mulf (broadcastInDim S2x2048x512 ![] bcast_S_S2x2048x512 (res_main_v4 V0)) (res_main_v157 V0)) (mulf (broadcastInDim S2x2048x512 ![] bcast_S_S2x2048x512 (constant S_ .f32 0x40400000#32)) (mulf (V0 (Proc.devRef .tc main_arg0)) (V0 (Proc.devRef .tc main_arg0))))) i
    = ((dzu (par D) (chk D (cn (bl (i 0) (i 1)))) (cp (bl (i 0) (i 1))) (i 2) : ℝ) : EReal) := by
  pointwise
  simp only [v92 V0 h, v24 V0 h, v157 V0 h, v4 V0 h, h.zu, lit_three, ← EReal.coe_mul, ← EReal.coe_add]
  refine congrArg _ ((geld_ref _ _).trans ?_)
  have e := rw_cn (bl (i 0) (i 1))
  show _ = D.d (rw32 (cn (bl (i 0) (i 1))) (cp (bl (i 0) (i 1)))) (i 2) * ssr D (bl (i 0) (i 1)) (i 2) * geld (D.zu (rw32 (cn (bl (i 0) (i 1))) (cp (bl (i 0) (i 1)))) (i 2))
  rw [e]
theorem out_v (i : S2x2048x512.Idx) : addf (addf (mulf (res_main_v138 V0) (res_main_v46 V0)) (res_main_v145 V0)) (mulf (mulf (broadcastInDim S2x2048x512 ![] bcast_S_S2x2048x512 (res_main_v26 V0)) (res_main_v145 V0)) (mulf (broadcastInDim S2x2048x512 ![] bcast_S_S2x2048x512 (constant S_ .f32 0x40400000#32)) (mulf (V0 (Proc.devRef .tc main_arg1)) (V0 (Proc.devRef .tc main_arg1))))) i
    = ((dzv (par D) (chk D (cn (bl (i 0) (i 1)))) (cp (bl (i 0) (i 1))) (i 2) : ℝ) : EReal) := by
  pointwise
  simp only [v138' V0 h, v46 V0 h, v145 V0 h, v26 V0 h, h.zv, lit_three, ← EReal.coe_mul, ← EReal.coe_add]
  refine congrArg _ ((geld_ref _ _).trans ?_)
  have e := rw_cn (bl (i 0) (i 1))
  show _ = dgv (par D) (chk D (cn (bl (i 0) (i 1)))) (cp (bl (i 0) (i 1))) (i 2) * geld (D.zv (rw32 (cn (bl (i 0) (i 1))) (cp (bl (i 0) (i 1)))) (i 2))
  rw [e]
  exact congrArg (· * geld (D.zv (bl (i 0) (i 1)) (i 2))) (dgr_eq D (bl (i 0) (i 1)) (i 2)).symm
theorem out_w (i : S8x128x128.Idx) : shapeCast S8x128x128 (broadcastInDim S1x8x128x128 ![1, 2, 3] bcast_S8x128x128_S1x8x128x128_1_2_3 (select (res_main_v81_1 V0) (Host.dotGeneral (φ₁ := .f32) (φ₂ := .f32) dot_S8x2x16x64x128_S2x16x128x8x64_S8x128x128_123_014_4_2_0_3 none (res_main_v100 V0) (res_main_v77 V0)) (broadcastInDim S8x128x128 ![] bcast_S_S8x128x128 (constant S_ .f32 0x00000000#32)))) shapeCasts_S1x8x128x128_S8x128x128 i
    = ((D.dws (i 0) (i 1) (i 2) : ℝ) : EReal) := by
  pointwise [res_main_v81_1, matmul3]
  simp only [v100 V0 h, v77 V0 h, ← EReal.coe_mul, sum_coe]
  refine (sel_tri _ _ (i 1).isLt (i 2).isLt _ _).trans ((ite_coe (p := (i 2).val ≤ (i 1).val) _).trans ?_)
  exact congrArg _ (dws_ref D (i 0) (i 1) (i 2))
theorem out_b (i : S8x128.Idx) : shapeCast S8x128 (broadcastInDim S1x8x128 ![1, 2] bcast_S8x128_S1x8x128_1_2 (transpose S8x128 [1, 0] (Host.reduceAdd (broadcastInDim S128x8x1 ![0, 1] bcast_S128x8_S128x8x1_0_1 (Host.reduceAdd (shapeCast S1x1x128x8x1 (Host.reduceAdd (res_main_v93 V0) (constant S_ .f32 0x00000000#32) reducesTo_S2x16x128x8x64_S128x8_d0_1_4 h_S_) shapeCasts_S128x8_S1x1x128x8x1) (constant S_ .f32 0x00000000#32) reducesTo_S1x1x128x8x1_S128x8_d0_1_4 h_S_)) (constant S_ .f32 0x00000000#32) reducesTo_S128x8x1_S128x8_d2 h_S_) transposes_S128x8_S8x128_1_0)) shapeCasts_S1x8x128_S8x128 i
    = ((∑ e, D.dbias (i 1) (hc (i 0) e) : ℝ) : EReal) := by
  pointwise [hostReduceAdd_014]
  simp only [Fin.sum_univ_one, v93 V0 h, sum_coe]
  exact congrArg _ (dbias_ref D (i 0) (i 1))
theorem out_g (i : S1x512.Idx) : broadcastInDim S1x512 ![1] bcast_S512_S1x512_1 (Host.reduceAdd (shapeCast S1x1x512 (Host.reduceAdd (mulf (res_main_v70 V0) (res_main_v105 V0)) (constant S_ .f32 0x00000000#32) reducesTo_S2x2048x512_S512_d0_1 h_S_) shapeCasts_S512_S1x1x512) (constant S_ .f32 0x00000000#32) reducesTo_S1x1x512_S512_d0_1 h_S_) i
    = ((D.dg (i 1) : ℝ) : EReal) := by
  pointwise [SumLead.hostReduceAdd_lead]
  simp only [Fin.sum_univ_one, v70 V0 h, v105 V0 h, ← EReal.coe_mul, sum_coe]
  exact congrArg _ (dg_ref D (i 1))
theorem out_db (i : S1x512.Idx) : broadcastInDim S1x512 ![1] bcast_S512_S1x512_1 (Host.reduceAdd (shapeCast S1x1x512 (Host.reduceAdd (res_main_v105 V0) (constant S_ .f32 0x00000000#32) reducesTo_S2x2048x512_S512_d0_1 h_S_) shapeCasts_S512_S1x1x512) (constant S_ .f32 0x00000000#32) reducesTo_S1x1x512_S512_d0_1 h_S_) i
    = ((D.db (i 1) : ℝ) : EReal) := by
  pointwise [SumLead.hostReduceAdd_lead]
  simp only [Fin.sum_univ_one, v105 V0 h, sum_coe]
  exact congrArg _ (db_ref D (i 1))
/-- The two halves side by side, as flat rows. -/
theorem out_z (U V : FVec Ideal S2x2048x512 .f32) (hU : ∀ i, U i = ((dzu (par D) (chk D (cn (bl (i 0) (i 1)))) (cp (bl (i 0) (i 1))) (i 2) : ℝ) : EReal))
    (hV : ∀ i, V i = ((dzv (par D) (chk D (cn (bl (i 0) (i 1)))) (cp (bl (i 0) (i 1))) (i 2) : ℝ) : EReal)) (i : S4096x1024.Idx) :
    truncf .bf16 (shapeCast S4096x1024 (concatenate S2x2048x1024 2 [⟨S2x2048x512, U⟩, ⟨S2x2048x512, V⟩] concatenates_S2x2048x512_S2x2048x512_S2x2048x1024_d2) shapeCasts_S2x2048x1024_S4096x1024) bitsLt_bf16_f32 i
    = ((D.dz (i 0) (i 1) : ℝ) : EReal) := by
  pointwise
  unfold Data.dz
  by_cases hk : (i 1).val < 512
  · rw [dif_pos hk, dif_pos hk]
    exact (hU _).trans (congrArg (fun r => ((dzu (par D) (chk D (cn r)) (cp r) ⟨(i 1).val, hk⟩ : ℝ) : EReal)) (bl_rb (i 0)))
  · rw [dif_neg hk, dif_neg hk]
    exact (hV _).trans (congrArg (fun r => ((dzv (par D) (chk D (cn r)) (cp r) ⟨(i 1).val - 512, by have := (i 1).isLt; change (i 1).val < 1024 at this; omega⟩ : ℝ) : EReal)) (bl_rb (i 0)))
end Values

variable (m : (ℓ : Loc nD τ sig) → Buf (Elt Ideal) ℓ) (ρ : Dev nD → PrngReg) {D : Data}
/-- The reference's arguments. -/
def argRefs : List (Ref sig .tc) := [main_arg0, main_arg1, main_arg2, main_arg3, main_arg4, main_arg5, main_arg6]
/-- What the results are. -/
structure Out (c : Dev nD) (m mem : (ℓ : Loc nD τ sig) → Buf (Elt Ideal) ℓ) (D : Data) : Prop where
  o0 : mem ((c.tc : Thread nD τ).loc main_v169) = (show FVec Ideal S4096x1024 .bf16 from fun j => ((D.dz (j 0) (j 1) : ℝ) : EReal))
  o1 : mem ((c.tc : Thread nD τ).loc main_v170) = (show FVec Ideal S8x128x128 .f32 from fun j => ((D.dws (j 0) (j 1) (j 2) : ℝ) : EReal))
  o2 : mem ((c.tc : Thread nD τ).loc main_v171) = (show FVec Ideal S8x128 .f32 from fun j => ((∑ e, D.dbias (j 1) (hc (j 0) e) : ℝ) : EReal))
  o3 : mem ((c.tc : Thread nD τ).loc main_v166) = (show FVec Ideal S1x512 .f32 from fun j => ((D.dg (j 1) : ℝ) : EReal))
  o4 : mem ((c.tc : Thread nD τ).loc main_v165) = (show FVec Ideal S1x512 .f32 from fun j => ((D.db (j 1) : ℝ) : EReal))
  args : ∀ a ∈ argRefs, mem ((c.tc : Thread nD τ).loc a) = m ((c.tc : Thread nD τ).loc a)

/-- The reference's run. -/
theorem run_out (h : ∀ c, Args (launchContents m c) D) :
    θ_run defs (onTc (τ := τ) (main (F := Ideal))) ⟨m, fun _ => 0, ρ⟩ fun r => ∀ c : Dev nD, Out c m r.2.mem D := by
  refine (θ_run defs _ _).mono (fun r hr c => ?_) (run m ρ)
  obtain ⟨h0, h1, h2, h3, h4, hargs⟩ := hr c
  constructor
  · exact h0.trans (funext fun j => out_z _ (h c) _ _ (out_u _ (h c)) (out_v _ (h c)) j)
  · exact h1.trans (funext fun j => out_w _ (h c) j)
  · exact h2.trans (funext fun j => out_b _ (h c) j)
  · exact h3.trans (funext fun j => out_g _ (h c) j)
  · exact h4.trans (funext fun j => out_db _ (h c) j)
  · intro a ha
    simp only [argRefs, List.mem_cons, List.not_mem_nil, or_false] at ha
    obtain ⟨a0, a1, a2, a3, a4, a5, a6⟩ := hargs
    rcases ha with rfl | rfl | rfl | rfl | rfl | rfl | rfl <;> assumption

end Cert.Gmlp.Ref
end
-- ==== Proof.Gmlp.Claim.lean ====
/- What the kernel's run leaves in its result arrays, and the claim against the reference. -/
module
public import proofs.«01_k».proof.Proof.Gmlp.Reg7
public import proofs.«01_k».proof.Proof.Gmlp.Reg8
public import proofs.«01_k».proof.Proof.Gmlp.Reg9
public import proofs.«01_k».proof.Proof.Gmlp.Entry
public import proofs.«01_k».proof.Proof.Gmlp.RefRun
public import proofs.«01_k».proof.Proof.Gen.Pre_finite2
public import proofs.«01_k».proof.Defs
@[expose] public section
set_option maxRecDepth 16384
noncomputable section
namespace Cert.Gmlp
open Idealize.ShloMosaic Idealize.ShloMosaic.TcCoe Idealize.ShloMosaic.Tactic Idealize.SL.Sem Cert.RealNorm Cert.Finite

section Run
open Cert.Kernel2Ideal Cert.Kernel2Ideal.Gen
variable (m : (ℓ : Loc nD τ sig) → Buf (Elt Ideal) ℓ) (ρ : Dev nD → PrngReg) (c : Dev nD) {D : Data}
/-- The kernel's arguments. -/
abbrev argRefs : List (Ref sig .tc) := [main_arg0, main_arg1, main_arg2, main_arg3, main_arg4, main_arg5, main_arg6]
/-- What the results are. -/
structure Out (c : Dev nD) (m mem : (ℓ : Loc nD τ sig) → Buf (Elt Ideal) ℓ) (D : Data) : Prop where
  o0 : mem ((c.tc : Thread nD τ).loc main_v16_0) = (show FVec Ideal S4096x1024 .bf16 from fun j => ((D.dz (j 0) (j 1) : ℝ) : EReal))
  o1 : mem ((c.tc : Thread nD τ).loc main_v16_1) = (show FVec Ideal S8x128x128 .f32 from fun j => ((D.dws (j 0) (j 1) (j 2) : ℝ) : EReal))
  o2 : mem ((c.tc : Thread nD τ).loc main_v19) = (show FVec Ideal S8x128 .f32 from fun j => ((∑ e, D.dbias (j 1) (hc (j 0) e) : ℝ) : EReal))
  o3 : mem ((c.tc : Thread nD τ).loc main_v16_3) = (show FVec Ideal S1x512 .f32 from fun j => ((D.dg (j 1) : ℝ) : EReal))
  o4 : mem ((c.tc : Thread nD τ).loc main_v16_4) = (show FVec Ideal S1x512 .f32 from fun j => ((D.db (j 1) : ℝ) : EReal))
  args : ∀ a ∈ argRefs, mem ((c.tc : Thread nD τ).loc a) = m ((c.tc : Thread nD τ).loc a)

/-- The bias's gradient after the host's sum over a head's columns. -/
theorem tail_v19 (h : Args m c D) : Pipeline.afterTail₀ cfgs (dats m) 0 (V0 m) [hostOps1] c main_v19
    = (show FVec Ideal S8x128 .f32 from fun j => ((∑ e, D.dbias (j 1) (hc (j 0) e) : ℝ) : EReal)) := by
  unfold Pipeline.afterTail₀
  simp only [hostOps1, List.flatten_cons, List.flatten_nil, List.append_nil, List.cons_append, List.nil_append]
  after_results
  funext j
  refine (tail_bs _ j).trans ?_
  refine (Finset.sum_congr rfl fun e _ => ?_ : _ = ∑ e, ((D.dbias (j 1) (hc (j 0) e) : ℝ) : EReal)).trans (sum_coe _)
  refine (congrFun (Pipeline.withArrays_arr spec0 (by decide) c (V0 m c) (fun w => (dats m 0 c).arrAt w cfg0.N) 9) _).trans ?_
  exact congrFun (final9 m c (entry m c h)) _

/-- The kernel's run. -/
theorem run_out (h : ∀ c, Args m c D) :
    θ_run defs (onTc (τ := τ) (main (F := Ideal))) ⟨m, fun _ => 0, ρ⟩ fun r => ∀ c : Dev nD, Out c m r.2.mem D := by
  refine (θ_run defs _ _).mono (fun r hr c => ?_) (θ_run_and (unchanged m ρ) (run_main m ρ))
  have e := entry m c (h c)
  have hm := hr.2 c
  have hu := hr.1 c
  constructor
  · exact (hm.1 7).trans (final7 m c e)
  · exact (hm.1 8).trans (final8 m c e)
  · exact (hm.2 main_v19 (Pipeline.mem_restRefs_of main_v19 (by decide) (by decide))).trans (tail_v19 m c (h c))
  · exact (hm.1 10).trans (final10 m c e)
  · exact (hm.1 11).trans (final11 m c e)
  · obtain ⟨h0, h1, h2, h3, h4, h5, h6⟩ := hu
    intro a ha
    fin_cases ha
    all_goals assumption
end Run

/-- The rank-4 array of one weight stack. -/
theorem at_one4 {a b c : Nat} (i : (⟨4, ![1, a, b, c]⟩ : Shape).Idx) : i = ix4 (0 : Fin 1) (i 1) (i 2) (i 3) := by
  funext x
  match x with
  | ⟨0, _⟩ => exact Subsingleton.elim (α := Fin 1) _ _
  | ⟨1, _⟩ => rfl
  | ⟨2, _⟩ => rfl
  | ⟨3, _⟩ => rfl

/-- Finite arguments are real arrays. -/
theorem args_of (m : (ℓ : Loc Kernel2Ideal.nD Kernel2Ideal.τ Kernel2Ideal.sig) → Buf (Elt Ideal) ℓ) (hp : Pre_Kernel2Ideal_finite2 m) : ∃ D : Data, ∀ c, Args m c D := by
  let c0 : Dev Kernel2Ideal.nD := ⟨0, by decide⟩
  have hj := congrFun (hp c0) (fun k => k.elim0)
  unfold Pre_finite2.fn Pre_finite2.fn_part1 at hj
  obtain ⟨hj, f6⟩ := and_one hj
  obtain ⟨hj, f5⟩ := and_one hj
  obtain ⟨hj, f4⟩ := and_one hj
  obtain ⟨hj, f3⟩ := and_one hj
  obtain ⟨hj, f2⟩ := and_one hj
  obtain ⟨hj, f1⟩ := and_one hj
  let a (b : Ref Kernel2Ideal.sig .tc) := m ((c0.tc : Thread Kernel2Ideal.nD Kernel2Ideal.τ).loc b)
  refine ⟨⟨fun r d => (a Kernel2Ideal.main_arg0 (ValueIdx.ix3 (rb r) (rl r) d) : EReal).toReal, fun r d => (a Kernel2Ideal.main_arg1 (ValueIdx.ix3 (rb r) (rl r) d) : EReal).toReal, fun r d => (a Kernel2Ideal.main_arg6 (ValueIdx.ix3 (rb r) (rl r) d) : EReal).toReal, fun p q d => (a Kernel2Ideal.main_arg4 (ix4 (0 : Fin 1) p q d) : EReal).toReal, fun d => (a Kernel2Ideal.main_arg2 (ValueIdx.ix2 (0 : Fin 1) d) : EReal).toReal, fun d => (a Kernel2Ideal.main_arg3 (ValueIdx.ix2 (0 : Fin 1) d) : EReal).toReal, fun p d => (a Kernel2Ideal.main_arg5 (ValueIdx.ix3 (0 : Fin 1) p d) : EReal).toReal⟩, fun c => ?_⟩
  obtain rfl : c = c0 := Subsingleton.elim (α := Fin 1) _ _
  have hb : ∀ (s : Shape) (h : Pre_finite2.S_.BroadcastsInDim s ![]) (i : s.Idx), broadcastInDim s ![] h (constant (F := Ideal) Pre_finite2.S_ .f32 0x7F800000#32) i = (⊤ : EReal) := fun _ _ _ => lit_top
  constructor
  · exact fun i => (coe_of_all _ _ (hb _ _) _ _ _ _ hj i).trans (congrArg (fun k => (((a Kernel2Ideal.main_arg0 k : EReal).toReal : ℝ) : EReal)) (at_row i))
  · exact fun i => (coe_of_all _ _ (hb _ _) _ _ _ _ f1 i).trans (congrArg (fun k => (((a Kernel2Ideal.main_arg1 k : EReal).toReal : ℝ) : EReal)) (at_row i))
  · exact fun i => (coe_of_all _ _ (hb _ _) _ _ _ _ f2 i).trans (congrArg (fun k => (((a Kernel2Ideal.main_arg2 k : EReal).toReal : ℝ) : EReal)) (at_row1 i))
  · exact fun i => (coe_of_all _ _ (hb _ _) _ _ _ _ f3 i).trans (congrArg (fun k => (((a Kernel2Ideal.main_arg3 k : EReal).toReal : ℝ) : EReal)) (at_row1 i))
  · exact fun i => (coe_of_all _ _ (hb _ _) _ _ _ _ f4 i).trans (congrArg (fun k => (((a Kernel2Ideal.main_arg4 k : EReal).toReal : ℝ) : EReal)) (at_one4 i))
  · exact fun i => (coe_of_all _ _ (hb _ _) _ _ _ _ f5 i).trans (congrArg (fun k => (((a Kernel2Ideal.main_arg5 k : EReal).toReal : ℝ) : EReal)) (at_one i))
  · exact fun i => (coe_of_all _ _ (hb _ _) _ _ _ _ f6 i).trans (congrArg (fun k => (((a Kernel2Ideal.main_arg6 k : EReal).toReal : ℝ) : EReal)) (at_row i))

/-- Kernel and reference agree over the reals, from finite arguments. -/
theorem algebraic : algebraic_Kernel2Ideal_Reference2Ideal_pre_finite2 := by
  intro m g m' g' hp hm
  obtain ⟨D, h⟩ := args_of m hp
  have h' : ∀ c, Ref.Args (StableHlo.launchContents m' c) D := fun c => by
    obtain ⟨a0, a1, a2, a3, a4, a5, a6⟩ := hm c
    constructor
    · exact fun i => (congrFun a0 i).trans ((h c).zu i)
    · exact fun i => (congrFun a1 i).trans ((h c).zv i)
    · exact fun i => (congrFun a2 i).trans ((h c).g i)
    · exact fun i => (congrFun a3 i).trans ((h c).b i)
    · exact fun i => (congrFun a4 i).trans ((h c).w i)
    · exact fun i => (congrFun a5 i).trans ((h c).bi i)
    · exact fun i => (congrFun a6 i).trans ((h c).d i)
  refine ⟨fun c => (show FVec Ideal Kernel2Ideal.S4096x1024 .bf16 from fun j => ((D.dz (j 0) (j 1) : ℝ) : EReal)),
    fun c => (show FVec Ideal Kernel2Ideal.S8x128x128 .f32 from fun j => ((D.dws (j 0) (j 1) (j 2) : ℝ) : EReal)),
    fun c => (show FVec Ideal Kernel2Ideal.S8x128 .f32 from fun j => ((∑ e, D.dbias (j 1) (hc (j 0) e) : ℝ) : EReal)),
    fun c => (show FVec Ideal Kernel2Ideal.S1x512 .f32 from fun j => ((D.dg (j 1) : ℝ) : EReal)),
    fun c => (show FVec Ideal Kernel2Ideal.S1x512 .f32 from fun j => ((D.db (j 1) : ℝ) : EReal)),
    (θ_run _ _ _).mono (fun r hr c => ?_) (run_out m g h), (θ_run _ _ _).mono (fun r hr c => ?_) (Ref.run_out m' g' h')⟩
  · have q := hr c
    exact ⟨q.o0, q.o1, q.o2, q.o3, q.o4, q.args _ (by decide), q.args _ (by decide), q.args _ (by decide), q.args _ (by decide), q.args _ (by decide), q.args _ (by decide), q.args _ (by decide)⟩
  · have q := hr c
    exact ⟨q.o0, q.o1, q.o2, q.o3, q.o4, q.args _ (by decide), q.args _ (by decide), q.args _ (by decide), q.args _ (by decide), q.args _ (by decide), q.args _ (by decide), q.args _ (by decide)⟩

/-- Each named constant is the number that its name states. -/
theorem preserves : preserves_Kernel2_Kernel2Ideal :=
  ⟨IdealRules.named_const.statement _ _ _ _ _ rfl, IdealRules.named_const.statement _ _ _ _ _ rfl⟩

end Cert.Gmlp
end
-- ==== Proof.Gfwd.Pay.lean ====
/- The gated unit's forward call over the extended reals: its formula, and the body's operations on one chunk. -/
module
public import proofs.«01_k».proof.Proof.Gen.Kernel6Ideal.Skeleton
public import proofs.«01_k».proof.Proof.Gmlp.Pay
@[expose] public section
set_option maxRecDepth 16384
noncomputable section
namespace Cert.Gfwd
open Idealize.ShloMosaic Idealize.ShloMosaic.TcCoe Idealize.ShloMosaic.Tactic Idealize.SL.Sem Cert.Kernel6Ideal Cert.Kernel6Ideal.Gen Cert.Gmlp

/-- Gelu (tanh form), at any extended real. -/
def th (x : EReal) : EReal := Ideal.tanh (Ideal.ofBits .f32 0x3F4C422A#32 * (x + ((c3 : ℝ) : EReal) * (x * x * x)))
def gl (x : EReal) : EReal := x * (Ideal.ofBits .f32 0x3F000000#32 * (1 + th x))
/-- A row's mean, the centred row, the reciprocal of its deviation, the norm's output. -/
def av (x : Fin 512 → EReal) : EReal := Ideal.div (∑ e, x e) (Ideal.ofBits .f32 0x44000000#32)
def cen (x : Fin 512 → EReal) (e : Fin 512) : EReal := x e - av x
def rs (x : Fin 512 → EReal) : EReal := Ideal.rsqrt (av (fun e => cen x e * cen x e) + Ideal.ofBits .f32 0x3727C5AC#32)
def nrm (g b x : Fin 512 → EReal) (e : Fin 512) : EReal := cen x e * rs x * g e + b e
/-- The arguments: the two halves row by row, the norm's scale and offset, the weight before its mask, the bias. -/
structure Data where
  zu : Fin 4096 → Fin 512 → EReal
  zv : Fin 4096 → Fin 512 → EReal
  gg : Fin 512 → EReal
  bb : Fin 512 → EReal
  ws : Fin 8 → Fin 128 → Fin 128 → EReal
  B : Fin 8 → Fin 128 → EReal
/-- The masked weight; one chunk's values; the unit's output by row. -/
def wm (w : Fin 8 → Fin 128 → Fin 128 → EReal) (h : Fin 8) (t k : Fin 128) : EReal := if k.val ≤ t.val then w h t k else 0
def Data.chunk (D : Data) (n : Fin 32) (t : Fin 128) (e : Fin 512) : EReal :=
  gl (D.zu (rw32 n t) e) * ((∑ k, wm D.ws (hd e) t k * nrm D.gg D.bb (fun e => gl (D.zv (rw32 n k) e)) e) + D.B (hd e) t)
def Data.out (D : Data) (r : Fin 4096) (e : Fin 512) : EReal := D.chunk (cn r) (cp r) e

theorem name_c3 : Named.named (F := Ideal) κ "cubic" (φ := .f32) 0x3D372713#32 = ((c3 : ℝ) : EReal) :=
  IdealRules.named_const.ideal_named_scalar _ _ _ _ rfl
def kth (x : FVec Ideal S128x512 .f32) : FVec Ideal S128x512 .f32 := tanh (mulf (bc (Scalar.ofBits .f32 0x3F4C422A#32)) (addf x (mulf (mulf (mulf (bc (Named.named κ "cubic" 0x3D372713#32)) x) x) x)))
def kgel (x : FVec Ideal S128x512 .f32) : FVec Ideal S128x512 .f32 := mulf (mulf (bc (Scalar.ofBits .f32 0x3F000000#32)) x) (addf (bc (Scalar.ofBits .f32 0x3F800000#32)) (kth x))
/-- What the body stores for one chunk, and its transpose. -/
def kout (zu zv : Vec Ideal S128x512 .bf16) (g b : Vec Ideal S1x512 .f32) (w : Vec Ideal S8x128x128 .bf16) (bi : Vec Ideal S128x512 .f32) : FVec Ideal S128x512 .bf16 :=
  truncf .bf16 (mulf (kgel (up zu)) (addf (kmix w (kv (kgel (up zv)) g b)) (shapeCast S128x512 bi shapeCasts_S128x512_S128x512))) bitsLt_bf16_f32

theorem kgel_at (v : FVec Ideal S128x512 .f32) (i : S128x512.Idx) : kgel v i = gl (v i) := by
  pointwise [kgel, kth, bc]
  rw [name_c3, gl, th, mul_assoc (((c3 : ℝ) : EReal) * v i), mul_assoc ((c3 : ℝ) : EReal), ← mul_assoc (v i) (v i) (v i), mul_comm _ (v i), mul_assoc (v i)]
section Rows
variable (x : Fin 128 → Fin 512 → EReal) (v : FVec Ideal S128x512 .f32) (hv : ∀ i, v i = x (i 0) (i 1))
include hv
theorem kavg_at (i : S128x1.Idx) : kavg v i = av (x (i 0)) := by
  pointwise [kavg]
  simp only [hv]
  rfl
theorem kcen_at (i : S128x512.Idx) : kcen v i = cen (x (i 0)) (i 1) := by
  pointwise [kcen]
  rw [hv, kavg_at x v hv]
  rfl
theorem krstd_at (i : S128x1.Idx) : krstd v i = rs (x (i 0)) := by
  have h : ∀ i, mulf (kcen v) (kcen v) i = cen (x (i 0)) (i 1) * cen (x (i 0)) (i 1) := fun i => by
    pointwise
    simp only [kcen_at x v hv]
  pointwise [krstd]
  rw [kavg_at (fun a b => cen (x a) b * cen (x a) b) _ h]
  rfl
theorem kv_at (g b : Vec Ideal S1x512 .f32) (i : S128x512.Idx) : kv v g b i = nrm (fun e => g (ValueIdx.ix2 0 e)) (fun e => b (ValueIdx.ix2 0 e)) (x (i 0)) (i 1) := by
  pointwise [kv, kxh]
  rw [kcen_at x v hv, krstd_at x v hv]
  rfl
end Rows
theorem mix_at (W : Fin 8 → Fin 128 → Fin 128 → EReal) (x : Fin 128 → Fin 512 → EReal) (t : Fin 128) (h : Fin 8) (e d : Fin 512) (h1 : h.val = d.val / 64) (h2 : e.val = d.val) :
    ∑ k, W h t k * x k e = ∑ k, W (hd d) t k * x k d := by
  obtain rfl : e = d := Fin.ext h2
  obtain rfl : h = hd e := Fin.ext h1
  rfl
/-- A head's product, column by column. -/
theorem kmix_at (W : Fin 8 → Fin 128 → Fin 128 → EReal) (x : Fin 128 → Fin 512 → EReal) (w : Vec Ideal S8x128x128 .bf16) (v : FVec Ideal S128x512 .bf16)
    (hw : ∀ i, w i = W (i 0) (i 1) (i 2)) (hv : ∀ i, v i = x (i 0) (i 1)) (i : S128x512.Idx) :
    kmix w v i = ∑ k, W (hd (i 1)) (i 0) k * x k (i 1) := by
  have hi : (i 1).val < 512 := (i 1).isLt
  pointwise [kmix, kpart, lane]
  simp only [hw, hv]
  by_cases a0 : (i 1).val < 128
  · rw [dif_pos a0]
    rw [sel_lane _ (by omega)]
    by_cases b : (i 1).val < 64
    · rw [if_pos b]; exact mix_at W x (i 0) 0 (i 1) (i 1) (show 0 = (i 1).val / 64 by omega) rfl
    · rw [if_neg b]; exact mix_at W x (i 0) 1 (i 1) (i 1) (show 1 = (i 1).val / 64 by omega) rfl
  · rw [dif_neg a0]
    by_cases a1 : (i 1).val - 128 < 128
    · rw [dif_pos a1]
      rw [sel_lane _ (by omega)]
      by_cases b : (i 1).val - 128 < 64
      · rw [if_pos b]; exact mix_at W x (i 0) 2 ⟨128 + ((i 1).val - 128), by omega⟩ (i 1) (show 2 = (i 1).val / 64 by omega) (show 128 + ((i 1).val - 128) = (i 1).val by omega)
      · rw [if_neg b]; exact mix_at W x (i 0) 3 ⟨128 + ((i 1).val - 128), by omega⟩ (i 1) (show 3 = (i 1).val / 64 by omega) (show 128 + ((i 1).val - 128) = (i 1).val by omega)
    · rw [dif_neg a1]
      by_cases a2 : (i 1).val - 128 - 128 < 128
      · rw [dif_pos a2]
        rw [sel_lane _ (by omega)]
        by_cases b : (i 1).val - 128 - 128 < 64
        · rw [if_pos b]; exact mix_at W x (i 0) 4 ⟨256 + ((i 1).val - 128 - 128), by omega⟩ (i 1) (show 4 = (i 1).val / 64 by omega) (show 256 + ((i 1).val - 128 - 128) = (i 1).val by omega)
        · rw [if_neg b]; exact mix_at W x (i 0) 5 ⟨256 + ((i 1).val - 128 - 128), by omega⟩ (i 1) (show 5 = (i 1).val / 64 by omega) (show 256 + ((i 1).val - 128 - 128) = (i 1).val by omega)
      · rw [dif_neg a2]
        rw [sel_lane _ (by omega)]
        by_cases b : (i 1).val - 128 - 128 - 128 < 64
        · rw [if_pos b]; exact mix_at W x (i 0) 6 ⟨384 + ((i 1).val - 128 - 128 - 128), by omega⟩ (i 1) (show 6 = (i 1).val / 64 by omega) (show 384 + ((i 1).val - 128 - 128 - 128) = (i 1).val by omega)
        · rw [if_neg b]; exact mix_at W x (i 0) 7 ⟨384 + ((i 1).val - 128 - 128 - 128), by omega⟩ (i 1) (show 7 = (i 1).val / 64 by omega) (show 384 + ((i 1).val - 128 - 128 - 128) = (i 1).val by omega)
/-- What the body stores for one chunk. -/
theorem kout_at (D : Data) (n : Fin 32) (zu zv : Vec Ideal S128x512 .bf16) (g b : Vec Ideal S1x512 .f32) (w : Vec Ideal S8x128x128 .bf16) (bi : Vec Ideal S128x512 .f32)
    (hu : ∀ i, zu i = D.zu (rw32 n (i 0)) (i 1)) (hv : ∀ i, zv i = D.zv (rw32 n (i 0)) (i 1)) (hg : ∀ i, g i = D.gg (i 1)) (hb : ∀ i, b i = D.bb (i 1))
    (hw : ∀ i, w i = wm D.ws (i 0) (i 1) (i 2)) (hB : ∀ i, bi i = D.B (hd (i 1)) (i 0)) (i : S128x512.Idx) : kout zu zv g b w bi i = D.chunk n (i 0) (i 1) := by
  have h1 : ∀ i, kgel (up zv) i = gl (D.zv (rw32 n (i 0)) (i 1)) := fun i => by
    rw [kgel_at]
    pointwise [up]
    rw [hv]
  have h2 : ∀ i, kv (kgel (up zv)) g b i = nrm D.gg D.bb (fun e => gl (D.zv (rw32 n (i 0)) e)) (i 1) := fun i => by
    rw [kv_at (fun a e => gl (D.zv (rw32 n a) e)) _ h1]
    simp only [hg, hb]
  pointwise [kout]
  rw [kgel_at, kmix_at (wm D.ws) (fun a e => nrm D.gg D.bb (fun e => gl (D.zv (rw32 n a) e)) e) w _ hw h2, hB]
  pointwise [up]
  rw [hu]
  rfl

end Cert.Gfwd
end
-- ==== Proof.Gfwd.Ref.lean ====
/- The reference's value at any arguments. -/
module
public import proofs.«01_k».proof.Proof.Gen.Reference6Ideal.Run
public import proofs.«01_k».proof.Proof.Gmlp.Ref
public import proofs.«01_k».proof.Proof.Gfwd.Pay
public import Idealize.ShloMosaic.Lib.Pipeline.ValueKit
public import Idealize.ShloMosaic.Lib.Pointwise
@[expose] public section
set_option maxRecDepth 16384
noncomputable section
namespace Cert.Gfwd.Ref
open Idealize.ShloMosaic Idealize.ShloMosaic.TcCoe Idealize.ShloMosaic.Tactic Idealize.SL.Sem Cert.Reference6Ideal Cert.Reference6Ideal.Gen Cert.Reference6Ideal.Value Cert.Gmlp Cert.Finite

/-- The reference's lines: gelu, a row's mean, the centred rows, the norm, the masked weight, the mix, the output. -/
def rgel (x : FVec Ideal S2x2048x512 .f32) : FVec Ideal S2x2048x512 .f32 :=
  mulf x (mulf (broadcastInDim S2x2048x512 ![] bcast_S_S2x2048x512 (constant S_ .f32 0x3F000000#32)) (addf (broadcastInDim S2x2048x512 ![] bcast_S_S2x2048x512 (constant S_ .f32 0x3F800000#32)) (Host.tanh (mulf (broadcastInDim S2x2048x512 ![] bcast_S_S2x2048x512 (constant S_ .f32 0x3F4C422A#32)) (addf x (mulf (broadcastInDim S2x2048x512 ![] bcast_S_S2x2048x512 (Host.divf (constant S_ .f32 0x472EAB00#32) (constant S_ .f32 0x49742400#32))) (mulf (mulf x x) x)))))))
def ravg (x : FVec Ideal S2x2048x512 .f32) : FVec Ideal S2x2048x1 .f32 :=
  Host.divf (broadcastInDim S2x2048x1 ![0, 1] bcast_S2x2048_S2x2048x1_0_1 (Host.reduceAdd x (constant S_ .f32 0x00000000#32) reducesTo_S2x2048x512_S2x2048_d2 h_S_)) (broadcastInDim S2x2048x1 ![] bcast_S_S2x2048x1 (constant S_ .f32 0x44000000#32))
def rcen (x : FVec Ideal S2x2048x512 .f32) : FVec Ideal S2x2048x512 .f32 := subf x (broadcastInDim S2x2048x512 ![0, 1, 2] bcast_S2x2048x1_S2x2048x512_0_1_2 (ravg x))
def rnrm (x : FVec Ideal S2x2048x512 .f32) (g b : FVec Ideal S1x512 .f32) : FVec Ideal S2x2048x512 .f32 :=
  addf (mulf (mulf (rcen x) (broadcastInDim S2x2048x512 ![0, 1, 2] bcast_S2x2048x1_S2x2048x512_0_1_2 (Host.rsqrt (addf (ravg (mulf (rcen x) (rcen x))) (broadcastInDim S2x2048x1 ![] bcast_S_S2x2048x1 (constant S_ .f32 0x3727C5AC#32))))))
    (broadcastInDim S2x2048x512 ![0, 1, 2] bcast_S1x1x512_S2x2048x512_0_1_2 (broadcastInDim S1x1x512 ![2] bcast_S512_S1x1x512_2 (shapeCast S512 g shapeCasts_S1x512_S512))))
    (broadcastInDim S2x2048x512 ![0, 1, 2] bcast_S1x1x512_S2x2048x512_0_1_2 (broadcastInDim S1x1x512 ![2] bcast_S512_S1x1x512_2 (shapeCast S512 b shapeCasts_S1x512_S512)))
def rmask (w : FVec Ideal S1x8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast S8x128x128 w shapeCasts_S1x8x128x128_S8x128x128) (broadcastInDim S8x128x128 ![] bcast_S_S8x128x128 (id (constant S_ .f32 0x00000000#32)))
def rmix (v : FVec Ideal S2x2048x512 .f32) (w : FVec Ideal S8x128x128 .f32) (B : FVec Ideal S1x8x128 .f32) : FVec Ideal S2x2048x512 .f32 :=
  shapeCast S2x2048x512 (addf (transpose S2x16x128x8x64 [1, 2, 4, 0, 3] (Host.dotGeneral (φ₁ := .f32) (φ₂ := .f32) dot_S2x16x128x8x64_S8x128x128_S8x2x16x64x128_2_2_014_1_3_0 none (shapeCast S2x16x128x8x64 v shapeCasts_S2x2048x512_S2x16x128x8x64) w) transposes_S8x2x16x64x128_S2x16x128x8x64_1_2_4_0_3)
    (broadcastInDim S2x16x128x8x64 ![0, 1, 2, 3, 4] bcast_S1x1x128x8x1_S2x16x128x8x64_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] (shapeCast S8x128 B shapeCasts_S1x8x128_S8x128) transposes_S8x128_S128x8_1_0))))) shapeCasts_S2x16x128x8x64_S2x2048x512
def rout (a0 a1 : FVec Ideal S2x2048x512 .f32) (a2 a3 : FVec Ideal S1x512 .f32) (a4 : FVec Ideal S1x8x128x128 .f32) (a5 : FVec Ideal S1x8x128 .f32) : FVec Ideal S4096x512 .bf16 :=
  truncf .bf16 (shapeCast S4096x512 (mulf (rgel a0) (rmix (rnrm (rgel a1) a2 a3) (rmask a4) a5)) shapeCasts_S2x2048x512_S4096x512) bitsLt_bf16_f32

theorem res0 (m : (ℓ : Loc nD τ sig) → Buf (Elt Ideal) ℓ) (c : Dev nD) : res_main_v71 m c
    = rout (m (c.tc.loc main_arg0)) (m (c.tc.loc main_arg1)) (m (c.tc.loc main_arg2)) (m (c.tc.loc main_arg3)) (m (c.tc.loc main_arg4)) (m (c.tc.loc main_arg5)) := by
  unfold res_main_v71 rout rmix rmask rnrm rcen ravg rgel
  rfl
theorem res1 (m : (ℓ : Loc nD τ sig) → Buf (Elt Ideal) ℓ) (c : Dev nD) : res_main_v72 m c
    = transpose S512x4096 [1, 0] (rout (m (c.tc.loc main_arg0)) (m (c.tc.loc main_arg1)) (m (c.tc.loc main_arg2)) (m (c.tc.loc main_arg3)) (m (c.tc.loc main_arg4)) (m (c.tc.loc main_arg5))) transposes_S4096x512_S512x4096_1_0 := by
  unfold res_main_v72 rout rmix rmask rnrm rcen ravg rgel
  rfl

theorem rgel_at (v : FVec Ideal S2x2048x512 .f32) (i : S2x2048x512.Idx) : rgel v i = gl (v i) := by
  pointwise [rgel]
  rw [Cert.Gmlp.Ref.cubic]
  rfl
section Rows
variable (x : Fin 2 → Fin 2048 → Fin 512 → EReal) (v : FVec Ideal S2x2048x512 .f32) (hv : ∀ i, v i = x (i 0) (i 1) (i 2))
include hv
theorem ravg_at (i : S2x2048x1.Idx) : ravg v i = av (x (i 0) (i 1)) := by
  pointwise [ravg]
  simp only [hv]
  rfl
theorem rcen_at (i : S2x2048x512.Idx) : rcen v i = cen (x (i 0) (i 1)) (i 2) := by
  pointwise [rcen]
  rw [hv, ravg_at x v hv]
  rfl
theorem rnrm_at (g b : FVec Ideal S1x512 .f32) (i : S2x2048x512.Idx) : rnrm v g b i = nrm (fun e => g (ValueIdx.ix2 0 e)) (fun e => b (ValueIdx.ix2 0 e)) (x (i 0) (i 1)) (i 2) := by
  have h : ∀ i, mulf (rcen v) (rcen v) i = cen (x (i 0) (i 1)) (i 2) * cen (x (i 0) (i 1)) (i 2) := fun i => by
    pointwise
    simp only [rcen_at x v hv]
  pointwise [rnrm]
  rw [ravg_at (fun p l e => cen (x p l) e * cen (x p l) e) _ h, rcen_at x v hv]
  rfl
end Rows
theorem rmask_at (w : FVec Ideal S1x8x128x128 .f32) (i : S8x128x128.Idx) : rmask w i = wm (fun h t k => w (ix4 (0 : Fin 1) h t k)) (i 0) (i 1) (i 2) := by
  pointwise [rmask]
  refine (sel_tri _ _ (i 1).isLt (i 2).isLt _ _).trans ?_
  exact congrArg (fun x : EReal => if (i 2).val ≤ (i 1).val then w (ix4 (0 : Fin 1) (i 0) (i 1) (i 2)) else x) Cert.Gmlp.cz
theorem mix_row (f : Fin 4096 → Fin 512 → EReal) (W : Fin 8 → Fin 128 → Fin 128 → EReal) (B : Fin 8 → Fin 128 → EReal) (a : Fin 2) (l : Fin 2048) (e : Fin 512) (n : Fin 16) (t : Fin 128) (h : Fin 8) (q : Fin 64)
    (hn : n.val = l.val / 128) (ht : t.val = l.val % 128) (hh : h.val = e.val / 64) (hq : q.val = e.val % 64) :
    (∑ k, f (row5 a n k) (hc h q) * W h t k) + B h t = (∑ k, W (hd e) (cp (bl a l)) k * f (rw32 (cn (bl a l)) k) e) + B (hd e) (cp (bl a l)) := by
  have e1 := hc_hd e h q hh hq
  have e2 := c2_cn a l n hn
  have e3 : t = cp (bl a l) := Fin.ext (show t.val = (a.val * 2048 + l.val) % 128 by omega)
  have e4 : h = hd e := Fin.ext hh
  unfold row5
  rw [e1, e2, e3, e4]
  exact congrArg (· + _) (Finset.sum_congr rfl fun x _ => mul_comm _ _)
theorem rmix_at (f : Fin 4096 → Fin 512 → EReal) (W : Fin 8 → Fin 128 → Fin 128 → EReal) (v : FVec Ideal S2x2048x512 .f32) (w : FVec Ideal S8x128x128 .f32) (B : FVec Ideal S1x8x128 .f32)
    (hv : ∀ i, v i = f (bl (i 0) (i 1)) (i 2)) (hw : ∀ i, w i = W (i 0) (i 1) (i 2)) (i : S2x2048x512.Idx) :
    rmix v w B i = (∑ k, W (hd (i 2)) (cp (bl (i 0) (i 1))) k * f (rw32 (cn (bl (i 0) (i 1))) k) (i 2)) + B (ValueIdx.ix3 0 (hd (i 2)) (cp (bl (i 0) (i 1)))) := by
  pointwise [rmix]
  simp only [hv, hw]
  refine Eq.trans ?_ (mix_row f W (fun h t => B (ValueIdx.ix3 0 h t)) (i 0) (i 1) (i 2) ⟨(i 1).val / 128, by have : (i 1).val < 2048 := (i 1).isLt; omega⟩ ⟨(i 1).val % 128, by omega⟩ ⟨(i 2).val / 64, by have : (i 2).val < 512 := (i 2).isLt; omega⟩ ⟨(i 2).val % 64, by omega⟩ rfl rfl rfl rfl)
  refine congrArg (· + _) (Finset.sum_congr rfl fun k _ => congrArg (· * _) ?_)
  exact congrArg₂ f (Fin.ext (by simp [bl, row5, rw32, c2]; omega)) (Fin.ext (by simp [hc]; omega))
/-- The arguments' arrays as the formula's. -/
def dataOf (a0 a1 : FVec Ideal S2x2048x512 .f32) (a2 a3 : FVec Ideal S1x512 .f32) (a4 : FVec Ideal S1x8x128x128 .f32) (a5 : FVec Ideal S1x8x128 .f32) : Data :=
  ⟨fun r e => a0 (ValueIdx.ix3 (rb r) (rl r) e), fun r e => a1 (ValueIdx.ix3 (rb r) (rl r) e), fun e => a2 (ValueIdx.ix2 0 e), fun e => a3 (ValueIdx.ix2 0 e), fun h t k => a4 (ix4 (0 : Fin 1) h t k), fun h t => a5 (ValueIdx.ix3 0 h t)⟩
theorem rout_at (a0 a1 : FVec Ideal S2x2048x512 .f32) (a2 a3 : FVec Ideal S1x512 .f32) (a4 : FVec Ideal S1x8x128x128 .f32) (a5 : FVec Ideal S1x8x128 .f32) (i : S4096x512.Idx) :
    rout a0 a1 a2 a3 a4 a5 i = (dataOf a0 a1 a2 a3 a4 a5).out (i 0) (i 1) := by
  have h1 : ∀ i, rgel a1 i = gl (a1 (ValueIdx.ix3 (rb (bl (i 0) (i 1))) (rl (bl (i 0) (i 1))) (i 2))) := fun i => (rgel_at a1 i).trans (congrArg (fun k => gl (a1 k)) (at_row i))
  have h2 : ∀ i, rnrm (rgel a1) a2 a3 i = nrm (fun e => a2 (ValueIdx.ix2 0 e)) (fun e => a3 (ValueIdx.ix2 0 e)) (fun e => gl (a1 (ValueIdx.ix3 (rb (bl (i 0) (i 1))) (rl (bl (i 0) (i 1))) e))) (i 2) := fun i =>
    rnrm_at (fun p l e => gl (a1 (ValueIdx.ix3 (rb (bl p l)) (rl (bl p l)) e))) _ h1 a2 a3 i
  have e := bl_rb (i 0)
  have e' := rw_cn (i 0)
  have hx : rmix (rnrm (rgel a1) a2 a3) (rmask a4) a5 (ValueIdx.ix3 (rb (i 0)) (rl (i 0)) (i 1))
      = (∑ k, wm (fun h t k => a4 (ix4 (0 : Fin 1) h t k)) (hd (i 1)) (cp (bl (rb (i 0)) (rl (i 0)))) k * nrm (fun e => a2 (ValueIdx.ix2 0 e)) (fun e => a3 (ValueIdx.ix2 0 e)) (fun e => gl (a1 (ValueIdx.ix3 (rb (rw32 (cn (bl (rb (i 0)) (rl (i 0)))) k)) (rl (rw32 (cn (bl (rb (i 0)) (rl (i 0)))) k)) e))) (i 1))
        + a5 (ValueIdx.ix3 0 (hd (i 1)) (cp (bl (rb (i 0)) (rl (i 0))))) :=
    rmix_at (fun r e => nrm (fun e => a2 (ValueIdx.ix2 0 e)) (fun e => a3 (ValueIdx.ix2 0 e)) (fun e => gl (a1 (ValueIdx.ix3 (rb r) (rl r) e))) e) (wm fun h t k => a4 (ix4 (0 : Fin 1) h t k)) _ _ a5 h2 (rmask_at a4) (ValueIdx.ix3 (rb (i 0)) (rl (i 0)) (i 1))
  rw [e] at hx
  have hu : rgel a0 (ValueIdx.ix3 (rb (i 0)) (rl (i 0)) (i 1)) = gl (a0 (ValueIdx.ix3 (rb (rw32 (cn (i 0)) (cp (i 0)))) (rl (rw32 (cn (i 0)) (cp (i 0)))) (i 1))) := by
    rw [rgel_at, e']
  have hm := congrArg₂ (fun a b : EReal => a * b) hu hx
  pointwise [rout]
  exact hm
/-- The second result is the first one's transpose. -/
theorem routT_at (a0 a1 : FVec Ideal S2x2048x512 .f32) (a2 a3 : FVec Ideal S1x512 .f32) (a4 : FVec Ideal S1x8x128x128 .f32) (a5 : FVec Ideal S1x8x128 .f32) (i : S512x4096.Idx) :
    transpose S512x4096 [1, 0] (rout a0 a1 a2 a3 a4 a5) transposes_S4096x512_S512x4096_1_0 i = (dataOf a0 a1 a2 a3 a4 a5).out (i 1) (i 0) := by
  have h : ∀ X : FVec Ideal S4096x512 .bf16, transpose S512x4096 [1, 0] X transposes_S4096x512_S512x4096_1_0 i = X (ValueIdx.ix2 (i 1) (i 0)) := fun X => by pointwise; rfl
  exact (h _).trans (rout_at a0 a1 a2 a3 a4 a5 _)

end Cert.Gfwd.Ref
end
-- ==== Proof.Gfwd.Reg.lean ====
/- The region's results at the kernel's arguments, and the claim against the reference. -/
module
public import proofs.«01_k».proof.Proof.Gen.Kernel6Ideal.Frame
public import proofs.«01_k».proof.Proof.Gfwd.Ref
public import proofs.«01_k».proof.Defs
@[expose] public section
set_option maxRecDepth 16384
noncomputable section
namespace Cert.Gfwd
open Idealize.ShloMosaic Idealize.ShloMosaic.TcCoe Idealize.ShloMosaic.Tactic Idealize.SL.Sem Cert.Kernel6Ideal Cert.Kernel6Ideal.Gen Cert.Finite
open Idealize.ShloMosaic.Pipeline (Dat Cfg Window)
open Cert.Gmlp (lo5 hi5 hd rw32 cn cp cn_rw cp_rw sel_tri cz)
open Cert.Gfwd.Ref (dataOf)
variable (m : (ℓ : Loc nD τ sig) → Buf (Elt Ideal) ℓ) (c : Dev nD)
/-- The formula's arrays, from the kernel's arguments. -/
def data : Data := dataOf (m (c.tc.loc main_arg0)) (m (c.tc.loc main_arg1)) (m (c.tc.loc main_arg2)) (m (c.tc.loc main_arg3)) (m (c.tc.loc main_arg4)) (m (c.tc.loc main_arg5))
theorem e_zu (r : Fin 4096) (e : Fin 512) : V m c main_v2 (ValueIdx.ix2 r (lo5 e)) = (data m c).zu r e := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  pointwise
  rw [dif_pos (show ((ValueIdx.ix2 r (lo5 e) : S4096x1024.Idx) 1).val < 512 from e.isLt)]
  show _ = m (c.tc.loc main_arg0) (ValueIdx.ix3 (rb r) (rl r) e)
  blk_ext [rb, rl, lo5]
theorem e_zv (r : Fin 4096) (e : Fin 512) : V m c main_v2 (ValueIdx.ix2 r (hi5 e)) = (data m c).zv r e := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  pointwise
  rw [dif_neg (show ¬ ((ValueIdx.ix2 r (hi5 e) : S4096x1024.Idx) 1).val < 512 from Nat.not_lt.mpr (Nat.le_add_right 512 e.val))]
  show _ = m (c.tc.loc main_arg1) (ValueIdx.ix3 (rb r) (rl r) e)
  blk_ext [rb, rl, hi5]
  exact Nat.add_sub_cancel_left 512 e.val
theorem e_bi (i : S128x512.Idx) : V m c main_v12 i = (data m c).B (hd (i 1)) (i 0) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  pointwise
  show _ = m (c.tc.loc main_arg5) (ValueIdx.ix3 0 (hd (i 1)) (i 0))
  blk_ext [hd]
theorem e_w (i : S8x128x128.Idx) : V m c main_v8 i = wm (data m c).ws (i 0) (i 1) (i 2) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append]
  after_results
  simp only [StableHlo.TRef.ofBuf_toBuf]
  simp -implicitDefEqProofs only [StableHlo.TRef.toBuf, StableHlo.TRef.ofBuf, cast_cast, cast_eq]
  pointwise
  refine (sel_tri _ _ (i 1).isLt (i 2).isLt _ _).trans ?_
  exact congrArg (fun x : EReal => if (i 2).val ≤ (i 1).val then m (c.tc.loc main_arg4) (ValueIdx.ix4 0 (i 0) (i 1) (i 2)) else x) cz

theorem idx0 : ∀ t : Fin cfg0.N, win0_0.index t = ![t.val, 0] ∧ win0_1.index t = ![0, 0] ∧ win0_2.index t = ![0, 0] ∧ win0_3.index t = ![0, 0, 0]
    ∧ win0_4.index t = ![0, 0] ∧ win0_5.index t = ![t.val, 0] ∧ win0_6.index t = ![0, t.val] :=
  (by decide +kernel : ∀ t : Fin grid0.N, _)
/-- The chunk of a grid point. -/
def ct (t : Fin cfg0.N) (q : Fin 8) : Fin 32 := ⟨8 * t.val + q.val, by have : t.val < 4 := lt_of_lt_of_eq t.isLt (show cfg0.N = 4 from N_0); omega⟩
def rowb (t : Fin cfg0.N) (k : Fin 1024) : Fin 4096 := ⟨1024 * t.val + k.val, by have : t.val < 4 := lt_of_lt_of_eq t.isLt (show cfg0.N = 4 from N_0); omega⟩
theorem blk_g (t : Fin cfg0.N) (i : S1x512.Idx) : View.ld (iblk m c 1 t) (Rect.unit ![0, 0] S1x512.size inb_S1x512_S1x512_0_0) i = (data m c).gg (i 1) := by
  have e : View.ld (iblk m c 1 t) (Rect.unit ![0, 0] S1x512.size inb_S1x512_S1x512_0_0) i = V m c main_arg2 (ValueIdx.ix2 0 (i 1)) := by
    pointwise
    blk_ext [iblk, idx0 t]
  exact e.trans (congrFun (V_main_arg2 m c) _)
theorem blk_b (t : Fin cfg0.N) (i : S1x512.Idx) : View.ld (iblk m c 2 t) (Rect.unit ![0, 0] S1x512.size inb_S1x512_S1x512_0_0) i = (data m c).bb (i 1) := by
  have e : View.ld (iblk m c 2 t) (Rect.unit ![0, 0] S1x512.size inb_S1x512_S1x512_0_0) i = V m c main_arg3 (ValueIdx.ix2 0 (i 1)) := by
    pointwise
    blk_ext [iblk, idx0 t]
  exact e.trans (congrFun (V_main_arg3 m c) _)
theorem blk_w (t : Fin cfg0.N) (i : S8x128x128.Idx) : iblk m c 3 t i = wm (data m c).ws (i 0) (i 1) (i 2) := by
  have e : iblk m c 3 t i = V m c main_v8 i := by blk_ext [iblk, idx0 t]
  exact e.trans (e_w m c i)
theorem blk_bi (t : Fin cfg0.N) (i : S128x512.Idx) : View.ld (iblk m c 4 t) (Rect.unit ![0, 0] S128x512.size inb_S128x512_S128x512_0_0) i = (data m c).B (hd (i 1)) (i 0) := by
  have e : View.ld (iblk m c 4 t) (Rect.unit ![0, 0] S128x512.size inb_S128x512_S128x512_0_0) i = V m c main_v12 i := by
    pointwise
    blk_ext [iblk, idx0 t]
  exact e.trans (e_bi m c i)
/-- One chunk of a block's rows, at its offset. -/
theorem blk_u (t : Fin cfg0.N) (q : Fin 8) (a : ℕ) (ha : a = 128 * q.val) (h : ∀ d, (![a, 0] : Fin 2 → ℕ) d + S128x512.size d ≤ S1024x1024.size d) (i : S128x512.Idx) :
    View.ld (iblk m c 0 t) (Rect.unit (s := S1024x1024) ![a, 0] S128x512.size h) i = (data m c).zu (rw32 (ct t q) (i 0)) (i 1) := by
  subst ha
  have e : View.ld (iblk m c 0 t) (Rect.unit (s := S1024x1024) ![128 * q.val, 0] S128x512.size h) i = V m c main_v2 (ValueIdx.ix2 (rw32 (ct t q) (i 0)) (lo5 (i 1))) := by
    pointwise
    blk_ext [iblk, rw32, ct, lo5, idx0 t]
  exact e.trans (e_zu m c _ _)
theorem blk_v (t : Fin cfg0.N) (q : Fin 8) (a : ℕ) (ha : a = 128 * q.val) (h : ∀ d, (![a, 512] : Fin 2 → ℕ) d + S128x512.size d ≤ S1024x1024.size d) (i : S128x512.Idx) :
    View.ld (iblk m c 0 t) (Rect.unit (s := S1024x1024) ![a, 512] S128x512.size h) i = (data m c).zv (rw32 (ct t q) (i 0)) (i 1) := by
  subst ha
  have e : View.ld (iblk m c 0 t) (Rect.unit (s := S1024x1024) ![128 * q.val, 512] S128x512.size h) i = V m c main_v2 (ValueIdx.ix2 (rw32 (ct t q) (i 0)) (hi5 (i 1))) := by
    pointwise
    blk_ext [iblk, rw32, ct, hi5, idx0 t]
  exact e.trans (e_zv m c _ _)
theorem out_row (D : Data) (t : Fin cfg0.N) (q : Fin 8) (k : Fin 128) (e : Fin 512) (y : Fin 1024) (z : Fin 512) (h0 : y.val = 128 * q.val + k.val) (h1 : z.val = e.val) :
    D.chunk (ct t q) k e = D.out (rowb t y) z := by
  obtain rfl : z = e := Fin.ext h1
  have h : rowb t y = rw32 (ct t q) k := Fin.ext (show 1024 * t.val + y.val = 128 * (8 * t.val + q.val) + k.val by omega)
  rw [Data.out, h, cn_rw, cp_rw]
/-- What the body stores for one chunk. -/
theorem kchunk (t : Fin cfg0.N) (q : Fin 8) (a : ℕ) (ha : a = 128 * q.val) (h : ∀ d, (![a, 0] : Fin 2 → ℕ) d + S128x512.size d ≤ S1024x1024.size d) (h' : ∀ d, (![a, 512] : Fin 2 → ℕ) d + S128x512.size d ≤ S1024x1024.size d)
    (x : S128x512.Idx) (y : Fin 1024) (z : Fin 512) (h0 : y.val = 128 * q.val + (x 0).val) (h1 : z.val = (x 1).val) :
    kout (View.ld (iblk m c 0 t) (Rect.unit (s := S1024x1024) ![a, 0] S128x512.size h)) (View.ld (iblk m c 0 t) (Rect.unit (s := S1024x1024) ![a, 512] S128x512.size h'))
      (View.ld (iblk m c 1 t) (Rect.unit ![0, 0] S1x512.size inb_S1x512_S1x512_0_0)) (View.ld (iblk m c 2 t) (Rect.unit ![0, 0] S1x512.size inb_S1x512_S1x512_0_0)) (iblk m c 3 t)
      (View.ld (iblk m c 4 t) (Rect.unit ![0, 0] S128x512.size inb_S128x512_S128x512_0_0)) x = (data m c).out (rowb t y) z :=
  (kout_at (data m c) (ct t q) _ _ _ _ _ _ (blk_u m c t q a ha h) (blk_v m c t q a ha h') (blk_g m c t) (blk_b m c t) (blk_w m c t) (blk_bi m c t) x).trans (out_row _ t q _ _ y z h0 h1)
/-- The same, transposed. -/
theorem kchunkT (t : Fin cfg0.N) (q : Fin 8) (a : ℕ) (ha : a = 128 * q.val) (h : ∀ d, (![a, 0] : Fin 2 → ℕ) d + S128x512.size d ≤ S1024x1024.size d) (h' : ∀ d, (![a, 512] : Fin 2 → ℕ) d + S128x512.size d ≤ S1024x1024.size d)
    (x : S512x128.Idx) (y : Fin 1024) (z : Fin 512) (h0 : y.val = 128 * q.val + (x 1).val) (h1 : z.val = (x 0).val) :
    transpose S512x128 [1, 0] (kout (View.ld (iblk m c 0 t) (Rect.unit (s := S1024x1024) ![a, 0] S128x512.size h)) (View.ld (iblk m c 0 t) (Rect.unit (s := S1024x1024) ![a, 512] S128x512.size h'))
      (View.ld (iblk m c 1 t) (Rect.unit ![0, 0] S1x512.size inb_S1x512_S1x512_0_0)) (View.ld (iblk m c 2 t) (Rect.unit ![0, 0] S1x512.size inb_S1x512_S1x512_0_0)) (iblk m c 3 t)
      (View.ld (iblk m c 4 t) (Rect.unit ![0, 0] S128x512.size inb_S128x512_S128x512_0_0))) transposes_S128x512_p1_0_S512x128 x = (data m c).out (rowb t y) z := by
  have e : ∀ X : FVec Ideal S128x512 .bf16, transpose S512x128 [1, 0] X transposes_S128x512_p1_0_S512x128 x = X (ValueIdx.ix2 (x 1) (x 0)) := fun X => by pointwise; rfl
  exact (e _).trans (kchunk m c t q a ha h h' (ValueIdx.ix2 (x 1) (x 0)) y z h0 h1)

end Cert.Gfwd
end
-- ==== Proof.Gfwd.Out.lean ====
/- The region's first result, the gated rows, and its second, their transpose. -/
module
public import proofs.«01_k».proof.Proof.Gfwd.Reg
@[expose] public section
set_option maxRecDepth 16384
noncomputable section
namespace Cert.Gfwd
open Idealize.ShloMosaic Idealize.ShloMosaic.TcCoe Idealize.ShloMosaic.Tactic Idealize.SL.Sem Cert.Kernel6Ideal Cert.Kernel6Ideal.Gen Cert.Finite
open Idealize.ShloMosaic.Pipeline (Dat Cfg Window)
variable (m : (ℓ : Loc nD τ sig) → Buf (Elt Ideal) ℓ) (c : Dev nD)
theorem pt5 (t : Fin cfg0.N) (y : S1024x512.Idx) : out0_5 (iblk m c 0 t) (iblk m c 1 t) (iblk m c 2 t) (iblk m c 3 t) (iblk m c 4 t) y = (data m c).out (rowb t (y 0)) (y 1) := by
  unfold_out out0_5
  canon_tiles x hx
  · exact kchunk m c t 7 896 rfl inb_S1024x1024_S128x512_896_0 inb_S1024x1024_S128x512_896_512 x (y 0) (y 1) (by omega) (by omega)
  · exact kchunk m c t 6 768 rfl inb_S1024x1024_S128x512_768_0 inb_S1024x1024_S128x512_768_512 x (y 0) (y 1) (by omega) (by omega)
  · exact kchunk m c t 5 640 rfl inb_S1024x1024_S128x512_640_0 inb_S1024x1024_S128x512_640_512 x (y 0) (y 1) (by omega) (by omega)
  · exact kchunk m c t 4 512 rfl inb_S1024x1024_S128x512_512_0 inb_S1024x1024_S128x512_512_512 x (y 0) (y 1) (by omega) (by omega)
  · exact kchunk m c t 3 384 rfl inb_S1024x1024_S128x512_384_0 inb_S1024x1024_S128x512_384_512 x (y 0) (y 1) (by omega) (by omega)
  · exact kchunk m c t 2 256 rfl inb_S1024x1024_S128x512_256_0 inb_S1024x1024_S128x512_256_512 x (y 0) (y 1) (by omega) (by omega)
  · exact kchunk m c t 1 128 rfl inb_S1024x1024_S128x512_128_0 inb_S1024x1024_S128x512_128_512 x (y 0) (y 1) (by omega) (by omega)
  · exact kchunk m c t 0 0 rfl inb_S1024x1024_S128x512_0_0 inb_S1024x1024_S128x512_0_512 x (y 0) (y 1) (by omega) (by omega)
theorem pt6 (t : Fin cfg0.N) (y : S512x1024.Idx) : out0_6 (iblk m c 0 t) (iblk m c 1 t) (iblk m c 2 t) (iblk m c 3 t) (iblk m c 4 t) y = (data m c).out (rowb t (y 1)) (y 0) := by
  unfold_out out0_6
  canon_tiles x hx
  · exact kchunkT m c t 7 896 rfl inb_S1024x1024_S128x512_896_0 inb_S1024x1024_S128x512_896_512 x (y 1) (y 0) (by omega) (by omega)
  · exact kchunkT m c t 6 768 rfl inb_S1024x1024_S128x512_768_0 inb_S1024x1024_S128x512_768_512 x (y 1) (y 0) (by omega) (by omega)
  · exact kchunkT m c t 5 640 rfl inb_S1024x1024_S128x512_640_0 inb_S1024x1024_S128x512_640_512 x (y 1) (y 0) (by omega) (by omega)
  · exact kchunkT m c t 4 512 rfl inb_S1024x1024_S128x512_512_0 inb_S1024x1024_S128x512_512_512 x (y 1) (y 0) (by omega) (by omega)
  · exact kchunkT m c t 3 384 rfl inb_S1024x1024_S128x512_384_0 inb_S1024x1024_S128x512_384_512 x (y 1) (y 0) (by omega) (by omega)
  · exact kchunkT m c t 2 256 rfl inb_S1024x1024_S128x512_256_0 inb_S1024x1024_S128x512_256_512 x (y 1) (y 0) (by omega) (by omega)
  · exact kchunkT m c t 1 128 rfl inb_S1024x1024_S128x512_128_0 inb_S1024x1024_S128x512_128_512 x (y 1) (y 0) (by omega) (by omega)
  · exact kchunkT m c t 0 0 rfl inb_S1024x1024_S128x512_0_0 inb_S1024x1024_S128x512_0_512 x (y 1) (y 0) (by omega) (by omega)
theorem final5 : (dats m 0 c).arrAt 5 cfg0.N = (show FVec Ideal S4096x512 .bf16 from fun j => (data m c).out (j 0) (j 1)) := by
  refine (dats m 0 c).arrAt_eq_of_covers 5 _ (by decide +kernel) fun t _ y => ?_
  have e : ((View.whole main_v13_0).slice (win0_5.rect t)).emb y = ValueIdx.ix2 (rowb t (y 0)) (y 1) := by blk_ext [rowb, idx0 t]
  blk_simp
  rw [after0_5, e]
  exact pt5 m c t y
theorem final6 : (dats m 0 c).arrAt 6 cfg0.N = (show FVec Ideal S512x4096 .bf16 from fun j => (data m c).out (j 1) (j 0)) := by
  refine (dats m 0 c).arrAt_eq_of_covers 6 _ (by decide +kernel) fun t _ y => ?_
  have e : ((View.whole main_v13_1).slice (win0_6.rect t)).emb y = ValueIdx.ix2 (y 0) (rowb t (y 1)) := by blk_ext [rowb, idx0 t]
  blk_simp
  rw [after0_6, e]
  exact pt6 m c t y

end Cert.Gfwd
end
-- ==== Proof.Gfwd.Claim.lean ====
/- What the two runs leave in their result arrays, and the claim. -/
module
public import proofs.«01_k».proof.Proof.Gfwd.Out
@[expose] public section
set_option maxRecDepth 16384
noncomputable section
namespace Cert.Gfwd
open Idealize.ShloMosaic Idealize.ShloMosaic.TcCoe Idealize.ShloMosaic.Tactic Idealize.SL.Sem Cert.Finite

section Run
open Cert.Kernel6Ideal Cert.Kernel6Ideal.Gen
variable (m : (ℓ : Loc nD τ sig) → Buf (Elt Ideal) ℓ) (ρ : Dev nD → PrngReg)
/-- The kernel's arguments. -/
abbrev argRefs : List (Ref sig .tc) := [main_arg0, main_arg1, main_arg2, main_arg3, main_arg4, main_arg5]
/-- What the results are. -/
structure Out (c : Dev nD) (m mem : (ℓ : Loc nD τ sig) → Buf (Elt Ideal) ℓ) : Prop where
  o0 : mem ((c.tc : Thread nD τ).loc main_v13_0) = (show FVec Ideal S4096x512 .bf16 from fun j => (data m c).out (j 0) (j 1))
  o1 : mem ((c.tc : Thread nD τ).loc main_v13_1) = (show FVec Ideal S512x4096 .bf16 from fun j => (data m c).out (j 1) (j 0))
  args : ∀ a ∈ argRefs, mem ((c.tc : Thread nD τ).loc a) = m ((c.tc : Thread nD τ).loc a)
/-- The kernel's run. -/
theorem run_out : θ_run defs (onTc (τ := τ) (main (F := Ideal))) ⟨m, fun _ => 0, ρ⟩ fun r => ∀ c : Dev nD, Out c m r.2.mem := by
  refine (θ_run defs _ _).mono (fun r hr c => ?_) (θ_run_and (unchanged m ρ) (run_main m ρ))
  have hm := hr.2 c
  have hu := hr.1 c
  constructor
  · exact (hm.1 5).trans (final5 m c)
  · exact (hm.1 6).trans (final6 m c)
  · obtain ⟨h0, h1, h2, h3, h4, h5⟩ := hu
    intro a ha
    fin_cases ha
    all_goals assumption
end Run

/-- Kernel and reference agree over the reals. -/
theorem algebraic : algebraic_Kernel6Ideal_Reference6Ideal := by
  intro m g m' g' _ hm
  refine ⟨fun c => (show FVec Ideal Kernel6Ideal.S4096x512 .bf16 from fun j => (data m c).out (j 0) (j 1)), fun c => (show FVec Ideal Kernel6Ideal.S512x4096 .bf16 from fun j => (data m c).out (j 1) (j 0)),
    (θ_run _ _ _).mono (fun r hr c => ?_) (run_out m g), (θ_run _ _ _).mono (fun r hr c => ?_) (Reference6Ideal.Value.run m' g')⟩
  · have q := hr c
    exact ⟨q.o0, q.o1, q.args _ (by decide), q.args _ (by decide), q.args _ (by decide), q.args _ (by decide), q.args _ (by decide), q.args _ (by decide)⟩
  · obtain ⟨h0, h1, ha⟩ := hr c
    obtain ⟨a0, a1, a2, a3, a4, a5⟩ := hm c
    have e : Ref.dataOf (m' (c.tc.loc Reference6Ideal.main_arg0)) (m' (c.tc.loc Reference6Ideal.main_arg1)) (m' (c.tc.loc Reference6Ideal.main_arg2)) (m' (c.tc.loc Reference6Ideal.main_arg3)) (m' (c.tc.loc Reference6Ideal.main_arg4)) (m' (c.tc.loc Reference6Ideal.main_arg5)) = data m c := by
      rw [a0, a1, a2, a3, a4, a5]
      rfl
    refine ⟨h0.trans ((Ref.res0 m' c).trans (funext fun j => (Ref.rout_at _ _ _ _ _ _ j).trans ?_)), h1.trans ((Ref.res1 m' c).trans (funext fun j => ?_)), ha⟩
    · exact congrArg (fun D : Data => D.out (j 0) (j 1)) e
    · exact (Ref.routT_at _ _ _ _ _ _ j).trans (congrArg (fun D : Data => D.out (j 1) (j 0)) e)

/-- The named constant is the number that its name states. -/
theorem preserves : preserves_Kernel6_Kernel6Ideal := IdealRules.named_const.statement _ _ _ _ _ rfl

end Cert.Gfwd
end
-- ==== Proof.Swap.Cells.lean ====
/-
  The joined exchange between the devices of a group: the program's pieces the proof names.  Eight devices run it on one
  scalar sequencer each.  A device sends its sibling one half of its rows of `A`, sends three slabs of `P` to three peers,
  and sends its sibling all of `X`.  Of every device's sequencer eleven semaphores take part: the entry barrier (`barC`,
  which four peers raise by one) and, for each of the five copies, its source side and its receiving side (`dmaC`).
-/
module

public import proofs.«01_k».proof.Proof.Gen.Kernel7Ideal
public import proofs.«01_k».proof.Proof.Gen.Kernel7Ideal.Skeleton
public import Idealize.ShloMosaic.Lib.SparseCore.Quiescent
public import Idealize.ShloMosaic.Lib.StableHlo.Run
public import Idealize.ShloMosaic.Lib.Tactic

@[expose] public section

noncomputable section

namespace Cert.Swap

open Cert.Kernel7Ideal Cert.Kernel7Ideal.Gen
open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ### The program as a SparseCore launch -/

abbrev Lab : Labels := Pipeline.Sig Λ₀ (Fin 0) fun p => (pcfgs (F := F) p).Adm
abbrev K : SparseCore.Cfg τ sig (Lab (F := F)) 1 := sc (F := F)
abbrev Df [FloatOps F] : Defs nD τ sig (Elt F) (Lab (F := F)) := Pipeline.defs pcfgs defs₀
abbrev 𝒱₀ : Variants := Variants.none
abbrev 𝒱 : Variants := 𝒱₀.lift
abbrev v₀ : 𝒱.V := Sum.inl none

/-- The launch's own semaphores are four different ones, none scoped; no buffer is shared with the vector subcores. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ### The resources: the launch's rounds and the exchange's, the latter's duties named by devices -/

abbrev UH : Type := URounds (GSem nD τ sig) ℕ
abbrev UX : Type := URounds (GSem nD τ sig) (Dev nD)
abbrev UU : Type := UH × UX
/-- What propositions speak of. -/
abbrev Res (F : FTy → Type) : Type := MT nD τ sig (HIx 1) (Elt F) ℕ UU ℕ

def EH : Emb UH (Res F) := (Emb.inl : Emb UH UU).trans
  (uEmb (nD := nD) (sig := sig) (Ix := HIx 1) (Val := Elt F) (Name := ℕ) (U := UU) (Lvl := ℕ)).toEmb
def EX : Emb UX (Res F) := (Emb.inr : Emb UX UU).trans
  (uEmb (nD := nD) (sig := sig) (Ix := HIx 1) (Val := Elt F) (Name := ℕ) (U := UU) (Lvl := ℕ)).toEmb

instance : (EH : Emb UH (Res F)).LandsIn (upEmb : UEmb _ (Res F)) := by unfold EH; infer_instance
instance : (EX : Emb UX (Res F)).LandsIn (upEmb : UEmb _ (Res F)) := by unfold EX; infer_instance

theorem own_pair (a : UH) (b : UX) : (ownU (a, b) : sProp (Res F)) ⊢ iprop(BI.own (EH a) ∗ BI.own (EX b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

/-! ### The kernel on its sequencer -/

def coordOf (c : Fin (grid0.bound 0)) : grid0.Coords := fun | 0 => c | ⟨_ + 1, h⟩ => absurd h (Nat.not_lt.2 (Nat.le_add_left _ _))
abbrev i₀ : grid0.Coords := coordOf ⟨0, by decide⟩
/-- The one sequencer, as the kernel's own text names it. -/
abbrev c₀ : Fin τ.nSC := (i₀ 0).castLE hcore0

/-! ### The arrays -/

/-- What a device sends: rows of `A`, slabs of `P`, all of `X`; and what it gets: `B`, the slabs of `Q`, `Y`. -/
abbrev locA (d : Dev nD) : Loc nD τ sig := (SparseCore.T d).loc main_arg0
abbrev locP (d : Dev nD) : Loc nD τ sig := (SparseCore.T d).loc main_arg1
abbrev locX (d : Dev nD) : Loc nD τ sig := (SparseCore.T d).loc main_arg2
abbrev locB (d : Dev nD) : Loc nD τ sig := (SparseCore.T d).loc main_v1_0
abbrev locQ (d : Dev nD) : Loc nD τ sig := (SparseCore.T d).loc main_v1_1
abbrev locY (d : Dev nD) : Loc nD τ sig := (SparseCore.T d).loc main_v1_2
abbrev memA : Memref sig .scScalar .hbm S512x5632 .bf16 := Memref.whole main_arg0_scs
abbrev memP : Memref sig .scScalar .hbm S4x256x1408 .bf16 := Memref.whole main_arg1_scs
abbrev memX : Memref sig .scScalar .hbm S352x1024 .f32 := Memref.whole main_arg2_scs
abbrev memB : Memref sig .scScalar .hbm S256x5632 .bf16 := Memref.whole main_v1_0_scs
abbrev memQ : Memref sig .scScalar .hbm S3x256x1408 .bf16 := Memref.whole main_v1_1_scs
abbrev memY : Memref sig .scScalar .hbm S352x1024 .f32 := Memref.whole main_v1_2_scs

/-- The rows sent to the sibling, and the slabs sent and got. -/
abbrev halfA (d : Dev nD) : Memref sig .scScalar .hbm S256x5632 .bf16 :=
  memA.slice (Rect.unit (s := S512x5632) (k0_off1 d) S256x5632.size (k0_off1_inb d)) (fun _ => rfl)
abbrev slabP (k : ℕ) (h : ∀ a, (![k, 0, 0] : Fin 3 → ℕ) a + S1x256x1408.size a ≤ S4x256x1408.size a) : Memref sig .scScalar .hbm S256x1408 .bf16 :=
  (memP.slice (Rect.unit (s := S4x256x1408) ![k, 0, 0] S1x256x1408.size h) (fun _ => rfl)).squeeze S256x1408 squeezes_S1x256x1408_S256x1408
abbrev slabQ (k : ℕ) (h : ∀ a, (![k, 0, 0] : Fin 3 → ℕ) a + S1x256x1408.size a ≤ S3x256x1408.size a) : Memref sig .scScalar .hbm S256x1408 .bf16 :=
  (memQ.slice (Rect.unit (s := S3x256x1408) ![k, 0, 0] S1x256x1408.size h) (fun _ => rfl)).squeeze S256x1408 squeezes_S1x256x1408_S256x1408
abbrev srcP0 := slabP 1 inb_S4x256x1408_S1x256x1408_1_0_0
abbrev dstQ0 := slabQ 0 inb_S3x256x1408_S1x256x1408_0_0_0
abbrev srcP1 := slabP 2 inb_S4x256x1408_S1x256x1408_2_0_0
abbrev dstQ1 := slabQ 1 inb_S3x256x1408_S1x256x1408_1_0_0
abbrev srcP2 := slabP 3 inb_S4x256x1408_S1x256x1408_3_0_0
abbrev dstQ2 := slabQ 2 inb_S3x256x1408_S1x256x1408_2_0_0

/-- A slab holds the entries of one leading coordinate. -/
theorem mem_slab {N k : ℕ} (h : ∀ a, (![k, 0, 0] : Fin 3 → ℕ) a + S1x256x1408.size a ≤ (⟨3, ![N, 256, 1408]⟩ : Shape).size a)
    (i : (⟨3, ![N, 256, 1408]⟩ : Shape).Idx) :
    i ∈ (Rect.unit (s := ⟨3, ![N, 256, 1408]⟩) ![k, 0, 0] S1x256x1408.size h).set ↔ (i 0 : ℕ) = k := by
  refine Rect.mem_set_unit.trans ⟨fun h => ?_, fun h a => ?_⟩
  · have h0 : k ≤ (i 0 : ℕ) ∧ (i 0 : ℕ) < k + 1 := h 0
    omega
  · match a with
    | 0 => show k ≤ (i 0 : ℕ) ∧ (i 0 : ℕ) < k + 1; omega
    | 1 => exact ⟨Nat.zero_le _, (show (i 1 : ℕ) < 0 + 256 from (Nat.zero_add 256).symm ▸ (i 1).isLt)⟩
    | 2 => exact ⟨Nat.zero_le _, (show (i 2 : ℕ) < 0 + 1408 from (Nat.zero_add 1408).symm ▸ (i 2).isLt)⟩
theorem mem_slabP {k h} (i : S4x256x1408.Idx) : i ∈ (slabP k h).view.set ↔ (i 0 : ℕ) = k := by
  rw [Memref.set_view_squeeze]; exact (iff_of_eq (congrArg (i ∈ ·) (View.set_slice_whole _ _))).trans (mem_slab h i)
theorem mem_slabQ {k h} (i : S3x256x1408.Idx) : i ∈ (slabQ k h).view.set ↔ (i 0 : ℕ) = k := by
  rw [Memref.set_view_squeeze]; exact (iff_of_eq (congrArg (i ∈ ·) (View.set_slice_whole _ _))).trans (mem_slab h i)

/-- A part of an array, held on a device's sequencer; and whole arrays, as the launch hands them over. -/
abbrev pt {s : Shape} {e : EltTy} (M : Memref sig .scScalar .hbm s e) (d : Dev nD) (f : Buf (Elt F) (M.view.loc (S d c₀))) : sProp (Res F) :=
  M.view.loc (S d c₀) ↦[M.view.set]{fullShare} f
abbrev all (ℓ : Loc nD τ sig) (f : Buf (Elt F) ℓ) : sProp (Res F) := ℓ ↦{fullShare} f

theorem pt_X (d : Dev nD) (f : Buf (Elt F) (locX d)) : (pt memX d f : sProp (Res F)) = all (locX d) f := by
  unfold pt
  rw [show memX.view.set = Finset.univ from View.set_whole _]
theorem pt_B (d : Dev nD) (f : Buf (Elt F) (locB d)) : (pt memB d f : sProp (Res F)) = all (locB d) f := by
  unfold pt
  rw [show memB.view.set = Finset.univ from View.set_whole _]
theorem pt_Y (d : Dev nD) (f : Buf (Elt F) (locY d)) : (pt memY d f : sProp (Res F)) = all (locY d) f := by
  unfold pt
  rw [show memY.view.set = Finset.univ from View.set_whole _]

/-- What is left of `A` and of `P` when the parts to be sent are taken out. -/
abbrev restA (d : Dev nD) (f : Buf (Elt F) (locA d)) : sProp (Res F) := locA d ↦[Finset.univ \ (halfA d).view.set]{fullShare} f
abbrev restP (d : Dev nD) (f : Buf (Elt F) (locP d)) : sProp (Res F) :=
  locP d ↦[((Finset.univ \ srcP0.view.set) \ srcP1.view.set) \ srcP2.view.set]{fullShare} f

theorem cut_A (d : Dev nD) (f : Buf (Elt F) (locA d)) : (all (locA d) f : sProp (Res F)) ⊣⊢ iprop(pt (halfA d) d f ∗ restA d f) :=
  pointsTo_split_subset (Finset.subset_univ _)
theorem cut_P (d : Dev nD) (f : Buf (Elt F) (locP d)) :
    (all (locP d) f : sProp (Res F)) ⊣⊢ iprop(pt srcP0 d f ∗ pt srcP1 d f ∗ pt srcP2 d f ∗ restP d f) := by
  have h1 : (srcP1.view.set : Finset S4x256x1408.Idx) ⊆ Finset.univ \ srcP0.view.set := fun i hi => by
    have := (mem_slabP i).1 hi
    exact Finset.mem_sdiff.mpr ⟨Finset.mem_univ _, fun h => by have := (mem_slabP i).1 h; omega⟩
  have h2 : (srcP2.view.set : Finset S4x256x1408.Idx) ⊆ (Finset.univ \ srcP0.view.set) \ srcP1.view.set := fun i hi => by
    have := (mem_slabP i).1 hi
    exact Finset.mem_sdiff.mpr ⟨Finset.mem_sdiff.mpr ⟨Finset.mem_univ _, fun h => by have := (mem_slabP i).1 h; omega⟩,
      fun h => by have := (mem_slabP i).1 h; omega⟩
  have e0 : (all (locP d) f : sProp (Res F)) ⊣⊢ iprop(pt srcP0 d f ∗ locP d ↦[Finset.univ \ srcP0.view.set]{fullShare} f) :=
    pointsTo_split_subset (Finset.subset_univ _)
  have e1 : (locP d ↦[Finset.univ \ srcP0.view.set]{fullShare} f : sProp (Res F)) ⊣⊢ iprop(pt srcP1 d f ∗ locP d ↦[(Finset.univ \ srcP0.view.set) \ srcP1.view.set]{fullShare} f) :=
    pointsTo_split_subset h1
  have e2 : (locP d ↦[(Finset.univ \ srcP0.view.set) \ srcP1.view.set]{fullShare} f : sProp (Res F)) ⊣⊢ iprop(pt srcP2 d f ∗ restP d f) :=
    pointsTo_split_subset h2
  exact ⟨e0.1.trans (sep_mono_right (e1.1.trans (sep_mono_right e2.1))), (sep_mono_right ((sep_mono_right e2.2).trans e1.2)).trans e0.2⟩
theorem cut_Q (d : Dev nD) (f : Buf (Elt F) (locQ d)) :
    (all (locQ d) f : sProp (Res F)) ⊣⊢ iprop(pt dstQ0 d f ∗ pt dstQ1 d f ∗ pt dstQ2 d f) := by
  have h1 : (dstQ1.view.set : Finset S3x256x1408.Idx) ⊆ Finset.univ \ dstQ0.view.set := fun i hi => by
    have := (mem_slabQ i).1 hi
    exact Finset.mem_sdiff.mpr ⟨Finset.mem_univ _, fun h => by have := (mem_slabQ i).1 h; omega⟩
  have h2 : (Finset.univ \ dstQ0.view.set) \ dstQ1.view.set = (dstQ2.view.set : Finset S3x256x1408.Idx) := by
    ext i
    rw [Finset.mem_sdiff, Finset.mem_sdiff, mem_slabQ, mem_slabQ, mem_slabQ]
    have : (i 0 : ℕ) < 3 := (i 0).isLt
    simp only [Finset.mem_univ, true_and]
    omega
  have e0 : (all (locQ d) f : sProp (Res F)) ⊣⊢ iprop(pt dstQ0 d f ∗ locQ d ↦[Finset.univ \ dstQ0.view.set]{fullShare} f) :=
    pointsTo_split_subset (Finset.subset_univ _)
  have e1 : (locQ d ↦[Finset.univ \ dstQ0.view.set]{fullShare} f : sProp (Res F)) ⊣⊢ iprop(pt dstQ1 d f ∗ locQ d ↦[(Finset.univ \ dstQ0.view.set) \ dstQ1.view.set]{fullShare} f) :=
    pointsTo_split_subset h1
  rw [show ((Finset.univ \ dstQ0.view.set) \ dstQ1.view.set : Finset ((locQ d).ty.Idx)) = dstQ2.view.set from h2] at e1
  exact ⟨e0.1.trans (sep_mono_right e1.1), (sep_mono_right e1.2).trans e0.2⟩

theorem defs₀_at (c : Fin τ.nSC) [FloatOps F] :
    defs₀ (F := F) (.scScalar c) 0 () = SparseCore.onCore hcore0
      (fun c => cc0_reduce_10 (coordOf c) memA (Memref.isWhole_whole _) memP (Memref.isWhole_whole _) memX (Memref.isWhole_whole _)
        memB (Memref.isWhole_whole _) memQ (Memref.isWhole_whole _) memY (Memref.isWhole_whole _)
        cc0_scratch0 cc0_scratch1 cc0_scratch2 cc0_scratch3 cc0_scratch4 cc0_scratch5) ⟨⟩ c := rfl
abbrev kern [FloatOps F] : Prog (TpuEff nD τ sig (Elt F) Λ₀ (.scScalar c₀)) PUnit :=
  cc0_reduce_10 i₀ memA (Memref.isWhole_whole _) memP (Memref.isWhole_whole _) memX (Memref.isWhole_whole _)
    memB (Memref.isWhole_whole _) memQ (Memref.isWhole_whole _) memY (Memref.isWhole_whole _)
    cc0_scratch0 cc0_scratch1 cc0_scratch2 cc0_scratch3 cc0_scratch4 cc0_scratch5

/-! ### The semaphores -/

abbrev barR : Sem sig := (SemArray.scalar (sig.barrier 17 rfl) : Sems sig S_).sem
abbrev sem1 (a : DmaSems sig S1) : DmaSem sig :=
  ((a.slice (Rect.unit (s := S1) ![0] S1.size inb_S1_S1_0)).squeeze S_ squeezes_S1_S_ : DmaSems sig S_).sem
abbrev sem3 (a : DmaSems sig S3) (k : ℕ) (h : ∀ x, (![k] : Fin 1 → ℕ) x + S1.size x ≤ S3.size x) : DmaSem sig :=
  ((a.slice (Rect.unit (s := S3) ![k] S1.size h)).squeeze S_ squeezes_S1_S_ : DmaSems sig S_).sem
/-- The copies' semaphores: the source sides of the five copies, then their receiving sides. -/
abbrev dmaR : Fin 10 → DmaSem sig := fun
  | 0 => sem1 cc0_scratch0
  | 1 => sem3 cc0_scratch2 0 inb_S3_S1_0
  | 2 => sem3 cc0_scratch2 1 inb_S3_S1_1
  | 3 => sem3 cc0_scratch2 2 inb_S3_S1_2
  | 4 => sem1 cc0_scratch4
  | 5 => sem1 cc0_scratch1
  | 6 => sem3 cc0_scratch3 0 inb_S3_S1_0
  | 7 => sem3 cc0_scratch3 1 inb_S3_S1_1
  | 8 => sem3 cc0_scratch3 2 inb_S3_S1_2
  | 9 => sem1 cc0_scratch5
abbrev barS : SemLoc sig := .reg barR
abbrev dmaS (i : Fin 10) : SemLoc sig := .dma (dmaR i)
abbrev barC (d : Dev nD) : GSem nD τ sig := (S d c₀, barS)
abbrev dmaC (i : Fin 10) (d : Dev nD) : GSem nD τ sig := (S d c₀, dmaS i)

/-- A device's eleven cells by number: the barrier's, then the copies'. -/
abbrev semOf : Fin 11 → SemLoc sig := Fin.cases barS dmaS
abbrev cellOf (x : Dev nD × Fin 11) : GSem nD τ sig := (S x.1 c₀, semOf x.2)

theorem dmaS_ne_barS (i : Fin 10) : (dmaS i : SemLoc sig) ≠ barS := fun h => by cases h
theorem dmaS_injective : Function.Injective dmaS := by decide +kernel
theorem semOf_injective : Function.Injective semOf := by decide +kernel
theorem cellOf_injective : Function.Injective (cellOf : Dev nD × Fin 11 → GSem nD τ sig) := fun a b e => by
  obtain ⟨h1, h2⟩ := Prod.mk.inj e
  exact Prod.ext (Prod.mk.inj h1).1 (semOf_injective h2)

/-- The number of a copy's semaphore, read back. -/
def numOf (s : SemLoc sig) : Option (Fin 10) := (List.finRange 10).find? fun i => decide (s = dmaS i)
theorem numOf_dmaS (i : Fin 10) : numOf (dmaS i) = some i := by revert i; decide +kernel

/-- All cells, those of the barrier, and the copies'. -/
def cells : Finset (GSem nD τ sig) := Finset.univ.image cellOf
def barCells : Finset (GSem nD τ sig) := Finset.univ.image barC
def dmaCells : Finset (GSem nD τ sig) := Finset.univ.image fun x : Dev nD × Fin 10 => dmaC x.2 x.1

theorem cells_eq (Φ : GSem nD τ sig → sProp (Res F)) : bigSep cells Φ = bigSep Finset.univ fun x : Dev nD × Fin 11 => Φ (cellOf x) := by
  unfold cells; exact SparseCore.bigSep_image_of_injOn (fun a _ b _ e => cellOf_injective e) Φ

/-- A family over a device's eleven cells: the barrier's, and the copies'. -/
theorem bar_and_dma (Φ : Fin 11 → sProp (Res F)) : bigSep Finset.univ Φ = iprop(Φ 0 ∗ bigSep Finset.univ fun i : Fin 10 => Φ i.succ) := by
  rw [show (Finset.univ : Finset (Fin 11)) = insert 0 (Finset.univ.image Fin.succ) by decide, SparseCore.bigSep_insert' (by decide),
    SparseCore.bigSep_image_of_injOn (fun a _ b _ e => Fin.succ_injective _ e)]

/-- A family over the copies' sides, one by one. -/
theorem ten (Φ : Fin 10 → sProp (Res F)) : bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide, SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem lev_bar (d : Dev nD) : (K (F := F)).lev (barC d) (some 0) = 3 :=
  (K (F := F)).lev_S_reg d c₀ (s := barR) (show barR ≠ sc_start by decide) (show barR ≠ sc_taskDone by decide) 0
theorem lev_dma (i : Fin 10) (d : Dev nD) : (K (F := F)).lev (dmaC i d) (some 0) = 5 := (K (F := F)).lev_S_dma d c₀ (dmaR i) 0

/-! ### Which of them the launch hands out, and how they are given back -/

theorem dma_scoped (i : Fin 10) : (dmaS i).isScoped .scScalar = true := by revert i; decide +kernel

theorem own_held (d : Dev nD) : ownCells (sig := sig) (S d c₀) ∩ dmaCells = Finset.univ.image fun i : Fin 10 => dmaC i d := by
  ext g
  rw [Finset.mem_inter, mem_ownCells]
  unfold dmaCells
  simp only [Finset.mem_image, Finset.mem_univ, true_and]
  constructor
  · rintro ⟨⟨hg, -⟩, ⟨⟨d', i⟩, rfl⟩⟩
    obtain rfl : d' = d := (Prod.mk.inj hg).1
    exact ⟨i, rfl⟩
  · rintro ⟨i, rfl⟩
    exact ⟨⟨rfl, dma_scoped i⟩, ⟨(d, i), rfl⟩⟩

abbrev dmaZero (d : Dev nD) : sProp (Res F) := bigSep Finset.univ fun i : Fin 10 => semVal (dmaC i d) 0
theorem held_ten (d : Dev nD) : (bigSep (ownCells (sig := sig) (S d c₀) ∩ dmaCells) fun g => (semVal g 0 : sProp (Res F))) = dmaZero d := by
  rw [own_held]
  exact SparseCore.bigSep_image_of_injOn (fun a _ b _ e => dmaS_injective (Prod.mk.inj e).2) _

/-- The barrier cell of every device out of the launch's unscoped semaphores. -/
theorem bars_out : ((K (F := F)).freeOn (· ∈ barCells) : sProp (Res F)) ⊢ bigSep Finset.univ fun d : Dev nD => semVal (barC d) 0 := by
  unfold SparseCore.Cfg.freeOn
  refine sep_elim_left.trans ?_
  rw [bigSep_univ_prod (fun dc : Dev nD × Fin τ.nSC => bigSep ((((Finset.univ.filter fun sm : SemLoc sig => ¬sm.isScoped .scScalar).erase
      (.reg (K (F := F)).start)).erase (.reg (K (F := F)).taskDone)).filter fun sm => (S dc.1 dc.2, sm) ∈ barCells)
        fun sm => (semVal (S dc.1 dc.2, sm) 0 : sProp (Res F)))]
  refine bigSep_mono fun d _ => ?_
  refine (bigSep_elim (i := c₀) (Finset.mem_univ _)).trans ?_
  refine bigSep_elim (i := barS) (Finset.mem_filter.mpr ⟨?_, Finset.mem_image_of_mem barC (Finset.mem_univ d)⟩)
  refine Finset.mem_erase.mpr ⟨show barS ≠ SemLoc.reg sc_taskDone by decide, Finset.mem_erase.mpr ⟨show barS ≠ SemLoc.reg sc_start by decide, ?_⟩⟩
  exact Finset.mem_filter.mpr ⟨Finset.mem_univ _, show ¬ (barS.isScoped .scScalar = true) by decide⟩

/-- The copies' cells of every device out of what is held from the launch. -/
theorem dmas_out (P : (K (F := F)).Pay (nD := nD) (Val := Elt F) (Name := ℕ) (U := UU)) (hP : P.held = dmaCells) :
    (P.heldSems0 : sProp (Res F)) ⊢ bigSep Finset.univ fun d : Dev nD => dmaZero d := by
  change (bigSep Finset.univ fun dc : Dev nD × Fin τ.nSC => bigSep (ownCells (S dc.1 dc.2) ∩ P.held) fun g => (semVal g 0 : sProp (Res F))) ⊢ _
  rw [hP, bigSep_univ_prod (fun dc : Dev nD × Fin τ.nSC => bigSep (ownCells (S dc.1 dc.2) ∩ dmaCells) fun g => (semVal g 0 : sProp (Res F)))]
  refine bigSep_mono fun d _ => ?_
  refine (bigSep_elim (Φ := fun c : Fin τ.nSC => bigSep (ownCells (S d c) ∩ dmaCells) fun g => (semVal g 0 : sProp (Res F))) (i := c₀) (Finset.mem_univ _)).trans ?_
  exact Entails.of_eq (held_ten d)

/-- Together: every cell at zero. -/
theorem cells_zero : iprop((bigSep Finset.univ fun d : Dev nD => semVal (barC d) 0) ∗ bigSep Finset.univ fun d : Dev nD => dmaZero d)
    ⊢ (bigSep cells fun g => semVal g 0 : sProp (Res F)) := by
  rw [cells_eq, bigSep_univ_prod (fun x : Dev nD × Fin 11 => (semVal (cellOf x) 0 : sProp (Res F))), ← bigSep_sep']
  exact bigSep_mono fun d _ => Entails.of_eq (bar_and_dma fun j => (semVal (cellOf (d, j)) 0 : sProp (Res F))).symm

/-- At the kernel's end its scoped semaphores are back at zero. -/
theorem scoped_back (P : (K (F := F)).Pay (nD := nD) (Val := Elt F) (Name := ℕ) (U := UU)) (hP : P.held = dmaCells) (d : Dev nD) :
    iprop((P.ownSems0' (S d c₀) ∗ dmaZero d) ∗ bigSep Finset.univ fun i : Fin τ.nSub => scopedSems0 (V d c₀ i))
      ⊢ (scopedSems0 (S d c₀) : sProp (Res F)) := by
  iintro ⟨⟨Hown, Hcells⟩, Hsubs⟩
  iapply (SparseCore.Cfg.scopedSems0_S_intro (Val := Elt F) d c₀)
  isplitl [Hown Hcells]
  · iapply (SparseCore.ent (Entails.of_eq ((P.ownSems0_split (S d c₀)).trans (by rw [hP, held_ten])).symm))
    isplitl [Hown]; · iexact Hown
    iexact Hcells
  · iexact Hsubs

/-! ### The peers -/

/-- The sibling; then the four peers a device signals, the sibling first. -/
def sib : Dev nD → Dev nD := fun d => (![1, 0, 3, 2, 5, 4, 7, 6] : Fin nD → Dev nD) d
def peer : Fin 4 → Dev nD → Dev nD := fun
  | 0 => sib
  | 1 => fun d => (![4, 5, 6, 7, 0, 1, 2, 3] : Fin nD → Dev nD) d
  | 2 => fun d => (![2, 3, 0, 1, 6, 7, 4, 5] : Fin nD → Dev nD) d
  | 3 => fun d => (![6, 7, 4, 5, 2, 3, 0, 1] : Fin nD → Dev nD) d

theorem dev1_eq (d : Dev nD) : (⟨k0_dev1 d, k0_dev1_lt d⟩ : Dev nD) = peer 0 d := by revert d; decide +kernel
theorem dev2_eq (d : Dev nD) : (⟨k0_dev2 d, k0_dev2_lt d⟩ : Dev nD) = peer 1 d := by revert d; decide +kernel
theorem dev3_eq (d : Dev nD) : (⟨k0_dev3 d, k0_dev3_lt d⟩ : Dev nD) = peer 2 d := by revert d; decide +kernel
theorem dev4_eq (d : Dev nD) : (⟨k0_dev4 d, k0_dev4_lt d⟩ : Dev nD) = peer 3 d := by revert d; decide +kernel
theorem dev5_eq (d : Dev nD) : (⟨k0_dev5 d, k0_dev5_lt d⟩ : Dev nD) = peer 0 d := by revert d; decide +kernel
theorem dev6_eq (d : Dev nD) : (⟨k0_dev6 d, k0_dev6_lt d⟩ : Dev nD) = peer 1 d := by revert d; decide +kernel
theorem dev7_eq (d : Dev nD) : (⟨k0_dev7 d, k0_dev7_lt d⟩ : Dev nD) = peer 2 d := by revert d; decide +kernel
theorem dev8_eq (d : Dev nD) : (⟨k0_dev8 d, k0_dev8_lt d⟩ : Dev nD) = peer 3 d := by revert d; decide +kernel
theorem dev9_eq (d : Dev nD) : (⟨k0_dev9 d, k0_dev9_lt d⟩ : Dev nD) = peer 0 d := by revert d; decide +kernel

theorem peer_peer (i : Fin 4) (d : Dev nD) : peer i (peer i d) = d := by revert i d; decide
/-- The peer a copy goes to: the half and `X` to the sibling, the slabs to the three others. -/
def dest : Fin 5 → Dev nD → Dev nD := fun | 0 => peer 0 | 1 => peer 1 | 2 => peer 2 | 3 => peer 3 | 4 => peer 0
theorem dest_dest (k : Fin 5) (d : Dev nD) : dest k (dest k d) = d := by revert k d; decide
theorem dest_bijective (k : Fin 5) : Function.Bijective (dest k) := (show Function.Involutive (dest k) from dest_dest k).bijective
theorem sib_sib (d : Dev nD) : sib (sib d) = d := peer_peer 0 d
theorem peer_injective (d : Dev nD) : Function.Injective fun i => peer i d := by revert d; decide
theorem peer_bijective (i : Fin 4) : Function.Bijective (peer i) := (show Function.Involutive (peer i) from peer_peer i).bijective

end Cert.Swap

end
-- ==== Proof.Swap.Plan.lean ====
/-
  The plan of the joined exchange: who raises each semaphore, by how much, and what travels with it.

  The barrier of device `d` is raised by one by each of its four peers.  With the sibling's unit come the sibling's arrays
  `B` and `Y`, and with each other peer's a slab of that peer's `Q`, to be written by `d`.  Each of the five copies gives
  `d` the part it sent back on its source side and, on the receiver's side, the part written, holding what `d` sent.  So at
  the start `d` owes a unit to each of its peers' barriers and five copies to their receiving sides, and is owed as much.
-/
module

public import proofs.«01_k».proof.Proof.Swap.Cells

@[expose] public section

noncomputable section

attribute [local irreducible] Idealize.SL.BI.bigSep

namespace Cert.Swap

open Cert.Kernel7Ideal Cert.Kernel7Ideal.Gen
open Idealize.ShloMosaic
open Idealize.ShloMosaic.SparseCore (S V)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable (m : (ℓ : Loc nD τ sig) → Buf (Elt F) ℓ)

/-- What the arrays of a device end with: the sibling's rows, the slabs of three peers, the sibling's `X`. -/
def gotB (d : Dev nD) : Buf (Elt F) (locB d) := (halfA (sib d)).view.read (Elt F) (m (locA (sib d)))
def upQ (i : S3x256x1408.Idx) : S4x256x1408.Idx := fun
  | 0 => ⟨(i 0 : ℕ) + 1, Nat.succ_lt_succ (i 0).isLt⟩
  | 1 => i 1
  | 2 => i 2
def gotQ (d : Dev nD) : Buf (Elt F) (locQ d) := fun i : S3x256x1408.Idx =>
  m (locP (dest ⟨(i 0 : ℕ) + 1, Nat.lt_of_lt_of_le (Nat.succ_lt_succ (i 0).isLt) (by decide)⟩ d)) (upQ i)
def gotY (d : Dev nD) : Buf (Elt F) (locY d) := fun i => m (locX (sib d)) i

/-- What comes with device `s`'s unit on the barrier of `p`: the arrays, or the slab, that `p` writes on `s`. -/
def barPay (p s : Dev nD) : sProp (Res F) :=
  if s = peer 0 p then iprop((∃ f, pt memB s f) ∗ ∃ f, pt memY s f)
  else if s = peer 1 p then iprop(∃ f, pt dstQ0 s f)
  else if s = peer 2 p then iprop(∃ f, pt dstQ1 s f)
  else if s = peer 3 p then iprop(∃ f, pt dstQ2 s f) else iprop(emp)

instance (p s : Dev nD) : BI.Storable (upEmb : UEmb _ (Res F)) (barPay (F := F) p s) := by
  unfold barPay; (repeat' split) <;> infer_instance

/-- What a copy brings: on its source side the part sent, back; on its receiving side the part filled. -/
def pay (i : Fin 10) (p : Dev nD) : sProp (Res F) := match i with
  | 0 => pt (halfA p) p (m (locA p))
  | 1 => pt srcP0 p (m (locP p))
  | 2 => pt srcP1 p (m (locP p))
  | 3 => pt srcP2 p (m (locP p))
  | 4 => pt memX p (m (locX p))
  | 5 => pt memB p (gotB m p)
  | 6 => pt dstQ0 p (gotQ m p)
  | 7 => pt dstQ1 p (gotQ m p)
  | 8 => pt dstQ2 p (gotQ m p)
  | 9 => pt memY p (gotY m p)

instance (i : Fin 10) (p : Dev nD) : BI.Storable (upEmb : UEmb _ (Res F)) (pay m i p) := by
  fin_cases i <;> (unfold pay; infer_instance)

/-- The device whose copy raises a side, and by how much. -/
def giver (i : Fin 10) (p : Dev nD) : Dev nD := match i with
  | 0 => p | 1 => p | 2 => p | 3 => p | 4 => p
  | 5 => dest 0 p | 6 => dest 1 p | 7 => dest 2 p | 8 => dest 3 p | 9 => dest 4 p
abbrev credB : ℕ := memB.view.dmaCredit
abbrev credQ : ℕ := dstQ0.view.dmaCredit
abbrev credY : ℕ := memY.view.dmaCredit
abbrev cr : Fin 5 → ℕ := fun | 0 => credB | 1 => credQ | 2 => credQ | 3 => credQ | 4 => credY
abbrev sI : Fin 5 → Fin 10 := fun | 0 => 0 | 1 => 1 | 2 => 2 | 3 => 3 | 4 => 4
abbrev rI : Fin 5 → Fin 10 := fun | 0 => 5 | 1 => 6 | 2 => 7 | 3 => 8 | 4 => 9
/-- The copy a side belongs to. -/
abbrev ofI : Fin 10 → Fin 5 := fun | 0 => 0 | 1 => 1 | 2 => 2 | 3 => 3 | 4 => 4 | 5 => 0 | 6 => 1 | 7 => 2 | 8 => 3 | 9 => 4
theorem cr_pos (k : Fin 5) : 0 < cr k := match k with
  | 0 => View.dmaCredit_pos _ (by decide) | 1 => View.dmaCredit_pos _ (by decide) | 2 => View.dmaCredit_pos _ (by decide)
  | 3 => View.dmaCredit_pos _ (by decide) | 4 => View.dmaCredit_pos _ (by decide)
theorem of_s (k : Fin 5) : ofI (sI k) = k := by revert k; decide
theorem of_r (k : Fin 5) : ofI (rI k) = k := by revert k; decide
theorem giver_s (k : Fin 5) (p : Dev nD) : giver (sI k) p = p := by fin_cases k <;> rfl
theorem giver_r (k : Fin 5) (p : Dev nD) : giver (rI k) p = dest k p := by fin_cases k <;> rfl

/-- The peers of a device. -/
abbrev peersOf (d : Dev nD) : Finset (Dev nD) := Finset.univ.image fun i => peer i d

/-- The schedule: one round on each cell. -/
def plan : Rounds.Schedule (GSem nD τ sig) (Dev nD) (Res F) where
  duties g r := if r = 0 ∧ g.1.2 = .scScalar c₀ then
    (if g.2 = barS then peersOf g.1.1 else match numOf g.2 with | some i => {giver i g.1.1} | none => ∅) else ∅
  unitless _ := False
  amount g _ _ := if g.2 = barS then 1 else match numOf g.2 with | some i => cr (ofI i) | none => 1
  payload g _ s := if g.2 = barS then barPay g.1.1 s else match numOf g.2 with | some i => pay m i g.1.1 | none => iprop(emp)
  amount_pos g _ _ _ := by
    split
    · exact Nat.one_pos
    · split
      · exact cr_pos _
      · exact Nat.one_pos

instance (g : GSem nD τ sig) (r : ℕ) (s : Dev nD) : BI.Storable (upEmb : UEmb _ (Res F)) ((plan m).payload g r s) := by
  show BI.Storable upEmb (if g.2 = barS then barPay g.1.1 s else match numOf g.2 with | some i => pay m i g.1.1 | none => iprop(emp))
  (repeat' split) <;> infer_instance

theorem no_more (g : GSem nD τ sig) : ∀ r, 1 ≤ r → (plan m).duties g r = ∅ :=
  fun r hr => by dsimp only [plan]; rw [if_neg (fun h => by omega)]

section
variable (p s : Dev nD) (i : Fin 10)

theorem duties_bar : (plan m).duties (barC p) 0 = peersOf p := by dsimp only [plan]; rw [if_pos ⟨rfl, rfl⟩, if_pos rfl]
theorem duties_dma : (plan m).duties (dmaC i p) 0 = {giver i p} := by
  dsimp only [plan]; rw [if_pos ⟨rfl, rfl⟩, if_neg (dmaS_ne_barS i), numOf_dmaS]
theorem amount_bar : (plan m).amount (barC p) 0 s = 1 := by dsimp only [plan]; rw [if_pos rfl]
theorem amount_dma : (plan m).amount (dmaC i p) 0 s = cr (ofI i) := by
  dsimp only [plan]; rw [if_neg (dmaS_ne_barS i), numOf_dmaS]
theorem payload_bar : (plan m).payload (barC p) 0 s = barPay p s := by dsimp only [plan]; rw [if_pos rfl]
theorem payload_dma : (plan m).payload (dmaC i p) 0 s = pay m i p := by
  dsimp only [plan]; rw [if_neg (dmaS_ne_barS i), numOf_dmaS]

theorem expect_bar : (plan m).expect (barC p) 0 = 4 := by
  unfold Schedule.expect Schedule.amountOf
  rw [duties_bar, Finset.sum_congr rfl fun s _ => amount_bar m p s, Finset.sum_const, smul_eq_mul,
    Finset.card_image_of_injective _ (peer_injective p), Finset.card_univ, Fintype.card_fin]
theorem expect_dma : (plan m).expect (dmaC i p) 0 = cr (ofI i) := by
  unfold Schedule.expect Schedule.amountOf
  rw [duties_dma, Finset.sum_congr rfl fun s _ => amount_dma m p s i, Finset.sum_const, smul_eq_mul, Finset.card_singleton, Nat.one_mul]

theorem mem_bar (i : Fin 4) : p ∈ (plan m).duties (barC (peer i p)) 0 := by
  rw [duties_bar]; exact Finset.mem_image.mpr ⟨i, Finset.mem_univ _, peer_peer i p⟩
theorem mem_snd (k : Fin 5) : p ∈ (plan m).duties (dmaC (sI k) p) 0 := by rw [duties_dma, giver_s]; exact Finset.mem_singleton_self _
theorem mem_rcv (k : Fin 5) : p ∈ (plan m).duties (dmaC (rI k) (dest k p)) 0 := by
  rw [duties_dma, giver_r, dest_dest]; exact Finset.mem_singleton_self _

/-- What a device writes on its peers. -/
abbrev targets : sProp (Res F) := iprop(((∃ f, pt memB (peer 0 p) f) ∗ ∃ f, pt memY (peer 0 p) f)
  ∗ (∃ f, pt dstQ0 (peer 1 p) f) ∗ (∃ f, pt dstQ1 (peer 2 p) f) ∗ ∃ f, pt dstQ2 (peer 3 p) f)

theorem pay_0 : (barPay p (peer 0 p) : sProp (Res F)) = iprop((∃ f, pt memB (peer 0 p) f) ∗ ∃ f, pt memY (peer 0 p) f) := if_pos rfl
theorem pay_1 : (barPay p (peer 1 p) : sProp (Res F)) = iprop(∃ f, pt dstQ0 (peer 1 p) f) :=
  (if_neg (by revert p; decide)).trans (if_pos rfl)
theorem pay_2 : (barPay p (peer 2 p) : sProp (Res F)) = iprop(∃ f, pt dstQ1 (peer 2 p) f) :=
  (if_neg (by revert p; decide)).trans ((if_neg (by revert p; decide)).trans (if_pos rfl))
theorem pay_3 : (barPay p (peer 3 p) : sProp (Res F)) = iprop(∃ f, pt dstQ2 (peer 3 p) f) :=
  (if_neg (by revert p; decide)).trans ((if_neg (by revert p; decide)).trans ((if_neg (by revert p; decide)).trans (if_pos rfl)))

/-- What the waits bring. -/
theorem take_bar : (bigSep ((plan m).duties (barC p) 0 \ ∅) fun s => (plan m).payload (barC p) 0 s) ⊢ (targets p : sProp (Res F)) := by
  rw [Finset.sdiff_empty, duties_bar, SparseCore.bigSep_image_of_injOn (fun a _ b _ e => peer_injective p e),
    show (Finset.univ : Finset (Fin 4)) = {0, 1, 2, 3} by decide, SparseCore.bigSep_insert' (by decide), SparseCore.bigSep_insert' (by decide),
    SparseCore.bigSep_insert' (by decide), bigSep_singleton, payload_bar, payload_bar, payload_bar, payload_bar, pay_0, pay_1, pay_2, pay_3]
theorem take_dma : (bigSep ((plan m).duties (dmaC i p) 0 \ ∅) fun s => (plan m).payload (dmaC i p) 0 s) ⊢ (pay m i p : sProp (Res F)) := by
  rw [← payload_dma m p (giver i p) i]
  refine bigSep_elim (Finset.mem_sdiff.mpr ⟨?_, Finset.notMem_empty _⟩)
  rw [duties_dma]; exact Finset.mem_singleton_self _
end

/-! ### Debts and credit -/

/-- What device `d` owes when its kernel begins. -/
def owed (d : Dev nD) : CellTallies nD τ sig (HIx 1) :=
  (∑ i : Fin 4, tallyAt (barC (peer i d)) (some 0) 1) + ∑ k : Fin 5, tallyAt (dmaC (rI k) (dest k d)) (some 0) (cr k)
/-- What is owed to device `d`. -/
def due (d : Dev nD) : CellTallies nD τ sig (HIx 1) := tallyAt (barC d) (some 0) 4 + ∑ k : Fin 5, tallyAt (dmaC (rI k) d) (some 0) (cr k)

/-- In sum the debts are what is due. -/
theorem owed_due : (∑ d : Dev nD, owed d) = ∑ d : Dev nD, due d := by
  unfold owed due
  rw [Finset.sum_add_distrib, Finset.sum_add_distrib]
  congr 1
  · rw [Finset.sum_comm]
    refine (Finset.sum_congr rfl fun i _ => Equiv.sum_comp (Equiv.ofBijective _ (peer_bijective i))
      (fun p => (tallyAt (barC p) (some 0) 1 : CellTallies nD τ sig (HIx 1)))).trans ?_
    rw [Finset.sum_comm]
    refine Finset.sum_congr rfl fun d _ => ?_
    rw [Fin.sum_univ_four, tallyAt_add, tallyAt_add, tallyAt_add]
  · rw [Finset.sum_comm]
    refine (Finset.sum_congr rfl fun k _ => Equiv.sum_comp (Equiv.ofBijective _ (dest_bijective k))
      (fun p => (tallyAt (dmaC (rI k) p) (some 0) (cr k) : CellTallies nD τ sig (HIx 1)))).trans ?_
    exact Finset.sum_comm

theorem tally_pos {g g' : GSem nD τ sig} {ι ι' : HIx 1} {n : ℕ} (h : 0 < (tallyAt g' ι' n : CellTallies nD τ sig (HIx 1)) g ι) :
    g = g' ∧ ι = ι' := by
  rw [tallyAt_apply] at h
  split at h
  · assumption
  · exact absurd h (lt_irrefl 0)

/-- A debt of the start is to a barrier or to a copy's side. -/
theorem owed_pos {d : Dev nD} {g : GSem nD τ sig} {ι : HIx 1} (h : 0 < owed d g ι) :
    (∃ p, g = barC p ∨ ∃ i, g = dmaC i p) ∧ ι = some 0 := by
  unfold owed at h
  rw [Pi.add_apply, Finsupp.add_apply, Finset.sum_apply, Finsupp.finsetSum_apply, Finset.sum_apply, Finsupp.finsetSum_apply] at h
  rcases Nat.add_pos_iff_pos_or_pos.mp h with h | h
  · obtain ⟨i, -, hi⟩ := Finset.exists_ne_zero_of_sum_ne_zero (Nat.pos_iff_ne_zero.mp h)
    obtain ⟨h1, h2⟩ := tally_pos (Nat.pos_of_ne_zero hi)
    exact ⟨⟨_, .inl h1⟩, h2⟩
  · obtain ⟨k, -, hk⟩ := Finset.exists_ne_zero_of_sum_ne_zero (Nat.pos_iff_ne_zero.mp h)
    obtain ⟨h1, h2⟩ := tally_pos (Nat.pos_of_ne_zero hk)
    exact ⟨⟨_, .inr ⟨_, h1⟩⟩, h2⟩

/-- Such a debt lies in the band of levels a kernel may owe in. -/
theorem owed_band {d : Dev nD} {g : GSem nD τ sig} {ι : HIx 1} (h : 0 < owed d g ι) :
    8 * (0 : Fin 1).val + 3 ≤ (K (F := F)).lev g ι ∧ (K (F := F)).lev g ι ≤ 8 * (0 : Fin 1).val + 5 := by
  obtain ⟨⟨p, rfl | ⟨i, rfl⟩⟩, rfl⟩ := owed_pos h
  · rw [lev_bar]; decide
  · rw [lev_dma]; decide

/-- The credit of what is due, in its parts. -/
abbrev dues (k : Fin 5) (d : Dev nD) : sProp (Res F) := cred (tallyAt (dmaC (rI k) d) (some 0) (cr k))
theorem cred_add' (a b : CellTallies nD τ sig (HIx 1)) : (cred (a + b) : sProp (Res F)) = iprop(cred a ∗ cred b) :=
  BI.Entails.antisymm (cred_add _ _).1 (cred_add _ _).2
theorem cred_due (d : Dev nD) : (cred (due d) : sProp (Res F))
    = iprop(cred (tallyAt (barC d) (some 0) 4) ∗ (((dues 0 d ∗ dues 1 d) ∗ dues 2 d) ∗ dues 3 d) ∗ dues 4 d) := by
  unfold due; rw [Fin.sum_univ_five, cred_add', cred_add', cred_add', cred_add', cred_add']

/-! ### Tokens -/

/-- The tokens device `d` starts with: its duty on each peer's barrier, its copies' source sides', their receiving sides'. -/
def tokOf (x : Dev nD × Fin 14) : GSem nD τ sig × ℕ × Dev nD := match x.2 with
  | 0 => (barC (peer 0 x.1), 0, x.1)
  | 1 => (barC (peer 1 x.1), 0, x.1)
  | 2 => (barC (peer 2 x.1), 0, x.1)
  | 3 => (barC (peer 3 x.1), 0, x.1)
  | 4 => (dmaC (sI 0) x.1, 0, x.1)
  | 5 => (dmaC (sI 1) x.1, 0, x.1)
  | 6 => (dmaC (sI 2) x.1, 0, x.1)
  | 7 => (dmaC (sI 3) x.1, 0, x.1)
  | 8 => (dmaC (sI 4) x.1, 0, x.1)
  | 9 => (dmaC (rI 0) (dest 0 x.1), 0, x.1)
  | 10 => (dmaC (rI 1) (dest 1 x.1), 0, x.1)
  | 11 => (dmaC (rI 2) (dest 2 x.1), 0, x.1)
  | 12 => (dmaC (rI 3) (dest 3 x.1), 0, x.1)
  | 13 => (dmaC (rI 4) (dest 4 x.1), 0, x.1)
/-- The number of the cell a token is for, and its device. -/
def tokKey (x : Dev nD × Fin 14) : (Dev nD × Fin 11) × Dev nD := match x.2 with
  | 0 => ((peer 0 x.1, 0), x.1)
  | 1 => ((peer 1 x.1, 0), x.1)
  | 2 => ((peer 2 x.1, 0), x.1)
  | 3 => ((peer 3 x.1, 0), x.1)
  | 4 => ((x.1, 1), x.1)
  | 5 => ((x.1, 2), x.1)
  | 6 => ((x.1, 3), x.1)
  | 7 => ((x.1, 4), x.1)
  | 8 => ((x.1, 5), x.1)
  | 9 => ((dest 0 x.1, 6), x.1)
  | 10 => ((dest 1 x.1, 7), x.1)
  | 11 => ((dest 2 x.1, 8), x.1)
  | 12 => ((dest 3 x.1, 9), x.1)
  | 13 => ((dest 4 x.1, 10), x.1)
theorem tokOf_key (x : Dev nD × Fin 14) : tokOf x = (cellOf (tokKey x).1, 0, (tokKey x).2) := by
  obtain ⟨d, i⟩ := x; fin_cases i <;> rfl
theorem tokKey_injective : Function.Injective tokKey := by decide +kernel
theorem tokOf_injective : Function.Injective tokOf := fun a b e => by
  rw [tokOf_key, tokOf_key] at e
  obtain ⟨h1, h2⟩ := Prod.mk.inj e
  exact tokKey_injective (Prod.ext (cellOf_injective h1) (Prod.mk.inj h2).2)
def toks : Finset (GSem nD τ sig × ℕ × Dev nD) := Finset.univ.image tokOf

abbrev tokensOf (d : Dev nD) : sProp (Res F) := iprop(dutyTok EX (barC (peer 0 d)) 0 d
  ∗ dutyTok EX (barC (peer 1 d)) 0 d
  ∗ dutyTok EX (barC (peer 2 d)) 0 d
  ∗ dutyTok EX (barC (peer 3 d)) 0 d
  ∗ dutyTok EX (dmaC (sI 0) d) 0 d
  ∗ dutyTok EX (dmaC (sI 1) d) 0 d
  ∗ dutyTok EX (dmaC (sI 2) d) 0 d
  ∗ dutyTok EX (dmaC (sI 3) d) 0 d
  ∗ dutyTok EX (dmaC (sI 4) d) 0 d
  ∗ dutyTok EX (dmaC (rI 0) (dest 0 d)) 0 d
  ∗ dutyTok EX (dmaC (rI 1) (dest 1 d)) 0 d
  ∗ dutyTok EX (dmaC (rI 2) (dest 2 d)) 0 d
  ∗ dutyTok EX (dmaC (rI 3) (dest 3 d)) 0 d
  ∗ dutyTok EX (dmaC (rI 4) (dest 4 d)) 0 d)
theorem toks_dealt : (bigSep toks fun x => (dutyTok EX x.1 x.2.1 x.2.2 : sProp (Res F))) = bigSep Finset.univ fun d : Dev nD => tokensOf d := by
  unfold toks
  rw [SparseCore.bigSep_image_of_injOn (fun a _ b _ e => tokOf_injective e), bigSep_univ_prod]
  refine congrArg (bigSep Finset.univ) (funext fun d => ?_)
  rw [show (Finset.univ : Finset (Fin 14)) = {0, 1, 2, 3, 4, 5, 6, 7, 8, 9, 10, 11, 12, 13} by decide]
  iterate 13 rw [SparseCore.bigSep_insert' (by decide)]
  rw [bigSep_singleton]
  rfl

/-! ### What each device starts from -/

/-- Every device's eleven cells are under their invariants, and stand at round 0. -/
abbrev invs (κ : GSem nD τ sig → ℕ) : sProp (Res F) := bigSep Finset.univ fun x : Dev nD × Fin 11 => cellInv EX (plan m) (κ (cellOf x)) (cellOf x)
abbrev begun : sProp (Res F) := bigSep Finset.univ fun x : Dev nD × Fin 11 => reached EX (cellOf x) 0
abbrev known : sProp (Res F) := iprop((∃ κ : GSem nD τ sig → ℕ, invs (F := F) m κ) ∗ begun)
abbrev placesOf (d : Dev nD) : sProp (Res F) := iprop(atPos EX (barC d) 0 ∅ 0 ∗ bigSep Finset.univ fun i : Fin 10 => atPos EX (dmaC i d) 0 ∅ 0)
abbrev own (d : Dev nD) : sProp (Res F) := iprop(placesOf d ∗ tokensOf d ∗ cred (due d))
def start (d : Dev nD) : sProp (Res F) := iprop(known m ∗ own d)

theorem inv_at (κ : GSem nD τ sig → ℕ) (p : Dev nD) (j : Fin 11) : invs m κ ⊢ cellInv EX (plan m) (κ (cellOf (p, j))) (cellOf (p, j)) :=
  bigSep_elim (Φ := fun x : Dev nD × Fin 11 => cellInv EX (plan m) (κ (cellOf x)) (cellOf x)) (i := (p, j)) (Finset.mem_univ _)
theorem begun_at (p : Dev nD) (j : Fin 11) : (begun : sProp (Res F)) ⊢ reached EX (cellOf (p, j)) 0 :=
  bigSep_elim (Φ := fun x : Dev nD × Fin 11 => (reached EX (cellOf x) 0 : sProp (Res F))) (i := (p, j)) (Finset.mem_univ _)

theorem places_dealt : (bigSep cells fun g => (atPos EX g 0 ∅ 0 : sProp (Res F))) = bigSep Finset.univ fun d : Dev nD => placesOf d := by
  rw [cells_eq, bigSep_univ_prod (fun x : Dev nD × Fin 11 => (atPos EX (cellOf x) 0 ∅ 0 : sProp (Res F)))]
  exact congrArg (bigSep Finset.univ) (funext fun d => bar_and_dma fun j => (atPos EX (cellOf (d, j)) 0 ∅ 0 : sProp (Res F)))

/-- The invariants are set up for every cell at once, before any kernel begins. -/
theorem invs_set : iprop((bigSep cells fun g => (semVal g 0 : sProp (Res F))) ∗ bigSep cells fun g => roundState EX (plan m) g 0)
    ⊢ |={Set.univ}=> iprop(∃ κ : GSem nD τ sig → ℕ, invs m κ) := by
  refine (Rounds.bodies_intro EX (plan m) cells).trans ((inv_alloc_family cells (Rounds.body EX (plan m)) ∅ (E := Set.univ)).trans ?_)
  iintro H
  imod H with ⟨%κ, -, Hinv⟩
  imodintro; iexists κ
  iapply (SparseCore.ent (Entails.of_eq (cells_eq (fun g => (cellInv EX (plan m) (κ g) g : sProp (Res F))))))
  iexact Hinv

end Cert.Swap

end
-- ==== Proof.Swap.Body.lean ====
/-
  The kernel on one device.  It raises its four peers' barriers, each unit carrying the part of the device's results that
  the peer writes; waits for four units on its own barrier, and so has what it writes on its peers; starts its five copies;
  waits until each part is back and each result is filled.  Its eleven semaphores are closed at zero.
-/
module

public import proofs.«01_k».proof.Proof.Swap.Plan

@[expose] public section

noncomputable section

attribute [local irreducible] Idealize.SL.BI.bigSep

namespace Cert.Swap

open Cert.Kernel7Ideal Cert.Kernel7Ideal.Gen
open Idealize.ShloMosaic
open Idealize.ShloMosaic.SparseCore (S V)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]
variable (m : (ℓ : Loc nD τ sig) → Buf (Elt F) ℓ)

/-- What is owed for the five copies. -/
abbrev copies (O : CellTallies nD τ sig (HIx 1)) (d : Dev nD) : CellTallies nD τ sig (HIx 1) :=
  O + tallyAt (dmaC (rI 4) (dest 4 d)) (some 0) (cr 4) + tallyAt (dmaC (rI 3) (dest 3 d)) (some 0) (cr 3) + tallyAt (dmaC (rI 2) (dest 2 d)) (some 0) (cr 2) + tallyAt (dmaC (rI 1) (dest 1 d)) (some 0) (cr 1) + tallyAt (dmaC (rI 0) (dest 0 d)) (some 0) (cr 0)
/-- The debts in the order they are paid. -/
theorem owed_order (O : CellTallies nD τ sig (HIx 1)) (d : Dev nD) : O + owed d
    = copies O d + tallyAt (barC (peer 3 d)) (some 0) 1 + tallyAt (barC (peer 2 d)) (some 0) 1 + tallyAt (barC (peer 1 d)) (some 0) 1 + tallyAt (barC (peer 0 d)) (some 0) 1 := by
  unfold owed copies; rw [Fin.sum_univ_four, Fin.sum_univ_five]; ac_rfl

section
variable (d : Dev nD) (O : CellTallies nD τ sig (HIx 1)) (hO : ∀ g ι, 0 < O g ι → 8 * (0 : Fin 1).val + 7 ≤ (K (F := F)).lev g ι)
include hO

/-- The barrier may be waited for with the copies still owed. -/
theorem may_bar : (levAts (K (F := F)).L (K (F := F)).lev : sProp (Res F)) ⊢ MayWait (S d c₀) barS (some 0) (copies O d) :=
  (K (F := F)).mayOwe_of_bound 3 (fun p hp => by rw [Finset.mem_singleton] at hp; subst hp; exact (lev_bar d).le) fun g ι hg => by
    have one : ∀ {k}, 0 < (tallyAt (dmaC (rI k) (dest k d)) (some 0) (cr k) : CellTallies nD τ sig (HIx 1)) g ι → 3 < (K (F := F)).lev g ι := by
      intro k h; obtain ⟨rfl, rfl⟩ := tally_pos h; rw [lev_dma]; decide
    simp only [copies, Pi.add_apply, Finsupp.add_apply] at hg
    rcases Nat.add_pos_iff_pos_or_pos.mp hg with hg | h; swap; · exact one h
    rcases Nat.add_pos_iff_pos_or_pos.mp hg with hg | h; swap; · exact one h
    rcases Nat.add_pos_iff_pos_or_pos.mp hg with hg | h; swap; · exact one h
    rcases Nat.add_pos_iff_pos_or_pos.mp hg with hg | h; swap; · exact one h
    rcases Nat.add_pos_iff_pos_or_pos.mp hg with hg | h; swap; · exact one h
    exact lt_of_lt_of_le (by decide) (hO g ι hg)
/-- A copy's sides may be waited for with only what was owed before. -/
theorem may_dma (i : Fin 10) : (levAts (K (F := F)).L (K (F := F)).lev : sProp (Res F)) ⊢ MayWait (S d c₀) (dmaS i) (some 0) O :=
  (K (F := F)).mayOwe_of_bound 5 (fun p hp => by rw [Finset.mem_singleton] at hp; subst hp; exact (lev_dma i d).le)
    fun g ι hg => lt_of_lt_of_le (by decide) (hO g ι hg)
end

/-- One signal to a peer's barrier. -/
theorem raise (κ : GSem nD τ sig → ℕ) (d : Dev nD) (i : Fin 4) (p : Dev nD) (hp : p = peer i d) (n : ℕ) (hn : n = 1)
    (O : CellTallies nD τ sig (HIx 1)) (W : Waits sig (HIx 1))
    {β : Type} {cont : PUnit → Prog (TpuEff nD τ sig (Elt F) Λ₀ (.scScalar c₀)) β} {Q : β → sProp (Res F)} :
    iprop(cellInv EX (plan m) (κ (barC (peer i d))) (barC (peer i d))
        ∗ owes (S d c₀) (O + tallyAt (barC (peer i d)) (some 0) 1) W
        ∗ dutyTok EX (barC (peer i d)) 0 d ∗ barPay (peer i d) d ∗ reached EX (barC (peer i d)) 0)
      ⊢ iprop((owes (S d c₀) O W -∗ wp frame (wpE (defs₀ (F := F)) 𝒱₀ (S d c₀) none) Set.univ (cont ⟨⟩) Q)
          -∗ wp frame (wpE (defs₀ (F := F)) 𝒱₀ (S d c₀) none) Set.univ (.op (.semSignal (S p c₀) barR n) cont) Q) := by
  subst hp hn
  rw [← payload_bar m (peer i d) d]
  exact Rounds.wp_signal 𝒱₀ EX (plan m) (S d c₀) none (dst := S (peer i d) c₀) (κ := κ (barC (peer i d))) (r := 0) (d := d)
    (mem_bar m d i) (amount_bar m _ _) (some 0) O rfl

/-- The wait for the four units. -/
theorem gather (κ : GSem nD τ sig → ℕ) (d : Dev nD) (n : ℕ) (hn : n = 4) (O : CellTallies nD τ sig (HIx 1)) (W : Waits sig (HIx 1))
    {β : Type} {cont : PUnit → Prog (TpuEff nD τ sig (Elt F) Λ₀ (.scScalar c₀)) β} {Q : β → sProp (Res F)} :
    iprop(cellInv EX (plan m) (κ (barC d)) (barC d) ∗ cred (tallyAt (barC d) (some 0) 4)
        ∗ owes (S d c₀) O W ∗ MayWait (S d c₀) barS (some 0) O ∗ atPos EX (barC d) 0 ∅ 0)
      ⊢ iprop(((owes (S d c₀) O (insert (barS, some 0) W) ∗ atPos EX (barC d) (0 + 1) ∅ 0 ∗ reached EX (barC d) (0 + 1)
              ∗ bigSep ((plan m).duties (barC d) 0 \ ∅) (fun s => (plan m).payload (barC d) 0 s))
            -∗ wp frame (wpE (defs₀ (F := F)) 𝒱₀ (S d c₀) none) Set.univ (cont ⟨⟩) Q)
          -∗ wp frame (wpE (defs₀ (F := F)) 𝒱₀ (S d c₀) none) Set.univ (.op (.semWait barR n) cont) Q) := by
  subst hn
  exact Rounds.wp_wait_rest_token 𝒱₀ EX (plan m) (S d c₀) none (κ := κ (barC d)) (wpE_semWait_eq 𝒱₀ (S d c₀) none Set.univ)
    (Set.mem_univ _) (some 0) ((Nat.zero_add 4).trans (expect_bar m d).symm)

/-! ### What each copy leaves on its receiver -/

theorem got_B (d : Dev nD) : gotB m (sib d) = (halfA d).view.read (Elt F) (m (locA d)) := by unfold gotB; rw [sib_sib]
theorem got_Y (d : Dev nD) : gotY m (sib d) = m (locX d) := by unfold gotY; rw [sib_sib]

theorem fill_B (d : Dev nD) (fd : Buf (Elt F) (locB (dest 0 d))) :
    (pt memB (dest 0 d) (memB.view.write (Elt F) fd ((halfA d).view.read (Elt F) (m (locA d))) Finset.univ) : sProp (Res F)) ⊢ pay m (rI 0) (dest 0 d) := by
  rw [View.write_whole_univ, ← got_B m d]; exact .rfl
theorem fill_Y (d : Dev nD) (fd : Buf (Elt F) (locY (dest 4 d))) :
    (pt memY (dest 4 d) (memY.view.write (Elt F) fd (memX.view.read (Elt F) (m (locX d))) Finset.univ) : sProp (Res F)) ⊢ pay m (rI 4) (dest 4 d) := by
  rw [View.write_whole_univ, View.read_whole, ← got_Y m d]; exact .rfl
theorem sent (d : Dev nD) (k : Fin 5) (y : S4x256x1408.Idx) (z : S3x256x1408.Idx) (hz : (z 0 : ℕ) + 1 = k) (hy : (y 0 : ℕ) = k)
    (h1 : (y 1 : ℕ) = z 1) (h2 : (y 2 : ℕ) = z 2) : m (locP d) y = gotQ m (dest k d) z := by
  have eu : y = upQ z := funext fun a => Fin.ext (match a with | 0 => hy.trans hz.symm | 1 => h1 | 2 => h2)
  unfold gotQ
  rw [show (⟨(z 0 : ℕ) + 1, Nat.lt_of_lt_of_le (Nat.succ_lt_succ (z 0).isLt) (show (3 : ℕ).succ ≤ 5 by decide)⟩ : Fin 5) = k from Fin.ext hz, dest_dest, eu]
theorem fill_0 (d : Dev nD) (fd : Buf (Elt F) (locQ (dest 1 d))) :
    (pt dstQ0 (dest 1 d) (dstQ0.view.write (Elt F) fd (srcP0.view.read (Elt F) (m (locP d))) Finset.univ) : sProp (Res F)) ⊢ pay m (rI 1) (dest 1 d) :=
  Entails.of_eq (pointsTo_congr fun i hi => by
    obtain ⟨x, -, rfl⟩ := Finset.mem_map.mp hi
    exact (View.write_emb_of_mem (v := dstQ0.view) fd _ (Finset.mem_univ x)).trans (sent m d 1 (srcP0.view.emb x) (dstQ0.view.emb x)
      (congrArg (· + 1) ((mem_slabQ _).1 hi)) ((mem_slabP _).1 (View.emb_mem_set _ x)) rfl rfl))
theorem fill_1 (d : Dev nD) (fd : Buf (Elt F) (locQ (dest 2 d))) :
    (pt dstQ1 (dest 2 d) (dstQ1.view.write (Elt F) fd (srcP1.view.read (Elt F) (m (locP d))) Finset.univ) : sProp (Res F)) ⊢ pay m (rI 2) (dest 2 d) :=
  Entails.of_eq (pointsTo_congr fun i hi => by
    obtain ⟨x, -, rfl⟩ := Finset.mem_map.mp hi
    exact (View.write_emb_of_mem (v := dstQ1.view) fd _ (Finset.mem_univ x)).trans (sent m d 2 (srcP1.view.emb x) (dstQ1.view.emb x)
      (congrArg (· + 1) ((mem_slabQ _).1 hi)) ((mem_slabP _).1 (View.emb_mem_set _ x)) rfl rfl))
theorem fill_2 (d : Dev nD) (fd : Buf (Elt F) (locQ (dest 3 d))) :
    (pt dstQ2 (dest 3 d) (dstQ2.view.write (Elt F) fd (srcP2.view.read (Elt F) (m (locP d))) Finset.univ) : sProp (Res F)) ⊢ pay m (rI 3) (dest 3 d) :=
  Entails.of_eq (pointsTo_congr fun i hi => by
    obtain ⟨x, -, rfl⟩ := Finset.mem_map.mp hi
    exact (View.write_emb_of_mem (v := dstQ2.view) fd _ (Finset.mem_univ x)).trans (sent m d 3 (srcP2.view.emb x) (dstQ2.view.emb x)
      (congrArg (· + 1) ((mem_slabQ _).1 hi)) ((mem_slabP _).1 (View.emb_mem_set _ x)) rfl rfl))

/-! ### A copy and the waits for it -/

/-- A copy of the five, with what its two sides bring. -/
theorem give (k : Fin 5) (κ : GSem nD τ sig → ℕ) (d p : Dev nD) (hp : p = dest k d) {s : Shape} {e : EltTy}
    (src dst : Memref sig .scScalar .hbm s e) (fs : Buf (Elt F) (src.view.loc (S d c₀))) (fd : Buf (Elt F) (dst.view.loc (S (dest k d) c₀)))
    (hcr : dst.view.dmaCredit = cr k)
    (h₁ : pt src d fs ⊢ (pay m (sI k) d : sProp (Res F)))
    (h₂ : pt dst (dest k d) (dst.view.write (Elt F) fd (src.view.read (Elt F) fs) Finset.univ) ⊢ (pay m (rI k) (dest k d) : sProp (Res F)))
    {hsc : (dst : Memref sig (S p c₀).2.kind .hbm s e).view.ref.isScScratch = false}
    {hsrc : src.view.WordExact} {hdst : dst.view.WordExact}
    {hsem : DmaTarget.Typed .hbm (dmaS (rI k)) (.remote (S p c₀) (dst : Memref sig (S p c₀).2.kind .hbm s e) (dmaS (sI k)) hsc)}
    (O : CellTallies nD τ sig (HIx 1)) (W : Waits sig (HIx 1))
    {β : Type} {cont : PUnit → Prog (TpuEff nD τ sig (Elt F) Λ₀ (.scScalar c₀)) β} {Q : β → sProp (Res F)}
    {Iv Rc : sProp (Res F)} [BI.Persistent Iv] [BI.Persistent Rc]
    (hI : ∀ i p, Iv ⊢ cellInv EX (plan m) (κ (dmaC i p)) (dmaC i p)) (hr : ∀ i p, Rc ⊢ reached EX (dmaC i p) 0) :
    iprop(Iv ∗ Rc ∗ pt src d fs ∗ pt dst (dest k d) fd ∗ owes (S d c₀) (O + tallyAt (dmaC (rI k) (dest k d)) (some 0) (cr k)) W
        ∗ dutyTok EX (dmaC (sI k) d) 0 d ∗ dutyTok EX (dmaC (rI k) (dest k d)) 0 d)
      ⊢ iprop(((cred (tallyAt (dmaC (sI k) d) (some 0) (cr k)) ∗ owes (S d c₀) O W)
            -∗ wp frame (wpE (defs₀ (F := F)) 𝒱₀ (S d c₀) none) Set.univ (cont ⟨⟩) Q)
          -∗ wp frame (wpE (defs₀ (F := F)) 𝒱₀ (S d c₀) none) Set.univ
              (.op (.enqueueDma src (.remote (S p c₀) dst (dmaS (sI k)) hsc) (dmaS (rI k)) hsrc hdst hsem) cont) Q) := by
  subst hp
  iintro ⟨#HI, #HR, HM, HD, HO, HS, HT⟩ Hk
  iapply (Rounds.wp_send_pointsTo 𝒱₀ EX (plan m) (S d c₀) none (κ₁ := κ (dmaC (sI k) d)) (κ₂ := κ (dmaC (rI k) (dest k d)))
      (r₁ := 0) (r₂ := 0) (d₁ := d) (d₂ := d) (q := fullShare) (fs := fs) (fd := fd)
      (mem_snd m d k) (mem_rcv m d k) (some 0) (some 0) (cr k) hcr ((amount_dma m _ _ _).trans (congrArg cr (of_s k)))
      ((amount_dma m _ _ _).trans (congrArg cr (of_r k))) O rfl (W := W) (by rw [payload_dma]; exact h₁) (by rw [payload_dma]; exact h₂)) $$ [HM HD HO HS HT]
  · isplitr; · iapply (hI (sI k) d); iexact HI
    isplitr; · iapply (hI (rI k) (dest k d)); iexact HI
    isplitl [HM]; · iexact HM
    isplitl [HD]; · iexact HD
    isplitl [HO]; · iexact HO
    isplitl [HS]; · iexact HS
    isplitr; · iapply (hr (sI k) d); iexact HR
    isplitl [HT]; · iexact HT
    iapply (hr (rI k) (dest k d)); iexact HR
  iexact Hk

/-- The wait for one side of a copy. -/
theorem await (i : Fin 10) (κ : GSem nD τ sig → ℕ) (d : Dev nD) {s s' : Shape} {e e' : EltTy}
    (src : Memref sig .scScalar .hbm s e) (dst : Memref sig .scScalar .hbm s' e') {hsrc : src.view.WordExact} {hdst : dst.view.WordExact}
    (hcr : dst.view.dmaCredit = cr (ofI i)) (O : CellTallies nD τ sig (HIx 1)) (W : Waits sig (HIx 1))
    {β : Type} {cont : PUnit → Prog (TpuEff nD τ sig (Elt F) Λ₀ (.scScalar c₀)) β} {Q : β → sProp (Res F)} {Iv Lv R : sProp (Res F)}
    (hI : ∀ i p, Iv ⊢ cellInv EX (plan m) (κ (dmaC i p)) (dmaC i p)) (hL : Lv ⊢ MayWait (S d c₀) (dmaS i) (some 0) O) (hR : pay m i d = R) :
    iprop(Iv ∗ Lv ∗ cred (tallyAt (dmaC i d) (some 0) (cr (ofI i)))
        ∗ owes (S d c₀) O W ∗ atPos EX (dmaC i d) 0 ∅ 0)
      ⊢ iprop(((owes (S d c₀) O (insert (dmaS i, some 0) W) ∗ atPos EX (dmaC i d) (0 + 1) ∅ 0 ∗ R)
            -∗ wp frame (wpE (defs₀ (F := F)) 𝒱₀ (S d c₀) none) Set.univ (cont ⟨⟩) Q)
          -∗ wp frame (wpE (defs₀ (F := F)) 𝒱₀ (S d c₀) none) Set.univ (.op (.waitDma2 (dmaR i) src dst hsrc hdst) cont) Q) := by
  subst hR
  iintro ⟨HI, HL, HC, HO, HA⟩ Hk
  iapply (Rounds.wp_wait_rest_token 𝒱₀ EX (plan m) (S d c₀) none (κ := κ (dmaC i d)) (fun K => by rw [wpE_waitDma2_eq, hcr])
    (Set.mem_univ _) (some 0) ((Nat.zero_add (cr (ofI i))).trans (expect_dma m d i).symm)) $$ [HI HL HC HO HA]
  · isplitl [HI]; · iapply (hI i d); iexact HI
    isplitl [HC]; · iexact HC
    isplitl [HO]; · iexact HO
    isplitl [HL]; · iapply hL; iexact HL
    iexact HA
  iintro ⟨HO, HA, -, Hp⟩
  iapply Hk
  isplitl [HO]; · iexact HO
  isplitl [HA]; · iexact HA
  iapply (take_dma m d i); iexact Hp

/-- A finished cell is closed at zero. -/
theorem close (κ : GSem nD τ sig → ℕ) (g : GSem nD τ sig) : iprop(cellInv EX (plan m) (κ g) g ∗ atPos EX g (0 + 1) ∅ 0)
    ⊢ |={Set.univ}=> (semVal g 0 : sProp (Res F)) :=
  Rounds.cell_close EX (plan m) (Set.mem_univ (κ g)) (fun h => h) (R := 0 + 1) (no_more m g)

/-- Waits recorded at the call's index stay so. -/
theorem recorded {W W' : Waits sig (HIx 1)} (sm : SemLoc sig) (hW' : ∀ p ∈ W', p ∈ W ∨ p.2 = none ∨ p.2 = some (0 : Fin 1)) :
    ∀ p ∈ insert (sm, some (0 : Fin 1)) W', p ∈ W ∨ p.2 = none ∨ p.2 = some (0 : Fin 1) := fun p hp => by
  rcases Finset.mem_insert.mp hp with rfl | hp
  · exact .inr (.inr rfl)
  · exact hW' p hp

/-- What each unit carries. -/
theorem unit_0 (d : Dev nD) (f : Buf (Elt F) (locB d)) (f' : Buf (Elt F) (locY d)) : iprop(pt memB d f ∗ pt memY d f') ⊢ (barPay (peer 0 d) d : sProp (Res F)) := by
  have h := pay_0 (F := F) (peer 0 d); rw [peer_peer] at h; rw [h]
  iintro ⟨H, H'⟩; isplitl [H]; · iexists f; iexact H
  iexists f'; iexact H'
theorem unit_1 (d : Dev nD) (f : Buf (Elt F) (locQ d)) : pt dstQ0 d f ⊢ (barPay (peer 1 d) d : sProp (Res F)) := by
  have h := pay_1 (F := F) (peer 1 d); rw [peer_peer] at h; rw [h]
  iintro H; iexists f; iexact H
theorem unit_2 (d : Dev nD) (f : Buf (Elt F) (locQ d)) : pt dstQ1 d f ⊢ (barPay (peer 2 d) d : sProp (Res F)) := by
  have h := pay_2 (F := F) (peer 2 d); rw [peer_peer] at h; rw [h]
  iintro H; iexists f; iexact H
theorem unit_3 (d : Dev nD) (f : Buf (Elt F) (locQ d)) : pt dstQ2 d f ⊢ (barPay (peer 3 d) d : sProp (Res F)) := by
  have h := pay_3 (F := F) (peer 3 d); rw [peer_peer] at h; rw [h]
  iintro H; iexists f; iexact H

/-- What a device sends; and what it has when its kernel is done. -/
abbrev sends (d : Dev nD) : sProp (Res F) := iprop(pt (halfA d) d (m (locA d)) ∗ pt srcP0 d (m (locP d)) ∗ pt srcP1 d (m (locP d)) ∗ pt srcP2 d (m (locP d)) ∗ pt memX d (m (locX d)))
abbrev gets (d : Dev nD) : sProp (Res F) := iprop(pt memB d (gotB m d) ∗ pt dstQ0 d (gotQ m d) ∗ pt dstQ1 d (gotQ m d) ∗ pt dstQ2 d (gotQ m d) ∗ pt memY d (gotY m d))

set_option maxHeartbeats 1600000 in
/-- The kernel, from what the device starts with; `X` stands for what it does not touch. -/
theorem body_from (d : Dev nD) (O : CellTallies nD τ sig (HIx 1)) (W : Waits sig (HIx 1))
    (hO : ∀ g ι, 0 < O g ι → 8 * (0 : Fin 1).val + 7 ≤ (K (F := F)).lev g ι)
    (κ : GSem nD τ sig → ℕ) (Iv Rc Lv X : sProp (Res F)) [BI.Persistent Iv] [BI.Persistent Rc] [BI.Persistent Lv]
    (hinv : ∀ p j, Iv ⊢ cellInv EX (plan m) (κ (cellOf (p, j))) (cellOf (p, j)))
    (hr : ∀ p j, Rc ⊢ (reached EX (cellOf (p, j)) 0 : sProp (Res F))) (hLv : Lv ⊢ (levAts (K (F := F)).L (K (F := F)).lev : sProp (Res F)))
    (fb : Buf (Elt F) (locB d)) (fq : Buf (Elt F) (locQ d)) (fy : Buf (Elt F) (locY d)) :
    iprop(Lv ∗ (Iv ∗ Rc) ∗ own d ∗ (sends m d ∗ pt memB d fb ∗ pt dstQ0 d fq ∗ pt dstQ1 d fq ∗ pt dstQ2 d fq ∗ pt memY d fy) ∗ X ∗ owes (S d c₀) (O + owed d) W)
      ⊢ wp frame (wpE (defs₀ (F := F)) 𝒱₀ (S d c₀) none) Set.univ (kern (F := F))
          fun _ => iprop((sends m d ∗ gets m d ∗ semVal (barC d) 0) ∗ X ∗ dmaZero d
            ∗ ∃ W', ⌜∀ p ∈ W', p ∈ W ∨ p.2 = none ∨ p.2 = some (0 : Fin 1)⌝ ∗ owes (S d c₀) O W') := by
  have hinvD : ∀ i p, Iv ⊢ cellInv EX (plan m) (κ (dmaC i p)) (dmaC i p) := fun i p => hinv p i.succ
  have hrD : ∀ i p, Rc ⊢ (reached EX (dmaC i p) 0 : sProp (Res F)) := fun i p => hr p i.succ
  unfold own placesOf dmaZero; rw [cred_due, owed_order, ten fun i => (atPos EX (dmaC i d) 0 ∅ 0 : sProp (Res F)), ten fun i => (semVal (dmaC i d) 0 : sProp (Res F))]
  unfold kern
  simp only [cc0_reduce_10_eq_skeleton]; unfold cc0_reduce_10_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [semSignalWord, semWaitWord, Prog.lift, Prog.bind_op, Prog.bind_ret, Prog.pure_eq_ret, Prog.bind_assoc]
  iintro ⟨#Hlv, ⟨#Hinv, #Hr⟩, ⟨⟨HatB, A0, A1, A2, A3, A4, A5, A6, A7, A8, A9⟩, ⟨Ht0, Ht1, Ht2, Ht3, TS0, TS1, TS2, TS3, TS4, TR0, TR1, TR2, TR3, TR4⟩, HcB, ⟨⟨⟨CR0, CR1⟩, CR2⟩, CR3⟩, CR4⟩, ⟨⟨M0, M1, M2, M3, M4⟩, Gb, G0, G1, G2, Gy⟩, HX, HO⟩
  simp only [wp_deviceId]
  iapply (raise m κ d 0 _ (dev1_eq d) _ rfl _ W) $$ [HO Ht0 Gb Gy]
  · isplitr; · iapply (hinv (peer 0 d) 0); iexact Hinv
    isplitl [HO]; · iexact HO
    isplitl [Ht0]; · iexact Ht0
    isplitl [Gb Gy]
    · iapply (unit_0 d fb fy)
      isplitl [Gb]; · iexact Gb
      iexact Gy
    iapply (hr (peer 0 d) 0); iexact Hr
  iintro HO
  iapply (raise m κ d 1 _ (dev2_eq d) _ rfl _ W) $$ [HO Ht1 G0]
  · isplitr; · iapply (hinv (peer 1 d) 0); iexact Hinv
    isplitl [HO]; · iexact HO
    isplitl [Ht1]; · iexact Ht1
    isplitl [G0]; · iapply (unit_1 d fq); iexact G0
    iapply (hr (peer 1 d) 0); iexact Hr
  iintro HO
  simp only [Prog.bind, Prog.pure_eq_ret, Prog.bind_ret]
  iapply (raise m κ d 2 _ (dev3_eq d) _ rfl _ W) $$ [HO Ht2 G1]
  · isplitr; · iapply (hinv (peer 2 d) 0); iexact Hinv
    isplitl [HO]; · iexact HO
    isplitl [Ht2]; · iexact Ht2
    isplitl [G1]; · iapply (unit_2 d fq); iexact G1
    iapply (hr (peer 2 d) 0); iexact Hr
  iintro HO
  iapply (raise m κ d 3 _ (dev4_eq d) _ rfl _ W) $$ [HO Ht3 G2]
  · isplitr; · iapply (hinv (peer 3 d) 0); iexact Hinv
    isplitl [HO]; · iexact HO
    isplitl [Ht3]; · iexact Ht3
    isplitl [G2]; · iapply (unit_3 d fq); iexact G2
    iapply (hr (peer 3 d) 0); iexact Hr
  iintro HO
  iapply (gather m κ d _ rfl _ W) $$ [HcB HO HatB]
  · isplitr; · iapply (hinv d 0); iexact Hinv
    isplitl [HcB]; · iexact HcB
    isplitl [HO]; · iexact HO
    isplitr; · iapply (hLv.trans (may_bar d O hO)); iexact Hlv
    iexact HatB
  iintro ⟨HO, HatB, -, Hpay⟩
  ihave Hp := (take_bar m d) $$ Hpay
  icases Hp with ⟨⟨⟨%g0, D0⟩, %g4, D4⟩, ⟨%g1, D1⟩, ⟨%g2, D2⟩, %g3, D3⟩
  iapply (give m 0 κ d _ (dev5_eq d) (halfA d) memB (m (locA d)) g0 rfl .rfl (fill_B m d g0) _ _ hinvD hrD) $$ [M0 D0 HO TS0 TR0]
  · isplitr; · iexact Hinv
    isplitr; · iexact Hr
    isplitl [M0]; · iexact M0
    isplitl [D0]; · iexact D0
    isplitl [HO]; · iexact HO
    isplitl [TS0] <;> iassumption
  iintro ⟨CS0, HO⟩
  simp only [Prog.bind, Prog.pure_eq_ret, Prog.bind_ret]
  iapply (give m 1 κ d _ (dev6_eq d) srcP0 dstQ0 (m (locP d)) g1 rfl .rfl (fill_0 m d g1) _ _ hinvD hrD) $$ [M1 D1 HO TS1 TR1]
  · isplitr; · iexact Hinv
    isplitr; · iexact Hr
    isplitl [M1]; · iexact M1
    isplitl [D1]; · iexact D1
    isplitl [HO]; · iexact HO
    isplitl [TS1] <;> iassumption
  iintro ⟨CS1, HO⟩
  simp only [Prog.bind, Prog.pure_eq_ret, Prog.bind_ret]
  iapply (give m 2 κ d _ (dev7_eq d) srcP1 dstQ1 (m (locP d)) g2 (by decide) .rfl (fill_1 m d g2) _ _ hinvD hrD) $$ [M2 D2 HO TS2 TR2]
  · isplitr; · iexact Hinv
    isplitr; · iexact Hr
    isplitl [M2]; · iexact M2
    isplitl [D2]; · iexact D2
    isplitl [HO]; · iexact HO
    isplitl [TS2] <;> iassumption
  iintro ⟨CS2, HO⟩
  iapply (give m 3 κ d _ (dev8_eq d) srcP2 dstQ2 (m (locP d)) g3 (by decide) .rfl (fill_2 m d g3) _ _ hinvD hrD) $$ [M3 D3 HO TS3 TR3]
  · isplitr; · iexact Hinv
    isplitr; · iexact Hr
    isplitl [M3]; · iexact M3
    isplitl [D3]; · iexact D3
    isplitl [HO]; · iexact HO
    isplitl [TS3] <;> iassumption
  iintro ⟨CS3, HO⟩
  simp only [Prog.bind, Prog.pure_eq_ret, Prog.bind_ret]
  iapply (give m 4 κ d _ (dev9_eq d) memX memY (m (locX d)) g4 rfl .rfl (fill_Y m d g4) _ _ hinvD hrD) $$ [M4 D4 HO TS4 TR4]
  · isplitr; · iexact Hinv
    isplitr; · iexact Hr
    isplitl [M4]; · iexact M4
    isplitl [D4]; · iexact D4
    isplitl [HO]; · iexact HO
    isplitl [TS4] <;> iassumption
  iintro ⟨CS4, HO⟩
  simp only [Prog.bind, Prog.pure_eq_ret, Prog.bind_ret]
  iapply (await m 0 κ d _ _ rfl O _ hinvD (hLv.trans (may_dma d O hO 0)) (show _ = pt (halfA d) d (m (locA d)) from rfl)) $$ [CS0 HO A0]
  · isplitr; · iexact Hinv
    isplitr; · iexact Hlv
    isplitl [CS0]; · iexact CS0
    isplitl [HO] <;> iassumption
  iintro ⟨HO, A0, P0⟩
  iapply (await m 5 κ d _ _ rfl O _ hinvD (hLv.trans (may_dma d O hO 5)) (show _ = pt memB d (gotB m d) from rfl)) $$ [CR0 HO A5]
  · isplitr; · iexact Hinv
    isplitr; · iexact Hlv
    isplitl [CR0]; · iexact CR0
    isplitl [HO] <;> iassumption
  iintro ⟨HO, A5, P5⟩
  simp only [Prog.bind, Prog.pure_eq_ret, Prog.bind_ret]
  iapply (await m 1 κ d _ _ (by decide) O _ hinvD (hLv.trans (may_dma d O hO 1)) (show _ = pt srcP0 d (m (locP d)) from rfl)) $$ [CS1 HO A1]
  · isplitr; · iexact Hinv
    isplitr; · iexact Hlv
    isplitl [CS1]; · iexact CS1
    isplitl [HO] <;> iassumption
  iintro ⟨HO, A1, P1⟩
  iapply (await m 6 κ d _ _ (by decide) O _ hinvD (hLv.trans (may_dma d O hO 6)) (show _ = pt dstQ0 d (gotQ m d) from rfl)) $$ [CR1 HO A6]
  · isplitr; · iexact Hinv
    isplitr; · iexact Hlv
    isplitl [CR1]; · iexact CR1
    isplitl [HO] <;> iassumption
  iintro ⟨HO, A6, P6⟩
  simp only [Prog.bind, Prog.pure_eq_ret, Prog.bind_ret]
  iapply (await m 2 κ d _ _ (by decide) O _ hinvD (hLv.trans (may_dma d O hO 2)) (show _ = pt srcP1 d (m (locP d)) from rfl)) $$ [CS2 HO A2]
  · isplitr; · iexact Hinv
    isplitr; · iexact Hlv
    isplitl [CS2]; · iexact CS2
    isplitl [HO] <;> iassumption
  iintro ⟨HO, A2, P2⟩
  simp only [Prog.bind, Prog.pure_eq_ret, Prog.bind_ret]
  iapply (await m 7 κ d _ _ (by decide) O _ hinvD (hLv.trans (may_dma d O hO 7)) (show _ = pt dstQ1 d (gotQ m d) from rfl)) $$ [CR2 HO A7]
  · isplitr; · iexact Hinv
    isplitr; · iexact Hlv
    isplitl [CR2]; · iexact CR2
    isplitl [HO] <;> iassumption
  iintro ⟨HO, A7, P7⟩
  simp only [Prog.bind, Prog.pure_eq_ret, Prog.bind_ret]
  iapply (await m 3 κ d _ _ (by decide) O _ hinvD (hLv.trans (may_dma d O hO 3)) (show _ = pt srcP2 d (m (locP d)) from rfl)) $$ [CS3 HO A3]
  · isplitr; · iexact Hinv
    isplitr; · iexact Hlv
    isplitl [CS3]; · iexact CS3
    isplitl [HO] <;> iassumption
  iintro ⟨HO, A3, P3⟩
  iapply (await m 8 κ d _ _ (by decide) O _ hinvD (hLv.trans (may_dma d O hO 8)) (show _ = pt dstQ2 d (gotQ m d) from rfl)) $$ [CR3 HO A8]
  · isplitr; · iexact Hinv
    isplitr; · iexact Hlv
    isplitl [CR3]; · iexact CR3
    isplitl [HO] <;> iassumption
  iintro ⟨HO, A8, P8⟩
  iapply (await m 4 κ d _ _ (by decide) O _ hinvD (hLv.trans (may_dma d O hO 4)) (show _ = pt memX d (m (locX d)) from rfl)) $$ [CS4 HO A4]
  · isplitr; · iexact Hinv
    isplitr; · iexact Hlv
    isplitl [CS4]; · iexact CS4
    isplitl [HO] <;> iassumption
  iintro ⟨HO, A4, P4⟩
  simp only [Prog.bind, Prog.pure_eq_ret, Prog.bind_ret]
  iapply (await m 9 κ d _ _ (by decide) O _ hinvD (hLv.trans (may_dma d O hO 9)) (show _ = pt memY d (gotY m d) from rfl)) $$ [CR4 HO A9]
  · isplitr; · iexact Hinv
    isplitr; · iexact Hlv
    isplitl [CR4]; · iexact CR4
    isplitl [HO] <;> iassumption
  iintro ⟨HO, A9, P9⟩
  imod (close m κ (barC d)) $$ [HatB] with ZB
  · isplitr; · iapply (hinv d 0); iexact Hinv
    iexact HatB
  imod (close m κ (dmaC 0 d)) $$ [A0] with Z0
  · isplitr; · iapply (hinvD 0 d); iexact Hinv
    iexact A0
  imod (close m κ (dmaC 1 d)) $$ [A1] with Z1
  · isplitr; · iapply (hinvD 1 d); iexact Hinv
    iexact A1
  imod (close m κ (dmaC 2 d)) $$ [A2] with Z2
  · isplitr; · iapply (hinvD 2 d); iexact Hinv
    iexact A2
  imod (close m κ (dmaC 3 d)) $$ [A3] with Z3
  · isplitr; · iapply (hinvD 3 d); iexact Hinv
    iexact A3
  imod (close m κ (dmaC 4 d)) $$ [A4] with Z4
  · isplitr; · iapply (hinvD 4 d); iexact Hinv
    iexact A4
  imod (close m κ (dmaC 5 d)) $$ [A5] with Z5
  · isplitr; · iapply (hinvD 5 d); iexact Hinv
    iexact A5
  imod (close m κ (dmaC 6 d)) $$ [A6] with Z6
  · isplitr; · iapply (hinvD 6 d); iexact Hinv
    iexact A6
  imod (close m κ (dmaC 7 d)) $$ [A7] with Z7
  · isplitr; · iapply (hinvD 7 d); iexact Hinv
    iexact A7
  imod (close m κ (dmaC 8 d)) $$ [A8] with Z8
  · isplitr; · iapply (hinvD 8 d); iexact Hinv
    iexact A8
  imod (close m κ (dmaC 9 d)) $$ [A9] with Z9
  · isplitr; · iapply (hinvD 9 d); iexact Hinv
    iexact A9
  rw [wp_ret]; imodintro
  isplitl [P0 P1 P2 P3 P4 P5 P6 P7 P8 P9 ZB]
  · isplitl [P0 P1 P2 P3 P4]
    · isplitl [P0]; · iexact P0
      isplitl [P1]; · iexact P1
      isplitl [P2]; · iexact P2
      isplitl [P3]; · iexact P3
      iexact P4
    isplitl [P5 P6 P7 P8 P9]
    · isplitl [P5]; · iexact P5
      isplitl [P6]; · iexact P6
      isplitl [P7]; · iexact P7
      isplitl [P8]; · iexact P8
      iexact P9
    iexact ZB
  isplitl [HX]; · iexact HX
  isplitl [Z0 Z1 Z2 Z3 Z4 Z5 Z6 Z7 Z8 Z9]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  iexists _; isplitr
  · ipureintro
    exact recorded (W := W) (dmaS 9) (recorded (W := W) (dmaS 4) (recorded (W := W) (dmaS 8) (recorded (W := W) (dmaS 3) (recorded (W := W) (dmaS 7) (recorded (W := W) (dmaS 2) (recorded (W := W) (dmaS 6) (recorded (W := W) (dmaS 1) (recorded (W := W) (dmaS 5) (recorded (W := W) (dmaS 0) (recorded (W := W) (W' := W) barS fun p hp => .inl hp))))))))))
  · iexact HO

/-- What the kernel is handed, and what it hands back: the arrays whole. -/
abbrev begins (d : Dev nD) : sProp (Res F) := iprop((all (locA d) (m (locA d)) ∗ all (locP d) (m (locP d)) ∗ all (locX d) (m (locX d)))
  ∗ (∃ f, all (locB d) f) ∗ (∃ f, all (locQ d) f) ∗ ∃ f, all (locY d) f)
abbrev ended (d : Dev nD) : sProp (Res F) := iprop((all (locA d) (m (locA d)) ∗ all (locP d) (m (locP d)) ∗ all (locX d) (m (locX d)))
  ∗ (all (locB d) (gotB m d) ∗ all (locQ d) (gotQ m d) ∗ all (locY d) (gotY m d)) ∗ semVal (barC d) 0)
abbrev rests (d : Dev nD) : sProp (Res F) := iprop(restA d (m (locA d)) ∗ restP d (m (locP d)))

theorem taken_apart (d : Dev nD) : iprop(all (locA d) (m (locA d)) ∗ all (locP d) (m (locP d)) ∗ all (locX d) (m (locX d)))
    ⊢ (iprop(sends m d ∗ rests m d) : sProp (Res F)) := by
  iintro ⟨HA, HP, HX⟩
  ihave HA := (cut_A d (m (locA d))).1 $$ HA
  ihave HP := (cut_P d (m (locP d))).1 $$ HP
  icases HA with ⟨M0, RA⟩
  icases HP with ⟨M1, M2, M3, RP⟩
  isplitl [M0 M1 M2 M3 HX]
  · isplitl [M0]; · iexact M0
    isplitl [M1]; · iexact M1
    isplitl [M2]; · iexact M2
    isplitl [M3]; · iexact M3
    iapply (SparseCore.ent (Entails.of_eq (pt_X (F := F) d _).symm)); iexact HX
  isplitl [RA]; · iexact RA
  iexact RP

theorem put_together (d : Dev nD) : iprop((sends m d ∗ gets m d ∗ semVal (barC d) 0) ∗ rests m d) ⊢ (ended m d : sProp (Res F)) := by
  iintro ⟨⟨⟨M0, M1, M2, M3, HX⟩, ⟨HB, Q0, Q1, Q2, HY⟩, HZ⟩, RA, RP⟩
  isplitl [M0 M1 M2 M3 HX RA RP]
  · isplitl [M0 RA]
    · iapply (cut_A d (m (locA d))).2
      isplitl [M0]; · iexact M0
      iexact RA
    isplitl [M1 M2 M3 RP]
    · iapply (cut_P d (m (locP d))).2
      isplitl [M1]; · iexact M1
      isplitl [M2]; · iexact M2
      isplitl [M3]; · iexact M3
      iexact RP
    iapply (SparseCore.ent (Entails.of_eq (pt_X (F := F) d _))); iexact HX
  isplitl [HB Q0 Q1 Q2 HY]
  · isplitl [HB]; · iapply (SparseCore.ent (Entails.of_eq (pt_B (F := F) d _))); iexact HB
    isplitl [Q0 Q1 Q2]
    · iapply (cut_Q d (gotQ m d)).2
      isplitl [Q0]; · iexact Q0
      isplitl [Q1]; · iexact Q1
      iexact Q2
    iapply (SparseCore.ent (Entails.of_eq (pt_Y (F := F) d _))); iexact HY
  iexact HZ

theorem back (d : Dev nD) (X Y : sProp (Res F)) : iprop((sends m d ∗ gets m d ∗ semVal (barC d) 0) ∗ (rests m d ∗ X) ∗ Y) ⊢ (iprop(ended m d ∗ X ∗ Y) : sProp (Res F)) := by
  iintro ⟨H, ⟨Hrest, HX⟩, HY⟩
  isplitl [H Hrest]
  · iapply (put_together m d)
    isplitl [H]; · iexact H
    iexact Hrest
  isplitl [HX]; · iexact HX
  iexact HY

/-- The same from everything a device starts from. -/
theorem body (d : Dev nD) (O : CellTallies nD τ sig (HIx 1)) (W : Waits sig (HIx 1))
    (hO : ∀ g ι, 0 < O g ι → 8 * (0 : Fin 1).val + 7 ≤ (K (F := F)).lev g ι) (X : sProp (Res F)) :
    iprop(levAts (K (F := F)).L (K (F := F)).lev ∗ start m d ∗ begins m d ∗ X ∗ owes (S d c₀) (O + owed d) W)
      ⊢ wp frame (wpE (defs₀ (F := F)) 𝒱₀ (S d c₀) none) Set.univ (kern (F := F))
          fun _ => iprop(ended m d ∗ X ∗ dmaZero d
            ∗ ∃ W', ⌜∀ p ∈ W', p ∈ W ∨ p.2 = none ∨ p.2 = some (0 : Fin 1)⌝ ∗ owes (S d c₀) O W') := by
  unfold start
  iintro ⟨Hlv, ⟨⟨⟨%κ, Hinv⟩, Hr⟩, Hown⟩, ⟨Hargs, ⟨%fb, Hb⟩, ⟨%fq, Hq⟩, %fy, Hy⟩, HX, HO⟩
  ihave Hargs := (taken_apart m d) $$ Hargs
  icases Hargs with ⟨Hs, Hrest⟩
  ihave Hq := (cut_Q d fq).1 $$ Hq
  icases Hq with ⟨Q0, Q1, Q2⟩
  iapply (SparseCore.ent ((body_from m d O W hO κ (invs (F := F) m κ) begun (levAts (K (F := F)).L (K (F := F)).lev) iprop(rests m d ∗ X) (inv_at m κ) begun_at .rfl fb fq fy).trans
    (wp_mono _ _ _ fun _ => back m d X _)))
  isplitl [Hlv]; · iexact Hlv
  isplitl [Hinv Hr]
  · isplitl [Hinv]; · iexact Hinv
    iexact Hr
  isplitl [Hown]; · iexact Hown
  isplitl [Hs Hb Q0 Q1 Q2 Hy]
  · isplitl [Hs]; · iexact Hs
    isplitl [Hb]; · iapply (SparseCore.ent (Entails.of_eq (pt_B (F := F) d _).symm)); iexact Hb
    isplitl [Q0]; · iexact Q0
    isplitl [Q1]; · iexact Q1
    isplitl [Q2]; · iexact Q2
    iapply (SparseCore.ent (Entails.of_eq (pt_Y (F := F) d _).symm)); iexact Hy
  isplitl [Hrest HX]
  · isplitl [Hrest]; · iexact Hrest
    iexact HX
  iexact HO

end Cert.Swap

end
-- ==== Proof.Swap.Run.lean ====
/-
  The run of the exchange on all devices: what the launch gives each sequencer, @main on each TensorCore, and the end of the
  run — every argument as it was, the result arrays holding what the others sent, every semaphore at zero.
-/
module

public import proofs.«01_k».proof.Proof.Swap.Body

@[expose] public section

noncomputable section

attribute [local irreducible] Idealize.SL.BI.bigSep

namespace Cert.Swap

open Cert.Kernel7Ideal Cert.Kernel7Ideal.Gen
open Idealize.ShloMosaic
open Idealize.ShloMosaic.SparseCore (S V)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]
variable (m : (ℓ : Loc nD τ sig) → Buf (Elt F) ℓ) (ρ : Dev nD → PrngReg)

/-! ### What goes with the start and the end of the kernel -/

set_option backward.proofsInPublic true in
def P : (K (F := F)).Pay (nD := nD) (Val := Elt F) (Name := ℕ) (U := UU) where
  st := fun _ d _ => begins m d
  dn := fun _ d _ => ended m d
  go := fun _ _ _ _ => iprop(emp)
  td := fun _ _ _ _ => iprop(emp)
  x := fun _ thr => match thr with
    | (d, .scScalar c) => if c = c₀ then start m d else iprop(emp)
    | _ => iprop(emp)
  ox := fun _ thr => match thr with
    | (d, .scScalar c) => if c = c₀ then owed d else 0
    | _ => 0
  ox_band := by
    intro q thr g ι h
    obtain rfl : q = 0 := Subsingleton.elim _ _
    rcases thr with ⟨d, _ | c | ⟨c, i⟩⟩
    · exact absurd h (lt_irrefl 0)
    · dsimp only at h
      split at h
      · exact owed_band h
      · exact absurd h (lt_irrefl 0)
    · exact absurd h (lt_irrefl 0)
  ox_tc := fun _ _ => rfl
  ox_sc := by
    intro q d c h
    obtain rfl : q = 0 := Subsingleton.elim _ _
    dsimp only at h
    split at h
    · next hc => subst hc; exact ⟨rfl, Nat.one_pos⟩
    · exact absurd rfl h
  ox_vc := fun _ _ _ _ h => absurd rfl h
  held := dmaCells
  held_vec := by
    intro q d c h
    obtain rfl : q = 0 := Subsingleton.elim _ _
    exact absurd h.1 fun e => nomatch e

instance : (P (F := F) m).IsStorable where
  st _ d _ := (inferInstance : BI.Storable (upEmb : UEmb _ (Res F)) (begins m d))
  dn _ d _ := (inferInstance : BI.Storable (upEmb : UEmb _ (Res F)) (ended m d))
  go _ _ _ _ := (inferInstance : BI.Storable (upEmb : UEmb _ (Res F)) (iprop(emp) : sProp (Res F)))
  td _ _ _ _ := (inferInstance : BI.Storable (upEmb : UEmb _ (Res F)) (iprop(emp) : sProp (Res F)))

theorem P_held : (P (F := F) m).held = dmaCells := rfl
theorem x_tc (d : Dev nD) : (bigSep Finset.univ fun q : Fin 1 => (P (F := F) m).x q (SparseCore.T d)) = iprop(emp) :=
  bigSep_univ_of_subsingleton (0 : Fin 1)
theorem x_sc (d : Dev nD) (c : Fin τ.nSC) :
    (bigSep Finset.univ fun q : Fin 1 => (P (F := F) m).x q (S d c)) = if c = c₀ then start m d else iprop(emp) :=
  bigSep_univ_of_subsingleton (0 : Fin 1)
theorem x_vec (d : Dev nD) (c : Fin τ.nSC) (i : Fin τ.nSub) :
    (bigSep Finset.univ fun q : Fin 1 => (P (F := F) m).x q (V d c i)) = iprop(emp) :=
  bigSep_univ_of_subsingleton (0 : Fin 1)
theorem st_eq (d : Dev nD) : (bigSep Finset.univ fun c : Fin ((K (F := F)).nCore 0) => (P (F := F) m).st 0 d c) = begins m d :=
  bigSep_univ_of_subsingleton (0 : Fin 1)
theorem dn_eq (d : Dev nD) : (bigSep Finset.univ fun c : Fin ((K (F := F)).nCore 0) => (P (F := F) m).dn 0 d c) = ended m d :=
  bigSep_univ_of_subsingleton (0 : Fin 1)

/-- The credit for the debts, by who is owed. -/
theorem creds : ((P (F := F) m).oxCred : sProp (Res F)) ⊢ bigSep Finset.univ fun d : Dev nD => cred (due d) := by
  unfold SparseCore.Cfg.Pay.oxCred
  rw [SparseCore.Cfg.bigSep_threads (fun thr : Thread nD τ => (cred ((P (F := F) m).oxFrom 0 thr) : sProp (Res F)))]
  refine sep_elim_right.trans (sep_elim_left.trans ?_)
  have hox : ∀ dc : Dev nD × Fin τ.nSC, (P (F := F) m).oxFrom 0 (S dc.1 dc.2) = if dc.2 = c₀ then owed dc.1 else 0 := fun dc => by
    rw [show (0 : ℕ) = (0 : Fin 1).val from rfl, (P m).oxFrom_step, (P m).oxFrom_end _ (n := (0 : Fin 1).val + 1) le_rfl, add_zero]; rfl
  simp only [hox]
  rw [← SparseCore.Cfg.cred_finsum,
    show (∑ x : Dev nD × Fin τ.nSC, if x.2 = c₀ then owed x.1 else 0) = ∑ p : Dev nD, due p from ?_, SparseCore.Cfg.cred_finsum]
  rw [Fintype.sum_prod_type, ← owed_due]
  exact Finset.sum_congr rfl fun d _ => by rw [Fintype.sum_eq_single c₀ fun c hc => if_neg hc, if_pos rfl]

/-! ### The launch -/

theorem emps {I : Type} (s : Finset I) : (bigSep s fun _ => iprop(emp)) = (iprop(emp) : sProp (Res F)) := bigSep_emp_const s
theorem apart (A B C : Dev nD → sProp (Res F)) : (bigSep Finset.univ fun d => iprop(A d ∗ B d ∗ C d))
    = iprop(bigSep Finset.univ A ∗ bigSep Finset.univ B ∗ bigSep Finset.univ C) := by rw [bigSep_sep', bigSep_sep']

/-- What everyone knows goes to each device. -/
theorem to_each {I : Type} [DecidableEq I] {R : sProp (Res F)} [BI.Persistent R] {s : Finset I} {Φ Ψ : I → sProp (Res F)}
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a); isplitr; · iexact HR
      iexact H1
    · iapply ih; isplitr; · iexact HR
      iexact H2

theorem start_at (d : Dev nD) : iprop(known (F := F) m ∗ own d)
    ⊢ (bigSep Finset.univ fun c : Fin τ.nSC => if c = c₀ then start m d else (iprop(emp) : sProp (Res F))) := by
  rw [SparseCore.bigSep_erase' (Finset.mem_univ c₀), if_pos rfl]
  unfold start
  iintro H
  isplitl [H]; · iexact H
  iapply (SparseCore.ent (bigSep_mono (Φ := fun _ => iprop(emp)) (fun c hc => show iprop(emp) ⊢ (if c = c₀ then start m d else (iprop(emp) : sProp (Res F))) from
    Entails.of_eq (if_neg (Finset.ne_of_mem_erase hc)).symm)))
  rw [emps]; iempintro

theorem starts : iprop(known (F := F) m ∗ bigSep Finset.univ fun d : Dev nD => own d)
    ⊢ (bigSep Finset.univ fun thr : Thread nD τ => bigSep Finset.univ fun q : Fin 1 => (P (F := F) m).x q thr : sProp (Res F)) := by
  rw [SparseCore.Cfg.bigSep_threads (fun thr : Thread nD τ => bigSep Finset.univ fun q : Fin 1 => (P m).x q thr)]
  simp only [x_tc, x_sc, x_vec, emps]
  rw [bigSep_univ_prod (fun dc : Dev nD × Fin τ.nSC => if dc.2 = c₀ then start m dc.1 else (iprop(emp) : sProp (Res F)))]
  iintro ⟨#Hk, Hown⟩
  isplitr; · iempintro
  isplitl [Hown]
  · iapply (to_each (R := known (F := F) m) (Φ := fun d => own d) fun d => start_at (F := F) m d)
    isplitr; · iexact Hk
    iexact Hown
  · iempintro

theorem own_split : (bigSep Finset.univ fun d : Dev nD => own d : sProp (Res F))
    = iprop((bigSep Finset.univ fun d : Dev nD => placesOf d) ∗ (bigSep Finset.univ fun d : Dev nD => tokensOf d) ∗ bigSep Finset.univ fun d : Dev nD => cred (due d)) :=
  apart placesOf tokensOf fun d => cred (due d)

def u₀ : UU := (initOf (K (F := F)).hsCells (K (F := F)).hsToks, initOf cells toks)

/-- The launch: the cells funded and put under their invariants, each device given what it starts from. -/
theorem launch : iprop(ownU (u₀ (F := F)) ∗ (P (F := F) m).oxCred ∗ (K (F := F)).freeOn (· ∈ barCells) ∗ (P (F := F) m).heldSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P (F := F) m).x q thr) : sProp (Res F)) := by
  unfold u₀
  iintro ⟨Hu, Hcred, Hfree, Hheld⟩
  ihave H := (own_pair _ _) $$ Hu
  icases H with ⟨HH, HA⟩
  imod (Rounds.fund EX (plan m) cells toks) $$ HA with ⟨Hst, #Hr, Hat, Htok⟩
  ihave Hb := (bars_out (F := F)) $$ Hfree
  ihave Hd := (dmas_out (F := F) (P m) (P_held m)) $$ Hheld
  ihave Hsems := (cells_zero (F := F)) $$ [Hb Hd]
  · isplitl [Hb] <;> iassumption
  imod (invs_set (F := F) m) $$ [Hsems Hst] with ⟨%κ, #Hinv⟩
  · isplitl [Hsems] <;> iassumption
  ihave Hcred' := (creds m) $$ Hcred
  ihave Hr' := (Entails.of_eq (cells_eq (F := F) fun g => reached EX g 0)) $$ Hr
  ihave Hat' := (Entails.of_eq (places_dealt (F := F))) $$ Hat
  ihave Htok' := (Entails.of_eq (toks_dealt (F := F))) $$ Htok
  imodintro
  isplitl [HH]; · iexact HH
  isplitr; · rw [emps]; iempintro
  iapply (starts m)
  isplitr
  · isplitl; · iexists κ; iexact Hinv
    iexact Hr'
  iapply (SparseCore.ent (Entails.of_eq (own_split (F := F)).symm))
  isplitl [Hat']; · iexact Hat'
  isplitl [Htok']; · iexact Htok'
  iexact Hcred'

/-! ### The kernel as the launch asks for it -/

theorem shuffle (A B C D E G H : sProp (Res F)) : iprop(A ∗ B ∗ C ∗ D ∗ (E ∗ G) ∗ H) ⊢ iprop(A ∗ B ∗ C ∗ (D ∗ E ∗ G) ∗ H) := by
  iintro ⟨H1, H2, H3, H4, ⟨H5, H6⟩, H7⟩
  isplitl [H1]; · iexact H1
  isplitl [H2]; · iexact H2
  isplitl [H3]; · iexact H3
  isplitl [H4 H5 H6]
  · isplitl [H4]; · iexact H4
    isplitl [H5]; · iexact H5
    iexact H6
  iexact H7

set_option maxRecDepth 65536 in
theorem kernel_meets : (K (F := F)).ScalarObl' (Df (F := F)) 𝒱 (P m) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (Df (F := F)) (Pipeline.defs_kernel pcfgs defs₀) 𝒱₀ _ Set.univ none _ _)
  have hc : ((K (F := F)).core 0 ⟨0, hcv⟩).val < grid0.bound 0 := hcv
  rw [defs₀_at]; simp only [SparseCore.onCore, hc, ↓reduceDIte]
  have hc₀ : (K (F := F)).core 0 ⟨0, hcv⟩ = c₀ := rfl
  rw [show (P (F := F) m).x 0 (S d ((K (F := F)).core 0 ⟨0, hcv⟩)) = start m d from (if_pos hc₀ : (if (K (F := F)).core 0 ⟨0, hcv⟩ = c₀ then start m d else iprop(emp)) = (start m d : sProp (Res F))),
    show (P (F := F) m).ox 0 (S d ((K (F := F)).core 0 ⟨0, hcv⟩)) = owed d from (if_pos hc₀ : (if (K (F := F)).core 0 ⟨0, hcv⟩ = c₀ then owed d else (0 : CellTallies nD τ sig (HIx 1))) = owed d)]
  change iprop(levAts (K (F := F)).L (K (F := F)).lev ∗ start m d ∗ begins m d
        ∗ scopedBufs (S d c₀) ∗ ((P (F := F) m).ownSems0' (S d c₀) ∗ bigSep Finset.univ fun i : Fin τ.nSub => scopedSems0 (V d c₀ i))
        ∗ owes (S d c₀) (O + owed d) W) ⊢ wp frame (wpE (defs₀ (F := F)) 𝒱₀ (S d c₀) none) Set.univ (kern (F := F)) _
  have h := body m d O W hOlev iprop(scopedBufs (S d c₀) ∗ (P (F := F) m).ownSems0' (S d c₀) ∗ bigSep Finset.univ fun i : Fin τ.nSub => scopedSems0 (V d c₀ i))
  refine BI.Entails.trans ?_ (h.trans (wp_mono _ _ _ fun _ => ?_))
  · exact shuffle _ _ _ _ _ _ _
  · change _ ⊢ iprop(ended m d ∗ scopedBufs (S d c₀) ∗ scopedSems0 (S d c₀) ∗ ∃ W', ⌜∀ p ∈ W', p ∈ W ∨ p.2 = none ∨ p.2 = some (0 : Fin 1)⌝ ∗ owes (S d c₀) O W')
    iintro ⟨He, ⟨Hsb, Hos, Hsub⟩, Hz, HO⟩
    isplitl [He]; · iexact He
    isplitl [Hsb]; · iexact Hsb
    isplitl [Hos Hsub Hz]
    · iapply (scoped_back (F := F) (P m) (P_held m) d)
      isplitl [Hos Hz]
      · isplitl [Hos]; · iexact Hos
        iexact Hz
      iexact Hsub
    iexact HO

/-! ### @main and the end -/

theorem arrays (d : Dev nD) : (unscopedBufs d (fun b => m ((SparseCore.T d).loc b)) : sProp (Res F))
    = iprop(all (locA d) (m (locA d)) ∗ all (locP d) (m (locP d)) ∗ all (locX d) (m (locX d)) ∗ all (locB d) (m (locB d)) ∗ all (locQ d) (m (locQ d)) ∗ all (locY d) (m (locY d))) := by
  unfold unscopedBufs
  rw [show (Finset.univ.filter fun b : Ref sig .tc => ¬ b.isScoped) = {main_arg0, main_arg1, main_arg2, main_v1_0, main_v1_1, main_v1_2} by decide,
    SparseCore.bigSep_insert' (by decide), SparseCore.bigSep_insert' (by decide), SparseCore.bigSep_insert' (by decide), SparseCore.bigSep_insert' (by decide),
    SparseCore.bigSep_insert' (by decide), bigSep_singleton]

theorem host (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (Df (F := F))) 𝒱 (SparseCore.T d) none) Set.univ (main d)
          fun _ => iprop((K (F := F)).tcSt EH d 1 ∗ ended m d ∗ (K (F := F)).tcEnd d) := by
  unfold SparseCore.Cfg.tcRes SparseCore.Cfg.tcEnd
  rw [arrays]
  simp only [main, wp_bind, wp_pure]
  iintro ⟨#Hctx, Hst, ⟨Hb, ⟨HA, HP, HX, HB, HQ, HY⟩, Hts, -⟩, -⟩
  iapply ((K (F := F)).wp_run (Df (F := F)) 𝒱 (EH := EH) (P := P m) κ d 0) $$ [Hst Hb Hts HA HP HX HB HQ HY]
  isplitr; · iexact Hctx
  isplitl [Hst]; · iexact Hst
  isplitl [HA HP HX HB HQ HY]
  · rw [st_eq]
    isplitl [HA HP HX]
    · isplitl [HA]; · iexact HA
      isplitl [HP]; · iexact HP
      iexact HX
    isplitl [HB]; · iexists _; iexact HB
    isplitl [HQ]; · iexists _; iexact HQ
    iexists _; iexact HY
  iintro ⟨Hst, Hdn⟩
  ihave Hdn' := (Entails.of_eq (dn_eq (F := F) m d)) $$ Hdn
  imodintro
  isplitl [Hst]; · iexact Hst
  isplitl [Hdn']; · iexact Hdn'
  isplitl [Hb] <;> iassumption

/-- What device `d`'s memory ends with. -/
def at_end (d : Dev nD) (s' : Phys nD τ sig (Elt F)) : Prop :=
  (s'.mem.mem (locA d) = m (locA d) ∧ s'.mem.mem (locP d) = m (locP d) ∧ s'.mem.mem (locX d) = m (locX d))
    ∧ (s'.mem.mem (locB d) = gotB m d ∧ s'.mem.mem (locQ d) = gotQ m d ∧ s'.mem.mem (locY d) = gotY m d) ∧ s'.mem.sem (barC d) = 0

theorem all_read (ℓ : Loc nD τ sig) (f : Buf (Elt F) ℓ) (s' : Phys nD τ sig (Elt F)) : iprop(all ℓ f ∗ SI s') ⊢ (⌜s'.mem.mem ℓ = f⌝ : sProp (Res F)) := by
  iintro ⟨H, HSI⟩
  ihave H := (SI_pointsTo_agree (st := s') (ℓ := ℓ) (I := Finset.univ) (q := fullShare) (f := f)) $$ [HSI H]
  · isplitl [HSI] <;> iassumption
  icases H with %hh
  ipureintro; exact Buf.eq_of_forall_mem_univ hh

theorem ended_read (d : Dev nD) (s' : Phys nD τ sig (Elt F)) : iprop(ended m d ∗ SI s') ⊢ (⌜at_end m d s'⌝ : sProp (Res F)) := by
  intro x hx
  have one : ∀ (ℓ : Loc nD τ sig) (f : Buf (Elt F) ℓ), (ended m d ⊢ (all ℓ f : sProp (Res F))) → s'.mem.mem ℓ = f :=
    fun ℓ f h => ((sep_mono_left h).trans (all_read ℓ f s')) x hx
  refine ⟨⟨one _ _ ?_, one _ _ ?_, one _ _ ?_⟩, ⟨one _ _ ?_, one _ _ ?_, one _ _ ?_⟩, ?_⟩
  · iintro ⟨⟨H, -⟩, -⟩; iexact H
  · iintro ⟨⟨-, H, -⟩, -⟩; iexact H
  · iintro ⟨⟨-, -, H⟩, -⟩; iexact H
  · iintro ⟨-, ⟨H, -⟩, -⟩; iexact H
  · iintro ⟨-, ⟨-, H, -⟩, -⟩; iexact H
  · iintro ⟨-, ⟨-, -, H⟩, -⟩; iexact H
  · exact ((sep_mono_left (sep_elim_right.trans sep_elim_right)).trans (SparseCore.Cfg.semVal_zero_read (barC d) s')) x hx

theorem held_runs (d : Dev nD) (c : Fin τ.nSC) (sm : SemLoc sig) (_ : sm.isScoped .scScalar = true) (h : ((S d c, sm) : GSem nD τ sig) ∈ (P (F := F) m).held) :
    0 < (K (F := F)).kRank c 1 := by
  rw [P_held, dmaCells] at h
  have hc : c₀ = c := by
    obtain ⟨x, -, e⟩ := Finset.mem_image.mp h
    exact Proc.scScalar.inj (Prod.mk.inj (Prod.mk.inj e).1).2
  subst hc
  exact SparseCore.Cfg.kRank_pos (q := 0) ⟨rfl, show c₀.val < (K (F := F)).nCore 0 from Nat.one_pos⟩

/-- The run. -/
theorem run : θ_run (defs (F := F)) (threads (F := F)) ⟨m, fun _ => 0, ρ⟩ (fun r =>
    (∀ d : Dev nD, (r.2.mem (locA d) = m (locA d) ∧ r.2.mem (locP d) = m (locP d) ∧ r.2.mem (locX d) = m (locX d))
      ∧ r.2.mem (locB d) = gotB m d ∧ r.2.mem (locQ d) = gotQ m d ∧ r.2.mem (locY d) = gotY m d) ∧ r.2.sem = fun _ => 0) :=
  SparseCore.Cfg.θ_run_sc_held_quiescent (K := K (F := F)) (D := Df (F := F)) (𝒱 := 𝒱) (EH := EH) (P := P m) (A := barCells)
    (hran := held_runs m)
    (hA := fun s' h g hg => by
      obtain ⟨d, -, rfl⟩ := Finset.mem_image.mp hg
      exact (h d).2.2)
    launch_facts v₀
    (fun q _ => match q with | 0 => kernel_meets m)
    (fun q hq => match q with | 0 => nomatch hq)
    (fun q hq => match q with | 0 => nomatch hq)
    m ρ main (fun _ => iprop(emp)) (ended m) (u₀ (F := F)) (launch m) (host m ρ) (at_end m) (ended_read m) _
    (fun _ h hz => ⟨fun d => ⟨(h d).1, (h d).2.1⟩, hz⟩)

end Cert.Swap

end
-- ==== Proof.Swap.Claim.lean ====
/-
  The exchange's value claim.  The reference lays each argument out by the devices' coordinates and takes, for every device,
  what the others send it: the sibling's rows, the slabs of three peers, the sibling's block.  Row by row that is what the
  devices end with.
-/
module

public import proofs.«01_k».proof.Defs
public import proofs.«01_k».proof.Proof.Swap.Run
public import proofs.«01_k».proof.Proof.Gen.Kernel7
public import proofs.«01_k».proof.Proof.Gen.Reference7Ideal
public import proofs.«01_k».proof.Proof.Gen.Reference7Ideal.Run
public import Idealize.ShloMosaic.Lib.Pointwise
public import Idealize.ShloMosaic.Lib.Layout

@[expose] public section

noncomputable section

namespace Cert.Swap

open Idealize.ShloMosaic Idealize.SL.Sem

section Reference
open Cert.Reference7Ideal Cert.Reference7Ideal.Gen
variable {F : FTy → Type}

/-- The reference's three results, each of its argument. -/
def refB (w : Vec F S4096x5632 .bf16) : Vec F S2048x5632 .bf16 := shapeCast _ (concatenate S4x2x256x5632 1 [⟨S4x1x256x5632, (broadcastInDim S4x1x256x5632 ![0, 2, 3] bcast_S4x256x5632_S4x1x256x5632_0_2_3 (shapeCast _ (extractStridedSlice S4x1x1x256x5632 ![0, 1, 0, 0, 0] (shapeCast _ w shapeCasts_S4096x5632_S4x2x2x256x5632) slices_S4x2x2x256x5632_S4x1x1x256x5632_0_1_0_0_0) shapeCasts_S4x1x1x256x5632_S4x256x5632))⟩, ⟨S4x1x256x5632, (broadcastInDim S4x1x256x5632 ![0, 2, 3] bcast_S4x256x5632_S4x1x256x5632_0_2_3 (shapeCast _ (extractStridedSlice S4x1x1x256x5632 ![0, 0, 1, 0, 0] (shapeCast _ w shapeCasts_S4096x5632_S4x2x2x256x5632) slices_S4x2x2x256x5632_S4x1x1x256x5632_0_0_1_0_0) shapeCasts_S4x1x1x256x5632_S4x256x5632))⟩] concatenates_S4x1x256x5632_S4x1x256x5632_S4x2x256x5632_d1) shapeCasts_S4x2x256x5632_S2048x5632
def refQ (w : Vec F S32x256x1408 .bf16) : Vec F S24x256x1408 .bf16 := shapeCast _ ((concatenate S2x2x2x3x256x1408 3 [⟨S2x2x2x1x256x1408, ((broadcastInDim S2x2x2x1x256x1408 ![0, 1, 2, 4, 5] bcast_S2x2x2x256x1408_S2x2x2x1x256x1408_0_1_2_4_5 (shapeCast _ (Host.reverse [0] (extractStridedSlice S2x2x2x1x256x1408 ![0, 0, 0, 1, 0, 0] (shapeCast _ w shapeCasts_S32x256x1408_S2x2x2x4x256x1408) slices_S2x2x2x4x256x1408_S2x2x2x1x256x1408_0_0_0_1_0_0)) shapeCasts_S2x2x2x1x256x1408_S2x2x2x256x1408)) : (⟨S2x2x2x1x256x1408, .bf16⟩ : BufTy).Contents (Elt F))⟩, ⟨S2x2x2x1x256x1408, ((broadcastInDim S2x2x2x1x256x1408 ![0, 1, 2, 4, 5] bcast_S2x2x2x256x1408_S2x2x2x1x256x1408_0_1_2_4_5 (shapeCast _ (Host.reverse [1] (extractStridedSlice S2x2x2x1x256x1408 ![0, 0, 0, 2, 0, 0] (shapeCast _ w shapeCasts_S32x256x1408_S2x2x2x4x256x1408) slices_S2x2x2x4x256x1408_S2x2x2x1x256x1408_0_0_0_2_0_0)) shapeCasts_S2x2x2x1x256x1408_S2x2x2x256x1408)) : (⟨S2x2x2x1x256x1408, .bf16⟩ : BufTy).Contents (Elt F))⟩, ⟨S2x2x2x1x256x1408, ((broadcastInDim S2x2x2x1x256x1408 ![0, 1, 2, 4, 5] bcast_S2x2x2x256x1408_S2x2x2x1x256x1408_0_1_2_4_5 (shapeCast _ (Host.reverse [0, 1] (extractStridedSlice S2x2x2x1x256x1408 ![0, 0, 0, 3, 0, 0] (shapeCast _ w shapeCasts_S32x256x1408_S2x2x2x4x256x1408) slices_S2x2x2x4x256x1408_S2x2x2x1x256x1408_0_0_0_3_0_0)) shapeCasts_S2x2x2x1x256x1408_S2x2x2x256x1408)) : (⟨S2x2x2x1x256x1408, .bf16⟩ : BufTy).Contents (Elt F))⟩] concatenates_S2x2x2x1x256x1408_S2x2x2x1x256x1408_S2x2x2x1x256x1408_S2x2x2x3x256x1408_d3 : (⟨S2x2x2x3x256x1408, .bf16⟩ : BufTy).Contents (Elt F))) shapeCasts_S2x2x2x3x256x1408_S24x256x1408
def refY (w : Vec F S2816x1024 .f32) : Vec F S2816x1024 .f32 := shapeCast _ (Host.reverse [1] (shapeCast _ w shapeCasts_S2816x1024_S4x2x352x1024)) shapeCasts_S4x2x352x1024_S2816x1024

theorem refY_apply (w : Vec F S2816x1024 .f32) (j k : S2816x1024.Idx)
    (h0 : (k 0 : ℕ) = (j 0 : ℕ) / 704 * 704 + (1 - (j 0 : ℕ) / 352 % 2) * 352 + (j 0 : ℕ) % 352) (h1 : (k 1 : ℕ) = j 1) :
    refY w j = w k := by
  unfold refY
  pointwise
  refine congrArg w (funext fun a => Fin.ext ?_)
  match a with
  | 0 =>
    refine Eq.trans ?_ h0.symm
    refine congrArg₂ (· + ·) (congrArg₂ (· + ·) (congrArg (· * 704) ?_) (congrArg (· * 352) ?_)) ?_
    · exact congrArg Fin.val (if_neg (by decide))
    · refine (congrArg Fin.val (if_pos (by decide))).trans ((Fin.val_rev _).trans ?_)
      show 2 - ((j 0 : ℕ) / 352 % 2 + 1) = 1 - (j 0 : ℕ) / 352 % 2
      omega
    · exact congrArg Fin.val (if_neg (by decide))
  | 1 => exact h1.symm

theorem refB_apply (w : Vec F S4096x5632 .bf16) (j : S2048x5632.Idx) (k : S4096x5632.Idx)
    (h0 : (k 0 : ℕ) = (j 0 : ℕ) / 512 * 1024 + (if (j 0 : ℕ) / 256 % 2 = 0 then 512 else 256) + (j 0 : ℕ) % 256) (h1 : (k 1 : ℕ) = j 1) :
    refB w j = w k := by
  unfold refB
  pointwise
  split
  · next h =>
    refine congrArg w (funext fun a => Fin.ext ?_)
    match a with
    | 0 => exact Eq.trans (by rw [if_pos (show (j 0 : ℕ) / 256 % 2 = 0 by omega)]; rfl) h0.symm
    | 1 => exact h1.symm
  · next h =>
    refine congrArg w (funext fun a => Fin.ext ?_)
    match a with
    | 0 => exact Eq.trans (by rw [if_neg (show ¬ (j 0 : ℕ) / 256 % 2 = 0 by omega)]; rfl) h0.symm
    | 1 => exact h1.symm

theorem refQ_apply (w : Vec F S32x256x1408 .bf16) (j : S24x256x1408.Idx) (k : S32x256x1408.Idx)
    (h0 : (k 0 : ℕ) = (if (j 0 : ℕ) % 3 = 1 then (j 0 : ℕ) / 12 else 1 - (j 0 : ℕ) / 12) * 16
      + (if (j 0 : ℕ) % 3 = 0 then (j 0 : ℕ) / 6 % 2 else 1 - (j 0 : ℕ) / 6 % 2) * 8 + (j 0 : ℕ) / 3 % 2 * 4 + ((j 0 : ℕ) % 3 + 1))
    (h1 : (k 1 : ℕ) = j 1) (h2 : (k 2 : ℕ) = j 2) :
    refQ w j = w k := by
  have hj : (j 0 : ℕ) < 24 := (j 0).isLt
  unfold refQ
  pointwise
  simp only [List.mem_cons, List.not_mem_nil, or_false, false_or, or_true, true_or, Fin.reduceEq, Fin.isValue, ↓reduceIte, Fin.val_rev]
  split
  · next h =>
    refine congrArg w (funext fun a => Fin.ext ?_)
    match a with
    | 0 =>
      rw [if_neg (show ¬ (j 0 : ℕ) % 3 = 1 by omega), if_pos (show (j 0 : ℕ) % 3 = 0 by omega)] at h0
      show (2 - ((j 0 : ℕ) / 12 + 1)) * 16 + (j 0 : ℕ) / 6 % 2 * 8 + (j 0 : ℕ) / 3 % 2 * 4 + 1 = _
      omega
    | 1 => exact h1.symm
    | 2 => exact h2.symm
  · next h =>
    split
    · next h' =>
      refine congrArg w (funext fun a => Fin.ext ?_)
      match a with
      | 0 =>
        rw [if_pos (show (j 0 : ℕ) % 3 = 1 by omega), if_neg (show ¬ (j 0 : ℕ) % 3 = 0 by omega)] at h0
        show (j 0 : ℕ) / 12 * 16 + (2 - ((j 0 : ℕ) / 6 % 2 + 1)) * 8 + (j 0 : ℕ) / 3 % 2 * 4 + 2 = _
        omega
      | 1 => exact h1.symm
      | 2 => exact h2.symm
    · next h' =>
      refine congrArg w (funext fun a => Fin.ext ?_)
      match a with
      | 0 =>
        rw [if_neg (show ¬ (j 0 : ℕ) % 3 = 1 by omega), if_neg (show ¬ (j 0 : ℕ) % 3 = 0 by omega)] at h0
        show (2 - ((j 0 : ℕ) / 12 + 1)) * 16 + (2 - ((j 0 : ℕ) / 6 % 2 + 1)) * 8 + (j 0 : ℕ) / 3 % 2 * 4 + 3 = _
        omega
      | 1 => exact h1.symm
      | 2 => exact h2.symm
end Reference

section Devices
open Cert.Kernel7Ideal Cert.Kernel7Ideal.Gen
variable {F : FTy → Type} (m : (ℓ : Loc nD τ sig) → Buf (Elt F) ℓ)

theorem sib_row (d : Dev nD) : (sib d : ℕ) = (d : ℕ) / 2 * 2 + (1 - (d : ℕ) % 2) := by revert d; decide
theorem off_0 (d : Dev nD) : k0_off1 d 0 = (1 - (d : ℕ) % 2) * 256 := by revert d; decide +kernel
theorem off_1 (d : Dev nD) : k0_off1 d 1 = 0 := by revert d; decide +kernel
theorem dest_row (s : Fin 3) (d : Dev nD) : (dest ⟨(s : ℕ) + 1, Nat.lt_of_lt_of_le (Nat.succ_lt_succ s.isLt) (by decide)⟩ d : ℕ)
    = (if (s : ℕ) = 1 then (d : ℕ) / 4 else 1 - (d : ℕ) / 4) * 4 + (if (s : ℕ) = 0 then (d : ℕ) / 2 % 2 else 1 - (d : ℕ) / 2 % 2) * 2 + (d : ℕ) % 2 := by
  revert s d; decide +kernel

/-- What each device ends with is its block of the reference's results. -/
theorem ends_B (w : Vec F Reference7Ideal.S4096x5632 .bf16) (h : ∀ c : Dev nD, m (locA c) = Layout.block ⟨2, ![512, 5632]⟩ ⟨2, ![4096, 5632]⟩ 0 8 c w)
    (d : Dev nD) : gotB m d = (Layout.block ⟨2, ![256, 5632]⟩ ⟨2, ![2048, 5632]⟩ 0 8 d (refB w) : Vec F S256x5632 .bf16) := by
  unfold gotB
  rw [h]
  funext i
  refine (refB_apply w _ ((by decide : Layout.Tiles ⟨2, ![512, 5632]⟩ ⟨2, ![4096, 5632]⟩ 0 8).idx (sib d) ((halfA (sib d)).view.emb i)) ?_ ?_).symm
  · have hd : (d : ℕ) < 8 := d.isLt
    have hi : (i 0 : ℕ) < 256 := (i 0).isLt
    show (sib d : ℕ) * 512 + (k0_off1 (sib d) 0 + 1 * (i 0 : ℕ)) = ((d : ℕ) * 256 + (i 0 : ℕ)) / 512 * 1024
      + (if ((d : ℕ) * 256 + (i 0 : ℕ)) / 256 % 2 = 0 then 512 else 256) + ((d : ℕ) * 256 + (i 0 : ℕ)) % 256
    rw [off_0, sib_row]
    generalize (i 0 : ℕ) = x at hi ⊢
    generalize (d : ℕ) = y at hd ⊢
    split <;> omega
  · show k0_off1 (sib d) 1 + 1 * (i 1 : ℕ) = (i 1 : ℕ)
    rw [off_1]; omega

/-- One slab of the scatter, read at the device it comes from. -/
theorem slab (w : Vec F Reference7Ideal.S32x256x1408 .bf16) (d : Dev nD) (i : S3x256x1408.Idx) :
    (Layout.block ⟨3, ![4, 256, 1408]⟩ ⟨3, ![32, 256, 1408]⟩ 0 8 (dest ⟨(i 0 : ℕ) + 1, Nat.lt_of_lt_of_le (Nat.succ_lt_succ (i 0).isLt) (show (3 : ℕ).succ ≤ 5 by decide)⟩ d) w : Vec F S4x256x1408 .bf16) (upQ i)
      = (Layout.block ⟨3, ![3, 256, 1408]⟩ ⟨3, ![24, 256, 1408]⟩ 0 8 d (refQ w) : Vec F S3x256x1408 .bf16) i := by
  rw [Layout.block_apply, Layout.block_apply]
  refine (refQ_apply w _ _ ?_ rfl rfl).symm
  have hd : (d : ℕ) < 8 := d.isLt
  have hi : (i 0 : ℕ) < 3 := (i 0).isLt
  show ((dest ⟨(i 0 : ℕ) + 1, Nat.lt_of_lt_of_le (Nat.succ_lt_succ (i 0).isLt) (show (3 : ℕ).succ ≤ 5 by decide)⟩ d) : ℕ) * 4 + ((i 0 : ℕ) + 1)
    = (if ((d : ℕ) * 3 + (i 0 : ℕ)) % 3 = 1 then ((d : ℕ) * 3 + (i 0 : ℕ)) / 12 else 1 - ((d : ℕ) * 3 + (i 0 : ℕ)) / 12) * 16 + (if ((d : ℕ) * 3 + (i 0 : ℕ)) % 3 = 0 then ((d : ℕ) * 3 + (i 0 : ℕ)) / 6 % 2 else 1 - ((d : ℕ) * 3 + (i 0 : ℕ)) / 6 % 2) * 8
      + ((d : ℕ) * 3 + (i 0 : ℕ)) / 3 % 2 * 4 + (((d : ℕ) * 3 + (i 0 : ℕ)) % 3 + 1)
  rw [dest_row (i 0) d]
  generalize (i 0 : ℕ) = x at hi ⊢
  generalize (d : ℕ) = y at hd ⊢
  rw [show (y * 3 + x) % 3 = x by omega, show (y * 3 + x) / 12 = y / 4 by omega, show (y * 3 + x) / 6 = y / 2 by omega, show (y * 3 + x) / 3 = y by omega]
  split <;> split <;> omega

theorem ends_Q (w : Vec F Reference7Ideal.S32x256x1408 .bf16) (h : ∀ c : Dev nD, m (locP c) = Layout.block ⟨3, ![4, 256, 1408]⟩ ⟨3, ![32, 256, 1408]⟩ 0 8 c w)
    (d : Dev nD) : gotQ m d = (Layout.block ⟨3, ![3, 256, 1408]⟩ ⟨3, ![24, 256, 1408]⟩ 0 8 d (refQ w) : Vec F S3x256x1408 .bf16) :=
  funext fun i : S3x256x1408.Idx => (congrFun (h (dest ⟨(i 0 : ℕ) + 1, Nat.lt_of_lt_of_le (Nat.succ_lt_succ (i 0).isLt) (show (3 : ℕ).succ ≤ 5 by decide)⟩ d)) (upQ i)).trans (slab w d i)

/-- The sibling's block is the device's own block of the exchanged array. -/
theorem swapped (w : Vec F Reference7Ideal.S2816x1024 .f32) (d : Dev nD) (i : S352x1024.Idx) :
    (Layout.block ⟨2, ![352, 1024]⟩ ⟨2, ![2816, 1024]⟩ 0 8 (sib d) w : Vec F S352x1024 .f32) i
      = (Layout.block ⟨2, ![352, 1024]⟩ ⟨2, ![2816, 1024]⟩ 0 8 d (refY w) : Vec F S352x1024 .f32) i := by
  rw [Layout.block_apply, Layout.block_apply]
  refine (refY_apply w _ _ ?_ ?_).symm
  · rw [(Layout.idx_rows_val _ (sib d) i).1, (Layout.idx_rows_val _ d i).1, sib_row]
    have hi : (i 0 : ℕ) < 352 := (i 0).isLt
    have hd : (d : ℕ) < 8 := d.isLt
    show ((d : ℕ) / 2 * 2 + (1 - (d : ℕ) % 2)) * 352 + (i 0 : ℕ) = ((d : ℕ) * 352 + (i 0 : ℕ)) / 704 * 704 + (1 - ((d : ℕ) * 352 + (i 0 : ℕ)) / 352 % 2) * 352 + ((d : ℕ) * 352 + (i 0 : ℕ)) % 352
    generalize (i 0 : ℕ) = x at hi ⊢
    generalize (d : ℕ) = y at hd ⊢
    omega
  · rw [(Layout.idx_rows_val _ (sib d) i).2, (Layout.idx_rows_val _ d i).2]

theorem ends_Y (w : Vec F Reference7Ideal.S2816x1024 .f32) (h : ∀ c : Dev nD, m (locX c) = Layout.block ⟨2, ![352, 1024]⟩ ⟨2, ![2816, 1024]⟩ 0 8 c w)
    (d : Dev nD) : gotY m d = (Layout.block ⟨2, ![352, 1024]⟩ ⟨2, ![2816, 1024]⟩ 0 8 d (refY w) : Vec F S352x1024 .f32) :=
  funext fun i : S352x1024.Idx => (congrFun (h (sib d)) i).trans (swapped w d i)
end Devices

/-- The claim over the reals. -/
theorem algebraic : Cert.algebraic_Kernel7Ideal_Reference7Ideal (hKernel7Ideal := Kernel7Ideal.Gen.facts) (hReference7Ideal := Reference7Ideal.Gen.facts) :=
  fun m g m' g' _ hin => ⟨refB _, refQ _, refY _,
    (θ_run _ _ _).mono (fun _ h c => ⟨(h.1 c).2.1.trans (ends_B m _ (fun c => (hin c).1) c), (h.1 c).2.2.1.trans (ends_Q m _ (fun c => (hin c).2.1) c),
      (h.1 c).2.2.2.trans (ends_Y m _ (fun c => (hin c).2.2) c), (h.1 c).1⟩) (run m g),
    (θ_run _ _ _).mono (fun _ h => h 0) (Reference7Ideal.Value.run m' g')⟩

/-- The exchange leaves its arguments, and every semaphore at zero. -/
theorem frame {F : FTy → Type} [FloatOps F] (m : (ℓ : Loc Kernel7Ideal.nD Kernel7Ideal.τ Kernel7Ideal.sig) → Buf (Elt F) ℓ) (g : Dev Kernel7Ideal.nD → PrngReg) :
    θ_run (Kernel7Ideal.defs (F := F)) (Kernel7Ideal.threads (F := F)) ⟨m, fun _ => 0, g⟩ (fun r => (∀ c : Dev Kernel7Ideal.nD,
      r.2.mem (locA c) = m (locA c) ∧ r.2.mem (locP c) = m (locP c) ∧ r.2.mem (locX c) = m (locX c)) ∧ r.2.sem = fun _ => 0) :=
  (θ_run _ _ _).mono (fun _ h => ⟨fun c => (h.1 c).1, h.2⟩) (run m g)

/-- The program as it was printed first has the same text. -/
theorem frame_kernel : Cert.quiescent_Kernel7 := fun m g _ => frame (F := Bits) m g

end Cert.Swap

end
-- ==== Proof.Mixin.Ref.lean ====
/- The forward input projection over the extended reals, and the reference's arrays. -/
module
public import proofs.«01_k».proof.Proof.Gen.Kernel8Ideal.Skeleton
public import proofs.«01_k».proof.Proof.Gen.Reference8Ideal.Run
public import Idealize.ShloMosaic.Lib.Pipeline.ValueKit
public import Idealize.ShloMosaic.Lib.Pointwise
@[expose] public section
set_option maxRecDepth 16384
noncomputable section
namespace Cert.Mixin
open Idealize.ShloMosaic Idealize.ShloMosaic.TcCoe Idealize.ShloMosaic.Tactic Idealize.SL.Sem

/-- The batch and the place of a row. -/
def rp (r : Fin 4096) : Fin 2 := ⟨r.val / 2048, by omega⟩
def rl (r : Fin 4096) : Fin 2048 := ⟨r.val % 2048, by omega⟩
/-- An entry of the projection. -/
def proj (x : FVec Ideal ⟨3, ![2, 2048, 1024]⟩ .f32) (w : FVec Ideal ⟨3, ![1, 1024, 3584]⟩ .f32) (r : Fin 4096) (q : Fin 3584) : EReal :=
  ∑ k : Fin 1024, x (ValueIdx.ix3 (rp r) (rl r) k) * w (ValueIdx.ix3 (0 : Fin 1) k q)
theorem proj_of (x : FVec Ideal ⟨3, ![2, 2048, 1024]⟩ .f32) (w : FVec Ideal ⟨3, ![1, 1024, 3584]⟩ .f32) (r : Fin 4096) (q : Fin 3584) (f g : Fin 1024 → EReal)
    (hf : ∀ k, f k = x (ValueIdx.ix3 (rp r) (rl r) k)) (hg : ∀ k, g k = w (ValueIdx.ix3 (0 : Fin 1) k q)) : ∑ k, f k * g k = proj x w r q :=
  Finset.sum_congr rfl fun k _ => by rw [hf, hg]
/-- The columns of the three blocks. -/
def ca (q : Fin 512) : Fin 3584 := ⟨q.val, by omega⟩
def cu (q : Fin 1024) : Fin 3584 := ⟨512 + q.val, by omega⟩
def cg (q : Fin 2048) : Fin 3584 := ⟨1536 + q.val, by omega⟩

section Reference
open Cert.Reference8Ideal Cert.Reference8Ideal.Gen
variable (x : FVec Ideal S2x2048x1024 .f32) (w : FVec Ideal S1x1024x3584 .f32)
def dot : FVec Ideal S2x2048x3584 .f32 := Host.dotGeneral (φ₁ := .f32) (φ₂ := .f32) dot_S2x2048x1024_S1024x3584_S2x2048x3584_2_0_01_1_n_n none x (shapeCast _ w shapeCasts_S1x1024x3584_S1024x3584)
theorem dot_at (r : Fin 4096) (i : S2x2048x3584.Idx) (h0 : (i 0).val = (rp r).val) (h1 : (i 1).val = (rl r).val) : dot x w i = proj x w r (i 2) := by
  obtain ⟨a, b, c, rfl⟩ : ∃ a b c, i = ValueIdx.ix3 a b c := ⟨i 0, i 1, i 2, by funext d; fin_cases d <;> rfl⟩
  obtain rfl : a = rp r := Fin.ext h0
  obtain rfl : b = rl r := Fin.ext h1
  pointwise [dot]
  rfl
theorem ref_x (j : S1024x4096.Idx) : (transpose S1024x4096 [1, 0] (truncf .bf16 (shapeCast S4096x1024 x shapeCasts_S2x2048x1024_S4096x1024) bitsLt_bf16_f32) transposes_S4096x1024_S1024x4096_1_0) j = x (ValueIdx.ix3 (rp (j 1)) (rl (j 1)) (j 0)) := by
  pointwise
  blk_ext [rp, rl]
theorem ref_a (j : S4096x512.Idx) : ((truncf .bf16 (shapeCast S4096x512 (extractStridedSlice S2x2048x512 ![0, 0, 0] (dot x w) slices_S2x2048x3584_S2x2048x512_0_0_0) shapeCasts_S2x2048x512_S4096x512) bitsLt_bf16_f32) : FVec Ideal S4096x512 .bf16) j = proj x w (j 0) (ca (j 1)) := by
  pointwise
  exact dot_at x w (j 0) _ rfl rfl
theorem ref_u (j : S4096x1024.Idx) : ((truncf .bf16 (shapeCast S4096x1024 (concatenate S2x2048x1024 2 [⟨S2x2048x512, (extractStridedSlice S2x2048x512 ![0, 0, 512] (dot x w) slices_S2x2048x3584_S2x2048x512_0_0_512)⟩, ⟨S2x2048x512, (extractStridedSlice S2x2048x512 ![0, 0, 1024] (dot x w) slices_S2x2048x3584_S2x2048x512_0_0_1024)⟩] concatenates_S2x2048x512_S2x2048x512_S2x2048x1024_d2) shapeCasts_S2x2048x1024_S4096x1024) bitsLt_bf16_f32) : FVec Ideal S4096x1024 .bf16) j = proj x w (j 0) (cu (j 1)) := by
  pointwise
  split
  · exact (dot_at x w (j 0) _ rfl rfl).trans (congrArg (proj x w (j 0)) (Fin.ext rfl))
  · next h => exact (dot_at x w (j 0) _ rfl rfl).trans (congrArg (proj x w (j 0)) (Fin.ext (show 1024 + ((j 1).val - 512) = 512 + (j 1).val by omega)))
theorem ref_g (j : S4096x2048.Idx) : ((truncf .bf16 (shapeCast S4096x2048 (concatenate S2x2048x2048 2 [⟨S2x2048x1024, (extractStridedSlice S2x2048x1024 ![0, 0, 1536] (dot x w) slices_S2x2048x3584_S2x2048x1024_0_0_1536)⟩, ⟨S2x2048x1024, (extractStridedSlice S2x2048x1024 ![0, 0, 2560] (dot x w) slices_S2x2048x3584_S2x2048x1024_0_0_2560)⟩] concatenates_S2x2048x1024_S2x2048x1024_S2x2048x2048_d2) shapeCasts_S2x2048x2048_S4096x2048) bitsLt_bf16_f32) : FVec Ideal S4096x2048 .bf16) j = proj x w (j 0) (cg (j 1)) := by
  pointwise
  split
  · exact (dot_at x w (j 0) _ rfl rfl).trans (congrArg (proj x w (j 0)) (Fin.ext rfl))
  · next h => exact (dot_at x w (j 0) _ rfl rfl).trans (congrArg (proj x w (j 0)) (Fin.ext (show 2560 + ((j 1).val - 1024) = 1536 + (j 1).val by omega)))
end Reference

section Kernel
open Cert.Kernel8Ideal Cert.Kernel8Ideal.Gen
theorem pay_x (v : Vec Ideal S512x1024 .f32) (i : S1024x512.Idx) : k0_pay2 v i = v (ValueIdx.ix2 (i 1) (i 0)) := by
  pointwise [k0_pay2, k0_pay1]
  rfl
theorem pay_a (v : Vec Ideal S512x1024 .f32) (u : Vec Ideal S1024x512 .bf16) (i : S512x512.Idx) : k0_pay3 v u i = ∑ k : Fin 1024, v (ValueIdx.ix2 (i 0) k) * u (ValueIdx.ix2 k (i 1)) := by
  pointwise [k0_pay3, k0_pay1]
  rfl
theorem pay_u (v : Vec Ideal S512x1024 .f32) (u : Vec Ideal S1024x1024 .bf16) (i : S512x1024.Idx) : k0_pay4 v u i = ∑ k : Fin 1024, v (ValueIdx.ix2 (i 0) k) * u (ValueIdx.ix2 k (i 1)) := by
  pointwise [k0_pay4, k0_pay1]
  rfl
theorem pay_g (v : Vec Ideal S512x1024 .f32) (u : Vec Ideal S1024x2048 .bf16) (i : S512x2048.Idx) : k0_pay5 v u i = ∑ k : Fin 1024, v (ValueIdx.ix2 (i 0) k) * u (ValueIdx.ix2 k (i 1)) := by
  pointwise [k0_pay5, k0_pay1]
  rfl
end Kernel

end Cert.Mixin
end
-- ==== Proof.Mixin.Claim.lean ====
/- The projection's region at the kernel's arguments, and the claim. -/
module
public import proofs.«01_k».proof.Proof.Gen.Kernel8Ideal.Frame
public import proofs.«01_k».proof.Proof.Mixin.Ref
public import proofs.«01_k».proof.Defs
@[expose] public section
set_option maxRecDepth 16384
noncomputable section
namespace Cert.Mixin
open Idealize.ShloMosaic Idealize.ShloMosaic.TcCoe Idealize.ShloMosaic.Tactic Idealize.SL.Sem Cert.Kernel8Ideal Cert.Kernel8Ideal.Gen
open Idealize.ShloMosaic.Pipeline (Dat Cfg Window)

variable (m : (ℓ : Loc nD τ sig) → Buf (Elt Ideal) ℓ) (ρ : Dev nD → PrngReg) (c : Dev nD)
/-- The kernel's arguments. -/
abbrev ax : FVec Ideal S2x2048x1024 .f32 := m (c.tc.loc main_arg0)
abbrev aw : FVec Ideal S1x1024x3584 .f32 := m (c.tc.loc main_arg1)
theorem e_x (i : S4096x1024.Idx) : V m c main_v0 i = ax m c (ValueIdx.ix3 (rp (i 0)) (rl (i 0)) (i 1)) := by
  show StableHlo.after (List.flatten [hostOps0]) _ _ _ = _
  simp only [hostOps0, List.flatten_cons, List.flatten_nil, List.append_nil, List.cons_append, List.nil_append]
  after_results
  pointwise
  blk_ext [rp, rl]
theorem e_w (i : S1024x3584.Idx) : V m c main_v2 i = aw m c (ValueIdx.ix3 (0 : Fin 1) (i 0) (i 1)) := by
  show StableHlo.after (List.flatten [hostOps0]) _ _ _ = _
  simp only [hostOps0, List.flatten_cons, List.flatten_nil, List.append_nil, List.cons_append, List.nil_append]
  after_results
  pointwise
  blk_ext []
theorem idx0 : ∀ t : Fin cfg0.N, win0_0.index t = ![t.val, 0] ∧ win0_1.index t = ![0, 0] ∧ win0_2.index t = ![0, t.val] ∧ win0_3.index t = ![t.val, 0]
    ∧ win0_4.index t = ![t.val, 0] ∧ win0_5.index t = ![t.val, 0] :=
  (by decide +kernel : ∀ t : Fin grid0.N, _)
/-- The rows of a grid point. -/
def row (t : Fin cfg0.N) (k : Fin 512) : Fin 4096 := ⟨512 * t.val + k.val, by have : t.val < 8 := lt_of_lt_of_eq t.isLt (show cfg0.N = 8 from N_0); omega⟩
theorem blk_x (t : Fin cfg0.N) (i : S512x1024.Idx) : iblk m c 0 t i = ax m c (ValueIdx.ix3 (rp (row t (i 0))) (rl (row t (i 0))) (i 1)) := by
  have e : iblk m c 0 t i = V m c main_v0 (ValueIdx.ix2 (row t (i 0)) (i 1)) := by blk_ext [iblk, row, idx0 t]
  exact e.trans (e_x m c _)
theorem blk_a (t : Fin cfg0.N) (i : S1024x512.Idx) : View.ld (iblk m c 1 t) r0_2 i = aw m c (ValueIdx.ix3 (0 : Fin 1) (i 0) (ca (i 1))) := by
  have e : View.ld (iblk m c 1 t) r0_2 i = V m c main_v2 (ValueIdx.ix2 (i 0) (ca (i 1))) := by
    pointwise
    blk_ext [iblk, ca, idx0 t]
  exact e.trans (e_w m c _)
theorem blk_u (t : Fin cfg0.N) (i : S1024x1024.Idx) : View.ld (iblk m c 1 t) r0_4 i = aw m c (ValueIdx.ix3 (0 : Fin 1) (i 0) (cu (i 1))) := by
  have e : View.ld (iblk m c 1 t) r0_4 i = V m c main_v2 (ValueIdx.ix2 (i 0) (cu (i 1))) := by
    pointwise
    blk_ext [iblk, cu, idx0 t]
  exact e.trans (e_w m c _)
theorem blk_g (t : Fin cfg0.N) (i : S1024x2048.Idx) : View.ld (iblk m c 1 t) r0_5 i = aw m c (ValueIdx.ix3 (0 : Fin 1) (i 0) (cg (i 1))) := by
  have e : View.ld (iblk m c 1 t) r0_5 i = V m c main_v2 (ValueIdx.ix2 (i 0) (cg (i 1))) := by
    pointwise
    blk_ext [iblk, cg, idx0 t]
  exact e.trans (e_w m c _)
/-- The four results. -/
def res_x : FVec Ideal S1024x4096 .bf16 := fun j => ax m c (ValueIdx.ix3 (rp (j 1)) (rl (j 1)) (j 0))
def res_a : FVec Ideal S4096x512 .bf16 := fun j => proj (ax m c) (aw m c) (j 0) (ca (j 1))
def res_u : FVec Ideal S4096x1024 .bf16 := fun j => proj (ax m c) (aw m c) (j 0) (cu (j 1))
def res_g : FVec Ideal S4096x2048 .bf16 := fun j => proj (ax m c) (aw m c) (j 0) (cg (j 1))
theorem final2 : (dats m 0 c).arrAt 2 cfg0.N = res_x m c := by
  refine (dats m 0 c).arrAt_eq_of_covers 2 _ (by decide +kernel) fun t _ y => ?_
  have e : ((View.whole main_v3_0).slice (win0_2.rect t)).emb y = ValueIdx.ix2 (y 0) (row t (y 1)) := by blk_ext [row, idx0 t]
  blk_simp
  rw [after0_2, e]
  frame_out
  exact (pay_x _ _).trans (blk_x m c t _)
theorem final3 : (dats m 0 c).arrAt 3 cfg0.N = res_a m c := by
  refine (dats m 0 c).arrAt_eq_of_covers 3 _ (by decide +kernel) fun t _ y => ?_
  have e : ((View.whole main_v3_1).slice (win0_3.rect t)).emb y = ValueIdx.ix2 (row t (y 0)) (y 1) := by blk_ext [row, idx0 t]
  blk_simp
  rw [after0_3, e]
  frame_out
  exact (pay_a _ _ y).trans (proj_of (ax m c) (aw m c) _ _ _ _ (fun k => blk_x m c t _) (fun k => blk_a m c t _))
theorem final4 : (dats m 0 c).arrAt 4 cfg0.N = res_u m c := by
  refine (dats m 0 c).arrAt_eq_of_covers 4 _ (by decide +kernel) fun t _ y => ?_
  have e : ((View.whole main_v3_2).slice (win0_4.rect t)).emb y = ValueIdx.ix2 (row t (y 0)) (y 1) := by blk_ext [row, idx0 t]
  blk_simp
  rw [after0_4, e]
  frame_out
  exact (pay_u _ _ y).trans (proj_of (ax m c) (aw m c) _ _ _ _ (fun k => blk_x m c t _) (fun k => blk_u m c t _))
theorem final5 : (dats m 0 c).arrAt 5 cfg0.N = res_g m c := by
  refine (dats m 0 c).arrAt_eq_of_covers 5 _ (by decide +kernel) fun t _ y => ?_
  have e : ((View.whole main_v3_3).slice (win0_5.rect t)).emb y = ValueIdx.ix2 (row t (y 0)) (y 1) := by blk_ext [row, idx0 t]
  blk_simp
  rw [after0_5, e]
  frame_out
  exact (pay_g _ _ y).trans (proj_of (ax m c) (aw m c) _ _ _ _ (fun k => blk_x m c t _) (fun k => blk_g m c t _))

/-- Kernel and reference agree over the reals. -/
theorem algebraic : algebraic_Kernel8Ideal_Reference8Ideal := by
  intro m g m' g' _ hm
  refine ⟨fun c => res_x m c, fun c => res_a m c, fun c => res_u m c, fun c => res_g m c,
    (θ_run _ _ _).mono (fun r hr c => ?_) (θ_run_and (unchanged m g) (run_main m g)), (θ_run _ _ _).mono (fun r hr c => ?_) (Reference8Ideal.Value.run m' g')⟩
  · have hm := hr.2 c
    exact ⟨(hm.1 2).trans (final2 m c), (hm.1 3).trans (final3 m c), (hm.1 4).trans (final4 m c), (hm.1 5).trans (final5 m c), hr.1 c⟩
  · obtain ⟨h0, h1, h2, h3, ha⟩ := hr c
    obtain ⟨a0, a1⟩ := hm c
    rw [a0] at h0
    rw [a0, a1] at h1 h2 h3
    exact ⟨h0.trans (funext fun j => ref_x _ j), h1.trans (funext fun j => ref_a _ _ j), h2.trans (funext fun j => ref_u _ _ j), h3.trans (funext fun j => ref_g _ _ j), ha⟩

end Cert.Mixin
end
-- ==== Proof.Mixback.Ref.lean ====
/- The input cotangent of the input projection over the extended reals, and the reference's array. -/
module
public import proofs.«01_k».proof.Proof.Gen.Kernel9Ideal.Skeleton
public import proofs.«01_k».proof.Proof.Gen.Reference9Ideal.Run
public import proofs.«01_k».proof.Proof.Mixin.Ref
public import Idealize.ShloMosaic.Lib.Pipeline.ValueKit
public import Idealize.ShloMosaic.Lib.Pointwise
@[expose] public section
set_option maxRecDepth 16384
noncomputable section
namespace Cert.Mixback
open Idealize.ShloMosaic Idealize.ShloMosaic.TcCoe Idealize.ShloMosaic.Tactic Idealize.SL.Sem Cert.Mixin

/-- The cotangents of one row, side by side. -/
def ct (a3 a4 a5 : FVec Ideal ⟨3, ![2, 2048, 512]⟩ .f32) (a6 a7 : FVec Ideal ⟨3, ![2, 2048, 1024]⟩ .f32) (r : Fin 4096) (q : Fin 3584) : EReal :=
  if h : q.val < 512 then a3 (ValueIdx.ix3 (rp r) (rl r) ⟨q.val, h⟩)
  else if h : q.val - 512 < 512 then a4 (ValueIdx.ix3 (rp r) (rl r) ⟨q.val - 512, h⟩)
  else if h : q.val - 512 - 512 < 512 then a5 (ValueIdx.ix3 (rp r) (rl r) ⟨q.val - 512 - 512, h⟩)
  else if h : q.val - 512 - 512 - 512 < 1024 then a6 (ValueIdx.ix3 (rp r) (rl r) ⟨q.val - 512 - 512 - 512, h⟩)
  else a7 (ValueIdx.ix3 (rp r) (rl r) ⟨q.val - 512 - 512 - 512 - 1024, by omega⟩)
section
variable (a3 a4 a5 : FVec Ideal ⟨3, ![2, 2048, 512]⟩ .f32) (a6 a7 : FVec Ideal ⟨3, ![2, 2048, 1024]⟩ .f32) (r : Fin 4096)
theorem ct_ca (q : Fin 512) : ct a3 a4 a5 a6 a7 r (ca q) = a3 (ValueIdx.ix3 (rp r) (rl r) q) := dif_pos (show (ca q).val < 512 from q.isLt)
theorem ct_cu (q : Fin 1024) : ct a3 a4 a5 a6 a7 r (cu q) = if h : q.val < 512 then a4 (ValueIdx.ix3 (rp r) (rl r) ⟨q.val, h⟩) else a5 (ValueIdx.ix3 (rp r) (rl r) ⟨q.val - 512, by omega⟩) := by
  have e : (cu q).val = 512 + q.val := rfl
  refine (dif_neg (by omega)).trans ?_
  by_cases h : q.val < 512
  · refine (dif_pos (by omega)).trans ?_
    rw [dif_pos h]
    refine congrArg (fun k => a4 (ValueIdx.ix3 (rp r) (rl r) k)) (Fin.ext ?_)
    show (cu q).val - 512 = q.val
    omega
  · refine (dif_neg (by omega)).trans ((dif_pos (by omega)).trans ?_)
    rw [dif_neg h]
    refine congrArg (fun k => a5 (ValueIdx.ix3 (rp r) (rl r) k)) (Fin.ext ?_)
    show (cu q).val - 512 - 512 = q.val - 512
    omega
theorem ct_cg (q : Fin 2048) : ct a3 a4 a5 a6 a7 r (cg q) = if h : q.val < 1024 then a6 (ValueIdx.ix3 (rp r) (rl r) ⟨q.val, h⟩) else a7 (ValueIdx.ix3 (rp r) (rl r) ⟨q.val - 1024, by omega⟩) := by
  have e : (cg q).val = 1536 + q.val := rfl
  refine (dif_neg (by omega)).trans ((dif_neg (by omega)).trans ((dif_neg (by omega)).trans ?_))
  by_cases h : q.val < 1024
  · refine (dif_pos (by omega)).trans ?_
    rw [dif_pos h]
    refine congrArg (fun k => a6 (ValueIdx.ix3 (rp r) (rl r) k)) (Fin.ext ?_)
    show (cg q).val - 512 - 512 - 512 = q.val
    omega
  · refine (dif_neg (by omega)).trans ?_
    rw [dif_neg h]
    refine congrArg (fun k => a7 (ValueIdx.ix3 (rp r) (rl r) k)) (Fin.ext ?_)
    show (cg q).val - 512 - 512 - 512 - 1024 = q.val - 1024
    omega
end
/-- The result. -/
def back (w : FVec Ideal ⟨3, ![1, 1024, 3584]⟩ .f32) (a2 : FVec Ideal ⟨3, ![2, 2048, 1024]⟩ .f32) (g : Fin 4096 → Fin 3584 → EReal) (r : Fin 4096) (k : Fin 1024) : EReal :=
  a2 (ValueIdx.ix3 (rp r) (rl r) k) + ∑ q : Fin 3584, g r q * w (ValueIdx.ix3 (0 : Fin 1) k q)
theorem sum_cols (f : Fin 3584 → EReal) : (∑ q : Fin 3584, f q) = (∑ q : Fin 512, f (ca q)) + ((∑ q : Fin 1024, f (cu q)) + ∑ q : Fin 2048, f (cg q)) := by
  refine (Fin.sum_univ_add (a := 512) (b := 3072) f).trans (congrArg₂ (· + ·) rfl ?_)
  refine (Fin.sum_univ_add (a := 1024) (b := 2048) (fun i => f (Fin.natAdd 512 i))).trans (congrArg₂ (· + ·) rfl ?_)
  exact Finset.sum_congr rfl fun q _ => congrArg f (Fin.ext (show 512 + (1024 + q.val) = 1536 + q.val by omega))
theorem back_cols (w : FVec Ideal ⟨3, ![1, 1024, 3584]⟩ .f32) (a2 : FVec Ideal ⟨3, ![2, 2048, 1024]⟩ .f32) (g : Fin 4096 → Fin 3584 → EReal) (r : Fin 4096) (k : Fin 1024) :
    back w a2 g r k = a2 (ValueIdx.ix3 (rp r) (rl r) k) + (∑ q : Fin 512, g r (ca q) * w (ValueIdx.ix3 (0 : Fin 1) k (ca q)))
      + (∑ q : Fin 1024, g r (cu q) * w (ValueIdx.ix3 (0 : Fin 1) k (cu q))) + (∑ q : Fin 2048, g r (cg q) * w (ValueIdx.ix3 (0 : Fin 1) k (cg q))) := by
  unfold back
  rw [sum_cols fun q => g r q * w (ValueIdx.ix3 (0 : Fin 1) k q), ← add_assoc, ← add_assoc]

section Reference
open Cert.Reference9Ideal Cert.Reference9Ideal.Gen
variable (w : FVec Ideal S1x1024x3584 .f32) (a2 : FVec Ideal S2x2048x1024 .f32) (a3 a4 a5 : FVec Ideal S2x2048x512 .f32) (a6 a7 : FVec Ideal S2x2048x1024 .f32)
def cat : FVec Ideal S2x2048x3584 .f32 :=
  concatenate S2x2048x3584 2 [⟨S2x2048x512, a3⟩, ⟨S2x2048x512, a4⟩, ⟨S2x2048x512, a5⟩, ⟨S2x2048x1024, a6⟩, ⟨S2x2048x1024, a7⟩] concatenates_S2x2048x512_S2x2048x512_S2x2048x512_S2x2048x1024_S2x2048x1024_S2x2048x3584_d2
theorem cat_at (r : Fin 4096) (q : Fin 3584) : cat a3 a4 a5 a6 a7 (ValueIdx.ix3 (rp r) (rl r) q) = ct a3 a4 a5 a6 a7 r q := by
  pointwise [cat]
  rfl
def res : FVec Ideal S4096x1024 .f32 :=
  shapeCast S4096x1024 (addf a2 (Host.dotGeneral (φ₁ := .f32) (φ₂ := .f32) dot_S2x2048x3584_S1024x3584_S2x2048x1024_2_1_01_0_n_n none (cat a3 a4 a5 a6 a7) (shapeCast _ w shapeCasts_S1x1024x3584_S1024x3584))) shapeCasts_S2x2048x1024_S4096x1024
theorem res_at (j : S4096x1024.Idx) : res w a2 a3 a4 a5 a6 a7 j = back w a2 (ct a3 a4 a5 a6 a7) (j 0) (j 1) := by
  have e : ∀ q, cat a3 a4 a5 a6 a7 (ValueIdx.ix3 (rp (j 0)) (rl (j 0)) q) = ct a3 a4 a5 a6 a7 (j 0) q := cat_at a3 a4 a5 a6 a7 (j 0)
  pointwise [res]
  unfold back
  simp only [← e]
  rfl
end Reference

section Kernel
open Cert.Kernel9Ideal Cert.Kernel9Ideal.Gen
theorem pay (v0 : Vec Ideal S512x1024 .f32) (v2 : Vec Ideal S512x512 .bf16) (v4 : Vec Ideal S1024x512 .bf16) (v8 : Vec Ideal S512x1024 .bf16) (v10 : Vec Ideal S1024x1024 .bf16) (v14 : Vec Ideal S512x2048 .bf16) (v16 : Vec Ideal S1024x2048 .bf16) (i : S512x1024.Idx) :
    k0_pay1 v0 v2 v4 v8 v10 v14 v16 i = v0 i + (∑ q : Fin 512, v2 (ValueIdx.ix2 (i 0) q) * v4 (ValueIdx.ix2 (i 1) q)) + (∑ q : Fin 1024, v8 (ValueIdx.ix2 (i 0) q) * v10 (ValueIdx.ix2 (i 1) q)) + (∑ q : Fin 2048, v14 (ValueIdx.ix2 (i 0) q) * v16 (ValueIdx.ix2 (i 1) q)) := by
  pointwise [k0_pay1]
  rfl
end Kernel

end Cert.Mixback
end
-- ==== Proof.Mixback.Claim.lean ====
/- The cotangent's region at the kernel's arguments, and the claim. -/
module
public import proofs.«01_k».proof.Proof.Gen.Kernel9Ideal.Frame
public import proofs.«01_k».proof.Proof.Mixback.Ref
public import proofs.«01_k».proof.Defs
@[expose] public section
set_option maxRecDepth 16384
noncomputable section
namespace Cert.Mixback
open Idealize.ShloMosaic Idealize.ShloMosaic.TcCoe Idealize.ShloMosaic.Tactic Idealize.SL.Sem Cert.Kernel9Ideal Cert.Kernel9Ideal.Gen Cert.Mixin
open Idealize.ShloMosaic.Pipeline (Dat Cfg Window)

variable (m : (ℓ : Loc nD τ sig) → Buf (Elt Ideal) ℓ) (ρ : Dev nD → PrngReg) (c : Dev nD)
/-- The kernel's arguments. -/
abbrev a1 : FVec Ideal S1x1024x3584 .f32 := m (c.tc.loc main_arg1)
abbrev a2 : FVec Ideal S2x2048x1024 .f32 := m (c.tc.loc main_arg2)
def g : Fin 4096 → Fin 3584 → EReal := ct (m (c.tc.loc main_arg3)) (m (c.tc.loc main_arg4)) (m (c.tc.loc main_arg5)) (m (c.tc.loc main_arg6)) (m (c.tc.loc main_arg7))
theorem e_x (i : S4096x1024.Idx) : V m c main_v0 i = a2 m c (ValueIdx.ix3 (rp (i 0)) (rl (i 0)) (i 1)) := by
  show StableHlo.after (List.flatten [hostOps0]) _ _ _ = _
  simp only [hostOps0, List.flatten_cons, List.flatten_nil, List.append_nil, List.cons_append, List.nil_append]
  after_results
  pointwise
  blk_ext [rp, rl]
theorem e_w (i : S1024x3584.Idx) : V m c main_v10 i = a1 m c (ValueIdx.ix3 (0 : Fin 1) (i 0) (i 1)) := by
  show StableHlo.after (List.flatten [hostOps0]) _ _ _ = _
  simp only [hostOps0, List.flatten_cons, List.flatten_nil, List.append_nil, List.cons_append, List.nil_append]
  after_results
  pointwise
  blk_ext []
theorem e_a (r : Fin 4096) (q : Fin 512) : V m c main_v2 (ValueIdx.ix2 r q) = g m c r (ca q) := by
  refine Eq.trans ?_ (ct_ca _ _ _ _ _ r q).symm
  show StableHlo.after (List.flatten [hostOps0]) _ _ _ = _
  simp only [hostOps0, List.flatten_cons, List.flatten_nil, List.append_nil, List.cons_append, List.nil_append]
  after_results
  pointwise
  rfl
theorem e_u (r : Fin 4096) (q : Fin 1024) : V m c main_v5 (ValueIdx.ix2 r q) = g m c r (cu q) := by
  refine Eq.trans ?_ (ct_cu _ _ _ _ _ r q).symm
  show StableHlo.after (List.flatten [hostOps0]) _ _ _ = _
  simp only [hostOps0, List.flatten_cons, List.flatten_nil, List.append_nil, List.cons_append, List.nil_append]
  after_results
  pointwise
  rfl
theorem e_g (r : Fin 4096) (q : Fin 2048) : V m c main_v8 (ValueIdx.ix2 r q) = g m c r (cg q) := by
  refine Eq.trans ?_ (ct_cg _ _ _ _ _ r q).symm
  show StableHlo.after (List.flatten [hostOps0]) _ _ _ = _
  simp only [hostOps0, List.flatten_cons, List.flatten_nil, List.append_nil, List.cons_append, List.nil_append]
  after_results
  pointwise
  rfl
theorem idx0 : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] :=
  (by decide +kernel : ∀ t : Fin grid0.N, _)
/-- The rows of a grid point. -/
def row (t : Fin cfg0.N) (k : Fin 512) : Fin 4096 := ⟨512 * t.val + k.val, by have : t.val < 8 := lt_of_lt_of_eq t.isLt (show cfg0.N = 8 from N_0); omega⟩
theorem blk_x (t : Fin cfg0.N) (i : S512x1024.Idx) : iblk m c 0 t i = a2 m c (ValueIdx.ix3 (rp (row t (i 0))) (rl (row t (i 0))) (i 1)) := by
  have e : iblk m c 0 t i = V m c main_v0 (ValueIdx.ix2 (row t (i 0)) (i 1)) := by blk_ext [iblk, row, idx0 t]
  exact e.trans (e_x m c _)
theorem blk_a (t : Fin cfg0.N) (i : S512x512.Idx) : iblk m c 1 t i = g m c (row t (i 0)) (ca (i 1)) := by
  have e : iblk m c 1 t i = V m c main_v2 (ValueIdx.ix2 (row t (i 0)) (i 1)) := by blk_ext [iblk, row, idx0 t]
  exact e.trans (e_a m c _ _)
theorem blk_u (t : Fin cfg0.N) (i : S512x1024.Idx) : iblk m c 2 t i = g m c (row t (i 0)) (cu (i 1)) := by
  have e : iblk m c 2 t i = V m c main_v5 (ValueIdx.ix2 (row t (i 0)) (i 1)) := by blk_ext [iblk, row, idx0 t]
  exact e.trans (e_u m c _ _)
theorem blk_g (t : Fin cfg0.N) (i : S512x2048.Idx) : iblk m c 3 t i = g m c (row t (i 0)) (cg (i 1)) := by
  have e : iblk m c 3 t i = V m c main_v8 (ValueIdx.ix2 (row t (i 0)) (i 1)) := by blk_ext [iblk, row, idx0 t]
  exact e.trans (e_g m c _ _)
theorem blk_wa (t : Fin cfg0.N) (i : S1024x512.Idx) : View.ld (iblk m c 4 t) r0_2 i = a1 m c (ValueIdx.ix3 (0 : Fin 1) (i 0) (ca (i 1))) := by
  have e : View.ld (iblk m c 4 t) r0_2 i = V m c main_v10 (ValueIdx.ix2 (i 0) (ca (i 1))) := by
    pointwise
    blk_ext [iblk, ca, idx0 t]
  exact e.trans (e_w m c _)
theorem blk_wu (t : Fin cfg0.N) (i : S1024x1024.Idx) : View.ld (iblk m c 4 t) r0_3 i = a1 m c (ValueIdx.ix3 (0 : Fin 1) (i 0) (cu (i 1))) := by
  have e : View.ld (iblk m c 4 t) r0_3 i = V m c main_v10 (ValueIdx.ix2 (i 0) (cu (i 1))) := by
    pointwise
    blk_ext [iblk, cu, idx0 t]
  exact e.trans (e_w m c _)
theorem blk_wg (t : Fin cfg0.N) (i : S1024x2048.Idx) : View.ld (iblk m c 4 t) r0_5 i = a1 m c (ValueIdx.ix3 (0 : Fin 1) (i 0) (cg (i 1))) := by
  have e : View.ld (iblk m c 4 t) r0_5 i = V m c main_v10 (ValueIdx.ix2 (i 0) (cg (i 1))) := by
    pointwise
    blk_ext [iblk, cg, idx0 t]
  exact e.trans (e_w m c _)
/-- The result. -/
def result : FVec Ideal S4096x1024 .f32 := fun j => back (a1 m c) (a2 m c) (g m c) (j 0) (j 1)
theorem final5 : (dats m 0 c).arrAt 5 cfg0.N = result m c := by
  refine (dats m 0 c).arrAt_eq_of_covers 5 _ (by decide +kernel) fun t _ y => ?_
  have e : ((View.whole main_v11).slice (win0_5.rect t)).emb y = ValueIdx.ix2 (row t (y 0)) (y 1) := by blk_ext [row, idx0 t]
  blk_simp
  rw [after0_5, e]
  frame_out
  refine (pay _ _ _ _ _ _ _ y).trans ?_
  refine Eq.trans ?_ (back_cols (a1 m c) (a2 m c) (g m c) (row t (y 0)) (y 1)).symm
  refine congrArg₂ (· + ·) (congrArg₂ (· + ·) (congrArg₂ (· + ·) (blk_x m c t y) ?_) ?_) ?_
  · exact Finset.sum_congr rfl fun q _ => congrArg₂ (· * ·) (blk_a m c t _) (blk_wa m c t _)
  · exact Finset.sum_congr rfl fun q _ => congrArg₂ (· * ·) (blk_u m c t _) (blk_wu m c t _)
  · exact Finset.sum_congr rfl fun q _ => congrArg₂ (· * ·) (blk_g m c t _) (blk_wg m c t _)

/-- Kernel and reference agree over the reals. -/
theorem algebraic : algebraic_Kernel9Ideal_Reference9Ideal := by
  intro m g m' g' _ hm
  refine ⟨fun c => result m c, (θ_run _ _ _).mono (fun r hr c => ?_) (θ_run_and (unchanged m g) (run_main m g)), (θ_run _ _ _).mono (fun r hr c => ?_) (Reference9Ideal.Value.run m' g')⟩
  · have hm := hr.2 c
    exact ⟨(hm.1 5).trans (final5 m c), hr.1 c⟩
  · obtain ⟨h0, ha⟩ := hr c
    obtain ⟨b0, b1, b2, b3, b4, b5, b6, b7⟩ := hm c
    rw [b1, b2, b3, b4, b5, b6, b7] at h0
    exact ⟨h0.trans (funext fun j => res_at _ _ _ _ _ _ _ j), ha⟩

end Cert.Mixback
end
-- ==== Proof.Tn.Ref.lean ====
/- The weight product over the extended reals, and the reference's arrays. -/
module
public import proofs.«01_k».proof.Proof.Gen.Kernel10Ideal.Skeleton
public import proofs.«01_k».proof.Proof.Gen.Reference10Ideal.Run
public import Idealize.ShloMosaic.Lib.Pipeline.ValueKit
public import Idealize.ShloMosaic.Lib.Pointwise
@[expose] public section
set_option maxRecDepth 16384
noncomputable section
namespace Cert.Tn
open Idealize.ShloMosaic Idealize.ShloMosaic.TcCoe Idealize.ShloMosaic.Tactic Idealize.SL.Sem

/-- One batch's part of an entry, and the entry. -/
def part (x : FVec Ideal ⟨3, ![2, 2048, 1024]⟩ .f32) (g : FVec Ideal ⟨3, ![2, 2048, 5632]⟩ .f32) (b : Fin 2) (p : Fin 1024) (q : Fin 5632) : EReal :=
  ∑ l : Fin 2048, x (ValueIdx.ix3 b l p) * g (ValueIdx.ix3 b l q)
def prod (x : FVec Ideal ⟨3, ![2, 2048, 1024]⟩ .f32) (g : FVec Ideal ⟨3, ![2, 2048, 5632]⟩ .f32) (p : Fin 1024) (q : Fin 5632) : EReal :=
  part x g 0 p q + part x g 1 p q

section Reference
open Cert.Reference10Ideal Cert.Reference10Ideal.Gen
variable (x : FVec Ideal S2x2048x1024 .f32) (g : FVec Ideal S2x2048x5632 .f32)
theorem ref_at (j : S1024x5632.Idx) : (transpose S1024x5632 [1, 0] (Host.dotGeneral (φ₁ := .f32) (φ₂ := .f32) dot_S2x2048x5632_S2x2048x1024_S5632x1024_01_01_2_2_n_n none g x) transposes_S5632x1024_S1024x5632_1_0 : FVec Ideal S1024x5632 .f32) j = prod x g (j 0) (j 1) := by
  pointwise
  exact (Fin.sum_univ_two _).trans (congrArg₂ (· + ·) (Finset.sum_congr rfl fun k _ => mul_comm _ _) (Finset.sum_congr rfl fun k _ => mul_comm _ _))
end Reference

section Kernel
open Cert.Kernel10Ideal Cert.Kernel10Ideal.Gen
theorem pay_zero (i : S1024x1408.Idx) : k0_pay1 (F := Ideal) i = 0 := by
  pointwise [k0_pay1]
theorem pay_step (v : Vec Ideal S1024x1408 .f32) (a : Vec Ideal S1024x2048 .bf16) (b : Vec Ideal S2048x1408 .bf16) (i : S1024x1408.Idx) :
    k0_pay2 v a b i = v i + ∑ k : Fin 2048, a (ValueIdx.ix2 (i 0) k) * b (ValueIdx.ix2 k (i 1)) := by
  pointwise [k0_pay2]
  rfl
theorem pay_cast (v : Vec Ideal S1024x1408 .f32) (i : S1024x1408.Idx) : k0_pay3 v i = v i := by
  pointwise [k0_pay3]
end Kernel

end Cert.Tn
end
-- ==== Proof.Tn.Claim.lean ====
/- The product's region at the kernel's arguments, and the claim. -/
module
public import proofs.«01_k».proof.Proof.Gen.Kernel10Ideal.Frame
public import proofs.«01_k».proof.Proof.Tn.Ref
public import proofs.«01_k».proof.Defs
@[expose] public section
set_option maxRecDepth 16384
noncomputable section
namespace Cert.Tn
open Idealize.ShloMosaic Idealize.ShloMosaic.TcCoe Idealize.ShloMosaic.Tactic Idealize.SL.Sem Cert.Kernel10Ideal Cert.Kernel10Ideal.Gen
open Idealize.ShloMosaic.Pipeline (Dat Cfg Window)

variable (m : (ℓ : Loc nD τ sig) → Buf (Elt Ideal) ℓ) (ρ : Dev nD → PrngReg) (c : Dev nD)
/-- The kernel's arguments. -/
abbrev ax : FVec Ideal S2x2048x1024 .f32 := m (c.tc.loc main_arg0)
abbrev ag : FVec Ideal S2x2048x5632 .f32 := m (c.tc.loc main_arg2)
/-- The row of a batch's position, and the column of a block's. -/
def row (b : Fin 2) (l : Fin 2048) : Fin 4096 := ⟨2048 * b.val + l.val, by omega⟩
def col (t : Fin cfg0.N) (q : Fin 1408) : Fin 5632 := ⟨1408 * (t.val / 2) + q.val, by have : t.val < 8 := lt_of_lt_of_eq t.isLt (show cfg0.N = 8 from N_0); omega⟩
def half (t : Fin cfg0.N) : Fin 2 := ⟨t.val % 2, by omega⟩
theorem e_x (b : Fin 2) (l : Fin 2048) (p : Fin 1024) : V m c main_v2 (ValueIdx.ix2 p (row b l)) = ax m c (ValueIdx.ix3 b l p) := by
  show StableHlo.after (List.flatten [hostOps0]) _ _ _ = _
  simp only [hostOps0, List.flatten_cons, List.flatten_nil, List.append_nil, List.cons_append, List.nil_append]
  after_results
  pointwise
  blk_ext [row]
  · show (2048 * b.val + l.val) / 2048 = b.val
    omega
  · show (2048 * b.val + l.val) % 2048 = l.val
    omega
theorem e_g (b : Fin 2) (l : Fin 2048) (q : Fin 5632) : V m c main_v4 (ValueIdx.ix2 (row b l) q) = ag m c (ValueIdx.ix3 b l q) := by
  show StableHlo.after (List.flatten [hostOps0]) _ _ _ = _
  simp only [hostOps0, List.flatten_cons, List.flatten_nil, List.append_nil, List.cons_append, List.nil_append]
  after_results
  pointwise
  blk_ext [row]
  · show (2048 * b.val + l.val) / 2048 = b.val
    omega
  · show (2048 * b.val + l.val) % 2048 = l.val
    omega
theorem idx0 : ∀ t : Fin cfg0.N, win0_0.index t = ![0, t.val % 2] ∧ win0_1.index t = ![t.val % 2, t.val / 2] ∧ win0_2.index t = ![0, t.val / 2] ∧ win0_3.index t = ![0, t.val / 2] :=
  (by decide +kernel : ∀ t : Fin grid0.N, _)
theorem blk_x (t : Fin cfg0.N) (i : S1024x2048.Idx) : iblk m c 0 t i = ax m c (ValueIdx.ix3 (half t) (i 1) (i 0)) := by
  have e : iblk m c 0 t i = V m c main_v2 (ValueIdx.ix2 (i 0) (row (half t) (i 1))) := by blk_ext [iblk, row, half, idx0 t]
  exact e.trans (e_x m c _ _ _)
theorem blk_g (t : Fin cfg0.N) (i : S2048x1408.Idx) : iblk m c 1 t i = ag m c (ValueIdx.ix3 (half t) (i 0) (col t (i 1))) := by
  have e : iblk m c 1 t i = V m c main_v4 (ValueIdx.ix2 (row (half t) (i 0)) (col t (i 1))) := by blk_ext [iblk, row, half, col, idx0 t]
  exact e.trans (e_g m c _ _ _)
theorem step (t : Fin cfg0.N) (v : Vec Ideal S1024x1408 .f32) (y : S1024x1408.Idx) :
    k0_pay2 v (iblk m c 0 t) (iblk m c 1 t) y = v y + part (ax m c) (ag m c) (half t) (y 0) (col t (y 1)) :=
  (pay_step _ _ _ y).trans (congrArg (v y + ·) (Finset.sum_congr rfl fun k _ => congrArg₂ (· * ·) (blk_x m c t _) (blk_g m c t _)))
/-- A block after its first step, and after its second. -/
theorem first (t : Fin cfg0.N) (h : t.val % 2 = 0) (y : S1024x1408.Idx) : (outsAt0 m c t.val t.isLt).1 y = part (ax m c) (ag m c) 0 (y 0) (col t (y 1)) := by
  rw [outsAt0_A m c t h (by omega)]
  frame_out
  refine (step m c t _ y).trans ?_
  rw [pay_zero, zero_add, show half t = 0 from Fin.ext h]
theorem second (t : Fin cfg0.N) (h : t.val % 2 = 1) (y : S1024x1408.Idx) : (outsAt0 m c t.val t.isLt).1 y = prod (ax m c) (ag m c) (y 0) (col t (y 1)) := by
  have e := first m c ⟨t.val - 1, Nat.lt_of_le_of_lt (Nat.sub_le _ _) t.isLt⟩ (show (t.val - 1) % 2 = 0 by omega) y
  have hc : col ⟨t.val - 1, Nat.lt_of_le_of_lt (Nat.sub_le _ _) t.isLt⟩ (y 1) = col t (y 1) := Fin.ext (show 1408 * ((t.val - 1) / 2) + (y 1).val = 1408 * (t.val / 2) + (y 1).val by omega)
  rw [outsAt0_B m c t (by omega) h]
  frame_out
  refine (step m c t _ y).trans ?_
  rw [show half t = 1 from Fin.ext h]
  exact congrArg (· + _) (e.trans (congrArg _ hc))
theorem second' (t : Fin cfg0.N) (h : t.val % 2 = 1) (y : S1024x1408.Idx) : (outsAt0 m c t.val t.isLt).2 y = prod (ax m c) (ag m c) (y 0) (col t (y 1)) := by
  refine Eq.trans ?_ (second m c t h y)
  rw [outsAt0_B m c t (by omega) h]
  frame_out
  exact pay_cast _ y
/-- The two results. -/
def result : FVec Ideal S1024x5632 .f32 := fun j => prod (ax m c) (ag m c) (j 0) (j 1)
def result' : FVec Ideal S1024x5632 .bf16 := fun j => prod (ax m c) (ag m c) (j 0) (j 1)
theorem final2 : (dats m 0 c).arrAt 2 cfg0.N = result m c := by
  refine (dats m 0 c).arrAt_eq_of_covers 2 _ (by decide +kernel) fun t ht y => ?_
  have e : ((View.whole main_v5_0).slice (win0_2.rect t)).emb y = ValueIdx.ix2 (y 0) (col t (y 1)) := by blk_ext [col, idx0 t]
  blk_simp
  rw [after0_2, e]
  exact second m c t ((flush0_2 t).mp ht) y
theorem final3 : (dats m 0 c).arrAt 3 cfg0.N = result' m c := by
  refine (dats m 0 c).arrAt_eq_of_covers 3 _ (by decide +kernel) fun t ht y => ?_
  have e : ((View.whole main_v5_1).slice (win0_3.rect t)).emb y = ValueIdx.ix2 (y 0) (col t (y 1)) := by blk_ext [col, idx0 t]
  blk_simp
  rw [after0_3, e]
  exact second' m c t ((flush0_3 t).mp ht) y

/-- Kernel and reference agree over the reals. -/
theorem algebraic : algebraic_Kernel10Ideal_Reference10Ideal := by
  intro m g m' g' _ hm
  refine ⟨fun c => result m c, fun c => result' m c, (θ_run _ _ _).mono (fun r hr c => ?_) (θ_run_and (unchanged m g) (run_main m g)), (θ_run _ _ _).mono (fun r hr c => ?_) (Reference10Ideal.Value.run m' g')⟩
  · have hm := hr.2 c
    exact ⟨(hm.1 2).trans (final2 m c), (hm.1 3).trans (final3 m c), hr.1 c⟩
  · obtain ⟨h0, h1, ha⟩ := hr c
    obtain ⟨b0, b1, b2⟩ := hm c
    rw [b0, b2] at h0 h1
    exact ⟨h0.trans (funext fun j => ref_at _ _ j), h1.trans (funext fun j => ref_at _ _ j), ha⟩

end Cert.Tn
end
-- ==== Proof.Adam.Claim.lean ====
/- The optimiser's update: kernel and reference apply the same operations to each element. -/
module
public import proofs.«01_k».proof.Proof.Gen.Kernel11Ideal.Value
public import proofs.«01_k».proof.Proof.Gen.Reference11Ideal.Run
public import proofs.«01_k».proof.Defs
@[expose] public section
set_option maxRecDepth 16384
noncomputable section
namespace Cert.Adam
open Idealize.ShloMosaic Idealize.ShloMosaic.TcCoe Idealize.ShloMosaic.Tactic Idealize.SL.Sem

/-- Kernel and reference agree over the reals. -/
theorem algebraic : algebraic_Kernel11Ideal_Reference11Ideal := by
  intro m g m' g' _ hm
  refine ⟨fun c => Kernel11Ideal.Value.G5 (m ((c.tc : Thread Kernel11Ideal.nD Kernel11Ideal.τ).loc Kernel11Ideal.main_arg1)) (m ((c.tc : Thread Kernel11Ideal.nD Kernel11Ideal.τ).loc Kernel11Ideal.main_arg2)), fun c => Kernel11Ideal.Value.G6 (m ((c.tc : Thread Kernel11Ideal.nD Kernel11Ideal.τ).loc Kernel11Ideal.main_arg1)) (m ((c.tc : Thread Kernel11Ideal.nD Kernel11Ideal.τ).loc Kernel11Ideal.main_arg2)) (m ((c.tc : Thread Kernel11Ideal.nD Kernel11Ideal.τ).loc Kernel11Ideal.main_arg0)) (m ((c.tc : Thread Kernel11Ideal.nD Kernel11Ideal.τ).loc Kernel11Ideal.main_arg3)) (m ((c.tc : Thread Kernel11Ideal.nD Kernel11Ideal.τ).loc Kernel11Ideal.main_arg4)),
    fun c => Kernel11Ideal.Value.G7 (m ((c.tc : Thread Kernel11Ideal.nD Kernel11Ideal.τ).loc Kernel11Ideal.main_arg1)) (m ((c.tc : Thread Kernel11Ideal.nD Kernel11Ideal.τ).loc Kernel11Ideal.main_arg2)) (m ((c.tc : Thread Kernel11Ideal.nD Kernel11Ideal.τ).loc Kernel11Ideal.main_arg3)), fun c => Kernel11Ideal.Value.G8 (m ((c.tc : Thread Kernel11Ideal.nD Kernel11Ideal.τ).loc Kernel11Ideal.main_arg1)) (m ((c.tc : Thread Kernel11Ideal.nD Kernel11Ideal.τ).loc Kernel11Ideal.main_arg2)) (m ((c.tc : Thread Kernel11Ideal.nD Kernel11Ideal.τ).loc Kernel11Ideal.main_arg4)),
    Kernel11Ideal.Value.run m g, (θ_run _ _ _).mono (fun r hr c => ?_) (Reference11Ideal.Value.run m' g')⟩
  obtain ⟨h0, h1, h2, h3, ha⟩ := hr c
  obtain ⟨a0, a1, a2, a3, a4⟩ := hm c
  rw [a1, a2] at h0
  rw [a0, a1, a2, a3, a4] at h1
  rw [a1, a2, a3] at h2
  rw [a1, a2, a4] at h3
  exact ⟨h0, h1, h2, h3, ha⟩

end Cert.Adam
end
-- ==== Proof.Sum.Claim.lean ====
/- The sum of the contributions: three additions one after the other, and the reference's sum over the first axis. -/
module
public import proofs.«01_k».proof.Proof.Gen.Kernel12Ideal.Value
public import proofs.«01_k».proof.Proof.Gen.Reference12Ideal.Run
public import proofs.«01_k».proof.Defs
public import Idealize.ShloMosaic.Lib.Pipeline.ValueKit
public import Idealize.ShloMosaic.Lib.Pointwise
@[expose] public section
set_option maxRecDepth 16384
noncomputable section
namespace Cert.Sum
open Idealize.ShloMosaic Idealize.ShloMosaic.TcCoe Idealize.ShloMosaic.Tactic Idealize.SL.Sem

/-- The reference's array, and the kernel's. -/
def total (a : FVec Ideal ⟨2, ![256, 1408]⟩ .f32) (b : FVec Ideal ⟨3, ![3, 256, 1408]⟩ .bf16) : FVec Ideal ⟨2, ![256, 1408]⟩ .f32 :=
  fun j => a j + b (ValueIdx.ix3 (0 : Fin 3) (j 0) (j 1)) + b (ValueIdx.ix3 (1 : Fin 3) (j 0) (j 1)) + b (ValueIdx.ix3 (2 : Fin 3) (j 0) (j 1))
section
open Cert.Reference12Ideal Cert.Reference12Ideal.Gen
theorem at_ref (a : FVec Ideal S256x1408 .f32) (b : FVec Ideal S3x256x1408 .bf16) :
    addf a (Host.reduceAdd (extf .f32 b bitsLt_bf16_f32) (constant S_ .f32 0x00000000#32) reducesTo_S3x256x1408_S256x1408_d0 h_S_) = total a b := by
  funext j
  pointwise
  rw [Fin.sum_univ_three]
  simp only [← add_assoc]
  rfl
end
section
open Cert.Kernel12Ideal Cert.Kernel12Ideal.Gen
theorem at_kernel (a : FVec Ideal S256x1408 .f32) (b : FVec Ideal S3x256x1408 .bf16) :
    Kernel12Ideal.Value.G2 (F := Ideal) a b = total a b := by
  funext j
  unfold Kernel12Ideal.Value.G2
  pointwise [k0_pay1]
  rfl
end
/-- Kernel and reference agree over the reals. -/
theorem algebraic : algebraic_Kernel12Ideal_Reference12Ideal := by
  intro m g m' g' _ hm
  refine ⟨fun c => Kernel12Ideal.Value.G2 (m ((c.tc : Thread Kernel12Ideal.nD Kernel12Ideal.τ).loc Kernel12Ideal.main_arg0)) (m ((c.tc : Thread Kernel12Ideal.nD Kernel12Ideal.τ).loc Kernel12Ideal.main_arg1)),
    Kernel12Ideal.Value.run m g, (θ_run _ _ _).mono (fun r hr c => ?_) (Reference12Ideal.Value.run m' g')⟩
  obtain ⟨h0, ha⟩ := hr c
  obtain ⟨a0, a1⟩ := hm c
  rw [a0, a1] at h0
  refine ⟨h0.trans ((at_ref _ _).trans (at_kernel _ _).symm), ha⟩

end Cert.Sum
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Mix.Claim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Pre_finite3
public import proofs.«01_k».proof.Proof.Gen.Reference3Ideal.Run
public import proofs.«01_k».proof.Proof.Ffn.Claim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Pre_finite4
public import proofs.«01_k».proof.Proof.Gen.Reference4Ideal.Run
public import proofs.«01_k».proof.Proof.Loss.Claim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Pre_finite2
public import proofs.«01_k».proof.Proof.Gen.Reference2Ideal.Run
public import proofs.«01_k».proof.Proof.Gmlp.Claim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gfwd.Claim
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Swap.Claim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel8Ideal.Value
public import proofs.«01_k».proof.Proof.Mixin.Claim
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel9Ideal.Value
public import proofs.«01_k».proof.Proof.Mixback.Claim
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel10Ideal.Value
public import proofs.«01_k».proof.Proof.Tn.Claim
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel11Ideal.Value
public import proofs.«01_k».proof.Proof.Adam.Claim
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel12Ideal.Value
public import proofs.«01_k».proof.Proof.Sum.Claim
public import Idealize.ShloMosaic.Adequacy
public import Idealize.ShloMosaic.Init

@[expose] public section

noncomputable section

namespace Cert.Proof

open Idealize.ShloMosaic Idealize.SL.Sem Cert.Kernel

/-- The reference leaves its arguments, and has no semaphore. -/
theorem frame_ref : Cert.quiescent_ReferenceIdeal := fun m ρ _ =>
  (θ_run _ _ _).mono (fun r h => ⟨fun c => (h c).2.2.2.2.2.2.2.2.2.2.2.2.2, sem_eq_zero_of_no_sems (by decide) r.2⟩) (Cert.ReferenceIdeal.Value.run m ρ)

/-- The reference leaves its arguments, and has no semaphore. -/
theorem frame_ref3 : Cert.quiescent_Reference3Ideal := fun m ρ _ =>
  (θ_run _ _ _).mono (fun r h => ⟨fun c => (h c).2.2.2.2.2.2.2.2.2.2.2, sem_eq_zero_of_no_sems (by decide) r.2⟩) (Cert.Reference3Ideal.Value.run m ρ)

/-- The reference leaves its arguments, and has no semaphore. -/
theorem frame_ref4 : Cert.quiescent_Reference4Ideal := fun m ρ _ =>
  (θ_run _ _ _).mono (fun r h => ⟨fun c => (h c).2.2.2.2.2.2.2.2, sem_eq_zero_of_no_sems (by decide) r.2⟩) (Cert.Reference4Ideal.Value.run m ρ)

/-- The reference leaves its arguments, and has no semaphore. -/
theorem frame_ref2 : Cert.quiescent_Reference2Ideal := fun m ρ _ =>
  (θ_run _ _ _).mono (fun r h => ⟨fun c => (h c).2.2.2.2.2, sem_eq_zero_of_no_sems (by decide) r.2⟩) (Cert.Reference2Ideal.Value.run m ρ)

/-- The reference leaves its arguments, and has no semaphore. -/
theorem frame_ref6 : Cert.quiescent_Reference6Ideal := fun m ρ _ =>
  (θ_run _ _ _).mono (fun r h => ⟨fun c => (h c).2.2, sem_eq_zero_of_no_sems (by decide) r.2⟩) (Cert.Reference6Ideal.Value.run m ρ)

/-- The reference leaves its arguments, and has no semaphore. -/
theorem frame_ref7 : Cert.quiescent_Reference7Ideal := fun m ρ _ =>
  (θ_run _ _ _).mono (fun r h => ⟨fun c => (h c).2.2.2, sem_eq_zero_of_no_sems (by decide) r.2⟩) (Cert.Reference7Ideal.Value.run m ρ)

/-- The reference leaves its arguments, and has no semaphore. -/
theorem frame_ref8 : Cert.quiescent_Reference8Ideal := fun m ρ _ =>
  (θ_run _ _ _).mono (fun r h => ⟨fun c => (h c).2.2.2.2, sem_eq_zero_of_no_sems (by decide) r.2⟩) (Cert.Reference8Ideal.Value.run m ρ)

/-- The reference leaves its arguments, and has no semaphore. -/
theorem frame_ref9 : Cert.quiescent_Reference9Ideal := fun m ρ _ =>
  (θ_run _ _ _).mono (fun r h => ⟨fun c => (h c).2, sem_eq_zero_of_no_sems (by decide) r.2⟩) (Cert.Reference9Ideal.Value.run m ρ)

/-- The reference leaves its arguments, and has no semaphore. -/
theorem frame_ref10 : Cert.quiescent_Reference10Ideal := fun m ρ _ =>
  (θ_run _ _ _).mono (fun r h => ⟨fun c => (h c).2.2, sem_eq_zero_of_no_sems (by decide) r.2⟩) (Cert.Reference10Ideal.Value.run m ρ)

/-- The reference leaves its arguments, and has no semaphore. -/
theorem frame_ref11 : Cert.quiescent_Reference11Ideal := fun m ρ _ =>
  (θ_run _ _ _).mono (fun r h => ⟨fun c => (h c).2.2.2.2, sem_eq_zero_of_no_sems (by decide) r.2⟩) (Cert.Reference11Ideal.Value.run m ρ)

/-- The reference leaves its arguments, and has no semaphore. -/
theorem frame_ref12 : Cert.quiescent_Reference12Ideal := fun m ρ _ =>
  (θ_run _ _ _).mono (fun r h => ⟨fun c => (h c).2, sem_eq_zero_of_no_sems (by decide) r.2⟩) (Cert.Reference12Ideal.Value.run m ρ)

theorem claim : Cert.Claim := ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel2.Gen.facts, Cert.Kernel2Ideal.Gen.facts, Cert.Reference2Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
  Cert.Pre_finite.Gen.facts, Cert.Pre_finite3.Gen.facts, Cert.Pre_finite4.Gen.facts, Cert.Pre_finite2.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel3.Gen.frame m ρ,
  fun m ρ _ => Cert.Kernel3Ideal.Gen.frame m ρ,
  fun m ρ _ => Cert.Kernel3Ideal.Gen.frame m ρ,
  frame_ref3,
  fun m ρ _ => frame_ref3 m ρ trivial,
  fun m ρ _ => Cert.Kernel4.Gen.frame m ρ,
  fun m ρ _ => Cert.Kernel4Ideal.Gen.frame m ρ,
  fun m ρ _ => Cert.Kernel4Ideal.Gen.frame m ρ,
  frame_ref4,
  fun m ρ _ => frame_ref4 m ρ trivial,
  fun m ρ _ => Cert.Kernel2.Gen.frame m ρ,
  fun m ρ _ => Cert.Kernel2Ideal.Gen.frame m ρ,
  fun m ρ _ => Cert.Kernel2Ideal.Gen.frame m ρ,
  frame_ref2,
  fun m ρ _ => frame_ref2 m ρ trivial,
  fun m ρ _ => Cert.Kernel6.Gen.frame m ρ,
  fun m ρ _ => Cert.Kernel6Ideal.Gen.frame m ρ,
  frame_ref6,
  Cert.Swap.frame_kernel,
  fun m ρ _ => Cert.Swap.frame m ρ,
  frame_ref7,
  fun m ρ _ => Cert.Kernel8.Gen.frame m ρ,
  fun m ρ _ => Cert.Kernel8Ideal.Gen.frame m ρ,
  frame_ref8,
  fun m ρ _ => Cert.Kernel9.Gen.frame m ρ,
  fun m ρ _ => Cert.Kernel9Ideal.Gen.frame m ρ,
  frame_ref9,
  fun m ρ _ => Cert.Kernel10.Gen.frame m ρ,
  fun m ρ _ => Cert.Kernel10Ideal.Gen.frame m ρ,
  frame_ref10,
  fun m ρ _ => Cert.Kernel11.Gen.frame m ρ,
  fun m ρ _ => Cert.Kernel11Ideal.Gen.frame m ρ,
  frame_ref11,
  fun m ρ _ => Cert.Kernel12.Gen.frame m ρ,
  fun m ρ _ => Cert.Kernel12Ideal.Gen.frame m ρ,
  frame_ref12,
  trivial,
  Cert.Mix.algebraic,
  trivial,
  Cert.Ffn.algebraic,
  trivial,
  Cert.Loss.algebraic,
  Cert.Gmlp.preserves,
  Cert.Gmlp.algebraic,
  Cert.Gfwd.preserves,
  Cert.Gfwd.algebraic,
  trivial,
  Cert.Swap.algebraic,
  trivial,
  Cert.Mixin.algebraic,
  trivial,
  Cert.Mixback.algebraic,
  trivial,
  Cert.Tn.algebraic,
  trivial,
  Cert.Adam.algebraic,
  trivial,
  Cert.Sum.algebraic⟩

end Cert.Proof

end
